-- ==== Defs.lean ====
def Pre_InprojDx (m : (ℓ : Loc Cert.InprojDx.nD Cert.InprojDx.τ Cert.InprojDx.sig) → Buf (Elt Bits) ℓ) : Prop :=
  True

def Pre_InprojDxIdeal (m : (ℓ : Loc Cert.InprojDxIdeal.nD Cert.InprojDxIdeal.τ Cert.InprojDxIdeal.sig) → Buf (Elt Ideal) ℓ) : Prop :=
  True

def Pre_InprojDxRefIdeal (m : (ℓ : Loc Cert.InprojDxRefIdeal.nD Cert.InprojDxRefIdeal.τ Cert.InprojDxRefIdeal.sig) → Buf (Elt Ideal) ℓ) : Prop :=
  True

def Pre_FfnBwd (m : (ℓ : Loc Cert.FfnBwd.nD Cert.FfnBwd.τ Cert.FfnBwd.sig) → Buf (Elt Bits) ℓ) : Prop :=
  True

def Pre_FfnBwdIdeal (m : (ℓ : Loc Cert.FfnBwdIdeal.nD Cert.FfnBwdIdeal.τ Cert.FfnBwdIdeal.sig) → Buf (Elt Ideal) ℓ) : Prop :=
  True

def Pre_FfnBwdIdeal_finite_ffn_bwd [hPre_finite_ffn_bwd : Cert.Pre_finite_ffn_bwd.Facts] (m : (ℓ : Loc Cert.FfnBwdIdeal.nD Cert.FfnBwdIdeal.τ Cert.FfnBwdIdeal.sig) → Buf (Elt Ideal) ℓ) : Prop :=
  ∀ c : Dev Cert.FfnBwdIdeal.nD,
    (Cert.Pre_finite_ffn_bwd.fn (F := Ideal) (m ((c.tc : Thread Cert.FfnBwdIdeal.nD Cert.FfnBwdIdeal.τ).loc Cert.FfnBwdIdeal.main_arg0)) (m ((c.tc : Thread Cert.FfnBwdIdeal.nD Cert.FfnBwdIdeal.τ).loc Cert.FfnBwdIdeal.main_arg1)) (m ((c.tc : Thread Cert.FfnBwdIdeal.nD Cert.FfnBwdIdeal.τ).loc Cert.FfnBwdIdeal.main_arg2)) (m ((c.tc : Thread Cert.FfnBwdIdeal.nD Cert.FfnBwdIdeal.τ).loc Cert.FfnBwdIdeal.main_arg3)) (m ((c.tc : Thread Cert.FfnBwdIdeal.nD Cert.FfnBwdIdeal.τ).loc Cert.FfnBwdIdeal.main_arg4)) (m ((c.tc : Thread Cert.FfnBwdIdeal.nD Cert.FfnBwdIdeal.τ).loc Cert.FfnBwdIdeal.main_arg5))).1 = (fun _ => 1#1)
    ∧ (Cert.Pre_finite_ffn_bwd.fn (F := Ideal) (m ((c.tc : Thread Cert.FfnBwdIdeal.nD Cert.FfnBwdIdeal.τ).loc Cert.FfnBwdIdeal.main_arg0)) (m ((c.tc : Thread Cert.FfnBwdIdeal.nD Cert.FfnBwdIdeal.τ).loc Cert.FfnBwdIdeal.main_arg1)) (m ((c.tc : Thread Cert.FfnBwdIdeal.nD Cert.FfnBwdIdeal.τ).loc Cert.FfnBwdIdeal.main_arg2)) (m ((c.tc : Thread Cert.FfnBwdIdeal.nD Cert.FfnBwdIdeal.τ).loc Cert.FfnBwdIdeal.main_arg3)) (m ((c.tc : Thread Cert.FfnBwdIdeal.nD Cert.FfnBwdIdeal.τ).loc Cert.FfnBwdIdeal.main_arg4)) (m ((c.tc : Thread Cert.FfnBwdIdeal.nD Cert.FfnBwdIdeal.τ).loc Cert.FfnBwdIdeal.main_arg5))).2.1 = (fun _ => 1#1)
    ∧ (Cert.Pre_finite_ffn_bwd.fn (F := Ideal) (m ((c.tc : Thread Cert.FfnBwdIdeal.nD Cert.FfnBwdIdeal.τ).loc Cert.FfnBwdIdeal.main_arg0)) (m ((c.tc : Thread Cert.FfnBwdIdeal.nD Cert.FfnBwdIdeal.τ).loc Cert.FfnBwdIdeal.main_arg1)) (m ((c.tc : Thread Cert.FfnBwdIdeal.nD Cert.FfnBwdIdeal.τ).loc Cert.FfnBwdIdeal.main_arg2)) (m ((c.tc : Thread Cert.FfnBwdIdeal.nD Cert.FfnBwdIdeal.τ).loc Cert.FfnBwdIdeal.main_arg3)) (m ((c.tc : Thread Cert.FfnBwdIdeal.nD Cert.FfnBwdIdeal.τ).loc Cert.FfnBwdIdeal.main_arg4)) (m ((c.tc : Thread Cert.FfnBwdIdeal.nD Cert.FfnBwdIdeal.τ).loc Cert.FfnBwdIdeal.main_arg5))).2.2.1 = (fun _ => 1#1)
    ∧ (Cert.Pre_finite_ffn_bwd.fn (F := Ideal) (m ((c.tc : Thread Cert.FfnBwdIdeal.nD Cert.FfnBwdIdeal.τ).loc Cert.FfnBwdIdeal.main_arg0)) (m ((c.tc : Thread Cert.FfnBwdIdeal.nD Cert.FfnBwdIdeal.τ).loc Cert.FfnBwdIdeal.main_arg1)) (m ((c.tc : Thread Cert.FfnBwdIdeal.nD Cert.FfnBwdIdeal.τ).loc Cert.FfnBwdIdeal.main_arg2)) (m ((c.tc : Thread Cert.FfnBwdIdeal.nD Cert.FfnBwdIdeal.τ).loc Cert.FfnBwdIdeal.main_arg3)) (m ((c.tc : Thread Cert.FfnBwdIdeal.nD Cert.FfnBwdIdeal.τ).loc Cert.FfnBwdIdeal.main_arg4)) (m ((c.tc : Thread Cert.FfnBwdIdeal.nD Cert.FfnBwdIdeal.τ).loc Cert.FfnBwdIdeal.main_arg5))).2.2.2.1 = (fun _ => 1#1)
    ∧ (Cert.Pre_finite_ffn_bwd.fn (F := Ideal) (m ((c.tc : Thread Cert.FfnBwdIdeal.nD Cert.FfnBwdIdeal.τ).loc Cert.FfnBwdIdeal.main_arg0)) (m ((c.tc : Thread Cert.FfnBwdIdeal.nD Cert.FfnBwdIdeal.τ).loc Cert.FfnBwdIdeal.main_arg1)) (m ((c.tc : Thread Cert.FfnBwdIdeal.nD Cert.FfnBwdIdeal.τ).loc Cert.FfnBwdIdeal.main_arg2)) (m ((c.tc : Thread Cert.FfnBwdIdeal.nD Cert.FfnBwdIdeal.τ).loc Cert.FfnBwdIdeal.main_arg3)) (m ((c.tc : Thread Cert.FfnBwdIdeal.nD Cert.FfnBwdIdeal.τ).loc Cert.FfnBwdIdeal.main_arg4)) (m ((c.tc : Thread Cert.FfnBwdIdeal.nD Cert.FfnBwdIdeal.τ).loc Cert.FfnBwdIdeal.main_arg5))).2.2.2.2 = (fun _ => 1#1)

def Pre_FfnBwdRefIdeal (m : (ℓ : Loc Cert.FfnBwdRefIdeal.nD Cert.FfnBwdRefIdeal.τ Cert.FfnBwdRefIdeal.sig) → Buf (Elt Ideal) ℓ) : Prop :=
  True

def Pre_FfnBwdRefIdeal_finite_ffn_bwd [hPre_finite_ffn_bwd : Cert.Pre_finite_ffn_bwd.Facts] (m : (ℓ : Loc Cert.FfnBwdRefIdeal.nD Cert.FfnBwdRefIdeal.τ Cert.FfnBwdRefIdeal.sig) → Buf (Elt Ideal) ℓ) : Prop :=
  ∀ c : Dev Cert.FfnBwdRefIdeal.nD,
    (Cert.Pre_finite_ffn_bwd.fn (F := Ideal) (m ((c.tc : Thread Cert.FfnBwdRefIdeal.nD Cert.FfnBwdRefIdeal.τ).loc Cert.FfnBwdRefIdeal.main_arg0)) (m ((c.tc : Thread Cert.FfnBwdRefIdeal.nD Cert.FfnBwdRefIdeal.τ).loc Cert.FfnBwdRefIdeal.main_arg1)) (m ((c.tc : Thread Cert.FfnBwdRefIdeal.nD Cert.FfnBwdRefIdeal.τ).loc Cert.FfnBwdRefIdeal.main_arg2)) (m ((c.tc : Thread Cert.FfnBwdRefIdeal.nD Cert.FfnBwdRefIdeal.τ).loc Cert.FfnBwdRefIdeal.main_arg3)) (m ((c.tc : Thread Cert.FfnBwdRefIdeal.nD Cert.FfnBwdRefIdeal.τ).loc Cert.FfnBwdRefIdeal.main_arg4)) (m ((c.tc : Thread Cert.FfnBwdRefIdeal.nD Cert.FfnBwdRefIdeal.τ).loc Cert.FfnBwdRefIdeal.main_arg5))).1 = (fun _ => 1#1)
    ∧ (Cert.Pre_finite_ffn_bwd.fn (F := Ideal) (m ((c.tc : Thread Cert.FfnBwdRefIdeal.nD Cert.FfnBwdRefIdeal.τ).loc Cert.FfnBwdRefIdeal.main_arg0)) (m ((c.tc : Thread Cert.FfnBwdRefIdeal.nD Cert.FfnBwdRefIdeal.τ).loc Cert.FfnBwdRefIdeal.main_arg1)) (m ((c.tc : Thread Cert.FfnBwdRefIdeal.nD Cert.FfnBwdRefIdeal.τ).loc Cert.FfnBwdRefIdeal.main_arg2)) (m ((c.tc : Thread Cert.FfnBwdRefIdeal.nD Cert.FfnBwdRefIdeal.τ).loc Cert.FfnBwdRefIdeal.main_arg3)) (m ((c.tc : Thread Cert.FfnBwdRefIdeal.nD Cert.FfnBwdRefIdeal.τ).loc Cert.FfnBwdRefIdeal.main_arg4)) (m ((c.tc : Thread Cert.FfnBwdRefIdeal.nD Cert.FfnBwdRefIdeal.τ).loc Cert.FfnBwdRefIdeal.main_arg5))).2.1 = (fun _ => 1#1)
    ∧ (Cert.Pre_finite_ffn_bwd.fn (F := Ideal) (m ((c.tc : Thread Cert.FfnBwdRefIdeal.nD Cert.FfnBwdRefIdeal.τ).loc Cert.FfnBwdRefIdeal.main_arg0)) (m ((c.tc : Thread Cert.FfnBwdRefIdeal.nD Cert.FfnBwdRefIdeal.τ).loc Cert.FfnBwdRefIdeal.main_arg1)) (m ((c.tc : Thread Cert.FfnBwdRefIdeal.nD Cert.FfnBwdRefIdeal.τ).loc Cert.FfnBwdRefIdeal.main_arg2)) (m ((c.tc : Thread Cert.FfnBwdRefIdeal.nD Cert.FfnBwdRefIdeal.τ).loc Cert.FfnBwdRefIdeal.main_arg3)) (m ((c.tc : Thread Cert.FfnBwdRefIdeal.nD Cert.FfnBwdRefIdeal.τ).loc Cert.FfnBwdRefIdeal.main_arg4)) (m ((c.tc : Thread Cert.FfnBwdRefIdeal.nD Cert.FfnBwdRefIdeal.τ).loc Cert.FfnBwdRefIdeal.main_arg5))).2.2.1 = (fun _ => 1#1)
    ∧ (Cert.Pre_finite_ffn_bwd.fn (F := Ideal) (m ((c.tc : Thread Cert.FfnBwdRefIdeal.nD Cert.FfnBwdRefIdeal.τ).loc Cert.FfnBwdRefIdeal.main_arg0)) (m ((c.tc : Thread Cert.FfnBwdRefIdeal.nD Cert.FfnBwdRefIdeal.τ).loc Cert.FfnBwdRefIdeal.main_arg1)) (m ((c.tc : Thread Cert.FfnBwdRefIdeal.nD Cert.FfnBwdRefIdeal.τ).loc Cert.FfnBwdRefIdeal.main_arg2)) (m ((c.tc : Thread Cert.FfnBwdRefIdeal.nD Cert.FfnBwdRefIdeal.τ).loc Cert.FfnBwdRefIdeal.main_arg3)) (m ((c.tc : Thread Cert.FfnBwdRefIdeal.nD Cert.FfnBwdRefIdeal.τ).loc Cert.FfnBwdRefIdeal.main_arg4)) (m ((c.tc : Thread Cert.FfnBwdRefIdeal.nD Cert.FfnBwdRefIdeal.τ).loc Cert.FfnBwdRefIdeal.main_arg5))).2.2.2.1 = (fun _ => 1#1)
    ∧ (Cert.Pre_finite_ffn_bwd.fn (F := Ideal) (m ((c.tc : Thread Cert.FfnBwdRefIdeal.nD Cert.FfnBwdRefIdeal.τ).loc Cert.FfnBwdRefIdeal.main_arg0)) (m ((c.tc : Thread Cert.FfnBwdRefIdeal.nD Cert.FfnBwdRefIdeal.τ).loc Cert.FfnBwdRefIdeal.main_arg1)) (m ((c.tc : Thread Cert.FfnBwdRefIdeal.nD Cert.FfnBwdRefIdeal.τ).loc Cert.FfnBwdRefIdeal.main_arg2)) (m ((c.tc : Thread Cert.FfnBwdRefIdeal.nD Cert.FfnBwdRefIdeal.τ).loc Cert.FfnBwdRefIdeal.main_arg3)) (m ((c.tc : Thread Cert.FfnBwdRefIdeal.nD Cert.FfnBwdRefIdeal.τ).loc Cert.FfnBwdRefIdeal.main_arg4)) (m ((c.tc : Thread Cert.FfnBwdRefIdeal.nD Cert.FfnBwdRefIdeal.τ).loc Cert.FfnBwdRefIdeal.main_arg5))).2.2.2.2 = (fun _ => 1#1)

def Pre_FfnFwd (m : (ℓ : Loc Cert.FfnFwd.nD Cert.FfnFwd.τ Cert.FfnFwd.sig) → Buf (Elt Bits) ℓ) : Prop :=
  True

def Pre_FfnFwdIdeal (m : (ℓ : Loc Cert.FfnFwdIdeal.nD Cert.FfnFwdIdeal.τ Cert.FfnFwdIdeal.sig) → Buf (Elt Ideal) ℓ) : Prop :=
  True

def Pre_FfnFwdRefIdeal (m : (ℓ : Loc Cert.FfnFwdRefIdeal.nD Cert.FfnFwdRefIdeal.τ Cert.FfnFwdRefIdeal.sig) → Buf (Elt Ideal) ℓ) : Prop :=
  True

def Pre_InprojWgrad (m : (ℓ : Loc Cert.InprojWgrad.nD Cert.InprojWgrad.τ Cert.InprojWgrad.sig) → Buf (Elt Bits) ℓ) : Prop :=
  True

def Pre_InprojWgradIdeal (m : (ℓ : Loc Cert.InprojWgradIdeal.nD Cert.InprojWgradIdeal.τ Cert.InprojWgradIdeal.sig) → Buf (Elt Ideal) ℓ) : Prop :=
  True

def Pre_InprojWgradRefIdeal (m : (ℓ : Loc Cert.InprojWgradRefIdeal.nD Cert.InprojWgradRefIdeal.τ Cert.InprojWgradRefIdeal.sig) → Buf (Elt Ideal) ℓ) : Prop :=
  True

def Pre_MixerOut (m : (ℓ : Loc Cert.MixerOut.nD Cert.MixerOut.τ Cert.MixerOut.sig) → Buf (Elt Bits) ℓ) : Prop :=
  True

def Pre_MixerOutIdeal (m : (ℓ : Loc Cert.MixerOutIdeal.nD Cert.MixerOutIdeal.τ Cert.MixerOutIdeal.sig) → Buf (Elt Ideal) ℓ) : Prop :=
  True

def Pre_MixerOutRefIdeal (m : (ℓ : Loc Cert.MixerOutRefIdeal.nD Cert.MixerOutRefIdeal.τ Cert.MixerOutRefIdeal.sig) → Buf (Elt Ideal) ℓ) : Prop :=
  True

def Pre_Inproj (m : (ℓ : Loc Cert.Inproj.nD Cert.Inproj.τ Cert.Inproj.sig) → Buf (Elt Bits) ℓ) : Prop :=
  True

def Pre_InprojIdeal (m : (ℓ : Loc Cert.InprojIdeal.nD Cert.InprojIdeal.τ Cert.InprojIdeal.sig) → Buf (Elt Ideal) ℓ) : Prop :=
  True

def Pre_InprojRefIdeal (m : (ℓ : Loc Cert.InprojRefIdeal.nD Cert.InprojRefIdeal.τ Cert.InprojRefIdeal.sig) → Buf (Elt Ideal) ℓ) : Prop :=
  True

def Pre_GlaFwd (m : (ℓ : Loc Cert.GlaFwd.nD Cert.GlaFwd.τ Cert.GlaFwd.sig) → Buf (Elt Bits) ℓ) : Prop :=
  True

def Pre_GlaFwdIdeal (m : (ℓ : Loc Cert.GlaFwdIdeal.nD Cert.GlaFwdIdeal.τ Cert.GlaFwdIdeal.sig) → Buf (Elt Ideal) ℓ) : Prop :=
  True

def Pre_GlaFwdRefIdeal (m : (ℓ : Loc Cert.GlaFwdRefIdeal.nD Cert.GlaFwdRefIdeal.τ Cert.GlaFwdRefIdeal.sig) → Buf (Elt Ideal) ℓ) : Prop :=
  True

def Pre_GlaRev (m : (ℓ : Loc Cert.GlaRev.nD Cert.GlaRev.τ Cert.GlaRev.sig) → Buf (Elt Bits) ℓ) : Prop :=
  True

def Pre_GlaRevIdeal (m : (ℓ : Loc Cert.GlaRevIdeal.nD Cert.GlaRevIdeal.τ Cert.GlaRevIdeal.sig) → Buf (Elt Ideal) ℓ) : Prop :=
  True

def Pre_GlaRevRefIdeal (m : (ℓ : Loc Cert.GlaRevRefIdeal.nD Cert.GlaRevRefIdeal.τ Cert.GlaRevRefIdeal.sig) → Buf (Elt Ideal) ℓ) : Prop :=
  True

def Pre_FfnWgrad (m : (ℓ : Loc Cert.FfnWgrad.nD Cert.FfnWgrad.τ Cert.FfnWgrad.sig) → Buf (Elt Bits) ℓ) : Prop :=
  True

def Pre_FfnWgradIdeal (m : (ℓ : Loc Cert.FfnWgradIdeal.nD Cert.FfnWgradIdeal.τ Cert.FfnWgradIdeal.sig) → Buf (Elt Ideal) ℓ) : Prop :=
  True

def Pre_FfnWgradRefIdeal (m : (ℓ : Loc Cert.FfnWgradRefIdeal.nD Cert.FfnWgradRefIdeal.τ Cert.FfnWgradRefIdeal.sig) → Buf (Elt Ideal) ℓ) : Prop :=
  True

def Pre_Adamw (m : (ℓ : Loc Cert.Adamw.nD Cert.Adamw.τ Cert.Adamw.sig) → Buf (Elt Bits) ℓ) : Prop :=
  True

def Pre_AdamwIdeal (m : (ℓ : Loc Cert.AdamwIdeal.nD Cert.AdamwIdeal.τ Cert.AdamwIdeal.sig) → Buf (Elt Ideal) ℓ) : Prop :=
  True

def Pre_AdamwRefIdeal (m : (ℓ : Loc Cert.AdamwRefIdeal.nD Cert.AdamwRefIdeal.τ Cert.AdamwRefIdeal.sig) → Buf (Elt Ideal) ℓ) : Prop :=
  True

def Pre_AddPartials (m : (ℓ : Loc Cert.AddPartials.nD Cert.AddPartials.τ Cert.AddPartials.sig) → Buf (Elt Bits) ℓ) : Prop :=
  True

def Pre_AddPartialsIdeal (m : (ℓ : Loc Cert.AddPartialsIdeal.nD Cert.AddPartialsIdeal.τ Cert.AddPartialsIdeal.sig) → Buf (Elt Ideal) ℓ) : Prop :=
  True

def Pre_AddPartialsRefIdeal (m : (ℓ : Loc Cert.AddPartialsRefIdeal.nD Cert.AddPartialsRefIdeal.τ Cert.AddPartialsRefIdeal.sig) → Buf (Elt Ideal) ℓ) : Prop :=
  True

def quiescent_InprojDx [hInprojDx : Cert.InprojDx.Facts] : Prop :=
  ∀ (m : (ℓ : Loc Cert.InprojDx.nD Cert.InprojDx.τ Cert.InprojDx.sig) → Buf (Elt Bits) ℓ) (g : Dev Cert.InprojDx.nD → PrngReg), Pre_InprojDx m →
    θ_run (Cert.InprojDx.defs (F := Bits)) (onTc (τ := Cert.InprojDx.τ) (Cert.InprojDx.main (F := Bits))) ⟨m, fun _ => 0, g⟩ (fun r => (∀ c : Dev Cert.InprojDx.nD,
      r.2.mem ((c.tc : Thread Cert.InprojDx.nD Cert.InprojDx.τ).loc Cert.InprojDx.main_arg0) = m ((c.tc : Thread Cert.InprojDx.nD Cert.InprojDx.τ).loc Cert.InprojDx.main_arg0)
      ∧ r.2.mem ((c.tc : Thread Cert.InprojDx.nD Cert.InprojDx.τ).loc Cert.InprojDx.main_arg1) = m ((c.tc : Thread Cert.InprojDx.nD Cert.InprojDx.τ).loc Cert.InprojDx.main_arg1)
      ∧ r.2.mem ((c.tc : Thread Cert.InprojDx.nD Cert.InprojDx.τ).loc Cert.InprojDx.main_arg2) = m ((c.tc : Thread Cert.InprojDx.nD Cert.InprojDx.τ).loc Cert.InprojDx.main_arg2)
      ∧ r.2.mem ((c.tc : Thread Cert.InprojDx.nD Cert.InprojDx.τ).loc Cert.InprojDx.main_arg3) = m ((c.tc : Thread Cert.InprojDx.nD Cert.InprojDx.τ).loc Cert.InprojDx.main_arg3)
      ∧ r.2.mem ((c.tc : Thread Cert.InprojDx.nD Cert.InprojDx.τ).loc Cert.InprojDx.main_arg4) = m ((c.tc : Thread Cert.InprojDx.nD Cert.InprojDx.τ).loc Cert.InprojDx.main_arg4))
      ∧ r.2.sem = fun _ => 0)

def quiescent_InprojDxIdeal [hInprojDxIdeal : Cert.InprojDxIdeal.Facts] : Prop :=
  ∀ (m : (ℓ : Loc Cert.InprojDxIdeal.nD Cert.InprojDxIdeal.τ Cert.InprojDxIdeal.sig) → Buf (Elt Ideal) ℓ) (g : Dev Cert.InprojDxIdeal.nD → PrngReg), Pre_InprojDxIdeal m →
    θ_run (Cert.InprojDxIdeal.defs (F := Ideal)) (onTc (τ := Cert.InprojDxIdeal.τ) (Cert.InprojDxIdeal.main (F := Ideal))) ⟨m, fun _ => 0, g⟩ (fun r => (∀ c : Dev Cert.InprojDxIdeal.nD,
      r.2.mem ((c.tc : Thread Cert.InprojDxIdeal.nD Cert.InprojDxIdeal.τ).loc Cert.InprojDxIdeal.main_arg0) = m ((c.tc : Thread Cert.InprojDxIdeal.nD Cert.InprojDxIdeal.τ).loc Cert.InprojDxIdeal.main_arg0)
      ∧ r.2.mem ((c.tc : Thread Cert.InprojDxIdeal.nD Cert.InprojDxIdeal.τ).loc Cert.InprojDxIdeal.main_arg1) = m ((c.tc : Thread Cert.InprojDxIdeal.nD Cert.InprojDxIdeal.τ).loc Cert.InprojDxIdeal.main_arg1)
      ∧ r.2.mem ((c.tc : Thread Cert.InprojDxIdeal.nD Cert.InprojDxIdeal.τ).loc Cert.InprojDxIdeal.main_arg2) = m ((c.tc : Thread Cert.InprojDxIdeal.nD Cert.InprojDxIdeal.τ).loc Cert.InprojDxIdeal.main_arg2)
      ∧ r.2.mem ((c.tc : Thread Cert.InprojDxIdeal.nD Cert.InprojDxIdeal.τ).loc Cert.InprojDxIdeal.main_arg3) = m ((c.tc : Thread Cert.InprojDxIdeal.nD Cert.InprojDxIdeal.τ).loc Cert.InprojDxIdeal.main_arg3)
      ∧ r.2.mem ((c.tc : Thread Cert.InprojDxIdeal.nD Cert.InprojDxIdeal.τ).loc Cert.InprojDxIdeal.main_arg4) = m ((c.tc : Thread Cert.InprojDxIdeal.nD Cert.InprojDxIdeal.τ).loc Cert.InprojDxIdeal.main_arg4))
      ∧ r.2.sem = fun _ => 0)

def quiescent_InprojDxRefIdeal [hInprojDxRefIdeal : Cert.InprojDxRefIdeal.Facts] : Prop :=
  ∀ (m : (ℓ : Loc Cert.InprojDxRefIdeal.nD Cert.InprojDxRefIdeal.τ Cert.InprojDxRefIdeal.sig) → Buf (Elt Ideal) ℓ) (g : Dev Cert.InprojDxRefIdeal.nD → PrngReg), Pre_InprojDxRefIdeal m →
    θ_run (Cert.InprojDxRefIdeal.defs (F := Ideal)) (onTc (τ := Cert.InprojDxRefIdeal.τ) (Cert.InprojDxRefIdeal.main (F := Ideal))) ⟨m, fun _ => 0, g⟩ (fun r => (∀ c : Dev Cert.InprojDxRefIdeal.nD,
      r.2.mem ((c.tc : Thread Cert.InprojDxRefIdeal.nD Cert.InprojDxRefIdeal.τ).loc Cert.InprojDxRefIdeal.main_arg0) = m ((c.tc : Thread Cert.InprojDxRefIdeal.nD Cert.InprojDxRefIdeal.τ).loc Cert.InprojDxRefIdeal.main_arg0)
      ∧ r.2.mem ((c.tc : Thread Cert.InprojDxRefIdeal.nD Cert.InprojDxRefIdeal.τ).loc Cert.InprojDxRefIdeal.main_arg1) = m ((c.tc : Thread Cert.InprojDxRefIdeal.nD Cert.InprojDxRefIdeal.τ).loc Cert.InprojDxRefIdeal.main_arg1)
      ∧ r.2.mem ((c.tc : Thread Cert.InprojDxRefIdeal.nD Cert.InprojDxRefIdeal.τ).loc Cert.InprojDxRefIdeal.main_arg2) = m ((c.tc : Thread Cert.InprojDxRefIdeal.nD Cert.InprojDxRefIdeal.τ).loc Cert.InprojDxRefIdeal.main_arg2)
      ∧ r.2.mem ((c.tc : Thread Cert.InprojDxRefIdeal.nD Cert.InprojDxRefIdeal.τ).loc Cert.InprojDxRefIdeal.main_arg3) = m ((c.tc : Thread Cert.InprojDxRefIdeal.nD Cert.InprojDxRefIdeal.τ).loc Cert.InprojDxRefIdeal.main_arg3)
      ∧ r.2.mem ((c.tc : Thread Cert.InprojDxRefIdeal.nD Cert.InprojDxRefIdeal.τ).loc Cert.InprojDxRefIdeal.main_arg4) = m ((c.tc : Thread Cert.InprojDxRefIdeal.nD Cert.InprojDxRefIdeal.τ).loc Cert.InprojDxRefIdeal.main_arg4))
      ∧ r.2.sem = fun _ => 0)

def quiescent_FfnBwd [hFfnBwd : Cert.FfnBwd.Facts] : Prop :=
  ∀ (m : (ℓ : Loc Cert.FfnBwd.nD Cert.FfnBwd.τ Cert.FfnBwd.sig) → Buf (Elt Bits) ℓ) (g : Dev Cert.FfnBwd.nD → PrngReg), Pre_FfnBwd m →
    θ_run (Cert.FfnBwd.defs (F := Bits)) (onTc (τ := Cert.FfnBwd.τ) (Cert.FfnBwd.main (F := Bits))) ⟨m, fun _ => 0, g⟩ (fun r => (∀ c : Dev Cert.FfnBwd.nD,
      r.2.mem ((c.tc : Thread Cert.FfnBwd.nD Cert.FfnBwd.τ).loc Cert.FfnBwd.main_arg0) = m ((c.tc : Thread Cert.FfnBwd.nD Cert.FfnBwd.τ).loc Cert.FfnBwd.main_arg0)
      ∧ r.2.mem ((c.tc : Thread Cert.FfnBwd.nD Cert.FfnBwd.τ).loc Cert.FfnBwd.main_arg1) = m ((c.tc : Thread Cert.FfnBwd.nD Cert.FfnBwd.τ).loc Cert.FfnBwd.main_arg1)
      ∧ r.2.mem ((c.tc : Thread Cert.FfnBwd.nD Cert.FfnBwd.τ).loc Cert.FfnBwd.main_arg2) = m ((c.tc : Thread Cert.FfnBwd.nD Cert.FfnBwd.τ).loc Cert.FfnBwd.main_arg2)
      ∧ r.2.mem ((c.tc : Thread Cert.FfnBwd.nD Cert.FfnBwd.τ).loc Cert.FfnBwd.main_arg3) = m ((c.tc : Thread Cert.FfnBwd.nD Cert.FfnBwd.τ).loc Cert.FfnBwd.main_arg3)
      ∧ r.2.mem ((c.tc : Thread Cert.FfnBwd.nD Cert.FfnBwd.τ).loc Cert.FfnBwd.main_arg4) = m ((c.tc : Thread Cert.FfnBwd.nD Cert.FfnBwd.τ).loc Cert.FfnBwd.main_arg4)
      ∧ r.2.mem ((c.tc : Thread Cert.FfnBwd.nD Cert.FfnBwd.τ).loc Cert.FfnBwd.main_arg5) = m ((c.tc : Thread Cert.FfnBwd.nD Cert.FfnBwd.τ).loc Cert.FfnBwd.main_arg5))
      ∧ r.2.sem = fun _ => 0)

def quiescent_FfnBwdIdeal [hFfnBwdIdeal : Cert.FfnBwdIdeal.Facts] : Prop :=
  ∀ (m : (ℓ : Loc Cert.FfnBwdIdeal.nD Cert.FfnBwdIdeal.τ Cert.FfnBwdIdeal.sig) → Buf (Elt Ideal) ℓ) (g : Dev Cert.FfnBwdIdeal.nD → PrngReg), Pre_FfnBwdIdeal m →
    θ_run (Cert.FfnBwdIdeal.defs (F := Ideal)) (onTc (τ := Cert.FfnBwdIdeal.τ) (Cert.FfnBwdIdeal.main (F := Ideal))) ⟨m, fun _ => 0, g⟩ (fun r => (∀ c : Dev Cert.FfnBwdIdeal.nD,
      r.2.mem ((c.tc : Thread Cert.FfnBwdIdeal.nD Cert.FfnBwdIdeal.τ).loc Cert.FfnBwdIdeal.main_arg0) = m ((c.tc : Thread Cert.FfnBwdIdeal.nD Cert.FfnBwdIdeal.τ).loc Cert.FfnBwdIdeal.main_arg0)
      ∧ r.2.mem ((c.tc : Thread Cert.FfnBwdIdeal.nD Cert.FfnBwdIdeal.τ).loc Cert.FfnBwdIdeal.main_arg1) = m ((c.tc : Thread Cert.FfnBwdIdeal.nD Cert.FfnBwdIdeal.τ).loc Cert.FfnBwdIdeal.main_arg1)
      ∧ r.2.mem ((c.tc : Thread Cert.FfnBwdIdeal.nD Cert.FfnBwdIdeal.τ).loc Cert.FfnBwdIdeal.main_arg2) = m ((c.tc : Thread Cert.FfnBwdIdeal.nD Cert.FfnBwdIdeal.τ).loc Cert.FfnBwdIdeal.main_arg2)
      ∧ r.2.mem ((c.tc : Thread Cert.FfnBwdIdeal.nD Cert.FfnBwdIdeal.τ).loc Cert.FfnBwdIdeal.main_arg3) = m ((c.tc : Thread Cert.FfnBwdIdeal.nD Cert.FfnBwdIdeal.τ).loc Cert.FfnBwdIdeal.main_arg3)
      ∧ r.2.mem ((c.tc : Thread Cert.FfnBwdIdeal.nD Cert.FfnBwdIdeal.τ).loc Cert.FfnBwdIdeal.main_arg4) = m ((c.tc : Thread Cert.FfnBwdIdeal.nD Cert.FfnBwdIdeal.τ).loc Cert.FfnBwdIdeal.main_arg4)
      ∧ r.2.mem ((c.tc : Thread Cert.FfnBwdIdeal.nD Cert.FfnBwdIdeal.τ).loc Cert.FfnBwdIdeal.main_arg5) = m ((c.tc : Thread Cert.FfnBwdIdeal.nD Cert.FfnBwdIdeal.τ).loc Cert.FfnBwdIdeal.main_arg5))
      ∧ r.2.sem = fun _ => 0)

def quiescent_FfnBwdIdeal_pre_finite_ffn_bwd [hFfnBwdIdeal : Cert.FfnBwdIdeal.Facts] [hPre_finite_ffn_bwd : Cert.Pre_finite_ffn_bwd.Facts] : Prop :=
  ∀ (m : (ℓ : Loc Cert.FfnBwdIdeal.nD Cert.FfnBwdIdeal.τ Cert.FfnBwdIdeal.sig) → Buf (Elt Ideal) ℓ) (g : Dev Cert.FfnBwdIdeal.nD → PrngReg), Pre_FfnBwdIdeal_finite_ffn_bwd m →
    θ_run (Cert.FfnBwdIdeal.defs (F := Ideal)) (onTc (τ := Cert.FfnBwdIdeal.τ) (Cert.FfnBwdIdeal.main (F := Ideal))) ⟨m, fun _ => 0, g⟩ (fun r => (∀ c : Dev Cert.FfnBwdIdeal.nD,
      r.2.mem ((c.tc : Thread Cert.FfnBwdIdeal.nD Cert.FfnBwdIdeal.τ).loc Cert.FfnBwdIdeal.main_arg0) = m ((c.tc : Thread Cert.FfnBwdIdeal.nD Cert.FfnBwdIdeal.τ).loc Cert.FfnBwdIdeal.main_arg0)
      ∧ r.2.mem ((c.tc : Thread Cert.FfnBwdIdeal.nD Cert.FfnBwdIdeal.τ).loc Cert.FfnBwdIdeal.main_arg1) = m ((c.tc : Thread Cert.FfnBwdIdeal.nD Cert.FfnBwdIdeal.τ).loc Cert.FfnBwdIdeal.main_arg1)
      ∧ r.2.mem ((c.tc : Thread Cert.FfnBwdIdeal.nD Cert.FfnBwdIdeal.τ).loc Cert.FfnBwdIdeal.main_arg2) = m ((c.tc : Thread Cert.FfnBwdIdeal.nD Cert.FfnBwdIdeal.τ).loc Cert.FfnBwdIdeal.main_arg2)
      ∧ r.2.mem ((c.tc : Thread Cert.FfnBwdIdeal.nD Cert.FfnBwdIdeal.τ).loc Cert.FfnBwdIdeal.main_arg3) = m ((c.tc : Thread Cert.FfnBwdIdeal.nD Cert.FfnBwdIdeal.τ).loc Cert.FfnBwdIdeal.main_arg3)
      ∧ r.2.mem ((c.tc : Thread Cert.FfnBwdIdeal.nD Cert.FfnBwdIdeal.τ).loc Cert.FfnBwdIdeal.main_arg4) = m ((c.tc : Thread Cert.FfnBwdIdeal.nD Cert.FfnBwdIdeal.τ).loc Cert.FfnBwdIdeal.main_arg4)
      ∧ r.2.mem ((c.tc : Thread Cert.FfnBwdIdeal.nD Cert.FfnBwdIdeal.τ).loc Cert.FfnBwdIdeal.main_arg5) = m ((c.tc : Thread Cert.FfnBwdIdeal.nD Cert.FfnBwdIdeal.τ).loc Cert.FfnBwdIdeal.main_arg5))
      ∧ r.2.sem = fun _ => 0)

def quiescent_FfnBwdRefIdeal [hFfnBwdRefIdeal : Cert.FfnBwdRefIdeal.Facts] : Prop :=
  ∀ (m : (ℓ : Loc Cert.FfnBwdRefIdeal.nD Cert.FfnBwdRefIdeal.τ Cert.FfnBwdRefIdeal.sig) → Buf (Elt Ideal) ℓ) (g : Dev Cert.FfnBwdRefIdeal.nD → PrngReg), Pre_FfnBwdRefIdeal m →
    θ_run (Cert.FfnBwdRefIdeal.defs (F := Ideal)) (onTc (τ := Cert.FfnBwdRefIdeal.τ) (Cert.FfnBwdRefIdeal.main (F := Ideal))) ⟨m, fun _ => 0, g⟩ (fun r => (∀ c : Dev Cert.FfnBwdRefIdeal.nD,
      r.2.mem ((c.tc : Thread Cert.FfnBwdRefIdeal.nD Cert.FfnBwdRefIdeal.τ).loc Cert.FfnBwdRefIdeal.main_arg0) = m ((c.tc : Thread Cert.FfnBwdRefIdeal.nD Cert.FfnBwdRefIdeal.τ).loc Cert.FfnBwdRefIdeal.main_arg0)
      ∧ r.2.mem ((c.tc : Thread Cert.FfnBwdRefIdeal.nD Cert.FfnBwdRefIdeal.τ).loc Cert.FfnBwdRefIdeal.main_arg1) = m ((c.tc : Thread Cert.FfnBwdRefIdeal.nD Cert.FfnBwdRefIdeal.τ).loc Cert.FfnBwdRefIdeal.main_arg1)
      ∧ r.2.mem ((c.tc : Thread Cert.FfnBwdRefIdeal.nD Cert.FfnBwdRefIdeal.τ).loc Cert.FfnBwdRefIdeal.main_arg2) = m ((c.tc : Thread Cert.FfnBwdRefIdeal.nD Cert.FfnBwdRefIdeal.τ).loc Cert.FfnBwdRefIdeal.main_arg2)
      ∧ r.2.mem ((c.tc : Thread Cert.FfnBwdRefIdeal.nD Cert.FfnBwdRefIdeal.τ).loc Cert.FfnBwdRefIdeal.main_arg3) = m ((c.tc : Thread Cert.FfnBwdRefIdeal.nD Cert.FfnBwdRefIdeal.τ).loc Cert.FfnBwdRefIdeal.main_arg3)
      ∧ r.2.mem ((c.tc : Thread Cert.FfnBwdRefIdeal.nD Cert.FfnBwdRefIdeal.τ).loc Cert.FfnBwdRefIdeal.main_arg4) = m ((c.tc : Thread Cert.FfnBwdRefIdeal.nD Cert.FfnBwdRefIdeal.τ).loc Cert.FfnBwdRefIdeal.main_arg4)
      ∧ r.2.mem ((c.tc : Thread Cert.FfnBwdRefIdeal.nD Cert.FfnBwdRefIdeal.τ).loc Cert.FfnBwdRefIdeal.main_arg5) = m ((c.tc : Thread Cert.FfnBwdRefIdeal.nD Cert.FfnBwdRefIdeal.τ).loc Cert.FfnBwdRefIdeal.main_arg5))
      ∧ r.2.sem = fun _ => 0)

def quiescent_FfnBwdRefIdeal_pre_finite_ffn_bwd [hFfnBwdRefIdeal : Cert.FfnBwdRefIdeal.Facts] [hPre_finite_ffn_bwd : Cert.Pre_finite_ffn_bwd.Facts] : Prop :=
  ∀ (m : (ℓ : Loc Cert.FfnBwdRefIdeal.nD Cert.FfnBwdRefIdeal.τ Cert.FfnBwdRefIdeal.sig) → Buf (Elt Ideal) ℓ) (g : Dev Cert.FfnBwdRefIdeal.nD → PrngReg), Pre_FfnBwdRefIdeal_finite_ffn_bwd m →
    θ_run (Cert.FfnBwdRefIdeal.defs (F := Ideal)) (onTc (τ := Cert.FfnBwdRefIdeal.τ) (Cert.FfnBwdRefIdeal.main (F := Ideal))) ⟨m, fun _ => 0, g⟩ (fun r => (∀ c : Dev Cert.FfnBwdRefIdeal.nD,
      r.2.mem ((c.tc : Thread Cert.FfnBwdRefIdeal.nD Cert.FfnBwdRefIdeal.τ).loc Cert.FfnBwdRefIdeal.main_arg0) = m ((c.tc : Thread Cert.FfnBwdRefIdeal.nD Cert.FfnBwdRefIdeal.τ).loc Cert.FfnBwdRefIdeal.main_arg0)
      ∧ r.2.mem ((c.tc : Thread Cert.FfnBwdRefIdeal.nD Cert.FfnBwdRefIdeal.τ).loc Cert.FfnBwdRefIdeal.main_arg1) = m ((c.tc : Thread Cert.FfnBwdRefIdeal.nD Cert.FfnBwdRefIdeal.τ).loc Cert.FfnBwdRefIdeal.main_arg1)
      ∧ r.2.mem ((c.tc : Thread Cert.FfnBwdRefIdeal.nD Cert.FfnBwdRefIdeal.τ).loc Cert.FfnBwdRefIdeal.main_arg2) = m ((c.tc : Thread Cert.FfnBwdRefIdeal.nD Cert.FfnBwdRefIdeal.τ).loc Cert.FfnBwdRefIdeal.main_arg2)
      ∧ r.2.mem ((c.tc : Thread Cert.FfnBwdRefIdeal.nD Cert.FfnBwdRefIdeal.τ).loc Cert.FfnBwdRefIdeal.main_arg3) = m ((c.tc : Thread Cert.FfnBwdRefIdeal.nD Cert.FfnBwdRefIdeal.τ).loc Cert.FfnBwdRefIdeal.main_arg3)
      ∧ r.2.mem ((c.tc : Thread Cert.FfnBwdRefIdeal.nD Cert.FfnBwdRefIdeal.τ).loc Cert.FfnBwdRefIdeal.main_arg4) = m ((c.tc : Thread Cert.FfnBwdRefIdeal.nD Cert.FfnBwdRefIdeal.τ).loc Cert.FfnBwdRefIdeal.main_arg4)
      ∧ r.2.mem ((c.tc : Thread Cert.FfnBwdRefIdeal.nD Cert.FfnBwdRefIdeal.τ).loc Cert.FfnBwdRefIdeal.main_arg5) = m ((c.tc : Thread Cert.FfnBwdRefIdeal.nD Cert.FfnBwdRefIdeal.τ).loc Cert.FfnBwdRefIdeal.main_arg5))
      ∧ r.2.sem = fun _ => 0)

def quiescent_FfnFwd [hFfnFwd : Cert.FfnFwd.Facts] : Prop :=
  ∀ (m : (ℓ : Loc Cert.FfnFwd.nD Cert.FfnFwd.τ Cert.FfnFwd.sig) → Buf (Elt Bits) ℓ) (g : Dev Cert.FfnFwd.nD → PrngReg), Pre_FfnFwd m →
    θ_run (Cert.FfnFwd.defs (F := Bits)) (onTc (τ := Cert.FfnFwd.τ) (Cert.FfnFwd.main (F := Bits))) ⟨m, fun _ => 0, g⟩ (fun r => (∀ c : Dev Cert.FfnFwd.nD,
      r.2.mem ((c.tc : Thread Cert.FfnFwd.nD Cert.FfnFwd.τ).loc Cert.FfnFwd.main_arg0) = m ((c.tc : Thread Cert.FfnFwd.nD Cert.FfnFwd.τ).loc Cert.FfnFwd.main_arg0)
      ∧ r.2.mem ((c.tc : Thread Cert.FfnFwd.nD Cert.FfnFwd.τ).loc Cert.FfnFwd.main_arg1) = m ((c.tc : Thread Cert.FfnFwd.nD Cert.FfnFwd.τ).loc Cert.FfnFwd.main_arg1)
      ∧ r.2.mem ((c.tc : Thread Cert.FfnFwd.nD Cert.FfnFwd.τ).loc Cert.FfnFwd.main_arg2) = m ((c.tc : Thread Cert.FfnFwd.nD Cert.FfnFwd.τ).loc Cert.FfnFwd.main_arg2)
      ∧ r.2.mem ((c.tc : Thread Cert.FfnFwd.nD Cert.FfnFwd.τ).loc Cert.FfnFwd.main_arg3) = m ((c.tc : Thread Cert.FfnFwd.nD Cert.FfnFwd.τ).loc Cert.FfnFwd.main_arg3)
      ∧ r.2.mem ((c.tc : Thread Cert.FfnFwd.nD Cert.FfnFwd.τ).loc Cert.FfnFwd.main_arg4) = m ((c.tc : Thread Cert.FfnFwd.nD Cert.FfnFwd.τ).loc Cert.FfnFwd.main_arg4)
      ∧ r.2.mem ((c.tc : Thread Cert.FfnFwd.nD Cert.FfnFwd.τ).loc Cert.FfnFwd.main_arg5) = m ((c.tc : Thread Cert.FfnFwd.nD Cert.FfnFwd.τ).loc Cert.FfnFwd.main_arg5)
      ∧ r.2.mem ((c.tc : Thread Cert.FfnFwd.nD Cert.FfnFwd.τ).loc Cert.FfnFwd.main_arg6) = m ((c.tc : Thread Cert.FfnFwd.nD Cert.FfnFwd.τ).loc Cert.FfnFwd.main_arg6))
      ∧ r.2.sem = fun _ => 0)

def quiescent_FfnFwdIdeal [hFfnFwdIdeal : Cert.FfnFwdIdeal.Facts] : Prop :=
  ∀ (m : (ℓ : Loc Cert.FfnFwdIdeal.nD Cert.FfnFwdIdeal.τ Cert.FfnFwdIdeal.sig) → Buf (Elt Ideal) ℓ) (g : Dev Cert.FfnFwdIdeal.nD → PrngReg), Pre_FfnFwdIdeal m →
    θ_run (Cert.FfnFwdIdeal.defs (F := Ideal)) (onTc (τ := Cert.FfnFwdIdeal.τ) (Cert.FfnFwdIdeal.main (F := Ideal))) ⟨m, fun _ => 0, g⟩ (fun r => (∀ c : Dev Cert.FfnFwdIdeal.nD,
      r.2.mem ((c.tc : Thread Cert.FfnFwdIdeal.nD Cert.FfnFwdIdeal.τ).loc Cert.FfnFwdIdeal.main_arg0) = m ((c.tc : Thread Cert.FfnFwdIdeal.nD Cert.FfnFwdIdeal.τ).loc Cert.FfnFwdIdeal.main_arg0)
      ∧ r.2.mem ((c.tc : Thread Cert.FfnFwdIdeal.nD Cert.FfnFwdIdeal.τ).loc Cert.FfnFwdIdeal.main_arg1) = m ((c.tc : Thread Cert.FfnFwdIdeal.nD Cert.FfnFwdIdeal.τ).loc Cert.FfnFwdIdeal.main_arg1)
      ∧ r.2.mem ((c.tc : Thread Cert.FfnFwdIdeal.nD Cert.FfnFwdIdeal.τ).loc Cert.FfnFwdIdeal.main_arg2) = m ((c.tc : Thread Cert.FfnFwdIdeal.nD Cert.FfnFwdIdeal.τ).loc Cert.FfnFwdIdeal.main_arg2)
      ∧ r.2.mem ((c.tc : Thread Cert.FfnFwdIdeal.nD Cert.FfnFwdIdeal.τ).loc Cert.FfnFwdIdeal.main_arg3) = m ((c.tc : Thread Cert.FfnFwdIdeal.nD Cert.FfnFwdIdeal.τ).loc Cert.FfnFwdIdeal.main_arg3)
      ∧ r.2.mem ((c.tc : Thread Cert.FfnFwdIdeal.nD Cert.FfnFwdIdeal.τ).loc Cert.FfnFwdIdeal.main_arg4) = m ((c.tc : Thread Cert.FfnFwdIdeal.nD Cert.FfnFwdIdeal.τ).loc Cert.FfnFwdIdeal.main_arg4)
      ∧ r.2.mem ((c.tc : Thread Cert.FfnFwdIdeal.nD Cert.FfnFwdIdeal.τ).loc Cert.FfnFwdIdeal.main_arg5) = m ((c.tc : Thread Cert.FfnFwdIdeal.nD Cert.FfnFwdIdeal.τ).loc Cert.FfnFwdIdeal.main_arg5)
      ∧ r.2.mem ((c.tc : Thread Cert.FfnFwdIdeal.nD Cert.FfnFwdIdeal.τ).loc Cert.FfnFwdIdeal.main_arg6) = m ((c.tc : Thread Cert.FfnFwdIdeal.nD Cert.FfnFwdIdeal.τ).loc Cert.FfnFwdIdeal.main_arg6))
      ∧ r.2.sem = fun _ => 0)

def quiescent_FfnFwdRefIdeal [hFfnFwdRefIdeal : Cert.FfnFwdRefIdeal.Facts] : Prop :=
  ∀ (m : (ℓ : Loc Cert.FfnFwdRefIdeal.nD Cert.FfnFwdRefIdeal.τ Cert.FfnFwdRefIdeal.sig) → Buf (Elt Ideal) ℓ) (g : Dev Cert.FfnFwdRefIdeal.nD → PrngReg), Pre_FfnFwdRefIdeal m →
    θ_run (Cert.FfnFwdRefIdeal.defs (F := Ideal)) (onTc (τ := Cert.FfnFwdRefIdeal.τ) (Cert.FfnFwdRefIdeal.main (F := Ideal))) ⟨m, fun _ => 0, g⟩ (fun r => (∀ c : Dev Cert.FfnFwdRefIdeal.nD,
      r.2.mem ((c.tc : Thread Cert.FfnFwdRefIdeal.nD Cert.FfnFwdRefIdeal.τ).loc Cert.FfnFwdRefIdeal.main_arg0) = m ((c.tc : Thread Cert.FfnFwdRefIdeal.nD Cert.FfnFwdRefIdeal.τ).loc Cert.FfnFwdRefIdeal.main_arg0)
      ∧ r.2.mem ((c.tc : Thread Cert.FfnFwdRefIdeal.nD Cert.FfnFwdRefIdeal.τ).loc Cert.FfnFwdRefIdeal.main_arg1) = m ((c.tc : Thread Cert.FfnFwdRefIdeal.nD Cert.FfnFwdRefIdeal.τ).loc Cert.FfnFwdRefIdeal.main_arg1)
      ∧ r.2.mem ((c.tc : Thread Cert.FfnFwdRefIdeal.nD Cert.FfnFwdRefIdeal.τ).loc Cert.FfnFwdRefIdeal.main_arg2) = m ((c.tc : Thread Cert.FfnFwdRefIdeal.nD Cert.FfnFwdRefIdeal.τ).loc Cert.FfnFwdRefIdeal.main_arg2)
      ∧ r.2.mem ((c.tc : Thread Cert.FfnFwdRefIdeal.nD Cert.FfnFwdRefIdeal.τ).loc Cert.FfnFwdRefIdeal.main_arg3) = m ((c.tc : Thread Cert.FfnFwdRefIdeal.nD Cert.FfnFwdRefIdeal.τ).loc Cert.FfnFwdRefIdeal.main_arg3)
      ∧ r.2.mem ((c.tc : Thread Cert.FfnFwdRefIdeal.nD Cert.FfnFwdRefIdeal.τ).loc Cert.FfnFwdRefIdeal.main_arg4) = m ((c.tc : Thread Cert.FfnFwdRefIdeal.nD Cert.FfnFwdRefIdeal.τ).loc Cert.FfnFwdRefIdeal.main_arg4)
      ∧ r.2.mem ((c.tc : Thread Cert.FfnFwdRefIdeal.nD Cert.FfnFwdRefIdeal.τ).loc Cert.FfnFwdRefIdeal.main_arg5) = m ((c.tc : Thread Cert.FfnFwdRefIdeal.nD Cert.FfnFwdRefIdeal.τ).loc Cert.FfnFwdRefIdeal.main_arg5)
      ∧ r.2.mem ((c.tc : Thread Cert.FfnFwdRefIdeal.nD Cert.FfnFwdRefIdeal.τ).loc Cert.FfnFwdRefIdeal.main_arg6) = m ((c.tc : Thread Cert.FfnFwdRefIdeal.nD Cert.FfnFwdRefIdeal.τ).loc Cert.FfnFwdRefIdeal.main_arg6))
      ∧ r.2.sem = fun _ => 0)

def quiescent_InprojWgrad [hInprojWgrad : Cert.InprojWgrad.Facts] : Prop :=
  ∀ (m : (ℓ : Loc Cert.InprojWgrad.nD Cert.InprojWgrad.τ Cert.InprojWgrad.sig) → Buf (Elt Bits) ℓ) (g : Dev Cert.InprojWgrad.nD → PrngReg), Pre_InprojWgrad m →
    θ_run (Cert.InprojWgrad.defs (F := Bits)) (onTc (τ := Cert.InprojWgrad.τ) (Cert.InprojWgrad.main (F := Bits))) ⟨m, fun _ => 0, g⟩ (fun r => (∀ c : Dev Cert.InprojWgrad.nD,
      r.2.mem ((c.tc : Thread Cert.InprojWgrad.nD Cert.InprojWgrad.τ).loc Cert.InprojWgrad.main_arg0) = m ((c.tc : Thread Cert.InprojWgrad.nD Cert.InprojWgrad.τ).loc Cert.InprojWgrad.main_arg0)
      ∧ r.2.mem ((c.tc : Thread Cert.InprojWgrad.nD Cert.InprojWgrad.τ).loc Cert.InprojWgrad.main_arg1) = m ((c.tc : Thread Cert.InprojWgrad.nD Cert.InprojWgrad.τ).loc Cert.InprojWgrad.main_arg1)
      ∧ r.2.mem ((c.tc : Thread Cert.InprojWgrad.nD Cert.InprojWgrad.τ).loc Cert.InprojWgrad.main_arg2) = m ((c.tc : Thread Cert.InprojWgrad.nD Cert.InprojWgrad.τ).loc Cert.InprojWgrad.main_arg2))
      ∧ r.2.sem = fun _ => 0)

def quiescent_InprojWgradIdeal [hInprojWgradIdeal : Cert.InprojWgradIdeal.Facts] : Prop :=
  ∀ (m : (ℓ : Loc Cert.InprojWgradIdeal.nD Cert.InprojWgradIdeal.τ Cert.InprojWgradIdeal.sig) → Buf (Elt Ideal) ℓ) (g : Dev Cert.InprojWgradIdeal.nD → PrngReg), Pre_InprojWgradIdeal m →
    θ_run (Cert.InprojWgradIdeal.defs (F := Ideal)) (onTc (τ := Cert.InprojWgradIdeal.τ) (Cert.InprojWgradIdeal.main (F := Ideal))) ⟨m, fun _ => 0, g⟩ (fun r => (∀ c : Dev Cert.InprojWgradIdeal.nD,
      r.2.mem ((c.tc : Thread Cert.InprojWgradIdeal.nD Cert.InprojWgradIdeal.τ).loc Cert.InprojWgradIdeal.main_arg0) = m ((c.tc : Thread Cert.InprojWgradIdeal.nD Cert.InprojWgradIdeal.τ).loc Cert.InprojWgradIdeal.main_arg0)
      ∧ r.2.mem ((c.tc : Thread Cert.InprojWgradIdeal.nD Cert.InprojWgradIdeal.τ).loc Cert.InprojWgradIdeal.main_arg1) = m ((c.tc : Thread Cert.InprojWgradIdeal.nD Cert.InprojWgradIdeal.τ).loc Cert.InprojWgradIdeal.main_arg1)
      ∧ r.2.mem ((c.tc : Thread Cert.InprojWgradIdeal.nD Cert.InprojWgradIdeal.τ).loc Cert.InprojWgradIdeal.main_arg2) = m ((c.tc : Thread Cert.InprojWgradIdeal.nD Cert.InprojWgradIdeal.τ).loc Cert.InprojWgradIdeal.main_arg2))
      ∧ r.2.sem = fun _ => 0)

def quiescent_InprojWgradRefIdeal [hInprojWgradRefIdeal : Cert.InprojWgradRefIdeal.Facts] : Prop :=
  ∀ (m : (ℓ : Loc Cert.InprojWgradRefIdeal.nD Cert.InprojWgradRefIdeal.τ Cert.InprojWgradRefIdeal.sig) → Buf (Elt Ideal) ℓ) (g : Dev Cert.InprojWgradRefIdeal.nD → PrngReg), Pre_InprojWgradRefIdeal m →
    θ_run (Cert.InprojWgradRefIdeal.defs (F := Ideal)) (onTc (τ := Cert.InprojWgradRefIdeal.τ) (Cert.InprojWgradRefIdeal.main (F := Ideal))) ⟨m, fun _ => 0, g⟩ (fun r => (∀ c : Dev Cert.InprojWgradRefIdeal.nD,
      r.2.mem ((c.tc : Thread Cert.InprojWgradRefIdeal.nD Cert.InprojWgradRefIdeal.τ).loc Cert.InprojWgradRefIdeal.main_arg0) = m ((c.tc : Thread Cert.InprojWgradRefIdeal.nD Cert.InprojWgradRefIdeal.τ).loc Cert.InprojWgradRefIdeal.main_arg0)
      ∧ r.2.mem ((c.tc : Thread Cert.InprojWgradRefIdeal.nD Cert.InprojWgradRefIdeal.τ).loc Cert.InprojWgradRefIdeal.main_arg1) = m ((c.tc : Thread Cert.InprojWgradRefIdeal.nD Cert.InprojWgradRefIdeal.τ).loc Cert.InprojWgradRefIdeal.main_arg1)
      ∧ r.2.mem ((c.tc : Thread Cert.InprojWgradRefIdeal.nD Cert.InprojWgradRefIdeal.τ).loc Cert.InprojWgradRefIdeal.main_arg2) = m ((c.tc : Thread Cert.InprojWgradRefIdeal.nD Cert.InprojWgradRefIdeal.τ).loc Cert.InprojWgradRefIdeal.main_arg2))
      ∧ r.2.sem = fun _ => 0)

def quiescent_MixerOut [hMixerOut : Cert.MixerOut.Facts] : Prop :=
  ∀ (m : (ℓ : Loc Cert.MixerOut.nD Cert.MixerOut.τ Cert.MixerOut.sig) → Buf (Elt Bits) ℓ) (g : Dev Cert.MixerOut.nD → PrngReg), Pre_MixerOut m →
    θ_run (Cert.MixerOut.defs (F := Bits)) (onTc (τ := Cert.MixerOut.τ) (Cert.MixerOut.main (F := Bits))) ⟨m, fun _ => 0, g⟩ (fun r => (∀ c : Dev Cert.MixerOut.nD,
      r.2.mem ((c.tc : Thread Cert.MixerOut.nD Cert.MixerOut.τ).loc Cert.MixerOut.main_arg0) = m ((c.tc : Thread Cert.MixerOut.nD Cert.MixerOut.τ).loc Cert.MixerOut.main_arg0)
      ∧ r.2.mem ((c.tc : Thread Cert.MixerOut.nD Cert.MixerOut.τ).loc Cert.MixerOut.main_arg1) = m ((c.tc : Thread Cert.MixerOut.nD Cert.MixerOut.τ).loc Cert.MixerOut.main_arg1)
      ∧ r.2.mem ((c.tc : Thread Cert.MixerOut.nD Cert.MixerOut.τ).loc Cert.MixerOut.main_arg2) = m ((c.tc : Thread Cert.MixerOut.nD Cert.MixerOut.τ).loc Cert.MixerOut.main_arg2)
      ∧ r.2.mem ((c.tc : Thread Cert.MixerOut.nD Cert.MixerOut.τ).loc Cert.MixerOut.main_arg3) = m ((c.tc : Thread Cert.MixerOut.nD Cert.MixerOut.τ).loc Cert.MixerOut.main_arg3)
      ∧ r.2.mem ((c.tc : Thread Cert.MixerOut.nD Cert.MixerOut.τ).loc Cert.MixerOut.main_arg4) = m ((c.tc : Thread Cert.MixerOut.nD Cert.MixerOut.τ).loc Cert.MixerOut.main_arg4)
      ∧ r.2.mem ((c.tc : Thread Cert.MixerOut.nD Cert.MixerOut.τ).loc Cert.MixerOut.main_arg5) = m ((c.tc : Thread Cert.MixerOut.nD Cert.MixerOut.τ).loc Cert.MixerOut.main_arg5)
      ∧ r.2.mem ((c.tc : Thread Cert.MixerOut.nD Cert.MixerOut.τ).loc Cert.MixerOut.main_arg6) = m ((c.tc : Thread Cert.MixerOut.nD Cert.MixerOut.τ).loc Cert.MixerOut.main_arg6)
      ∧ r.2.mem ((c.tc : Thread Cert.MixerOut.nD Cert.MixerOut.τ).loc Cert.MixerOut.main_arg7) = m ((c.tc : Thread Cert.MixerOut.nD Cert.MixerOut.τ).loc Cert.MixerOut.main_arg7)
      ∧ r.2.mem ((c.tc : Thread Cert.MixerOut.nD Cert.MixerOut.τ).loc Cert.MixerOut.main_arg8) = m ((c.tc : Thread Cert.MixerOut.nD Cert.MixerOut.τ).loc Cert.MixerOut.main_arg8)
      ∧ r.2.mem ((c.tc : Thread Cert.MixerOut.nD Cert.MixerOut.τ).loc Cert.MixerOut.main_arg9) = m ((c.tc : Thread Cert.MixerOut.nD Cert.MixerOut.τ).loc Cert.MixerOut.main_arg9))
      ∧ r.2.sem = fun _ => 0)

def quiescent_MixerOutIdeal [hMixerOutIdeal : Cert.MixerOutIdeal.Facts] : Prop :=
  ∀ (m : (ℓ : Loc Cert.MixerOutIdeal.nD Cert.MixerOutIdeal.τ Cert.MixerOutIdeal.sig) → Buf (Elt Ideal) ℓ) (g : Dev Cert.MixerOutIdeal.nD → PrngReg), Pre_MixerOutIdeal m →
    θ_run (Cert.MixerOutIdeal.defs (F := Ideal)) (onTc (τ := Cert.MixerOutIdeal.τ) (Cert.MixerOutIdeal.main (F := Ideal))) ⟨m, fun _ => 0, g⟩ (fun r => (∀ c : Dev Cert.MixerOutIdeal.nD,
      r.2.mem ((c.tc : Thread Cert.MixerOutIdeal.nD Cert.MixerOutIdeal.τ).loc Cert.MixerOutIdeal.main_arg0) = m ((c.tc : Thread Cert.MixerOutIdeal.nD Cert.MixerOutIdeal.τ).loc Cert.MixerOutIdeal.main_arg0)
      ∧ r.2.mem ((c.tc : Thread Cert.MixerOutIdeal.nD Cert.MixerOutIdeal.τ).loc Cert.MixerOutIdeal.main_arg1) = m ((c.tc : Thread Cert.MixerOutIdeal.nD Cert.MixerOutIdeal.τ).loc Cert.MixerOutIdeal.main_arg1)
      ∧ r.2.mem ((c.tc : Thread Cert.MixerOutIdeal.nD Cert.MixerOutIdeal.τ).loc Cert.MixerOutIdeal.main_arg2) = m ((c.tc : Thread Cert.MixerOutIdeal.nD Cert.MixerOutIdeal.τ).loc Cert.MixerOutIdeal.main_arg2)
      ∧ r.2.mem ((c.tc : Thread Cert.MixerOutIdeal.nD Cert.MixerOutIdeal.τ).loc Cert.MixerOutIdeal.main_arg3) = m ((c.tc : Thread Cert.MixerOutIdeal.nD Cert.MixerOutIdeal.τ).loc Cert.MixerOutIdeal.main_arg3)
      ∧ r.2.mem ((c.tc : Thread Cert.MixerOutIdeal.nD Cert.MixerOutIdeal.τ).loc Cert.MixerOutIdeal.main_arg4) = m ((c.tc : Thread Cert.MixerOutIdeal.nD Cert.MixerOutIdeal.τ).loc Cert.MixerOutIdeal.main_arg4)
      ∧ r.2.mem ((c.tc : Thread Cert.MixerOutIdeal.nD Cert.MixerOutIdeal.τ).loc Cert.MixerOutIdeal.main_arg5) = m ((c.tc : Thread Cert.MixerOutIdeal.nD Cert.MixerOutIdeal.τ).loc Cert.MixerOutIdeal.main_arg5)
      ∧ r.2.mem ((c.tc : Thread Cert.MixerOutIdeal.nD Cert.MixerOutIdeal.τ).loc Cert.MixerOutIdeal.main_arg6) = m ((c.tc : Thread Cert.MixerOutIdeal.nD Cert.MixerOutIdeal.τ).loc Cert.MixerOutIdeal.main_arg6)
      ∧ r.2.mem ((c.tc : Thread Cert.MixerOutIdeal.nD Cert.MixerOutIdeal.τ).loc Cert.MixerOutIdeal.main_arg7) = m ((c.tc : Thread Cert.MixerOutIdeal.nD Cert.MixerOutIdeal.τ).loc Cert.MixerOutIdeal.main_arg7)
      ∧ r.2.mem ((c.tc : Thread Cert.MixerOutIdeal.nD Cert.MixerOutIdeal.τ).loc Cert.MixerOutIdeal.main_arg8) = m ((c.tc : Thread Cert.MixerOutIdeal.nD Cert.MixerOutIdeal.τ).loc Cert.MixerOutIdeal.main_arg8)
      ∧ r.2.mem ((c.tc : Thread Cert.MixerOutIdeal.nD Cert.MixerOutIdeal.τ).loc Cert.MixerOutIdeal.main_arg9) = m ((c.tc : Thread Cert.MixerOutIdeal.nD Cert.MixerOutIdeal.τ).loc Cert.MixerOutIdeal.main_arg9))
      ∧ r.2.sem = fun _ => 0)

def quiescent_MixerOutRefIdeal [hMixerOutRefIdeal : Cert.MixerOutRefIdeal.Facts] : Prop :=
  ∀ (m : (ℓ : Loc Cert.MixerOutRefIdeal.nD Cert.MixerOutRefIdeal.τ Cert.MixerOutRefIdeal.sig) → Buf (Elt Ideal) ℓ) (g : Dev Cert.MixerOutRefIdeal.nD → PrngReg), Pre_MixerOutRefIdeal m →
    θ_run (Cert.MixerOutRefIdeal.defs (F := Ideal)) (onTc (τ := Cert.MixerOutRefIdeal.τ) (Cert.MixerOutRefIdeal.main (F := Ideal))) ⟨m, fun _ => 0, g⟩ (fun r => (∀ c : Dev Cert.MixerOutRefIdeal.nD,
      r.2.mem ((c.tc : Thread Cert.MixerOutRefIdeal.nD Cert.MixerOutRefIdeal.τ).loc Cert.MixerOutRefIdeal.main_arg0) = m ((c.tc : Thread Cert.MixerOutRefIdeal.nD Cert.MixerOutRefIdeal.τ).loc Cert.MixerOutRefIdeal.main_arg0)
      ∧ r.2.mem ((c.tc : Thread Cert.MixerOutRefIdeal.nD Cert.MixerOutRefIdeal.τ).loc Cert.MixerOutRefIdeal.main_arg1) = m ((c.tc : Thread Cert.MixerOutRefIdeal.nD Cert.MixerOutRefIdeal.τ).loc Cert.MixerOutRefIdeal.main_arg1)
      ∧ r.2.mem ((c.tc : Thread Cert.MixerOutRefIdeal.nD Cert.MixerOutRefIdeal.τ).loc Cert.MixerOutRefIdeal.main_arg2) = m ((c.tc : Thread Cert.MixerOutRefIdeal.nD Cert.MixerOutRefIdeal.τ).loc Cert.MixerOutRefIdeal.main_arg2)
      ∧ r.2.mem ((c.tc : Thread Cert.MixerOutRefIdeal.nD Cert.MixerOutRefIdeal.τ).loc Cert.MixerOutRefIdeal.main_arg3) = m ((c.tc : Thread Cert.MixerOutRefIdeal.nD Cert.MixerOutRefIdeal.τ).loc Cert.MixerOutRefIdeal.main_arg3)
      ∧ r.2.mem ((c.tc : Thread Cert.MixerOutRefIdeal.nD Cert.MixerOutRefIdeal.τ).loc Cert.MixerOutRefIdeal.main_arg4) = m ((c.tc : Thread Cert.MixerOutRefIdeal.nD Cert.MixerOutRefIdeal.τ).loc Cert.MixerOutRefIdeal.main_arg4)
      ∧ r.2.mem ((c.tc : Thread Cert.MixerOutRefIdeal.nD Cert.MixerOutRefIdeal.τ).loc Cert.MixerOutRefIdeal.main_arg5) = m ((c.tc : Thread Cert.MixerOutRefIdeal.nD Cert.MixerOutRefIdeal.τ).loc Cert.MixerOutRefIdeal.main_arg5)
      ∧ r.2.mem ((c.tc : Thread Cert.MixerOutRefIdeal.nD Cert.MixerOutRefIdeal.τ).loc Cert.MixerOutRefIdeal.main_arg6) = m ((c.tc : Thread Cert.MixerOutRefIdeal.nD Cert.MixerOutRefIdeal.τ).loc Cert.MixerOutRefIdeal.main_arg6)
      ∧ r.2.mem ((c.tc : Thread Cert.MixerOutRefIdeal.nD Cert.MixerOutRefIdeal.τ).loc Cert.MixerOutRefIdeal.main_arg7) = m ((c.tc : Thread Cert.MixerOutRefIdeal.nD Cert.MixerOutRefIdeal.τ).loc Cert.MixerOutRefIdeal.main_arg7)
      ∧ r.2.mem ((c.tc : Thread Cert.MixerOutRefIdeal.nD Cert.MixerOutRefIdeal.τ).loc Cert.MixerOutRefIdeal.main_arg8) = m ((c.tc : Thread Cert.MixerOutRefIdeal.nD Cert.MixerOutRefIdeal.τ).loc Cert.MixerOutRefIdeal.main_arg8)
      ∧ r.2.mem ((c.tc : Thread Cert.MixerOutRefIdeal.nD Cert.MixerOutRefIdeal.τ).loc Cert.MixerOutRefIdeal.main_arg9) = m ((c.tc : Thread Cert.MixerOutRefIdeal.nD Cert.MixerOutRefIdeal.τ).loc Cert.MixerOutRefIdeal.main_arg9))
      ∧ r.2.sem = fun _ => 0)

def quiescent_Inproj [hInproj : Cert.Inproj.Facts] : Prop :=
  ∀ (m : (ℓ : Loc Cert.Inproj.nD Cert.Inproj.τ Cert.Inproj.sig) → Buf (Elt Bits) ℓ) (g : Dev Cert.Inproj.nD → PrngReg), Pre_Inproj m →
    θ_run (Cert.Inproj.defs (F := Bits)) (onTc (τ := Cert.Inproj.τ) (Cert.Inproj.main (F := Bits))) ⟨m, fun _ => 0, g⟩ (fun r => (∀ c : Dev Cert.Inproj.nD,
      r.2.mem ((c.tc : Thread Cert.Inproj.nD Cert.Inproj.τ).loc Cert.Inproj.main_arg0) = m ((c.tc : Thread Cert.Inproj.nD Cert.Inproj.τ).loc Cert.Inproj.main_arg0)
      ∧ r.2.mem ((c.tc : Thread Cert.Inproj.nD Cert.Inproj.τ).loc Cert.Inproj.main_arg1) = m ((c.tc : Thread Cert.Inproj.nD Cert.Inproj.τ).loc Cert.Inproj.main_arg1)
      ∧ r.2.mem ((c.tc : Thread Cert.Inproj.nD Cert.Inproj.τ).loc Cert.Inproj.main_arg2) = m ((c.tc : Thread Cert.Inproj.nD Cert.Inproj.τ).loc Cert.Inproj.main_arg2))
      ∧ r.2.sem = fun _ => 0)

def quiescent_InprojIdeal [hInprojIdeal : Cert.InprojIdeal.Facts] : Prop :=
  ∀ (m : (ℓ : Loc Cert.InprojIdeal.nD Cert.InprojIdeal.τ Cert.InprojIdeal.sig) → Buf (Elt Ideal) ℓ) (g : Dev Cert.InprojIdeal.nD → PrngReg), Pre_InprojIdeal m →
    θ_run (Cert.InprojIdeal.defs (F := Ideal)) (onTc (τ := Cert.InprojIdeal.τ) (Cert.InprojIdeal.main (F := Ideal))) ⟨m, fun _ => 0, g⟩ (fun r => (∀ c : Dev Cert.InprojIdeal.nD,
      r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
      ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
      ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2))
      ∧ r.2.sem = fun _ => 0)

def quiescent_InprojRefIdeal [hInprojRefIdeal : Cert.InprojRefIdeal.Facts] : Prop :=
  ∀ (m : (ℓ : Loc Cert.InprojRefIdeal.nD Cert.InprojRefIdeal.τ Cert.InprojRefIdeal.sig) → Buf (Elt Ideal) ℓ) (g : Dev Cert.InprojRefIdeal.nD → PrngReg), Pre_InprojRefIdeal m →
    θ_run (Cert.InprojRefIdeal.defs (F := Ideal)) (onTc (τ := Cert.InprojRefIdeal.τ) (Cert.InprojRefIdeal.main (F := Ideal))) ⟨m, fun _ => 0, g⟩ (fun r => (∀ c : Dev Cert.InprojRefIdeal.nD,
      r.2.mem ((c.tc : Thread Cert.InprojRefIdeal.nD Cert.InprojRefIdeal.τ).loc Cert.InprojRefIdeal.main_arg0) = m ((c.tc : Thread Cert.InprojRefIdeal.nD Cert.InprojRefIdeal.τ).loc Cert.InprojRefIdeal.main_arg0)
      ∧ r.2.mem ((c.tc : Thread Cert.InprojRefIdeal.nD Cert.InprojRefIdeal.τ).loc Cert.InprojRefIdeal.main_arg1) = m ((c.tc : Thread Cert.InprojRefIdeal.nD Cert.InprojRefIdeal.τ).loc Cert.InprojRefIdeal.main_arg1)
      ∧ r.2.mem ((c.tc : Thread Cert.InprojRefIdeal.nD Cert.InprojRefIdeal.τ).loc Cert.InprojRefIdeal.main_arg2) = m ((c.tc : Thread Cert.InprojRefIdeal.nD Cert.InprojRefIdeal.τ).loc Cert.InprojRefIdeal.main_arg2))
      ∧ r.2.sem = fun _ => 0)

def quiescent_GlaFwd [hGlaFwd : Cert.GlaFwd.Facts] : Prop :=
  ∀ (m : (ℓ : Loc Cert.GlaFwd.nD Cert.GlaFwd.τ Cert.GlaFwd.sig) → Buf (Elt Bits) ℓ) (g : Dev Cert.GlaFwd.nD → PrngReg), Pre_GlaFwd m →
    θ_run (Cert.GlaFwd.defs (F := Bits)) (onTc (τ := Cert.GlaFwd.τ) (Cert.GlaFwd.main (F := Bits))) ⟨m, fun _ => 0, g⟩ (fun r => (∀ c : Dev Cert.GlaFwd.nD,
      r.2.mem ((c.tc : Thread Cert.GlaFwd.nD Cert.GlaFwd.τ).loc Cert.GlaFwd.main_arg0) = m ((c.tc : Thread Cert.GlaFwd.nD Cert.GlaFwd.τ).loc Cert.GlaFwd.main_arg0)
      ∧ r.2.mem ((c.tc : Thread Cert.GlaFwd.nD Cert.GlaFwd.τ).loc Cert.GlaFwd.main_arg1) = m ((c.tc : Thread Cert.GlaFwd.nD Cert.GlaFwd.τ).loc Cert.GlaFwd.main_arg1)
      ∧ r.2.mem ((c.tc : Thread Cert.GlaFwd.nD Cert.GlaFwd.τ).loc Cert.GlaFwd.main_arg2) = m ((c.tc : Thread Cert.GlaFwd.nD Cert.GlaFwd.τ).loc Cert.GlaFwd.main_arg2))
      ∧ r.2.sem = fun _ => 0)

def quiescent_GlaFwdIdeal [hGlaFwdIdeal : Cert.GlaFwdIdeal.Facts] : Prop :=
  ∀ (m : (ℓ : Loc Cert.GlaFwdIdeal.nD Cert.GlaFwdIdeal.τ Cert.GlaFwdIdeal.sig) → Buf (Elt Ideal) ℓ) (g : Dev Cert.GlaFwdIdeal.nD → PrngReg), Pre_GlaFwdIdeal m →
    θ_run (Cert.GlaFwdIdeal.defs (F := Ideal)) (onTc (τ := Cert.GlaFwdIdeal.τ) (Cert.GlaFwdIdeal.main (F := Ideal))) ⟨m, fun _ => 0, g⟩ (fun r => (∀ c : Dev Cert.GlaFwdIdeal.nD,
      r.2.mem ((c.tc : Thread Cert.GlaFwdIdeal.nD Cert.GlaFwdIdeal.τ).loc Cert.GlaFwdIdeal.main_arg0) = m ((c.tc : Thread Cert.GlaFwdIdeal.nD Cert.GlaFwdIdeal.τ).loc Cert.GlaFwdIdeal.main_arg0)
      ∧ r.2.mem ((c.tc : Thread Cert.GlaFwdIdeal.nD Cert.GlaFwdIdeal.τ).loc Cert.GlaFwdIdeal.main_arg1) = m ((c.tc : Thread Cert.GlaFwdIdeal.nD Cert.GlaFwdIdeal.τ).loc Cert.GlaFwdIdeal.main_arg1)
      ∧ r.2.mem ((c.tc : Thread Cert.GlaFwdIdeal.nD Cert.GlaFwdIdeal.τ).loc Cert.GlaFwdIdeal.main_arg2) = m ((c.tc : Thread Cert.GlaFwdIdeal.nD Cert.GlaFwdIdeal.τ).loc Cert.GlaFwdIdeal.main_arg2))
      ∧ r.2.sem = fun _ => 0)

def quiescent_GlaFwdRefIdeal [hGlaFwdRefIdeal : Cert.GlaFwdRefIdeal.Facts] : Prop :=
  ∀ (m : (ℓ : Loc Cert.GlaFwdRefIdeal.nD Cert.GlaFwdRefIdeal.τ Cert.GlaFwdRefIdeal.sig) → Buf (Elt Ideal) ℓ) (g : Dev Cert.GlaFwdRefIdeal.nD → PrngReg), Pre_GlaFwdRefIdeal m →
    θ_run (Cert.GlaFwdRefIdeal.defs (F := Ideal)) (onTc (τ := Cert.GlaFwdRefIdeal.τ) (Cert.GlaFwdRefIdeal.main (F := Ideal))) ⟨m, fun _ => 0, g⟩ (fun r => (∀ c : Dev Cert.GlaFwdRefIdeal.nD,
      r.2.mem ((c.tc : Thread Cert.GlaFwdRefIdeal.nD Cert.GlaFwdRefIdeal.τ).loc Cert.GlaFwdRefIdeal.main_arg0) = m ((c.tc : Thread Cert.GlaFwdRefIdeal.nD Cert.GlaFwdRefIdeal.τ).loc Cert.GlaFwdRefIdeal.main_arg0)
      ∧ r.2.mem ((c.tc : Thread Cert.GlaFwdRefIdeal.nD Cert.GlaFwdRefIdeal.τ).loc Cert.GlaFwdRefIdeal.main_arg1) = m ((c.tc : Thread Cert.GlaFwdRefIdeal.nD Cert.GlaFwdRefIdeal.τ).loc Cert.GlaFwdRefIdeal.main_arg1)
      ∧ r.2.mem ((c.tc : Thread Cert.GlaFwdRefIdeal.nD Cert.GlaFwdRefIdeal.τ).loc Cert.GlaFwdRefIdeal.main_arg2) = m ((c.tc : Thread Cert.GlaFwdRefIdeal.nD Cert.GlaFwdRefIdeal.τ).loc Cert.GlaFwdRefIdeal.main_arg2))
      ∧ r.2.sem = fun _ => 0)

def quiescent_GlaRev [hGlaRev : Cert.GlaRev.Facts] : Prop :=
  ∀ (m : (ℓ : Loc Cert.GlaRev.nD Cert.GlaRev.τ Cert.GlaRev.sig) → Buf (Elt Bits) ℓ) (g : Dev Cert.GlaRev.nD → PrngReg), Pre_GlaRev m →
    θ_run (Cert.GlaRev.defs (F := Bits)) (onTc (τ := Cert.GlaRev.τ) (Cert.GlaRev.main (F := Bits))) ⟨m, fun _ => 0, g⟩ (fun r => (∀ c : Dev Cert.GlaRev.nD,
      r.2.mem ((c.tc : Thread Cert.GlaRev.nD Cert.GlaRev.τ).loc Cert.GlaRev.main_arg0) = m ((c.tc : Thread Cert.GlaRev.nD Cert.GlaRev.τ).loc Cert.GlaRev.main_arg0)
      ∧ r.2.mem ((c.tc : Thread Cert.GlaRev.nD Cert.GlaRev.τ).loc Cert.GlaRev.main_arg1) = m ((c.tc : Thread Cert.GlaRev.nD Cert.GlaRev.τ).loc Cert.GlaRev.main_arg1)
      ∧ r.2.mem ((c.tc : Thread Cert.GlaRev.nD Cert.GlaRev.τ).loc Cert.GlaRev.main_arg2) = m ((c.tc : Thread Cert.GlaRev.nD Cert.GlaRev.τ).loc Cert.GlaRev.main_arg2))
      ∧ r.2.sem = fun _ => 0)

def quiescent_GlaRevIdeal [hGlaRevIdeal : Cert.GlaRevIdeal.Facts] : Prop :=
  ∀ (m : (ℓ : Loc Cert.GlaRevIdeal.nD Cert.GlaRevIdeal.τ Cert.GlaRevIdeal.sig) → Buf (Elt Ideal) ℓ) (g : Dev Cert.GlaRevIdeal.nD → PrngReg), Pre_GlaRevIdeal m →
    θ_run (Cert.GlaRevIdeal.defs (F := Ideal)) (onTc (τ := Cert.GlaRevIdeal.τ) (Cert.GlaRevIdeal.main (F := Ideal))) ⟨m, fun _ => 0, g⟩ (fun r => (∀ c : Dev Cert.GlaRevIdeal.nD,
      r.2.mem ((c.tc : Thread Cert.GlaRevIdeal.nD Cert.GlaRevIdeal.τ).loc Cert.GlaRevIdeal.main_arg0) = m ((c.tc : Thread Cert.GlaRevIdeal.nD Cert.GlaRevIdeal.τ).loc Cert.GlaRevIdeal.main_arg0)
      ∧ r.2.mem ((c.tc : Thread Cert.GlaRevIdeal.nD Cert.GlaRevIdeal.τ).loc Cert.GlaRevIdeal.main_arg1) = m ((c.tc : Thread Cert.GlaRevIdeal.nD Cert.GlaRevIdeal.τ).loc Cert.GlaRevIdeal.main_arg1)
      ∧ r.2.mem ((c.tc : Thread Cert.GlaRevIdeal.nD Cert.GlaRevIdeal.τ).loc Cert.GlaRevIdeal.main_arg2) = m ((c.tc : Thread Cert.GlaRevIdeal.nD Cert.GlaRevIdeal.τ).loc Cert.GlaRevIdeal.main_arg2))
      ∧ r.2.sem = fun _ => 0)

def quiescent_GlaRevRefIdeal [hGlaRevRefIdeal : Cert.GlaRevRefIdeal.Facts] : Prop :=
  ∀ (m : (ℓ : Loc Cert.GlaRevRefIdeal.nD Cert.GlaRevRefIdeal.τ Cert.GlaRevRefIdeal.sig) → Buf (Elt Ideal) ℓ) (g : Dev Cert.GlaRevRefIdeal.nD → PrngReg), Pre_GlaRevRefIdeal m →
    θ_run (Cert.GlaRevRefIdeal.defs (F := Ideal)) (onTc (τ := Cert.GlaRevRefIdeal.τ) (Cert.GlaRevRefIdeal.main (F := Ideal))) ⟨m, fun _ => 0, g⟩ (fun r => (∀ c : Dev Cert.GlaRevRefIdeal.nD,
      r.2.mem ((c.tc : Thread Cert.GlaRevRefIdeal.nD Cert.GlaRevRefIdeal.τ).loc Cert.GlaRevRefIdeal.main_arg0) = m ((c.tc : Thread Cert.GlaRevRefIdeal.nD Cert.GlaRevRefIdeal.τ).loc Cert.GlaRevRefIdeal.main_arg0)
      ∧ r.2.mem ((c.tc : Thread Cert.GlaRevRefIdeal.nD Cert.GlaRevRefIdeal.τ).loc Cert.GlaRevRefIdeal.main_arg1) = m ((c.tc : Thread Cert.GlaRevRefIdeal.nD Cert.GlaRevRefIdeal.τ).loc Cert.GlaRevRefIdeal.main_arg1)
      ∧ r.2.mem ((c.tc : Thread Cert.GlaRevRefIdeal.nD Cert.GlaRevRefIdeal.τ).loc Cert.GlaRevRefIdeal.main_arg2) = m ((c.tc : Thread Cert.GlaRevRefIdeal.nD Cert.GlaRevRefIdeal.τ).loc Cert.GlaRevRefIdeal.main_arg2))
      ∧ r.2.sem = fun _ => 0)

def quiescent_FfnWgrad [hFfnWgrad : Cert.FfnWgrad.Facts] : Prop :=
  ∀ (m : (ℓ : Loc Cert.FfnWgrad.nD Cert.FfnWgrad.τ Cert.FfnWgrad.sig) → Buf (Elt Bits) ℓ) (g : Dev Cert.FfnWgrad.nD → PrngReg), Pre_FfnWgrad m →
    θ_run (Cert.FfnWgrad.defs (F := Bits)) (onTc (τ := Cert.FfnWgrad.τ) (Cert.FfnWgrad.main (F := Bits))) ⟨m, fun _ => 0, g⟩ (fun r => (∀ c : Dev Cert.FfnWgrad.nD,
      r.2.mem ((c.tc : Thread Cert.FfnWgrad.nD Cert.FfnWgrad.τ).loc Cert.FfnWgrad.main_arg0) = m ((c.tc : Thread Cert.FfnWgrad.nD Cert.FfnWgrad.τ).loc Cert.FfnWgrad.main_arg0)
      ∧ r.2.mem ((c.tc : Thread Cert.FfnWgrad.nD Cert.FfnWgrad.τ).loc Cert.FfnWgrad.main_arg1) = m ((c.tc : Thread Cert.FfnWgrad.nD Cert.FfnWgrad.τ).loc Cert.FfnWgrad.main_arg1)
      ∧ r.2.mem ((c.tc : Thread Cert.FfnWgrad.nD Cert.FfnWgrad.τ).loc Cert.FfnWgrad.main_arg2) = m ((c.tc : Thread Cert.FfnWgrad.nD Cert.FfnWgrad.τ).loc Cert.FfnWgrad.main_arg2)
      ∧ r.2.mem ((c.tc : Thread Cert.FfnWgrad.nD Cert.FfnWgrad.τ).loc Cert.FfnWgrad.main_arg3) = m ((c.tc : Thread Cert.FfnWgrad.nD Cert.FfnWgrad.τ).loc Cert.FfnWgrad.main_arg3)
      ∧ r.2.mem ((c.tc : Thread Cert.FfnWgrad.nD Cert.FfnWgrad.τ).loc Cert.FfnWgrad.main_arg4) = m ((c.tc : Thread Cert.FfnWgrad.nD Cert.FfnWgrad.τ).loc Cert.FfnWgrad.main_arg4)
      ∧ r.2.mem ((c.tc : Thread Cert.FfnWgrad.nD Cert.FfnWgrad.τ).loc Cert.FfnWgrad.main_arg5) = m ((c.tc : Thread Cert.FfnWgrad.nD Cert.FfnWgrad.τ).loc Cert.FfnWgrad.main_arg5)
      ∧ r.2.mem ((c.tc : Thread Cert.FfnWgrad.nD Cert.FfnWgrad.τ).loc Cert.FfnWgrad.main_arg6) = m ((c.tc : Thread Cert.FfnWgrad.nD Cert.FfnWgrad.τ).loc Cert.FfnWgrad.main_arg6))
      ∧ r.2.sem = fun _ => 0)

def quiescent_FfnWgradIdeal [hFfnWgradIdeal : Cert.FfnWgradIdeal.Facts] : Prop :=
  ∀ (m : (ℓ : Loc Cert.FfnWgradIdeal.nD Cert.FfnWgradIdeal.τ Cert.FfnWgradIdeal.sig) → Buf (Elt Ideal) ℓ) (g : Dev Cert.FfnWgradIdeal.nD → PrngReg), Pre_FfnWgradIdeal m →
    θ_run (Cert.FfnWgradIdeal.defs (F := Ideal)) (onTc (τ := Cert.FfnWgradIdeal.τ) (Cert.FfnWgradIdeal.main (F := Ideal))) ⟨m, fun _ => 0, g⟩ (fun r => (∀ c : Dev Cert.FfnWgradIdeal.nD,
      r.2.mem ((c.tc : Thread Cert.FfnWgradIdeal.nD Cert.FfnWgradIdeal.τ).loc Cert.FfnWgradIdeal.main_arg0) = m ((c.tc : Thread Cert.FfnWgradIdeal.nD Cert.FfnWgradIdeal.τ).loc Cert.FfnWgradIdeal.main_arg0)
      ∧ r.2.mem ((c.tc : Thread Cert.FfnWgradIdeal.nD Cert.FfnWgradIdeal.τ).loc Cert.FfnWgradIdeal.main_arg1) = m ((c.tc : Thread Cert.FfnWgradIdeal.nD Cert.FfnWgradIdeal.τ).loc Cert.FfnWgradIdeal.main_arg1)
      ∧ r.2.mem ((c.tc : Thread Cert.FfnWgradIdeal.nD Cert.FfnWgradIdeal.τ).loc Cert.FfnWgradIdeal.main_arg2) = m ((c.tc : Thread Cert.FfnWgradIdeal.nD Cert.FfnWgradIdeal.τ).loc Cert.FfnWgradIdeal.main_arg2)
      ∧ r.2.mem ((c.tc : Thread Cert.FfnWgradIdeal.nD Cert.FfnWgradIdeal.τ).loc Cert.FfnWgradIdeal.main_arg3) = m ((c.tc : Thread Cert.FfnWgradIdeal.nD Cert.FfnWgradIdeal.τ).loc Cert.FfnWgradIdeal.main_arg3)
      ∧ r.2.mem ((c.tc : Thread Cert.FfnWgradIdeal.nD Cert.FfnWgradIdeal.τ).loc Cert.FfnWgradIdeal.main_arg4) = m ((c.tc : Thread Cert.FfnWgradIdeal.nD Cert.FfnWgradIdeal.τ).loc Cert.FfnWgradIdeal.main_arg4)
      ∧ r.2.mem ((c.tc : Thread Cert.FfnWgradIdeal.nD Cert.FfnWgradIdeal.τ).loc Cert.FfnWgradIdeal.main_arg5) = m ((c.tc : Thread Cert.FfnWgradIdeal.nD Cert.FfnWgradIdeal.τ).loc Cert.FfnWgradIdeal.main_arg5)
      ∧ r.2.mem ((c.tc : Thread Cert.FfnWgradIdeal.nD Cert.FfnWgradIdeal.τ).loc Cert.FfnWgradIdeal.main_arg6) = m ((c.tc : Thread Cert.FfnWgradIdeal.nD Cert.FfnWgradIdeal.τ).loc Cert.FfnWgradIdeal.main_arg6))
      ∧ r.2.sem = fun _ => 0)

def quiescent_FfnWgradRefIdeal [hFfnWgradRefIdeal : Cert.FfnWgradRefIdeal.Facts] : Prop :=
  ∀ (m : (ℓ : Loc Cert.FfnWgradRefIdeal.nD Cert.FfnWgradRefIdeal.τ Cert.FfnWgradRefIdeal.sig) → Buf (Elt Ideal) ℓ) (g : Dev Cert.FfnWgradRefIdeal.nD → PrngReg), Pre_FfnWgradRefIdeal m →
    θ_run (Cert.FfnWgradRefIdeal.defs (F := Ideal)) (onTc (τ := Cert.FfnWgradRefIdeal.τ) (Cert.FfnWgradRefIdeal.main (F := Ideal))) ⟨m, fun _ => 0, g⟩ (fun r => (∀ c : Dev Cert.FfnWgradRefIdeal.nD,
      r.2.mem ((c.tc : Thread Cert.FfnWgradRefIdeal.nD Cert.FfnWgradRefIdeal.τ).loc Cert.FfnWgradRefIdeal.main_arg0) = m ((c.tc : Thread Cert.FfnWgradRefIdeal.nD Cert.FfnWgradRefIdeal.τ).loc Cert.FfnWgradRefIdeal.main_arg0)
      ∧ r.2.mem ((c.tc : Thread Cert.FfnWgradRefIdeal.nD Cert.FfnWgradRefIdeal.τ).loc Cert.FfnWgradRefIdeal.main_arg1) = m ((c.tc : Thread Cert.FfnWgradRefIdeal.nD Cert.FfnWgradRefIdeal.τ).loc Cert.FfnWgradRefIdeal.main_arg1)
      ∧ r.2.mem ((c.tc : Thread Cert.FfnWgradRefIdeal.nD Cert.FfnWgradRefIdeal.τ).loc Cert.FfnWgradRefIdeal.main_arg2) = m ((c.tc : Thread Cert.FfnWgradRefIdeal.nD Cert.FfnWgradRefIdeal.τ).loc Cert.FfnWgradRefIdeal.main_arg2)
      ∧ r.2.mem ((c.tc : Thread Cert.FfnWgradRefIdeal.nD Cert.FfnWgradRefIdeal.τ).loc Cert.FfnWgradRefIdeal.main_arg3) = m ((c.tc : Thread Cert.FfnWgradRefIdeal.nD Cert.FfnWgradRefIdeal.τ).loc Cert.FfnWgradRefIdeal.main_arg3)
      ∧ r.2.mem ((c.tc : Thread Cert.FfnWgradRefIdeal.nD Cert.FfnWgradRefIdeal.τ).loc Cert.FfnWgradRefIdeal.main_arg4) = m ((c.tc : Thread Cert.FfnWgradRefIdeal.nD Cert.FfnWgradRefIdeal.τ).loc Cert.FfnWgradRefIdeal.main_arg4)
      ∧ r.2.mem ((c.tc : Thread Cert.FfnWgradRefIdeal.nD Cert.FfnWgradRefIdeal.τ).loc Cert.FfnWgradRefIdeal.main_arg5) = m ((c.tc : Thread Cert.FfnWgradRefIdeal.nD Cert.FfnWgradRefIdeal.τ).loc Cert.FfnWgradRefIdeal.main_arg5)
      ∧ r.2.mem ((c.tc : Thread Cert.FfnWgradRefIdeal.nD Cert.FfnWgradRefIdeal.τ).loc Cert.FfnWgradRefIdeal.main_arg6) = m ((c.tc : Thread Cert.FfnWgradRefIdeal.nD Cert.FfnWgradRefIdeal.τ).loc Cert.FfnWgradRefIdeal.main_arg6))
      ∧ r.2.sem = fun _ => 0)

def quiescent_Adamw [hAdamw : Cert.Adamw.Facts] : Prop :=
  ∀ (m : (ℓ : Loc Cert.Adamw.nD Cert.Adamw.τ Cert.Adamw.sig) → Buf (Elt Bits) ℓ) (g : Dev Cert.Adamw.nD → PrngReg), Pre_Adamw m →
    θ_run (Cert.Adamw.defs (F := Bits)) (onTc (τ := Cert.Adamw.τ) (Cert.Adamw.main (F := Bits))) ⟨m, fun _ => 0, g⟩ (fun r => (∀ c : Dev Cert.Adamw.nD,
      r.2.mem ((c.tc : Thread Cert.Adamw.nD Cert.Adamw.τ).loc Cert.Adamw.main_arg0) = m ((c.tc : Thread Cert.Adamw.nD Cert.Adamw.τ).loc Cert.Adamw.main_arg0)
      ∧ r.2.mem ((c.tc : Thread Cert.Adamw.nD Cert.Adamw.τ).loc Cert.Adamw.main_arg1) = m ((c.tc : Thread Cert.Adamw.nD Cert.Adamw.τ).loc Cert.Adamw.main_arg1)
      ∧ r.2.mem ((c.tc : Thread Cert.Adamw.nD Cert.Adamw.τ).loc Cert.Adamw.main_arg2) = m ((c.tc : Thread Cert.Adamw.nD Cert.Adamw.τ).loc Cert.Adamw.main_arg2)
      ∧ r.2.mem ((c.tc : Thread Cert.Adamw.nD Cert.Adamw.τ).loc Cert.Adamw.main_arg3) = m ((c.tc : Thread Cert.Adamw.nD Cert.Adamw.τ).loc Cert.Adamw.main_arg3))
      ∧ r.2.sem = fun _ => 0)

def quiescent_AdamwIdeal [hAdamwIdeal : Cert.AdamwIdeal.Facts] : Prop :=
  ∀ (m : (ℓ : Loc Cert.AdamwIdeal.nD Cert.AdamwIdeal.τ Cert.AdamwIdeal.sig) → Buf (Elt Ideal) ℓ) (g : Dev Cert.AdamwIdeal.nD → PrngReg), Pre_AdamwIdeal m →
    θ_run (Cert.AdamwIdeal.defs (F := Ideal)) (onTc (τ := Cert.AdamwIdeal.τ) (Cert.AdamwIdeal.main (F := Ideal))) ⟨m, fun _ => 0, g⟩ (fun r => (∀ c : Dev Cert.AdamwIdeal.nD,
      r.2.mem ((c.tc : Thread Cert.AdamwIdeal.nD Cert.AdamwIdeal.τ).loc Cert.AdamwIdeal.main_arg0) = m ((c.tc : Thread Cert.AdamwIdeal.nD Cert.AdamwIdeal.τ).loc Cert.AdamwIdeal.main_arg0)
      ∧ r.2.mem ((c.tc : Thread Cert.AdamwIdeal.nD Cert.AdamwIdeal.τ).loc Cert.AdamwIdeal.main_arg1) = m ((c.tc : Thread Cert.AdamwIdeal.nD Cert.AdamwIdeal.τ).loc Cert.AdamwIdeal.main_arg1)
      ∧ r.2.mem ((c.tc : Thread Cert.AdamwIdeal.nD Cert.AdamwIdeal.τ).loc Cert.AdamwIdeal.main_arg2) = m ((c.tc : Thread Cert.AdamwIdeal.nD Cert.AdamwIdeal.τ).loc Cert.AdamwIdeal.main_arg2)
      ∧ r.2.mem ((c.tc : Thread Cert.AdamwIdeal.nD Cert.AdamwIdeal.τ).loc Cert.AdamwIdeal.main_arg3) = m ((c.tc : Thread Cert.AdamwIdeal.nD Cert.AdamwIdeal.τ).loc Cert.AdamwIdeal.main_arg3))
      ∧ r.2.sem = fun _ => 0)

def quiescent_AdamwRefIdeal [hAdamwRefIdeal : Cert.AdamwRefIdeal.Facts] : Prop :=
  ∀ (m : (ℓ : Loc Cert.AdamwRefIdeal.nD Cert.AdamwRefIdeal.τ Cert.AdamwRefIdeal.sig) → Buf (Elt Ideal) ℓ) (g : Dev Cert.AdamwRefIdeal.nD → PrngReg), Pre_AdamwRefIdeal m →
    θ_run (Cert.AdamwRefIdeal.defs (F := Ideal)) (onTc (τ := Cert.AdamwRefIdeal.τ) (Cert.AdamwRefIdeal.main (F := Ideal))) ⟨m, fun _ => 0, g⟩ (fun r => (∀ c : Dev Cert.AdamwRefIdeal.nD,
      r.2.mem ((c.tc : Thread Cert.AdamwRefIdeal.nD Cert.AdamwRefIdeal.τ).loc Cert.AdamwRefIdeal.main_arg0) = m ((c.tc : Thread Cert.AdamwRefIdeal.nD Cert.AdamwRefIdeal.τ).loc Cert.AdamwRefIdeal.main_arg0)
      ∧ r.2.mem ((c.tc : Thread Cert.AdamwRefIdeal.nD Cert.AdamwRefIdeal.τ).loc Cert.AdamwRefIdeal.main_arg1) = m ((c.tc : Thread Cert.AdamwRefIdeal.nD Cert.AdamwRefIdeal.τ).loc Cert.AdamwRefIdeal.main_arg1)
      ∧ r.2.mem ((c.tc : Thread Cert.AdamwRefIdeal.nD Cert.AdamwRefIdeal.τ).loc Cert.AdamwRefIdeal.main_arg2) = m ((c.tc : Thread Cert.AdamwRefIdeal.nD Cert.AdamwRefIdeal.τ).loc Cert.AdamwRefIdeal.main_arg2)
      ∧ r.2.mem ((c.tc : Thread Cert.AdamwRefIdeal.nD Cert.AdamwRefIdeal.τ).loc Cert.AdamwRefIdeal.main_arg3) = m ((c.tc : Thread Cert.AdamwRefIdeal.nD Cert.AdamwRefIdeal.τ).loc Cert.AdamwRefIdeal.main_arg3))
      ∧ r.2.sem = fun _ => 0)

def quiescent_AddPartials [hAddPartials : Cert.AddPartials.Facts] : Prop :=
  ∀ (m : (ℓ : Loc Cert.AddPartials.nD Cert.AddPartials.τ Cert.AddPartials.sig) → Buf (Elt Bits) ℓ) (g : Dev Cert.AddPartials.nD → PrngReg), Pre_AddPartials m →
    θ_run (Cert.AddPartials.defs (F := Bits)) (onTc (τ := Cert.AddPartials.τ) (Cert.AddPartials.main (F := Bits))) ⟨m, fun _ => 0, g⟩ (fun r => (∀ c : Dev Cert.AddPartials.nD,
      r.2.mem ((c.tc : Thread Cert.AddPartials.nD Cert.AddPartials.τ).loc Cert.AddPartials.main_arg0) = m ((c.tc : Thread Cert.AddPartials.nD Cert.AddPartials.τ).loc Cert.AddPartials.main_arg0)
      ∧ r.2.mem ((c.tc : Thread Cert.AddPartials.nD Cert.AddPartials.τ).loc Cert.AddPartials.main_arg1) = m ((c.tc : Thread Cert.AddPartials.nD Cert.AddPartials.τ).loc Cert.AddPartials.main_arg1))
      ∧ r.2.sem = fun _ => 0)

def quiescent_AddPartialsIdeal [hAddPartialsIdeal : Cert.AddPartialsIdeal.Facts] : Prop :=
  ∀ (m : (ℓ : Loc Cert.AddPartialsIdeal.nD Cert.AddPartialsIdeal.τ Cert.AddPartialsIdeal.sig) → Buf (Elt Ideal) ℓ) (g : Dev Cert.AddPartialsIdeal.nD → PrngReg), Pre_AddPartialsIdeal m →
    θ_run (Cert.AddPartialsIdeal.defs (F := Ideal)) (onTc (τ := Cert.AddPartialsIdeal.τ) (Cert.AddPartialsIdeal.main (F := Ideal))) ⟨m, fun _ => 0, g⟩ (fun r => (∀ c : Dev Cert.AddPartialsIdeal.nD,
      r.2.mem ((c.tc : Thread Cert.AddPartialsIdeal.nD Cert.AddPartialsIdeal.τ).loc Cert.AddPartialsIdeal.main_arg0) = m ((c.tc : Thread Cert.AddPartialsIdeal.nD Cert.AddPartialsIdeal.τ).loc Cert.AddPartialsIdeal.main_arg0)
      ∧ r.2.mem ((c.tc : Thread Cert.AddPartialsIdeal.nD Cert.AddPartialsIdeal.τ).loc Cert.AddPartialsIdeal.main_arg1) = m ((c.tc : Thread Cert.AddPartialsIdeal.nD Cert.AddPartialsIdeal.τ).loc Cert.AddPartialsIdeal.main_arg1))
      ∧ r.2.sem = fun _ => 0)

def quiescent_AddPartialsRefIdeal [hAddPartialsRefIdeal : Cert.AddPartialsRefIdeal.Facts] : Prop :=
  ∀ (m : (ℓ : Loc Cert.AddPartialsRefIdeal.nD Cert.AddPartialsRefIdeal.τ Cert.AddPartialsRefIdeal.sig) → Buf (Elt Ideal) ℓ) (g : Dev Cert.AddPartialsRefIdeal.nD → PrngReg), Pre_AddPartialsRefIdeal m →
    θ_run (Cert.AddPartialsRefIdeal.defs (F := Ideal)) (onTc (τ := Cert.AddPartialsRefIdeal.τ) (Cert.AddPartialsRefIdeal.main (F := Ideal))) ⟨m, fun _ => 0, g⟩ (fun r => (∀ c : Dev Cert.AddPartialsRefIdeal.nD,
      r.2.mem ((c.tc : Thread Cert.AddPartialsRefIdeal.nD Cert.AddPartialsRefIdeal.τ).loc Cert.AddPartialsRefIdeal.main_arg0) = m ((c.tc : Thread Cert.AddPartialsRefIdeal.nD Cert.AddPartialsRefIdeal.τ).loc Cert.AddPartialsRefIdeal.main_arg0)
      ∧ r.2.mem ((c.tc : Thread Cert.AddPartialsRefIdeal.nD Cert.AddPartialsRefIdeal.τ).loc Cert.AddPartialsRefIdeal.main_arg1) = m ((c.tc : Thread Cert.AddPartialsRefIdeal.nD Cert.AddPartialsRefIdeal.τ).loc Cert.AddPartialsRefIdeal.main_arg1))
      ∧ r.2.sem = fun _ => 0)

def preserves_InprojDx_InprojDxIdeal : Prop :=
  True

def algebraic_InprojDxIdeal_InprojDxRefIdeal [hInprojDxIdeal : Cert.InprojDxIdeal.Facts] [hInprojDxRefIdeal : Cert.InprojDxRefIdeal.Facts] : Prop :=
  ∀ (m : (ℓ : Loc Cert.InprojDxIdeal.nD Cert.InprojDxIdeal.τ Cert.InprojDxIdeal.sig) → Buf (Elt Ideal) ℓ) (g : Dev Cert.InprojDxIdeal.nD → PrngReg)
    (m' : (ℓ : Loc Cert.InprojDxRefIdeal.nD Cert.InprojDxRefIdeal.τ Cert.InprojDxRefIdeal.sig) → Buf (Elt Ideal) ℓ) (g' : Dev Cert.InprojDxRefIdeal.nD → PrngReg), Pre_InprojDxIdeal m →
    (∀ c : Dev Cert.InprojDxIdeal.nD,
      m' ((c.tc : Thread Cert.InprojDxRefIdeal.nD Cert.InprojDxRefIdeal.τ).loc Cert.InprojDxRefIdeal.main_arg0) = m ((c.tc : Thread Cert.InprojDxIdeal.nD Cert.InprojDxIdeal.τ).loc Cert.InprojDxIdeal.main_arg0)
      ∧ m' ((c.tc : Thread Cert.InprojDxRefIdeal.nD Cert.InprojDxRefIdeal.τ).loc Cert.InprojDxRefIdeal.main_arg1) = m ((c.tc : Thread Cert.InprojDxIdeal.nD Cert.InprojDxIdeal.τ).loc Cert.InprojDxIdeal.main_arg1)
      ∧ m' ((c.tc : Thread Cert.InprojDxRefIdeal.nD Cert.InprojDxRefIdeal.τ).loc Cert.InprojDxRefIdeal.main_arg2) = m ((c.tc : Thread Cert.InprojDxIdeal.nD Cert.InprojDxIdeal.τ).loc Cert.InprojDxIdeal.main_arg2)
      ∧ m' ((c.tc : Thread Cert.InprojDxRefIdeal.nD Cert.InprojDxRefIdeal.τ).loc Cert.InprojDxRefIdeal.main_arg3) = m ((c.tc : Thread Cert.InprojDxIdeal.nD Cert.InprojDxIdeal.τ).loc Cert.InprojDxIdeal.main_arg3)
      ∧ m' ((c.tc : Thread Cert.InprojDxRefIdeal.nD Cert.InprojDxRefIdeal.τ).loc Cert.InprojDxRefIdeal.main_arg4) = m ((c.tc : Thread Cert.InprojDxIdeal.nD Cert.InprojDxIdeal.τ).loc Cert.InprojDxIdeal.main_arg4)) →
    ∃ (v0 : (c : Dev Cert.InprojDxIdeal.nD) → Buf (Elt Ideal) ((c.tc : Thread Cert.InprojDxIdeal.nD Cert.InprojDxIdeal.τ).loc Cert.InprojDxIdeal.main_v13_0)) (v1 : (c : Dev Cert.InprojDxIdeal.nD) → Buf (Elt Ideal) ((c.tc : Thread Cert.InprojDxIdeal.nD Cert.InprojDxIdeal.τ).loc Cert.InprojDxIdeal.main_v13_1)),
      θ_run (Cert.InprojDxIdeal.defs (F := Ideal)) (onTc (τ := Cert.InprojDxIdeal.τ) (Cert.InprojDxIdeal.main (F := Ideal))) ⟨m, fun _ => 0, g⟩ (fun r => ∀ c : Dev Cert.InprojDxIdeal.nD,
          r.2.mem ((c.tc : Thread Cert.InprojDxIdeal.nD Cert.InprojDxIdeal.τ).loc Cert.InprojDxIdeal.main_v13_0) = v0 c
          ∧ r.2.mem ((c.tc : Thread Cert.InprojDxIdeal.nD Cert.InprojDxIdeal.τ).loc Cert.InprojDxIdeal.main_v13_1) = v1 c
          ∧ r.2.mem ((c.tc : Thread Cert.InprojDxIdeal.nD Cert.InprojDxIdeal.τ).loc Cert.InprojDxIdeal.main_arg0) = m ((c.tc : Thread Cert.InprojDxIdeal.nD Cert.InprojDxIdeal.τ).loc Cert.InprojDxIdeal.main_arg0)
          ∧ r.2.mem ((c.tc : Thread Cert.InprojDxIdeal.nD Cert.InprojDxIdeal.τ).loc Cert.InprojDxIdeal.main_arg1) = m ((c.tc : Thread Cert.InprojDxIdeal.nD Cert.InprojDxIdeal.τ).loc Cert.InprojDxIdeal.main_arg1)
          ∧ r.2.mem ((c.tc : Thread Cert.InprojDxIdeal.nD Cert.InprojDxIdeal.τ).loc Cert.InprojDxIdeal.main_arg2) = m ((c.tc : Thread Cert.InprojDxIdeal.nD Cert.InprojDxIdeal.τ).loc Cert.InprojDxIdeal.main_arg2)
          ∧ r.2.mem ((c.tc : Thread Cert.InprojDxIdeal.nD Cert.InprojDxIdeal.τ).loc Cert.InprojDxIdeal.main_arg3) = m ((c.tc : Thread Cert.InprojDxIdeal.nD Cert.InprojDxIdeal.τ).loc Cert.InprojDxIdeal.main_arg3)
          ∧ r.2.mem ((c.tc : Thread Cert.InprojDxIdeal.nD Cert.InprojDxIdeal.τ).loc Cert.InprojDxIdeal.main_arg4) = m ((c.tc : Thread Cert.InprojDxIdeal.nD Cert.InprojDxIdeal.τ).loc Cert.InprojDxIdeal.main_arg4))
      ∧ θ_run (Cert.InprojDxRefIdeal.defs (F := Ideal)) (onTc (τ := Cert.InprojDxRefIdeal.τ) (Cert.InprojDxRefIdeal.main (F := Ideal))) ⟨m', fun _ => 0, g'⟩ (fun r => ∀ c : Dev Cert.InprojDxRefIdeal.nD,
          r.2.mem ((c.tc : Thread Cert.InprojDxRefIdeal.nD Cert.InprojDxRefIdeal.τ).loc Cert.InprojDxRefIdeal.main_v43) = v0 c
          ∧ r.2.mem ((c.tc : Thread Cert.InprojDxRefIdeal.nD Cert.InprojDxRefIdeal.τ).loc Cert.InprojDxRefIdeal.main_v42) = v1 c
          ∧ r.2.mem ((c.tc : Thread Cert.InprojDxRefIdeal.nD Cert.InprojDxRefIdeal.τ).loc Cert.InprojDxRefIdeal.main_arg0) = m' ((c.tc : Thread Cert.InprojDxRefIdeal.nD Cert.InprojDxRefIdeal.τ).loc Cert.InprojDxRefIdeal.main_arg0)
          ∧ r.2.mem ((c.tc : Thread Cert.InprojDxRefIdeal.nD Cert.InprojDxRefIdeal.τ).loc Cert.InprojDxRefIdeal.main_arg1) = m' ((c.tc : Thread Cert.InprojDxRefIdeal.nD Cert.InprojDxRefIdeal.τ).loc Cert.InprojDxRefIdeal.main_arg1)
          ∧ r.2.mem ((c.tc : Thread Cert.InprojDxRefIdeal.nD Cert.InprojDxRefIdeal.τ).loc Cert.InprojDxRefIdeal.main_arg2) = m' ((c.tc : Thread Cert.InprojDxRefIdeal.nD Cert.InprojDxRefIdeal.τ).loc Cert.InprojDxRefIdeal.main_arg2)
          ∧ r.2.mem ((c.tc : Thread Cert.InprojDxRefIdeal.nD Cert.InprojDxRefIdeal.τ).loc Cert.InprojDxRefIdeal.main_arg3) = m' ((c.tc : Thread Cert.InprojDxRefIdeal.nD Cert.InprojDxRefIdeal.τ).loc Cert.InprojDxRefIdeal.main_arg3)
          ∧ r.2.mem ((c.tc : Thread Cert.InprojDxRefIdeal.nD Cert.InprojDxRefIdeal.τ).loc Cert.InprojDxRefIdeal.main_arg4) = m' ((c.tc : Thread Cert.InprojDxRefIdeal.nD Cert.InprojDxRefIdeal.τ).loc Cert.InprojDxRefIdeal.main_arg4))

def preserves_FfnBwd_FfnBwdIdeal : Prop :=
  True

def algebraic_FfnBwdIdeal_FfnBwdRefIdeal_pre_finite_ffn_bwd [hFfnBwdIdeal : Cert.FfnBwdIdeal.Facts] [hFfnBwdRefIdeal : Cert.FfnBwdRefIdeal.Facts] [hPre_finite_ffn_bwd : Cert.Pre_finite_ffn_bwd.Facts] : Prop :=
  ∀ (m : (ℓ : Loc Cert.FfnBwdIdeal.nD Cert.FfnBwdIdeal.τ Cert.FfnBwdIdeal.sig) → Buf (Elt Ideal) ℓ) (g : Dev Cert.FfnBwdIdeal.nD → PrngReg)
    (m' : (ℓ : Loc Cert.FfnBwdRefIdeal.nD Cert.FfnBwdRefIdeal.τ Cert.FfnBwdRefIdeal.sig) → Buf (Elt Ideal) ℓ) (g' : Dev Cert.FfnBwdRefIdeal.nD → PrngReg), Pre_FfnBwdIdeal_finite_ffn_bwd m →
    (∀ c : Dev Cert.FfnBwdIdeal.nD,
      m' ((c.tc : Thread Cert.FfnBwdRefIdeal.nD Cert.FfnBwdRefIdeal.τ).loc Cert.FfnBwdRefIdeal.main_arg0) = m ((c.tc : Thread Cert.FfnBwdIdeal.nD Cert.FfnBwdIdeal.τ).loc Cert.FfnBwdIdeal.main_arg0)
      ∧ m' ((c.tc : Thread Cert.FfnBwdRefIdeal.nD Cert.FfnBwdRefIdeal.τ).loc Cert.FfnBwdRefIdeal.main_arg1) = m ((c.tc : Thread Cert.FfnBwdIdeal.nD Cert.FfnBwdIdeal.τ).loc Cert.FfnBwdIdeal.main_arg1)
      ∧ m' ((c.tc : Thread Cert.FfnBwdRefIdeal.nD Cert.FfnBwdRefIdeal.τ).loc Cert.FfnBwdRefIdeal.main_arg2) = m ((c.tc : Thread Cert.FfnBwdIdeal.nD Cert.FfnBwdIdeal.τ).loc Cert.FfnBwdIdeal.main_arg2)
      ∧ m' ((c.tc : Thread Cert.FfnBwdRefIdeal.nD Cert.FfnBwdRefIdeal.τ).loc Cert.FfnBwdRefIdeal.main_arg3) = m ((c.tc : Thread Cert.FfnBwdIdeal.nD Cert.FfnBwdIdeal.τ).loc Cert.FfnBwdIdeal.main_arg3)
      ∧ m' ((c.tc : Thread Cert.FfnBwdRefIdeal.nD Cert.FfnBwdRefIdeal.τ).loc Cert.FfnBwdRefIdeal.main_arg4) = m ((c.tc : Thread Cert.FfnBwdIdeal.nD Cert.FfnBwdIdeal.τ).loc Cert.FfnBwdIdeal.main_arg4)
      ∧ m' ((c.tc : Thread Cert.FfnBwdRefIdeal.nD Cert.FfnBwdRefIdeal.τ).loc Cert.FfnBwdRefIdeal.main_arg5) = m ((c.tc : Thread Cert.FfnBwdIdeal.nD Cert.FfnBwdIdeal.τ).loc Cert.FfnBwdIdeal.main_arg5)) →
    ∃ (v0 : (c : Dev Cert.FfnBwdIdeal.nD) → Buf (Elt Ideal) ((c.tc : Thread Cert.FfnBwdIdeal.nD Cert.FfnBwdIdeal.τ).loc Cert.FfnBwdIdeal.main_v30_0)) (v1 : (c : Dev Cert.FfnBwdIdeal.nD) → Buf (Elt Ideal) ((c.tc : Thread Cert.FfnBwdIdeal.nD Cert.FfnBwdIdeal.τ).loc Cert.FfnBwdIdeal.main_v30_1)) (v2 : (c : Dev Cert.FfnBwdIdeal.nD) → Buf (Elt Ideal) ((c.tc : Thread Cert.FfnBwdIdeal.nD Cert.FfnBwdIdeal.τ).loc Cert.FfnBwdIdeal.main_v30_2)) (v3 : (c : Dev Cert.FfnBwdIdeal.nD) → Buf (Elt Ideal) ((c.tc : Thread Cert.FfnBwdIdeal.nD Cert.FfnBwdIdeal.τ).loc Cert.FfnBwdIdeal.main_v30_3)),
      θ_run (Cert.FfnBwdIdeal.defs (F := Ideal)) (onTc (τ := Cert.FfnBwdIdeal.τ) (Cert.FfnBwdIdeal.main (F := Ideal))) ⟨m, fun _ => 0, g⟩ (fun r => ∀ c : Dev Cert.FfnBwdIdeal.nD,
          r.2.mem ((c.tc : Thread Cert.FfnBwdIdeal.nD Cert.FfnBwdIdeal.τ).loc Cert.FfnBwdIdeal.main_v30_0) = v0 c
          ∧ r.2.mem ((c.tc : Thread Cert.FfnBwdIdeal.nD Cert.FfnBwdIdeal.τ).loc Cert.FfnBwdIdeal.main_v30_1) = v1 c
          ∧ r.2.mem ((c.tc : Thread Cert.FfnBwdIdeal.nD Cert.FfnBwdIdeal.τ).loc Cert.FfnBwdIdeal.main_v30_2) = v2 c
          ∧ r.2.mem ((c.tc : Thread Cert.FfnBwdIdeal.nD Cert.FfnBwdIdeal.τ).loc Cert.FfnBwdIdeal.main_v30_3) = v3 c
          ∧ r.2.mem ((c.tc : Thread Cert.FfnBwdIdeal.nD Cert.FfnBwdIdeal.τ).loc Cert.FfnBwdIdeal.main_arg0) = m ((c.tc : Thread Cert.FfnBwdIdeal.nD Cert.FfnBwdIdeal.τ).loc Cert.FfnBwdIdeal.main_arg0)
          ∧ r.2.mem ((c.tc : Thread Cert.FfnBwdIdeal.nD Cert.FfnBwdIdeal.τ).loc Cert.FfnBwdIdeal.main_arg1) = m ((c.tc : Thread Cert.FfnBwdIdeal.nD Cert.FfnBwdIdeal.τ).loc Cert.FfnBwdIdeal.main_arg1)
          ∧ r.2.mem ((c.tc : Thread Cert.FfnBwdIdeal.nD Cert.FfnBwdIdeal.τ).loc Cert.FfnBwdIdeal.main_arg2) = m ((c.tc : Thread Cert.FfnBwdIdeal.nD Cert.FfnBwdIdeal.τ).loc Cert.FfnBwdIdeal.main_arg2)
          ∧ r.2.mem ((c.tc : Thread Cert.FfnBwdIdeal.nD Cert.FfnBwdIdeal.τ).loc Cert.FfnBwdIdeal.main_arg3) = m ((c.tc : Thread Cert.FfnBwdIdeal.nD Cert.FfnBwdIdeal.τ).loc Cert.FfnBwdIdeal.main_arg3)
          ∧ r.2.mem ((c.tc : Thread Cert.FfnBwdIdeal.nD Cert.FfnBwdIdeal.τ).loc Cert.FfnBwdIdeal.main_arg4) = m ((c.tc : Thread Cert.FfnBwdIdeal.nD Cert.FfnBwdIdeal.τ).loc Cert.FfnBwdIdeal.main_arg4)
          ∧ r.2.mem ((c.tc : Thread Cert.FfnBwdIdeal.nD Cert.FfnBwdIdeal.τ).loc Cert.FfnBwdIdeal.main_arg5) = m ((c.tc : Thread Cert.FfnBwdIdeal.nD Cert.FfnBwdIdeal.τ).loc Cert.FfnBwdIdeal.main_arg5))
      ∧ θ_run (Cert.FfnBwdRefIdeal.defs (F := Ideal)) (onTc (τ := Cert.FfnBwdRefIdeal.τ) (Cert.FfnBwdRefIdeal.main (F := Ideal))) ⟨m', fun _ => 0, g'⟩ (fun r => ∀ c : Dev Cert.FfnBwdRefIdeal.nD,
          r.2.mem ((c.tc : Thread Cert.FfnBwdRefIdeal.nD Cert.FfnBwdRefIdeal.τ).loc Cert.FfnBwdRefIdeal.main_v58) = v0 c
          ∧ r.2.mem ((c.tc : Thread Cert.FfnBwdRefIdeal.nD Cert.FfnBwdRefIdeal.τ).loc Cert.FfnBwdRefIdeal.main_v60) = v1 c
          ∧ r.2.mem ((c.tc : Thread Cert.FfnBwdRefIdeal.nD Cert.FfnBwdRefIdeal.τ).loc Cert.FfnBwdRefIdeal.main_v61) = v2 c
          ∧ r.2.mem ((c.tc : Thread Cert.FfnBwdRefIdeal.nD Cert.FfnBwdRefIdeal.τ).loc Cert.FfnBwdRefIdeal.main_v56) = v3 c
          ∧ r.2.mem ((c.tc : Thread Cert.FfnBwdRefIdeal.nD Cert.FfnBwdRefIdeal.τ).loc Cert.FfnBwdRefIdeal.main_arg0) = m' ((c.tc : Thread Cert.FfnBwdRefIdeal.nD Cert.FfnBwdRefIdeal.τ).loc Cert.FfnBwdRefIdeal.main_arg0)
          ∧ r.2.mem ((c.tc : Thread Cert.FfnBwdRefIdeal.nD Cert.FfnBwdRefIdeal.τ).loc Cert.FfnBwdRefIdeal.main_arg1) = m' ((c.tc : Thread Cert.FfnBwdRefIdeal.nD Cert.FfnBwdRefIdeal.τ).loc Cert.FfnBwdRefIdeal.main_arg1)
          ∧ r.2.mem ((c.tc : Thread Cert.FfnBwdRefIdeal.nD Cert.FfnBwdRefIdeal.τ).loc Cert.FfnBwdRefIdeal.main_arg2) = m' ((c.tc : Thread Cert.FfnBwdRefIdeal.nD Cert.FfnBwdRefIdeal.τ).loc Cert.FfnBwdRefIdeal.main_arg2)
          ∧ r.2.mem ((c.tc : Thread Cert.FfnBwdRefIdeal.nD Cert.FfnBwdRefIdeal.τ).loc Cert.FfnBwdRefIdeal.main_arg3) = m' ((c.tc : Thread Cert.FfnBwdRefIdeal.nD Cert.FfnBwdRefIdeal.τ).loc Cert.FfnBwdRefIdeal.main_arg3)
          ∧ r.2.mem ((c.tc : Thread Cert.FfnBwdRefIdeal.nD Cert.FfnBwdRefIdeal.τ).loc Cert.FfnBwdRefIdeal.main_arg4) = m' ((c.tc : Thread Cert.FfnBwdRefIdeal.nD Cert.FfnBwdRefIdeal.τ).loc Cert.FfnBwdRefIdeal.main_arg4)
          ∧ r.2.mem ((c.tc : Thread Cert.FfnBwdRefIdeal.nD Cert.FfnBwdRefIdeal.τ).loc Cert.FfnBwdRefIdeal.main_arg5) = m' ((c.tc : Thread Cert.FfnBwdRefIdeal.nD Cert.FfnBwdRefIdeal.τ).loc Cert.FfnBwdRefIdeal.main_arg5))

def preserves_FfnFwd_FfnFwdIdeal : Prop :=
  True

def algebraic_FfnFwdIdeal_FfnFwdRefIdeal [hFfnFwdIdeal : Cert.FfnFwdIdeal.Facts] [hFfnFwdRefIdeal : Cert.FfnFwdRefIdeal.Facts] : Prop :=
  ∀ (m : (ℓ : Loc Cert.FfnFwdIdeal.nD Cert.FfnFwdIdeal.τ Cert.FfnFwdIdeal.sig) → Buf (Elt Ideal) ℓ) (g : Dev Cert.FfnFwdIdeal.nD → PrngReg)
    (m' : (ℓ : Loc Cert.FfnFwdRefIdeal.nD Cert.FfnFwdRefIdeal.τ Cert.FfnFwdRefIdeal.sig) → Buf (Elt Ideal) ℓ) (g' : Dev Cert.FfnFwdRefIdeal.nD → PrngReg), Pre_FfnFwdIdeal m →
    (∀ c : Dev Cert.FfnFwdIdeal.nD,
      m' ((c.tc : Thread Cert.FfnFwdRefIdeal.nD Cert.FfnFwdRefIdeal.τ).loc Cert.FfnFwdRefIdeal.main_arg0) = m ((c.tc : Thread Cert.FfnFwdIdeal.nD Cert.FfnFwdIdeal.τ).loc Cert.FfnFwdIdeal.main_arg0)
      ∧ m' ((c.tc : Thread Cert.FfnFwdRefIdeal.nD Cert.FfnFwdRefIdeal.τ).loc Cert.FfnFwdRefIdeal.main_arg1) = m ((c.tc : Thread Cert.FfnFwdIdeal.nD Cert.FfnFwdIdeal.τ).loc Cert.FfnFwdIdeal.main_arg1)
      ∧ m' ((c.tc : Thread Cert.FfnFwdRefIdeal.nD Cert.FfnFwdRefIdeal.τ).loc Cert.FfnFwdRefIdeal.main_arg2) = m ((c.tc : Thread Cert.FfnFwdIdeal.nD Cert.FfnFwdIdeal.τ).loc Cert.FfnFwdIdeal.main_arg2)
      ∧ m' ((c.tc : Thread Cert.FfnFwdRefIdeal.nD Cert.FfnFwdRefIdeal.τ).loc Cert.FfnFwdRefIdeal.main_arg3) = m ((c.tc : Thread Cert.FfnFwdIdeal.nD Cert.FfnFwdIdeal.τ).loc Cert.FfnFwdIdeal.main_arg3)
      ∧ m' ((c.tc : Thread Cert.FfnFwdRefIdeal.nD Cert.FfnFwdRefIdeal.τ).loc Cert.FfnFwdRefIdeal.main_arg4) = m ((c.tc : Thread Cert.FfnFwdIdeal.nD Cert.FfnFwdIdeal.τ).loc Cert.FfnFwdIdeal.main_arg4)
      ∧ m' ((c.tc : Thread Cert.FfnFwdRefIdeal.nD Cert.FfnFwdRefIdeal.τ).loc Cert.FfnFwdRefIdeal.main_arg5) = m ((c.tc : Thread Cert.FfnFwdIdeal.nD Cert.FfnFwdIdeal.τ).loc Cert.FfnFwdIdeal.main_arg5)
      ∧ m' ((c.tc : Thread Cert.FfnFwdRefIdeal.nD Cert.FfnFwdRefIdeal.τ).loc Cert.FfnFwdRefIdeal.main_arg6) = m ((c.tc : Thread Cert.FfnFwdIdeal.nD Cert.FfnFwdIdeal.τ).loc Cert.FfnFwdIdeal.main_arg6)) →
    ∃ (v0 : (c : Dev Cert.FfnFwdIdeal.nD) → Buf (Elt Ideal) ((c.tc : Thread Cert.FfnFwdIdeal.nD Cert.FfnFwdIdeal.τ).loc Cert.FfnFwdIdeal.main_v11_0)) (v1 : (c : Dev Cert.FfnFwdIdeal.nD) → Buf (Elt Ideal) ((c.tc : Thread Cert.FfnFwdIdeal.nD Cert.FfnFwdIdeal.τ).loc Cert.FfnFwdIdeal.main_v11_1)) (v2 : (c : Dev Cert.FfnFwdIdeal.nD) → Buf (Elt Ideal) ((c.tc : Thread Cert.FfnFwdIdeal.nD Cert.FfnFwdIdeal.τ).loc Cert.FfnFwdIdeal.main_v11_2)) (v3 : (c : Dev Cert.FfnFwdIdeal.nD) → Buf (Elt Ideal) ((c.tc : Thread Cert.FfnFwdIdeal.nD Cert.FfnFwdIdeal.τ).loc Cert.FfnFwdIdeal.main_v11_3)) (v4 : (c : Dev Cert.FfnFwdIdeal.nD) → Buf (Elt Ideal) ((c.tc : Thread Cert.FfnFwdIdeal.nD Cert.FfnFwdIdeal.τ).loc Cert.FfnFwdIdeal.main_v11_4)) (v5 : (c : Dev Cert.FfnFwdIdeal.nD) → Buf (Elt Ideal) ((c.tc : Thread Cert.FfnFwdIdeal.nD Cert.FfnFwdIdeal.τ).loc Cert.FfnFwdIdeal.main_v11_5)) (v6 : (c : Dev Cert.FfnFwdIdeal.nD) → Buf (Elt Ideal) ((c.tc : Thread Cert.FfnFwdIdeal.nD Cert.FfnFwdIdeal.τ).loc Cert.FfnFwdIdeal.main_v11_6)),
      θ_run (Cert.FfnFwdIdeal.defs (F := Ideal)) (onTc (τ := Cert.FfnFwdIdeal.τ) (Cert.FfnFwdIdeal.main (F := Ideal))) ⟨m, fun _ => 0, g⟩ (fun r => ∀ c : Dev Cert.FfnFwdIdeal.nD,
          r.2.mem ((c.tc : Thread Cert.FfnFwdIdeal.nD Cert.FfnFwdIdeal.τ).loc Cert.FfnFwdIdeal.main_v11_0) = v0 c
          ∧ r.2.mem ((c.tc : Thread Cert.FfnFwdIdeal.nD Cert.FfnFwdIdeal.τ).loc Cert.FfnFwdIdeal.main_v11_1) = v1 c
          ∧ r.2.mem ((c.tc : Thread Cert.FfnFwdIdeal.nD Cert.FfnFwdIdeal.τ).loc Cert.FfnFwdIdeal.main_v11_2) = v2 c
          ∧ r.2.mem ((c.tc : Thread Cert.FfnFwdIdeal.nD Cert.FfnFwdIdeal.τ).loc Cert.FfnFwdIdeal.main_v11_3) = v3 c
          ∧ r.2.mem ((c.tc : Thread Cert.FfnFwdIdeal.nD Cert.FfnFwdIdeal.τ).loc Cert.FfnFwdIdeal.main_v11_4) = v4 c
          ∧ r.2.mem ((c.tc : Thread Cert.FfnFwdIdeal.nD Cert.FfnFwdIdeal.τ).loc Cert.FfnFwdIdeal.main_v11_5) = v5 c
          ∧ r.2.mem ((c.tc : Thread Cert.FfnFwdIdeal.nD Cert.FfnFwdIdeal.τ).loc Cert.FfnFwdIdeal.main_v11_6) = v6 c
          ∧ r.2.mem ((c.tc : Thread Cert.FfnFwdIdeal.nD Cert.FfnFwdIdeal.τ).loc Cert.FfnFwdIdeal.main_arg0) = m ((c.tc : Thread Cert.FfnFwdIdeal.nD Cert.FfnFwdIdeal.τ).loc Cert.FfnFwdIdeal.main_arg0)
          ∧ r.2.mem ((c.tc : Thread Cert.FfnFwdIdeal.nD Cert.FfnFwdIdeal.τ).loc Cert.FfnFwdIdeal.main_arg1) = m ((c.tc : Thread Cert.FfnFwdIdeal.nD Cert.FfnFwdIdeal.τ).loc Cert.FfnFwdIdeal.main_arg1)
          ∧ r.2.mem ((c.tc : Thread Cert.FfnFwdIdeal.nD Cert.FfnFwdIdeal.τ).loc Cert.FfnFwdIdeal.main_arg2) = m ((c.tc : Thread Cert.FfnFwdIdeal.nD Cert.FfnFwdIdeal.τ).loc Cert.FfnFwdIdeal.main_arg2)
          ∧ r.2.mem ((c.tc : Thread Cert.FfnFwdIdeal.nD Cert.FfnFwdIdeal.τ).loc Cert.FfnFwdIdeal.main_arg3) = m ((c.tc : Thread Cert.FfnFwdIdeal.nD Cert.FfnFwdIdeal.τ).loc Cert.FfnFwdIdeal.main_arg3)
          ∧ r.2.mem ((c.tc : Thread Cert.FfnFwdIdeal.nD Cert.FfnFwdIdeal.τ).loc Cert.FfnFwdIdeal.main_arg4) = m ((c.tc : Thread Cert.FfnFwdIdeal.nD Cert.FfnFwdIdeal.τ).loc Cert.FfnFwdIdeal.main_arg4)
          ∧ r.2.mem ((c.tc : Thread Cert.FfnFwdIdeal.nD Cert.FfnFwdIdeal.τ).loc Cert.FfnFwdIdeal.main_arg5) = m ((c.tc : Thread Cert.FfnFwdIdeal.nD Cert.FfnFwdIdeal.τ).loc Cert.FfnFwdIdeal.main_arg5)
          ∧ r.2.mem ((c.tc : Thread Cert.FfnFwdIdeal.nD Cert.FfnFwdIdeal.τ).loc Cert.FfnFwdIdeal.main_arg6) = m ((c.tc : Thread Cert.FfnFwdIdeal.nD Cert.FfnFwdIdeal.τ).loc Cert.FfnFwdIdeal.main_arg6))
      ∧ θ_run (Cert.FfnFwdRefIdeal.defs (F := Ideal)) (onTc (τ := Cert.FfnFwdRefIdeal.τ) (Cert.FfnFwdRefIdeal.main (F := Ideal))) ⟨m', fun _ => 0, g'⟩ (fun r => ∀ c : Dev Cert.FfnFwdRefIdeal.nD,
          r.2.mem ((c.tc : Thread Cert.FfnFwdRefIdeal.nD Cert.FfnFwdRefIdeal.τ).loc Cert.FfnFwdRefIdeal.main_v76) = v0 c
          ∧ r.2.mem ((c.tc : Thread Cert.FfnFwdRefIdeal.nD Cert.FfnFwdRefIdeal.τ).loc Cert.FfnFwdRefIdeal.main_v77) = v1 c
          ∧ r.2.mem ((c.tc : Thread Cert.FfnFwdRefIdeal.nD Cert.FfnFwdRefIdeal.τ).loc Cert.FfnFwdRefIdeal.main_v78) = v2 c
          ∧ r.2.mem ((c.tc : Thread Cert.FfnFwdRefIdeal.nD Cert.FfnFwdRefIdeal.τ).loc Cert.FfnFwdRefIdeal.main_v80) = v3 c
          ∧ r.2.mem ((c.tc : Thread Cert.FfnFwdRefIdeal.nD Cert.FfnFwdRefIdeal.τ).loc Cert.FfnFwdRefIdeal.main_v81) = v4 c
          ∧ r.2.mem ((c.tc : Thread Cert.FfnFwdRefIdeal.nD Cert.FfnFwdRefIdeal.τ).loc Cert.FfnFwdRefIdeal.main_v82) = v5 c
          ∧ r.2.mem ((c.tc : Thread Cert.FfnFwdRefIdeal.nD Cert.FfnFwdRefIdeal.τ).loc Cert.FfnFwdRefIdeal.main_v83) = v6 c
          ∧ r.2.mem ((c.tc : Thread Cert.FfnFwdRefIdeal.nD Cert.FfnFwdRefIdeal.τ).loc Cert.FfnFwdRefIdeal.main_arg0) = m' ((c.tc : Thread Cert.FfnFwdRefIdeal.nD Cert.FfnFwdRefIdeal.τ).loc Cert.FfnFwdRefIdeal.main_arg0)
          ∧ r.2.mem ((c.tc : Thread Cert.FfnFwdRefIdeal.nD Cert.FfnFwdRefIdeal.τ).loc Cert.FfnFwdRefIdeal.main_arg1) = m' ((c.tc : Thread Cert.FfnFwdRefIdeal.nD Cert.FfnFwdRefIdeal.τ).loc Cert.FfnFwdRefIdeal.main_arg1)
          ∧ r.2.mem ((c.tc : Thread Cert.FfnFwdRefIdeal.nD Cert.FfnFwdRefIdeal.τ).loc Cert.FfnFwdRefIdeal.main_arg2) = m' ((c.tc : Thread Cert.FfnFwdRefIdeal.nD Cert.FfnFwdRefIdeal.τ).loc Cert.FfnFwdRefIdeal.main_arg2)
          ∧ r.2.mem ((c.tc : Thread Cert.FfnFwdRefIdeal.nD Cert.FfnFwdRefIdeal.τ).loc Cert.FfnFwdRefIdeal.main_arg3) = m' ((c.tc : Thread Cert.FfnFwdRefIdeal.nD Cert.FfnFwdRefIdeal.τ).loc Cert.FfnFwdRefIdeal.main_arg3)
          ∧ r.2.mem ((c.tc : Thread Cert.FfnFwdRefIdeal.nD Cert.FfnFwdRefIdeal.τ).loc Cert.FfnFwdRefIdeal.main_arg4) = m' ((c.tc : Thread Cert.FfnFwdRefIdeal.nD Cert.FfnFwdRefIdeal.τ).loc Cert.FfnFwdRefIdeal.main_arg4)
          ∧ r.2.mem ((c.tc : Thread Cert.FfnFwdRefIdeal.nD Cert.FfnFwdRefIdeal.τ).loc Cert.FfnFwdRefIdeal.main_arg5) = m' ((c.tc : Thread Cert.FfnFwdRefIdeal.nD Cert.FfnFwdRefIdeal.τ).loc Cert.FfnFwdRefIdeal.main_arg5)
          ∧ r.2.mem ((c.tc : Thread Cert.FfnFwdRefIdeal.nD Cert.FfnFwdRefIdeal.τ).loc Cert.FfnFwdRefIdeal.main_arg6) = m' ((c.tc : Thread Cert.FfnFwdRefIdeal.nD Cert.FfnFwdRefIdeal.τ).loc Cert.FfnFwdRefIdeal.main_arg6))

def preserves_InprojWgrad_InprojWgradIdeal : Prop :=
  True

def algebraic_InprojWgradIdeal_InprojWgradRefIdeal [hInprojWgradIdeal : Cert.InprojWgradIdeal.Facts] [hInprojWgradRefIdeal : Cert.InprojWgradRefIdeal.Facts] : Prop :=
  ∀ (m : (ℓ : Loc Cert.InprojWgradIdeal.nD Cert.InprojWgradIdeal.τ Cert.InprojWgradIdeal.sig) → Buf (Elt Ideal) ℓ) (g : Dev Cert.InprojWgradIdeal.nD → PrngReg)
    (m' : (ℓ : Loc Cert.InprojWgradRefIdeal.nD Cert.InprojWgradRefIdeal.τ Cert.InprojWgradRefIdeal.sig) → Buf (Elt Ideal) ℓ) (g' : Dev Cert.InprojWgradRefIdeal.nD → PrngReg), Pre_InprojWgradIdeal m →
    (∀ c : Dev Cert.InprojWgradIdeal.nD,
      m' ((c.tc : Thread Cert.InprojWgradRefIdeal.nD Cert.InprojWgradRefIdeal.τ).loc Cert.InprojWgradRefIdeal.main_arg0) = m ((c.tc : Thread Cert.InprojWgradIdeal.nD Cert.InprojWgradIdeal.τ).loc Cert.InprojWgradIdeal.main_arg0)
      ∧ m' ((c.tc : Thread Cert.InprojWgradRefIdeal.nD Cert.InprojWgradRefIdeal.τ).loc Cert.InprojWgradRefIdeal.main_arg1) = m ((c.tc : Thread Cert.InprojWgradIdeal.nD Cert.InprojWgradIdeal.τ).loc Cert.InprojWgradIdeal.main_arg1)
      ∧ m' ((c.tc : Thread Cert.InprojWgradRefIdeal.nD Cert.InprojWgradRefIdeal.τ).loc Cert.InprojWgradRefIdeal.main_arg2) = m ((c.tc : Thread Cert.InprojWgradIdeal.nD Cert.InprojWgradIdeal.τ).loc Cert.InprojWgradIdeal.main_arg2)) →
    ∃ (v0 : (c : Dev Cert.InprojWgradIdeal.nD) → Buf (Elt Ideal) ((c.tc : Thread Cert.InprojWgradIdeal.nD Cert.InprojWgradIdeal.τ).loc Cert.InprojWgradIdeal.main_v12_0)) (v1 : (c : Dev Cert.InprojWgradIdeal.nD) → Buf (Elt Ideal) ((c.tc : Thread Cert.InprojWgradIdeal.nD Cert.InprojWgradIdeal.τ).loc Cert.InprojWgradIdeal.main_v12_1)),
      θ_run (Cert.InprojWgradIdeal.defs (F := Ideal)) (onTc (τ := Cert.InprojWgradIdeal.τ) (Cert.InprojWgradIdeal.main (F := Ideal))) ⟨m, fun _ => 0, g⟩ (fun r => ∀ c : Dev Cert.InprojWgradIdeal.nD,
          r.2.mem ((c.tc : Thread Cert.InprojWgradIdeal.nD Cert.InprojWgradIdeal.τ).loc Cert.InprojWgradIdeal.main_v12_0) = v0 c
          ∧ r.2.mem ((c.tc : Thread Cert.InprojWgradIdeal.nD Cert.InprojWgradIdeal.τ).loc Cert.InprojWgradIdeal.main_v12_1) = v1 c
          ∧ r.2.mem ((c.tc : Thread Cert.InprojWgradIdeal.nD Cert.InprojWgradIdeal.τ).loc Cert.InprojWgradIdeal.main_arg0) = m ((c.tc : Thread Cert.InprojWgradIdeal.nD Cert.InprojWgradIdeal.τ).loc Cert.InprojWgradIdeal.main_arg0)
          ∧ r.2.mem ((c.tc : Thread Cert.InprojWgradIdeal.nD Cert.InprojWgradIdeal.τ).loc Cert.InprojWgradIdeal.main_arg1) = m ((c.tc : Thread Cert.InprojWgradIdeal.nD Cert.InprojWgradIdeal.τ).loc Cert.InprojWgradIdeal.main_arg1)
          ∧ r.2.mem ((c.tc : Thread Cert.InprojWgradIdeal.nD Cert.InprojWgradIdeal.τ).loc Cert.InprojWgradIdeal.main_arg2) = m ((c.tc : Thread Cert.InprojWgradIdeal.nD Cert.InprojWgradIdeal.τ).loc Cert.InprojWgradIdeal.main_arg2))
      ∧ θ_run (Cert.InprojWgradRefIdeal.defs (F := Ideal)) (onTc (τ := Cert.InprojWgradRefIdeal.τ) (Cert.InprojWgradRefIdeal.main (F := Ideal))) ⟨m', fun _ => 0, g'⟩ (fun r => ∀ c : Dev Cert.InprojWgradRefIdeal.nD,
          r.2.mem ((c.tc : Thread Cert.InprojWgradRefIdeal.nD Cert.InprojWgradRefIdeal.τ).loc Cert.InprojWgradRefIdeal.main_v25) = v0 c
          ∧ r.2.mem ((c.tc : Thread Cert.InprojWgradRefIdeal.nD Cert.InprojWgradRefIdeal.τ).loc Cert.InprojWgradRefIdeal.main_v28) = v1 c
          ∧ r.2.mem ((c.tc : Thread Cert.InprojWgradRefIdeal.nD Cert.InprojWgradRefIdeal.τ).loc Cert.InprojWgradRefIdeal.main_arg0) = m' ((c.tc : Thread Cert.InprojWgradRefIdeal.nD Cert.InprojWgradRefIdeal.τ).loc Cert.InprojWgradRefIdeal.main_arg0)
          ∧ r.2.mem ((c.tc : Thread Cert.InprojWgradRefIdeal.nD Cert.InprojWgradRefIdeal.τ).loc Cert.InprojWgradRefIdeal.main_arg1) = m' ((c.tc : Thread Cert.InprojWgradRefIdeal.nD Cert.InprojWgradRefIdeal.τ).loc Cert.InprojWgradRefIdeal.main_arg1)
          ∧ r.2.mem ((c.tc : Thread Cert.InprojWgradRefIdeal.nD Cert.InprojWgradRefIdeal.τ).loc Cert.InprojWgradRefIdeal.main_arg2) = m' ((c.tc : Thread Cert.InprojWgradRefIdeal.nD Cert.InprojWgradRefIdeal.τ).loc Cert.InprojWgradRefIdeal.main_arg2))

def preserves_MixerOut_MixerOutIdeal : Prop :=
  True

def algebraic_MixerOutIdeal_MixerOutRefIdeal [hMixerOutIdeal : Cert.MixerOutIdeal.Facts] [hMixerOutRefIdeal : Cert.MixerOutRefIdeal.Facts] : Prop :=
  ∀ (m : (ℓ : Loc Cert.MixerOutIdeal.nD Cert.MixerOutIdeal.τ Cert.MixerOutIdeal.sig) → Buf (Elt Ideal) ℓ) (g : Dev Cert.MixerOutIdeal.nD → PrngReg)
    (m' : (ℓ : Loc Cert.MixerOutRefIdeal.nD Cert.MixerOutRefIdeal.τ Cert.MixerOutRefIdeal.sig) → Buf (Elt Ideal) ℓ) (g' : Dev Cert.MixerOutRefIdeal.nD → PrngReg), Pre_MixerOutIdeal m →
    (∀ c : Dev Cert.MixerOutIdeal.nD,
      m' ((c.tc : Thread Cert.MixerOutRefIdeal.nD Cert.MixerOutRefIdeal.τ).loc Cert.MixerOutRefIdeal.main_arg0) = m ((c.tc : Thread Cert.MixerOutIdeal.nD Cert.MixerOutIdeal.τ).loc Cert.MixerOutIdeal.main_arg0)
      ∧ m' ((c.tc : Thread Cert.MixerOutRefIdeal.nD Cert.MixerOutRefIdeal.τ).loc Cert.MixerOutRefIdeal.main_arg1) = m ((c.tc : Thread Cert.MixerOutIdeal.nD Cert.MixerOutIdeal.τ).loc Cert.MixerOutIdeal.main_arg1)
      ∧ m' ((c.tc : Thread Cert.MixerOutRefIdeal.nD Cert.MixerOutRefIdeal.τ).loc Cert.MixerOutRefIdeal.main_arg2) = m ((c.tc : Thread Cert.MixerOutIdeal.nD Cert.MixerOutIdeal.τ).loc Cert.MixerOutIdeal.main_arg2)
      ∧ m' ((c.tc : Thread Cert.MixerOutRefIdeal.nD Cert.MixerOutRefIdeal.τ).loc Cert.MixerOutRefIdeal.main_arg3) = m ((c.tc : Thread Cert.MixerOutIdeal.nD Cert.MixerOutIdeal.τ).loc Cert.MixerOutIdeal.main_arg3)
      ∧ m' ((c.tc : Thread Cert.MixerOutRefIdeal.nD Cert.MixerOutRefIdeal.τ).loc Cert.MixerOutRefIdeal.main_arg4) = m ((c.tc : Thread Cert.MixerOutIdeal.nD Cert.MixerOutIdeal.τ).loc Cert.MixerOutIdeal.main_arg4)
      ∧ m' ((c.tc : Thread Cert.MixerOutRefIdeal.nD Cert.MixerOutRefIdeal.τ).loc Cert.MixerOutRefIdeal.main_arg5) = m ((c.tc : Thread Cert.MixerOutIdeal.nD Cert.MixerOutIdeal.τ).loc Cert.MixerOutIdeal.main_arg5)
      ∧ m' ((c.tc : Thread Cert.MixerOutRefIdeal.nD Cert.MixerOutRefIdeal.τ).loc Cert.MixerOutRefIdeal.main_arg6) = m ((c.tc : Thread Cert.MixerOutIdeal.nD Cert.MixerOutIdeal.τ).loc Cert.MixerOutIdeal.main_arg6)
      ∧ m' ((c.tc : Thread Cert.MixerOutRefIdeal.nD Cert.MixerOutRefIdeal.τ).loc Cert.MixerOutRefIdeal.main_arg7) = m ((c.tc : Thread Cert.MixerOutIdeal.nD Cert.MixerOutIdeal.τ).loc Cert.MixerOutIdeal.main_arg7)
      ∧ m' ((c.tc : Thread Cert.MixerOutRefIdeal.nD Cert.MixerOutRefIdeal.τ).loc Cert.MixerOutRefIdeal.main_arg8) = m ((c.tc : Thread Cert.MixerOutIdeal.nD Cert.MixerOutIdeal.τ).loc Cert.MixerOutIdeal.main_arg8)
      ∧ m' ((c.tc : Thread Cert.MixerOutRefIdeal.nD Cert.MixerOutRefIdeal.τ).loc Cert.MixerOutRefIdeal.main_arg9) = m ((c.tc : Thread Cert.MixerOutIdeal.nD Cert.MixerOutIdeal.τ).loc Cert.MixerOutIdeal.main_arg9)) →
    ∃ (v0 : (c : Dev Cert.MixerOutIdeal.nD) → Buf (Elt Ideal) ((c.tc : Thread Cert.MixerOutIdeal.nD Cert.MixerOutIdeal.τ).loc Cert.MixerOutIdeal.main_v15_0)) (v1 : (c : Dev Cert.MixerOutIdeal.nD) → Buf (Elt Ideal) ((c.tc : Thread Cert.MixerOutIdeal.nD Cert.MixerOutIdeal.τ).loc Cert.MixerOutIdeal.main_v15_1)),
      θ_run (Cert.MixerOutIdeal.defs (F := Ideal)) (onTc (τ := Cert.MixerOutIdeal.τ) (Cert.MixerOutIdeal.main (F := Ideal))) ⟨m, fun _ => 0, g⟩ (fun r => ∀ c : Dev Cert.MixerOutIdeal.nD,
          r.2.mem ((c.tc : Thread Cert.MixerOutIdeal.nD Cert.MixerOutIdeal.τ).loc Cert.MixerOutIdeal.main_v15_0) = v0 c
          ∧ r.2.mem ((c.tc : Thread Cert.MixerOutIdeal.nD Cert.MixerOutIdeal.τ).loc Cert.MixerOutIdeal.main_v15_1) = v1 c
          ∧ r.2.mem ((c.tc : Thread Cert.MixerOutIdeal.nD Cert.MixerOutIdeal.τ).loc Cert.MixerOutIdeal.main_arg0) = m ((c.tc : Thread Cert.MixerOutIdeal.nD Cert.MixerOutIdeal.τ).loc Cert.MixerOutIdeal.main_arg0)
          ∧ r.2.mem ((c.tc : Thread Cert.MixerOutIdeal.nD Cert.MixerOutIdeal.τ).loc Cert.MixerOutIdeal.main_arg1) = m ((c.tc : Thread Cert.MixerOutIdeal.nD Cert.MixerOutIdeal.τ).loc Cert.MixerOutIdeal.main_arg1)
          ∧ r.2.mem ((c.tc : Thread Cert.MixerOutIdeal.nD Cert.MixerOutIdeal.τ).loc Cert.MixerOutIdeal.main_arg2) = m ((c.tc : Thread Cert.MixerOutIdeal.nD Cert.MixerOutIdeal.τ).loc Cert.MixerOutIdeal.main_arg2)
          ∧ r.2.mem ((c.tc : Thread Cert.MixerOutIdeal.nD Cert.MixerOutIdeal.τ).loc Cert.MixerOutIdeal.main_arg3) = m ((c.tc : Thread Cert.MixerOutIdeal.nD Cert.MixerOutIdeal.τ).loc Cert.MixerOutIdeal.main_arg3)
          ∧ r.2.mem ((c.tc : Thread Cert.MixerOutIdeal.nD Cert.MixerOutIdeal.τ).loc Cert.MixerOutIdeal.main_arg4) = m ((c.tc : Thread Cert.MixerOutIdeal.nD Cert.MixerOutIdeal.τ).loc Cert.MixerOutIdeal.main_arg4)
          ∧ r.2.mem ((c.tc : Thread Cert.MixerOutIdeal.nD Cert.MixerOutIdeal.τ).loc Cert.MixerOutIdeal.main_arg5) = m ((c.tc : Thread Cert.MixerOutIdeal.nD Cert.MixerOutIdeal.τ).loc Cert.MixerOutIdeal.main_arg5)
          ∧ r.2.mem ((c.tc : Thread Cert.MixerOutIdeal.nD Cert.MixerOutIdeal.τ).loc Cert.MixerOutIdeal.main_arg6) = m ((c.tc : Thread Cert.MixerOutIdeal.nD Cert.MixerOutIdeal.τ).loc Cert.MixerOutIdeal.main_arg6)
          ∧ r.2.mem ((c.tc : Thread Cert.MixerOutIdeal.nD Cert.MixerOutIdeal.τ).loc Cert.MixerOutIdeal.main_arg7) = m ((c.tc : Thread Cert.MixerOutIdeal.nD Cert.MixerOutIdeal.τ).loc Cert.MixerOutIdeal.main_arg7)
          ∧ r.2.mem ((c.tc : Thread Cert.MixerOutIdeal.nD Cert.MixerOutIdeal.τ).loc Cert.MixerOutIdeal.main_arg8) = m ((c.tc : Thread Cert.MixerOutIdeal.nD Cert.MixerOutIdeal.τ).loc Cert.MixerOutIdeal.main_arg8)
          ∧ r.2.mem ((c.tc : Thread Cert.MixerOutIdeal.nD Cert.MixerOutIdeal.τ).loc Cert.MixerOutIdeal.main_arg9) = m ((c.tc : Thread Cert.MixerOutIdeal.nD Cert.MixerOutIdeal.τ).loc Cert.MixerOutIdeal.main_arg9))
      ∧ θ_run (Cert.MixerOutRefIdeal.defs (F := Ideal)) (onTc (τ := Cert.MixerOutRefIdeal.τ) (Cert.MixerOutRefIdeal.main (F := Ideal))) ⟨m', fun _ => 0, g'⟩ (fun r => ∀ c : Dev Cert.MixerOutRefIdeal.nD,
          r.2.mem ((c.tc : Thread Cert.MixerOutRefIdeal.nD Cert.MixerOutRefIdeal.τ).loc Cert.MixerOutRefIdeal.main_v68) = v0 c
          ∧ r.2.mem ((c.tc : Thread Cert.MixerOutRefIdeal.nD Cert.MixerOutRefIdeal.τ).loc Cert.MixerOutRefIdeal.main_v70) = v1 c
          ∧ r.2.mem ((c.tc : Thread Cert.MixerOutRefIdeal.nD Cert.MixerOutRefIdeal.τ).loc Cert.MixerOutRefIdeal.main_arg0) = m' ((c.tc : Thread Cert.MixerOutRefIdeal.nD Cert.MixerOutRefIdeal.τ).loc Cert.MixerOutRefIdeal.main_arg0)
          ∧ r.2.mem ((c.tc : Thread Cert.MixerOutRefIdeal.nD Cert.MixerOutRefIdeal.τ).loc Cert.MixerOutRefIdeal.main_arg1) = m' ((c.tc : Thread Cert.MixerOutRefIdeal.nD Cert.MixerOutRefIdeal.τ).loc Cert.MixerOutRefIdeal.main_arg1)
          ∧ r.2.mem ((c.tc : Thread Cert.MixerOutRefIdeal.nD Cert.MixerOutRefIdeal.τ).loc Cert.MixerOutRefIdeal.main_arg2) = m' ((c.tc : Thread Cert.MixerOutRefIdeal.nD Cert.MixerOutRefIdeal.τ).loc Cert.MixerOutRefIdeal.main_arg2)
          ∧ r.2.mem ((c.tc : Thread Cert.MixerOutRefIdeal.nD Cert.MixerOutRefIdeal.τ).loc Cert.MixerOutRefIdeal.main_arg3) = m' ((c.tc : Thread Cert.MixerOutRefIdeal.nD Cert.MixerOutRefIdeal.τ).loc Cert.MixerOutRefIdeal.main_arg3)
          ∧ r.2.mem ((c.tc : Thread Cert.MixerOutRefIdeal.nD Cert.MixerOutRefIdeal.τ).loc Cert.MixerOutRefIdeal.main_arg4) = m' ((c.tc : Thread Cert.MixerOutRefIdeal.nD Cert.MixerOutRefIdeal.τ).loc Cert.MixerOutRefIdeal.main_arg4)
          ∧ r.2.mem ((c.tc : Thread Cert.MixerOutRefIdeal.nD Cert.MixerOutRefIdeal.τ).loc Cert.MixerOutRefIdeal.main_arg5) = m' ((c.tc : Thread Cert.MixerOutRefIdeal.nD Cert.MixerOutRefIdeal.τ).loc Cert.MixerOutRefIdeal.main_arg5)
          ∧ r.2.mem ((c.tc : Thread Cert.MixerOutRefIdeal.nD Cert.MixerOutRefIdeal.τ).loc Cert.MixerOutRefIdeal.main_arg6) = m' ((c.tc : Thread Cert.MixerOutRefIdeal.nD Cert.MixerOutRefIdeal.τ).loc Cert.MixerOutRefIdeal.main_arg6)
          ∧ r.2.mem ((c.tc : Thread Cert.MixerOutRefIdeal.nD Cert.MixerOutRefIdeal.τ).loc Cert.MixerOutRefIdeal.main_arg7) = m' ((c.tc : Thread Cert.MixerOutRefIdeal.nD Cert.MixerOutRefIdeal.τ).loc Cert.MixerOutRefIdeal.main_arg7)
          ∧ r.2.mem ((c.tc : Thread Cert.MixerOutRefIdeal.nD Cert.MixerOutRefIdeal.τ).loc Cert.MixerOutRefIdeal.main_arg8) = m' ((c.tc : Thread Cert.MixerOutRefIdeal.nD Cert.MixerOutRefIdeal.τ).loc Cert.MixerOutRefIdeal.main_arg8)
          ∧ r.2.mem ((c.tc : Thread Cert.MixerOutRefIdeal.nD Cert.MixerOutRefIdeal.τ).loc Cert.MixerOutRefIdeal.main_arg9) = m' ((c.tc : Thread Cert.MixerOutRefIdeal.nD Cert.MixerOutRefIdeal.τ).loc Cert.MixerOutRefIdeal.main_arg9))

def preserves_Inproj_InprojIdeal : Prop :=
  True

def algebraic_InprojIdeal_InprojRefIdeal [hInprojIdeal : Cert.InprojIdeal.Facts] [hInprojRefIdeal : Cert.InprojRefIdeal.Facts] : Prop :=
  ∀ (m : (ℓ : Loc Cert.InprojIdeal.nD Cert.InprojIdeal.τ Cert.InprojIdeal.sig) → Buf (Elt Ideal) ℓ) (g : Dev Cert.InprojIdeal.nD → PrngReg)
    (m' : (ℓ : Loc Cert.InprojRefIdeal.nD Cert.InprojRefIdeal.τ Cert.InprojRefIdeal.sig) → Buf (Elt Ideal) ℓ) (g' : Dev Cert.InprojRefIdeal.nD → PrngReg), Pre_InprojIdeal m →
    (∀ c : Dev Cert.InprojIdeal.nD,
      m' ((c.tc : Thread Cert.InprojRefIdeal.nD Cert.InprojRefIdeal.τ).loc Cert.InprojRefIdeal.main_arg0) = m ((c.tc : Thread Cert.InprojIdeal.nD Cert.InprojIdeal.τ).loc Cert.InprojIdeal.main_arg0)
      ∧ m' ((c.tc : Thread Cert.InprojRefIdeal.nD Cert.InprojRefIdeal.τ).loc Cert.InprojRefIdeal.main_arg1) = m ((c.tc : Thread Cert.InprojIdeal.nD Cert.InprojIdeal.τ).loc Cert.InprojIdeal.main_arg1)
      ∧ m' ((c.tc : Thread Cert.InprojRefIdeal.nD Cert.InprojRefIdeal.τ).loc Cert.InprojRefIdeal.main_arg2) = m ((c.tc : Thread Cert.InprojIdeal.nD Cert.InprojIdeal.τ).loc Cert.InprojIdeal.main_arg2)) →
    ∃ (v0 : (c : Dev Cert.InprojIdeal.nD) → Buf (Elt Ideal) ((c.tc : Thread Cert.InprojIdeal.nD Cert.InprojIdeal.τ).loc Cert.InprojIdeal.main_v5)),
      θ_run (Cert.InprojIdeal.defs (F := Ideal)) (onTc (τ := Cert.InprojIdeal.τ) (Cert.InprojIdeal.main (F := Ideal))) ⟨m, fun _ => 0, g⟩ (fun r => ∀ c : Dev Cert.InprojIdeal.nD,
          r.2.mem ((c.tc : Thread Cert.InprojIdeal.nD Cert.InprojIdeal.τ).loc Cert.InprojIdeal.main_v5) = v0 c
          ∧ r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
          ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
          ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2))
      ∧ θ_run (Cert.InprojRefIdeal.defs (F := Ideal)) (onTc (τ := Cert.InprojRefIdeal.τ) (Cert.InprojRefIdeal.main (F := Ideal))) ⟨m', fun _ => 0, g'⟩ (fun r => ∀ c : Dev Cert.InprojRefIdeal.nD,
          r.2.mem ((c.tc : Thread Cert.InprojRefIdeal.nD Cert.InprojRefIdeal.τ).loc Cert.InprojRefIdeal.main_v20) = v0 c
          ∧ r.2.mem ((c.tc : Thread Cert.InprojRefIdeal.nD Cert.InprojRefIdeal.τ).loc Cert.InprojRefIdeal.main_arg0) = m' ((c.tc : Thread Cert.InprojRefIdeal.nD Cert.InprojRefIdeal.τ).loc Cert.InprojRefIdeal.main_arg0)
          ∧ r.2.mem ((c.tc : Thread Cert.InprojRefIdeal.nD Cert.InprojRefIdeal.τ).loc Cert.InprojRefIdeal.main_arg1) = m' ((c.tc : Thread Cert.InprojRefIdeal.nD Cert.InprojRefIdeal.τ).loc Cert.InprojRefIdeal.main_arg1)
          ∧ r.2.mem ((c.tc : Thread Cert.InprojRefIdeal.nD Cert.InprojRefIdeal.τ).loc Cert.InprojRefIdeal.main_arg2) = m' ((c.tc : Thread Cert.InprojRefIdeal.nD Cert.InprojRefIdeal.τ).loc Cert.InprojRefIdeal.main_arg2))

def preserves_GlaFwd_GlaFwdIdeal : Prop :=
  True

def algebraic_GlaFwdIdeal_GlaFwdRefIdeal [hGlaFwdIdeal : Cert.GlaFwdIdeal.Facts] [hGlaFwdRefIdeal : Cert.GlaFwdRefIdeal.Facts] : Prop :=
  ∀ (m : (ℓ : Loc Cert.GlaFwdIdeal.nD Cert.GlaFwdIdeal.τ Cert.GlaFwdIdeal.sig) → Buf (Elt Ideal) ℓ) (g : Dev Cert.GlaFwdIdeal.nD → PrngReg)
    (m' : (ℓ : Loc Cert.GlaFwdRefIdeal.nD Cert.GlaFwdRefIdeal.τ Cert.GlaFwdRefIdeal.sig) → Buf (Elt Ideal) ℓ) (g' : Dev Cert.GlaFwdRefIdeal.nD → PrngReg), Pre_GlaFwdIdeal m →
    (∀ c : Dev Cert.GlaFwdIdeal.nD,
      m' ((c.tc : Thread Cert.GlaFwdRefIdeal.nD Cert.GlaFwdRefIdeal.τ).loc Cert.GlaFwdRefIdeal.main_arg0) = m ((c.tc : Thread Cert.GlaFwdIdeal.nD Cert.GlaFwdIdeal.τ).loc Cert.GlaFwdIdeal.main_arg0)
      ∧ m' ((c.tc : Thread Cert.GlaFwdRefIdeal.nD Cert.GlaFwdRefIdeal.τ).loc Cert.GlaFwdRefIdeal.main_arg1) = m ((c.tc : Thread Cert.GlaFwdIdeal.nD Cert.GlaFwdIdeal.τ).loc Cert.GlaFwdIdeal.main_arg1)
      ∧ m' ((c.tc : Thread Cert.GlaFwdRefIdeal.nD Cert.GlaFwdRefIdeal.τ).loc Cert.GlaFwdRefIdeal.main_arg2) = m ((c.tc : Thread Cert.GlaFwdIdeal.nD Cert.GlaFwdIdeal.τ).loc Cert.GlaFwdIdeal.main_arg2)) →
    ∃ (v0 : (c : Dev Cert.GlaFwdIdeal.nD) → Buf (Elt Ideal) ((c.tc : Thread Cert.GlaFwdIdeal.nD Cert.GlaFwdIdeal.τ).loc Cert.GlaFwdIdeal.main_v10_0)) (v1 : (c : Dev Cert.GlaFwdIdeal.nD) → Buf (Elt Ideal) ((c.tc : Thread Cert.GlaFwdIdeal.nD Cert.GlaFwdIdeal.τ).loc Cert.GlaFwdIdeal.main_v10_1)),
      θ_run (Cert.GlaFwdIdeal.defs (F := Ideal)) (onTc (τ := Cert.GlaFwdIdeal.τ) (Cert.GlaFwdIdeal.main (F := Ideal))) ⟨m, fun _ => 0, g⟩ (fun r => ∀ c : Dev Cert.GlaFwdIdeal.nD,
          r.2.mem ((c.tc : Thread Cert.GlaFwdIdeal.nD Cert.GlaFwdIdeal.τ).loc Cert.GlaFwdIdeal.main_v10_0) = v0 c
          ∧ r.2.mem ((c.tc : Thread Cert.GlaFwdIdeal.nD Cert.GlaFwdIdeal.τ).loc Cert.GlaFwdIdeal.main_v10_1) = v1 c
          ∧ r.2.mem ((c.tc : Thread Cert.GlaFwdIdeal.nD Cert.GlaFwdIdeal.τ).loc Cert.GlaFwdIdeal.main_arg0) = m ((c.tc : Thread Cert.GlaFwdIdeal.nD Cert.GlaFwdIdeal.τ).loc Cert.GlaFwdIdeal.main_arg0)
          ∧ r.2.mem ((c.tc : Thread Cert.GlaFwdIdeal.nD Cert.GlaFwdIdeal.τ).loc Cert.GlaFwdIdeal.main_arg1) = m ((c.tc : Thread Cert.GlaFwdIdeal.nD Cert.GlaFwdIdeal.τ).loc Cert.GlaFwdIdeal.main_arg1)
          ∧ r.2.mem ((c.tc : Thread Cert.GlaFwdIdeal.nD Cert.GlaFwdIdeal.τ).loc Cert.GlaFwdIdeal.main_arg2) = m ((c.tc : Thread Cert.GlaFwdIdeal.nD Cert.GlaFwdIdeal.τ).loc Cert.GlaFwdIdeal.main_arg2))
      ∧ θ_run (Cert.GlaFwdRefIdeal.defs (F := Ideal)) (onTc (τ := Cert.GlaFwdRefIdeal.τ) (Cert.GlaFwdRefIdeal.main (F := Ideal))) ⟨m', fun _ => 0, g'⟩ (fun r => ∀ c : Dev Cert.GlaFwdRefIdeal.nD,
          r.2.mem ((c.tc : Thread Cert.GlaFwdRefIdeal.nD Cert.GlaFwdRefIdeal.τ).loc Cert.GlaFwdRefIdeal.main_v63) = v0 c
          ∧ r.2.mem ((c.tc : Thread Cert.GlaFwdRefIdeal.nD Cert.GlaFwdRefIdeal.τ).loc Cert.GlaFwdRefIdeal.main_v68) = v1 c
          ∧ r.2.mem ((c.tc : Thread Cert.GlaFwdRefIdeal.nD Cert.GlaFwdRefIdeal.τ).loc Cert.GlaFwdRefIdeal.main_arg0) = m' ((c.tc : Thread Cert.GlaFwdRefIdeal.nD Cert.GlaFwdRefIdeal.τ).loc Cert.GlaFwdRefIdeal.main_arg0)
          ∧ r.2.mem ((c.tc : Thread Cert.GlaFwdRefIdeal.nD Cert.GlaFwdRefIdeal.τ).loc Cert.GlaFwdRefIdeal.main_arg1) = m' ((c.tc : Thread Cert.GlaFwdRefIdeal.nD Cert.GlaFwdRefIdeal.τ).loc Cert.GlaFwdRefIdeal.main_arg1)
          ∧ r.2.mem ((c.tc : Thread Cert.GlaFwdRefIdeal.nD Cert.GlaFwdRefIdeal.τ).loc Cert.GlaFwdRefIdeal.main_arg2) = m' ((c.tc : Thread Cert.GlaFwdRefIdeal.nD Cert.GlaFwdRefIdeal.τ).loc Cert.GlaFwdRefIdeal.main_arg2))

def preserves_GlaRev_GlaRevIdeal : Prop :=
  True

def algebraic_GlaRevIdeal_GlaRevRefIdeal [hGlaRevIdeal : Cert.GlaRevIdeal.Facts] [hGlaRevRefIdeal : Cert.GlaRevRefIdeal.Facts] : Prop :=
  ∀ (m : (ℓ : Loc Cert.GlaRevIdeal.nD Cert.GlaRevIdeal.τ Cert.GlaRevIdeal.sig) → Buf (Elt Ideal) ℓ) (g : Dev Cert.GlaRevIdeal.nD → PrngReg)
    (m' : (ℓ : Loc Cert.GlaRevRefIdeal.nD Cert.GlaRevRefIdeal.τ Cert.GlaRevRefIdeal.sig) → Buf (Elt Ideal) ℓ) (g' : Dev Cert.GlaRevRefIdeal.nD → PrngReg), Pre_GlaRevIdeal m →
    (∀ c : Dev Cert.GlaRevIdeal.nD,
      m' ((c.tc : Thread Cert.GlaRevRefIdeal.nD Cert.GlaRevRefIdeal.τ).loc Cert.GlaRevRefIdeal.main_arg0) = m ((c.tc : Thread Cert.GlaRevIdeal.nD Cert.GlaRevIdeal.τ).loc Cert.GlaRevIdeal.main_arg0)
      ∧ m' ((c.tc : Thread Cert.GlaRevRefIdeal.nD Cert.GlaRevRefIdeal.τ).loc Cert.GlaRevRefIdeal.main_arg1) = m ((c.tc : Thread Cert.GlaRevIdeal.nD Cert.GlaRevIdeal.τ).loc Cert.GlaRevIdeal.main_arg1)
      ∧ m' ((c.tc : Thread Cert.GlaRevRefIdeal.nD Cert.GlaRevRefIdeal.τ).loc Cert.GlaRevRefIdeal.main_arg2) = m ((c.tc : Thread Cert.GlaRevIdeal.nD Cert.GlaRevIdeal.τ).loc Cert.GlaRevIdeal.main_arg2)) →
    ∃ (v0 : (c : Dev Cert.GlaRevIdeal.nD) → Buf (Elt Ideal) ((c.tc : Thread Cert.GlaRevIdeal.nD Cert.GlaRevIdeal.τ).loc Cert.GlaRevIdeal.main_v11_0)) (v1 : (c : Dev Cert.GlaRevIdeal.nD) → Buf (Elt Ideal) ((c.tc : Thread Cert.GlaRevIdeal.nD Cert.GlaRevIdeal.τ).loc Cert.GlaRevIdeal.main_v11_1)),
      θ_run (Cert.GlaRevIdeal.defs (F := Ideal)) (onTc (τ := Cert.GlaRevIdeal.τ) (Cert.GlaRevIdeal.main (F := Ideal))) ⟨m, fun _ => 0, g⟩ (fun r => ∀ c : Dev Cert.GlaRevIdeal.nD,
          r.2.mem ((c.tc : Thread Cert.GlaRevIdeal.nD Cert.GlaRevIdeal.τ).loc Cert.GlaRevIdeal.main_v11_0) = v0 c
          ∧ r.2.mem ((c.tc : Thread Cert.GlaRevIdeal.nD Cert.GlaRevIdeal.τ).loc Cert.GlaRevIdeal.main_v11_1) = v1 c
          ∧ r.2.mem ((c.tc : Thread Cert.GlaRevIdeal.nD Cert.GlaRevIdeal.τ).loc Cert.GlaRevIdeal.main_arg0) = m ((c.tc : Thread Cert.GlaRevIdeal.nD Cert.GlaRevIdeal.τ).loc Cert.GlaRevIdeal.main_arg0)
          ∧ r.2.mem ((c.tc : Thread Cert.GlaRevIdeal.nD Cert.GlaRevIdeal.τ).loc Cert.GlaRevIdeal.main_arg1) = m ((c.tc : Thread Cert.GlaRevIdeal.nD Cert.GlaRevIdeal.τ).loc Cert.GlaRevIdeal.main_arg1)
          ∧ r.2.mem ((c.tc : Thread Cert.GlaRevIdeal.nD Cert.GlaRevIdeal.τ).loc Cert.GlaRevIdeal.main_arg2) = m ((c.tc : Thread Cert.GlaRevIdeal.nD Cert.GlaRevIdeal.τ).loc Cert.GlaRevIdeal.main_arg2))
      ∧ θ_run (Cert.GlaRevRefIdeal.defs (F := Ideal)) (onTc (τ := Cert.GlaRevRefIdeal.τ) (Cert.GlaRevRefIdeal.main (F := Ideal))) ⟨m', fun _ => 0, g'⟩ (fun r => ∀ c : Dev Cert.GlaRevRefIdeal.nD,
          r.2.mem ((c.tc : Thread Cert.GlaRevRefIdeal.nD Cert.GlaRevRefIdeal.τ).loc Cert.GlaRevRefIdeal.main_v69) = v0 c
          ∧ r.2.mem ((c.tc : Thread Cert.GlaRevRefIdeal.nD Cert.GlaRevRefIdeal.τ).loc Cert.GlaRevRefIdeal.main_v74) = v1 c
          ∧ r.2.mem ((c.tc : Thread Cert.GlaRevRefIdeal.nD Cert.GlaRevRefIdeal.τ).loc Cert.GlaRevRefIdeal.main_arg0) = m' ((c.tc : Thread Cert.GlaRevRefIdeal.nD Cert.GlaRevRefIdeal.τ).loc Cert.GlaRevRefIdeal.main_arg0)
          ∧ r.2.mem ((c.tc : Thread Cert.GlaRevRefIdeal.nD Cert.GlaRevRefIdeal.τ).loc Cert.GlaRevRefIdeal.main_arg1) = m' ((c.tc : Thread Cert.GlaRevRefIdeal.nD Cert.GlaRevRefIdeal.τ).loc Cert.GlaRevRefIdeal.main_arg1)
          ∧ r.2.mem ((c.tc : Thread Cert.GlaRevRefIdeal.nD Cert.GlaRevRefIdeal.τ).loc Cert.GlaRevRefIdeal.main_arg2) = m' ((c.tc : Thread Cert.GlaRevRefIdeal.nD Cert.GlaRevRefIdeal.τ).loc Cert.GlaRevRefIdeal.main_arg2))

def preserves_FfnWgrad_FfnWgradIdeal : Prop :=
  True

def algebraic_FfnWgradIdeal_FfnWgradRefIdeal [hFfnWgradIdeal : Cert.FfnWgradIdeal.Facts] [hFfnWgradRefIdeal : Cert.FfnWgradRefIdeal.Facts] : Prop :=
  ∀ (m : (ℓ : Loc Cert.FfnWgradIdeal.nD Cert.FfnWgradIdeal.τ Cert.FfnWgradIdeal.sig) → Buf (Elt Ideal) ℓ) (g : Dev Cert.FfnWgradIdeal.nD → PrngReg)
    (m' : (ℓ : Loc Cert.FfnWgradRefIdeal.nD Cert.FfnWgradRefIdeal.τ Cert.FfnWgradRefIdeal.sig) → Buf (Elt Ideal) ℓ) (g' : Dev Cert.FfnWgradRefIdeal.nD → PrngReg), Pre_FfnWgradIdeal m →
    (∀ c : Dev Cert.FfnWgradIdeal.nD,
      m' ((c.tc : Thread Cert.FfnWgradRefIdeal.nD Cert.FfnWgradRefIdeal.τ).loc Cert.FfnWgradRefIdeal.main_arg0) = m ((c.tc : Thread Cert.FfnWgradIdeal.nD Cert.FfnWgradIdeal.τ).loc Cert.FfnWgradIdeal.main_arg0)
      ∧ m' ((c.tc : Thread Cert.FfnWgradRefIdeal.nD Cert.FfnWgradRefIdeal.τ).loc Cert.FfnWgradRefIdeal.main_arg1) = m ((c.tc : Thread Cert.FfnWgradIdeal.nD Cert.FfnWgradIdeal.τ).loc Cert.FfnWgradIdeal.main_arg1)
      ∧ m' ((c.tc : Thread Cert.FfnWgradRefIdeal.nD Cert.FfnWgradRefIdeal.τ).loc Cert.FfnWgradRefIdeal.main_arg2) = m ((c.tc : Thread Cert.FfnWgradIdeal.nD Cert.FfnWgradIdeal.τ).loc Cert.FfnWgradIdeal.main_arg2)
      ∧ m' ((c.tc : Thread Cert.FfnWgradRefIdeal.nD Cert.FfnWgradRefIdeal.τ).loc Cert.FfnWgradRefIdeal.main_arg3) = m ((c.tc : Thread Cert.FfnWgradIdeal.nD Cert.FfnWgradIdeal.τ).loc Cert.FfnWgradIdeal.main_arg3)
      ∧ m' ((c.tc : Thread Cert.FfnWgradRefIdeal.nD Cert.FfnWgradRefIdeal.τ).loc Cert.FfnWgradRefIdeal.main_arg4) = m ((c.tc : Thread Cert.FfnWgradIdeal.nD Cert.FfnWgradIdeal.τ).loc Cert.FfnWgradIdeal.main_arg4)
      ∧ m' ((c.tc : Thread Cert.FfnWgradRefIdeal.nD Cert.FfnWgradRefIdeal.τ).loc Cert.FfnWgradRefIdeal.main_arg5) = m ((c.tc : Thread Cert.FfnWgradIdeal.nD Cert.FfnWgradIdeal.τ).loc Cert.FfnWgradIdeal.main_arg5)
      ∧ m' ((c.tc : Thread Cert.FfnWgradRefIdeal.nD Cert.FfnWgradRefIdeal.τ).loc Cert.FfnWgradRefIdeal.main_arg6) = m ((c.tc : Thread Cert.FfnWgradIdeal.nD Cert.FfnWgradIdeal.τ).loc Cert.FfnWgradIdeal.main_arg6)) →
    ∃ (v0 : (c : Dev Cert.FfnWgradIdeal.nD) → Buf (Elt Ideal) ((c.tc : Thread Cert.FfnWgradIdeal.nD Cert.FfnWgradIdeal.τ).loc Cert.FfnWgradIdeal.main_v29_0)) (v1 : (c : Dev Cert.FfnWgradIdeal.nD) → Buf (Elt Ideal) ((c.tc : Thread Cert.FfnWgradIdeal.nD Cert.FfnWgradIdeal.τ).loc Cert.FfnWgradIdeal.main_v29_1)) (v2 : (c : Dev Cert.FfnWgradIdeal.nD) → Buf (Elt Ideal) ((c.tc : Thread Cert.FfnWgradIdeal.nD Cert.FfnWgradIdeal.τ).loc Cert.FfnWgradIdeal.main_v29_2)),
      θ_run (Cert.FfnWgradIdeal.defs (F := Ideal)) (onTc (τ := Cert.FfnWgradIdeal.τ) (Cert.FfnWgradIdeal.main (F := Ideal))) ⟨m, fun _ => 0, g⟩ (fun r => ∀ c : Dev Cert.FfnWgradIdeal.nD,
          r.2.mem ((c.tc : Thread Cert.FfnWgradIdeal.nD Cert.FfnWgradIdeal.τ).loc Cert.FfnWgradIdeal.main_v29_0) = v0 c
          ∧ r.2.mem ((c.tc : Thread Cert.FfnWgradIdeal.nD Cert.FfnWgradIdeal.τ).loc Cert.FfnWgradIdeal.main_v29_1) = v1 c
          ∧ r.2.mem ((c.tc : Thread Cert.FfnWgradIdeal.nD Cert.FfnWgradIdeal.τ).loc Cert.FfnWgradIdeal.main_v29_2) = v2 c
          ∧ r.2.mem ((c.tc : Thread Cert.FfnWgradIdeal.nD Cert.FfnWgradIdeal.τ).loc Cert.FfnWgradIdeal.main_arg0) = m ((c.tc : Thread Cert.FfnWgradIdeal.nD Cert.FfnWgradIdeal.τ).loc Cert.FfnWgradIdeal.main_arg0)
          ∧ r.2.mem ((c.tc : Thread Cert.FfnWgradIdeal.nD Cert.FfnWgradIdeal.τ).loc Cert.FfnWgradIdeal.main_arg1) = m ((c.tc : Thread Cert.FfnWgradIdeal.nD Cert.FfnWgradIdeal.τ).loc Cert.FfnWgradIdeal.main_arg1)
          ∧ r.2.mem ((c.tc : Thread Cert.FfnWgradIdeal.nD Cert.FfnWgradIdeal.τ).loc Cert.FfnWgradIdeal.main_arg2) = m ((c.tc : Thread Cert.FfnWgradIdeal.nD Cert.FfnWgradIdeal.τ).loc Cert.FfnWgradIdeal.main_arg2)
          ∧ r.2.mem ((c.tc : Thread Cert.FfnWgradIdeal.nD Cert.FfnWgradIdeal.τ).loc Cert.FfnWgradIdeal.main_arg3) = m ((c.tc : Thread Cert.FfnWgradIdeal.nD Cert.FfnWgradIdeal.τ).loc Cert.FfnWgradIdeal.main_arg3)
          ∧ r.2.mem ((c.tc : Thread Cert.FfnWgradIdeal.nD Cert.FfnWgradIdeal.τ).loc Cert.FfnWgradIdeal.main_arg4) = m ((c.tc : Thread Cert.FfnWgradIdeal.nD Cert.FfnWgradIdeal.τ).loc Cert.FfnWgradIdeal.main_arg4)
          ∧ r.2.mem ((c.tc : Thread Cert.FfnWgradIdeal.nD Cert.FfnWgradIdeal.τ).loc Cert.FfnWgradIdeal.main_arg5) = m ((c.tc : Thread Cert.FfnWgradIdeal.nD Cert.FfnWgradIdeal.τ).loc Cert.FfnWgradIdeal.main_arg5)
          ∧ r.2.mem ((c.tc : Thread Cert.FfnWgradIdeal.nD Cert.FfnWgradIdeal.τ).loc Cert.FfnWgradIdeal.main_arg6) = m ((c.tc : Thread Cert.FfnWgradIdeal.nD Cert.FfnWgradIdeal.τ).loc Cert.FfnWgradIdeal.main_arg6))
      ∧ θ_run (Cert.FfnWgradRefIdeal.defs (F := Ideal)) (onTc (τ := Cert.FfnWgradRefIdeal.τ) (Cert.FfnWgradRefIdeal.main (F := Ideal))) ⟨m', fun _ => 0, g'⟩ (fun r => ∀ c : Dev Cert.FfnWgradRefIdeal.nD,
          r.2.mem ((c.tc : Thread Cert.FfnWgradRefIdeal.nD Cert.FfnWgradRefIdeal.τ).loc Cert.FfnWgradRefIdeal.main_v37) = v0 c
          ∧ r.2.mem ((c.tc : Thread Cert.FfnWgradRefIdeal.nD Cert.FfnWgradRefIdeal.τ).loc Cert.FfnWgradRefIdeal.main_v39) = v1 c
          ∧ r.2.mem ((c.tc : Thread Cert.FfnWgradRefIdeal.nD Cert.FfnWgradRefIdeal.τ).loc Cert.FfnWgradRefIdeal.main_v40) = v2 c
          ∧ r.2.mem ((c.tc : Thread Cert.FfnWgradRefIdeal.nD Cert.FfnWgradRefIdeal.τ).loc Cert.FfnWgradRefIdeal.main_arg0) = m' ((c.tc : Thread Cert.FfnWgradRefIdeal.nD Cert.FfnWgradRefIdeal.τ).loc Cert.FfnWgradRefIdeal.main_arg0)
          ∧ r.2.mem ((c.tc : Thread Cert.FfnWgradRefIdeal.nD Cert.FfnWgradRefIdeal.τ).loc Cert.FfnWgradRefIdeal.main_arg1) = m' ((c.tc : Thread Cert.FfnWgradRefIdeal.nD Cert.FfnWgradRefIdeal.τ).loc Cert.FfnWgradRefIdeal.main_arg1)
          ∧ r.2.mem ((c.tc : Thread Cert.FfnWgradRefIdeal.nD Cert.FfnWgradRefIdeal.τ).loc Cert.FfnWgradRefIdeal.main_arg2) = m' ((c.tc : Thread Cert.FfnWgradRefIdeal.nD Cert.FfnWgradRefIdeal.τ).loc Cert.FfnWgradRefIdeal.main_arg2)
          ∧ r.2.mem ((c.tc : Thread Cert.FfnWgradRefIdeal.nD Cert.FfnWgradRefIdeal.τ).loc Cert.FfnWgradRefIdeal.main_arg3) = m' ((c.tc : Thread Cert.FfnWgradRefIdeal.nD Cert.FfnWgradRefIdeal.τ).loc Cert.FfnWgradRefIdeal.main_arg3)
          ∧ r.2.mem ((c.tc : Thread Cert.FfnWgradRefIdeal.nD Cert.FfnWgradRefIdeal.τ).loc Cert.FfnWgradRefIdeal.main_arg4) = m' ((c.tc : Thread Cert.FfnWgradRefIdeal.nD Cert.FfnWgradRefIdeal.τ).loc Cert.FfnWgradRefIdeal.main_arg4)
          ∧ r.2.mem ((c.tc : Thread Cert.FfnWgradRefIdeal.nD Cert.FfnWgradRefIdeal.τ).loc Cert.FfnWgradRefIdeal.main_arg5) = m' ((c.tc : Thread Cert.FfnWgradRefIdeal.nD Cert.FfnWgradRefIdeal.τ).loc Cert.FfnWgradRefIdeal.main_arg5)
          ∧ r.2.mem ((c.tc : Thread Cert.FfnWgradRefIdeal.nD Cert.FfnWgradRefIdeal.τ).loc Cert.FfnWgradRefIdeal.main_arg6) = m' ((c.tc : Thread Cert.FfnWgradRefIdeal.nD Cert.FfnWgradRefIdeal.τ).loc Cert.FfnWgradRefIdeal.main_arg6))

def preserves_Adamw_AdamwIdeal : Prop :=
  True

def algebraic_AdamwIdeal_AdamwRefIdeal [hAdamwIdeal : Cert.AdamwIdeal.Facts] [hAdamwRefIdeal : Cert.AdamwRefIdeal.Facts] : Prop :=
  ∀ (m : (ℓ : Loc Cert.AdamwIdeal.nD Cert.AdamwIdeal.τ Cert.AdamwIdeal.sig) → Buf (Elt Ideal) ℓ) (g : Dev Cert.AdamwIdeal.nD → PrngReg)
    (m' : (ℓ : Loc Cert.AdamwRefIdeal.nD Cert.AdamwRefIdeal.τ Cert.AdamwRefIdeal.sig) → Buf (Elt Ideal) ℓ) (g' : Dev Cert.AdamwRefIdeal.nD → PrngReg), Pre_AdamwIdeal m →
    (∀ c : Dev Cert.AdamwIdeal.nD,
      m' ((c.tc : Thread Cert.AdamwRefIdeal.nD Cert.AdamwRefIdeal.τ).loc Cert.AdamwRefIdeal.main_arg0) = m ((c.tc : Thread Cert.AdamwIdeal.nD Cert.AdamwIdeal.τ).loc Cert.AdamwIdeal.main_arg0)
      ∧ m' ((c.tc : Thread Cert.AdamwRefIdeal.nD Cert.AdamwRefIdeal.τ).loc Cert.AdamwRefIdeal.main_arg1) = m ((c.tc : Thread Cert.AdamwIdeal.nD Cert.AdamwIdeal.τ).loc Cert.AdamwIdeal.main_arg1)
      ∧ m' ((c.tc : Thread Cert.AdamwRefIdeal.nD Cert.AdamwRefIdeal.τ).loc Cert.AdamwRefIdeal.main_arg2) = m ((c.tc : Thread Cert.AdamwIdeal.nD Cert.AdamwIdeal.τ).loc Cert.AdamwIdeal.main_arg2)
      ∧ m' ((c.tc : Thread Cert.AdamwRefIdeal.nD Cert.AdamwRefIdeal.τ).loc Cert.AdamwRefIdeal.main_arg3) = m ((c.tc : Thread Cert.AdamwIdeal.nD Cert.AdamwIdeal.τ).loc Cert.AdamwIdeal.main_arg3)) →
    ∃ (v0 : (c : Dev Cert.AdamwIdeal.nD) → Buf (Elt Ideal) ((c.tc : Thread Cert.AdamwIdeal.nD Cert.AdamwIdeal.τ).loc Cert.AdamwIdeal.main_v4_0)) (v1 : (c : Dev Cert.AdamwIdeal.nD) → Buf (Elt Ideal) ((c.tc : Thread Cert.AdamwIdeal.nD Cert.AdamwIdeal.τ).loc Cert.AdamwIdeal.main_v4_1)) (v2 : (c : Dev Cert.AdamwIdeal.nD) → Buf (Elt Ideal) ((c.tc : Thread Cert.AdamwIdeal.nD Cert.AdamwIdeal.τ).loc Cert.AdamwIdeal.main_v4_2)) (v3 : (c : Dev Cert.AdamwIdeal.nD) → Buf (Elt Ideal) ((c.tc : Thread Cert.AdamwIdeal.nD Cert.AdamwIdeal.τ).loc Cert.AdamwIdeal.main_v4_3)),
      θ_run (Cert.AdamwIdeal.defs (F := Ideal)) (onTc (τ := Cert.AdamwIdeal.τ) (Cert.AdamwIdeal.main (F := Ideal))) ⟨m, fun _ => 0, g⟩ (fun r => ∀ c : Dev Cert.AdamwIdeal.nD,
          r.2.mem ((c.tc : Thread Cert.AdamwIdeal.nD Cert.AdamwIdeal.τ).loc Cert.AdamwIdeal.main_v4_0) = v0 c
          ∧ r.2.mem ((c.tc : Thread Cert.AdamwIdeal.nD Cert.AdamwIdeal.τ).loc Cert.AdamwIdeal.main_v4_1) = v1 c
          ∧ r.2.mem ((c.tc : Thread Cert.AdamwIdeal.nD Cert.AdamwIdeal.τ).loc Cert.AdamwIdeal.main_v4_2) = v2 c
          ∧ r.2.mem ((c.tc : Thread Cert.AdamwIdeal.nD Cert.AdamwIdeal.τ).loc Cert.AdamwIdeal.main_v4_3) = v3 c
          ∧ r.2.mem ((c.tc : Thread Cert.AdamwIdeal.nD Cert.AdamwIdeal.τ).loc Cert.AdamwIdeal.main_arg0) = m ((c.tc : Thread Cert.AdamwIdeal.nD Cert.AdamwIdeal.τ).loc Cert.AdamwIdeal.main_arg0)
          ∧ r.2.mem ((c.tc : Thread Cert.AdamwIdeal.nD Cert.AdamwIdeal.τ).loc Cert.AdamwIdeal.main_arg1) = m ((c.tc : Thread Cert.AdamwIdeal.nD Cert.AdamwIdeal.τ).loc Cert.AdamwIdeal.main_arg1)
          ∧ r.2.mem ((c.tc : Thread Cert.AdamwIdeal.nD Cert.AdamwIdeal.τ).loc Cert.AdamwIdeal.main_arg2) = m ((c.tc : Thread Cert.AdamwIdeal.nD Cert.AdamwIdeal.τ).loc Cert.AdamwIdeal.main_arg2)
          ∧ r.2.mem ((c.tc : Thread Cert.AdamwIdeal.nD Cert.AdamwIdeal.τ).loc Cert.AdamwIdeal.main_arg3) = m ((c.tc : Thread Cert.AdamwIdeal.nD Cert.AdamwIdeal.τ).loc Cert.AdamwIdeal.main_arg3))
      ∧ θ_run (Cert.AdamwRefIdeal.defs (F := Ideal)) (onTc (τ := Cert.AdamwRefIdeal.τ) (Cert.AdamwRefIdeal.main (F := Ideal))) ⟨m', fun _ => 0, g'⟩ (fun r => ∀ c : Dev Cert.AdamwRefIdeal.nD,
          r.2.mem ((c.tc : Thread Cert.AdamwRefIdeal.nD Cert.AdamwRefIdeal.τ).loc Cert.AdamwRefIdeal.main_v24) = v0 c
          ∧ r.2.mem ((c.tc : Thread Cert.AdamwRefIdeal.nD Cert.AdamwRefIdeal.τ).loc Cert.AdamwRefIdeal.main_v25) = v1 c
          ∧ r.2.mem ((c.tc : Thread Cert.AdamwRefIdeal.nD Cert.AdamwRefIdeal.τ).loc Cert.AdamwRefIdeal.main_v26) = v2 c
          ∧ r.2.mem ((c.tc : Thread Cert.AdamwRefIdeal.nD Cert.AdamwRefIdeal.τ).loc Cert.AdamwRefIdeal.main_v27) = v3 c
          ∧ r.2.mem ((c.tc : Thread Cert.AdamwRefIdeal.nD Cert.AdamwRefIdeal.τ).loc Cert.AdamwRefIdeal.main_arg0) = m' ((c.tc : Thread Cert.AdamwRefIdeal.nD Cert.AdamwRefIdeal.τ).loc Cert.AdamwRefIdeal.main_arg0)
          ∧ r.2.mem ((c.tc : Thread Cert.AdamwRefIdeal.nD Cert.AdamwRefIdeal.τ).loc Cert.AdamwRefIdeal.main_arg1) = m' ((c.tc : Thread Cert.AdamwRefIdeal.nD Cert.AdamwRefIdeal.τ).loc Cert.AdamwRefIdeal.main_arg1)
          ∧ r.2.mem ((c.tc : Thread Cert.AdamwRefIdeal.nD Cert.AdamwRefIdeal.τ).loc Cert.AdamwRefIdeal.main_arg2) = m' ((c.tc : Thread Cert.AdamwRefIdeal.nD Cert.AdamwRefIdeal.τ).loc Cert.AdamwRefIdeal.main_arg2)
          ∧ r.2.mem ((c.tc : Thread Cert.AdamwRefIdeal.nD Cert.AdamwRefIdeal.τ).loc Cert.AdamwRefIdeal.main_arg3) = m' ((c.tc : Thread Cert.AdamwRefIdeal.nD Cert.AdamwRefIdeal.τ).loc Cert.AdamwRefIdeal.main_arg3))

def preserves_AddPartials_AddPartialsIdeal : Prop :=
  True

def algebraic_AddPartialsIdeal_AddPartialsRefIdeal [hAddPartialsIdeal : Cert.AddPartialsIdeal.Facts] [hAddPartialsRefIdeal : Cert.AddPartialsRefIdeal.Facts] : Prop :=
  ∀ (m : (ℓ : Loc Cert.AddPartialsIdeal.nD Cert.AddPartialsIdeal.τ Cert.AddPartialsIdeal.sig) → Buf (Elt Ideal) ℓ) (g : Dev Cert.AddPartialsIdeal.nD → PrngReg)
    (m' : (ℓ : Loc Cert.AddPartialsRefIdeal.nD Cert.AddPartialsRefIdeal.τ Cert.AddPartialsRefIdeal.sig) → Buf (Elt Ideal) ℓ) (g' : Dev Cert.AddPartialsRefIdeal.nD → PrngReg), Pre_AddPartialsIdeal m →
    (∀ c : Dev Cert.AddPartialsIdeal.nD,
      m' ((c.tc : Thread Cert.AddPartialsRefIdeal.nD Cert.AddPartialsRefIdeal.τ).loc Cert.AddPartialsRefIdeal.main_arg0) = m ((c.tc : Thread Cert.AddPartialsIdeal.nD Cert.AddPartialsIdeal.τ).loc Cert.AddPartialsIdeal.main_arg0)
      ∧ m' ((c.tc : Thread Cert.AddPartialsRefIdeal.nD Cert.AddPartialsRefIdeal.τ).loc Cert.AddPartialsRefIdeal.main_arg1) = m ((c.tc : Thread Cert.AddPartialsIdeal.nD Cert.AddPartialsIdeal.τ).loc Cert.AddPartialsIdeal.main_arg1)) →
    ∃ (v0 : (c : Dev Cert.AddPartialsIdeal.nD) → Buf (Elt Ideal) ((c.tc : Thread Cert.AddPartialsIdeal.nD Cert.AddPartialsIdeal.τ).loc Cert.AddPartialsIdeal.main_v4)),
      θ_run (Cert.AddPartialsIdeal.defs (F := Ideal)) (onTc (τ := Cert.AddPartialsIdeal.τ) (Cert.AddPartialsIdeal.main (F := Ideal))) ⟨m, fun _ => 0, g⟩ (fun r => ∀ c : Dev Cert.AddPartialsIdeal.nD,
          r.2.mem ((c.tc : Thread Cert.AddPartialsIdeal.nD Cert.AddPartialsIdeal.τ).loc Cert.AddPartialsIdeal.main_v4) = v0 c
          ∧ r.2.mem ((c.tc : Thread Cert.AddPartialsIdeal.nD Cert.AddPartialsIdeal.τ).loc Cert.AddPartialsIdeal.main_arg0) = m ((c.tc : Thread Cert.AddPartialsIdeal.nD Cert.AddPartialsIdeal.τ).loc Cert.AddPartialsIdeal.main_arg0)
          ∧ r.2.mem ((c.tc : Thread Cert.AddPartialsIdeal.nD Cert.AddPartialsIdeal.τ).loc Cert.AddPartialsIdeal.main_arg1) = m ((c.tc : Thread Cert.AddPartialsIdeal.nD Cert.AddPartialsIdeal.τ).loc Cert.AddPartialsIdeal.main_arg1))
      ∧ θ_run (Cert.AddPartialsRefIdeal.defs (F := Ideal)) (onTc (τ := Cert.AddPartialsRefIdeal.τ) (Cert.AddPartialsRefIdeal.main (F := Ideal))) ⟨m', fun _ => 0, g'⟩ (fun r => ∀ c : Dev Cert.AddPartialsRefIdeal.nD,
          r.2.mem ((c.tc : Thread Cert.AddPartialsRefIdeal.nD Cert.AddPartialsRefIdeal.τ).loc Cert.AddPartialsRefIdeal.main_v1) = v0 c
          ∧ r.2.mem ((c.tc : Thread Cert.AddPartialsRefIdeal.nD Cert.AddPartialsRefIdeal.τ).loc Cert.AddPartialsRefIdeal.main_arg0) = m' ((c.tc : Thread Cert.AddPartialsRefIdeal.nD Cert.AddPartialsRefIdeal.τ).loc Cert.AddPartialsRefIdeal.main_arg0)
          ∧ r.2.mem ((c.tc : Thread Cert.AddPartialsRefIdeal.nD Cert.AddPartialsRefIdeal.τ).loc Cert.AddPartialsRefIdeal.main_arg1) = m' ((c.tc : Thread Cert.AddPartialsRefIdeal.nD Cert.AddPartialsRefIdeal.τ).loc Cert.AddPartialsRefIdeal.main_arg1))

def Claim : Prop :=
  ∃ (hInprojDx : Cert.InprojDx.Facts) (hInprojDxIdeal : Cert.InprojDxIdeal.Facts) (hInprojDxRefIdeal : Cert.InprojDxRefIdeal.Facts) (hFfnBwd : Cert.FfnBwd.Facts) (hFfnBwdIdeal : Cert.FfnBwdIdeal.Facts) (hFfnBwdRefIdeal : Cert.FfnBwdRefIdeal.Facts) (hFfnFwd : Cert.FfnFwd.Facts) (hFfnFwdIdeal : Cert.FfnFwdIdeal.Facts) (hFfnFwdRefIdeal : Cert.FfnFwdRefIdeal.Facts) (hInprojWgrad : Cert.InprojWgrad.Facts) (hInprojWgradIdeal : Cert.InprojWgradIdeal.Facts) (hInprojWgradRefIdeal : Cert.InprojWgradRefIdeal.Facts) (hMixerOut : Cert.MixerOut.Facts) (hMixerOutIdeal : Cert.MixerOutIdeal.Facts) (hMixerOutRefIdeal : Cert.MixerOutRefIdeal.Facts) (hInproj : Cert.Inproj.Facts) (hInprojIdeal : Cert.InprojIdeal.Facts) (hInprojRefIdeal : Cert.InprojRefIdeal.Facts) (hGlaFwd : Cert.GlaFwd.Facts) (hGlaFwdIdeal : Cert.GlaFwdIdeal.Facts) (hGlaFwdRefIdeal : Cert.GlaFwdRefIdeal.Facts) (hGlaRev : Cert.GlaRev.Facts) (hGlaRevIdeal : Cert.GlaRevIdeal.Facts) (hGlaRevRefIdeal : Cert.GlaRevRefIdeal.Facts) (hFfnWgrad : Cert.FfnWgrad.Facts) (hFfnWgradIdeal : Cert.FfnWgradIdeal.Facts) (hFfnWgradRefIdeal : Cert.FfnWgradRefIdeal.Facts) (hAdamw : Cert.Adamw.Facts) (hAdamwIdeal : Cert.AdamwIdeal.Facts) (hAdamwRefIdeal : Cert.AdamwRefIdeal.Facts) (hAddPartials : Cert.AddPartials.Facts) (hAddPartialsIdeal : Cert.AddPartialsIdeal.Facts) (hAddPartialsRefIdeal : Cert.AddPartialsRefIdeal.Facts) (hPre_finite_ffn_bwd : Cert.Pre_finite_ffn_bwd.Facts),
    quiescent_InprojDx (hInprojDx := hInprojDx)
    ∧ quiescent_InprojDxIdeal (hInprojDxIdeal := hInprojDxIdeal)
    ∧ quiescent_InprojDxRefIdeal (hInprojDxRefIdeal := hInprojDxRefIdeal)
    ∧ quiescent_FfnBwd (hFfnBwd := hFfnBwd)
    ∧ quiescent_FfnBwdIdeal (hFfnBwdIdeal := hFfnBwdIdeal)
    ∧ quiescent_FfnBwdIdeal_pre_finite_ffn_bwd (hFfnBwdIdeal := hFfnBwdIdeal) (hPre_finite_ffn_bwd := hPre_finite_ffn_bwd)
    ∧ quiescent_FfnBwdRefIdeal (hFfnBwdRefIdeal := hFfnBwdRefIdeal)
    ∧ quiescent_FfnBwdRefIdeal_pre_finite_ffn_bwd (hFfnBwdRefIdeal := hFfnBwdRefIdeal) (hPre_finite_ffn_bwd := hPre_finite_ffn_bwd)
    ∧ quiescent_FfnFwd (hFfnFwd := hFfnFwd)
    ∧ quiescent_FfnFwdIdeal (hFfnFwdIdeal := hFfnFwdIdeal)
    ∧ quiescent_FfnFwdRefIdeal (hFfnFwdRefIdeal := hFfnFwdRefIdeal)
    ∧ quiescent_InprojWgrad (hInprojWgrad := hInprojWgrad)
    ∧ quiescent_InprojWgradIdeal (hInprojWgradIdeal := hInprojWgradIdeal)
    ∧ quiescent_InprojWgradRefIdeal (hInprojWgradRefIdeal := hInprojWgradRefIdeal)
    ∧ quiescent_MixerOut (hMixerOut := hMixerOut)
    ∧ quiescent_MixerOutIdeal (hMixerOutIdeal := hMixerOutIdeal)
    ∧ quiescent_MixerOutRefIdeal (hMixerOutRefIdeal := hMixerOutRefIdeal)
    ∧ quiescent_Inproj (hInproj := hInproj)
    ∧ quiescent_InprojIdeal (hInprojIdeal := hInprojIdeal)
    ∧ quiescent_InprojRefIdeal (hInprojRefIdeal := hInprojRefIdeal)
    ∧ quiescent_GlaFwd (hGlaFwd := hGlaFwd)
    ∧ quiescent_GlaFwdIdeal (hGlaFwdIdeal := hGlaFwdIdeal)
    ∧ quiescent_GlaFwdRefIdeal (hGlaFwdRefIdeal := hGlaFwdRefIdeal)
    ∧ quiescent_GlaRev (hGlaRev := hGlaRev)
    ∧ quiescent_GlaRevIdeal (hGlaRevIdeal := hGlaRevIdeal)
    ∧ quiescent_GlaRevRefIdeal (hGlaRevRefIdeal := hGlaRevRefIdeal)
    ∧ quiescent_FfnWgrad (hFfnWgrad := hFfnWgrad)
    ∧ quiescent_FfnWgradIdeal (hFfnWgradIdeal := hFfnWgradIdeal)
    ∧ quiescent_FfnWgradRefIdeal (hFfnWgradRefIdeal := hFfnWgradRefIdeal)
    ∧ quiescent_Adamw (hAdamw := hAdamw)
    ∧ quiescent_AdamwIdeal (hAdamwIdeal := hAdamwIdeal)
    ∧ quiescent_AdamwRefIdeal (hAdamwRefIdeal := hAdamwRefIdeal)
    ∧ quiescent_AddPartials (hAddPartials := hAddPartials)
    ∧ quiescent_AddPartialsIdeal (hAddPartialsIdeal := hAddPartialsIdeal)
    ∧ quiescent_AddPartialsRefIdeal (hAddPartialsRefIdeal := hAddPartialsRefIdeal)
    ∧ preserves_InprojDx_InprojDxIdeal
    ∧ algebraic_InprojDxIdeal_InprojDxRefIdeal (hInprojDxIdeal := hInprojDxIdeal) (hInprojDxRefIdeal := hInprojDxRefIdeal)
    ∧ preserves_FfnBwd_FfnBwdIdeal
    ∧ algebraic_FfnBwdIdeal_FfnBwdRefIdeal_pre_finite_ffn_bwd (hFfnBwdIdeal := hFfnBwdIdeal) (hFfnBwdRefIdeal := hFfnBwdRefIdeal) (hPre_finite_ffn_bwd := hPre_finite_ffn_bwd)
    ∧ preserves_FfnFwd_FfnFwdIdeal
    ∧ algebraic_FfnFwdIdeal_FfnFwdRefIdeal (hFfnFwdIdeal := hFfnFwdIdeal) (hFfnFwdRefIdeal := hFfnFwdRefIdeal)
    ∧ preserves_InprojWgrad_InprojWgradIdeal
    ∧ algebraic_InprojWgradIdeal_InprojWgradRefIdeal (hInprojWgradIdeal := hInprojWgradIdeal) (hInprojWgradRefIdeal := hInprojWgradRefIdeal)
    ∧ preserves_MixerOut_MixerOutIdeal
    ∧ algebraic_MixerOutIdeal_MixerOutRefIdeal (hMixerOutIdeal := hMixerOutIdeal) (hMixerOutRefIdeal := hMixerOutRefIdeal)
    ∧ preserves_Inproj_InprojIdeal
    ∧ algebraic_InprojIdeal_InprojRefIdeal (hInprojIdeal := hInprojIdeal) (hInprojRefIdeal := hInprojRefIdeal)
    ∧ preserves_GlaFwd_GlaFwdIdeal
    ∧ algebraic_GlaFwdIdeal_GlaFwdRefIdeal (hGlaFwdIdeal := hGlaFwdIdeal) (hGlaFwdRefIdeal := hGlaFwdRefIdeal)
    ∧ preserves_GlaRev_GlaRevIdeal
    ∧ algebraic_GlaRevIdeal_GlaRevRefIdeal (hGlaRevIdeal := hGlaRevIdeal) (hGlaRevRefIdeal := hGlaRevRefIdeal)
    ∧ preserves_FfnWgrad_FfnWgradIdeal
    ∧ algebraic_FfnWgradIdeal_FfnWgradRefIdeal (hFfnWgradIdeal := hFfnWgradIdeal) (hFfnWgradRefIdeal := hFfnWgradRefIdeal)
    ∧ preserves_Adamw_AdamwIdeal
    ∧ algebraic_AdamwIdeal_AdamwRefIdeal (hAdamwIdeal := hAdamwIdeal) (hAdamwRefIdeal := hAdamwRefIdeal)
    ∧ preserves_AddPartials_AddPartialsIdeal
    ∧ algebraic_AddPartialsIdeal_AddPartialsRefIdeal (hAddPartialsIdeal := hAddPartialsIdeal) (hAddPartialsRefIdeal := hAddPartialsRefIdeal)
-- ==== Pre_finite_ffn_bwd.lean ====
abbrev S1x8192x1024 : Shape := ⟨3, ![1, 8192, 1024]⟩
abbrev S1x1024 : Shape := ⟨2, ![1, 1024]⟩
abbrev S1x1024x2816 : Shape := ⟨3, ![1, 1024, 2816]⟩
abbrev S1x2816x1024 : Shape := ⟨3, ![1, 2816, 1024]⟩
abbrev S_ : Shape := ⟨0, ![]⟩

class Facts : Prop where
  bcast_S_S1x1024 : S_.BroadcastsInDim S1x1024 (![] : Fin 0 → Fin S1x1024.rank)
  bcast_S_S1x1024x2816 : S_.BroadcastsInDim S1x1024x2816 (![] : Fin 0 → Fin S1x1024x2816.rank)
  bcast_S_S1x2816x1024 : S_.BroadcastsInDim S1x2816x1024 (![] : Fin 0 → Fin S1x2816x1024.rank)
  bcast_S_S1x8192x1024 : S_.BroadcastsInDim S1x8192x1024 (![] : Fin 0 → Fin S1x8192x1024.rank)

variable [Facts]

def fn {F : FTy → Type} [FloatOps F] (main_arg0 : FVec F S1x8192x1024 .f32) (main_arg1 : FVec F S1x1024 .f32) (main_arg2 : FVec F S1x1024x2816 .f32) (main_arg3 : FVec F S1x1024x2816 .f32) (main_arg4 : FVec F S1x2816x1024 .f32) (main_arg5 : FVec F S1x8192x1024 .f32) : IVec S1x1024 1 × IVec S1x1024x2816 1 × IVec S1x1024x2816 1 × IVec S1x2816x1024 1 × IVec S1x8192x1024 1 :=
  let main_v0 : FVec F S1x1024 .f32 := Host.absf main_arg1
  let main_cst : FVec F S_ .f32 := constant S_ .f32 0x7F800000#32
  let main_v1 : FVec F S1x1024 .f32 := broadcastInDim S1x1024 ![] bcast_S_S1x1024 main_cst
  let main_v2 : IVec S1x1024 1 := cmpf .olt main_v0 main_v1
  let main_v3 : FVec F S1x1024x2816 .f32 := Host.absf main_arg2
  let main_cst_0 : FVec F S_ .f32 := constant S_ .f32 0x7F800000#32
  let main_v4 : FVec F S1x1024x2816 .f32 := broadcastInDim S1x1024x2816 ![] bcast_S_S1x1024x2816 main_cst_0
  let main_v5 : IVec S1x1024x2816 1 := cmpf .olt main_v3 main_v4
  let main_v6 : FVec F S1x1024x2816 .f32 := Host.absf main_arg3
  let main_cst_1 : FVec F S_ .f32 := constant S_ .f32 0x7F800000#32
  let main_v7 : FVec F S1x1024x2816 .f32 := broadcastInDim S1x1024x2816 ![] bcast_S_S1x1024x2816 main_cst_1
  let main_v8 : IVec S1x1024x2816 1 := cmpf .olt main_v6 main_v7
  let main_v9 : FVec F S1x2816x1024 .f32 := Host.absf main_arg4
  let main_cst_2 : FVec F S_ .f32 := constant S_ .f32 0x7F800000#32
  let main_v10 : FVec F S1x2816x1024 .f32 := broadcastInDim S1x2816x1024 ![] bcast_S_S1x2816x1024 main_cst_2
  let main_v11 : IVec S1x2816x1024 1 := cmpf .olt main_v9 main_v10
  let main_v12 : FVec F S1x8192x1024 .f32 := Host.absf main_arg5
  let main_cst_3 : FVec F S_ .f32 := constant S_ .f32 0x7F800000#32
  let main_v13 : FVec F S1x8192x1024 .f32 := broadcastInDim S1x8192x1024 ![] bcast_S_S1x8192x1024 main_cst_3
  let main_v14 : IVec S1x8192x1024 1 := cmpf .olt main_v12 main_v13
  (main_v2, main_v5, main_v8, main_v11, main_v14)
-- ==== InprojDx.lean ====
abbrev S1x8192x1024 : Shape := ⟨3, ![1, 8192, 1024]⟩
abbrev S1x1024 : Shape := ⟨2, ![1, 1024]⟩
abbrev S1x1024x2592 : Shape := ⟨3, ![1, 1024, 2592]⟩
abbrev S1x8192x2592 : Shape := ⟨3, ![1, 8192, 2592]⟩
abbrev S8192x2592 : Shape := ⟨2, ![8192, 2592]⟩
abbrev S8192x1536 : Shape := ⟨2, ![8192, 1536]⟩
abbrev S8192x1024 : Shape := ⟨2, ![8192, 1024]⟩
abbrev S8192x32 : Shape := ⟨2, ![8192, 32]⟩
abbrev S_ : Shape := ⟨0, ![]⟩
abbrev S8192x96 : Shape := ⟨2, ![8192, 96]⟩
abbrev S8192x2688 : Shape := ⟨2, ![8192, 2688]⟩
abbrev S1024x2592 : Shape := ⟨2, ![1024, 2592]⟩
abbrev S2592x1024 : Shape := ⟨2, ![2592, 1024]⟩
abbrev S8x128 : Shape := ⟨2, ![8, 128]⟩
abbrev S512x1024 : Shape := ⟨2, ![512, 1024]⟩
abbrev S512x2688 : Shape := ⟨2, ![512, 2688]⟩
abbrev S512 : Shape := ⟨1, ![512]⟩
abbrev S512x1 : Shape := ⟨2, ![512, 1]⟩
abbrev S512x1536 : Shape := ⟨2, ![512, 1536]⟩
abbrev S1536x1024 : Shape := ⟨2, ![1536, 1024]⟩
abbrev S1024x1024 : Shape := ⟨2, ![1024, 1024]⟩
abbrev S512x128 : Shape := ⟨2, ![512, 128]⟩
abbrev S128x1024 : Shape := ⟨2, ![128, 1024]⟩
abbrev S1024 : Shape := ⟨1, ![1024]⟩

abbrev nBuf : Space → Nat
  | .hbm => 22
  | .vmem => 12
  | .smem => 0
  | _ => 0

abbrev bufTy : (tb : Table) → Fin (tcTables nBuf tb) → BufTy
  | .hbm, ⟨0, _⟩ => ⟨S1x8192x1024, .f32⟩
  | .hbm, ⟨1, _⟩ => ⟨S1x1024, .f32⟩
  | .hbm, ⟨2, _⟩ => ⟨S1x1024x2592, .f32⟩
  | .hbm, ⟨3, _⟩ => ⟨S1x8192x1024, .f32⟩
  | .hbm, ⟨4, _⟩ => ⟨S1x8192x2592, .f32⟩
  | .hbm, ⟨5, _⟩ => ⟨S8192x2592, .f32⟩
  | .hbm, ⟨6, _⟩ => ⟨S8192x2592, .bf16⟩
  | .hbm, ⟨7, _⟩ => ⟨S8192x1536, .bf16⟩
  | .hbm, ⟨8, _⟩ => ⟨S8192x1024, .bf16⟩
  | .hbm, ⟨9, _⟩ => ⟨S8192x32, .bf16⟩
  | .hbm, ⟨10, _⟩ => ⟨S_, .bf16⟩
  | .hbm, ⟨11, _⟩ => ⟨S8192x96, .bf16⟩
  | .hbm, ⟨12, _⟩ => ⟨S8192x2688, .bf16⟩
  | .hbm, ⟨13, _⟩ => ⟨S1024x2592, .f32⟩
  | .hbm, ⟨14, _⟩ => ⟨S2592x1024, .f32⟩
  | .hbm, ⟨15, _⟩ => ⟨S2592x1024, .bf16⟩
  | .hbm, ⟨16, _⟩ => ⟨S8192x1024, .f32⟩
  | .hbm, ⟨17, _⟩ => ⟨S8192x1024, .f32⟩
  | .hbm, ⟨18, _⟩ => ⟨S_, .f32⟩
  | .hbm, ⟨19, _⟩ => ⟨S8x128, .f32⟩
  | .hbm, ⟨20, _⟩ => ⟨S8192x1024, .f32⟩
  | .hbm, ⟨21, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S2592x1024, .bf16⟩
  | .local _ .vmem, ⟨6, _⟩ => ⟨S512x2688, .bf16⟩
  | .local _ .vmem, ⟨7, _⟩ => ⟨S512x2688, .bf16⟩
  | .local _ .vmem, ⟨8, _⟩ => ⟨S8x128, .f32⟩
  | .local _ .vmem, ⟨9, _⟩ => ⟨S512x1024, .f32⟩
  | .local _ .vmem, ⟨10, _⟩ => ⟨S512x1024, .f32⟩
  | .local _ .vmem, ⟨11, _⟩ => ⟨S1x1024, .f32⟩
  | _, _ => ⟨S1x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_0 : Ref sig .tc := ⟨.hbm, 18, rfl⟩
abbrev main_v12 : Ref sig .tc := ⟨.hbm, 19, rfl⟩
abbrev main_v13_0 : Ref sig .tc := ⟨.hbm, 20, rfl⟩
abbrev main_v13_1 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10
abbrev cc0_sem7_0 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2592x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x2688 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S8x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== InprojDxRefIdeal.lean ====
abbrev S1x8192x1024 : Shape := ⟨3, ![1, 8192, 1024]⟩
abbrev S1x1024 : Shape := ⟨2, ![1, 1024]⟩
abbrev S1x1024x2592 : Shape := ⟨3, ![1, 1024, 2592]⟩
abbrev S1x8192x2592 : Shape := ⟨3, ![1, 8192, 2592]⟩
abbrev S1024 : Shape := ⟨1, ![1024]⟩
abbrev S_ : Shape := ⟨0, ![]⟩
abbrev S1x8192 : Shape := ⟨2, ![1, 8192]⟩
abbrev S1x8192x1 : Shape := ⟨3, ![1, 8192, 1]⟩
abbrev S1x1x1024 : Shape := ⟨3, ![1, 1, 1024]⟩
abbrev S1024x2592 : Shape := ⟨2, ![1024, 2592]⟩
abbrev S8192 : Shape := ⟨1, ![8192]⟩
abbrev S8192x1024 : Shape := ⟨2, ![8192, 1024]⟩

abbrev nBuf : Space → Nat
  | .hbm => 58
  | .vmem => 0
  | .smem => 0
  | _ => 0

abbrev bufTy : (tb : Table) → Fin (tcTables nBuf tb) → BufTy
  | .hbm, ⟨0, _⟩ => ⟨S1x8192x1024, .f32⟩
  | .hbm, ⟨1, _⟩ => ⟨S1x1024, .f32⟩
  | .hbm, ⟨2, _⟩ => ⟨S1x1024x2592, .f32⟩
  | .hbm, ⟨3, _⟩ => ⟨S1x8192x1024, .f32⟩
  | .hbm, ⟨4, _⟩ => ⟨S1x8192x2592, .f32⟩
  | .hbm, ⟨5, _⟩ => ⟨S1024, .f32⟩
  | .hbm, ⟨6, _⟩ => ⟨S1x8192x1024, .f32⟩
  | .hbm, ⟨7, _⟩ => ⟨S_, .f32⟩
  | .hbm, ⟨8, _⟩ => ⟨S1x8192, .f32⟩
  | .hbm, ⟨9, _⟩ => ⟨S1x8192x1, .f32⟩
  | .hbm, ⟨10, _⟩ => ⟨S_, .f32⟩
  | .hbm, ⟨11, _⟩ => ⟨S1x8192x1, .f32⟩
  | .hbm, ⟨12, _⟩ => ⟨S1x8192x1, .f32⟩
  | .hbm, ⟨13, _⟩ => ⟨S_, .f32⟩
  | .hbm, ⟨14, _⟩ => ⟨S1x8192x1, .f32⟩
  | .hbm, ⟨15, _⟩ => ⟨S1x8192x1, .f32⟩
  | .hbm, ⟨16, _⟩ => ⟨S1x8192x1, .f32⟩
  | .hbm, ⟨17, _⟩ => ⟨S1x8192x1, .f32⟩
  | .hbm, ⟨18, _⟩ => ⟨S_, .f32⟩
  | .hbm, ⟨19, _⟩ => ⟨S1x8192x1, .f32⟩
  | .hbm, ⟨20, _⟩ => ⟨S1x8192x1, .f32⟩
  | .hbm, ⟨21, _⟩ => ⟨S1x8192x1024, .f32⟩
  | .hbm, ⟨22, _⟩ => ⟨S1x8192x1024, .f32⟩
  | .hbm, ⟨23, _⟩ => ⟨S1x1x1024, .f32⟩
  | .hbm, ⟨24, _⟩ => ⟨S1x8192x1024, .f32⟩
  | .hbm, ⟨25, _⟩ => ⟨S1x8192x1024, .f32⟩
  | .hbm, ⟨26, _⟩ => ⟨S1024x2592, .f32⟩
  | .hbm, ⟨27, _⟩ => ⟨S1x8192x2592, .f32⟩
  | .hbm, ⟨28, _⟩ => ⟨S1x8192x1024, .f32⟩
  | .hbm, ⟨29, _⟩ => ⟨S1x8192x1024, .f32⟩
  | .hbm, ⟨30, _⟩ => ⟨S_, .f32⟩
  | .hbm, ⟨31, _⟩ => ⟨S1x1024, .f32⟩
  | .hbm, ⟨32, _⟩ => ⟨S1x1x1024, .f32⟩
  | .hbm, ⟨33, _⟩ => ⟨S1x8192x1024, .f32⟩
  | .hbm, ⟨34, _⟩ => ⟨S1x8192x1024, .f32⟩
  | .hbm, ⟨35, _⟩ => ⟨S_, .f32⟩
  | .hbm, ⟨36, _⟩ => ⟨S1024, .f32⟩
  | .hbm, ⟨37, _⟩ => ⟨S1x8192x1024, .f32⟩
  | .hbm, ⟨38, _⟩ => ⟨S_, .f32⟩
  | .hbm, ⟨39, _⟩ => ⟨S1x8192, .f32⟩
  | .hbm, ⟨40, _⟩ => ⟨S1x8192x1, .f32⟩
  | .hbm, ⟨41, _⟩ => ⟨S1x8192x1024, .f32⟩
  | .hbm, ⟨42, _⟩ => ⟨S1x8192x1024, .f32⟩
  | .hbm, ⟨43, _⟩ => ⟨S1x8192x1024, .f32⟩
  | .hbm, ⟨44, _⟩ => ⟨S1x8192x1, .f32⟩
  | .hbm, ⟨45, _⟩ => ⟨S_, .f32⟩
  | .hbm, ⟨46, _⟩ => ⟨S1x8192x1, .f32⟩
  | .hbm, ⟨47, _⟩ => ⟨S1x8192x1, .f32⟩
  | .hbm, ⟨48, _⟩ => ⟨S_, .f32⟩
  | .hbm, ⟨49, _⟩ => ⟨S8192, .f32⟩
  | .hbm, ⟨50, _⟩ => ⟨S1x8192, .f32⟩
  | .hbm, ⟨51, _⟩ => ⟨S1x8192x1024, .f32⟩
  | .hbm, ⟨52, _⟩ => ⟨S1x8192x1024, .f32⟩
  | .hbm, ⟨53, _⟩ => ⟨S1x8192x1024, .f32⟩
  | .hbm, ⟨54, _⟩ => ⟨S1x8192x1024, .f32⟩
  | .hbm, ⟨55, _⟩ => ⟨S1x8192x1024, .f32⟩
  | .hbm, ⟨56, _⟩ => ⟨S1x1024, .f32⟩
  | .hbm, ⟨57, _⟩ => ⟨S8192x1024, .f32⟩
  | _, _ => ⟨S1x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_4 : Ref sig .tc := ⟨.hbm, 35, rfl⟩
abbrev main_v25 : Ref sig .tc := ⟨.hbm, 36, rfl⟩
abbrev main_v26 : Ref sig .tc := ⟨.hbm, 37, rfl⟩
abbrev main_cst_5 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_6 : Ref sig .tc := ⟨.hbm, 45, rfl⟩
abbrev main_v33 : Ref sig .tc := ⟨.hbm, 46, rfl⟩
abbrev main_v34 : Ref sig .tc := ⟨.hbm, 47, rfl⟩
abbrev main_cst_7 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩

abbrev nD : Nat := 1
abbrev τ : Topo := Topo.v7x

variable {F : FTy → Type} [FloatOps F]
-- ==== FfnBwd.lean ====
abbrev S1x8192x1024 : Shape := ⟨3, ![1, 8192, 1024]⟩
abbrev S1x1024 : Shape := ⟨2, ![1, 1024]⟩
abbrev S1x1024x2816 : Shape := ⟨3, ![1, 1024, 2816]⟩
abbrev S1x2816x1024 : Shape := ⟨3, ![1, 2816, 1024]⟩
abbrev S1024 : Shape := ⟨1, ![1024]⟩
abbrev S_ : Shape := ⟨0, ![]⟩
abbrev S1x8192 : Shape := ⟨2, ![1, 8192]⟩
abbrev S1x8192x1 : Shape := ⟨3, ![1, 8192, 1]⟩
abbrev S1x1x1024 : Shape := ⟨3, ![1, 1, 1024]⟩
abbrev S1024x2816 : Shape := ⟨2, ![1024, 2816]⟩
abbrev S1x8192x2816 : Shape := ⟨3, ![1, 8192, 2816]⟩
abbrev S2816x1024 : Shape := ⟨2, ![2816, 1024]⟩
abbrev S8192x1024 : Shape := ⟨2, ![8192, 1024]⟩
abbrev S8192x2816 : Shape := ⟨2, ![8192, 2816]⟩
abbrev S256x1024 : Shape := ⟨2, ![256, 1024]⟩
abbrev S256x2816 : Shape := ⟨2, ![256, 2816]⟩
abbrev S256 : Shape := ⟨1, ![256]⟩
abbrev S256x1 : Shape := ⟨2, ![256, 1]⟩

abbrev nBuf : Space → Nat
  | .hbm => 43
  | .vmem => 19
  | .smem => 0
  | _ => 0

abbrev bufTy : (tb : Table) → Fin (tcTables nBuf tb) → BufTy
  | .hbm, ⟨0, _⟩ => ⟨S1x8192x1024, .f32⟩
  | .hbm, ⟨1, _⟩ => ⟨S1x1024, .f32⟩
  | .hbm, ⟨2, _⟩ => ⟨S1x1024x2816, .f32⟩
  | .hbm, ⟨3, _⟩ => ⟨S1x1024x2816, .f32⟩
  | .hbm, ⟨4, _⟩ => ⟨S1x2816x1024, .f32⟩
  | .hbm, ⟨5, _⟩ => ⟨S1x8192x1024, .f32⟩
  | .hbm, ⟨6, _⟩ => ⟨S1024, .f32⟩
  | .hbm, ⟨7, _⟩ => ⟨S1x8192x1024, .f32⟩
  | .hbm, ⟨8, _⟩ => ⟨S_, .f32⟩
  | .hbm, ⟨9, _⟩ => ⟨S1x8192, .f32⟩
  | .hbm, ⟨10, _⟩ => ⟨S1x8192x1, .f32⟩
  | .hbm, ⟨11, _⟩ => ⟨S_, .f32⟩
  | .hbm, ⟨12, _⟩ => ⟨S1x8192x1, .f32⟩
  | .hbm, ⟨13, _⟩ => ⟨S1x8192x1, .f32⟩
  | .hbm, ⟨14, _⟩ => ⟨S_, .f32⟩
  | .hbm, ⟨15, _⟩ => ⟨S1x8192x1, .f32⟩
  | .hbm, ⟨16, _⟩ => ⟨S1x8192x1, .f32⟩
  | .hbm, ⟨17, _⟩ => ⟨S1x8192x1, .f32⟩
  | .hbm, ⟨18, _⟩ => ⟨S1x8192x1024, .f32⟩
  | .hbm, ⟨19, _⟩ => ⟨S1x8192x1024, .f32⟩
  | .hbm, ⟨20, _⟩ => ⟨S1x1x1024, .f32⟩
  | .hbm, ⟨21, _⟩ => ⟨S1x8192x1024, .f32⟩
  | .hbm, ⟨22, _⟩ => ⟨S1x8192x1024, .f32⟩
  | .hbm, ⟨23, _⟩ => ⟨S1024x2816, .f32⟩
  | .hbm, ⟨24, _⟩ => ⟨S1x8192x2816, .f32⟩
  | .hbm, ⟨25, _⟩ => ⟨S1024x2816, .f32⟩
  | .hbm, ⟨26, _⟩ => ⟨S1x8192x2816, .f32⟩
  | .hbm, ⟨27, _⟩ => ⟨S1024x2816, .f32⟩
  | .hbm, ⟨28, _⟩ => ⟨S2816x1024, .f32⟩
  | .hbm, ⟨29, _⟩ => ⟨S2816x1024, .bf16⟩
  | .hbm, ⟨30, _⟩ => ⟨S1024x2816, .f32⟩
  | .hbm, ⟨31, _⟩ => ⟨S2816x1024, .f32⟩
  | .hbm, ⟨32, _⟩ => ⟨S2816x1024, .bf16⟩
  | .hbm, ⟨33, _⟩ => ⟨S8192x1024, .f32⟩
  | .hbm, ⟨34, _⟩ => ⟨S8192x2816, .f32⟩
  | .hbm, ⟨35, _⟩ => ⟨S8192x2816, .f32⟩
  | .hbm, ⟨36, _⟩ => ⟨S8192x1024, .f32⟩
  | .hbm, ⟨37, _⟩ => ⟨S2816x1024, .f32⟩
  | .hbm, ⟨38, _⟩ => ⟨S2816x1024, .bf16⟩
  | .hbm, ⟨39, _⟩ => ⟨S8192x2816, .bf16⟩
  | .hbm, ⟨40, _⟩ => ⟨S8192x2816, .bf16⟩
  | .hbm, ⟨41, _⟩ => ⟨S8192x1024, .f32⟩
  | .hbm, ⟨42, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S256x2816, .f32⟩
  | .local _ .vmem, ⟨3, _⟩ => ⟨S256x2816, .f32⟩
  | .local _ .vmem, ⟨4, _⟩ => ⟨S256x2816, .f32⟩
  | .local _ .vmem, ⟨5, _⟩ => ⟨S256x2816, .f32⟩
  | .local _ .vmem, ⟨6, _⟩ => ⟨S256x1024, .f32⟩
  | .local _ .vmem, ⟨7, _⟩ => ⟨S256x1024, .f32⟩
  | .local _ .vmem, ⟨8, _⟩ => ⟨S1x1024, .f32⟩
  | .local _ .vmem, ⟨9, _⟩ => ⟨S2816x1024, .bf16⟩
  | .local _ .vmem, ⟨10, _⟩ => ⟨S2816x1024, .bf16⟩
  | .local _ .vmem, ⟨11, _⟩ => ⟨S2816x1024, .bf16⟩
  | .local _ .vmem, ⟨12, _⟩ => ⟨S256x2816, .bf16⟩
  | .local _ .vmem, ⟨13, _⟩ => ⟨S256x2816, .bf16⟩
  | .local _ .vmem, ⟨14, _⟩ => ⟨S256x2816, .bf16⟩
  | .local _ .vmem, ⟨15, _⟩ => ⟨S256x2816, .bf16⟩
  | .local _ .vmem, ⟨16, _⟩ => ⟨S256x1024, .f32⟩
  | .local _ .vmem, ⟨17, _⟩ => ⟨S256x1024, .f32⟩
  | .local _ .vmem, ⟨18, _⟩ => ⟨S1x1024, .f32⟩
  | _, _ => ⟨S1x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30_0 : Ref sig .tc := ⟨.hbm, 39, rfl⟩
abbrev main_v30_1 : Ref sig .tc := ⟨.hbm, 40, rfl⟩
abbrev main_v30_2 : Ref sig .tc := ⟨.hbm, 41, rfl⟩
abbrev main_v30_3 : Ref sig .tc := ⟨.hbm, 42, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2816 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2816 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2816x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2816x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2816x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x2816 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x2816 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== FfnBwdRefIdeal.lean ====
abbrev S1x8192x1024 : Shape := ⟨3, ![1, 8192, 1024]⟩
abbrev S1x1024 : Shape := ⟨2, ![1, 1024]⟩
abbrev S1x1024x2816 : Shape := ⟨3, ![1, 1024, 2816]⟩
abbrev S1x2816x1024 : Shape := ⟨3, ![1, 2816, 1024]⟩
abbrev S1024 : Shape := ⟨1, ![1024]⟩
abbrev S_ : Shape := ⟨0, ![]⟩
abbrev S1x8192 : Shape := ⟨2, ![1, 8192]⟩
abbrev S1x8192x1 : Shape := ⟨3, ![1, 8192, 1]⟩
abbrev S1x1x1024 : Shape := ⟨3, ![1, 1, 1024]⟩
abbrev S1024x2816 : Shape := ⟨2, ![1024, 2816]⟩
abbrev S1x8192x2816 : Shape := ⟨3, ![1, 8192, 2816]⟩
abbrev S2816x1024 : Shape := ⟨2, ![2816, 1024]⟩
abbrev S8192 : Shape := ⟨1, ![8192]⟩
abbrev S8192x2816 : Shape := ⟨2, ![8192, 2816]⟩
abbrev S8192x1024 : Shape := ⟨2, ![8192, 1024]⟩

abbrev nBuf : Space → Nat
  | .hbm => 92
  | .vmem => 0
  | .smem => 0
  | _ => 0

abbrev bufTy : (tb : Table) → Fin (tcTables nBuf tb) → BufTy
  | .hbm, ⟨0, _⟩ => ⟨S1x8192x1024, .f32⟩
  | .hbm, ⟨1, _⟩ => ⟨S1x1024, .f32⟩
  | .hbm, ⟨2, _⟩ => ⟨S1x1024x2816, .f32⟩
  | .hbm, ⟨3, _⟩ => ⟨S1x1024x2816, .f32⟩
  | .hbm, ⟨4, _⟩ => ⟨S1x2816x1024, .f32⟩
  | .hbm, ⟨5, _⟩ => ⟨S1x8192x1024, .f32⟩
  | .hbm, ⟨6, _⟩ => ⟨S1024, .f32⟩
  | .hbm, ⟨7, _⟩ => ⟨S1x8192x1024, .f32⟩
  | .hbm, ⟨8, _⟩ => ⟨S_, .f32⟩
  | .hbm, ⟨9, _⟩ => ⟨S1x8192, .f32⟩
  | .hbm, ⟨10, _⟩ => ⟨S1x8192x1, .f32⟩
  | .hbm, ⟨11, _⟩ => ⟨S_, .f32⟩
  | .hbm, ⟨12, _⟩ => ⟨S1x8192x1, .f32⟩
  | .hbm, ⟨13, _⟩ => ⟨S1x8192x1, .f32⟩
  | .hbm, ⟨14, _⟩ => ⟨S_, .f32⟩
  | .hbm, ⟨15, _⟩ => ⟨S1x8192x1, .f32⟩
  | .hbm, ⟨16, _⟩ => ⟨S1x8192x1, .f32⟩
  | .hbm, ⟨17, _⟩ => ⟨S1x8192x1, .f32⟩
  | .hbm, ⟨18, _⟩ => ⟨S1x8192x1, .f32⟩
  | .hbm, ⟨19, _⟩ => ⟨S_, .f32⟩
  | .hbm, ⟨20, _⟩ => ⟨S1x8192x1, .f32⟩
  | .hbm, ⟨21, _⟩ => ⟨S1x8192x1, .f32⟩
  | .hbm, ⟨22, _⟩ => ⟨S1x8192x1024, .f32⟩
  | .hbm, ⟨23, _⟩ => ⟨S1x8192x1024, .f32⟩
  | .hbm, ⟨24, _⟩ => ⟨S1x1x1024, .f32⟩
  | .hbm, ⟨25, _⟩ => ⟨S1x8192x1024, .f32⟩
  | .hbm, ⟨26, _⟩ => ⟨S1x8192x1024, .f32⟩
  | .hbm, ⟨27, _⟩ => ⟨S1024x2816, .f32⟩
  | .hbm, ⟨28, _⟩ => ⟨S1x8192x2816, .f32⟩
  | .hbm, ⟨29, _⟩ => ⟨S1024x2816, .f32⟩
  | .hbm, ⟨30, _⟩ => ⟨S1x8192x2816, .f32⟩
  | .hbm, ⟨31, _⟩ => ⟨S1x8192x2816, .f32⟩
  | .hbm, ⟨32, _⟩ => ⟨S1x8192x2816, .f32⟩
  | .hbm, ⟨33, _⟩ => ⟨S_, .f32⟩
  | .hbm, ⟨34, _⟩ => ⟨S1x8192x2816, .f32⟩
  | .hbm, ⟨35, _⟩ => ⟨S1x8192x2816, .f32⟩
  | .hbm, ⟨36, _⟩ => ⟨S_, .f32⟩
  | .hbm, ⟨37, _⟩ => ⟨S1x8192x2816, .f32⟩
  | .hbm, ⟨38, _⟩ => ⟨S1x8192x2816, .f32⟩
  | .hbm, ⟨39, _⟩ => ⟨S_, .f32⟩
  | .hbm, ⟨40, _⟩ => ⟨S1x8192x2816, .f32⟩
  | .hbm, ⟨41, _⟩ => ⟨S1x8192x2816, .f32⟩
  | .hbm, ⟨42, _⟩ => ⟨S1x8192x2816, .f32⟩
  | .hbm, ⟨43, _⟩ => ⟨S1x8192x2816, .f32⟩
  | .hbm, ⟨44, _⟩ => ⟨S1x8192x2816, .f32⟩
  | .hbm, ⟨45, _⟩ => ⟨S2816x1024, .f32⟩
  | .hbm, ⟨46, _⟩ => ⟨S1x8192x1024, .f32⟩
  | .hbm, ⟨47, _⟩ => ⟨S1x8192x1024, .f32⟩
  | .hbm, ⟨48, _⟩ => ⟨S1x8192x1024, .f32⟩
  | .hbm, ⟨49, _⟩ => ⟨S1x8192x2816, .f32⟩
  | .hbm, ⟨50, _⟩ => ⟨S1x8192x2816, .f32⟩
  | .hbm, ⟨51, _⟩ => ⟨S1x8192x2816, .f32⟩
  | .hbm, ⟨52, _⟩ => ⟨S1x8192x2816, .f32⟩
  | .hbm, ⟨53, _⟩ => ⟨S1x8192x2816, .f32⟩
  | .hbm, ⟨54, _⟩ => ⟨S1x8192x2816, .f32⟩
  | .hbm, ⟨55, _⟩ => ⟨S1x8192x2816, .f32⟩
  | .hbm, ⟨56, _⟩ => ⟨S1x8192x1024, .f32⟩
  | .hbm, ⟨57, _⟩ => ⟨S1x8192x1024, .f32⟩
  | .hbm, ⟨58, _⟩ => ⟨S1x8192x1024, .f32⟩
  | .hbm, ⟨59, _⟩ => ⟨S1x8192x1024, .f32⟩
  | .hbm, ⟨60, _⟩ => ⟨S_, .f32⟩
  | .hbm, ⟨61, _⟩ => ⟨S1x1024, .f32⟩
  | .hbm, ⟨62, _⟩ => ⟨S1x1x1024, .f32⟩
  | .hbm, ⟨63, _⟩ => ⟨S1x8192x1024, .f32⟩
  | .hbm, ⟨64, _⟩ => ⟨S1x8192x1024, .f32⟩
  | .hbm, ⟨65, _⟩ => ⟨S_, .f32⟩
  | .hbm, ⟨66, _⟩ => ⟨S1024, .f32⟩
  | .hbm, ⟨67, _⟩ => ⟨S1x8192x1024, .f32⟩
  | .hbm, ⟨68, _⟩ => ⟨S_, .f32⟩
  | .hbm, ⟨69, _⟩ => ⟨S1x8192, .f32⟩
  | .hbm, ⟨70, _⟩ => ⟨S1x8192x1, .f32⟩
  | .hbm, ⟨71, _⟩ => ⟨S1x8192x1024, .f32⟩
  | .hbm, ⟨72, _⟩ => ⟨S1x8192x1024, .f32⟩
  | .hbm, ⟨73, _⟩ => ⟨S1x8192x1024, .f32⟩
  | .hbm, ⟨74, _⟩ => ⟨S1x8192x1, .f32⟩
  | .hbm, ⟨75, _⟩ => ⟨S_, .f32⟩
  | .hbm, ⟨76, _⟩ => ⟨S1x8192x1, .f32⟩
  | .hbm, ⟨77, _⟩ => ⟨S1x8192x1, .f32⟩
  | .hbm, ⟨78, _⟩ => ⟨S_, .f32⟩
  | .hbm, ⟨79, _⟩ => ⟨S8192, .f32⟩
  | .hbm, ⟨80, _⟩ => ⟨S1x8192, .f32⟩
  | .hbm, ⟨81, _⟩ => ⟨S1x8192x1024, .f32⟩
  | .hbm, ⟨82, _⟩ => ⟨S1x8192x1024, .f32⟩
  | .hbm, ⟨83, _⟩ => ⟨S1x8192x1024, .f32⟩
  | .hbm, ⟨84, _⟩ => ⟨S1x8192x1024, .f32⟩
  | .hbm, ⟨85, _⟩ => ⟨S1x8192x1024, .f32⟩
  | .hbm, ⟨86, _⟩ => ⟨S1x1024, .f32⟩
  | .hbm, ⟨87, _⟩ => ⟨S8192x2816, .f32⟩
  | .hbm, ⟨88, _⟩ => ⟨S8192x2816, .bf16⟩
  | .hbm, ⟨89, _⟩ => ⟨S8192x2816, .f32⟩
  | .hbm, ⟨90, _⟩ => ⟨S8192x2816, .bf16⟩
  | .hbm, ⟨91, _⟩ => ⟨S8192x1024, .f32⟩
  | _, _ => ⟨S1x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_2 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_call0_v0 : Ref sig .tc := ⟨.hbm, 31, rfl⟩
abbrev main_call0_v1 : Ref sig .tc := ⟨.hbm, 32, rfl⟩
abbrev main_call0_cst : Ref sig .tc := ⟨.hbm, 33, rfl⟩
abbrev main_call0_v2 : Ref sig .tc := ⟨.hbm, 34, rfl⟩
abbrev main_call0_v3 : Ref sig .tc := ⟨.hbm, 35, rfl⟩
abbrev main_call0_cst_0 : Ref sig .tc := ⟨.hbm, 36, rfl⟩
abbrev main_call0_v4 : Ref sig .tc := ⟨.hbm, 37, rfl⟩
abbrev main_v21_2 : Ref sig .tc := ⟨.hbm, 38, rfl⟩
abbrev main_call0_cst_1 : Ref sig .tc := ⟨.hbm, 39, rfl⟩
abbrev main_call0_v6 : Ref sig .tc := ⟨.hbm, 40, rfl⟩
abbrev main_call0_v7 : Ref sig .tc := ⟨.hbm, 41, rfl⟩
abbrev main_v21_1 : Ref sig .tc := ⟨.hbm, 42, rfl⟩
abbrev main_v21_0 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_call1_v0 : Ref sig .tc := ⟨.hbm, 52, rfl⟩
abbrev main_call1_v1 : Ref sig .tc := ⟨.hbm, 53, rfl⟩
abbrev main_call1_v2 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_cst_3 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_cst_4 : Ref sig .tc := ⟨.hbm, 65, rfl⟩
abbrev main_v39 : Ref sig .tc := ⟨.hbm, 66, rfl⟩
abbrev main_v40 : Ref sig .tc := ⟨.hbm, 67, rfl⟩
abbrev main_cst_5 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_cst_6 : Ref sig .tc := ⟨.hbm, 75, rfl⟩
abbrev main_v47 : Ref sig .tc := ⟨.hbm, 76, rfl⟩
abbrev main_v48 : Ref sig .tc := ⟨.hbm, 77, rfl⟩
abbrev main_cst_7 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩

abbrev nD : Nat := 1
abbrev τ : Topo := Topo.v7x

variable {F : FTy → Type} [FloatOps F]
-- ==== FfnFwd.lean ====
abbrev S1x8192x1024 : Shape := ⟨3, ![1, 8192, 1024]⟩
abbrev S1x1024 : Shape := ⟨2, ![1, 1024]⟩
abbrev S1x1024x2816 : Shape := ⟨3, ![1, 1024, 2816]⟩
abbrev S1x2816x1024 : Shape := ⟨3, ![1, 2816, 1024]⟩
abbrev S1024 : Shape := ⟨1, ![1024]⟩
abbrev S1024x2816 : Shape := ⟨2, ![1024, 2816]⟩
abbrev S2816x1024 : Shape := ⟨2, ![2816, 1024]⟩
abbrev S8192x1024 : Shape := ⟨2, ![8192, 1024]⟩
abbrev S8192x2816 : Shape := ⟨2, ![8192, 2816]⟩
abbrev S1x128 : Shape := ⟨2, ![1, 128]⟩
abbrev S256x1024 : Shape := ⟨2, ![256, 1024]⟩
abbrev S256x2816 : Shape := ⟨2, ![256, 2816]⟩
abbrev S256 : Shape := ⟨1, ![256]⟩
abbrev S256x1 : Shape := ⟨2, ![256, 1]⟩
abbrev S1x256x1 : Shape := ⟨3, ![1, 256, 1]⟩
abbrev S1 : Shape := ⟨1, ![1]⟩
abbrev S1x1x1 : Shape := ⟨3, ![1, 1, 1]⟩

abbrev nBuf : Space → Nat
  | .hbm => 25
  | .vmem => 21
  | .smem => 0
  | _ => 0

abbrev bufTy : (tb : Table) → Fin (tcTables nBuf tb) → BufTy
  | .hbm, ⟨0, _⟩ => ⟨S1x8192x1024, .f32⟩
  | .hbm, ⟨1, _⟩ => ⟨S1x8192x1024, .f32⟩
  | .hbm, ⟨2, _⟩ => ⟨S1x1024, .f32⟩
  | .hbm, ⟨3, _⟩ => ⟨S1x1024x2816, .f32⟩
  | .hbm, ⟨4, _⟩ => ⟨S1x1024x2816, .f32⟩
  | .hbm, ⟨5, _⟩ => ⟨S1x2816x1024, .f32⟩
  | .hbm, ⟨6, _⟩ => ⟨S1024, .f32⟩
  | .hbm, ⟨7, _⟩ => ⟨S1024x2816, .f32⟩
  | .hbm, ⟨8, _⟩ => ⟨S2816x1024, .f32⟩
  | .hbm, ⟨9, _⟩ => ⟨S2816x1024, .bf16⟩
  | .hbm, ⟨10, _⟩ => ⟨S1024x2816, .f32⟩
  | .hbm, ⟨11, _⟩ => ⟨S2816x1024, .f32⟩
  | .hbm, ⟨12, _⟩ => ⟨S2816x1024, .bf16⟩
  | .hbm, ⟨13, _⟩ => ⟨S8192x1024, .f32⟩
  | .hbm, ⟨14, _⟩ => ⟨S8192x1024, .f32⟩
  | .hbm, ⟨15, _⟩ => ⟨S1x1024, .f32⟩
  | .hbm, ⟨16, _⟩ => ⟨S2816x1024, .f32⟩
  | .hbm, ⟨17, _⟩ => ⟨S2816x1024, .bf16⟩
  | .hbm, ⟨18, _⟩ => ⟨S8192x1024, .bf16⟩
  | .hbm, ⟨19, _⟩ => ⟨S8192x2816, .f32⟩
  | .hbm, ⟨20, _⟩ => ⟨S8192x2816, .f32⟩
  | .hbm, ⟨21, _⟩ => ⟨S8192x2816, .bf16⟩
  | .hbm, ⟨22, _⟩ => ⟨S8192x1024, .f32⟩
  | .hbm, ⟨23, _⟩ => ⟨S1x128, .f32⟩
  | .hbm, ⟨24, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S1x1024, .f32⟩
  | .local _ .vmem, ⟨5, _⟩ => ⟨S1x1024, .f32⟩
  | .local _ .vmem, ⟨6, _⟩ => ⟨S2816x1024, .bf16⟩
  | .local _ .vmem, ⟨7, _⟩ => ⟨S2816x1024, .bf16⟩
  | .local _ .vmem, ⟨8, _⟩ => ⟨S2816x1024, .bf16⟩
  | .local _ .vmem, ⟨9, _⟩ => ⟨S256x1024, .bf16⟩
  | .local _ .vmem, ⟨10, _⟩ => ⟨S256x1024, .bf16⟩
  | .local _ .vmem, ⟨11, _⟩ => ⟨S256x2816, .f32⟩
  | .local _ .vmem, ⟨12, _⟩ => ⟨S256x2816, .f32⟩
  | .local _ .vmem, ⟨13, _⟩ => ⟨S256x2816, .f32⟩
  | .local _ .vmem, ⟨14, _⟩ => ⟨S256x2816, .f32⟩
  | .local _ .vmem, ⟨15, _⟩ => ⟨S256x2816, .bf16⟩
  | .local _ .vmem, ⟨16, _⟩ => ⟨S256x2816, .bf16⟩
  | .local _ .vmem, ⟨17, _⟩ => ⟨S256x1024, .f32⟩
  | .local _ .vmem, ⟨18, _⟩ => ⟨S256x1024, .f32⟩
  | .local _ .vmem, ⟨19, _⟩ => ⟨S1x128, .f32⟩
  | .local _ .vmem, ⟨20, _⟩ => ⟨S1x1024, .f32⟩
  | _, _ => ⟨S1x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11_0 : Ref sig .tc := ⟨.hbm, 18, rfl⟩
abbrev main_v11_1 : Ref sig .tc := ⟨.hbm, 19, rfl⟩
abbrev main_v11_2 : Ref sig .tc := ⟨.hbm, 20, rfl⟩
abbrev main_v11_3 : Ref sig .tc := ⟨.hbm, 21, rfl⟩
abbrev main_v11_4 : Ref sig .tc := ⟨.hbm, 22, rfl⟩
abbrev main_v11_5 : Ref sig .tc := ⟨.hbm, 23, rfl⟩
abbrev main_v11_6 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg13_0 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem13_0 : DmaSem sig := 20

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2816x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2816x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x2816 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x2816 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x2816 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S1x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]
-- ==== FfnFwdRefIdeal.lean ====
abbrev S1x8192x1024 : Shape := ⟨3, ![1, 8192, 1024]⟩
abbrev S1x1024 : Shape := ⟨2, ![1, 1024]⟩
abbrev S1x1024x2816 : Shape := ⟨3, ![1, 1024, 2816]⟩
abbrev S1x2816x1024 : Shape := ⟨3, ![1, 2816, 1024]⟩
abbrev S1024 : Shape := ⟨1, ![1024]⟩
abbrev S_ : Shape := ⟨0, ![]⟩
abbrev S1x8192 : Shape := ⟨2, ![1, 8192]⟩
abbrev S1x8192x1 : Shape := ⟨3, ![1, 8192, 1]⟩
abbrev S1x1x1024 : Shape := ⟨3, ![1, 1, 1024]⟩
abbrev S1024x2816 : Shape := ⟨2, ![1024, 2816]⟩
abbrev S1x8192x2816 : Shape := ⟨3, ![1, 8192, 2816]⟩
abbrev S2816x1024 : Shape := ⟨2, ![2816, 1024]⟩
abbrev S8192 : Shape := ⟨1, ![8192]⟩
abbrev S8192x1024 : Shape := ⟨2, ![8192, 1024]⟩
abbrev S8192x2816 : Shape := ⟨2, ![8192, 2816]⟩
abbrev S1x128 : Shape := ⟨2, ![1, 128]⟩

abbrev nBuf : Space → Nat
  | .hbm => 119
  | .vmem => 0
  | .smem => 0
  | _ => 0

abbrev bufTy : (tb : Table) → Fin (tcTables nBuf tb) → BufTy
  | .hbm, ⟨0, _⟩ => ⟨S1x8192x1024, .f32⟩
  | .hbm, ⟨1, _⟩ => ⟨S1x8192x1024, .f32⟩
  | .hbm, ⟨2, _⟩ => ⟨S1x1024, .f32⟩
  | .hbm, ⟨3, _⟩ => ⟨S1x1024x2816, .f32⟩
  | .hbm, ⟨4, _⟩ => ⟨S1x1024x2816, .f32⟩
  | .hbm, ⟨5, _⟩ => ⟨S1x2816x1024, .f32⟩
  | .hbm, ⟨6, _⟩ => ⟨S1024, .f32⟩
  | .hbm, ⟨7, _⟩ => ⟨S1024, .f32⟩
  | .hbm, ⟨8, _⟩ => ⟨S1x8192x1024, .f32⟩
  | .hbm, ⟨9, _⟩ => ⟨S_, .f32⟩
  | .hbm, ⟨10, _⟩ => ⟨S1x8192, .f32⟩
  | .hbm, ⟨11, _⟩ => ⟨S1x8192x1, .f32⟩
  | .hbm, ⟨12, _⟩ => ⟨S_, .f32⟩
  | .hbm, ⟨13, _⟩ => ⟨S1x8192x1, .f32⟩
  | .hbm, ⟨14, _⟩ => ⟨S1x8192x1, .f32⟩
  | .hbm, ⟨15, _⟩ => ⟨S_, .f32⟩
  | .hbm, ⟨16, _⟩ => ⟨S1x8192x1, .f32⟩
  | .hbm, ⟨17, _⟩ => ⟨S1x8192x1, .f32⟩
  | .hbm, ⟨18, _⟩ => ⟨S1x8192x1, .f32⟩
  | .hbm, ⟨19, _⟩ => ⟨S1x8192x1024, .f32⟩
  | .hbm, ⟨20, _⟩ => ⟨S1x8192x1024, .f32⟩
  | .hbm, ⟨21, _⟩ => ⟨S1x1x1024, .f32⟩
  | .hbm, ⟨22, _⟩ => ⟨S1x8192x1024, .f32⟩
  | .hbm, ⟨23, _⟩ => ⟨S1x8192x1024, .f32⟩
  | .hbm, ⟨24, _⟩ => ⟨S1024x2816, .f32⟩
  | .hbm, ⟨25, _⟩ => ⟨S1x8192x2816, .f32⟩
  | .hbm, ⟨26, _⟩ => ⟨S1024x2816, .f32⟩
  | .hbm, ⟨27, _⟩ => ⟨S1x8192x2816, .f32⟩
  | .hbm, ⟨28, _⟩ => ⟨S1x8192x2816, .f32⟩
  | .hbm, ⟨29, _⟩ => ⟨S1x8192x2816, .f32⟩
  | .hbm, ⟨30, _⟩ => ⟨S_, .f32⟩
  | .hbm, ⟨31, _⟩ => ⟨S1x8192x2816, .f32⟩
  | .hbm, ⟨32, _⟩ => ⟨S1x8192x2816, .f32⟩
  | .hbm, ⟨33, _⟩ => ⟨S_, .f32⟩
  | .hbm, ⟨34, _⟩ => ⟨S1x8192x2816, .f32⟩
  | .hbm, ⟨35, _⟩ => ⟨S1x8192x2816, .f32⟩
  | .hbm, ⟨36, _⟩ => ⟨S1x8192x2816, .f32⟩
  | .hbm, ⟨37, _⟩ => ⟨S1x8192x2816, .f32⟩
  | .hbm, ⟨38, _⟩ => ⟨S2816x1024, .f32⟩
  | .hbm, ⟨39, _⟩ => ⟨S1x8192x1024, .f32⟩
  | .hbm, ⟨40, _⟩ => ⟨S1x8192x1024, .f32⟩
  | .hbm, ⟨41, _⟩ => ⟨S1x8192x1024, .f32⟩
  | .hbm, ⟨42, _⟩ => ⟨S_, .f32⟩
  | .hbm, ⟨43, _⟩ => ⟨S1x8192, .f32⟩
  | .hbm, ⟨44, _⟩ => ⟨S1x8192x1, .f32⟩
  | .hbm, ⟨45, _⟩ => ⟨S_, .f32⟩
  | .hbm, ⟨46, _⟩ => ⟨S1x8192x1, .f32⟩
  | .hbm, ⟨47, _⟩ => ⟨S1x8192x1, .f32⟩
  | .hbm, ⟨48, _⟩ => ⟨S_, .f32⟩
  | .hbm, ⟨49, _⟩ => ⟨S1x8192x1, .f32⟩
  | .hbm, ⟨50, _⟩ => ⟨S1x8192x1, .f32⟩
  | .hbm, ⟨51, _⟩ => ⟨S1x8192x1, .f32⟩
  | .hbm, ⟨52, _⟩ => ⟨S1x8192x1, .f32⟩
  | .hbm, ⟨53, _⟩ => ⟨S_, .f32⟩
  | .hbm, ⟨54, _⟩ => ⟨S1x8192x1, .f32⟩
  | .hbm, ⟨55, _⟩ => ⟨S1x8192x1, .f32⟩
  | .hbm, ⟨56, _⟩ => ⟨S1x8192x1024, .f32⟩
  | .hbm, ⟨57, _⟩ => ⟨S1x8192x1024, .f32⟩
  | .hbm, ⟨58, _⟩ => ⟨S1x1x1024, .f32⟩
  | .hbm, ⟨59, _⟩ => ⟨S1x8192x1024, .f32⟩
  | .hbm, ⟨60, _⟩ => ⟨S1x8192x1024, .f32⟩
  | .hbm, ⟨61, _⟩ => ⟨S1x8192x1024, .f32⟩
  | .hbm, ⟨62, _⟩ => ⟨S1x8192x1024, .f32⟩
  | .hbm, ⟨63, _⟩ => ⟨S_, .f32⟩
  | .hbm, ⟨64, _⟩ => ⟨S1x8192x1024, .f32⟩
  | .hbm, ⟨65, _⟩ => ⟨S1x8192x1024, .f32⟩
  | .hbm, ⟨66, _⟩ => ⟨S_, .f32⟩
  | .hbm, ⟨67, _⟩ => ⟨S1x8192, .f32⟩
  | .hbm, ⟨68, _⟩ => ⟨S_, .f32⟩
  | .hbm, ⟨69, _⟩ => ⟨S1x8192, .f32⟩
  | .hbm, ⟨70, _⟩ => ⟨S1x8192, .f32⟩
  | .hbm, ⟨71, _⟩ => ⟨S_, .f32⟩
  | .hbm, ⟨72, _⟩ => ⟨S_, .f32⟩
  | .hbm, ⟨73, _⟩ => ⟨S_, .f32⟩
  | .hbm, ⟨74, _⟩ => ⟨S_, .f32⟩
  | .hbm, ⟨75, _⟩ => ⟨S_, .f32⟩
  | .hbm, ⟨76, _⟩ => ⟨S_, .f32⟩
  | .hbm, ⟨77, _⟩ => ⟨S_, .f32⟩
  | .hbm, ⟨78, _⟩ => ⟨S1x8192, .f32⟩
  | .hbm, ⟨79, _⟩ => ⟨S_, .f32⟩
  | .hbm, ⟨80, _⟩ => ⟨S1x8192, .f32⟩
  | .hbm, ⟨81, _⟩ => ⟨S1x8192, .f32⟩
  | .hbm, ⟨82, _⟩ => ⟨S1x8192x1024, .f32⟩
  | .hbm, ⟨83, _⟩ => ⟨S1x8192x1024, .f32⟩
  | .hbm, ⟨84, _⟩ => ⟨S1x8192x1024, .f32⟩
  | .hbm, ⟨85, _⟩ => ⟨S_, .f32⟩
  | .hbm, ⟨86, _⟩ => ⟨S1x1024, .f32⟩
  | .hbm, ⟨87, _⟩ => ⟨S1x1x1024, .f32⟩
  | .hbm, ⟨88, _⟩ => ⟨S1x8192x1024, .f32⟩
  | .hbm, ⟨89, _⟩ => ⟨S1x8192x1024, .f32⟩
  | .hbm, ⟨90, _⟩ => ⟨S_, .f32⟩
  | .hbm, ⟨91, _⟩ => ⟨S1024, .f32⟩
  | .hbm, ⟨92, _⟩ => ⟨S1x8192x1024, .f32⟩
  | .hbm, ⟨93, _⟩ => ⟨S_, .f32⟩
  | .hbm, ⟨94, _⟩ => ⟨S1x8192, .f32⟩
  | .hbm, ⟨95, _⟩ => ⟨S1x8192x1, .f32⟩
  | .hbm, ⟨96, _⟩ => ⟨S1x8192x1024, .f32⟩
  | .hbm, ⟨97, _⟩ => ⟨S1x8192x1024, .f32⟩
  | .hbm, ⟨98, _⟩ => ⟨S1x8192x1, .f32⟩
  | .hbm, ⟨99, _⟩ => ⟨S_, .f32⟩
  | .hbm, ⟨100, _⟩ => ⟨S1x8192x1, .f32⟩
  | .hbm, ⟨101, _⟩ => ⟨S1x8192x1, .f32⟩
  | .hbm, ⟨102, _⟩ => ⟨S_, .f32⟩
  | .hbm, ⟨103, _⟩ => ⟨S8192, .f32⟩
  | .hbm, ⟨104, _⟩ => ⟨S1x8192, .f32⟩
  | .hbm, ⟨105, _⟩ => ⟨S1x8192x1024, .f32⟩
  | .hbm, ⟨106, _⟩ => ⟨S1x8192x1024, .f32⟩
  | .hbm, ⟨107, _⟩ => ⟨S1x8192x1024, .f32⟩
  | .hbm, ⟨108, _⟩ => ⟨S1x8192x1024, .f32⟩
  | .hbm, ⟨109, _⟩ => ⟨S1x8192x1024, .f32⟩
  | .hbm, ⟨110, _⟩ => ⟨S8192x1024, .f32⟩
  | .hbm, ⟨111, _⟩ => ⟨S8192x1024, .bf16⟩
  | .hbm, ⟨112, _⟩ => ⟨S8192x2816, .f32⟩
  | .hbm, ⟨113, _⟩ => ⟨S8192x2816, .f32⟩
  | .hbm, ⟨114, _⟩ => ⟨S8192x2816, .f32⟩
  | .hbm, ⟨115, _⟩ => ⟨S8192x2816, .bf16⟩
  | .hbm, ⟨116, _⟩ => ⟨S8192x1024, .f32⟩
  | .hbm, ⟨117, _⟩ => ⟨S1x128, .f32⟩
  | .hbm, ⟨118, _⟩ => ⟨S1x1024, .f32⟩
  | _, _ => ⟨S1x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_call0_v0 : Ref sig .tc := ⟨.hbm, 28, rfl⟩
abbrev main_call0_v1 : Ref sig .tc := ⟨.hbm, 29, rfl⟩
abbrev main_call0_cst : Ref sig .tc := ⟨.hbm, 30, rfl⟩
abbrev main_call0_v2 : Ref sig .tc := ⟨.hbm, 31, rfl⟩
abbrev main_call0_v3 : Ref sig .tc := ⟨.hbm, 32, rfl⟩
abbrev main_call0_cst_0 : Ref sig .tc := ⟨.hbm, 33, rfl⟩
abbrev main_call0_v4 : Ref sig .tc := ⟨.hbm, 34, rfl⟩
abbrev main_call0_v5 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_cst_2 : Ref sig .tc := ⟨.hbm, 42, rfl⟩
abbrev main_v24 : Ref sig .tc := ⟨.hbm, 43, rfl⟩
abbrev main_v25 : Ref sig .tc := ⟨.hbm, 44, rfl⟩
abbrev main_cst_3 : Ref sig .tc := ⟨.hbm, 45, rfl⟩
abbrev main_v26 : Ref sig .tc := ⟨.hbm, 46, rfl⟩
abbrev main_v27 : Ref sig .tc := ⟨.hbm, 47, rfl⟩
abbrev main_cst_4 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_cst_5 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_cst_6 : Ref sig .tc := ⟨.hbm, 63, rfl⟩
abbrev main_v41 : Ref sig .tc := ⟨.hbm, 64, rfl⟩
abbrev main_v42 : Ref sig .tc := ⟨.hbm, 65, rfl⟩
abbrev main_cst_7 : Ref sig .tc := ⟨.hbm, 66, rfl⟩
abbrev main_v43 : Ref sig .tc := ⟨.hbm, 67, rfl⟩
abbrev main_cst_8 : Ref sig .tc := ⟨.hbm, 68, rfl⟩
abbrev main_v44 : Ref sig .tc := ⟨.hbm, 69, rfl⟩
abbrev main_v45 : Ref sig .tc := ⟨.hbm, 70, rfl⟩
abbrev main_cst_9 : Ref sig .tc := ⟨.hbm, 71, rfl⟩
abbrev main_v46 : Ref sig .tc := ⟨.hbm, 72, rfl⟩
abbrev main_cst_10 : Ref sig .tc := ⟨.hbm, 73, rfl⟩
abbrev main_v47 : Ref sig .tc := ⟨.hbm, 74, rfl⟩
abbrev main_cst_11 : Ref sig .tc := ⟨.hbm, 75, rfl⟩
abbrev main_cst_12 : Ref sig .tc := ⟨.hbm, 76, rfl⟩
abbrev main_v48 : Ref sig .tc := ⟨.hbm, 77, rfl⟩
abbrev main_v49 : Ref sig .tc := ⟨.hbm, 78, rfl⟩
abbrev main_cst_13 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_cst_14 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_cst_15 : Ref sig .tc := ⟨.hbm, 90, rfl⟩
abbrev main_v59 : Ref sig .tc := ⟨.hbm, 91, rfl⟩
abbrev main_v60 : Ref sig .tc := ⟨.hbm, 92, rfl⟩
abbrev main_cst_16 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_cst_17 : Ref sig .tc := ⟨.hbm, 99, rfl⟩
abbrev main_v66 : Ref sig .tc := ⟨.hbm, 100, rfl⟩
abbrev main_v67 : Ref sig .tc := ⟨.hbm, 101, rfl⟩
abbrev main_cst_18 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩

abbrev nD : Nat := 1
abbrev τ : Topo := Topo.v7x

variable {F : FTy → Type} [FloatOps F]
-- ==== InprojWgrad.lean ====
abbrev S1x8192x1024 : Shape := ⟨3, ![1, 8192, 1024]⟩
abbrev S1x1024 : Shape := ⟨2, ![1, 1024]⟩
abbrev S1x8192x2592 : Shape := ⟨3, ![1, 8192, 2592]⟩
abbrev S8192x2592 : Shape := ⟨2, ![8192, 2592]⟩
abbrev S8192x32 : Shape := ⟨2, ![8192, 32]⟩
abbrev S_ : Shape := ⟨0, ![]⟩
abbrev S8192x96 : Shape := ⟨2, ![8192, 96]⟩
abbrev S8192x128 : Shape := ⟨2, ![8192, 128]⟩
abbrev S8192x1024 : Shape := ⟨2, ![8192, 1024]⟩
abbrev S8192x256 : Shape := ⟨2, ![8192, 256]⟩
abbrev S8192x512 : Shape := ⟨2, ![8192, 512]⟩
abbrev S2592x1024 : Shape := ⟨2, ![2592, 1024]⟩
abbrev S8192x2688 : Shape := ⟨2, ![8192, 2688]⟩
abbrev S512x1024 : Shape := ⟨2, ![512, 1024]⟩
abbrev S512x256 : Shape := ⟨2, ![512, 256]⟩
abbrev S512x512 : Shape := ⟨2, ![512, 512]⟩
abbrev S512x128 : Shape := ⟨2, ![512, 128]⟩
abbrev S512x2688 : Shape := ⟨2, ![512, 2688]⟩
abbrev S512 : Shape := ⟨1, ![512]⟩
abbrev S512x1 : Shape := ⟨2, ![512, 1]⟩
abbrev S1536x1024 : Shape := ⟨2, ![1536, 1024]⟩
abbrev S512x1536 : Shape := ⟨2, ![512, 1536]⟩
abbrev S1024x1024 : Shape := ⟨2, ![1024, 1024]⟩
abbrev S32x1024 : Shape := ⟨2, ![32, 1024]⟩
abbrev S128x1024 : Shape := ⟨2, ![128, 1024]⟩

abbrev nBuf : Space → Nat
  | .hbm => 18
  | .vmem => 20
  | .smem => 0
  | _ => 0

abbrev bufTy : (tb : Table) → Fin (tcTables nBuf tb) → BufTy
  | .hbm, ⟨0, _⟩ => ⟨S1x8192x1024, .f32⟩
  | .hbm, ⟨1, _⟩ => ⟨S1x1024, .f32⟩
  | .hbm, ⟨2, _⟩ => ⟨S1x8192x2592, .f32⟩
  | .hbm, ⟨3, _⟩ => ⟨S8192x2592, .f32⟩
  | .hbm, ⟨4, _⟩ => ⟨S8192x2592, .bf16⟩
  | .hbm, ⟨5, _⟩ => ⟨S8192x32, .bf16⟩
  | .hbm, ⟨6, _⟩ => ⟨S_, .bf16⟩
  | .hbm, ⟨7, _⟩ => ⟨S8192x96, .bf16⟩
  | .hbm, ⟨8, _⟩ => ⟨S8192x128, .bf16⟩
  | .hbm, ⟨9, _⟩ => ⟨S8192x1024, .f32⟩
  | .hbm, ⟨10, _⟩ => ⟨S8192x256, .bf16⟩
  | .hbm, ⟨11, _⟩ => ⟨S8192x256, .bf16⟩
  | .hbm, ⟨12, _⟩ => ⟨S8192x512, .bf16⟩
  | .hbm, ⟨13, _⟩ => ⟨S8192x512, .bf16⟩
  | .hbm, ⟨14, _⟩ => ⟨S8192x512, .bf16⟩
  | .hbm, ⟨15, _⟩ => ⟨S8192x512, .bf16⟩
  | .hbm, ⟨16, _⟩ => ⟨S2592x1024, .f32⟩
  | .hbm, ⟨17, _⟩ => ⟨S8192x2688, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x256, .bf16⟩
  | .local _ .vmem, ⟨4, _⟩ => ⟨S512x256, .bf16⟩
  | .local _ .vmem, ⟨5, _⟩ => ⟨S512x256, .bf16⟩
  | .local _ .vmem, ⟨6, _⟩ => ⟨S512x256, .bf16⟩
  | .local _ .vmem, ⟨7, _⟩ => ⟨S512x512, .bf16⟩
  | .local _ .vmem, ⟨8, _⟩ => ⟨S512x512, .bf16⟩
  | .local _ .vmem, ⟨9, _⟩ => ⟨S512x512, .bf16⟩
  | .local _ .vmem, ⟨10, _⟩ => ⟨S512x512, .bf16⟩
  | .local _ .vmem, ⟨11, _⟩ => ⟨S512x512, .bf16⟩
  | .local _ .vmem, ⟨12, _⟩ => ⟨S512x512, .bf16⟩
  | .local _ .vmem, ⟨13, _⟩ => ⟨S512x512, .bf16⟩
  | .local _ .vmem, ⟨14, _⟩ => ⟨S512x512, .bf16⟩
  | .local _ .vmem, ⟨15, _⟩ => ⟨S512x128, .bf16⟩
  | .local _ .vmem, ⟨16, _⟩ => ⟨S512x128, .bf16⟩
  | .local _ .vmem, ⟨17, _⟩ => ⟨S2592x1024, .f32⟩
  | .local _ .vmem, ⟨18, _⟩ => ⟨S512x2688, .bf16⟩
  | .local _ .vmem, ⟨19, _⟩ => ⟨S512x2688, .bf16⟩
  | _, _ => ⟨S1x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12_0 : Ref sig .tc := ⟨.hbm, 16, rfl⟩
abbrev main_v12_1 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg10_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem10_0 : DmaSem sig := 18
abbrev cc0_sem10_1 : DmaSem sig := 19

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S2592x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x2688 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== InprojWgradRefIdeal.lean ====
abbrev S1x8192x1024 : Shape := ⟨3, ![1, 8192, 1024]⟩
abbrev S1x1024 : Shape := ⟨2, ![1, 1024]⟩
abbrev S1x8192x2592 : Shape := ⟨3, ![1, 8192, 2592]⟩
abbrev S_ : Shape := ⟨0, ![]⟩
abbrev S1x1024x2592 : Shape := ⟨3, ![1, 1024, 2592]⟩
abbrev S1024 : Shape := ⟨1, ![1024]⟩
abbrev S1x8192 : Shape := ⟨2, ![1, 8192]⟩
abbrev S1x8192x1 : Shape := ⟨3, ![1, 8192, 1]⟩
abbrev S1x1x1024 : Shape := ⟨3, ![1, 1, 1024]⟩
abbrev S1024x2592 : Shape := ⟨2, ![1024, 2592]⟩
abbrev S2592x1024 : Shape := ⟨2, ![2592, 1024]⟩
abbrev S8192x2592 : Shape := ⟨2, ![8192, 2592]⟩
abbrev S8192x1536 : Shape := ⟨2, ![8192, 1536]⟩
abbrev S8192x32 : Shape := ⟨2, ![8192, 32]⟩
abbrev S8192x1024 : Shape := ⟨2, ![8192, 1024]⟩
abbrev S8192x128 : Shape := ⟨2, ![8192, 128]⟩
abbrev S8192x2688 : Shape := ⟨2, ![8192, 2688]⟩

abbrev nBuf : Space → Nat
  | .hbm => 38
  | .vmem => 0
  | .smem => 0
  | _ => 0

abbrev bufTy : (tb : Table) → Fin (tcTables nBuf tb) → BufTy
  | .hbm, ⟨0, _⟩ => ⟨S1x8192x1024, .f32⟩
  | .hbm, ⟨1, _⟩ => ⟨S1x1024, .f32⟩
  | .hbm, ⟨2, _⟩ => ⟨S1x8192x2592, .f32⟩
  | .hbm, ⟨3, _⟩ => ⟨S_, .f32⟩
  | .hbm, ⟨4, _⟩ => ⟨S1x1024x2592, .f32⟩
  | .hbm, ⟨5, _⟩ => ⟨S1024, .f32⟩
  | .hbm, ⟨6, _⟩ => ⟨S1x8192x1024, .f32⟩
  | .hbm, ⟨7, _⟩ => ⟨S_, .f32⟩
  | .hbm, ⟨8, _⟩ => ⟨S1x8192, .f32⟩
  | .hbm, ⟨9, _⟩ => ⟨S1x8192x1, .f32⟩
  | .hbm, ⟨10, _⟩ => ⟨S_, .f32⟩
  | .hbm, ⟨11, _⟩ => ⟨S1x8192x1, .f32⟩
  | .hbm, ⟨12, _⟩ => ⟨S1x8192x1, .f32⟩
  | .hbm, ⟨13, _⟩ => ⟨S_, .f32⟩
  | .hbm, ⟨14, _⟩ => ⟨S1x8192x1, .f32⟩
  | .hbm, ⟨15, _⟩ => ⟨S1x8192x1, .f32⟩
  | .hbm, ⟨16, _⟩ => ⟨S1x8192x1, .f32⟩
  | .hbm, ⟨17, _⟩ => ⟨S1x8192x1024, .f32⟩
  | .hbm, ⟨18, _⟩ => ⟨S1x8192x1024, .f32⟩
  | .hbm, ⟨19, _⟩ => ⟨S1x1x1024, .f32⟩
  | .hbm, ⟨20, _⟩ => ⟨S1x8192x1024, .f32⟩
  | .hbm, ⟨21, _⟩ => ⟨S1x8192x1024, .f32⟩
  | .hbm, ⟨22, _⟩ => ⟨S1024x2592, .f32⟩
  | .hbm, ⟨23, _⟩ => ⟨S1x8192x2592, .f32⟩
  | .hbm, ⟨24, _⟩ => ⟨S2592x1024, .f32⟩
  | .hbm, ⟨25, _⟩ => ⟨S1024x2592, .f32⟩
  | .hbm, ⟨26, _⟩ => ⟨S1x1024x2592, .f32⟩
  | .hbm, ⟨27, _⟩ => ⟨S8192x2592, .f32⟩
  | .hbm, ⟨28, _⟩ => ⟨S8192x1536, .f32⟩
  | .hbm, ⟨29, _⟩ => ⟨S8192x32, .f32⟩
  | .hbm, ⟨30, _⟩ => ⟨S8192x1024, .f32⟩
  | .hbm, ⟨31, _⟩ => ⟨S1024x2592, .f32⟩
  | .hbm, ⟨32, _⟩ => ⟨S2592x1024, .f32⟩
  | .hbm, ⟨33, _⟩ => ⟨S_, .i32⟩
  | .hbm, ⟨34, _⟩ => ⟨S_, .f32⟩
  | .hbm, ⟨35, _⟩ => ⟨S8192x128, .f32⟩
  | .hbm, ⟨36, _⟩ => ⟨S8192x2688, .f32⟩
  | .hbm, ⟨37, _⟩ => ⟨S8192x2688, .bf16⟩
  | _, _ => ⟨S1x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_cst_2 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_c : Ref sig .tc := ⟨.hbm, 33, rfl⟩
abbrev main_call0_v0 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩

abbrev nD : Nat := 1
abbrev τ : Topo := Topo.v7x

variable {F : FTy → Type} [FloatOps F]
-- ==== MixerOut.lean ====
abbrev S1x8192x1024 : Shape := ⟨3, ![1, 8192, 1024]⟩
abbrev S1x8192x4x128 : Shape := ⟨4, ![1, 8192, 4, 128]⟩
abbrev S1x8192x2592 : Shape := ⟨3, ![1, 8192, 2592]⟩
abbrev S1x512 : Shape := ⟨2, ![1, 512]⟩
abbrev S1x4x128x128 : Shape := ⟨4, ![1, 4, 128, 128]⟩
abbrev S1x4x128 : Shape := ⟨3, ![1, 4, 128]⟩
abbrev S1x1024x1024 : Shape := ⟨3, ![1, 1024, 1024]⟩
abbrev S4x128 : Shape := ⟨2, ![4, 128]⟩
abbrev S4x128x1 : Shape := ⟨3, ![4, 128, 1]⟩
abbrev S8192x1024 : Shape := ⟨2, ![8192, 1024]⟩
abbrev S8192x512 : Shape := ⟨2, ![8192, 512]⟩
abbrev S8192x2592 : Shape := ⟨2, ![8192, 2592]⟩
abbrev S8192x1536 : Shape := ⟨2, ![8192, 1536]⟩
abbrev S8192x128 : Shape := ⟨2, ![8192, 128]⟩
abbrev S8192x2688 : Shape := ⟨2, ![8192, 2688]⟩
abbrev S4x128x128 : Shape := ⟨3, ![4, 128, 128]⟩
abbrev S1024x1024 : Shape := ⟨2, ![1024, 1024]⟩
abbrev S_ : Shape := ⟨0, ![]⟩
abbrev S8x128 : Shape := ⟨2, ![8, 128]⟩
abbrev S512x1024 : Shape := ⟨2, ![512, 1024]⟩
abbrev S512x512 : Shape := ⟨2, ![512, 512]⟩
abbrev S512x128 : Shape := ⟨2, ![512, 128]⟩
abbrev S512 : Shape := ⟨1, ![512]⟩
abbrev S512x1 : Shape := ⟨2, ![512, 1]⟩
abbrev S1x128 : Shape := ⟨2, ![1, 128]⟩
abbrev S1x128x128 : Shape := ⟨3, ![1, 128, 128]⟩
abbrev S128x128 : Shape := ⟨2, ![128, 128]⟩
abbrev S1x128x1 : Shape := ⟨3, ![1, 128, 1]⟩
abbrev S128x1 : Shape := ⟨2, ![128, 1]⟩

abbrev nBuf : Space → Nat
  | .hbm => 28
  | .vmem => 24
  | .smem => 0
  | _ => 0

abbrev bufTy : (tb : Table) → Fin (tcTables nBuf tb) → BufTy
  | .hbm, ⟨0, _⟩ => ⟨S1x8192x1024, .f32⟩
  | .hbm, ⟨1, _⟩ => ⟨S1x8192x4x128, .f32⟩
  | .hbm, ⟨2, _⟩ => ⟨S1x8192x4x128, .f32⟩
  | .hbm, ⟨3, _⟩ => ⟨S1x8192x2592, .f32⟩
  | .hbm, ⟨4, _⟩ => ⟨S1x512, .f32⟩
  | .hbm, ⟨5, _⟩ => ⟨S1x512, .f32⟩
  | .hbm, ⟨6, _⟩ => ⟨S1x512, .f32⟩
  | .hbm, ⟨7, _⟩ => ⟨S1x4x128x128, .f32⟩
  | .hbm, ⟨8, _⟩ => ⟨S1x4x128, .f32⟩
  | .hbm, ⟨9, _⟩ => ⟨S1x1024x1024, .f32⟩
  | .hbm, ⟨10, _⟩ => ⟨S4x128, .f32⟩
  | .hbm, ⟨11, _⟩ => ⟨S4x128x1, .f32⟩
  | .hbm, ⟨12, _⟩ => ⟨S8192x1024, .f32⟩
  | .hbm, ⟨13, _⟩ => ⟨S8192x512, .f32⟩
  | .hbm, ⟨14, _⟩ => ⟨S8192x512, .f32⟩
  | .hbm, ⟨15, _⟩ => ⟨S8192x2592, .f32⟩
  | .hbm, ⟨16, _⟩ => ⟨S8192x1536, .f32⟩
  | .hbm, ⟨17, _⟩ => ⟨S8192x1024, .f32⟩
  | .hbm, ⟨18, _⟩ => ⟨S8192x128, .f32⟩
  | .hbm, ⟨19, _⟩ => ⟨S8192x2688, .f32⟩
  | .hbm, ⟨20, _⟩ => ⟨S4x128x128, .f32⟩
  | .hbm, ⟨21, _⟩ => ⟨S4x128x128, .bf16⟩
  | .hbm, ⟨22, _⟩ => ⟨S1024x1024, .f32⟩
  | .hbm, ⟨23, _⟩ => ⟨S1024x1024, .bf16⟩
  | .hbm, ⟨24, _⟩ => ⟨S_, .f32⟩
  | .hbm, ⟨25, _⟩ => ⟨S8x128, .f32⟩
  | .hbm, ⟨26, _⟩ => ⟨S8192x1024, .f32⟩
  | .hbm, ⟨27, _⟩ => ⟨S8192x1024, .bf16⟩
  | .local _ .vmem, ⟨0, _⟩ => ⟨S512x1024, .f32⟩
  | .local _ .vmem, ⟨1, _⟩ => ⟨S512x1024, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S512x512, .f32⟩
  | .local _ .vmem, ⟨9, _⟩ => ⟨S512x512, .f32⟩
  | .local _ .vmem, ⟨10, _⟩ => ⟨S512x512, .f32⟩
  | .local _ .vmem, ⟨11, _⟩ => ⟨S512x512, .f32⟩
  | .local _ .vmem, ⟨12, _⟩ => ⟨S1x512, .f32⟩
  | .local _ .vmem, ⟨13, _⟩ => ⟨S1x512, .f32⟩
  | .local _ .vmem, ⟨14, _⟩ => ⟨S1x512, .f32⟩
  | .local _ .vmem, ⟨15, _⟩ => ⟨S4x128x128, .bf16⟩
  | .local _ .vmem, ⟨16, _⟩ => ⟨S4x128x1, .f32⟩
  | .local _ .vmem, ⟨17, _⟩ => ⟨S1024x1024, .bf16⟩
  | .local _ .vmem, ⟨18, _⟩ => ⟨S8x128, .f32⟩
  | .local _ .vmem, ⟨19, _⟩ => ⟨S512x1024, .f32⟩
  | .local _ .vmem, ⟨20, _⟩ => ⟨S512x1024, .f32⟩
  | .local _ .vmem, ⟨21, _⟩ => ⟨S512x1024, .bf16⟩
  | .local _ .vmem, ⟨22, _⟩ => ⟨S512x1024, .bf16⟩
  | .local _ .vmem, ⟨23, _⟩ => ⟨S512x512, .bf16⟩
  | _, _ => ⟨S1x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst : Ref sig .tc := ⟨.hbm, 24, rfl⟩
abbrev main_v14 : Ref sig .tc := ⟨.hbm, 25, rfl⟩
abbrev main_v15_0 : Ref sig .tc := ⟨.hbm, 26, rfl⟩
abbrev main_v15_1 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg13_0 : Ref sig .tc := ⟨.vmem, 19, rfl⟩
abbrev cc0_stg13_1 : Ref sig .tc := ⟨.vmem, 20, rfl⟩
abbrev cc0_stg14_0 : Ref sig .tc := ⟨.vmem, 21, rfl⟩
abbrev cc0_stg14_1 : Ref sig .tc := ⟨.vmem, 22, rfl⟩
abbrev cc0_scratch0 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem12_0 : DmaSem sig := 18
abbrev cc0_sem13_0 : DmaSem sig := 19
abbrev cc0_sem13_1 : DmaSem sig := 20
abbrev cc0_sem14_0 : DmaSem sig := 21
abbrev cc0_sem14_1 : DmaSem sig := 22

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_4 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_5 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S4x128x128 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S4x128x1 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1024x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S8x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S512x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== MixerOutRefIdeal.lean ====
abbrev S1x8192x1024 : Shape := ⟨3, ![1, 8192, 1024]⟩
abbrev S1x8192x4x128 : Shape := ⟨4, ![1, 8192, 4, 128]⟩
abbrev S1x8192x2592 : Shape := ⟨3, ![1, 8192, 2592]⟩
abbrev S1x512 : Shape := ⟨2, ![1, 512]⟩
abbrev S1x4x128x128 : Shape := ⟨4, ![1, 4, 128, 128]⟩
abbrev S1x4x128 : Shape := ⟨3, ![1, 4, 128]⟩
abbrev S1x1024x1024 : Shape := ⟨3, ![1, 1024, 1024]⟩
abbrev S1x8192x512 : Shape := ⟨3, ![1, 8192, 512]⟩
abbrev S512 : Shape := ⟨1, ![512]⟩
abbrev S_ : Shape := ⟨0, ![]⟩
abbrev S1x8192x4 : Shape := ⟨3, ![1, 8192, 4]⟩
abbrev S1x8192x4x1 : Shape := ⟨4, ![1, 8192, 4, 1]⟩
abbrev S1x1x512 : Shape := ⟨3, ![1, 1, 512]⟩
abbrev S4x128x128 : Shape := ⟨3, ![4, 128, 128]⟩
abbrev S4x128 : Shape := ⟨2, ![4, 128]⟩
abbrev S1x8192 : Shape := ⟨2, ![1, 8192]⟩
abbrev S1x8192x1 : Shape := ⟨3, ![1, 8192, 1]⟩
abbrev S1x64x128x4x128 : Shape := ⟨5, ![1, 64, 128, 4, 128]⟩
abbrev S4x1x64x128x128 : Shape := ⟨5, ![4, 1, 64, 128, 128]⟩
abbrev S128x4 : Shape := ⟨2, ![128, 4]⟩
abbrev S1x1x128x4x1 : Shape := ⟨5, ![1, 1, 128, 4, 1]⟩
abbrev S1024x1024 : Shape := ⟨2, ![1024, 1024]⟩
abbrev S8192x1024 : Shape := ⟨2, ![8192, 1024]⟩

abbrev nBuf : Space → Nat
  | .hbm => 99
  | .vmem => 0
  | .smem => 0
  | _ => 0

abbrev bufTy : (tb : Table) → Fin (tcTables nBuf tb) → BufTy
  | .hbm, ⟨0, _⟩ => ⟨S1x8192x1024, .f32⟩
  | .hbm, ⟨1, _⟩ => ⟨S1x8192x4x128, .f32⟩
  | .hbm, ⟨2, _⟩ => ⟨S1x8192x4x128, .f32⟩
  | .hbm, ⟨3, _⟩ => ⟨S1x8192x2592, .f32⟩
  | .hbm, ⟨4, _⟩ => ⟨S1x512, .f32⟩
  | .hbm, ⟨5, _⟩ => ⟨S1x512, .f32⟩
  | .hbm, ⟨6, _⟩ => ⟨S1x512, .f32⟩
  | .hbm, ⟨7, _⟩ => ⟨S1x4x128x128, .f32⟩
  | .hbm, ⟨8, _⟩ => ⟨S1x4x128, .f32⟩
  | .hbm, ⟨9, _⟩ => ⟨S1x1024x1024, .f32⟩
  | .hbm, ⟨10, _⟩ => ⟨S1x8192x512, .f32⟩
  | .hbm, ⟨11, _⟩ => ⟨S1x8192x1024, .f32⟩
  | .hbm, ⟨12, _⟩ => ⟨S1x8192x4x128, .f32⟩
  | .hbm, ⟨13, _⟩ => ⟨S512, .f32⟩
  | .hbm, ⟨14, _⟩ => ⟨S1x8192x4x128, .f32⟩
  | .hbm, ⟨15, _⟩ => ⟨S_, .f32⟩
  | .hbm, ⟨16, _⟩ => ⟨S1x8192x4, .f32⟩
  | .hbm, ⟨17, _⟩ => ⟨S1x8192x4x1, .f32⟩
  | .hbm, ⟨18, _⟩ => ⟨S_, .f32⟩
  | .hbm, ⟨19, _⟩ => ⟨S1x8192x4x1, .f32⟩
  | .hbm, ⟨20, _⟩ => ⟨S1x8192x4x1, .f32⟩
  | .hbm, ⟨21, _⟩ => ⟨S_, .f32⟩
  | .hbm, ⟨22, _⟩ => ⟨S1x8192x4x1, .f32⟩
  | .hbm, ⟨23, _⟩ => ⟨S1x8192x4x1, .f32⟩
  | .hbm, ⟨24, _⟩ => ⟨S1x8192x4x1, .f32⟩
  | .hbm, ⟨25, _⟩ => ⟨S1x8192x4x128, .f32⟩
  | .hbm, ⟨26, _⟩ => ⟨S1x8192x4x128, .f32⟩
  | .hbm, ⟨27, _⟩ => ⟨S1x8192x512, .f32⟩
  | .hbm, ⟨28, _⟩ => ⟨S1x1x512, .f32⟩
  | .hbm, ⟨29, _⟩ => ⟨S1x8192x512, .f32⟩
  | .hbm, ⟨30, _⟩ => ⟨S1x8192x512, .f32⟩
  | .hbm, ⟨31, _⟩ => ⟨S1x8192x512, .f32⟩
  | .hbm, ⟨32, _⟩ => ⟨S1x8192x512, .f32⟩
  | .hbm, ⟨33, _⟩ => ⟨S_, .f32⟩
  | .hbm, ⟨34, _⟩ => ⟨S1x8192x512, .f32⟩
  | .hbm, ⟨35, _⟩ => ⟨S1x8192x512, .f32⟩
  | .hbm, ⟨36, _⟩ => ⟨S_, .f32⟩
  | .hbm, ⟨37, _⟩ => ⟨S1x8192x512, .f32⟩
  | .hbm, ⟨38, _⟩ => ⟨S1x8192x512, .f32⟩
  | .hbm, ⟨39, _⟩ => ⟨S1x8192x512, .f32⟩
  | .hbm, ⟨40, _⟩ => ⟨S1x8192x512, .f32⟩
  | .hbm, ⟨41, _⟩ => ⟨S512, .f32⟩
  | .hbm, ⟨42, _⟩ => ⟨S512, .f32⟩
  | .hbm, ⟨43, _⟩ => ⟨S4x128x128, .f32⟩
  | .hbm, ⟨44, _⟩ => ⟨S4x128, .f32⟩
  | .hbm, ⟨45, _⟩ => ⟨S_, .f32⟩
  | .hbm, ⟨46, _⟩ => ⟨S1x8192x1024, .f32⟩
  | .hbm, ⟨47, _⟩ => ⟨S1x8192x1024, .f32⟩
  | .hbm, ⟨48, _⟩ => ⟨S1x8192x1024, .f32⟩
  | .hbm, ⟨49, _⟩ => ⟨S_, .f32⟩
  | .hbm, ⟨50, _⟩ => ⟨S1x8192x1024, .f32⟩
  | .hbm, ⟨51, _⟩ => ⟨S1x8192x1024, .f32⟩
  | .hbm, ⟨52, _⟩ => ⟨S1x8192x1024, .f32⟩
  | .hbm, ⟨53, _⟩ => ⟨S1x8192x1024, .f32⟩
  | .hbm, ⟨54, _⟩ => ⟨S1x8192x512, .f32⟩
  | .hbm, ⟨55, _⟩ => ⟨S1x8192x512, .f32⟩
  | .hbm, ⟨56, _⟩ => ⟨S_, .f32⟩
  | .hbm, ⟨57, _⟩ => ⟨S1x8192, .f32⟩
  | .hbm, ⟨58, _⟩ => ⟨S1x8192x1, .f32⟩
  | .hbm, ⟨59, _⟩ => ⟨S_, .f32⟩
  | .hbm, ⟨60, _⟩ => ⟨S1x8192x1, .f32⟩
  | .hbm, ⟨61, _⟩ => ⟨S1x8192x1, .f32⟩
  | .hbm, ⟨62, _⟩ => ⟨S1x8192x512, .f32⟩
  | .hbm, ⟨63, _⟩ => ⟨S1x8192x512, .f32⟩
  | .hbm, ⟨64, _⟩ => ⟨S1x8192x512, .f32⟩
  | .hbm, ⟨65, _⟩ => ⟨S_, .f32⟩
  | .hbm, ⟨66, _⟩ => ⟨S1x8192, .f32⟩
  | .hbm, ⟨67, _⟩ => ⟨S1x8192x1, .f32⟩
  | .hbm, ⟨68, _⟩ => ⟨S_, .f32⟩
  | .hbm, ⟨69, _⟩ => ⟨S1x8192x1, .f32⟩
  | .hbm, ⟨70, _⟩ => ⟨S1x8192x1, .f32⟩
  | .hbm, ⟨71, _⟩ => ⟨S_, .f32⟩
  | .hbm, ⟨72, _⟩ => ⟨S1x8192x1, .f32⟩
  | .hbm, ⟨73, _⟩ => ⟨S1x8192x1, .f32⟩
  | .hbm, ⟨74, _⟩ => ⟨S1x8192x1, .f32⟩
  | .hbm, ⟨75, _⟩ => ⟨S1x8192x512, .f32⟩
  | .hbm, ⟨76, _⟩ => ⟨S1x8192x512, .f32⟩
  | .hbm, ⟨77, _⟩ => ⟨S1x1x512, .f32⟩
  | .hbm, ⟨78, _⟩ => ⟨S1x8192x512, .f32⟩
  | .hbm, ⟨79, _⟩ => ⟨S1x8192x512, .f32⟩
  | .hbm, ⟨80, _⟩ => ⟨S1x1x512, .f32⟩
  | .hbm, ⟨81, _⟩ => ⟨S1x8192x512, .f32⟩
  | .hbm, ⟨82, _⟩ => ⟨S1x8192x512, .f32⟩
  | .hbm, ⟨83, _⟩ => ⟨S1x64x128x4x128, .f32⟩
  | .hbm, ⟨84, _⟩ => ⟨S4x1x64x128x128, .f32⟩
  | .hbm, ⟨85, _⟩ => ⟨S1x64x128x4x128, .f32⟩
  | .hbm, ⟨86, _⟩ => ⟨S128x4, .f32⟩
  | .hbm, ⟨87, _⟩ => ⟨S1x1x128x4x1, .f32⟩
  | .hbm, ⟨88, _⟩ => ⟨S1x64x128x4x128, .f32⟩
  | .hbm, ⟨89, _⟩ => ⟨S1x64x128x4x128, .f32⟩
  | .hbm, ⟨90, _⟩ => ⟨S1x8192x512, .f32⟩
  | .hbm, ⟨91, _⟩ => ⟨S1x8192x512, .f32⟩
  | .hbm, ⟨92, _⟩ => ⟨S1x8192x1024, .f32⟩
  | .hbm, ⟨93, _⟩ => ⟨S1024x1024, .f32⟩
  | .hbm, ⟨94, _⟩ => ⟨S1x8192x1024, .f32⟩
  | .hbm, ⟨95, _⟩ => ⟨S1x8192x1024, .f32⟩
  | .hbm, ⟨96, _⟩ => ⟨S8192x1024, .f32⟩
  | .hbm, ⟨97, _⟩ => ⟨S8192x1024, .f32⟩
  | .hbm, ⟨98, _⟩ => ⟨S8192x1024, .bf16⟩
  | _, _ => ⟨S1x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_cst : Ref sig .tc := ⟨.hbm, 15, rfl⟩
abbrev main_v5 : Ref sig .tc := ⟨.hbm, 16, rfl⟩
abbrev main_v6 : Ref sig .tc := ⟨.hbm, 17, rfl⟩
abbrev main_cst_0 : Ref sig .tc := ⟨.hbm, 18, rfl⟩
abbrev main_v7 : Ref sig .tc := ⟨.hbm, 19, rfl⟩
abbrev main_v8 : Ref sig .tc := ⟨.hbm, 20, rfl⟩
abbrev main_cst_1 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_call0_v0 : Ref sig .tc := ⟨.hbm, 31, rfl⟩
abbrev main_call0_v1 : Ref sig .tc := ⟨.hbm, 32, rfl⟩
abbrev main_call0_cst : Ref sig .tc := ⟨.hbm, 33, rfl⟩
abbrev main_call0_v2 : Ref sig .tc := ⟨.hbm, 34, rfl⟩
abbrev main_call0_v3 : Ref sig .tc := ⟨.hbm, 35, rfl⟩
abbrev main_call0_cst_0 : Ref sig .tc := ⟨.hbm, 36, rfl⟩
abbrev main_call0_v4 : Ref sig .tc := ⟨.hbm, 37, rfl⟩
abbrev main_call0_v5 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_cst_2 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_cst_3 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_cst_4 : Ref sig .tc := ⟨.hbm, 56, rfl⟩
abbrev main_v33 : Ref sig .tc := ⟨.hbm, 57, rfl⟩
abbrev main_v34 : Ref sig .tc := ⟨.hbm, 58, rfl⟩
abbrev main_cst_5 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_cst_6 : Ref sig .tc := ⟨.hbm, 65, rfl⟩
abbrev main_v40 : Ref sig .tc := ⟨.hbm, 66, rfl⟩
abbrev main_v41 : Ref sig .tc := ⟨.hbm, 67, rfl⟩
abbrev main_cst_7 : Ref sig .tc := ⟨.hbm, 68, rfl⟩
abbrev main_v42 : Ref sig .tc := ⟨.hbm, 69, rfl⟩
abbrev main_v43 : Ref sig .tc := ⟨.hbm, 70, rfl⟩
abbrev main_cst_8 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩

abbrev nD : Nat := 1
abbrev τ : Topo := Topo.v7x

variable {F : FTy → Type} [FloatOps F]
-- ==== Inproj.lean ====
abbrev S1x8192x1024 : Shape := ⟨3, ![1, 8192, 1024]⟩
abbrev S1x1024 : Shape := ⟨2, ![1, 1024]⟩
abbrev S1x1024x2592 : Shape := ⟨3, ![1, 1024, 2592]⟩
abbrev S8192x1024 : Shape := ⟨2, ![8192, 1024]⟩
abbrev S1024x2592 : Shape := ⟨2, ![1024, 2592]⟩
abbrev S2592x1024 : Shape := ⟨2, ![2592, 1024]⟩
abbrev S_ : Shape := ⟨0, ![]⟩
abbrev S8x128 : Shape := ⟨2, ![8, 128]⟩
abbrev S8192x2688 : Shape := ⟨2, ![8192, 2688]⟩
abbrev S512x1024 : Shape := ⟨2, ![512, 1024]⟩
abbrev S512x2688 : Shape := ⟨2, ![512, 2688]⟩
abbrev S512 : Shape := ⟨1, ![512]⟩
abbrev S512x1 : Shape := ⟨2, ![512, 1]⟩
abbrev S1536x1024 : Shape := ⟨2, ![1536, 1024]⟩
abbrev S512x1536 : Shape := ⟨2, ![512, 1536]⟩
abbrev S1024x1024 : Shape := ⟨2, ![1024, 1024]⟩
abbrev S128x1024 : Shape := ⟨2, ![128, 1024]⟩
abbrev S512x128 : Shape := ⟨2, ![512, 128]⟩

abbrev nBuf : Space → Nat
  | .hbm => 10
  | .vmem => 7
  | .smem => 0
  | _ => 0

abbrev bufTy : (tb : Table) → Fin (tcTables nBuf tb) → BufTy
  | .hbm, ⟨0, _⟩ => ⟨S1x8192x1024, .f32⟩
  | .hbm, ⟨1, _⟩ => ⟨S1x1024, .f32⟩
  | .hbm, ⟨2, _⟩ => ⟨S1x1024x2592, .f32⟩
  | .hbm, ⟨3, _⟩ => ⟨S8192x1024, .f32⟩
  | .hbm, ⟨4, _⟩ => ⟨S1024x2592, .f32⟩
  | .hbm, ⟨5, _⟩ => ⟨S2592x1024, .f32⟩
  | .hbm, ⟨6, _⟩ => ⟨S2592x1024, .bf16⟩
  | .hbm, ⟨7, _⟩ => ⟨S_, .f32⟩
  | .hbm, ⟨8, _⟩ => ⟨S8x128, .f32⟩
  | .hbm, ⟨9, _⟩ => ⟨S8192x2688, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S2592x1024, .bf16⟩
  | .local _ .vmem, ⟨4, _⟩ => ⟨S8x128, .f32⟩
  | .local _ .vmem, ⟨5, _⟩ => ⟨S512x2688, .f32⟩
  | .local _ .vmem, ⟨6, _⟩ => ⟨S512x2688, .f32⟩
  | _, _ => ⟨S1x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2592x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x2688 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== InprojRefIdeal.lean ====
abbrev S1x8192x1024 : Shape := ⟨3, ![1, 8192, 1024]⟩
abbrev S1x1024 : Shape := ⟨2, ![1, 1024]⟩
abbrev S1x1024x2592 : Shape := ⟨3, ![1, 1024, 2592]⟩
abbrev S1024 : Shape := ⟨1, ![1024]⟩
abbrev S_ : Shape := ⟨0, ![]⟩
abbrev S1x8192 : Shape := ⟨2, ![1, 8192]⟩
abbrev S1x8192x1 : Shape := ⟨3, ![1, 8192, 1]⟩
abbrev S1x1x1024 : Shape := ⟨3, ![1, 1, 1024]⟩
abbrev S1024x2592 : Shape := ⟨2, ![1024, 2592]⟩
abbrev S1x8192x2592 : Shape := ⟨3, ![1, 8192, 2592]⟩
abbrev S8192x2592 : Shape := ⟨2, ![8192, 2592]⟩
abbrev S8192x1536 : Shape := ⟨2, ![8192, 1536]⟩
abbrev S8192x1024 : Shape := ⟨2, ![8192, 1024]⟩
abbrev S8192x128 : Shape := ⟨2, ![8192, 128]⟩
abbrev S8192x2688 : Shape := ⟨2, ![8192, 2688]⟩

abbrev nBuf : Space → Nat
  | .hbm => 27
  | .vmem => 0
  | .smem => 0
  | _ => 0

abbrev bufTy : (tb : Table) → Fin (tcTables nBuf tb) → BufTy
  | .hbm, ⟨0, _⟩ => ⟨S1x8192x1024, .f32⟩
  | .hbm, ⟨1, _⟩ => ⟨S1x1024, .f32⟩
  | .hbm, ⟨2, _⟩ => ⟨S1x1024x2592, .f32⟩
  | .hbm, ⟨3, _⟩ => ⟨S1024, .f32⟩
  | .hbm, ⟨4, _⟩ => ⟨S1x8192x1024, .f32⟩
  | .hbm, ⟨5, _⟩ => ⟨S_, .f32⟩
  | .hbm, ⟨6, _⟩ => ⟨S1x8192, .f32⟩
  | .hbm, ⟨7, _⟩ => ⟨S1x8192x1, .f32⟩
  | .hbm, ⟨8, _⟩ => ⟨S_, .f32⟩
  | .hbm, ⟨9, _⟩ => ⟨S1x8192x1, .f32⟩
  | .hbm, ⟨10, _⟩ => ⟨S1x8192x1, .f32⟩
  | .hbm, ⟨11, _⟩ => ⟨S_, .f32⟩
  | .hbm, ⟨12, _⟩ => ⟨S1x8192x1, .f32⟩
  | .hbm, ⟨13, _⟩ => ⟨S1x8192x1, .f32⟩
  | .hbm, ⟨14, _⟩ => ⟨S1x8192x1, .f32⟩
  | .hbm, ⟨15, _⟩ => ⟨S1x8192x1024, .f32⟩
  | .hbm, ⟨16, _⟩ => ⟨S1x8192x1024, .f32⟩
  | .hbm, ⟨17, _⟩ => ⟨S1x1x1024, .f32⟩
  | .hbm, ⟨18, _⟩ => ⟨S1x8192x1024, .f32⟩
  | .hbm, ⟨19, _⟩ => ⟨S1x8192x1024, .f32⟩
  | .hbm, ⟨20, _⟩ => ⟨S1024x2592, .f32⟩
  | .hbm, ⟨21, _⟩ => ⟨S1x8192x2592, .f32⟩
  | .hbm, ⟨22, _⟩ => ⟨S8192x2592, .f32⟩
  | .hbm, ⟨23, _⟩ => ⟨S8192x1536, .f32⟩
  | .hbm, ⟨24, _⟩ => ⟨S8192x1024, .f32⟩
  | .hbm, ⟨25, _⟩ => ⟨S8192x128, .f32⟩
  | .hbm, ⟨26, _⟩ => ⟨S8192x2688, .f32⟩
  | _, _ => ⟨S1x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩

abbrev nD : Nat := 1
abbrev τ : Topo := Topo.v7x

variable {F : FTy → Type} [FloatOps F]
-- ==== GlaFwd.lean ====
abbrev S1x8192x2592 : Shape := ⟨3, ![1, 8192, 2592]⟩
abbrev S1x16x256 : Shape := ⟨3, ![1, 16, 256]⟩
abbrev S1x256 : Shape := ⟨2, ![1, 256]⟩
abbrev S16x256 : Shape := ⟨2, ![16, 256]⟩
abbrev S_ : Shape := ⟨0, ![]⟩
abbrev S112x256 : Shape := ⟨2, ![112, 256]⟩
abbrev S128x256 : Shape := ⟨2, ![128, 256]⟩
abbrev S8192x2592 : Shape := ⟨2, ![8192, 2592]⟩
abbrev S8192x1536 : Shape := ⟨2, ![8192, 1536]⟩
abbrev S8192x1024 : Shape := ⟨2, ![8192, 1024]⟩
abbrev S8192x128 : Shape := ⟨2, ![8192, 128]⟩
abbrev S8192x2688 : Shape := ⟨2, ![8192, 2688]⟩
abbrev S8x128 : Shape := ⟨2, ![8, 128]⟩
abbrev S8192x512 : Shape := ⟨2, ![8192, 512]⟩
abbrev S128x4x128x128 : Shape := ⟨4, ![128, 4, 128, 128]⟩
abbrev S1024x256 : Shape := ⟨2, ![1024, 256]⟩
abbrev S1024x512 : Shape := ⟨2, ![1024, 512]⟩
abbrev S1024x128 : Shape := ⟨2, ![1024, 128]⟩
abbrev S16x4x128x128 : Shape := ⟨4, ![16, 4, 128, 128]⟩
abbrev S4x128x128 : Shape := ⟨3, ![4, 128, 128]⟩
abbrev S1x128x128 : Shape := ⟨3, ![1, 128, 128]⟩
abbrev S128x128 : Shape := ⟨2, ![128, 128]⟩
abbrev S1x128 : Shape := ⟨2, ![1, 128]⟩
abbrev S64x64 : Shape := ⟨2, ![64, 64]⟩
abbrev S16x64x128 : Shape := ⟨3, ![16, 64, 128]⟩
abbrev S16x1x128 : Shape := ⟨3, ![16, 1, 128]⟩
abbrev S1x1x128 : Shape := ⟨3, ![1, 1, 128]⟩
abbrev S16x128x128 : Shape := ⟨3, ![16, 128, 128]⟩
abbrev S16x128x64 : Shape := ⟨3, ![16, 128, 64]⟩
abbrev S16x64x64 : Shape := ⟨3, ![16, 64, 64]⟩
abbrev S1x64x64 : Shape := ⟨3, ![1, 64, 64]⟩
abbrev S16x256x128 : Shape := ⟨3, ![16, 256, 128]⟩
abbrev S16x64x256 : Shape := ⟨3, ![16, 64, 256]⟩
abbrev S16x1x128x128 : Shape := ⟨4, ![16, 1, 128, 128]⟩

abbrev nBuf : Space → Nat
  | .hbm => 17
  | .vmem => 16
  | .smem => 0
  | _ => 0

abbrev bufTy : (tb : Table) → Fin (tcTables nBuf tb) → BufTy
  | .hbm, ⟨0, _⟩ => ⟨S1x8192x2592, .f32⟩
  | .hbm, ⟨1, _⟩ => ⟨S1x16x256, .f32⟩
  | .hbm, ⟨2, _⟩ => ⟨S1x256, .f32⟩
  | .hbm, ⟨3, _⟩ => ⟨S16x256, .f32⟩
  | .hbm, ⟨4, _⟩ => ⟨S_, .f32⟩
  | .hbm, ⟨5, _⟩ => ⟨S112x256, .f32⟩
  | .hbm, ⟨6, _⟩ => ⟨S128x256, .f32⟩
  | .hbm, ⟨7, _⟩ => ⟨S128x256, .bf16⟩
  | .hbm, ⟨8, _⟩ => ⟨S8192x2592, .f32⟩
  | .hbm, ⟨9, _⟩ => ⟨S8192x1536, .f32⟩
  | .hbm, ⟨10, _⟩ => ⟨S8192x1024, .f32⟩
  | .hbm, ⟨11, _⟩ => ⟨S8192x128, .f32⟩
  | .hbm, ⟨12, _⟩ => ⟨S8192x2688, .f32⟩
  | .hbm, ⟨13, _⟩ => ⟨S_, .f32⟩
  | .hbm, ⟨14, _⟩ => ⟨S8x128, .f32⟩
  | .hbm, ⟨15, _⟩ => ⟨S8192x512, .f32⟩
  | .hbm, ⟨16, _⟩ => ⟨S128x4x128x128, .bf16⟩
  | .local _ .vmem, ⟨0, _⟩ => ⟨S1024x256, .f32⟩
  | .local _ .vmem, ⟨1, _⟩ => ⟨S1024x256, .f32⟩
  | .local _ .vmem, ⟨2, _⟩ => ⟨S1024x256, .f32⟩
  | .local _ .vmem, ⟨3, _⟩ => ⟨S1024x256, .f32⟩
  | .local _ .vmem, ⟨4, _⟩ => ⟨S1024x512, .f32⟩
  | .local _ .vmem, ⟨5, _⟩ => ⟨S1024x512, .f32⟩
  | .local _ .vmem, ⟨6, _⟩ => ⟨S1024x128, .f32⟩
  | .local _ .vmem, ⟨7, _⟩ => ⟨S1024x128, .f32⟩
  | .local _ .vmem, ⟨8, _⟩ => ⟨S128x256, .bf16⟩
  | .local _ .vmem, ⟨9, _⟩ => ⟨S1x256, .f32⟩
  | .local _ .vmem, ⟨10, _⟩ => ⟨S8x128, .f32⟩
  | .local _ .vmem, ⟨11, _⟩ => ⟨S1024x512, .f32⟩
  | .local _ .vmem, ⟨12, _⟩ => ⟨S1024x512, .f32⟩
  | .local _ .vmem, ⟨13, _⟩ => ⟨S16x4x128x128, .bf16⟩
  | .local _ .vmem, ⟨14, _⟩ => ⟨S16x4x128x128, .bf16⟩
  | .local _ .vmem, ⟨15, _⟩ => ⟨S4x128x128, .f32⟩
  | _, _ => ⟨S1x8192x2592, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst_0 : Ref sig .tc := ⟨.hbm, 13, rfl⟩
abbrev main_v9 : Ref sig .tc := ⟨.hbm, 14, rfl⟩
abbrev main_v10_0 : Ref sig .tc := ⟨.hbm, 15, rfl⟩
abbrev main_v10_1 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_scratch0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_3 (i : grid0.Coords) : Fin 2 → Nat :=
  let arg0 : BitVec 32 := BitVec.ofNat 32 (i 0).val
  let c20_i32 : BitVec 32 := 20#32
  let c0_i32 : BitVec 32 := 0#32
  ![arg0.toNat, c20_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S128x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S8x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1024x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S16x4x128x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== GlaFwdRefIdeal.lean ====
abbrev S1x8192x2592 : Shape := ⟨3, ![1, 8192, 2592]⟩
abbrev S1x16x256 : Shape := ⟨3, ![1, 16, 256]⟩
abbrev S1x256 : Shape := ⟨2, ![1, 256]⟩
abbrev S1x8192x256 : Shape := ⟨3, ![1, 8192, 256]⟩
abbrev S1x8192x512 : Shape := ⟨3, ![1, 8192, 512]⟩
abbrev S1x8192x16 : Shape := ⟨3, ![1, 8192, 16]⟩
abbrev S1x8192x1024 : Shape := ⟨3, ![1, 8192, 1024]⟩
abbrev S1x8192x4x64 : Shape := ⟨4, ![1, 8192, 4, 64]⟩
abbrev S_ : Shape := ⟨0, ![]⟩
abbrev S1x8192x4x128 : Shape := ⟨4, ![1, 8192, 4, 128]⟩
abbrev S16x256 : Shape := ⟨2, ![16, 256]⟩
abbrev S256 : Shape := ⟨1, ![256]⟩
abbrev S1x1x256 : Shape := ⟨3, ![1, 1, 256]⟩
abbrev S1x128x64x4x64 : Shape := ⟨5, ![1, 128, 64, 4, 64]⟩
abbrev S1x128x64x4x128 : Shape := ⟨5, ![1, 128, 64, 4, 128]⟩
abbrev S1x128x1x4x64 : Shape := ⟨5, ![1, 128, 1, 4, 64]⟩
abbrev S1x128x4x64 : Shape := ⟨4, ![1, 128, 4, 64]⟩
abbrev S1x128x4x64x64 : Shape := ⟨5, ![1, 128, 4, 64, 64]⟩
abbrev S64x64 : Shape := ⟨2, ![64, 64]⟩
abbrev S1x128x4x128x64 : Shape := ⟨5, ![1, 128, 4, 128, 64]⟩
abbrev S1x128x4x64x128 : Shape := ⟨5, ![1, 128, 4, 64, 128]⟩
abbrev S1x4x64x128 : Shape := ⟨4, ![1, 4, 64, 128]⟩
abbrev S128x1x4x64x128 : Shape := ⟨5, ![128, 1, 4, 64, 128]⟩
abbrev S128x1x4x64 : Shape := ⟨4, ![128, 1, 4, 64]⟩
abbrev S1x1x4x64x128 : Shape := ⟨5, ![1, 1, 4, 64, 128]⟩
abbrev S1x1x4x64 : Shape := ⟨4, ![1, 1, 4, 64]⟩
abbrev S1x4x64 : Shape := ⟨3, ![1, 4, 64]⟩
abbrev S1x4x64x1 : Shape := ⟨4, ![1, 4, 64, 1]⟩
abbrev S128x4x64x128 : Shape := ⟨4, ![128, 4, 64, 128]⟩
abbrev S128x4x128x64 : Shape := ⟨4, ![128, 4, 128, 64]⟩
abbrev S128x2x128x64 : Shape := ⟨4, ![128, 2, 128, 64]⟩
abbrev S128x2x128x128 : Shape := ⟨4, ![128, 2, 128, 128]⟩
abbrev S8192x512 : Shape := ⟨2, ![8192, 512]⟩
abbrev S128x2x1x128x128 : Shape := ⟨5, ![128, 2, 1, 128, 128]⟩
abbrev S128x2x2x128x128 : Shape := ⟨5, ![128, 2, 2, 128, 128]⟩
abbrev S128x4x128x128 : Shape := ⟨4, ![128, 4, 128, 128]⟩

abbrev nBuf : Space → Nat
  | .hbm => 140
  | .vmem => 0
  | .smem => 0
  | _ => 0

abbrev hbmTy0_0 (i : Nat) : BufTy := match i % 128 with
  | 0 => ⟨S1x8192x2592, .f32⟩
  | 1 => ⟨S1x16x256, .f32⟩
  | 2 => ⟨S1x256, .f32⟩
  | 3 => ⟨S1x8192x256, .f32⟩
  | 4 => ⟨S1x8192x256, .f32⟩
  | 5 => ⟨S1x8192x512, .f32⟩
  | 6 => ⟨S1x8192x512, .f32⟩
  | 7 => ⟨S1x8192x16, .f32⟩
  | 8 => ⟨S1x8192x16, .f32⟩
  | 9 => ⟨S1x8192x1024, .f32⟩
  | 10 => ⟨S1x8192x4x64, .f32⟩
  | 11 => ⟨S_, .f32⟩
  | 12 => ⟨S1x8192x4x64, .f32⟩
  | 13 => ⟨S1x8192x4x64, .f32⟩
  | 14 => ⟨S1x8192x4x64, .f32⟩
  | 15 => ⟨S1x8192x4x128, .f32⟩
  | 16 => ⟨S16x256, .f32⟩
  | 17 => ⟨S1x8192x256, .f32⟩
  | 18 => ⟨S256, .f32⟩
  | 19 => ⟨S1x1x256, .f32⟩
  | 20 => ⟨S1x8192x256, .f32⟩
  | 21 => ⟨S1x8192x256, .f32⟩
  | 22 => ⟨S1x8192x256, .f32⟩
  | 23 => ⟨S_, .f32⟩
  | 24 => ⟨S1x8192x256, .f32⟩
  | 25 => ⟨S1x8192x256, .f32⟩
  | 26 => ⟨S1x8192x256, .f32⟩
  | 27 => ⟨S1x8192x256, .f32⟩
  | 28 => ⟨S1x8192x256, .i1⟩
  | 29 => ⟨S1x8192x256, .f32⟩
  | 30 => ⟨S1x8192x256, .f32⟩
  | 31 => ⟨S1x8192x256, .f32⟩
  | 32 => ⟨S1x8192x256, .f32⟩
  | 33 => ⟨S1x8192x256, .f32⟩
  | 34 => ⟨S1x8192x256, .f32⟩
  | 35 => ⟨S1x8192x256, .f32⟩
  | 36 => ⟨S1x8192x256, .f32⟩
  | 37 => ⟨S1x8192x256, .f32⟩
  | 38 => ⟨S_, .f32⟩
  | 39 => ⟨S1x8192x256, .f32⟩
  | 40 => ⟨S1x8192x256, .f32⟩
  | 41 => ⟨S1x8192x4x64, .f32⟩
  | 42 => ⟨S1x128x64x4x64, .f32⟩
  | 43 => ⟨S1x128x64x4x64, .f32⟩
  | 44 => ⟨S1x128x64x4x128, .f32⟩
  | 45 => ⟨S1x128x64x4x64, .f32⟩
  | 46 => ⟨S_, .f32⟩
  | 47 => ⟨S_, .f32⟩
  | 48 => ⟨S1x128x64x4x64, .f32⟩
  | 49 => ⟨S1x128x1x4x64, .f32⟩
  | 50 => ⟨S1x128x4x64, .f32⟩
  | 51 => ⟨S1x128x64x4x64, .f32⟩
  | 52 => ⟨S1x128x64x4x64, .f32⟩
  | 53 => ⟨S1x128x64x4x64, .f32⟩
  | 54 => ⟨S1x128x64x4x64, .f32⟩
  | 55 => ⟨S1x128x64x4x64, .f32⟩
  | 56 => ⟨S1x128x1x4x64, .f32⟩
  | 57 => ⟨S1x128x64x4x64, .f32⟩
  | 58 => ⟨S1x128x64x4x64, .f32⟩
  | 59 => ⟨S1x128x64x4x64, .f32⟩
  | 60 => ⟨S1x128x64x4x64, .f32⟩
  | 61 => ⟨S1x128x4x64x64, .f32⟩
  | 62 => ⟨S_, .i1⟩
  | 63 => ⟨S64x64, .i1⟩
  | 64 => ⟨S64x64, .i32⟩
  | 65 => ⟨S_, .i32⟩
  | 66 => ⟨S64x64, .i32⟩
  | 67 => ⟨S64x64, .i32⟩
  | 68 => ⟨S64x64, .i32⟩
  | 69 => ⟨S64x64, .i1⟩
  | 70 => ⟨S_, .i1⟩
  | 71 => ⟨S64x64, .i1⟩
  | 72 => ⟨S64x64, .i1⟩
  | 73 => ⟨S_, .f32⟩
  | 74 => ⟨S_, .f32⟩
  | 75 => ⟨S1x128x4x64x64, .i1⟩
  | 76 => ⟨S1x128x4x64x64, .f32⟩
  | 77 => ⟨S1x128x4x64x64, .f32⟩
  | 78 => ⟨S1x128x4x128x64, .f32⟩
  | 79 => ⟨S1x128x64x4x128, .f32⟩
  | 80 => ⟨S1x128x4x64x128, .f32⟩
  | 81 => ⟨S1x128x4x64, .f32⟩
  | 82 => ⟨S_, .f32⟩
  | 83 => ⟨S1x4x64x128, .f32⟩
  | 84 => ⟨S128x1x4x64x128, .f32⟩
  | 85 => ⟨S128x1x4x64, .f32⟩
  | 86 => ⟨S_, .f32⟩
  | 87 => ⟨S128x1x4x64x128, .f32⟩
  | 88 => ⟨S_, .i32⟩
  | 89 => ⟨S128x1x4x64x128, .f32⟩
  | 90 => ⟨S128x1x4x64, .f32⟩
  | 91 => ⟨S_, .i32⟩
  | 92 => ⟨S1x4x64x128, .f32⟩
  | 93 => ⟨S128x1x4x64x128, .f32⟩
  | 94 => ⟨S_, .i32⟩
  | 95 => ⟨S_, .i1⟩
  | 96 => ⟨S_, .i32⟩
  | 97 => ⟨S_, .i32⟩
  | 98 => ⟨S_, .i32⟩
  | 99 => ⟨S_, .i32⟩
  | 100 => ⟨S1x1x4x64x128, .f32⟩
  | 101 => ⟨S1x4x64x128, .f32⟩
  | 102 => ⟨S_, .i32⟩
  | 103 => ⟨S_, .i32⟩
  | 104 => ⟨S_, .i32⟩
  | 105 => ⟨S1x1x4x64, .f32⟩
  | 106 => ⟨S1x4x64, .f32⟩
  | 107 => ⟨S1x4x64x1, .f32⟩
  | 108 => ⟨S1x4x64x128, .f32⟩
  | 109 => ⟨S1x4x64x128, .f32⟩
  | 110 => ⟨S1x4x64x128, .f32⟩
  | 111 => ⟨S1x1x4x64x128, .f32⟩
  | 112 => ⟨S_, .i32⟩
  | 113 => ⟨S_, .i32⟩
  | 114 => ⟨S_, .i32⟩
  | 115 => ⟨S_, .i32⟩
  | 116 => ⟨S128x1x4x64x128, .f32⟩
  | 117 => ⟨S_, .i32⟩
  | 118 => ⟨S_, .i32⟩
  | 119 => ⟨S1x128x4x64x128, .f32⟩
  | 120 => ⟨S1x128x4x128x64, .f32⟩
  | 121 => ⟨S1x128x64x4x128, .f32⟩
  | 122 => ⟨S1x128x64x4x128, .f32⟩
  | 123 => ⟨S1x8192x4x128, .f32⟩
  | 124 => ⟨S128x4x64x128, .f32⟩
  | 125 => ⟨S128x4x128x64, .f32⟩
  | 126 => ⟨S128x2x128x64, .f32⟩
  | 127 => ⟨S_, .i32⟩
  | _ => ⟨S1x8192x2592, .f32⟩

abbrev hbmTy0_1 (i : Nat) : BufTy := match i % 128 with
  | 0 => ⟨S_, .f32⟩
  | 1 => ⟨S128x2x128x128, .f32⟩
  | 2 => ⟨S128x2x128x64, .f32⟩
  | 3 => ⟨S_, .i32⟩
  | 4 => ⟨S_, .f32⟩
  | 5 => ⟨S128x2x128x128, .f32⟩
  | 6 => ⟨S8192x512, .f32⟩
  | 7 => ⟨S128x2x1x128x128, .f32⟩
  | 8 => ⟨S128x2x1x128x128, .f32⟩
  | 9 => ⟨S128x2x2x128x128, .f32⟩
  | 10 => ⟨S128x4x128x128, .f32⟩
  | 11 => ⟨S128x4x128x128, .bf16⟩
  | _ => ⟨S1x8192x2592, .f32⟩

abbrev hbmTy (i : Nat) : BufTy := match i / 128 with
  | 0 => hbmTy0_0 i
  | 1 => hbmTy0_1 i
  | _ => ⟨S1x8192x2592, .f32⟩

abbrev bufTy : (tb : Table) → Fin (tcTables nBuf tb) → BufTy
  | .hbm, ⟨i, _⟩ => hbmTy i
  | _, _ => ⟨S1x8192x2592, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_call0_v0 : Ref sig .tc := ⟨.hbm, 22, rfl⟩
abbrev main_call0_call0_cst : Ref sig .tc := ⟨.hbm, 23, rfl⟩
abbrev main_call0_call0_v0 : Ref sig .tc := ⟨.hbm, 24, rfl⟩
abbrev main_call0_call0_v1 : Ref sig .tc := ⟨.hbm, 25, rfl⟩
abbrev main_call0_call0_v2 : Ref sig .tc := ⟨.hbm, 26, rfl⟩
abbrev main_call0_call0_v3 : Ref sig .tc := ⟨.hbm, 27, rfl⟩
abbrev main_call0_call0_v4 : Ref sig .tc := ⟨.hbm, 28, rfl⟩
abbrev main_call0_call0_v5 : Ref sig .tc := ⟨.hbm, 29, rfl⟩
abbrev main_call0_call0_v6 : Ref sig .tc := ⟨.hbm, 30, rfl⟩
abbrev main_call0_call0_v7 : Ref sig .tc := ⟨.hbm, 31, rfl⟩
abbrev main_call0_call0_v8 : Ref sig .tc := ⟨.hbm, 32, rfl⟩
abbrev main_call0_call0_v9 : Ref sig .tc := ⟨.hbm, 33, rfl⟩
abbrev main_call0_call0_v10 : Ref sig .tc := ⟨.hbm, 34, rfl⟩
abbrev main_call0_call0_v11 : Ref sig .tc := ⟨.hbm, 35, rfl⟩
abbrev main_call0_v1 : Ref sig .tc := ⟨.hbm, 36, rfl⟩
abbrev main_v18 : Ref sig .tc := ⟨.hbm, 37, rfl⟩
abbrev main_cst_0 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_call1_call0_cst : Ref sig .tc := ⟨.hbm, 46, rfl⟩
abbrev main_call1_call0_v0 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_c : Ref sig .tc := ⟨.hbm, 62, rfl⟩
abbrev main_v40 : Ref sig .tc := ⟨.hbm, 63, rfl⟩
abbrev main_call2_v0 : Ref sig .tc := ⟨.hbm, 64, rfl⟩
abbrev main_call2_c : Ref sig .tc := ⟨.hbm, 65, rfl⟩
abbrev main_call2_v1 : Ref sig .tc := ⟨.hbm, 66, rfl⟩
abbrev main_call2_v2 : Ref sig .tc := ⟨.hbm, 67, rfl⟩
abbrev main_call2_v3 : Ref sig .tc := ⟨.hbm, 68, rfl⟩
abbrev main_call2_v4 : Ref sig .tc := ⟨.hbm, 69, rfl⟩
abbrev main_call2_c_0 : Ref sig .tc := ⟨.hbm, 70, rfl⟩
abbrev main_call2_v5 : Ref sig .tc := ⟨.hbm, 71, rfl⟩
abbrev main_v41 : Ref sig .tc := ⟨.hbm, 72, rfl⟩
abbrev main_cst_1 : Ref sig .tc := ⟨.hbm, 73, rfl⟩
abbrev main_call3_v0 : Ref sig .tc := ⟨.hbm, 74, rfl⟩
abbrev main_call3_v1 : Ref sig .tc := ⟨.hbm, 75, rfl⟩
abbrev main_call3_v2 : Ref sig .tc := ⟨.hbm, 76, rfl⟩
abbrev main_v42 : Ref sig .tc := ⟨.hbm, 77, rfl⟩
abbrev main_v43 : Ref sig .tc := ⟨.hbm, 78, rfl⟩
abbrev main_v44 : Ref sig .tc := ⟨.hbm, 79, rfl⟩
abbrev main_v45 : Ref sig .tc := ⟨.hbm, 80, rfl⟩
abbrev main_v46 : Ref sig .tc := ⟨.hbm, 81, rfl⟩
abbrev main_cst_2 : Ref sig .tc := ⟨.hbm, 82, rfl⟩
abbrev main_v47 : Ref sig .tc := ⟨.hbm, 83, rfl⟩
abbrev main_v48 : Ref sig .tc := ⟨.hbm, 84, rfl⟩
abbrev main_v49 : Ref sig .tc := ⟨.hbm, 85, rfl⟩
abbrev main_cst_3 : Ref sig .tc := ⟨.hbm, 86, rfl⟩
abbrev main_v50 : Ref sig .tc := ⟨.hbm, 87, rfl⟩
abbrev main_c_4 : Ref sig .tc := ⟨.hbm, 88, rfl⟩
abbrev main_v51_0 : Ref sig .tc := ⟨.hbm, 89, rfl⟩
abbrev main_v51_1 : Ref sig .tc := ⟨.hbm, 90, rfl⟩
abbrev main_v51_2 : Ref sig .tc := ⟨.hbm, 91, rfl⟩
abbrev main_v51_3 : Ref sig .tc := ⟨.hbm, 92, rfl⟩
abbrev main_v51_4 : Ref sig .tc := ⟨.hbm, 93, rfl⟩
abbrev main_while0c_c_11 : Ref sig .tc := ⟨.hbm, 94, rfl⟩
abbrev main_while0c_v69 : Ref sig .tc := ⟨.hbm, 95, rfl⟩
abbrev main_while0b_call4_c : Ref sig .tc := ⟨.hbm, 96, rfl⟩
abbrev main_while0b_call4_c_0 : Ref sig .tc := ⟨.hbm, 97, rfl⟩
abbrev main_while0b_call4_c_1 : Ref sig .tc := ⟨.hbm, 98, rfl⟩
abbrev main_while0b_call4_c_2 : Ref sig .tc := ⟨.hbm, 99, rfl⟩
abbrev main_while0b_call4_v0 : Ref sig .tc := ⟨.hbm, 100, rfl⟩
abbrev main_while0b_v69 : Ref sig .tc := ⟨.hbm, 101, rfl⟩
abbrev main_while0b_call5_c : Ref sig .tc := ⟨.hbm, 102, rfl⟩
abbrev main_while0b_call5_c_0 : Ref sig .tc := ⟨.hbm, 103, rfl⟩
abbrev main_while0b_call5_c_1 : Ref sig .tc := ⟨.hbm, 104, rfl⟩
abbrev main_while0b_call5_v0 : Ref sig .tc := ⟨.hbm, 105, rfl⟩
abbrev main_while0b_v70 : Ref sig .tc := ⟨.hbm, 106, rfl⟩
abbrev main_while0b_v71 : Ref sig .tc := ⟨.hbm, 107, rfl⟩
abbrev main_while0b_v72 : Ref sig .tc := ⟨.hbm, 108, rfl⟩
abbrev main_while0b_v73 : Ref sig .tc := ⟨.hbm, 109, rfl⟩
abbrev main_while0b_v74 : Ref sig .tc := ⟨.hbm, 110, rfl⟩
abbrev main_while0b_call6_v0 : Ref sig .tc := ⟨.hbm, 111, rfl⟩
abbrev main_while0b_call6_c : Ref sig .tc := ⟨.hbm, 112, rfl⟩
abbrev main_while0b_call6_c_0 : Ref sig .tc := ⟨.hbm, 113, rfl⟩
abbrev main_while0b_call6_c_1 : Ref sig .tc := ⟨.hbm, 114, rfl⟩
abbrev main_while0b_call6_c_2 : Ref sig .tc := ⟨.hbm, 115, rfl⟩
abbrev main_while0b_v75 : Ref sig .tc := ⟨.hbm, 116, rfl⟩
abbrev main_while0b_c_11 : Ref sig .tc := ⟨.hbm, 117, rfl⟩
abbrev main_while0b_v76 : Ref sig .tc := ⟨.hbm, 118, rfl⟩
abbrev main_v52 : Ref sig .tc := ⟨.hbm, 119, rfl⟩
abbrev main_v53 : Ref sig .tc := ⟨.hbm, 120, rfl⟩
abbrev main_v54 : Ref sig .tc := ⟨.hbm, 121, rfl⟩
abbrev main_v55 : Ref sig .tc := ⟨.hbm, 122, rfl⟩
abbrev main_v56 : Ref sig .tc := ⟨.hbm, 123, rfl⟩
abbrev main_v57 : Ref sig .tc := ⟨.hbm, 124, rfl⟩
abbrev main_v58 : Ref sig .tc := ⟨.hbm, 125, rfl⟩
abbrev main_v59 : Ref sig .tc := ⟨.hbm, 126, rfl⟩
abbrev main_c_5 : Ref sig .tc := ⟨.hbm, 127, rfl⟩
abbrev main_call7_v0 : Ref sig .tc := ⟨.hbm, 128, rfl⟩
abbrev main_v60 : Ref sig .tc := ⟨.hbm, 129, rfl⟩
abbrev main_v61 : Ref sig .tc := ⟨.hbm, 130, rfl⟩
abbrev main_c_6 : Ref sig .tc := ⟨.hbm, 131, rfl⟩
abbrev main_call8_v0 : Ref sig .tc := ⟨.hbm, 132, rfl⟩
abbrev main_v62 : Ref sig .tc := ⟨.hbm, 133, rfl⟩
abbrev main_v63 : Ref sig .tc := ⟨.hbm, 134, rfl⟩
abbrev main_v64 : Ref sig .tc := ⟨.hbm, 135, rfl⟩
abbrev main_v65 : Ref sig .tc := ⟨.hbm, 136, rfl⟩
abbrev main_v66 : Ref sig .tc := ⟨.hbm, 137, rfl⟩
abbrev main_v67 : Ref sig .tc := ⟨.hbm, 138, rfl⟩
abbrev main_v68 : Ref sig .tc := ⟨.hbm, 139, rfl⟩

abbrev nD : Nat := 1
abbrev τ : Topo := Topo.v7x

variable {F : FTy → Type} [FloatOps F]

abbrev main_while0_count : Scf.Loop 32 := ⟨0#32, 128#32, 1#32⟩
-- ==== GlaRev.lean ====
abbrev S1x8192x2592 : Shape := ⟨3, ![1, 8192, 2592]⟩
abbrev S1x16x256 : Shape := ⟨3, ![1, 16, 256]⟩
abbrev S1x256 : Shape := ⟨2, ![1, 256]⟩
abbrev S_ : Shape := ⟨0, ![]⟩
abbrev S128x256 : Shape := ⟨2, ![128, 256]⟩
abbrev S16x256 : Shape := ⟨2, ![16, 256]⟩
abbrev S1 : Shape := ⟨1, ![1]⟩
abbrev S8192x2592 : Shape := ⟨2, ![8192, 2592]⟩
abbrev S8192x1536 : Shape := ⟨2, ![8192, 1536]⟩
abbrev S8192x1024 : Shape := ⟨2, ![8192, 1024]⟩
abbrev S8192x128 : Shape := ⟨2, ![8192, 128]⟩
abbrev S8192x2688 : Shape := ⟨2, ![8192, 2688]⟩
abbrev S8x128 : Shape := ⟨2, ![8, 128]⟩
abbrev S8192x512 : Shape := ⟨2, ![8192, 512]⟩
abbrev S128x4x128x128 : Shape := ⟨4, ![128, 4, 128, 128]⟩
abbrev S1024x256 : Shape := ⟨2, ![1024, 256]⟩
abbrev S1024x512 : Shape := ⟨2, ![1024, 512]⟩
abbrev S1024x128 : Shape := ⟨2, ![1024, 128]⟩
abbrev S16x4x128x128 : Shape := ⟨4, ![16, 4, 128, 128]⟩
abbrev S4x128x128 : Shape := ⟨3, ![4, 128, 128]⟩
abbrev S1x128x128 : Shape := ⟨3, ![1, 128, 128]⟩
abbrev S128x128 : Shape := ⟨2, ![128, 128]⟩
abbrev S1x128 : Shape := ⟨2, ![1, 128]⟩
abbrev S64x64 : Shape := ⟨2, ![64, 64]⟩
abbrev S16x64x128 : Shape := ⟨3, ![16, 64, 128]⟩
abbrev S16x1x128 : Shape := ⟨3, ![16, 1, 128]⟩
abbrev S1x1x128 : Shape := ⟨3, ![1, 1, 128]⟩
abbrev S16x128x128 : Shape := ⟨3, ![16, 128, 128]⟩
abbrev S16x128x64 : Shape := ⟨3, ![16, 128, 64]⟩
abbrev S16x64x64 : Shape := ⟨3, ![16, 64, 64]⟩
abbrev S1x64x64 : Shape := ⟨3, ![1, 64, 64]⟩
abbrev S16x256x128 : Shape := ⟨3, ![16, 256, 128]⟩
abbrev S16x64x256 : Shape := ⟨3, ![16, 64, 256]⟩
abbrev S16x1x128x128 : Shape := ⟨4, ![16, 1, 128, 128]⟩

abbrev nBuf : Space → Nat
  | .hbm => 19
  | .vmem => 16
  | .smem => 0
  | _ => 0

abbrev bufTy : (tb : Table) → Fin (tcTables nBuf tb) → BufTy
  | .hbm, ⟨0, _⟩ => ⟨S1x8192x2592, .f32⟩
  | .hbm, ⟨1, _⟩ => ⟨S1x16x256, .f32⟩
  | .hbm, ⟨2, _⟩ => ⟨S1x256, .f32⟩
  | .hbm, ⟨3, _⟩ => ⟨S_, .f32⟩
  | .hbm, ⟨4, _⟩ => ⟨S128x256, .f32⟩
  | .hbm, ⟨5, _⟩ => ⟨S16x256, .f32⟩
  | .hbm, ⟨6, _⟩ => ⟨S_, .i32⟩
  | .hbm, ⟨7, _⟩ => ⟨S1, .i32⟩
  | .hbm, ⟨8, _⟩ => ⟨S128x256, .f32⟩
  | .hbm, ⟨9, _⟩ => ⟨S128x256, .bf16⟩
  | .hbm, ⟨10, _⟩ => ⟨S8192x2592, .f32⟩
  | .hbm, ⟨11, _⟩ => ⟨S8192x1536, .f32⟩
  | .hbm, ⟨12, _⟩ => ⟨S8192x1024, .f32⟩
  | .hbm, ⟨13, _⟩ => ⟨S8192x128, .f32⟩
  | .hbm, ⟨14, _⟩ => ⟨S8192x2688, .f32⟩
  | .hbm, ⟨15, _⟩ => ⟨S_, .f32⟩
  | .hbm, ⟨16, _⟩ => ⟨S8x128, .f32⟩
  | .hbm, ⟨17, _⟩ => ⟨S8192x512, .f32⟩
  | .hbm, ⟨18, _⟩ => ⟨S128x4x128x128, .bf16⟩
  | .local _ .vmem, ⟨0, _⟩ => ⟨S1024x256, .f32⟩
  | .local _ .vmem, ⟨1, _⟩ => ⟨S1024x256, .f32⟩
  | .local _ .vmem, ⟨2, _⟩ => ⟨S1024x256, .f32⟩
  | .local _ .vmem, ⟨3, _⟩ => ⟨S1024x256, .f32⟩
  | .local _ .vmem, ⟨4, _⟩ => ⟨S1024x512, .f32⟩
  | .local _ .vmem, ⟨5, _⟩ => ⟨S1024x512, .f32⟩
  | .local _ .vmem, ⟨6, _⟩ => ⟨S1024x128, .f32⟩
  | .local _ .vmem, ⟨7, _⟩ => ⟨S1024x128, .f32⟩
  | .local _ .vmem, ⟨8, _⟩ => ⟨S128x256, .bf16⟩
  | .local _ .vmem, ⟨9, _⟩ => ⟨S1x256, .f32⟩
  | .local _ .vmem, ⟨10, _⟩ => ⟨S8x128, .f32⟩
  | .local _ .vmem, ⟨11, _⟩ => ⟨S1024x512, .f32⟩
  | .local _ .vmem, ⟨12, _⟩ => ⟨S1024x512, .f32⟩
  | .local _ .vmem, ⟨13, _⟩ => ⟨S16x4x128x128, .bf16⟩
  | .local _ .vmem, ⟨14, _⟩ => ⟨S16x4x128x128, .bf16⟩
  | .local _ .vmem, ⟨15, _⟩ => ⟨S4x128x128, .f32⟩
  | _, _ => ⟨S1x8192x2592, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_0 : Ref sig .tc := ⟨.hbm, 15, rfl⟩
abbrev main_v10 : Ref sig .tc := ⟨.hbm, 16, rfl⟩
abbrev main_v11_0 : Ref sig .tc := ⟨.hbm, 17, rfl⟩
abbrev main_v11_1 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_scratch0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c7_i32 : BitVec 32 := 7#32
  let v0 : BitVec 32 := Scalar.subi c7_i32 arg0
  let c1_i32 : BitVec 32 := 1#32
  let c0_i32 : BitVec 32 := 0#32
  ![v0.toNat, c1_i32.toNat]

def cc0_transform_2 (i : grid0.Coords) : Fin 2 → Nat :=
  let arg0 : BitVec 32 := BitVec.ofNat 32 (i 0).val
  let c7_i32 : BitVec 32 := 7#32
  let v0 : BitVec 32 := Scalar.subi c7_i32 arg0
  let c1_i32 : BitVec 32 := 1#32
  let c0_i32 : BitVec 32 := 0#32
  ![v0.toNat, c1_i32.toNat]

def cc0_transform_3 (i : grid0.Coords) : Fin 2 → Nat :=
  let arg0 : BitVec 32 := BitVec.ofNat 32 (i 0).val
  let c7_i32 : BitVec 32 := 7#32
  let v0 : BitVec 32 := Scalar.subi c7_i32 arg0
  let c20_i32 : BitVec 32 := 20#32
  let c0_i32 : BitVec 32 := 0#32
  ![v0.toNat, c20_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_8 (i : grid0.Coords) : Fin 4 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  let c0_i32_1 : BitVec 32 := 0#32
  let c0_i32_2 : BitVec 32 := 0#32
  ![v0.toNat, c0_i32.toNat, c0_i32_0.toNat, c0_i32_1.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S128x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S8x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1024x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S16x4x128x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== GlaRevRefIdeal.lean ====
abbrev S1x8192x2592 : Shape := ⟨3, ![1, 8192, 2592]⟩
abbrev S1x16x256 : Shape := ⟨3, ![1, 16, 256]⟩
abbrev S1x256 : Shape := ⟨2, ![1, 256]⟩
abbrev S1x8192x256 : Shape := ⟨3, ![1, 8192, 256]⟩
abbrev S1x8192x512 : Shape := ⟨3, ![1, 8192, 512]⟩
abbrev S1x8192x16 : Shape := ⟨3, ![1, 8192, 16]⟩
abbrev S1x8192x1024 : Shape := ⟨3, ![1, 8192, 1024]⟩
abbrev S1x8192x4x64 : Shape := ⟨4, ![1, 8192, 4, 64]⟩
abbrev S_ : Shape := ⟨0, ![]⟩
abbrev S1x8192x4x128 : Shape := ⟨4, ![1, 8192, 4, 128]⟩
abbrev S16x256 : Shape := ⟨2, ![16, 256]⟩
abbrev S256 : Shape := ⟨1, ![256]⟩
abbrev S1x1x256 : Shape := ⟨3, ![1, 1, 256]⟩
abbrev S1x128x64x4x64 : Shape := ⟨5, ![1, 128, 64, 4, 64]⟩
abbrev S1x128x64x4x128 : Shape := ⟨5, ![1, 128, 64, 4, 128]⟩
abbrev S1x128x1x4x64 : Shape := ⟨5, ![1, 128, 1, 4, 64]⟩
abbrev S1x128x4x64 : Shape := ⟨4, ![1, 128, 4, 64]⟩
abbrev S1x128x4x64x64 : Shape := ⟨5, ![1, 128, 4, 64, 64]⟩
abbrev S64x64 : Shape := ⟨2, ![64, 64]⟩
abbrev S1x128x4x128x64 : Shape := ⟨5, ![1, 128, 4, 128, 64]⟩
abbrev S1x128x4x64x128 : Shape := ⟨5, ![1, 128, 4, 64, 128]⟩
abbrev S1x4x64x128 : Shape := ⟨4, ![1, 4, 64, 128]⟩
abbrev S128x1x4x64x128 : Shape := ⟨5, ![128, 1, 4, 64, 128]⟩
abbrev S128x1x4x64 : Shape := ⟨4, ![128, 1, 4, 64]⟩
abbrev S1x1x4x64x128 : Shape := ⟨5, ![1, 1, 4, 64, 128]⟩
abbrev S1x1x4x64 : Shape := ⟨4, ![1, 1, 4, 64]⟩
abbrev S1x4x64 : Shape := ⟨3, ![1, 4, 64]⟩
abbrev S1x4x64x1 : Shape := ⟨4, ![1, 4, 64, 1]⟩
abbrev S128x4x64x128 : Shape := ⟨4, ![128, 4, 64, 128]⟩
abbrev S128x4x128x64 : Shape := ⟨4, ![128, 4, 128, 64]⟩
abbrev S128x2x128x64 : Shape := ⟨4, ![128, 2, 128, 64]⟩
abbrev S128x2x128x128 : Shape := ⟨4, ![128, 2, 128, 128]⟩
abbrev S8192x512 : Shape := ⟨2, ![8192, 512]⟩
abbrev S128x2x1x128x128 : Shape := ⟨5, ![128, 2, 1, 128, 128]⟩
abbrev S128x2x2x128x128 : Shape := ⟨5, ![128, 2, 2, 128, 128]⟩
abbrev S128x4x128x128 : Shape := ⟨4, ![128, 4, 128, 128]⟩

abbrev nBuf : Space → Nat
  | .hbm => 146
  | .vmem => 0
  | .smem => 0
  | _ => 0

abbrev hbmTy0_0 (i : Nat) : BufTy := match i % 128 with
  | 0 => ⟨S1x8192x2592, .f32⟩
  | 1 => ⟨S1x16x256, .f32⟩
  | 2 => ⟨S1x256, .f32⟩
  | 3 => ⟨S1x8192x256, .f32⟩
  | 4 => ⟨S1x8192x256, .f32⟩
  | 5 => ⟨S1x8192x512, .f32⟩
  | 6 => ⟨S1x8192x512, .f32⟩
  | 7 => ⟨S1x8192x16, .f32⟩
  | 8 => ⟨S1x8192x16, .f32⟩
  | 9 => ⟨S1x8192x1024, .f32⟩
  | 10 => ⟨S1x8192x4x64, .f32⟩
  | 11 => ⟨S_, .f32⟩
  | 12 => ⟨S1x8192x4x64, .f32⟩
  | 13 => ⟨S1x8192x4x64, .f32⟩
  | 14 => ⟨S1x8192x4x64, .f32⟩
  | 15 => ⟨S1x8192x4x128, .f32⟩
  | 16 => ⟨S16x256, .f32⟩
  | 17 => ⟨S1x8192x256, .f32⟩
  | 18 => ⟨S256, .f32⟩
  | 19 => ⟨S1x1x256, .f32⟩
  | 20 => ⟨S1x8192x256, .f32⟩
  | 21 => ⟨S1x8192x256, .f32⟩
  | 22 => ⟨S1x8192x256, .f32⟩
  | 23 => ⟨S_, .f32⟩
  | 24 => ⟨S1x8192x256, .f32⟩
  | 25 => ⟨S1x8192x256, .f32⟩
  | 26 => ⟨S1x8192x256, .f32⟩
  | 27 => ⟨S1x8192x256, .f32⟩
  | 28 => ⟨S1x8192x256, .i1⟩
  | 29 => ⟨S1x8192x256, .f32⟩
  | 30 => ⟨S1x8192x256, .f32⟩
  | 31 => ⟨S1x8192x256, .f32⟩
  | 32 => ⟨S1x8192x256, .f32⟩
  | 33 => ⟨S1x8192x256, .f32⟩
  | 34 => ⟨S1x8192x256, .f32⟩
  | 35 => ⟨S1x8192x256, .f32⟩
  | 36 => ⟨S1x8192x256, .f32⟩
  | 37 => ⟨S1x8192x256, .f32⟩
  | 38 => ⟨S_, .f32⟩
  | 39 => ⟨S1x8192x256, .f32⟩
  | 40 => ⟨S1x8192x256, .f32⟩
  | 41 => ⟨S1x8192x4x64, .f32⟩
  | 42 => ⟨S1x8192x4x64, .f32⟩
  | 43 => ⟨S1x8192x4x64, .f32⟩
  | 44 => ⟨S1x8192x4x128, .f32⟩
  | 45 => ⟨S1x8192x4x64, .f32⟩
  | 46 => ⟨S1x128x64x4x64, .f32⟩
  | 47 => ⟨S1x128x64x4x64, .f32⟩
  | 48 => ⟨S1x128x64x4x128, .f32⟩
  | 49 => ⟨S1x128x64x4x64, .f32⟩
  | 50 => ⟨S_, .f32⟩
  | 51 => ⟨S_, .f32⟩
  | 52 => ⟨S1x128x64x4x64, .f32⟩
  | 53 => ⟨S1x128x1x4x64, .f32⟩
  | 54 => ⟨S1x128x4x64, .f32⟩
  | 55 => ⟨S1x128x64x4x64, .f32⟩
  | 56 => ⟨S1x128x64x4x64, .f32⟩
  | 57 => ⟨S1x128x64x4x64, .f32⟩
  | 58 => ⟨S1x128x64x4x64, .f32⟩
  | 59 => ⟨S1x128x64x4x64, .f32⟩
  | 60 => ⟨S1x128x1x4x64, .f32⟩
  | 61 => ⟨S1x128x64x4x64, .f32⟩
  | 62 => ⟨S1x128x64x4x64, .f32⟩
  | 63 => ⟨S1x128x64x4x64, .f32⟩
  | 64 => ⟨S1x128x64x4x64, .f32⟩
  | 65 => ⟨S1x128x4x64x64, .f32⟩
  | 66 => ⟨S_, .i1⟩
  | 67 => ⟨S64x64, .i1⟩
  | 68 => ⟨S64x64, .i32⟩
  | 69 => ⟨S_, .i32⟩
  | 70 => ⟨S64x64, .i32⟩
  | 71 => ⟨S64x64, .i32⟩
  | 72 => ⟨S64x64, .i32⟩
  | 73 => ⟨S64x64, .i1⟩
  | 74 => ⟨S_, .i1⟩
  | 75 => ⟨S64x64, .i1⟩
  | 76 => ⟨S64x64, .i1⟩
  | 77 => ⟨S_, .f32⟩
  | 78 => ⟨S_, .f32⟩
  | 79 => ⟨S1x128x4x64x64, .i1⟩
  | 80 => ⟨S1x128x4x64x64, .f32⟩
  | 81 => ⟨S1x128x4x64x64, .f32⟩
  | 82 => ⟨S1x128x4x128x64, .f32⟩
  | 83 => ⟨S1x128x64x4x128, .f32⟩
  | 84 => ⟨S1x128x4x64x128, .f32⟩
  | 85 => ⟨S1x128x4x64, .f32⟩
  | 86 => ⟨S_, .f32⟩
  | 87 => ⟨S1x4x64x128, .f32⟩
  | 88 => ⟨S128x1x4x64x128, .f32⟩
  | 89 => ⟨S128x1x4x64, .f32⟩
  | 90 => ⟨S_, .f32⟩
  | 91 => ⟨S128x1x4x64x128, .f32⟩
  | 92 => ⟨S_, .i32⟩
  | 93 => ⟨S128x1x4x64x128, .f32⟩
  | 94 => ⟨S128x1x4x64, .f32⟩
  | 95 => ⟨S_, .i32⟩
  | 96 => ⟨S1x4x64x128, .f32⟩
  | 97 => ⟨S128x1x4x64x128, .f32⟩
  | 98 => ⟨S_, .i32⟩
  | 99 => ⟨S_, .i1⟩
  | 100 => ⟨S_, .i32⟩
  | 101 => ⟨S_, .i32⟩
  | 102 => ⟨S_, .i32⟩
  | 103 => ⟨S_, .i32⟩
  | 104 => ⟨S1x1x4x64x128, .f32⟩
  | 105 => ⟨S1x4x64x128, .f32⟩
  | 106 => ⟨S_, .i32⟩
  | 107 => ⟨S_, .i32⟩
  | 108 => ⟨S_, .i32⟩
  | 109 => ⟨S1x1x4x64, .f32⟩
  | 110 => ⟨S1x4x64, .f32⟩
  | 111 => ⟨S1x4x64x1, .f32⟩
  | 112 => ⟨S1x4x64x128, .f32⟩
  | 113 => ⟨S1x4x64x128, .f32⟩
  | 114 => ⟨S1x4x64x128, .f32⟩
  | 115 => ⟨S1x1x4x64x128, .f32⟩
  | 116 => ⟨S_, .i32⟩
  | 117 => ⟨S_, .i32⟩
  | 118 => ⟨S_, .i32⟩
  | 119 => ⟨S_, .i32⟩
  | 120 => ⟨S128x1x4x64x128, .f32⟩
  | 121 => ⟨S_, .i32⟩
  | 122 => ⟨S_, .i32⟩
  | 123 => ⟨S1x128x4x64x128, .f32⟩
  | 124 => ⟨S1x128x4x128x64, .f32⟩
  | 125 => ⟨S1x128x64x4x128, .f32⟩
  | 126 => ⟨S1x128x64x4x128, .f32⟩
  | 127 => ⟨S1x8192x4x128, .f32⟩
  | _ => ⟨S1x8192x2592, .f32⟩

abbrev hbmTy0_1 (i : Nat) : BufTy := match i % 128 with
  | 0 => ⟨S1x8192x4x128, .f32⟩
  | 1 => ⟨S1x128x4x64x128, .f32⟩
  | 2 => ⟨S128x4x64x128, .f32⟩
  | 3 => ⟨S128x4x128x64, .f32⟩
  | 4 => ⟨S128x2x128x64, .f32⟩
  | 5 => ⟨S_, .i32⟩
  | 6 => ⟨S_, .f32⟩
  | 7 => ⟨S128x2x128x128, .f32⟩
  | 8 => ⟨S128x2x128x64, .f32⟩
  | 9 => ⟨S_, .i32⟩
  | 10 => ⟨S_, .f32⟩
  | 11 => ⟨S128x2x128x128, .f32⟩
  | 12 => ⟨S8192x512, .f32⟩
  | 13 => ⟨S128x2x1x128x128, .f32⟩
  | 14 => ⟨S128x2x1x128x128, .f32⟩
  | 15 => ⟨S128x2x2x128x128, .f32⟩
  | 16 => ⟨S128x4x128x128, .f32⟩
  | 17 => ⟨S128x4x128x128, .bf16⟩
  | _ => ⟨S1x8192x2592, .f32⟩

abbrev hbmTy (i : Nat) : BufTy := match i / 128 with
  | 0 => hbmTy0_0 i
  | 1 => hbmTy0_1 i
  | _ => ⟨S1x8192x2592, .f32⟩

abbrev bufTy : (tb : Table) → Fin (tcTables nBuf tb) → BufTy
  | .hbm, ⟨i, _⟩ => hbmTy i
  | _, _ => ⟨S1x8192x2592, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_call0_v0 : Ref sig .tc := ⟨.hbm, 22, rfl⟩
abbrev main_call0_call0_cst : Ref sig .tc := ⟨.hbm, 23, rfl⟩
abbrev main_call0_call0_v0 : Ref sig .tc := ⟨.hbm, 24, rfl⟩
abbrev main_call0_call0_v1 : Ref sig .tc := ⟨.hbm, 25, rfl⟩
abbrev main_call0_call0_v2 : Ref sig .tc := ⟨.hbm, 26, rfl⟩
abbrev main_call0_call0_v3 : Ref sig .tc := ⟨.hbm, 27, rfl⟩
abbrev main_call0_call0_v4 : Ref sig .tc := ⟨.hbm, 28, rfl⟩
abbrev main_call0_call0_v5 : Ref sig .tc := ⟨.hbm, 29, rfl⟩
abbrev main_call0_call0_v6 : Ref sig .tc := ⟨.hbm, 30, rfl⟩
abbrev main_call0_call0_v7 : Ref sig .tc := ⟨.hbm, 31, rfl⟩
abbrev main_call0_call0_v8 : Ref sig .tc := ⟨.hbm, 32, rfl⟩
abbrev main_call0_call0_v9 : Ref sig .tc := ⟨.hbm, 33, rfl⟩
abbrev main_call0_call0_v10 : Ref sig .tc := ⟨.hbm, 34, rfl⟩
abbrev main_call0_call0_v11 : Ref sig .tc := ⟨.hbm, 35, rfl⟩
abbrev main_call0_v1 : Ref sig .tc := ⟨.hbm, 36, rfl⟩
abbrev main_v18 : Ref sig .tc := ⟨.hbm, 37, rfl⟩
abbrev main_cst_0 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_call5_call0_cst : Ref sig .tc := ⟨.hbm, 50, rfl⟩
abbrev main_call5_call0_v0 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_c : Ref sig .tc := ⟨.hbm, 66, rfl⟩
abbrev main_v44 : Ref sig .tc := ⟨.hbm, 67, rfl⟩
abbrev main_call6_v0 : Ref sig .tc := ⟨.hbm, 68, rfl⟩
abbrev main_call6_c : Ref sig .tc := ⟨.hbm, 69, rfl⟩
abbrev main_call6_v1 : Ref sig .tc := ⟨.hbm, 70, rfl⟩
abbrev main_call6_v2 : Ref sig .tc := ⟨.hbm, 71, rfl⟩
abbrev main_call6_v3 : Ref sig .tc := ⟨.hbm, 72, rfl⟩
abbrev main_call6_v4 : Ref sig .tc := ⟨.hbm, 73, rfl⟩
abbrev main_call6_c_0 : Ref sig .tc := ⟨.hbm, 74, rfl⟩
abbrev main_call6_v5 : Ref sig .tc := ⟨.hbm, 75, rfl⟩
abbrev main_v45 : Ref sig .tc := ⟨.hbm, 76, rfl⟩
abbrev main_cst_1 : Ref sig .tc := ⟨.hbm, 77, rfl⟩
abbrev main_call7_v0 : Ref sig .tc := ⟨.hbm, 78, rfl⟩
abbrev main_call7_v1 : Ref sig .tc := ⟨.hbm, 79, rfl⟩
abbrev main_call7_v2 : Ref sig .tc := ⟨.hbm, 80, rfl⟩
abbrev main_v46 : Ref sig .tc := ⟨.hbm, 81, rfl⟩
abbrev main_v47 : Ref sig .tc := ⟨.hbm, 82, rfl⟩
abbrev main_v48 : Ref sig .tc := ⟨.hbm, 83, rfl⟩
abbrev main_v49 : Ref sig .tc := ⟨.hbm, 84, rfl⟩
abbrev main_v50 : Ref sig .tc := ⟨.hbm, 85, rfl⟩
abbrev main_cst_2 : Ref sig .tc := ⟨.hbm, 86, rfl⟩
abbrev main_v51 : Ref sig .tc := ⟨.hbm, 87, rfl⟩
abbrev main_v52 : Ref sig .tc := ⟨.hbm, 88, rfl⟩
abbrev main_v53 : Ref sig .tc := ⟨.hbm, 89, rfl⟩
abbrev main_cst_3 : Ref sig .tc := ⟨.hbm, 90, rfl⟩
abbrev main_v54 : Ref sig .tc := ⟨.hbm, 91, rfl⟩
abbrev main_c_4 : Ref sig .tc := ⟨.hbm, 92, rfl⟩
abbrev main_v55_0 : Ref sig .tc := ⟨.hbm, 93, rfl⟩
abbrev main_v55_1 : Ref sig .tc := ⟨.hbm, 94, rfl⟩
abbrev main_v55_2 : Ref sig .tc := ⟨.hbm, 95, rfl⟩
abbrev main_v55_3 : Ref sig .tc := ⟨.hbm, 96, rfl⟩
abbrev main_v55_4 : Ref sig .tc := ⟨.hbm, 97, rfl⟩
abbrev main_while0c_c_11 : Ref sig .tc := ⟨.hbm, 98, rfl⟩
abbrev main_while0c_v75 : Ref sig .tc := ⟨.hbm, 99, rfl⟩
abbrev main_while0b_call8_c : Ref sig .tc := ⟨.hbm, 100, rfl⟩
abbrev main_while0b_call8_c_0 : Ref sig .tc := ⟨.hbm, 101, rfl⟩
abbrev main_while0b_call8_c_1 : Ref sig .tc := ⟨.hbm, 102, rfl⟩
abbrev main_while0b_call8_c_2 : Ref sig .tc := ⟨.hbm, 103, rfl⟩
abbrev main_while0b_call8_v0 : Ref sig .tc := ⟨.hbm, 104, rfl⟩
abbrev main_while0b_v75 : Ref sig .tc := ⟨.hbm, 105, rfl⟩
abbrev main_while0b_call9_c : Ref sig .tc := ⟨.hbm, 106, rfl⟩
abbrev main_while0b_call9_c_0 : Ref sig .tc := ⟨.hbm, 107, rfl⟩
abbrev main_while0b_call9_c_1 : Ref sig .tc := ⟨.hbm, 108, rfl⟩
abbrev main_while0b_call9_v0 : Ref sig .tc := ⟨.hbm, 109, rfl⟩
abbrev main_while0b_v76 : Ref sig .tc := ⟨.hbm, 110, rfl⟩
abbrev main_while0b_v77 : Ref sig .tc := ⟨.hbm, 111, rfl⟩
abbrev main_while0b_v78 : Ref sig .tc := ⟨.hbm, 112, rfl⟩
abbrev main_while0b_v79 : Ref sig .tc := ⟨.hbm, 113, rfl⟩
abbrev main_while0b_v80 : Ref sig .tc := ⟨.hbm, 114, rfl⟩
abbrev main_while0b_call10_v0 : Ref sig .tc := ⟨.hbm, 115, rfl⟩
abbrev main_while0b_call10_c : Ref sig .tc := ⟨.hbm, 116, rfl⟩
abbrev main_while0b_call10_c_0 : Ref sig .tc := ⟨.hbm, 117, rfl⟩
abbrev main_while0b_call10_c_1 : Ref sig .tc := ⟨.hbm, 118, rfl⟩
abbrev main_while0b_call10_c_2 : Ref sig .tc := ⟨.hbm, 119, rfl⟩
abbrev main_while0b_v81 : Ref sig .tc := ⟨.hbm, 120, rfl⟩
abbrev main_while0b_c_11 : Ref sig .tc := ⟨.hbm, 121, rfl⟩
abbrev main_while0b_v82 : Ref sig .tc := ⟨.hbm, 122, rfl⟩
abbrev main_v56 : Ref sig .tc := ⟨.hbm, 123, rfl⟩
abbrev main_v57 : Ref sig .tc := ⟨.hbm, 124, rfl⟩
abbrev main_v58 : Ref sig .tc := ⟨.hbm, 125, rfl⟩
abbrev main_v59 : Ref sig .tc := ⟨.hbm, 126, rfl⟩
abbrev main_v60 : Ref sig .tc := ⟨.hbm, 127, rfl⟩
abbrev main_v61 : Ref sig .tc := ⟨.hbm, 128, rfl⟩
abbrev main_v62 : Ref sig .tc := ⟨.hbm, 129, rfl⟩
abbrev main_v63 : Ref sig .tc := ⟨.hbm, 130, rfl⟩
abbrev main_v64 : Ref sig .tc := ⟨.hbm, 131, rfl⟩
abbrev main_v65 : Ref sig .tc := ⟨.hbm, 132, rfl⟩
abbrev main_c_5 : Ref sig .tc := ⟨.hbm, 133, rfl⟩
abbrev main_call13_v0 : Ref sig .tc := ⟨.hbm, 134, rfl⟩
abbrev main_v66 : Ref sig .tc := ⟨.hbm, 135, rfl⟩
abbrev main_v67 : Ref sig .tc := ⟨.hbm, 136, rfl⟩
abbrev main_c_6 : Ref sig .tc := ⟨.hbm, 137, rfl⟩
abbrev main_call14_v0 : Ref sig .tc := ⟨.hbm, 138, rfl⟩
abbrev main_v68 : Ref sig .tc := ⟨.hbm, 139, rfl⟩
abbrev main_v69 : Ref sig .tc := ⟨.hbm, 140, rfl⟩
abbrev main_v70 : Ref sig .tc := ⟨.hbm, 141, rfl⟩
abbrev main_v71 : Ref sig .tc := ⟨.hbm, 142, rfl⟩
abbrev main_v72 : Ref sig .tc := ⟨.hbm, 143, rfl⟩
abbrev main_v73 : Ref sig .tc := ⟨.hbm, 144, rfl⟩
abbrev main_v74 : Ref sig .tc := ⟨.hbm, 145, rfl⟩

abbrev nD : Nat := 1
abbrev τ : Topo := Topo.v7x

variable {F : FTy → Type} [FloatOps F]

abbrev main_while0_count : Scf.Loop 32 := ⟨0#32, 128#32, 1#32⟩
-- ==== FfnWgrad.lean ====
abbrev S1x8192x1024 : Shape := ⟨3, ![1, 8192, 1024]⟩
abbrev S1x1024 : Shape := ⟨2, ![1, 1024]⟩
abbrev S1x1024x2816 : Shape := ⟨3, ![1, 1024, 2816]⟩
abbrev S1x8192x2816 : Shape := ⟨3, ![1, 8192, 2816]⟩
abbrev S1024 : Shape := ⟨1, ![1024]⟩
abbrev S_ : Shape := ⟨0, ![]⟩
abbrev S1x8192 : Shape := ⟨2, ![1, 8192]⟩
abbrev S1x8192x1 : Shape := ⟨3, ![1, 8192, 1]⟩
abbrev S1x1x1024 : Shape := ⟨3, ![1, 1, 1024]⟩
abbrev S1024x2816 : Shape := ⟨2, ![1024, 2816]⟩
abbrev S8192x1024 : Shape := ⟨2, ![8192, 1024]⟩
abbrev S8192x2816 : Shape := ⟨2, ![8192, 2816]⟩
abbrev S2816x1024 : Shape := ⟨2, ![2816, 1024]⟩
abbrev S512x1024 : Shape := ⟨2, ![512, 1024]⟩
abbrev S512x1408 : Shape := ⟨2, ![512, 1408]⟩
abbrev S1408x1024 : Shape := ⟨2, ![1408, 1024]⟩

abbrev nBuf : Space → Nat
  | .hbm => 50
  | .vmem => 16
  | .smem => 0
  | _ => 0

abbrev bufTy : (tb : Table) → Fin (tcTables nBuf tb) → BufTy
  | .hbm, ⟨0, _⟩ => ⟨S1x8192x1024, .f32⟩
  | .hbm, ⟨1, _⟩ => ⟨S1x1024, .f32⟩
  | .hbm, ⟨2, _⟩ => ⟨S1x1024x2816, .f32⟩
  | .hbm, ⟨3, _⟩ => ⟨S1x1024x2816, .f32⟩
  | .hbm, ⟨4, _⟩ => ⟨S1x8192x2816, .f32⟩
  | .hbm, ⟨5, _⟩ => ⟨S1x8192x2816, .f32⟩
  | .hbm, ⟨6, _⟩ => ⟨S1x8192x1024, .f32⟩
  | .hbm, ⟨7, _⟩ => ⟨S1024, .f32⟩
  | .hbm, ⟨8, _⟩ => ⟨S1x8192x1024, .f32⟩
  | .hbm, ⟨9, _⟩ => ⟨S_, .f32⟩
  | .hbm, ⟨10, _⟩ => ⟨S1x8192, .f32⟩
  | .hbm, ⟨11, _⟩ => ⟨S1x8192x1, .f32⟩
  | .hbm, ⟨12, _⟩ => ⟨S_, .f32⟩
  | .hbm, ⟨13, _⟩ => ⟨S1x8192x1, .f32⟩
  | .hbm, ⟨14, _⟩ => ⟨S1x8192x1, .f32⟩
  | .hbm, ⟨15, _⟩ => ⟨S_, .f32⟩
  | .hbm, ⟨16, _⟩ => ⟨S1x8192x1, .f32⟩
  | .hbm, ⟨17, _⟩ => ⟨S1x8192x1, .f32⟩
  | .hbm, ⟨18, _⟩ => ⟨S1x8192x1, .f32⟩
  | .hbm, ⟨19, _⟩ => ⟨S1x8192x1024, .f32⟩
  | .hbm, ⟨20, _⟩ => ⟨S1x8192x1024, .f32⟩
  | .hbm, ⟨21, _⟩ => ⟨S1x1x1024, .f32⟩
  | .hbm, ⟨22, _⟩ => ⟨S1x8192x1024, .f32⟩
  | .hbm, ⟨23, _⟩ => ⟨S1x8192x1024, .f32⟩
  | .hbm, ⟨24, _⟩ => ⟨S1024x2816, .f32⟩
  | .hbm, ⟨25, _⟩ => ⟨S1x8192x2816, .f32⟩
  | .hbm, ⟨26, _⟩ => ⟨S1x8192x2816, .f32⟩
  | .hbm, ⟨27, _⟩ => ⟨S1x8192x2816, .f32⟩
  | .hbm, ⟨28, _⟩ => ⟨S_, .f32⟩
  | .hbm, ⟨29, _⟩ => ⟨S1x8192x2816, .f32⟩
  | .hbm, ⟨30, _⟩ => ⟨S1x8192x2816, .f32⟩
  | .hbm, ⟨31, _⟩ => ⟨S_, .f32⟩
  | .hbm, ⟨32, _⟩ => ⟨S1x8192x2816, .f32⟩
  | .hbm, ⟨33, _⟩ => ⟨S1x8192x2816, .f32⟩
  | .hbm, ⟨34, _⟩ => ⟨S1x8192x2816, .f32⟩
  | .hbm, ⟨35, _⟩ => ⟨S1024x2816, .f32⟩
  | .hbm, ⟨36, _⟩ => ⟨S1x8192x2816, .f32⟩
  | .hbm, ⟨37, _⟩ => ⟨S1x8192x2816, .f32⟩
  | .hbm, ⟨38, _⟩ => ⟨S8192x1024, .f32⟩
  | .hbm, ⟨39, _⟩ => ⟨S8192x1024, .bf16⟩
  | .hbm, ⟨40, _⟩ => ⟨S8192x2816, .f32⟩
  | .hbm, ⟨41, _⟩ => ⟨S8192x2816, .bf16⟩
  | .hbm, ⟨42, _⟩ => ⟨S8192x2816, .f32⟩
  | .hbm, ⟨43, _⟩ => ⟨S8192x2816, .bf16⟩
  | .hbm, ⟨44, _⟩ => ⟨S8192x2816, .f32⟩
  | .hbm, ⟨45, _⟩ => ⟨S8192x2816, .bf16⟩
  | .hbm, ⟨46, _⟩ => ⟨S8192x1024, .f32⟩
  | .hbm, ⟨47, _⟩ => ⟨S2816x1024, .f32⟩
  | .hbm, ⟨48, _⟩ => ⟨S2816x1024, .f32⟩
  | .hbm, ⟨49, _⟩ => ⟨S2816x1024, .f32⟩
  | .local _ .vmem, ⟨0, _⟩ => ⟨S512x1024, .bf16⟩
  | .local _ .vmem, ⟨1, _⟩ => ⟨S512x1024, .bf16⟩
  | .local _ .vmem, ⟨2, _⟩ => ⟨S512x1408, .bf16⟩
  | .local _ .vmem, ⟨3, _⟩ => ⟨S512x1408, .bf16⟩
  | .local _ .vmem, ⟨4, _⟩ => ⟨S512x1408, .bf16⟩
  | .local _ .vmem, ⟨5, _⟩ => ⟨S512x1408, .bf16⟩
  | .local _ .vmem, ⟨6, _⟩ => ⟨S512x1408, .bf16⟩
  | .local _ .vmem, ⟨7, _⟩ => ⟨S512x1408, .bf16⟩
  | .local _ .vmem, ⟨8, _⟩ => ⟨S512x1024, .f32⟩
  | .local _ .vmem, ⟨9, _⟩ => ⟨S512x1024, .f32⟩
  | .local _ .vmem, ⟨10, _⟩ => ⟨S1408x1024, .f32⟩
  | .local _ .vmem, ⟨11, _⟩ => ⟨S1408x1024, .f32⟩
  | .local _ .vmem, ⟨12, _⟩ => ⟨S1408x1024, .f32⟩
  | .local _ .vmem, ⟨13, _⟩ => ⟨S1408x1024, .f32⟩
  | .local _ .vmem, ⟨14, _⟩ => ⟨S1408x1024, .f32⟩
  | .local _ .vmem, ⟨15, _⟩ => ⟨S1408x1024, .f32⟩
  | _, _ => ⟨S1x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_call0_v0 : Ref sig .tc := ⟨.hbm, 26, rfl⟩
abbrev main_call0_v1 : Ref sig .tc := ⟨.hbm, 27, rfl⟩
abbrev main_call0_cst : Ref sig .tc := ⟨.hbm, 28, rfl⟩
abbrev main_call0_v2 : Ref sig .tc := ⟨.hbm, 29, rfl⟩
abbrev main_call0_v3 : Ref sig .tc := ⟨.hbm, 30, rfl⟩
abbrev main_call0_cst_0 : Ref sig .tc := ⟨.hbm, 31, rfl⟩
abbrev main_call0_v4 : Ref sig .tc := ⟨.hbm, 32, rfl⟩
abbrev main_call0_v5 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29_0 : Ref sig .tc := ⟨.hbm, 47, rfl⟩
abbrev main_v29_1 : Ref sig .tc := ⟨.hbm, 48, rfl⟩
abbrev main_v29_2 : Ref sig .tc := ⟨.hbm, 49, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![2, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1408x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1408x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1408x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== FfnWgradRefIdeal.lean ====
abbrev S1x8192x1024 : Shape := ⟨3, ![1, 8192, 1024]⟩
abbrev S1x1024 : Shape := ⟨2, ![1, 1024]⟩
abbrev S1x1024x2816 : Shape := ⟨3, ![1, 1024, 2816]⟩
abbrev S1x8192x2816 : Shape := ⟨3, ![1, 8192, 2816]⟩
abbrev S1024 : Shape := ⟨1, ![1024]⟩
abbrev S_ : Shape := ⟨0, ![]⟩
abbrev S1x8192 : Shape := ⟨2, ![1, 8192]⟩
abbrev S1x8192x1 : Shape := ⟨3, ![1, 8192, 1]⟩
abbrev S1x1x1024 : Shape := ⟨3, ![1, 1, 1024]⟩
abbrev S1024x2816 : Shape := ⟨2, ![1024, 2816]⟩
abbrev S2816x1024 : Shape := ⟨2, ![2816, 1024]⟩
abbrev S1x2816x1024 : Shape := ⟨3, ![1, 2816, 1024]⟩

abbrev nBuf : Space → Nat
  | .hbm => 60
  | .vmem => 0
  | .smem => 0
  | _ => 0

abbrev bufTy : (tb : Table) → Fin (tcTables nBuf tb) → BufTy
  | .hbm, ⟨0, _⟩ => ⟨S1x8192x1024, .f32⟩
  | .hbm, ⟨1, _⟩ => ⟨S1x1024, .f32⟩
  | .hbm, ⟨2, _⟩ => ⟨S1x1024x2816, .f32⟩
  | .hbm, ⟨3, _⟩ => ⟨S1x1024x2816, .f32⟩
  | .hbm, ⟨4, _⟩ => ⟨S1x8192x2816, .f32⟩
  | .hbm, ⟨5, _⟩ => ⟨S1x8192x2816, .f32⟩
  | .hbm, ⟨6, _⟩ => ⟨S1x8192x1024, .f32⟩
  | .hbm, ⟨7, _⟩ => ⟨S1024, .f32⟩
  | .hbm, ⟨8, _⟩ => ⟨S1x8192x1024, .f32⟩
  | .hbm, ⟨9, _⟩ => ⟨S_, .f32⟩
  | .hbm, ⟨10, _⟩ => ⟨S1x8192, .f32⟩
  | .hbm, ⟨11, _⟩ => ⟨S1x8192x1, .f32⟩
  | .hbm, ⟨12, _⟩ => ⟨S_, .f32⟩
  | .hbm, ⟨13, _⟩ => ⟨S1x8192x1, .f32⟩
  | .hbm, ⟨14, _⟩ => ⟨S1x8192x1, .f32⟩
  | .hbm, ⟨15, _⟩ => ⟨S_, .f32⟩
  | .hbm, ⟨16, _⟩ => ⟨S1x8192x1, .f32⟩
  | .hbm, ⟨17, _⟩ => ⟨S1x8192x1, .f32⟩
  | .hbm, ⟨18, _⟩ => ⟨S1x8192x1, .f32⟩
  | .hbm, ⟨19, _⟩ => ⟨S1x8192x1024, .f32⟩
  | .hbm, ⟨20, _⟩ => ⟨S1x8192x1024, .f32⟩
  | .hbm, ⟨21, _⟩ => ⟨S1x1x1024, .f32⟩
  | .hbm, ⟨22, _⟩ => ⟨S1x8192x1024, .f32⟩
  | .hbm, ⟨23, _⟩ => ⟨S1x8192x1024, .f32⟩
  | .hbm, ⟨24, _⟩ => ⟨S1024x2816, .f32⟩
  | .hbm, ⟨25, _⟩ => ⟨S1x8192x2816, .f32⟩
  | .hbm, ⟨26, _⟩ => ⟨S1x8192x2816, .f32⟩
  | .hbm, ⟨27, _⟩ => ⟨S1x8192x2816, .f32⟩
  | .hbm, ⟨28, _⟩ => ⟨S_, .f32⟩
  | .hbm, ⟨29, _⟩ => ⟨S1x8192x2816, .f32⟩
  | .hbm, ⟨30, _⟩ => ⟨S1x8192x2816, .f32⟩
  | .hbm, ⟨31, _⟩ => ⟨S_, .f32⟩
  | .hbm, ⟨32, _⟩ => ⟨S1x8192x2816, .f32⟩
  | .hbm, ⟨33, _⟩ => ⟨S1x8192x2816, .f32⟩
  | .hbm, ⟨34, _⟩ => ⟨S1x8192x2816, .f32⟩
  | .hbm, ⟨35, _⟩ => ⟨S1024x2816, .f32⟩
  | .hbm, ⟨36, _⟩ => ⟨S1x8192x2816, .f32⟩
  | .hbm, ⟨37, _⟩ => ⟨S1x8192x2816, .f32⟩
  | .hbm, ⟨38, _⟩ => ⟨S1024x2816, .f32⟩
  | .hbm, ⟨39, _⟩ => ⟨S1x8192x2816, .f32⟩
  | .hbm, ⟨40, _⟩ => ⟨S2816x1024, .f32⟩
  | .hbm, ⟨41, _⟩ => ⟨S1024x2816, .f32⟩
  | .hbm, ⟨42, _⟩ => ⟨S1x1024x2816, .f32⟩
  | .hbm, ⟨43, _⟩ => ⟨S1024x2816, .f32⟩
  | .hbm, ⟨44, _⟩ => ⟨S1x8192x2816, .f32⟩
  | .hbm, ⟨45, _⟩ => ⟨S2816x1024, .f32⟩
  | .hbm, ⟨46, _⟩ => ⟨S1024x2816, .f32⟩
  | .hbm, ⟨47, _⟩ => ⟨S1x1024x2816, .f32⟩
  | .hbm, ⟨48, _⟩ => ⟨S_, .f32⟩
  | .hbm, ⟨49, _⟩ => ⟨S1x2816x1024, .f32⟩
  | .hbm, ⟨50, _⟩ => ⟨S2816x1024, .f32⟩
  | .hbm, ⟨51, _⟩ => ⟨S1x8192x1024, .f32⟩
  | .hbm, ⟨52, _⟩ => ⟨S1024x2816, .f32⟩
  | .hbm, ⟨53, _⟩ => ⟨S2816x1024, .f32⟩
  | .hbm, ⟨54, _⟩ => ⟨S1x2816x1024, .f32⟩
  | .hbm, ⟨55, _⟩ => ⟨S1024x2816, .f32⟩
  | .hbm, ⟨56, _⟩ => ⟨S2816x1024, .f32⟩
  | .hbm, ⟨57, _⟩ => ⟨S1024x2816, .f32⟩
  | .hbm, ⟨58, _⟩ => ⟨S2816x1024, .f32⟩
  | .hbm, ⟨59, _⟩ => ⟨S2816x1024, .f32⟩
  | _, _ => ⟨S1x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_call0_v0 : Ref sig .tc := ⟨.hbm, 26, rfl⟩
abbrev main_call0_v1 : Ref sig .tc := ⟨.hbm, 27, rfl⟩
abbrev main_call0_cst : Ref sig .tc := ⟨.hbm, 28, rfl⟩
abbrev main_call0_v2 : Ref sig .tc := ⟨.hbm, 29, rfl⟩
abbrev main_call0_v3 : Ref sig .tc := ⟨.hbm, 30, rfl⟩
abbrev main_call0_cst_0 : Ref sig .tc := ⟨.hbm, 31, rfl⟩
abbrev main_call0_v4 : Ref sig .tc := ⟨.hbm, 32, rfl⟩
abbrev main_call0_v5 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_cst_2 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩

abbrev nD : Nat := 1
abbrev τ : Topo := Topo.v7x

variable {F : FTy → Type} [FloatOps F]
-- ==== Adamw.lean ====
abbrev S1x704x1024 : Shape := ⟨3, ![1, 704, 1024]⟩
abbrev S704x1024 : Shape := ⟨2, ![704, 1024]⟩
abbrev S352x1024 : Shape := ⟨2, ![352, 1024]⟩

abbrev nBuf : Space → Nat
  | .hbm => 12
  | .vmem => 16
  | .smem => 0
  | _ => 0

abbrev bufTy : (tb : Table) → Fin (tcTables nBuf tb) → BufTy
  | .hbm, ⟨0, _⟩ => ⟨S1x704x1024, .f32⟩
  | .hbm, ⟨1, _⟩ => ⟨S1x704x1024, .f32⟩
  | .hbm, ⟨2, _⟩ => ⟨S1x704x1024, .f32⟩
  | .hbm, ⟨3, _⟩ => ⟨S1x704x1024, .f32⟩
  | .hbm, ⟨4, _⟩ => ⟨S704x1024, .f32⟩
  | .hbm, ⟨5, _⟩ => ⟨S704x1024, .f32⟩
  | .hbm, ⟨6, _⟩ => ⟨S704x1024, .f32⟩
  | .hbm, ⟨7, _⟩ => ⟨S704x1024, .f32⟩
  | .hbm, ⟨8, _⟩ => ⟨S704x1024, .f32⟩
  | .hbm, ⟨9, _⟩ => ⟨S704x1024, .f32⟩
  | .hbm, ⟨10, _⟩ => ⟨S704x1024, .f32⟩
  | .hbm, ⟨11, _⟩ => ⟨S704x1024, .f32⟩
  | .local _ .vmem, ⟨0, _⟩ => ⟨S352x1024, .f32⟩
  | .local _ .vmem, ⟨1, _⟩ => ⟨S352x1024, .f32⟩
  | .local _ .vmem, ⟨2, _⟩ => ⟨S352x1024, .f32⟩
  | .local _ .vmem, ⟨3, _⟩ => ⟨S352x1024, .f32⟩
  | .local _ .vmem, ⟨4, _⟩ => ⟨S352x1024, .f32⟩
  | .local _ .vmem, ⟨5, _⟩ => ⟨S352x1024, .f32⟩
  | .local _ .vmem, ⟨6, _⟩ => ⟨S352x1024, .f32⟩
  | .local _ .vmem, ⟨7, _⟩ => ⟨S352x1024, .f32⟩
  | .local _ .vmem, ⟨8, _⟩ => ⟨S352x1024, .f32⟩
  | .local _ .vmem, ⟨9, _⟩ => ⟨S352x1024, .f32⟩
  | .local _ .vmem, ⟨10, _⟩ => ⟨S352x1024, .f32⟩
  | .local _ .vmem, ⟨11, _⟩ => ⟨S352x1024, .f32⟩
  | .local _ .vmem, ⟨12, _⟩ => ⟨S352x1024, .f32⟩
  | .local _ .vmem, ⟨13, _⟩ => ⟨S352x1024, .f32⟩
  | .local _ .vmem, ⟨14, _⟩ => ⟨S352x1024, .f32⟩
  | .local _ .vmem, ⟨15, _⟩ => ⟨S352x1024, .f32⟩
  | _, _ => ⟨S1x704x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev main_v4_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S352x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S352x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S352x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S352x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S352x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S352x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S352x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S352x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamwRefIdeal.lean ====
abbrev S1x704x1024 : Shape := ⟨3, ![1, 704, 1024]⟩
abbrev S_ : Shape := ⟨0, ![]⟩
abbrev S704x1024 : Shape := ⟨2, ![704, 1024]⟩

abbrev nBuf : Space → Nat
  | .hbm => 41
  | .vmem => 0
  | .smem => 0
  | _ => 0

abbrev bufTy : (tb : Table) → Fin (tcTables nBuf tb) → BufTy
  | .hbm, ⟨0, _⟩ => ⟨S1x704x1024, .f32⟩
  | .hbm, ⟨1, _⟩ => ⟨S1x704x1024, .f32⟩
  | .hbm, ⟨2, _⟩ => ⟨S1x704x1024, .f32⟩
  | .hbm, ⟨3, _⟩ => ⟨S1x704x1024, .f32⟩
  | .hbm, ⟨4, _⟩ => ⟨S_, .f32⟩
  | .hbm, ⟨5, _⟩ => ⟨S1x704x1024, .f32⟩
  | .hbm, ⟨6, _⟩ => ⟨S1x704x1024, .f32⟩
  | .hbm, ⟨7, _⟩ => ⟨S_, .f32⟩
  | .hbm, ⟨8, _⟩ => ⟨S1x704x1024, .f32⟩
  | .hbm, ⟨9, _⟩ => ⟨S1x704x1024, .f32⟩
  | .hbm, ⟨10, _⟩ => ⟨S1x704x1024, .f32⟩
  | .hbm, ⟨11, _⟩ => ⟨S_, .f32⟩
  | .hbm, ⟨12, _⟩ => ⟨S1x704x1024, .f32⟩
  | .hbm, ⟨13, _⟩ => ⟨S1x704x1024, .f32⟩
  | .hbm, ⟨14, _⟩ => ⟨S1x704x1024, .f32⟩
  | .hbm, ⟨15, _⟩ => ⟨S_, .f32⟩
  | .hbm, ⟨16, _⟩ => ⟨S1x704x1024, .f32⟩
  | .hbm, ⟨17, _⟩ => ⟨S1x704x1024, .f32⟩
  | .hbm, ⟨18, _⟩ => ⟨S1x704x1024, .f32⟩
  | .hbm, ⟨19, _⟩ => ⟨S_, .f32⟩
  | .hbm, ⟨20, _⟩ => ⟨S1x704x1024, .f32⟩
  | .hbm, ⟨21, _⟩ => ⟨S1x704x1024, .f32⟩
  | .hbm, ⟨22, _⟩ => ⟨S_, .f32⟩
  | .hbm, ⟨23, _⟩ => ⟨S1x704x1024, .f32⟩
  | .hbm, ⟨24, _⟩ => ⟨S1x704x1024, .f32⟩
  | .hbm, ⟨25, _⟩ => ⟨S1x704x1024, .f32⟩
  | .hbm, ⟨26, _⟩ => ⟨S_, .f32⟩
  | .hbm, ⟨27, _⟩ => ⟨S1x704x1024, .f32⟩
  | .hbm, ⟨28, _⟩ => ⟨S1x704x1024, .f32⟩
  | .hbm, ⟨29, _⟩ => ⟨S1x704x1024, .f32⟩
  | .hbm, ⟨30, _⟩ => ⟨S_, .f32⟩
  | .hbm, ⟨31, _⟩ => ⟨S1x704x1024, .f32⟩
  | .hbm, ⟨32, _⟩ => ⟨S1x704x1024, .f32⟩
  | .hbm, ⟨33, _⟩ => ⟨S1x704x1024, .f32⟩
  | .hbm, ⟨34, _⟩ => ⟨S_, .f32⟩
  | .hbm, ⟨35, _⟩ => ⟨S1x704x1024, .f32⟩
  | .hbm, ⟨36, _⟩ => ⟨S1x704x1024, .f32⟩
  | .hbm, ⟨37, _⟩ => ⟨S704x1024, .f32⟩
  | .hbm, ⟨38, _⟩ => ⟨S704x1024, .f32⟩
  | .hbm, ⟨39, _⟩ => ⟨S704x1024, .f32⟩
  | .hbm, ⟨40, _⟩ => ⟨S704x1024, .f32⟩
  | _, _ => ⟨S1x704x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩

abbrev nD : Nat := 1
abbrev τ : Topo := Topo.v7x

variable {F : FTy → Type} [FloatOps F]
-- ==== AddPartials.lean ====
abbrev S704x512 : Shape := ⟨2, ![704, 512]⟩
abbrev S3x704x512 : Shape := ⟨3, ![3, 704, 512]⟩
abbrev S_ : Shape := ⟨0, ![]⟩
abbrev S2 : Shape := ⟨1, ![2]⟩
abbrev S8x128 : Shape := ⟨2, ![8, 128]⟩
abbrev S704x1024 : Shape := ⟨2, ![704, 1024]⟩
abbrev S352x512 : Shape := ⟨2, ![352, 512]⟩
abbrev S3x352x512 : Shape := ⟨3, ![3, 352, 512]⟩
abbrev S1 : Shape := ⟨1, ![1]⟩
abbrev S1x352x512 : Shape := ⟨3, ![1, 352, 512]⟩

abbrev nBuf : Space → Nat
  | .hbm => 8
  | .vmem => 7
  | .smem => 1
  | _ => 0

abbrev bufTy : (tb : Table) → Fin (tcTables nBuf tb) → BufTy
  | .hbm, ⟨0, _⟩ => ⟨S704x512, .f32⟩
  | .hbm, ⟨1, _⟩ => ⟨S3x704x512, .f32⟩
  | .hbm, ⟨2, _⟩ => ⟨S3x704x512, .bf16⟩
  | .hbm, ⟨3, _⟩ => ⟨S_, .i32⟩
  | .hbm, ⟨4, _⟩ => ⟨S_, .f32⟩
  | .hbm, ⟨5, _⟩ => ⟨S8x128, .f32⟩
  | .hbm, ⟨6, _⟩ => ⟨S704x1024, .f32⟩
  | .hbm, ⟨7, _⟩ => ⟨S704x512, .f32⟩
  | .local _ .vmem, ⟨0, _⟩ => ⟨S352x512, .f32⟩
  | .local _ .vmem, ⟨1, _⟩ => ⟨S352x512, .f32⟩
  | .local _ .vmem, ⟨2, _⟩ => ⟨S3x352x512, .bf16⟩
  | .local _ .vmem, ⟨3, _⟩ => ⟨S3x352x512, .bf16⟩
  | .local _ .vmem, ⟨4, _⟩ => ⟨S8x128, .f32⟩
  | .local _ .vmem, ⟨5, _⟩ => ⟨S352x512, .f32⟩
  | .local _ .vmem, ⟨6, _⟩ => ⟨S352x512, .f32⟩
  | .local _ .smem, ⟨0, _⟩ => ⟨S2, .i32⟩
  | _, _ => ⟨S704x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v1 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![2], ![false]⟩

abbrev pre0 : Pipeline.Prefetch sig := ⟨1, ![main_v1.idx], fun | 0 => main_v1.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (inb_S2_S1_1 : ∀ a, (![1] : Fin 1 → Nat) a + S1.size a ≤ S2.size a) (numel1_S1 : S1.numel = 1) (pf : pre0.Contents (Elt F)) (i : grid0.Coords) : Fin 2 → Nat :=
  let arg0 : BitVec 32 := BitVec.ofNat 32 (i 0).val
  let c1 : Index := 1#32
  let v0 : BitVec 32 := pf.at 0 (Rect.unit (s := S2) ![1] S1.size inb_S2_S1_1) numel1_S1
  let c0_i32 : BitVec 32 := 0#32
  ![arg0.toNat, v0.toNat]

abbrev stage0_0 : Fin 2 → Memref sig .tc .vmem S352x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S3x352x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S8x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S352x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== AddPartialsRefIdeal.lean ====
abbrev S704x512 : Shape := ⟨2, ![704, 512]⟩
abbrev S3x704x512 : Shape := ⟨3, ![3, 704, 512]⟩
abbrev S_ : Shape := ⟨0, ![]⟩

abbrev nBuf : Space → Nat
  | .hbm => 5
  | .vmem => 0
  | .smem => 0
  | _ => 0

abbrev bufTy : (tb : Table) → Fin (tcTables nBuf tb) → BufTy
  | .hbm, ⟨0, _⟩ => ⟨S704x512, .f32⟩
  | .hbm, ⟨1, _⟩ => ⟨S3x704x512, .f32⟩
  | .hbm, ⟨2, _⟩ => ⟨S_, .f32⟩
  | .hbm, ⟨3, _⟩ => ⟨S704x512, .f32⟩
  | .hbm, ⟨4, _⟩ => ⟨S704x512, .f32⟩
  | _, _ => ⟨S704x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== Proof.RealFacts.lean ====
/-
  EXTENDED REALS THAT ARE REALS: what every value proof of this certificate uses to leave the extended reals. An array
  whose entries pass the finiteness test of the preconditions is the coercion of its real parts (`real_of_test`), sums of
  coerced reals are the coerced sum (`coe_sum`), and the constants of the programs are the reals they spell. Over the
  reals stands the RMSNorm of one row (`rms`, `nrm`) and the identity between the two spellings of its gradient
  (`rms_grad`): the kernels' `r · (d − x̂ · mean (d · x̂))` and the derivative that differentiating the forward line gives.
-/
module

public import Idealize.ShloMosaic.Lib.Pointwise
public import Idealize.ShloMosaic.Lib.IdealHost
public import Idealize.ShloMosaic.PureOps.Ideal.Laws

@[expose] public section

noncomputable section

namespace Cert.RealFacts

open Idealize.ShloMosaic
open scoped BigOperators

/-- A sum of coerced reals is the coerced sum. -/
theorem coe_sum {ι : Type*} (s : Finset ι) (f : ι → ℝ) : (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

/-- The pattern of the infinity that the preconditions compare with. -/
theorem ofBits_inf : Ideal.ofBits .f32 0x7F800000#32 = ⊤ := by
  simp [Ideal.ofBits, Ideal.ieee]

theorem ofBits_1024 : Ideal.ofBits .f32 0x44800000#32 = ((1024 : ℝ) : EReal) := by
  simp [Ideal.ofBits, Ideal.ieee, -EReal.coe_mul]; norm_num

theorem ofBits_neg_half : Ideal.ofBits .f32 0xBF000000#32 = ((-(1 / 2) : ℝ) : EReal) := by
  simp [Ideal.ofBits, Ideal.ieee, -EReal.coe_mul, -EReal.coe_neg]; norm_num

/-- The real the programs' `1e-6` denotes. -/
def eps : ℝ := 8796093 * (2 : ℝ) ^ (-43 : ℤ)

theorem eps_pos : 0 < eps := by unfold eps; positivity

theorem ofBits_eps : Ideal.ofBits .f32 0x358637BD#32 = ((eps : ℝ) : EReal) := by
  simp [Ideal.ofBits, Ideal.ieee, -EReal.coe_mul, eps]

/-- An extended real whose absolute value is below the infinity is a real. -/
theorem real_of_abs_lt {x : EReal} (h : Ideal.cmp .olt (max x (-x)) ⊤ = 1#1) : x = ((x.toReal : ℝ) : EReal) := by
  have h' : max x (-x) < ⊤ := by
    by_contra hn
    simp [Ideal.cmp, hn] at h
  refine (EReal.coe_toReal ?_ ?_).symm
  · rintro rfl; simp at h'
  · rintro rfl; simp at h'

/-- An array that passes the preconditions' finiteness test is an array of reals. -/
theorem real_of_test {s : Shape} (a : FVec Ideal s .f32) (hb : (⟨0, ![]⟩ : Shape).BroadcastsInDim s ![])
    (h : cmpf .olt (Host.absf a) (broadcastInDim s ![] hb (constant (F := Ideal) ⟨0, ![]⟩ .f32 0x7F800000#32)) = fun _ => 1#1) :
    ∃ A : s.Idx → ℝ, a = fun i => ((A i : ℝ) : EReal) := by
  refine ⟨fun i => (a i : EReal).toReal, funext fun i => real_of_abs_lt ?_⟩
  have e := congrFun h i
  rw [← ofBits_inf]
  exact e

/-- A host sum into an index that only one source index drops to. -/
theorem hostReduceAdd_unique {s t : Shape} {axes : List (Fin s.rank)} (h : s.ReducesTo axes t) (x : s.Idx → EReal) (init : EReal) (j : t.Idx)
    (i : s.Idx) (hi : ∀ k, h.drop k = j ↔ k = i) : Ideal.hostReduceAdd h x init j = init + x i := by
  unfold Ideal.hostReduceAdd
  rw [show (Finset.univ.filter fun k => h.drop k = j) = {i} from Finset.ext fun k => by simp [hi], Finset.sum_singleton]

/-- A host sum over the outer unit axes of a column. -/
theorem hostReduceAdd_mid {n : ℕ} (h : (⟨3, ![1, n, 1]⟩ : Shape).ReducesTo [0, 2] ⟨1, ![n]⟩) (x : (⟨3, ![1, n, 1]⟩ : Shape).Idx → EReal) (init : EReal)
    (r : Fin n) : Ideal.hostReduceAdd h x init (ix1 r) = init + x (ix3 0 r 0) := by
  refine hostReduceAdd_unique h x init _ _ fun k => ?_
  have hv : (h.drop k 0 : Nat) = k 1 := Shape.ReducesTo.drop_apply_val h k 0
  obtain ⟨k0, k1, k2, rfl⟩ : ∃ k0 k1 k2, k = ix3 k0 k1 k2 := ⟨_, _, _, eq_ix3 k⟩
  obtain rfl : k0 = 0 := Subsingleton.elim _ _
  obtain rfl : k2 = 0 := Subsingleton.elim _ _
  constructor
  · intro e
    have e' := congrArg (fun j : (⟨1, ![n]⟩ : Shape).Idx => (j 0 : Nat)) e
    obtain rfl : k1 = r := Fin.ext (hv.symm.trans e')
    rfl
  · intro e
    have e' := congrArg (fun j : (⟨3, ![1, n, 1]⟩ : Shape).Idx => (j 1 : Nat)) e
    obtain rfl : k1 = r := Fin.ext e'
    funext b
    obtain rfl : b = 0 := Subsingleton.elim _ _
    exact Fin.ext hv

/-- A host sum over the two leading unit axes of a row. -/
theorem hostReduceAdd_last {n : ℕ} (h : (⟨3, ![1, 1, n]⟩ : Shape).ReducesTo [0, 1] ⟨1, ![n]⟩) (x : (⟨3, ![1, 1, n]⟩ : Shape).Idx → EReal) (init : EReal)
    (r : Fin n) : Ideal.hostReduceAdd h x init (ix1 r) = init + x (ix3 0 0 r) := by
  refine hostReduceAdd_unique h x init _ _ fun k => ?_
  have hv : (h.drop k 0 : Nat) = k 2 := Shape.ReducesTo.drop_apply_val h k 0
  obtain ⟨k0, k1, k2, rfl⟩ : ∃ k0 k1 k2, k = ix3 k0 k1 k2 := ⟨_, _, _, eq_ix3 k⟩
  obtain rfl : k0 = 0 := Subsingleton.elim _ _
  obtain rfl : k1 = 0 := Subsingleton.elim _ _
  constructor
  · intro e
    have e' := congrArg (fun j : (⟨1, ![n]⟩ : Shape).Idx => (j 0 : Nat)) e
    obtain rfl : k2 = r := Fin.ext (hv.symm.trans e')
    rfl
  · intro e
    have e' := congrArg (fun j : (⟨3, ![1, 1, n]⟩ : Shape).Idx => (j 2 : Nat)) e
    obtain rfl : k2 = r := Fin.ext e'
    funext b
    obtain rfl : b = 0 := Subsingleton.elim _ _
    exact Fin.ext hv

/-- The mean of squares of a row, plus the programs' epsilon. -/
def msq {n : ℕ} (x : Fin n → ℝ) : ℝ := (∑ k, x k * x k) / 1024 + eps

theorem msq_pos {n : ℕ} (x : Fin n → ℝ) : 0 < msq x := by
  unfold msq
  have h : 0 ≤ ∑ k, x k * x k := Finset.sum_nonneg fun k _ => mul_self_nonneg _
  have := eps_pos
  positivity

/-- The reciprocal root mean square of a row. -/
def rms {n : ℕ} (x : Fin n → ℝ) : ℝ := (Real.sqrt (msq x))⁻¹

/-- The reciprocal root of the mean of squares, as the programs compute it, is the real `rms`. -/
theorem rsqrt_msq {n : ℕ} (x : Fin n → ℝ) : Ideal.rsqrt ((msq x : ℝ) : EReal) = ((rms x : ℝ) : EReal) := by
  rw [Ideal.rsqrt_coe, if_neg (not_lt.mpr (msq_pos x).le), if_neg (msq_pos x).ne']
  rfl

theorem rms_sq {n : ℕ} (x : Fin n → ℝ) : rms x * rms x = (msq x)⁻¹ := by
  unfold rms
  rw [← mul_inv, Real.mul_self_sqrt (msq_pos x).le]

/-- Division of a real by a real that is not zero. -/
theorem div_real (a : ℝ) {b : ℝ} (hb : b ≠ 0) : Ideal.div (a : EReal) (b : EReal) = ((a / b : ℝ) : EReal) := by
  rw [Ideal.div_coe hb, ← EReal.coe_mul]; congr 1; ring

/-- The mean of squares plus epsilon, on any row. -/
def msqE {n : ℕ} (x : Fin n → EReal) : EReal := Ideal.div (∑ k, x k * x k) ((1024 : ℝ) : EReal) + ((eps : ℝ) : EReal)

/-- The reciprocal root mean square, on any row. -/
def rmsE {n : ℕ} (x : Fin n → EReal) : EReal := Ideal.rsqrt (msqE x)

theorem msqE_coe {n : ℕ} (x : Fin n → ℝ) : msqE (fun k => ((x k : ℝ) : EReal)) = ((msq x : ℝ) : EReal) := by
  simp only [msqE, ← EReal.coe_mul, coe_sum, div_real _ (by norm_num : (1024 : ℝ) ≠ 0), ← EReal.coe_add]
  rfl

theorem rmsE_coe {n : ℕ} (x : Fin n → ℝ) : rmsE (fun k => ((x k : ℝ) : EReal)) = ((rms x : ℝ) : EReal) := by
  unfold rmsE; rw [msqE_coe, rsqrt_msq]

theorem mul_self_nonneg' (a : EReal) : 0 ≤ a * a := by
  induction a with
  | bot => simp
  | top => simp
  | coe a => rw [← EReal.coe_mul]; exact_mod_cast mul_self_nonneg a

/-- A row holds reals, or its mean of squares is infinite. -/
theorem row_cases {n : ℕ} (x : Fin n → EReal) : (∃ X : Fin n → ℝ, x = fun k => ((X k : ℝ) : EReal)) ∨ msqE x = ⊤ := by
  by_cases h : ∀ k, x k ≠ ⊤ ∧ x k ≠ ⊥
  · exact .inl ⟨fun k => (x k).toReal, funext fun k => (EReal.coe_toReal (h k).1 (h k).2).symm⟩
  · right
    push Not at h
    obtain ⟨k, hk⟩ := h
    have e : x k * x k = ⊤ := by
      by_cases h1 : x k = ⊤
      · rw [h1]; simp
      · rw [hk h1]; simp
    have h2 : ∑ k, x k * x k = ⊤ := by
      refine top_le_iff.mp ?_
      rw [← e]
      exact Finset.single_le_sum (f := fun k => x k * x k) (fun i _ => mul_self_nonneg' _) (Finset.mem_univ k)
    unfold msqE
    rw [h2, Ideal.div_coe (by norm_num : (1024 : ℝ) ≠ 0), EReal.top_mul_coe_of_pos (by norm_num), EReal.top_add_coe]

/-- A positive real factor comes out of a sum of extended reals. -/
theorem sum_mul_pos {ι : Type*} (s : Finset ι) (f : ι → EReal) {r : ℝ} (hr : 0 ≤ r) : (∑ k ∈ s, f k * (r : EReal)) = (∑ k ∈ s, f k) * (r : EReal) := by
  classical
  induction s using Finset.induction_on with
  | empty => simp
  | insert a s ha ih =>
    rw [Finset.sum_insert ha, Finset.sum_insert ha, ih, mul_comm, mul_comm _ (r : EReal), mul_comm _ (r : EReal),
      EReal.left_distrib_of_nonneg_of_ne_top (by exact_mod_cast hr) (EReal.coe_ne_top r)]

theorem add_self (a : EReal) : a + a = a * ((2 : ℝ) : EReal) := by
  induction a with
  | bot => rw [EReal.bot_mul_coe_of_pos (by norm_num)]; rfl
  | top => rw [EReal.top_mul_coe_of_pos (by norm_num)]; rfl
  | coe a => rw [← EReal.coe_add, ← EReal.coe_mul, mul_two]

/-- One row's gradient through the normalization, `d` the gradient that arrives at the normalized row. -/
def rmsGrad {n : ℕ} (x d : Fin n → EReal) (j : Fin n) : EReal :=
  rmsE x * (d j - x j * rmsE x * Ideal.div (∑ k, d k * (x k * rmsE x)) ((1024 : ℝ) : EReal))

/-- The derivative of the mean of squares' reciprocal root, times the gradient that arrives there. -/
def rmsSlope {n : ℕ} (x d : Fin n → EReal) : EReal :=
  Ideal.div ((∑ k, x k * d k) * (((-(1 / 2) : ℝ) : EReal) * Ideal.div (rmsE x) (msqE x))) ((1024 : ℝ) : EReal)

/-- What differentiating the forward line gives, in its own order, is the same number: on any row, infinite or not. -/
theorem rms_grad {n : ℕ} (x d : Fin n → EReal) (j : Fin n) :
    d j * rmsE x + (x j * rmsSlope x d + rmsSlope x d * x j) = rmsGrad x d j := by
  unfold rmsGrad rmsSlope
  rcases row_cases x with ⟨X, rfl⟩ | h
  · rw [rmsE_coe, msqE_coe]
    have hr : 0 ≤ rms X := by unfold rms; positivity
    have e : (∑ k, d k * (((X k : ℝ) : EReal) * ((rms X : ℝ) : EReal))) = (∑ k, ((X k : ℝ) : EReal) * d k) * ((rms X : ℝ) : EReal) := by
      rw [← sum_mul_pos _ _ hr]; exact Finset.sum_congr rfl fun k _ => by rw [mul_comm ((X k : ℝ) : EReal) (d k), mul_assoc]
    rw [e]
    generalize ∑ k, ((X k : ℝ) : EReal) * d k = T
    simp only [Ideal.div_coe (by norm_num : (1024 : ℝ) ≠ 0), Ideal.div_coe (msq_pos X).ne']
    rw [sub_eq_add_neg, EReal.left_distrib_of_nonneg_of_ne_top (by exact_mod_cast hr) (EReal.coe_ne_top _), mul_comm (d j)]
    congr 1
    have e2 : ((X j : ℝ) : EReal) * (T * (((-(1 / 2) : ℝ) : EReal) * (((rms X : ℝ) : EReal) * ((1 / msq X : ℝ) : EReal))) * ((1 / (1024 : ℝ) : ℝ) : EReal))
        = T * ((X j * (-(1 / 2) * (rms X * (1 / msq X))) * (1 / 1024) : ℝ) : EReal) := by
      simp only [EReal.coe_mul]; ac_rfl
    have e3 : ((rms X : ℝ) : EReal) * -(((X j : ℝ) : EReal) * ((rms X : ℝ) : EReal) * (T * ((rms X : ℝ) : EReal) * ((1 / (1024 : ℝ) : ℝ) : EReal)))
        = T * ((-(rms X * X j * rms X * rms X * (1 / 1024)) : ℝ) : EReal) := by
      rw [EReal.coe_neg, mul_comm, EReal.neg_mul, mul_comm T (-_), EReal.neg_mul]; congr 1; simp only [EReal.coe_mul]; ac_rfl
    rw [mul_comm (T * _ * _) ((X j : ℝ) : EReal), e2, e3, add_self, mul_assoc, ← EReal.coe_mul]
    congr 2
    rw [mul_assoc (rms X * X j), rms_sq]; ring
  · have h0 : rmsE x = 0 := by unfold rmsE; rw [h]; rfl
    rw [h0, h]
    simp [Ideal.div]

end Cert.RealFacts

end
-- ==== Proof.InprojDxBody.lean ====
/-
  THE BODY OF THE INPUT PROJECTION'S GRADIENT, ENTRY BY ENTRY: what each payload of the kernel computes from the
  blocks it reads.
-/
module

public import proofs.«01_k».proof.Proof.RealFacts
public import proofs.«01_k».proof.Proof.Gen.InprojDxIdeal.Value
public import Idealize.ShloMosaic.Lib.Pipeline.ValueKit

@[expose] public section

set_option maxRecDepth 16384

noncomputable section

namespace Cert.InprojDxIdeal.Body

open Cert.InprojDxIdeal Cert.InprojDxIdeal.Gen Idealize.ShloMosaic Idealize.ShloMosaic.TcCoe Idealize.SL.Sem
open Cert.RealFacts
open scoped BigOperators

variable (x : FVec Ideal S512x1024 .f32)

/-- The reciprocal root mean square of each row of the block. -/
theorem rms_at (r : Fin 512) : k0_pay5 (F := Ideal) x (ix2 r 0) = rmsE fun k => x (ix2 r k) := by
  pointwise [k0_pay5, k0_pay4]
  simp only [ofBits_1024, ofBits_eps]
  rfl

theorem xh_at (r : Fin 512) (k : Fin 1024) : k0_pay6 (F := Ideal) x (ix2 r k) = x (ix2 r k) * rmsE fun k => x (ix2 r k) := by
  pointwise [k0_pay6, k0_pay4]
  rw [rms_at]

/-- The three partial products of the gradient at the normalized row. -/
theorem dh_at (a : FVec Ideal S512x1536 .bf16) (wa : FVec Ideal S1536x1024 .bf16) (b : FVec Ideal S512x1024 .bf16)
    (wb : FVec Ideal S1024x1024 .bf16) (e : FVec Ideal S512x128 .bf16) (we : FVec Ideal S128x1024 .bf16) (r : Fin 512) (j : Fin 1024) :
    k0_pay7 (F := Ideal) a wa b wb e we (ix2 r j)
      = ((∑ k : Fin 1536, a (ix2 r k) * wa (ix2 k j)) + ∑ k : Fin 1024, b (ix2 r k) * wb (ix2 k j)) + ∑ k : Fin 128, e (ix2 r k) * we (ix2 k j) := by
  pointwise [k0_pay7]

/-- The gradient of the gain that one block adds. -/
theorem dg_at (xh dh : FVec Ideal S512x1024 .f32) (acc : FVec Ideal S1x1024 .f32) (j : Fin 1024) :
    k0_pay1 (F := Ideal) xh dh acc (ix2 0 j) = acc (ix2 0 j) + ∑ r : Fin 512, dh (ix2 r j) * xh (ix2 r j) := by
  pointwise [k0_pay1]

/-- The gradient of one row through its normalization, added to the gradient that arrives beside it. -/
theorem dx_at (dh : FVec Ideal S512x1024 .f32) (d1 : FVec Ideal S512x1024 .f32) (g : FVec Ideal S1x1024 .f32) (r : Fin 512) (j : Fin 1024) :
    k0_pay2 (F := Ideal) (k0_pay5 x) (k0_pay6 x) dh d1 g (ix2 r j)
      = d1 (ix2 r j) + rmsGrad (fun k => x (ix2 r k)) (fun k => dh (ix2 r k) * g (ix2 0 k)) j := by
  pointwise [k0_pay2]
  simp only [rms_at, xh_at, ofBits_1024]
  rfl

end Cert.InprojDxIdeal.Body

end
-- ==== Proof.InprojDxMath.lean ====
/-
  THE INPUT PROJECTION'S GRADIENT OVER THE EXTENDED REALS: the function that both programs are shown to compute, and the sum over
  the 2592 columns of the projection cut into the column ranges that the kernel keeps apart.
-/
module

public import proofs.«01_k».proof.Proof.RealFacts

@[expose] public section

noncomputable section

namespace Cert.InprojDxMath

open Idealize.ShloMosaic Cert.RealFacts
open scoped BigOperators

/-- The gradient at the normalized row `r`. -/
def dh (w : Fin 1024 → Fin 2592 → EReal) (p : Fin 8192 → Fin 2592 → EReal) (r : Fin 8192) (j : Fin 1024) : EReal := ∑ k, p r k * w j k

/-- The gradient of the input through the norm. -/
def dx (x : Fin 8192 → Fin 1024 → EReal) (g : Fin 1024 → EReal) (w : Fin 1024 → Fin 2592 → EReal) (p : Fin 8192 → Fin 2592 → EReal)
    (r : Fin 8192) (j : Fin 1024) : EReal := rmsGrad (x r) (fun k => dh w p r k * g k) j

/-- The gradient of the gain. -/
def dg (x : Fin 8192 → Fin 1024 → EReal) (w : Fin 1024 → Fin 2592 → EReal) (p : Fin 8192 → Fin 2592 → EReal) (j : Fin 1024) : EReal :=
  ∑ r, dh w p r j * (x r j * rmsE (x r))

/-- The columns in the kernel's order: the first 1536, the last 1024, the 32 between, and 96 columns of zeros. -/
theorem sum_cols (f : Fin 2592 → EReal) (f' : Fin 128 → EReal) (h : ∀ k : Fin 128, f' k = if hk : k.val < 32 then f ⟨1536 + k.val, by omega⟩ else 0) :
    (∑ k : Fin 1536, f ⟨k.val, by omega⟩) + (∑ k : Fin 1024, f ⟨1568 + k.val, by omega⟩) + ∑ k : Fin 128, f' k = ∑ k, f k := by
  have e : ∑ k : Fin 128, f' k = ∑ k : Fin 32, f ⟨1536 + k.val, by omega⟩ := by
    rw [Fin.sum_univ_two_halves 32 96 rfl f']
    rw [Finset.sum_congr rfl fun (k : Fin 32) _ => (h _).trans (dif_pos k.isLt),
      Finset.sum_eq_zero fun (k : Fin 96) _ => (h _).trans (dif_neg (by dsimp only; omega)), add_zero]
  rw [e, Fin.sum_univ_two_halves 1536 1056 rfl f, Fin.sum_univ_two_halves 32 1024 rfl (fun k : Fin 1056 => f ⟨1536 + k.val, by omega⟩)]
  dsimp only
  simp only [← Nat.add_assoc, Nat.reduceAdd]
  ac_rfl

end Cert.InprojDxMath

end
-- ==== Proof.InprojDxValue.lean ====
/-
  THE INPUT PROJECTION'S GRADIENT, THE KERNEL'S ARRAYS: where the arguments hold `X`, `G`, `W`, `D`, `P`, the first
  result holds `D` plus `Cert.InprojDxMath.dx` and the second `Cert.InprojDxMath.dg`, summed over the tiles of rows.
-/
module

public import proofs.«01_k».proof.Proof.RealFacts
public import proofs.«01_k».proof.Proof.InprojDxBody
public import proofs.«01_k».proof.Proof.InprojDxMath

@[expose] public section

set_option maxRecDepth 16384

noncomputable section

namespace Cert.InprojDxIdeal.Body

open Cert.InprojDxIdeal Cert.InprojDxIdeal.Gen Idealize.ShloMosaic Idealize.ShloMosaic.TcCoe Idealize.SL.Sem
open Cert.RealFacts Cert.InprojDxMath
open scoped BigOperators

variable (m : (ℓ : Loc nD τ sig) → Buf (Elt Ideal) ℓ)

/-- The block each window holds at a grid point. -/
theorem idx : ∀ t : Fin cfg0.N, win0_0.index t = ![t.val, 0] ∧ win0_1.index t = ![t.val, 0] ∧ win0_2.index t = ![0, 0]
    ∧ win0_3.index t = ![0, 0] ∧ win0_4.index t = ![t.val, 0] ∧ win0_6.index t = ![t.val, 0] ∧ win0_7.index t = ![0, 0] :=
  (by decide +kernel : ∀ t : Fin grid0.N, _)

/-- Row `r` of the tile at point `t`. -/
def row (t : Fin cfg0.N) (r : Fin 512) : Fin 8192 := ⟨t.val * 512 + r.val, by have := t.isLt; have : cfg0.N = 16 := N_0; omega⟩

theorem x_blk (c : Dev nD) (t : Fin cfg0.N) (r : Fin 512) (k : Fin 1024) :
    (show FVec Ideal S512x1024 .f32 from iblk m c 0 t) (ix2 r k) = m ((c : Thread nD τ).loc main_arg0) (ix3 0 (row t r) k) := by
  unfold row; blk_simp [iblk, idx t]; entry_read; pointwise; blk_ext [idx t]

theorem d1_blk (c : Dev nD) (t : Fin cfg0.N) (r : Fin 512) (k : Fin 1024) :
    (show FVec Ideal S512x1024 .f32 from iblk m c 1 t) (ix2 r k) = m ((c : Thread nD τ).loc main_arg3) (ix3 0 (row t r) k) := by
  unfold row; blk_simp [iblk, idx t]; entry_read; pointwise; blk_ext [idx t]

theorem g_blk (c : Dev nD) (t : Fin cfg0.N) (k : Fin 1024) :
    (show FVec Ideal S1x1024 .f32 from iblk m c 2 t) (ix2 0 k) = m ((c : Thread nD τ).loc main_arg1) (ix2 0 k) := by
  blk_simp [iblk, idx t]; entry_read; blk_ext [idx t]

theorem w_blk (c : Dev nD) (t : Fin cfg0.N) (r : Fin 2592) (k : Fin 1024) :
    (show FVec Ideal S2592x1024 .bf16 from iblk m c 3 t) (ix2 r k) = m ((c : Thread nD τ).loc main_arg2) (ix3 0 k r) := by
  blk_simp [iblk, idx t]; entry_read; pointwise; blk_ext [idx t]

set_option maxHeartbeats 4000000 in
/-- The incoming gradient's columns as the host lines lay them out. -/
theorem p_all (c : Dev nD) (r : Fin 8192) (k : Fin 2688) :
    (show FVec Ideal S8192x2688 .bf16 from V m c main_v6) (ix2 r k) =
      if h : k.val < 1536 then m ((c : Thread nD τ).loc main_arg4) (ix3 0 r ⟨k.val, by omega⟩)
      else if h : k.val < 2560 then m ((c : Thread nD τ).loc main_arg4) (ix3 0 r ⟨1568 + (k.val - 1536), by omega⟩)
      else if h : k.val < 2592 then m ((c : Thread nD τ).loc main_arg4) (ix3 0 r ⟨1536 + (k.val - 2560), by omega⟩) else (0 : EReal) := by
  unfold V hostOps0
  simp only [Idealize.ShloMosaic.StableHlo.after_cons, Idealize.ShloMosaic.StableHlo.after_nil]
  after_results_simp
  pointwise
  after_results_simp
  pointwise
  refine dite_congr rfl (fun _ => rfl) fun h1 => ?_
  refine dite_congr (by apply propext; omega) (fun _ => rfl) fun h2 => ?_
  refine dite_congr (by apply propext; omega) (fun _ => ?_) fun h3 => rfl
  have : k.val - 1536 - 1024 = k.val - 2560 := by omega
  simp only [this]

theorem p_blk (c : Dev nD) (t : Fin cfg0.N) (r : Fin 512) (k : Fin 2688) :
    (show FVec Ideal S512x2688 .bf16 from iblk m c 4 t) (ix2 r k) = (show FVec Ideal S8192x2688 .bf16 from V m c main_v6) (ix2 (row t r) k) := by
  unfold row; blk_ext [iblk, idx t]

variable {m} {c : Dev nD} {X : Fin 8192 → Fin 1024 → EReal} {G : Fin 1024 → EReal} {W : Fin 1024 → Fin 2592 → EReal} {P : Fin 8192 → Fin 2592 → EReal}
variable {D : Fin 8192 → Fin 1024 → EReal}
variable (hx : ∀ r k, m ((c : Thread nD τ).loc main_arg0) (ix3 0 r k) = X r k)
variable (hg : ∀ k, m ((c : Thread nD τ).loc main_arg1) (ix2 0 k) = G k)
variable (hw : ∀ j k, m ((c : Thread nD τ).loc main_arg2) (ix3 0 j k) = W j k)
variable (hd : ∀ r k, m ((c : Thread nD τ).loc main_arg3) (ix3 0 r k) = D r k)
variable (hp : ∀ r k, m ((c : Thread nD τ).loc main_arg4) (ix3 0 r k) = P r k)

/-- The three partial products, read off the blocks the kernel loads, are one sum over the columns. -/
theorem dh_ld (p : FVec Ideal S512x2688 .bf16) (w : FVec Ideal S2592x1024 .bf16) (f : Fin 2592 → EReal) (u : Fin 2592 → EReal) (r : Fin 512) (j : Fin 1024)
    (hw : ∀ k, w (ix2 k j) = u k)
    (hp : ∀ k : Fin 2688, p (ix2 r k) = if h : k.val < 1536 then f ⟨k.val, by omega⟩
      else if h : k.val < 2560 then f ⟨1568 + (k.val - 1536), by omega⟩
      else if h : k.val < 2592 then f ⟨1536 + (k.val - 2560), by omega⟩ else (0 : EReal)) :
    k0_pay7 (F := Ideal) (View.ld (Val := Elt Ideal) (S := S512x2688) (e' := .bf16) p (Rect.unit ![0, 0] ![512, 1536] (by decide)))
      (View.ld (Val := Elt Ideal) (S := S2592x1024) (e' := .bf16) w (Rect.unit ![0, 0] ![1536, 1024] (by decide)))
      (View.ld (Val := Elt Ideal) (S := S512x2688) (e' := .bf16) p (Rect.unit ![0, 1536] ![512, 1024] (by decide)))
      (View.ld (Val := Elt Ideal) (S := S2592x1024) (e' := .bf16) w (Rect.unit ![1568, 0] ![1024, 1024] (by decide)))
      (View.ld (Val := Elt Ideal) (S := S512x2688) (e' := .bf16) p (Rect.unit ![0, 2560] ![512, 128] (by decide)))
      (View.ld (Val := Elt Ideal) (S := S2592x1024) (e' := .bf16) w (Rect.unit ![1536, 0] ![128, 1024] (by decide))) (ix2 r j)
      = ∑ k, f k * u k := by
  rw [dh_at]
  pointwise
  rw [← sum_cols (fun k => f k * u k) (fun k => if h : k.val < 32 then f ⟨1536 + k.val, by omega⟩ * u ⟨1536 + k.val, by omega⟩ else 0) fun k => rfl]
  congr 1
  · congr 1
    · refine Finset.sum_congr rfl fun k _ => ?_
      rw [hp, hw, dif_pos k.isLt]
    · refine Finset.sum_congr rfl fun k _ => ?_
      rw [hp, hw, dif_neg (by dsimp only; omega), dif_pos (by dsimp only; omega)]
      simp only [Nat.add_sub_cancel_left]
  · refine Finset.sum_congr rfl fun k _ => ?_
    rw [hp, hw, dif_neg (by dsimp only; omega), dif_neg (by dsimp only; omega)]
    by_cases h : k.val < 32
    · rw [dif_pos (by dsimp only; omega), dif_pos h]
      simp only [Nat.add_sub_cancel_left]
    · rw [dif_neg (by dsimp only; omega), dif_neg h, zero_mul]

include hw hp in
/-- The tile's gradient at the normalized rows. -/
theorem dh_blk (t : Fin cfg0.N) (r : Fin 512) (j : Fin 1024) :
    k0_pay7 (F := Ideal) (View.ld (Val := Elt Ideal) (S := S512x2688) (e' := .bf16) (iblk m c 4 t) (Rect.unit ![0, 0] ![512, 1536] (by decide)))
      (View.ld (Val := Elt Ideal) (S := S2592x1024) (e' := .bf16) (iblk m c 3 t) (Rect.unit ![0, 0] ![1536, 1024] (by decide)))
      (View.ld (Val := Elt Ideal) (S := S512x2688) (e' := .bf16) (iblk m c 4 t) (Rect.unit ![0, 1536] ![512, 1024] (by decide)))
      (View.ld (Val := Elt Ideal) (S := S2592x1024) (e' := .bf16) (iblk m c 3 t) (Rect.unit ![1568, 0] ![1024, 1024] (by decide)))
      (View.ld (Val := Elt Ideal) (S := S512x2688) (e' := .bf16) (iblk m c 4 t) (Rect.unit ![0, 2560] ![512, 128] (by decide)))
      (View.ld (Val := Elt Ideal) (S := S2592x1024) (e' := .bf16) (iblk m c 3 t) (Rect.unit ![1536, 0] ![128, 1024] (by decide))) (ix2 r j)
      = dh W P (row t r) j := by
  refine dh_ld _ _ (P (row t r)) (W j) r j (fun k => (w_blk m c t k j).trans (hw j k)) fun k => ?_
  refine (p_blk m c t r k).trans ((p_all m c (row t r) k).trans ?_)
  simp only [hp]

include hx hg hw hp hd in
/-- The first result: the gradient that arrives beside, plus the gradient through the norm. -/
theorem final6 : (dats m 0 c).arrAt 6 cfg0.N
    = (show FVec Ideal S8192x1024 .f32 from fun i => D (i 0) (i 1) + dx X G W P (i 0) (i 1)) := by
  refine (dats m 0 c).arrAt_eq_of_covers 6 _ (by decide +kernel) fun t hf y => ?_
  blk_simp
  rw [after0_6]
  idx_vars y
  have e : (win0_6.blk t).view.emb (ix2 y0 y1) = ix2 (row t y0) y1 := by unfold row; blk_ext [idx t]
  have h : k0_pay2 (F := Ideal) (k0_pay5 (iblk m c 0 t)) (k0_pay6 (iblk m c 0 t)) _ (iblk m c 1 t) (iblk m c 2 t) (ix2 y0 y1) = _ :=
    (dx_at _ _ _ _ y0 y1).trans (congrArg₂ (· + ·) ((d1_blk m c t y0 y1).trans (hd _ _)) (congrArg₂ (fun a b => rmsGrad a b y1)
      (funext fun k => (x_blk m c t y0 k).trans (hx _ k)) (funext fun k => congrArg₂ (· * ·) (dh_blk hw hp t y0 k) ((g_blk m c t k).trans (hg k)))))
  refine Eq.trans ?_ (congrArg (fun i : S8192x1024.Idx => D (i 0) (i 1) + dx X G W P (i 0) (i 1)) e.symm)
  by_cases h0 : t.val % 16 = 0
  · rw [outsAt0_A m c t h0]; frame_out
    exact h
  · rw [outsAt0_B m c t h0]; frame_out
    exact h

/-- The part of the gain's gradient that one tile adds. -/
def part (X : Fin 8192 → Fin 1024 → EReal) (W : Fin 1024 → Fin 2592 → EReal) (P : Fin 8192 → Fin 2592 → EReal) (t : Fin cfg0.N) (i : S1x1024.Idx) : EReal :=
  ∑ r : Fin 512, dh W P (row t r) (i 1) * (X (row t r) (i 1) * rmsE (X (row t r)))

include hx hw hp in
theorem dg_blk (t : Fin cfg0.N) (acc : FVec Ideal S1x1024 .f32) (i : S1x1024.Idx) :
    k0_pay1 (F := Ideal) (k0_pay6 (iblk m c 0 t)) (k0_pay7 (View.ld (Val := Elt Ideal) (S := S512x2688) (e' := .bf16) (iblk m c 4 t) (Rect.unit ![0, 0] ![512, 1536] (by decide)))
      (View.ld (Val := Elt Ideal) (S := S2592x1024) (e' := .bf16) (iblk m c 3 t) (Rect.unit ![0, 0] ![1536, 1024] (by decide)))
      (View.ld (Val := Elt Ideal) (S := S512x2688) (e' := .bf16) (iblk m c 4 t) (Rect.unit ![0, 1536] ![512, 1024] (by decide)))
      (View.ld (Val := Elt Ideal) (S := S2592x1024) (e' := .bf16) (iblk m c 3 t) (Rect.unit ![1568, 0] ![1024, 1024] (by decide)))
      (View.ld (Val := Elt Ideal) (S := S512x2688) (e' := .bf16) (iblk m c 4 t) (Rect.unit ![0, 2560] ![512, 128] (by decide)))
      (View.ld (Val := Elt Ideal) (S := S2592x1024) (e' := .bf16) (iblk m c 3 t) (Rect.unit ![1536, 0] ![128, 1024] (by decide)))) acc i
      = acc i + part X W P t i := by
  idx_vars i
  obtain rfl : i0 = 0 := Subsingleton.elim _ _
  rw [dg_at]
  refine congrArg (acc (ix2 0 i1) + ·) (Finset.sum_congr rfl fun r _ => ?_)
  rw [dh_blk hw hp t r i1, xh_at]
  refine congrArg (dh W P (row t r) i1 * ·) ?_
  exact congrArg₂ (· * ·) ((x_blk m c t r i1).trans (hx _ i1)) (congrArg rmsE (funext fun k => (x_blk m c t r k).trans (hx _ k)))

theorem pay8 (a : FVec Ideal S1x1024 .f32) : k0_pay8 (F := Ideal) a = a := by
  funext j; idx_vars j; pointwise [k0_pay8]

theorem hzero (j) : k0_pay3 (F := Ideal) j = 0 := by pointwise [k0_pay3]

include hx hw hp in
/-- The second result: the gain's gradient, summed over the tiles. -/
theorem final7 : (dats m 0 c).arrAt 7 cfg0.N = (show FVec Ideal S1x1024 .f32 from fun i => dg X W P (i 1)) := by
  refine (dats m 0 c).arrAt_eq_of_covers 7 _ (by decide +kernel) fun t hf y => ?_
  blk_simp
  rw [after0_7, Pipeline.eq_sum_fin_of_reset_step_apply_of_flush (fun n h => (outsAt0 m c n h).2) 16 (fun _ => 0) (part X W P)
    (fun t h j => by rw [outsAt0_A m c t h]; frame_out; rw [dg_blk hx hw hp, pay8, hzero])
    (fun t h j => by rw [outsAt0_B m c t h]; frame_out; rw [dg_blk hx hw hp, pay8])
    t ((flush0_7 t).mp hf) _, zero_add]
  idx_vars y
  have e : ((win0_7.blk t).view.emb (ix2 y0 y1)) = ix2 y0 y1 := by blk_ext [idx t]
  refine Eq.trans ?_ (congrArg (fun i : S1x1024.Idx => dg X W P (i 1)) e.symm)
  have ht : t.val < 16 := lt_of_lt_of_eq t.isLt N_0
  have key : (∑ s : Fin 16, part X W P ⟨16 * (t.val / 16) + s.val, Pipeline.run_point_lt_of_flush t ((flush0_7 t).mp hf) s⟩ (ix2 y0 y1)) = dg X W P y1 := by
    unfold part dg
    rw [Fin.sum_univ_tiles 16 512 rfl]
    refine Finset.sum_congr rfl fun s _ => Finset.sum_congr rfl fun r _ => ?_
    have er : row ⟨16 * (t.val / 16) + s.val, Pipeline.run_point_lt_of_flush t ((flush0_7 t).mp hf) s⟩ r = ⟨s.val * 512 + r.val, by omega⟩ := by
      unfold row; apply Fin.ext; dsimp only; omega
    rw [er]
    rfl
  exact key

end Cert.InprojDxIdeal.Body

end
-- ==== Proof.InprojDxRef.lean ====
/-
  THE INPUT PROJECTION'S GRADIENT, THE REFERENCE'S ARRAYS: differentiating the forward lines gives the same two
  arrays the kernel leaves.
-/
module

public import proofs.«01_k».proof.Proof.RealFacts
public import proofs.«01_k».proof.Proof.InprojDxMath
public import proofs.«01_k».proof.Proof.Gen.InprojDxRefIdeal.Read
public import Idealize.ShloMosaic.Lib.Pipeline.ValueKit

@[expose] public section

set_option maxRecDepth 16384

noncomputable section

namespace Cert.InprojDxRefIdeal.Ref

open Cert.InprojDxRefIdeal Cert.InprojDxRefIdeal.Read Idealize.ShloMosaic Idealize.ShloMosaic.TcCoe Idealize.SL.Sem
open Cert.RealFacts Cert.InprojDxMath
open scoped BigOperators

variable {x0 : FVec Ideal S1x8192x1024 .f32} {x1 : FVec Ideal S1x1024 .f32} {x2 : FVec Ideal S1x1024x2592 .f32} {x3 : FVec Ideal S1x8192x1024 .f32}
variable {x4 : FVec Ideal S1x8192x2592 .f32}
variable {X : Fin 8192 → Fin 1024 → EReal} {G : Fin 1024 → EReal} {W : Fin 1024 → Fin 2592 → EReal} {P : Fin 8192 → Fin 2592 → EReal} {D : Fin 8192 → Fin 1024 → EReal}
variable (hx : ∀ r k, x0 (ix3 0 r k) = X r k)
variable (hg : ∀ k, x1 (ix2 0 k) = G k)
variable (hw : ∀ j k, x2 (ix3 0 j k) = W j k)
variable (hd : ∀ r k, x3 (ix3 0 r k) = D r k)
variable (hp : ∀ r k, x4 (ix3 0 r k) = P r k)

include hx in
/-- The mean of squares of each row plus epsilon. -/
theorem v7_at (r : Fin 8192) : val_main_v7 (F := Ideal) x0 (ix3 0 r 0) = msqE (X r) := by
  pointwise [val_main_v7, val_main_v5, val_main_v6, val_main_cst_1, val_main_v4, val_main_cst_0, val_main_v3, val_main_v2, val_main_cst, val_main_v1]
  simp only [hx, ofBits_1024, ofBits_eps, zero_add]
  rfl

include hx in
/-- Its reciprocal square root. -/
theorem v8_at (r : Fin 8192) : val_main_v8 (F := Ideal) x0 (ix3 0 r 0) = rmsE (X r) := by
  pointwise [val_main_v8]
  rw [v7_at hx]
  rfl

include hw hp in
/-- The gradient at the normalized rows. -/
theorem v19_at (r : Fin 8192) (j : Fin 1024) : val_main_v19 (F := Ideal) x2 x4 (ix3 0 r j) = dh W P r j := by
  pointwise [val_main_v19, val_main_v17]
  simp only [hp, hw]
  rfl

include hg hw hp in
/-- Times the gain. -/
theorem v24_at (r : Fin 8192) (j : Fin 1024) : val_main_v24 (F := Ideal) x1 x2 x4 (ix3 0 r j) = dh W P r j * G j := by
  pointwise [val_main_v24, val_main_v23, val_main_v14, val_main_v0]
  rw [v19_at hw hp, hg]

include hx hg hw hp in
/-- The part of the gradient that goes through the mean of squares, one number per row. -/
theorem v35_at (r : Fin 8192) : val_main_v35 (F := Ideal) x0 x1 x2 x4 (ix1 r) = rmsSlope (X r) fun k => dh W P r k * G k := by
  pointwise [val_main_v35, val_main_cst_7, val_main_v34, val_main_v33, val_main_cst_6, val_main_v32, val_main_v28, val_main_v27, val_main_cst_5, val_main_v26, val_main_v11, val_main_v10, val_main_cst_2, val_main_v9]
  rw [hostReduceAdd_mid]
  pointwise
  simp only [hx, v24_at hg hw hp, v8_at hx, v7_at hx, ofBits_1024, ofBits_neg_half, zero_add]
  rfl

include hx hg hw hp hd in
theorem dx_at : val_main_v43 (F := Ideal) x0 x1 x2 x3 x4 = fun i => D (i 0) (i 1) + dx X G W P (i 0) (i 1) := by
  funext i
  idx_vars i
  pointwise [val_main_v43, val_main_v41, val_main_v40, val_main_v39, val_main_v38, val_main_v37, val_main_v36, val_main_v31, val_main_v30, val_main_v29]
  rw [v24_at hg hw hp, v8_at hx, v35_at hx hg hw hp, hx, hd, add_assoc, add_assoc, rms_grad (X i0) (fun k => dh W P i0 k * G k) i1]
  rfl

include hx hw hp in
theorem dg_at : val_main_v42 (F := Ideal) x0 x2 x4 = fun i => dg X W P (i 1) := by
  funext i
  idx_vars i
  pointwise [val_main_v42, val_main_v25, val_main_cst_4, val_main_v22, val_main_v21, val_main_cst_3, val_main_v20, val_main_v13, val_main_v12]
  rw [hostReduceAdd_last]
  pointwise
  simp only [hx, v19_at hw hp, v8_at hx, zero_add]
  exact Finset.sum_congr rfl fun r _ => mul_comm _ _

end Cert.InprojDxRefIdeal.Ref

end
-- ==== Proof.InprojDxClaim.lean ====
/-
  THE CLAIMS ABOUT THE INPUT PROJECTION'S GRADIENT, one theorem each.
-/
module

public import proofs.«01_k».proof.Defs
public import proofs.«01_k».proof.Proof.InprojDxValue
public import proofs.«01_k».proof.Proof.InprojDxRef
public import proofs.«01_k».proof.Proof.Gen.InprojDx.Frame
public import proofs.«01_k».proof.Proof.Gen.InprojDxIdeal.Frame
public import Idealize.ShloMosaic.Lib.Quiescent

@[expose] public section

noncomputable section

namespace Cert.InprojDxClaim

open Idealize.ShloMosaic Idealize.SL.Sem
open Cert.RealFacts Cert.InprojDxMath

theorem frame_ref : Cert.quiescent_InprojDxRefIdeal := fun m ρ _ => (θ_run (Cert.InprojDxRefIdeal.defs (F := Ideal)) _ _).mono
  (fun r h => ⟨fun c => (h c).2.2, Idealize.ShloMosaic.sem_eq_zero_of_no_sems (by decide) r.2⟩) (Cert.InprojDxRefIdeal.Value.run (F := Ideal) m ρ)

/-- Both programs leave the same two arrays, whatever the arguments hold. -/
theorem algebraic : Cert.algebraic_InprojDxIdeal_InprojDxRefIdeal := by
  intro m g m' g' _ hag
  refine ⟨fun c => (Cert.InprojDxIdeal.Gen.dats m 0 c).arrAt 6 Cert.InprojDxIdeal.cfg0.N, fun c => (Cert.InprojDxIdeal.Gen.dats m 0 c).arrAt 7 Cert.InprojDxIdeal.cfg0.N,
    Cert.InprojDxIdeal.Value.run_blocks (F := Ideal) m g, ?_⟩
  refine (θ_run _ _ _).mono (fun r h c => ?_) (Cert.InprojDxRefIdeal.Value.run (F := Ideal) m' g')
  obtain ⟨e0, e1, e2, e3, e4⟩ := hag c
  refine ⟨(h c).1.trans ?_, (h c).2.1.trans ?_, (h c).2.2⟩
  · rw [Cert.InprojDxRefIdeal.Read.val_main_v43_eq, e0, e1, e2, e3, e4]
    exact (Cert.InprojDxRefIdeal.Ref.dx_at (fun _ _ => rfl) (fun _ => rfl) (fun _ _ => rfl) (fun _ _ => rfl) (fun _ _ => rfl)).trans
      (Cert.InprojDxIdeal.Body.final6 (fun _ _ => rfl) (fun _ => rfl) (fun _ _ => rfl) (fun _ _ => rfl) (fun _ _ => rfl)).symm
  · rw [Cert.InprojDxRefIdeal.Read.val_main_v42_eq, e0, e2, e4]
    exact (Cert.InprojDxRefIdeal.Ref.dg_at (fun _ _ => rfl) (fun _ _ => rfl) (fun _ _ => rfl)).trans
      (Cert.InprojDxIdeal.Body.final7 (fun _ _ => rfl) (fun _ _ => rfl) (fun _ _ => rfl)).symm

end Cert.InprojDxClaim

end
-- ==== Proof.GateFacts.lean ====
/-
  THE SWISH GATE OVER THE EXTENDED REALS: the logistic function as the programs write it, and the two spellings of the gate's gradient.
-/
module

public import proofs.«01_k».proof.Proof.RealFacts

@[expose] public section

noncomputable section

namespace Cert.RealFacts

open Idealize.ShloMosaic
open scoped BigOperators

/-- The logistic function of a real. -/
def sig (a : ℝ) : ℝ := (1 + Real.exp (-a))⁻¹

/-- The logistic function as the programs write it. -/
def sigE (a : EReal) : EReal := Ideal.div 1 (1 + Ideal.exp (-a))

theorem sigE_coe (a : ℝ) : sigE (a : EReal) = ((sig a : ℝ) : EReal) := by
  unfold sigE sig
  have h : (1 + Real.exp (-a)) ≠ 0 := by positivity
  rw [← EReal.coe_neg, Ideal.exp_coe, ← EReal.coe_one, ← EReal.coe_add, div_real _ h, one_div]

/-- The gate's gradient, factored as the kernels write it, is the product rule's sum. -/
theorem swish_grad (t a : ℝ) :
    (t : EReal) * sigE (a : EReal) + (a : EReal) * (t : EReal) * (sigE (a : EReal) * (1 - sigE (a : EReal)))
      = (t : EReal) * (sigE (a : EReal) * (1 + (a : EReal) * (1 - sigE (a : EReal)))) := by
  rw [sigE_coe, ← EReal.coe_one]
  simp only [← EReal.coe_sub, ← EReal.coe_mul, ← EReal.coe_add]
  congr 1; ring

/-- A row times its reciprocal root mean square holds reals, whatever the row holds. -/
theorem nrm_real {n : ℕ} (x : Fin n → EReal) : ∃ Y : Fin n → ℝ, ∀ k, x k * rmsE x = ((Y k : ℝ) : EReal) := by
  rcases row_cases x with ⟨X, rfl⟩ | h
  · exact ⟨fun k => X k * rms X, fun k => by rw [rmsE_coe, EReal.coe_mul]⟩
  · have h0 : rmsE x = 0 := by unfold rmsE; rw [h]; rfl
    exact ⟨fun _ => 0, fun k => by rw [h0, mul_zero, EReal.coe_zero]⟩

end Cert.RealFacts

end
-- ==== Proof.FfnBwdBody.lean ====
/-
  THE BODY OF THE FEED-FORWARD BLOCK'S GRADIENT, ENTRY BY ENTRY: what each payload of the kernel computes from the
  blocks it reads.
-/
module

public import proofs.«01_k».proof.Proof.GateFacts
public import proofs.«01_k».proof.Proof.Gen.FfnBwdIdeal.Value
public import Idealize.ShloMosaic.Lib.Pipeline.ValueKit

@[expose] public section

set_option maxRecDepth 16384

noncomputable section

namespace Cert.FfnBwdIdeal.Body

open Cert.FfnBwdIdeal Cert.FfnBwdIdeal.Gen Idealize.ShloMosaic Idealize.ShloMosaic.TcCoe Idealize.SL.Sem
open Cert.RealFacts
open scoped BigOperators

/-- The gradient at the gated product. -/
theorem dact_at (d : FVec Ideal S256x1024 .f32) (wd : FVec Ideal S2816x1024 .bf16) (r : Fin 256) (j : Fin 2816) :
    k0_pay3 (F := Ideal) d wd (ix2 r j) = ∑ k : Fin 1024, d (ix2 r k) * wd (ix2 j k) := by
  pointwise [k0_pay3, k0_pay2]

/-- The logistic function of the gate. -/
theorem sig_at (g : FVec Ideal S256x2816 .f32) (r : Fin 256) (j : Fin 2816) : k0_pay5 (F := Ideal) g (ix2 r j) = sigE (g (ix2 r j)) := by
  pointwise [k0_pay5, k0_pay4]
  rw [sub_eq_add_neg, zero_add]
  rfl

/-- The gradient at the gate. -/
theorem dgate_at (d : FVec Ideal S256x1024 .f32) (wd : FVec Ideal S2816x1024 .bf16) (g u : FVec Ideal S256x2816 .f32) (r : Fin 256) (j : Fin 2816) :
    k0_pay6 (F := Ideal) d wd g u (ix2 r j) = (∑ k : Fin 1024, d (ix2 r k) * wd (ix2 j k)) * u (ix2 r j)
      * (sigE (g (ix2 r j)) * (1 + g (ix2 r j) * (1 - sigE (g (ix2 r j))))) := by
  pointwise [k0_pay6, k0_pay4]
  rw [dact_at, sig_at]

/-- The gradient at the other factor. -/
theorem dup_at (d : FVec Ideal S256x1024 .f32) (wd : FVec Ideal S2816x1024 .bf16) (g : FVec Ideal S256x2816 .f32) (r : Fin 256) (j : Fin 2816) :
    k0_pay7 (F := Ideal) d wd g (ix2 r j) = (∑ k : Fin 1024, d (ix2 r k) * wd (ix2 j k)) * (g (ix2 r j) * sigE (g (ix2 r j))) := by
  pointwise [k0_pay7, k0_pay4]
  rw [dact_at, sig_at]

/-- The gradient at the normalized row times the gain. -/
theorem dh_at (dg du : FVec Ideal S256x2816 .bf16) (wg wu : FVec Ideal S2816x1024 .bf16) (r : Fin 256) (k : Fin 1024) :
    k0_pay8 (F := Ideal) dg du wg wu (ix2 r k)
      = (∑ j : Fin 2816, dg (ix2 r j) * wg (ix2 j k)) + ∑ j : Fin 2816, du (ix2 r j) * wu (ix2 j k) := by
  pointwise [k0_pay8]

/-- The reciprocal root mean square of each row of the block. -/
theorem rms_at (x : FVec Ideal S256x1024 .f32) (r : Fin 256) : k0_pay10 (F := Ideal) x (ix2 r 0) = rmsE fun k => x (ix2 r k) := by
  pointwise [k0_pay10, k0_pay9]
  simp only [ofBits_1024, ofBits_eps]
  rfl

theorem xh_at (x : FVec Ideal S256x1024 .f32) (r : Fin 256) (k : Fin 1024) :
    k0_pay11 (F := Ideal) x (ix2 r k) = x (ix2 r k) * rmsE fun k => x (ix2 r k) := by
  pointwise [k0_pay11, k0_pay9]
  rw [rms_at]

/-- The gradient of the gain that one block adds. -/
theorem dg_at (dg du : FVec Ideal S256x2816 .bf16) (wg wu : FVec Ideal S2816x1024 .bf16) (x : FVec Ideal S256x1024 .f32) (acc : FVec Ideal S1x1024 .f32) (j : Fin 1024) :
    k0_pay12 (F := Ideal) dg du wg wu x acc (ix2 0 j)
      = acc (ix2 0 j) + ∑ r : Fin 256, k0_pay8 (F := Ideal) dg du wg wu (ix2 r j) * (x (ix2 r j) * rmsE fun k => x (ix2 r k)) := by
  pointwise [k0_pay12]
  simp only [xh_at]

/-- The gradient of one row through its normalization, added to the gradient that arrives beside it. -/
theorem dx_at (d : FVec Ideal S256x1024 .f32) (dg du : FVec Ideal S256x2816 .bf16) (wg wu : FVec Ideal S2816x1024 .bf16) (x : FVec Ideal S256x1024 .f32)
    (g : FVec Ideal S1x1024 .f32) (r : Fin 256) (j : Fin 1024) :
    k0_pay13 (F := Ideal) (k0_pay2 d) dg du wg wu x g (ix2 r j)
      = d (ix2 r j) + rmsGrad (fun k => x (ix2 r k)) (fun k => k0_pay8 (F := Ideal) dg du wg wu (ix2 r k) * g (ix2 0 k)) j := by
  pointwise [k0_pay13, k0_pay2]
  simp only [rms_at, xh_at, ofBits_1024]
  rfl

end Cert.FfnBwdIdeal.Body

end
-- ==== Proof.FfnBwdMath.lean ====
/-
  THE FEED-FORWARD BLOCK'S GRADIENT OVER THE EXTENDED REALS: the functions that both programs are shown to compute. `X` are the rows,
  `G` the norm's gain, `U` and `W` the weights of the gate and of the other factor, `V` the weights back to the rows and `D` the gradient that arrives.
-/
module

public import proofs.«01_k».proof.Proof.GateFacts

@[expose] public section

noncomputable section

namespace Cert.FfnBwdMath

open Idealize.ShloMosaic Cert.RealFacts
open scoped BigOperators

/-- A normalized row times the gain, projected. -/
def proj (X : Fin 8192 → Fin 1024 → EReal) (G : Fin 1024 → EReal) (W : Fin 1024 → Fin 2816 → EReal) (r : Fin 8192) (j : Fin 2816) : EReal :=
  ∑ k, X r k * rmsE (X r) * G k * W k j

/-- The gradient at the gated product. -/
def dact (D : Fin 8192 → Fin 1024 → EReal) (V : Fin 2816 → Fin 1024 → EReal) (r : Fin 8192) (j : Fin 2816) : EReal := ∑ k, D r k * V j k

/-- The gradient at the gate. -/
def dgate (X : Fin 8192 → Fin 1024 → EReal) (G : Fin 1024 → EReal) (U W : Fin 1024 → Fin 2816 → EReal) (V : Fin 2816 → Fin 1024 → EReal)
    (D : Fin 8192 → Fin 1024 → EReal) (r : Fin 8192) (j : Fin 2816) : EReal :=
  dact D V r j * proj X G W r j * (sigE (proj X G U r j) * (1 + proj X G U r j * (1 - sigE (proj X G U r j))))

/-- The gradient at the other factor. -/
def dup (X : Fin 8192 → Fin 1024 → EReal) (G : Fin 1024 → EReal) (U : Fin 1024 → Fin 2816 → EReal) (V : Fin 2816 → Fin 1024 → EReal)
    (D : Fin 8192 → Fin 1024 → EReal) (r : Fin 8192) (j : Fin 2816) : EReal := dact D V r j * (proj X G U r j * sigE (proj X G U r j))

/-- The gradient at the normalized row times the gain. -/
def dh (X : Fin 8192 → Fin 1024 → EReal) (G : Fin 1024 → EReal) (U W : Fin 1024 → Fin 2816 → EReal) (V : Fin 2816 → Fin 1024 → EReal)
    (D : Fin 8192 → Fin 1024 → EReal) (r : Fin 8192) (k : Fin 1024) : EReal :=
  (∑ j, dgate X G U W V D r j * U k j) + ∑ j, dup X G U V D r j * W k j

/-- The gradient at the rows. -/
def dx (X : Fin 8192 → Fin 1024 → EReal) (G : Fin 1024 → EReal) (U W : Fin 1024 → Fin 2816 → EReal) (V : Fin 2816 → Fin 1024 → EReal)
    (D : Fin 8192 → Fin 1024 → EReal) (r : Fin 8192) (k : Fin 1024) : EReal := D r k + rmsGrad (X r) (fun k => dh X G U W V D r k * G k) k

/-- The gradient at the gain. -/
def dg (X : Fin 8192 → Fin 1024 → EReal) (G : Fin 1024 → EReal) (U W : Fin 1024 → Fin 2816 → EReal) (V : Fin 2816 → Fin 1024 → EReal)
    (D : Fin 8192 → Fin 1024 → EReal) (k : Fin 1024) : EReal := ∑ r, dh X G U W V D r k * (X r k * rmsE (X r))

/-- Where gain and weights are reals, the projections are reals. -/
theorem proj_real (X : Fin 8192 → Fin 1024 → EReal) (G : Fin 1024 → ℝ) (W : Fin 1024 → Fin 2816 → ℝ) (r : Fin 8192) (j : Fin 2816) :
    ∃ p : ℝ, proj X (fun k => ((G k : ℝ) : EReal)) (fun k j => ((W k j : ℝ) : EReal)) r j = ((p : ℝ) : EReal) := by
  obtain ⟨Y, hY⟩ := nrm_real (X r)
  refine ⟨∑ k, Y k * G k * W k j, ?_⟩
  simp only [proj, hY, ← EReal.coe_mul, coe_sum]

/-- The gate's gradient as the product rule gives it. -/
theorem gate_rule (X : Fin 8192 → Fin 1024 → EReal) (G : Fin 1024 → ℝ) (U W : Fin 1024 → Fin 2816 → ℝ) (V : Fin 2816 → Fin 1024 → ℝ) (D : Fin 8192 → Fin 1024 → ℝ)
    (r : Fin 8192) (j : Fin 2816) (G' : Fin 1024 → EReal) (U' W' : Fin 1024 → Fin 2816 → EReal) (V' : Fin 2816 → Fin 1024 → EReal) (D' : Fin 8192 → Fin 1024 → EReal)
    (hG : G' = fun k => ((G k : ℝ) : EReal)) (hU : U' = fun k j => ((U k j : ℝ) : EReal)) (hW : W' = fun k j => ((W k j : ℝ) : EReal))
    (hV : V' = fun k j => ((V k j : ℝ) : EReal)) (hD : D' = fun k j => ((D k j : ℝ) : EReal)) :
    dact D' V' r j * proj X G' W' r j * sigE (proj X G' U' r j)
      + proj X G' U' r j * (dact D' V' r j * proj X G' W' r j) * (sigE (proj X G' U' r j) * (1 - sigE (proj X G' U' r j)))
      = dgate X G' U' W' V' D' r j := by
  subst hG hU hW hV hD
  unfold dgate
  obtain ⟨p, hp⟩ := proj_real X G U r j
  obtain ⟨q, hq⟩ := proj_real X G W r j
  have hd : dact (fun k j => ((D k j : ℝ) : EReal)) (fun k j => ((V k j : ℝ) : EReal)) r j = ((∑ k, D r k * V j k : ℝ) : EReal) := by
    simp only [dact, ← EReal.coe_mul, coe_sum]
  rw [hp, hq, hd, ← EReal.coe_mul]
  exact swish_grad _ _

end Cert.FfnBwdMath

end
-- ==== Proof.FfnBwdValue.lean ====
/-
  THE FEED-FORWARD BLOCK'S GRADIENT, THE KERNEL'S ARRAYS: where the arguments hold `X`, `G`, `U`, `W`, `V`, `D`, the four
  results hold the functions of `Cert.FfnBwdMath`.
-/
module

public import proofs.«01_k».proof.Proof.FfnBwdBody
public import proofs.«01_k».proof.Proof.FfnBwdMath

@[expose] public section

set_option maxRecDepth 16384

noncomputable section

namespace Cert.FfnBwdIdeal.Body

open Cert.FfnBwdIdeal Cert.FfnBwdIdeal.Gen Idealize.ShloMosaic Idealize.ShloMosaic.TcCoe Idealize.SL.Sem
open Cert.RealFacts Cert.FfnBwdMath
open scoped BigOperators

variable (m : (ℓ : Loc nD τ sig) → Buf (Elt Ideal) ℓ)

/-- The block each window holds at a grid point. -/
theorem idx : ∀ t : Fin cfg0.N, win0_0.index t = ![t.val, 0] ∧ win0_1.index t = ![t.val, 0] ∧ win0_2.index t = ![t.val, 0]
    ∧ win0_3.index t = ![t.val, 0] ∧ win0_4.index t = ![0, 0] ∧ win0_5.index t = ![0, 0] ∧ win0_6.index t = ![0, 0] ∧ win0_7.index t = ![0, 0]
    ∧ win0_8.index t = ![t.val, 0] ∧ win0_9.index t = ![t.val, 0] ∧ win0_10.index t = ![t.val, 0] ∧ win0_11.index t = ![0, 0] :=
  (by decide +kernel : ∀ t : Fin grid0.N, _)

/-- Row `r` of the tile at point `t`. -/
def row (t : Fin cfg0.N) (r : Fin 256) : Fin 8192 := ⟨t.val * 256 + r.val, by have := t.isLt; have : cfg0.N = 32 := N_0; omega⟩

theorem d_blk (c : Dev nD) (t : Fin cfg0.N) (r : Fin 256) (k : Fin 1024) :
    (show FVec Ideal S256x1024 .f32 from iblk m c 0 t) (ix2 r k) = m ((c : Thread nD τ).loc main_arg5) (ix3 0 (row t r) k) := by
  unfold row; blk_simp [iblk, idx t]; entry_read; pointwise; blk_ext [idx t]

theorem x_blk (c : Dev nD) (t : Fin cfg0.N) (r : Fin 256) (k : Fin 1024) :
    (show FVec Ideal S256x1024 .f32 from iblk m c 3 t) (ix2 r k) = m ((c : Thread nD τ).loc main_arg0) (ix3 0 (row t r) k) := by
  unfold row; blk_simp [iblk, idx t]; entry_read; pointwise; blk_ext [idx t]

theorem g_blk (c : Dev nD) (t : Fin cfg0.N) (k : Fin 1024) :
    (show FVec Ideal S1x1024 .f32 from iblk m c 4 t) (ix2 0 k) = m ((c : Thread nD τ).loc main_arg1) (ix2 0 k) := by
  blk_simp [iblk, idx t]; entry_read; blk_ext [idx t]

theorem u_blk (c : Dev nD) (t : Fin cfg0.N) (j : Fin 2816) (k : Fin 1024) :
    (show FVec Ideal S2816x1024 .bf16 from iblk m c 5 t) (ix2 j k) = m ((c : Thread nD τ).loc main_arg2) (ix3 0 k j) := by
  blk_simp [iblk, idx t]; entry_read; pointwise; blk_ext [idx t]

theorem w_blk (c : Dev nD) (t : Fin cfg0.N) (j : Fin 2816) (k : Fin 1024) :
    (show FVec Ideal S2816x1024 .bf16 from iblk m c 6 t) (ix2 j k) = m ((c : Thread nD τ).loc main_arg3) (ix3 0 k j) := by
  blk_simp [iblk, idx t]; entry_read; pointwise; blk_ext [idx t]

theorem v_blk (c : Dev nD) (t : Fin cfg0.N) (j : Fin 2816) (k : Fin 1024) :
    (show FVec Ideal S2816x1024 .bf16 from iblk m c 7 t) (ix2 j k) = m ((c : Thread nD τ).loc main_arg4) (ix3 0 j k) := by
  blk_simp [iblk, idx t]; entry_read; pointwise; blk_ext [idx t]

theorem gate_blk (c : Dev nD) (t : Fin cfg0.N) (r : Fin 256) (j : Fin 2816) :
    (show FVec Ideal S256x2816 .f32 from iblk m c 1 t) (ix2 r j) = (show FVec Ideal S8192x2816 .f32 from V m c main_v25) (ix2 (row t r) j) := by
  unfold row; blk_ext [iblk, idx t]

theorem up_blk (c : Dev nD) (t : Fin cfg0.N) (r : Fin 256) (j : Fin 2816) :
    (show FVec Ideal S256x2816 .f32 from iblk m c 2 t) (ix2 r j) = (show FVec Ideal S8192x2816 .f32 from V m c main_v26) (ix2 (row t r) j) := by
  unfold row; blk_ext [iblk, idx t]

variable {m} {c : Dev nD} {X : Fin 8192 → Fin 1024 → EReal} {G : Fin 1024 → EReal} {U W : Fin 1024 → Fin 2816 → EReal} {V : Fin 2816 → Fin 1024 → EReal}
variable {D : Fin 8192 → Fin 1024 → EReal}
variable (hx : ∀ r k, m ((c : Thread nD τ).loc main_arg0) (ix3 0 r k) = X r k)
variable (hg : ∀ k, m ((c : Thread nD τ).loc main_arg1) (ix2 0 k) = G k)
variable (hu : ∀ j k, m ((c : Thread nD τ).loc main_arg2) (ix3 0 j k) = U j k)
variable (hw : ∀ j k, m ((c : Thread nD τ).loc main_arg3) (ix3 0 j k) = W j k)
variable (hv : ∀ j k, m ((c : Thread nD τ).loc main_arg4) (ix3 0 j k) = V j k)
variable (hd : ∀ r k, m ((c : Thread nD τ).loc main_arg5) (ix3 0 r k) = D r k)

include hx hg hu in
set_option maxHeartbeats 4000000 in
/-- The gate as the host's forward lines save it. -/
theorem gate_all (r : Fin 8192) (j : Fin 2816) : (show FVec Ideal S8192x2816 .f32 from Gen.V m c main_v25) (ix2 r j) = proj X G U r j := by
  entry_read
  pointwise
  simp only [hx, hg, hu, ofBits_1024, ofBits_eps, zero_add]
  rfl

include hx hg hw in
set_option maxHeartbeats 4000000 in
/-- The other factor as the host's forward lines save it. -/
theorem up_all (r : Fin 8192) (j : Fin 2816) : (show FVec Ideal S8192x2816 .f32 from Gen.V m c main_v26) (ix2 r j) = proj X G W r j := by
  entry_read
  pointwise
  simp only [hx, hg, hw, ofBits_1024, ofBits_eps, zero_add]
  rfl

include hv hd in
theorem dact_blk (t : Fin cfg0.N) (r : Fin 256) (j : Fin 2816) :
    (∑ k : Fin 1024, (show FVec Ideal S256x1024 .f32 from iblk m c 0 t) (ix2 r k) * (show FVec Ideal S2816x1024 .bf16 from iblk m c 7 t) (ix2 j k))
      = dact D V (row t r) j :=
  Finset.sum_congr rfl fun k _ => congrArg₂ (· * ·) ((d_blk m c t r k).trans (hd _ _)) ((v_blk m c t j k).trans (hv _ _))

include hx hg hu hw hv hd in
theorem dgate_blk (t : Fin cfg0.N) (r : Fin 256) (j : Fin 2816) :
    k0_pay6 (F := Ideal) (iblk m c 0 t) (iblk m c 7 t) (iblk m c 1 t) (iblk m c 2 t) (ix2 r j) = dgate X G U W V D (row t r) j := by
  have hu' := (gate_blk m c t r j).trans (gate_all hx hg hu (row t r) j)
  refine (dgate_at _ _ _ _ r j).trans ?_
  unfold dgate
  exact congrArg₂ (· * ·) (congrArg₂ (· * ·) (dact_blk hv hd t r j) ((up_blk m c t r j).trans (up_all hx hg hw (row t r) j)))
    (congrArg (fun p => sigE p * (1 + p * (1 - sigE p))) hu')

include hx hg hu hv hd in
theorem dup_blk (t : Fin cfg0.N) (r : Fin 256) (j : Fin 2816) :
    k0_pay7 (F := Ideal) (iblk m c 0 t) (iblk m c 7 t) (iblk m c 1 t) (ix2 r j) = dup X G U V D (row t r) j :=
  (dup_at _ _ _ r j).trans (congrArg₂ (· * ·) (dact_blk hv hd t r j)
    (congrArg (fun p => p * sigE p) ((gate_blk m c t r j).trans (gate_all hx hg hu (row t r) j))))

include hx hg hu hw hv hd in
theorem dh_blk (t : Fin cfg0.N) (r : Fin 256) (k : Fin 1024) :
    k0_pay8 (F := Ideal) (k0_pay6 (iblk m c 0 t) (iblk m c 7 t) (iblk m c 1 t) (iblk m c 2 t)) (k0_pay7 (iblk m c 0 t) (iblk m c 7 t) (iblk m c 1 t))
      (iblk m c 5 t) (iblk m c 6 t) (ix2 r k) = dh X G U W V D (row t r) k :=
  (dh_at _ _ _ _ r k).trans (congrArg₂ (· + ·)
    (Finset.sum_congr rfl fun j _ => congrArg₂ (· * ·) (dgate_blk hx hg hu hw hv hd t r j) ((u_blk m c t j k).trans (hu _ _)))
    (Finset.sum_congr rfl fun j _ => congrArg₂ (· * ·) (dup_blk hx hg hu hv hd t r j) ((w_blk m c t j k).trans (hw _ _))))

include hx hg hu hw hv hd in
/-- The first result: the gradient at the gate. -/
theorem final8 : (dats m 0 c).arrAt 8 cfg0.N = (show FVec Ideal S8192x2816 .bf16 from fun i => dgate X G U W V D (i 0) (i 1)) := by
  refine (dats m 0 c).arrAt_eq_of_covers 8 _ (by decide +kernel) fun t hf y => ?_
  blk_simp
  rw [after0_8]
  idx_vars y
  have e : (win0_8.blk t).view.emb (ix2 y0 y1) = ix2 (row t y0) y1 := by unfold row; blk_ext [idx t]
  refine Eq.trans ?_ (congrArg (fun i : S8192x2816.Idx => dgate X G U W V D (i 0) (i 1)) e.symm)
  by_cases h0 : t.val % 32 = 0
  · rw [outsAt0_A m c t h0]; frame_out
    exact dgate_blk hx hg hu hw hv hd t y0 y1
  · rw [outsAt0_B m c t h0]; frame_out
    exact dgate_blk hx hg hu hw hv hd t y0 y1

include hx hg hu hv hd in
/-- The second result: the gradient at the other factor. -/
theorem final9 : (dats m 0 c).arrAt 9 cfg0.N = (show FVec Ideal S8192x2816 .bf16 from fun i => dup X G U V D (i 0) (i 1)) := by
  refine (dats m 0 c).arrAt_eq_of_covers 9 _ (by decide +kernel) fun t hf y => ?_
  blk_simp
  rw [after0_9]
  idx_vars y
  have e : (win0_9.blk t).view.emb (ix2 y0 y1) = ix2 (row t y0) y1 := by unfold row; blk_ext [idx t]
  refine Eq.trans ?_ (congrArg (fun i : S8192x2816.Idx => dup X G U V D (i 0) (i 1)) e.symm)
  by_cases h0 : t.val % 32 = 0
  · rw [outsAt0_A m c t h0]; frame_out
    exact dup_blk hx hg hu hv hd t y0 y1
  · rw [outsAt0_B m c t h0]; frame_out
    exact dup_blk hx hg hu hv hd t y0 y1

include hx hg hu hw hv hd in
/-- The third result: the gradient at the rows. -/
theorem final10 : (dats m 0 c).arrAt 10 cfg0.N = (show FVec Ideal S8192x1024 .f32 from fun i => dx X G U W V D (i 0) (i 1)) := by
  refine (dats m 0 c).arrAt_eq_of_covers 10 _ (by decide +kernel) fun t hf y => ?_
  blk_simp
  rw [after0_10]
  idx_vars y
  have e : (win0_10.blk t).view.emb (ix2 y0 y1) = ix2 (row t y0) y1 := by unfold row; blk_ext [idx t]
  have h : k0_pay13 (F := Ideal) (k0_pay2 (iblk m c 0 t)) (k0_pay6 (iblk m c 0 t) (iblk m c 7 t) (iblk m c 1 t) (iblk m c 2 t))
      (k0_pay7 (iblk m c 0 t) (iblk m c 7 t) (iblk m c 1 t)) (iblk m c 5 t) (iblk m c 6 t) (iblk m c 3 t) (iblk m c 4 t) (ix2 y0 y1) = _ :=
    (dx_at _ _ _ _ _ _ _ y0 y1).trans (congrArg₂ (· + ·) ((d_blk m c t y0 y1).trans (hd _ _)) (congrArg₂ (fun a b => rmsGrad a b y1)
      (funext fun k => (x_blk m c t y0 k).trans (hx _ k))
      (funext fun k => congrArg₂ (· * ·) (dh_blk hx hg hu hw hv hd t y0 k) ((g_blk m c t k).trans (hg k)))))
  refine Eq.trans ?_ (congrArg (fun i : S8192x1024.Idx => dx X G U W V D (i 0) (i 1)) e.symm)
  by_cases h0 : t.val % 32 = 0
  · rw [outsAt0_A m c t h0]; frame_out
    exact h
  · rw [outsAt0_B m c t h0]; frame_out
    exact h

/-- The part of the gain's gradient that one tile adds. -/
def part (X : Fin 8192 → Fin 1024 → EReal) (G : Fin 1024 → EReal) (U W : Fin 1024 → Fin 2816 → EReal) (V : Fin 2816 → Fin 1024 → EReal)
    (D : Fin 8192 → Fin 1024 → EReal) (t : Fin cfg0.N) (i : S1x1024.Idx) : EReal :=
  ∑ r : Fin 256, dh X G U W V D (row t r) (i 1) * (X (row t r) (i 1) * rmsE (X (row t r)))

include hx hg hu hw hv hd in
theorem dg_blk (t : Fin cfg0.N) (acc : FVec Ideal S1x1024 .f32) (i : S1x1024.Idx) :
    k0_pay12 (F := Ideal) (k0_pay6 (iblk m c 0 t) (iblk m c 7 t) (iblk m c 1 t) (iblk m c 2 t)) (k0_pay7 (iblk m c 0 t) (iblk m c 7 t) (iblk m c 1 t))
      (iblk m c 5 t) (iblk m c 6 t) (iblk m c 3 t) acc i = acc i + part X G U W V D t i := by
  idx_vars i
  obtain rfl : i0 = 0 := Subsingleton.elim _ _
  refine (dg_at _ _ _ _ _ _ i1).trans ?_
  refine congrArg (acc (ix2 0 i1) + ·) (Finset.sum_congr rfl fun r _ => ?_)
  exact congrArg₂ (· * ·) (dh_blk hx hg hu hw hv hd t r i1)
    (congrArg₂ (· * ·) ((x_blk m c t r i1).trans (hx _ i1)) (congrArg rmsE (funext fun k => (x_blk m c t r k).trans (hx _ k))))

theorem hzero (j) : k0_pay1 (F := Ideal) j = 0 := by pointwise [k0_pay1]

include hx hg hu hw hv hd in
/-- The fourth result: the gain's gradient, summed over the tiles. -/
theorem final11 : (dats m 0 c).arrAt 11 cfg0.N = (show FVec Ideal S1x1024 .f32 from fun i => dg X G U W V D (i 1)) := by
  refine (dats m 0 c).arrAt_eq_of_covers 11 _ (by decide +kernel) fun t hf y => ?_
  blk_simp
  rw [after0_11, Pipeline.eq_sum_fin_of_reset_step_apply_of_flush (fun n h => (outsAt0 m c n h).2.2.2) 32 (fun _ => 0) (part X G U W V D)
    (fun t h j => by rw [outsAt0_A m c t h]; frame_out; rw [dg_blk hx hg hu hw hv hd, hzero])
    (fun t h j => by rw [outsAt0_B m c t h]; frame_out; rw [dg_blk hx hg hu hw hv hd])
    t ((flush0_11 t).mp hf) _, zero_add]
  idx_vars y
  have e : ((win0_11.blk t).view.emb (ix2 y0 y1)) = ix2 y0 y1 := by blk_ext [idx t]
  refine Eq.trans ?_ (congrArg (fun i : S1x1024.Idx => dg X G U W V D (i 1)) e.symm)
  have ht : t.val < 32 := lt_of_lt_of_eq t.isLt N_0
  have key : (∑ s : Fin 32, part X G U W V D ⟨32 * (t.val / 32) + s.val, Pipeline.run_point_lt_of_flush t ((flush0_11 t).mp hf) s⟩ (ix2 y0 y1))
      = dg X G U W V D y1 := by
    unfold part dg
    rw [Fin.sum_univ_tiles 32 256 rfl]
    refine Finset.sum_congr rfl fun s _ => Finset.sum_congr rfl fun r _ => ?_
    have er : row ⟨32 * (t.val / 32) + s.val, Pipeline.run_point_lt_of_flush t ((flush0_11 t).mp hf) s⟩ r = ⟨s.val * 256 + r.val, by omega⟩ := by
      unfold row; apply Fin.ext; dsimp only; omega
    rw [er]
    rfl
  exact key

end Cert.FfnBwdIdeal.Body

end
-- ==== Proof.FfnBwdRef.lean ====
/-
  THE FEED-FORWARD BLOCK'S GRADIENT, THE REFERENCE'S ARRAYS: differentiating the forward lines gives the same four
  arrays the kernel leaves, where gain, weights and the arriving gradient are reals.
-/
module

public import proofs.«01_k».proof.Proof.FfnBwdMath
public import proofs.«01_k».proof.Proof.Gen.FfnBwdRefIdeal.Read
public import Idealize.ShloMosaic.Lib.Pipeline.ValueKit

@[expose] public section

set_option maxRecDepth 16384

noncomputable section

namespace Cert.FfnBwdRefIdeal.Ref

open Cert.FfnBwdRefIdeal Cert.FfnBwdRefIdeal.Read Idealize.ShloMosaic Idealize.ShloMosaic.TcCoe Idealize.SL.Sem
open Cert.RealFacts Cert.FfnBwdMath
open scoped BigOperators

variable {x0 : FVec Ideal S1x8192x1024 .f32} {x1 : FVec Ideal S1x1024 .f32} {x2 x3 : FVec Ideal S1x1024x2816 .f32} {x4 : FVec Ideal S1x2816x1024 .f32}
variable {x5 : FVec Ideal S1x8192x1024 .f32}
variable {X : Fin 8192 → Fin 1024 → EReal} {G : Fin 1024 → EReal} {U W : Fin 1024 → Fin 2816 → EReal} {V : Fin 2816 → Fin 1024 → EReal} {D : Fin 8192 → Fin 1024 → EReal}
variable {Gr : Fin 1024 → ℝ} {Ur Wr : Fin 1024 → Fin 2816 → ℝ} {Vr : Fin 2816 → Fin 1024 → ℝ} {Dr : Fin 8192 → Fin 1024 → ℝ}
variable (hx : ∀ r k, x0 (ix3 0 r k) = X r k)
variable (hg : ∀ k, x1 (ix2 0 k) = G k)
variable (hu : ∀ j k, x2 (ix3 0 j k) = U j k)
variable (hw : ∀ j k, x3 (ix3 0 j k) = W j k)
variable (hv : ∀ j k, x4 (ix3 0 j k) = V j k)
variable (hd : ∀ r k, x5 (ix3 0 r k) = D r k)
variable (rg : G = fun k => ((Gr k : ℝ) : EReal)) (ru : U = fun k j => ((Ur k j : ℝ) : EReal)) (rw' : W = fun k j => ((Wr k j : ℝ) : EReal))
variable (rv : V = fun k j => ((Vr k j : ℝ) : EReal)) (rd : D = fun k j => ((Dr k j : ℝ) : EReal))

include hx in
/-- The mean of squares of each row plus epsilon. -/
theorem v7_at (r : Fin 8192) : val_main_v7 (F := Ideal) x0 (ix3 0 r 0) = msqE (X r) := by
  pointwise [val_main_v7, val_main_v5, val_main_v6, val_main_cst_1, val_main_v4, val_main_cst_0, val_main_v3, val_main_v2, val_main_cst, val_main_v1]
  simp only [hx, ofBits_1024, ofBits_eps, zero_add]
  rfl

include hx in
/-- Its reciprocal square root. -/
theorem v8_at (r : Fin 8192) : val_main_v8 (F := Ideal) x0 (ix3 0 r 0) = rmsE (X r) := by
  pointwise [val_main_v8]
  rw [v7_at hx]
  rfl

include hx in
theorem v13_at (r : Fin 8192) (k : Fin 1024) : val_main_v13 (F := Ideal) x0 (ix3 0 r k) = X r k * rmsE (X r) := by
  pointwise [val_main_v13, val_main_v12]
  rw [v8_at hx, hx]

include hx hg in
/-- The normalized rows times the gain. -/
theorem v16_at (r : Fin 8192) (k : Fin 1024) : val_main_v16 (F := Ideal) x0 x1 (ix3 0 r k) = X r k * rmsE (X r) * G k := by
  pointwise [val_main_v16, val_main_v15, val_main_v14, val_main_v0]
  rw [v13_at hx, hg]

include hx hg hu in
/-- The gate. -/
theorem v18_at (r : Fin 8192) (j : Fin 2816) : val_main_v18 (F := Ideal) x0 x1 x2 (ix3 0 r j) = proj X G U r j := by
  pointwise [val_main_v18, val_main_v17]
  simp only [v16_at hx hg, hu]
  rfl

include hx hg hw in
/-- The other factor. -/
theorem v20_at (r : Fin 8192) (j : Fin 2816) : val_main_v20 (F := Ideal) x0 x1 x3 (ix3 0 r j) = proj X G W r j := by
  pointwise [val_main_v20, val_main_v19]
  simp only [v16_at hx hg, hw]
  rfl

include hx hg hu in
/-- The logistic function of the gate. -/
theorem v21_at (r : Fin 8192) (j : Fin 2816) : val_main_v21_2 (F := Ideal) x0 x1 x2 (ix3 0 r j) = sigE (proj X G U r j) := by
  pointwise [val_main_v21_2, val_main_call0_v4, val_main_call0_cst_0, val_main_call0_v3, val_main_call0_v2, val_main_call0_cst, val_main_call0_v1, val_main_call0_v0]
  rw [v18_at hx hg hu]
  rfl

include hv hd in
/-- The gradient at the gated product. -/
theorem v27_at (r : Fin 8192) (j : Fin 2816) : val_main_v27 (F := Ideal) x4 x5 (ix3 0 r j) = dact D V r j := by
  pointwise [val_main_v27, val_main_v26, val_main_v23]
  simp only [hd, hv]
  rfl

include hx hg hu hv hd in
/-- The gradient at the other factor. -/
theorem v28_at (r : Fin 8192) (j : Fin 2816) : val_main_v28 (F := Ideal) x0 x1 x2 x4 x5 (ix3 0 r j) = dup X G U V D r j := by
  pointwise [val_main_v28, val_main_v21_0]
  rw [v18_at hx hg hu, v21_at hx hg hu, v27_at hv hd, mul_comm]
  rfl

include hx hg hu hw hv hd rg ru rw' rv rd in
/-- The gradient at the gate. -/
theorem v30_at (r : Fin 8192) (j : Fin 2816) : val_main_v30 (F := Ideal) x0 x1 x2 x3 x4 x5 (ix3 0 r j) = dgate X G U W V D r j := by
  pointwise [val_main_v30, val_main_call1_v2, val_main_call1_v1, val_main_call1_v0, val_main_v29, val_main_v21_1, val_main_call0_v7, val_main_call0_v6, val_main_call0_cst_1]
  rw [v18_at hx hg hu, v21_at hx hg hu, v27_at hv hd, v20_at hx hg hw]
  exact gate_rule X Gr Ur Wr Vr Dr r j G U W V D rg ru rw' rv rd

include hx hg hu hw hv hd rg ru rw' rv rd in
/-- The gradient at the normalized rows times the gain. -/
theorem v33_at (r : Fin 8192) (k : Fin 1024) : val_main_v33 (F := Ideal) x0 x1 x2 x3 x4 x5 (ix3 0 r k) = dh X G U W V D r k := by
  pointwise [val_main_v33, val_main_v32, val_main_v31, val_main_v19, val_main_v17]
  simp only [v28_at hx hg hu hv hd, v30_at hx hg hu hw hv hd rg ru rw' rv rd, hu, hw]
  exact add_comm _ _

include hx hg hu hw hv hd rg ru rw' rv rd in
/-- Times the gain. -/
theorem v38_at (r : Fin 8192) (k : Fin 1024) : val_main_v38 (F := Ideal) x0 x1 x2 x3 x4 x5 (ix3 0 r k) = dh X G U W V D r k * G k := by
  pointwise [val_main_v38, val_main_v37, val_main_v14, val_main_v0]
  rw [v33_at hx hg hu hw hv hd rg ru rw' rv rd, hg]

include hx hg hu hw hv hd rg ru rw' rv rd in
/-- The part of the gradient that goes through the mean of squares, one number per row. -/
theorem v49_at (r : Fin 8192) : val_main_v49 (F := Ideal) x0 x1 x2 x3 x4 x5 (ix1 r) = rmsSlope (X r) fun k => dh X G U W V D r k * G k := by
  pointwise [val_main_v49, val_main_cst_7, val_main_v48, val_main_v47, val_main_cst_6, val_main_v46, val_main_v42, val_main_v41, val_main_cst_5, val_main_v40, val_main_v11, val_main_v10, val_main_cst_2, val_main_v9]
  rw [hostReduceAdd_mid]
  pointwise
  simp only [hx, v38_at hx hg hu hw hv hd rg ru rw' rv rd, v8_at hx, v7_at hx, ofBits_1024, ofBits_neg_half, zero_add]
  rfl

include hx hg hu hw hv hd rg ru rw' rv rd in
theorem dgate_at : val_main_v58 (F := Ideal) x0 x1 x2 x3 x4 x5 = fun i => dgate X G U W V D (i 0) (i 1) := by
  funext i
  idx_vars i
  pointwise [val_main_v58, val_main_v57]
  exact v30_at hx hg hu hw hv hd rg ru rw' rv rd i0 i1

include hx hg hu hv hd in
theorem dup_at : val_main_v60 (F := Ideal) x0 x1 x2 x4 x5 = fun i => dup X G U V D (i 0) (i 1) := by
  funext i
  idx_vars i
  pointwise [val_main_v60, val_main_v59]
  exact v28_at hx hg hu hv hd i0 i1

include hx hg hu hw hv hd rg ru rw' rv rd in
theorem dx_at : val_main_v61 (F := Ideal) x0 x1 x2 x3 x4 x5 = fun i => dx X G U W V D (i 0) (i 1) := by
  funext i
  idx_vars i
  pointwise [val_main_v61, val_main_v55, val_main_v54, val_main_v53, val_main_v52, val_main_v51, val_main_v50, val_main_v45, val_main_v44, val_main_v43]
  rw [v38_at hx hg hu hw hv hd rg ru rw' rv rd, v8_at hx, v49_at hx hg hu hw hv hd rg ru rw' rv rd, hx, hd, add_assoc, add_assoc,
    rms_grad (X i0) (fun k => dh X G U W V D i0 k * G k) i1]
  rfl

include hx hg hu hw hv hd rg ru rw' rv rd in
theorem dg_at : val_main_v56 (F := Ideal) x0 x1 x2 x3 x4 x5 = fun i => dg X G U W V D (i 1) := by
  funext i
  idx_vars i
  pointwise [val_main_v56, val_main_v39, val_main_cst_4, val_main_v36, val_main_v35, val_main_cst_3, val_main_v34]
  rw [hostReduceAdd_last]
  pointwise
  simp only [v13_at hx, v33_at hx hg hu hw hv hd rg ru rw' rv rd, zero_add]
  exact Finset.sum_congr rfl fun r _ => mul_comm _ _

end Cert.FfnBwdRefIdeal.Ref

end
-- ==== Proof.FfnBwdClaim.lean ====
/-
  THE CLAIMS ABOUT THE FEED-FORWARD BLOCK'S GRADIENT, one theorem each.
-/
module

public import proofs.«01_k».proof.Defs
public import proofs.«01_k».proof.Proof.FfnBwdValue
public import proofs.«01_k».proof.Proof.FfnBwdRef
public import proofs.«01_k».proof.Proof.Gen.FfnBwd.Frame
public import proofs.«01_k».proof.Proof.Gen.FfnBwdIdeal.Frame
public import proofs.«01_k».proof.Proof.Gen.Pre_finite_ffn_bwd
public import Idealize.ShloMosaic.Lib.Quiescent

@[expose] public section

noncomputable section

namespace Cert.FfnBwdClaim

open Idealize.ShloMosaic Idealize.SL.Sem
open Cert.RealFacts Cert.FfnBwdMath

theorem frame_ref : Cert.quiescent_FfnBwdRefIdeal := fun m ρ _ => (θ_run (Cert.FfnBwdRefIdeal.defs (F := Ideal)) _ _).mono
  (fun r h => ⟨fun c => (h c).2.2.2.2, Idealize.ShloMosaic.sem_eq_zero_of_no_sems (by decide) r.2⟩) (Cert.FfnBwdRefIdeal.Value.run (F := Ideal) m ρ)

set_option maxHeartbeats 4000000 in
/-- Both programs leave the same four arrays where the gain, the weights and the incoming gradient are finite. -/
theorem algebraic : Cert.algebraic_FfnBwdIdeal_FfnBwdRefIdeal_pre_finite_ffn_bwd := by
  intro m g m' g' hpre hag
  refine ⟨fun c => (Cert.FfnBwdIdeal.Gen.dats m 0 c).arrAt 8 Cert.FfnBwdIdeal.cfg0.N, fun c => (Cert.FfnBwdIdeal.Gen.dats m 0 c).arrAt 9 Cert.FfnBwdIdeal.cfg0.N,
    fun c => (Cert.FfnBwdIdeal.Gen.dats m 0 c).arrAt 10 Cert.FfnBwdIdeal.cfg0.N, fun c => (Cert.FfnBwdIdeal.Gen.dats m 0 c).arrAt 11 Cert.FfnBwdIdeal.cfg0.N,
    Cert.FfnBwdIdeal.Value.run_blocks (F := Ideal) m g, ?_⟩
  refine (θ_run _ _ _).mono (fun r h c => ?_) (Cert.FfnBwdRefIdeal.Value.run (F := Ideal) m' g')
  obtain ⟨e0, e1, e2, e3, e4, e5⟩ := hag c
  obtain ⟨p1, p2, p3, p4, p5⟩ := hpre c
  obtain ⟨G, hG⟩ := real_of_test _ _ p1
  obtain ⟨U, hU⟩ := real_of_test _ _ p2
  obtain ⟨W, hW⟩ := real_of_test _ _ p3
  obtain ⟨V, hV⟩ := real_of_test _ _ p4
  obtain ⟨D, hD⟩ := real_of_test _ _ p5
  have hg : ∀ k, m ((c.tc : Thread Cert.FfnBwdIdeal.nD Cert.FfnBwdIdeal.τ).loc Cert.FfnBwdIdeal.main_arg1) (ix2 0 k) = ((G (ix2 0 k) : ℝ) : EReal) := fun k => congrFun hG _
  have hu : ∀ j k, m ((c.tc : Thread Cert.FfnBwdIdeal.nD Cert.FfnBwdIdeal.τ).loc Cert.FfnBwdIdeal.main_arg2) (ix3 0 j k) = ((U (ix3 0 j k) : ℝ) : EReal) := fun j k => congrFun hU _
  have hw : ∀ j k, m ((c.tc : Thread Cert.FfnBwdIdeal.nD Cert.FfnBwdIdeal.τ).loc Cert.FfnBwdIdeal.main_arg3) (ix3 0 j k) = ((W (ix3 0 j k) : ℝ) : EReal) := fun j k => congrFun hW _
  have hv : ∀ j k, m ((c.tc : Thread Cert.FfnBwdIdeal.nD Cert.FfnBwdIdeal.τ).loc Cert.FfnBwdIdeal.main_arg4) (ix3 0 j k) = ((V (ix3 0 j k) : ℝ) : EReal) := fun j k => congrFun hV _
  have hd : ∀ j k, m ((c.tc : Thread Cert.FfnBwdIdeal.nD Cert.FfnBwdIdeal.τ).loc Cert.FfnBwdIdeal.main_arg5) (ix3 0 j k) = ((D (ix3 0 j k) : ℝ) : EReal) := fun j k => congrFun hD _
  refine ⟨(h c).1.trans ?_, (h c).2.1.trans ?_, (h c).2.2.1.trans ?_, (h c).2.2.2.1.trans ?_, (h c).2.2.2.2⟩
  · rw [Cert.FfnBwdRefIdeal.Read.val_main_v58_eq, e0, e1, e2, e3, e4, e5]
    exact (Cert.FfnBwdRefIdeal.Ref.dgate_at (fun _ _ => rfl) hg hu hw hv hd rfl rfl rfl rfl rfl).trans
      (Cert.FfnBwdIdeal.Body.final8 (fun _ _ => rfl) hg hu hw hv hd).symm
  · rw [Cert.FfnBwdRefIdeal.Read.val_main_v60_eq, e0, e1, e2, e4, e5]
    exact (Cert.FfnBwdRefIdeal.Ref.dup_at (fun _ _ => rfl) hg hu hv hd).trans (Cert.FfnBwdIdeal.Body.final9 (fun _ _ => rfl) hg hu hv hd).symm
  · rw [Cert.FfnBwdRefIdeal.Read.val_main_v61_eq, e0, e1, e2, e3, e4, e5]
    exact (Cert.FfnBwdRefIdeal.Ref.dx_at (fun _ _ => rfl) hg hu hw hv hd rfl rfl rfl rfl rfl).trans
      (Cert.FfnBwdIdeal.Body.final10 (fun _ _ => rfl) hg hu hw hv hd).symm
  · rw [Cert.FfnBwdRefIdeal.Read.val_main_v56_eq, e0, e1, e2, e3, e4, e5]
    exact (Cert.FfnBwdRefIdeal.Ref.dg_at (fun _ _ => rfl) hg hu hw hv hd rfl rfl rfl rfl rfl).trans
      (Cert.FfnBwdIdeal.Body.final11 (fun _ _ => rfl) hg hu hw hv hd).symm

end Cert.FfnBwdClaim

end
-- ==== Proof.FfnFwdMath.lean ====
/-
  THE FEED-FORWARD BLOCK, THE LOSS AND THE GRADIENT AT THE BLOCK'S RESULT OVER THE EXTENDED REALS: the functions that both programs are shown to
  compute. `X` are the rows, `T` the targets, `G` and `F` the two norms' gains, `U`, `W` and `V` the weights.
-/
module

public import proofs.«01_k».proof.Proof.FfnBwdMath

@[expose] public section

noncomputable section

namespace Cert.FfnFwdMath

open Idealize.ShloMosaic Cert.RealFacts Cert.FfnBwdMath
open scoped BigOperators

theorem ofBits_half : Ideal.ofBits .f32 0x3F000000#32 = ((1 / 2 : ℝ) : EReal) := by
  simp [Ideal.ofBits, Ideal.ieee, -EReal.coe_mul]; norm_num

theorem ofBits_two : Ideal.ofBits .f32 0x40000000#32 = ((2 : ℝ) : EReal) := by
  simp [Ideal.ofBits, Ideal.ieee, -EReal.coe_mul]; norm_num

theorem ofBits_inv_1024 : Ideal.ofBits .f32 0x3A800000#32 = ((1 / 1024 : ℝ) : EReal) := by
  simp [Ideal.ofBits, Ideal.ieee, -EReal.coe_mul]; norm_num

/-- The gated product. -/
def act (X : Fin 8192 → Fin 1024 → EReal) (G : Fin 1024 → EReal) (U W : Fin 1024 → Fin 2816 → EReal) (r : Fin 8192) (j : Fin 2816) : EReal :=
  proj X G U r j * sigE (proj X G U r j) * proj X G W r j

/-- The block's result. -/
def x2 (X : Fin 8192 → Fin 1024 → EReal) (G : Fin 1024 → EReal) (U W : Fin 1024 → Fin 2816 → EReal) (V : Fin 2816 → Fin 1024 → EReal)
    (r : Fin 8192) (k : Fin 1024) : EReal := X r k + ∑ j, act X G U W r j * V j k

/-- A row's distance from its target after the last norm. -/
def err (Y T : Fin 8192 → Fin 1024 → EReal) (F : Fin 1024 → EReal) (r : Fin 8192) (k : Fin 1024) : EReal := Y r k * rmsE (Y r) * F k - T r k

/-- The loss: half the sum of the rows' mean squares. -/
def loss (Y T : Fin 8192 → Fin 1024 → EReal) (F : Fin 1024 → EReal) : EReal :=
  ((1 / 2 : ℝ) : EReal) * ∑ r, Ideal.div (∑ k, err Y T F r k * err Y T F r k) ((1024 : ℝ) : EReal)

/-- The loss's gradient at the last norm's result. -/
def dy (Y T : Fin 8192 → Fin 1024 → EReal) (F : Fin 1024 → EReal) (r : Fin 8192) (k : Fin 1024) : EReal := err Y T F r k * ((1 / 1024 : ℝ) : EReal)

/-- The loss's gradient at the last norm's gain. -/
def dgf (Y T : Fin 8192 → Fin 1024 → EReal) (F : Fin 1024 → EReal) (k : Fin 1024) : EReal := ∑ r, dy Y T F r k * (Y r k * rmsE (Y r))

/-- The loss's gradient at the block's result. -/
def dx2 (Y T : Fin 8192 → Fin 1024 → EReal) (F : Fin 1024 → EReal) (r : Fin 8192) (k : Fin 1024) : EReal := rmsGrad (Y r) (fun k => dy Y T F r k * F k) k

/-- The factor that differentiating the mean of squares leaves. -/
theorem dy_rule (e : EReal) : Ideal.div (((1 / 2 : ℝ) : EReal) * 1) ((1024 : ℝ) : EReal) * (((2 : ℝ) : EReal) * e) = e * ((1 / 1024 : ℝ) : EReal) := by
  rw [mul_one, div_real _ (by norm_num : (1024 : ℝ) ≠ 0), ← mul_assoc, ← EReal.coe_mul, mul_comm]
  norm_num

/-- A host sum over both axes of a row. -/
theorem hostReduceAdd_row {n : ℕ} (h : (⟨2, ![1, n]⟩ : Shape).ReducesTo [0, 1] ⟨0, ![]⟩) (x : (⟨2, ![1, n]⟩ : Shape).Idx → EReal) (init : EReal) (j) :
    Ideal.hostReduceAdd h x init j = init + ∑ r, x (ix2 0 r) := by
  unfold Ideal.hostReduceAdd
  rw [Finset.filter_true_of_mem fun _ _ => Subsingleton.elim _ _]
  congr 1
  refine Finset.sum_bij' (fun i _ => i 1) (fun r _ => ix2 0 r) (fun _ _ => Finset.mem_univ _) (fun _ _ => Finset.mem_univ _) (fun i _ => ?_) (fun _ _ => rfl) fun i _ => ?_
  · obtain ⟨i0, i1, rfl⟩ : ∃ i0 i1, i = ix2 i0 i1 := ⟨_, _, eq_ix2 i⟩
    obtain rfl : i0 = 0 := Subsingleton.elim _ _
    rfl
  · obtain ⟨i0, i1, rfl⟩ : ∃ i0 i1, i = ix2 i0 i1 := ⟨_, _, eq_ix2 i⟩
    obtain rfl : i0 = 0 := Subsingleton.elim _ _
    rfl

end Cert.FfnFwdMath

end
-- ==== Proof.FfnFwdBody.lean ====
/-
  THE BODY OF THE FEED-FORWARD BLOCK, ENTRY BY ENTRY: what each payload of the kernel computes from the blocks it reads.
-/
module

public import proofs.«01_k».proof.Proof.FfnFwdMath
public import proofs.«01_k».proof.Proof.Gen.FfnFwdIdeal.Value
public import Idealize.ShloMosaic.Lib.Pipeline.ValueKit

@[expose] public section

set_option maxRecDepth 16384

noncomputable section

namespace Cert.FfnFwdIdeal.Body

open Cert.FfnFwdIdeal Cert.FfnFwdIdeal.Gen Idealize.ShloMosaic Idealize.ShloMosaic.TcCoe Idealize.SL.Sem
open Cert.RealFacts Cert.FfnFwdMath
open scoped BigOperators

/-- The normalized rows times the gain. -/
theorem h_at (x : FVec Ideal S256x1024 .f32) (g : FVec Ideal S1x1024 .f32) (r : Fin 256) (k : Fin 1024) :
    k0_pay8 (F := Ideal) x g (ix2 r k) = x (ix2 r k) * (rmsE fun k => x (ix2 r k)) * g (ix2 0 k) := by
  pointwise [k0_pay8, k0_pay7]
  simp only [ofBits_1024, ofBits_eps]
  rfl

/-- The gate. -/
theorem gate_at (x : FVec Ideal S256x1024 .f32) (g : FVec Ideal S1x1024 .f32) (w : FVec Ideal S2816x1024 .bf16) (r : Fin 256) (j : Fin 2816) :
    k0_pay9 (F := Ideal) x g w (ix2 r j) = ∑ k : Fin 1024, x (ix2 r k) * (rmsE fun k => x (ix2 r k)) * g (ix2 0 k) * w (ix2 j k) := by
  pointwise [k0_pay9]
  simp only [h_at]

/-- The other factor. -/
theorem up_at (x : FVec Ideal S256x1024 .f32) (g : FVec Ideal S1x1024 .f32) (w : FVec Ideal S2816x1024 .bf16) (r : Fin 256) (j : Fin 2816) :
    k0_pay10 (F := Ideal) x g w (ix2 r j) = ∑ k : Fin 1024, x (ix2 r k) * (rmsE fun k => x (ix2 r k)) * g (ix2 0 k) * w (ix2 j k) := by
  pointwise [k0_pay10]
  simp only [h_at]

/-- The gated product. -/
theorem act_at (x : FVec Ideal S256x1024 .f32) (g : FVec Ideal S1x1024 .f32) (u w : FVec Ideal S2816x1024 .bf16) (r : Fin 256) (j : Fin 2816) :
    k0_pay11 (F := Ideal) x g u w (ix2 r j)
      = k0_pay9 (F := Ideal) x g u (ix2 r j) * sigE (k0_pay9 (F := Ideal) x g u (ix2 r j)) * k0_pay10 (F := Ideal) x g w (ix2 r j) := by
  pointwise [k0_pay11]
  rw [sub_eq_add_neg, zero_add]
  rfl

/-- The block's result. -/
theorem x2_at (x : FVec Ideal S256x1024 .f32) (a : FVec Ideal S256x2816 .bf16) (v : FVec Ideal S2816x1024 .bf16) (r : Fin 256) (k : Fin 1024) :
    k0_pay12 (F := Ideal) (k0_pay7 x) a v (ix2 r k) = x (ix2 r k) + ∑ j : Fin 2816, a (ix2 r j) * v (ix2 j k) := by
  pointwise [k0_pay12, k0_pay7]

variable (x : FVec Ideal S256x1024 .f32) (a : FVec Ideal S256x2816 .bf16) (v : FVec Ideal S2816x1024 .bf16)

/-- Its reciprocal root mean square. -/
theorem rms_at (r : Fin 256) : k0_pay13 (F := Ideal) x a v (ix2 r 0) = rmsE fun k => k0_pay12 (F := Ideal) x a v (ix2 r k) := by
  pointwise [k0_pay13]
  simp only [ofBits_1024, ofBits_eps]
  rfl

theorem xh_at (r : Fin 256) (k : Fin 1024) :
    k0_pay14 (F := Ideal) x a v (ix2 r k) = k0_pay12 (F := Ideal) x a v (ix2 r k) * rmsE fun k => k0_pay12 (F := Ideal) x a v (ix2 r k) := by
  pointwise [k0_pay14]
  rw [rms_at]

/-- The distance from the target. -/
theorem err_at (f : FVec Ideal S1x1024 .f32) (t : FVec Ideal S256x1024 .f32) (r : Fin 256) (k : Fin 1024) :
    k0_pay15 (F := Ideal) x a v f t (ix2 r k)
      = k0_pay12 (F := Ideal) x a v (ix2 r k) * (rmsE fun k => k0_pay12 (F := Ideal) x a v (ix2 r k)) * f (ix2 0 k) - t (ix2 r k) := by
  pointwise [k0_pay15]
  rw [xh_at]

/-- The part of the loss that one block adds. -/
theorem loss_at (f : FVec Ideal S1x1024 .f32) (t : FVec Ideal S256x1024 .f32) (acc : FVec Ideal S1x128 .f32) (l : Fin 128) :
    k0_pay1 (F := Ideal) (k0_pay16 acc) (k0_pay17 x a v f t) (ix2 0 l)
      = acc (ix2 0 l) + ((1 / 2 : ℝ) : EReal) * ∑ r : Fin 256, Ideal.div
          (∑ k : Fin 1024, k0_pay15 (F := Ideal) x a v f t (ix2 r k) * k0_pay15 (F := Ideal) x a v f t (ix2 r k)) ((1024 : ℝ) : EReal) := by
  pointwise [k0_pay1, k0_pay16, k0_pay17]
  simp only [ofBits_1024, ofBits_half, Fin.sum_univ_one]

/-- The part of the gain's gradient that one block adds. -/
theorem dgf_at (f : FVec Ideal S1x1024 .f32) (t : FVec Ideal S256x1024 .f32) (acc : FVec Ideal S1x1024 .f32) (k : Fin 1024) :
    k0_pay3 (F := Ideal) (k0_pay14 x a v) (k0_pay15 x a v f t) acc (ix2 0 k)
      = acc (ix2 0 k) + ∑ r : Fin 256, k0_pay15 (F := Ideal) x a v f t (ix2 r k) * ((1 / 1024 : ℝ) : EReal)
          * (k0_pay12 (F := Ideal) x a v (ix2 r k) * rmsE fun k => k0_pay12 (F := Ideal) x a v (ix2 r k)) := by
  pointwise [k0_pay3, k0_pay2]
  simp only [xh_at, ofBits_inv_1024]

/-- The gradient at the block's result. -/
theorem dx2_at (f : FVec Ideal S1x1024 .f32) (t : FVec Ideal S256x1024 .f32) (r : Fin 256) (k : Fin 1024) :
    k0_pay4 (F := Ideal) (k0_pay13 x a v) (k0_pay14 x a v) (k0_pay15 x a v f t) f (ix2 r k)
      = rmsGrad (fun k => k0_pay12 (F := Ideal) x a v (ix2 r k))
          (fun k => k0_pay15 (F := Ideal) x a v f t (ix2 r k) * ((1 / 1024 : ℝ) : EReal) * f (ix2 0 k)) k := by
  pointwise [k0_pay4, k0_pay2]
  simp only [rms_at, xh_at, ofBits_1024, ofBits_inv_1024]
  rfl

end Cert.FfnFwdIdeal.Body

end
-- ==== Proof.FfnFwdValue.lean ====
/-
  THE FEED-FORWARD BLOCK, THE KERNEL'S ARRAYS: where the arguments hold `X`, `T`, `G`, `E`, `U`, `W`, `V`, the seven results
  hold the functions of `Cert.FfnFwdMath`.
-/
module

public import proofs.«01_k».proof.Proof.FfnFwdBody
public import proofs.«01_k».proof.Proof.FfnFwdMath

@[expose] public section

set_option maxRecDepth 16384

noncomputable section

namespace Cert.FfnFwdIdeal.Body

open Cert.FfnFwdIdeal Cert.FfnFwdIdeal.Gen Idealize.ShloMosaic Idealize.ShloMosaic.TcCoe Idealize.SL.Sem
open Cert.RealFacts Cert.FfnBwdMath Cert.FfnFwdMath
open scoped BigOperators

variable (m : (ℓ : Loc nD τ sig) → Buf (Elt Ideal) ℓ)

/-- The block each window holds at a grid point. -/
theorem idx : ∀ t : Fin cfg0.N, win0_0.index t = ![t.val, 0] ∧ win0_1.index t = ![t.val, 0] ∧ win0_2.index t = ![0, 0]
    ∧ win0_3.index t = ![0, 0] ∧ win0_4.index t = ![0, 0] ∧ win0_5.index t = ![0, 0] ∧ win0_6.index t = ![0, 0] ∧ win0_7.index t = ![t.val, 0]
    ∧ win0_8.index t = ![t.val, 0] ∧ win0_9.index t = ![t.val, 0] ∧ win0_10.index t = ![t.val, 0] ∧ win0_11.index t = ![t.val, 0]
    ∧ win0_12.index t = ![0, 0] ∧ win0_13.index t = ![0, 0] :=
  (by decide +kernel : ∀ t : Fin grid0.N, _)

/-- Row `r` of the tile at point `t`. -/
def row (t : Fin cfg0.N) (r : Fin 256) : Fin 8192 := ⟨t.val * 256 + r.val, by have := t.isLt; have : cfg0.N = 32 := N_0; omega⟩

theorem x_blk (c : Dev nD) (t : Fin cfg0.N) (r : Fin 256) (k : Fin 1024) :
    (show FVec Ideal S256x1024 .f32 from iblk m c 0 t) (ix2 r k) = m ((c : Thread nD τ).loc main_arg0) (ix3 0 (row t r) k) := by
  unfold row; blk_simp [iblk, idx t]; entry_read; pointwise; blk_ext [idx t]

theorem t_blk (c : Dev nD) (t : Fin cfg0.N) (r : Fin 256) (k : Fin 1024) :
    (show FVec Ideal S256x1024 .f32 from iblk m c 1 t) (ix2 r k) = m ((c : Thread nD τ).loc main_arg1) (ix3 0 (row t r) k) := by
  unfold row; blk_simp [iblk, idx t]; entry_read; pointwise; blk_ext [idx t]

theorem g_blk (c : Dev nD) (t : Fin cfg0.N) (k : Fin 1024) :
    (show FVec Ideal S1x1024 .f32 from iblk m c 2 t) (ix2 0 k) = m ((c : Thread nD τ).loc main_arg2) (ix2 0 k) := by
  blk_simp [iblk, idx t]; entry_read; blk_ext [idx t]

theorem e_blk (c : Dev nD) (t : Fin cfg0.N) (k : Fin 1024) :
    (show FVec Ideal S1x1024 .f32 from iblk m c 3 t) (ix2 0 k) = m ((c : Thread nD τ).loc main_arg6) (ix1 k) := by
  blk_simp [iblk, idx t]; entry_read; pointwise; blk_ext [idx t]

theorem u_blk (c : Dev nD) (t : Fin cfg0.N) (j : Fin 2816) (k : Fin 1024) :
    (show FVec Ideal S2816x1024 .bf16 from iblk m c 4 t) (ix2 j k) = m ((c : Thread nD τ).loc main_arg3) (ix3 0 k j) := by
  blk_simp [iblk, idx t]; entry_read; pointwise; blk_ext [idx t]

theorem w_blk (c : Dev nD) (t : Fin cfg0.N) (j : Fin 2816) (k : Fin 1024) :
    (show FVec Ideal S2816x1024 .bf16 from iblk m c 5 t) (ix2 j k) = m ((c : Thread nD τ).loc main_arg4) (ix3 0 k j) := by
  blk_simp [iblk, idx t]; entry_read; pointwise; blk_ext [idx t]

theorem v_blk (c : Dev nD) (t : Fin cfg0.N) (j : Fin 2816) (k : Fin 1024) :
    (show FVec Ideal S2816x1024 .bf16 from iblk m c 6 t) (ix2 j k) = m ((c : Thread nD τ).loc main_arg5) (ix3 0 j k) := by
  blk_simp [iblk, idx t]; entry_read; pointwise; blk_ext [idx t]

variable {m} {c : Dev nD} {X T : Fin 8192 → Fin 1024 → EReal} {G E : Fin 1024 → EReal} {U W : Fin 1024 → Fin 2816 → EReal} {V : Fin 2816 → Fin 1024 → EReal}
variable (hx : ∀ r k, m ((c : Thread nD τ).loc main_arg0) (ix3 0 r k) = X r k)
variable (ht : ∀ r k, m ((c : Thread nD τ).loc main_arg1) (ix3 0 r k) = T r k)
variable (hg : ∀ k, m ((c : Thread nD τ).loc main_arg2) (ix2 0 k) = G k)
variable (hu : ∀ j k, m ((c : Thread nD τ).loc main_arg3) (ix3 0 j k) = U j k)
variable (hw : ∀ j k, m ((c : Thread nD τ).loc main_arg4) (ix3 0 j k) = W j k)
variable (hv : ∀ j k, m ((c : Thread nD τ).loc main_arg5) (ix3 0 j k) = V j k)
variable (he : ∀ k, m ((c : Thread nD τ).loc main_arg6) (ix1 k) = E k)

include hx hg in
theorem h_row (t : Fin cfg0.N) (r : Fin 256) (k : Fin 1024) :
    (show FVec Ideal S256x1024 .f32 from iblk m c 0 t) (ix2 r k) * (rmsE fun k => (show FVec Ideal S256x1024 .f32 from iblk m c 0 t) (ix2 r k))
      * (show FVec Ideal S1x1024 .f32 from iblk m c 2 t) (ix2 0 k) = X (row t r) k * rmsE (X (row t r)) * G k :=
  congrArg₂ (· * ·) (congrArg₂ (· * ·) ((x_blk m c t r k).trans (hx _ k)) (congrArg rmsE (funext fun k => (x_blk m c t r k).trans (hx _ k))))
    ((g_blk m c t k).trans (hg k))

include hx hg in
theorem h_blk (t : Fin cfg0.N) (r : Fin 256) (k : Fin 1024) :
    k0_pay8 (F := Ideal) (iblk m c 0 t) (iblk m c 2 t) (ix2 r k) = X (row t r) k * rmsE (X (row t r)) * G k :=
  (h_at _ _ r k).trans (h_row hx hg t r k)

include hx hg hu in
theorem gate_blk (t : Fin cfg0.N) (r : Fin 256) (j : Fin 2816) :
    k0_pay9 (F := Ideal) (iblk m c 0 t) (iblk m c 2 t) (iblk m c 4 t) (ix2 r j) = proj X G U (row t r) j :=
  (gate_at _ _ _ r j).trans (Finset.sum_congr rfl fun k _ => congrArg₂ (· * ·) (h_row hx hg t r k) ((u_blk m c t j k).trans (hu _ _)))

include hx hg hw in
theorem up_blk (t : Fin cfg0.N) (r : Fin 256) (j : Fin 2816) :
    k0_pay10 (F := Ideal) (iblk m c 0 t) (iblk m c 2 t) (iblk m c 5 t) (ix2 r j) = proj X G W (row t r) j :=
  (up_at _ _ _ r j).trans (Finset.sum_congr rfl fun k _ => congrArg₂ (· * ·) (h_row hx hg t r k) ((w_blk m c t j k).trans (hw _ _)))

include hx hg hu hw in
theorem act_blk (t : Fin cfg0.N) (r : Fin 256) (j : Fin 2816) :
    k0_pay11 (F := Ideal) (iblk m c 0 t) (iblk m c 2 t) (iblk m c 4 t) (iblk m c 5 t) (ix2 r j) = act X G U W (row t r) j :=
  (act_at _ _ _ _ r j).trans (congrArg₂ (· * ·) (congrArg (fun p => p * sigE p) (gate_blk hx hg hu t r j)) (up_blk hx hg hw t r j))

variable (m c) in
/-- The block's result at the point `t`, as the body computes it. -/
def y (t : Fin cfg0.N) : FVec Ideal S256x2816 .bf16 := k0_pay11 (F := Ideal) (iblk m c 0 t) (iblk m c 2 t) (iblk m c 4 t) (iblk m c 5 t)

include hx hg hu hw hv in
theorem x2_blk (t : Fin cfg0.N) (r : Fin 256) (k : Fin 1024) :
    k0_pay12 (F := Ideal) (k0_pay7 (iblk m c 0 t)) (y m c t) (iblk m c 6 t) (ix2 r k) = x2 X G U W V (row t r) k :=
  (x2_at _ _ _ r k).trans (congrArg₂ (· + ·) ((x_blk m c t r k).trans (hx _ k))
    (Finset.sum_congr rfl fun j _ => congrArg₂ (· * ·) (act_blk hx hg hu hw t r j) ((v_blk m c t j k).trans (hv _ _))))

include hx hg hu hw hv in
theorem x2_row (t : Fin cfg0.N) (r : Fin 256) :
    (fun k => k0_pay12 (F := Ideal) (k0_pay7 (iblk m c 0 t)) (y m c t) (iblk m c 6 t) (ix2 r k)) = x2 X G U W V (row t r) :=
  funext fun k => x2_blk hx hg hu hw hv t r k

include hx ht hg hu hw hv he in
theorem err_blk (t : Fin cfg0.N) (r : Fin 256) (k : Fin 1024) :
    k0_pay15 (F := Ideal) (k0_pay7 (iblk m c 0 t)) (y m c t) (iblk m c 6 t) (iblk m c 3 t) (iblk m c 1 t) (ix2 r k) = err (x2 X G U W V) T E (row t r) k :=
  (err_at _ _ _ _ _ r k).trans (congrArg₂ (· - ·) (congrArg₂ (· * ·) (congrArg₂ (· * ·) (x2_blk hx hg hu hw hv t r k)
    (congrArg rmsE (x2_row hx hg hu hw hv t r))) ((e_blk m c t k).trans (he k))) ((t_blk m c t r k).trans (ht _ k)))

include hx ht hg hu hw hv he in
theorem dx2_blk (t : Fin cfg0.N) (r : Fin 256) (k : Fin 1024) :
    k0_pay4 (F := Ideal) (k0_pay13 (k0_pay7 (iblk m c 0 t)) (y m c t) (iblk m c 6 t)) (k0_pay14 (k0_pay7 (iblk m c 0 t)) (y m c t) (iblk m c 6 t))
      (k0_pay15 (k0_pay7 (iblk m c 0 t)) (y m c t) (iblk m c 6 t) (iblk m c 3 t) (iblk m c 1 t)) (iblk m c 3 t) (ix2 r k)
      = dx2 (x2 X G U W V) T E (row t r) k :=
  (dx2_at _ _ _ _ _ r k).trans (congrArg₂ (fun a b => rmsGrad a b k) (x2_row hx hg hu hw hv t r)
    (funext fun k => congrArg₂ (· * ·) (congrArg (· * ((1 / 1024 : ℝ) : EReal)) (err_blk hx ht hg hu hw hv he t r k)) ((e_blk m c t k).trans (he k))))

/-- What one tile adds to the loss. -/
def lossPart (Y T : Fin 8192 → Fin 1024 → EReal) (E : Fin 1024 → EReal) (t : Fin cfg0.N) : EReal :=
  ((1 / 2 : ℝ) : EReal) * ∑ r : Fin 256, Ideal.div (∑ k, err Y T E (row t r) k * err Y T E (row t r) k) ((1024 : ℝ) : EReal)

include hx ht hg hu hw hv he in
theorem loss_blk (t : Fin cfg0.N) (acc : FVec Ideal S1x128 .f32) (i : S1x128.Idx) :
    k0_pay1 (F := Ideal) (k0_pay16 acc) (k0_pay17 (k0_pay7 (iblk m c 0 t)) (y m c t) (iblk m c 6 t) (iblk m c 3 t) (iblk m c 1 t)) i
      = acc i + lossPart (x2 X G U W V) T E t := by
  idx_vars i
  obtain rfl : i0 = 0 := Subsingleton.elim _ _
  refine (loss_at _ _ _ _ _ _ i1).trans ?_
  refine congrArg (acc (ix2 0 i1) + ((1 / 2 : ℝ) : EReal) * ·) (Finset.sum_congr rfl fun r _ => ?_)
  exact congrArg (Ideal.div · ((1024 : ℝ) : EReal)) (Finset.sum_congr rfl fun k _ => congrArg (fun a => a * a) (err_blk hx ht hg hu hw hv he t r k))

/-- What one tile adds to the last gain's gradient. -/
def dgfPart (Y T : Fin 8192 → Fin 1024 → EReal) (E : Fin 1024 → EReal) (t : Fin cfg0.N) (i : S1x1024.Idx) : EReal :=
  ∑ r : Fin 256, dy Y T E (row t r) (i 1) * (Y (row t r) (i 1) * rmsE (Y (row t r)))

include hx ht hg hu hw hv he in
theorem dgf_blk (t : Fin cfg0.N) (acc : FVec Ideal S1x1024 .f32) (i : S1x1024.Idx) :
    k0_pay3 (F := Ideal) (k0_pay14 (k0_pay7 (iblk m c 0 t)) (y m c t) (iblk m c 6 t))
      (k0_pay15 (k0_pay7 (iblk m c 0 t)) (y m c t) (iblk m c 6 t) (iblk m c 3 t) (iblk m c 1 t)) acc i = acc i + dgfPart (x2 X G U W V) T E t i := by
  idx_vars i
  obtain rfl : i0 = 0 := Subsingleton.elim _ _
  refine (dgf_at _ _ _ _ _ _ i1).trans ?_
  refine congrArg (acc (ix2 0 i1) + ·) (Finset.sum_congr rfl fun r _ => ?_)
  exact congrArg₂ (· * ·) (congrArg (· * ((1 / 1024 : ℝ) : EReal)) (err_blk hx ht hg hu hw hv he t r i1))
    (congrArg₂ (· * ·) (x2_blk hx hg hu hw hv t r i1) (congrArg rmsE (x2_row hx hg hu hw hv t r)))

include hx hg in
/-- The first result: the normalized rows. -/
theorem final7 : (dats m 0 c).arrAt 7 cfg0.N = (show FVec Ideal S8192x1024 .bf16 from fun i => X (i 0) (i 1) * rmsE (X (i 0)) * G (i 1)) := by
  refine (dats m 0 c).arrAt_eq_of_covers 7 _ (by decide +kernel) fun t hf y => ?_
  blk_simp
  rw [after0_7]
  idx_vars y
  have e : (win0_7.blk t).view.emb (ix2 y0 y1) = ix2 (row t y0) y1 := by unfold row; blk_ext [idx t]
  refine Eq.trans ?_ (congrArg (fun i : S8192x1024.Idx => X (i 0) (i 1) * rmsE (X (i 0)) * G (i 1)) e.symm)
  by_cases h0 : t.val % 32 = 0
  · rw [outsAt0_A m c t h0]; frame_out
    exact h_blk hx hg t y0 y1
  · rw [outsAt0_B m c t h0]; frame_out
    exact h_blk hx hg t y0 y1

include hx hg hu in
/-- The second result: the gate. -/
theorem final8 : (dats m 0 c).arrAt 8 cfg0.N = (show FVec Ideal S8192x2816 .f32 from fun i => proj X G U (i 0) (i 1)) := by
  refine (dats m 0 c).arrAt_eq_of_covers 8 _ (by decide +kernel) fun t hf y => ?_
  blk_simp
  rw [after0_8]
  idx_vars y
  have e : (win0_8.blk t).view.emb (ix2 y0 y1) = ix2 (row t y0) y1 := by unfold row; blk_ext [idx t]
  refine Eq.trans ?_ (congrArg (fun i : S8192x2816.Idx => proj X G U (i 0) (i 1)) e.symm)
  by_cases h0 : t.val % 32 = 0
  · rw [outsAt0_A m c t h0]; frame_out
    exact gate_blk hx hg hu t y0 y1
  · rw [outsAt0_B m c t h0]; frame_out
    exact gate_blk hx hg hu t y0 y1

include hx hg hw in
/-- The third result: the other factor. -/
theorem final9 : (dats m 0 c).arrAt 9 cfg0.N = (show FVec Ideal S8192x2816 .f32 from fun i => proj X G W (i 0) (i 1)) := by
  refine (dats m 0 c).arrAt_eq_of_covers 9 _ (by decide +kernel) fun t hf y => ?_
  blk_simp
  rw [after0_9]
  idx_vars y
  have e : (win0_9.blk t).view.emb (ix2 y0 y1) = ix2 (row t y0) y1 := by unfold row; blk_ext [idx t]
  refine Eq.trans ?_ (congrArg (fun i : S8192x2816.Idx => proj X G W (i 0) (i 1)) e.symm)
  by_cases h0 : t.val % 32 = 0
  · rw [outsAt0_A m c t h0]; frame_out
    exact up_blk hx hg hw t y0 y1
  · rw [outsAt0_B m c t h0]; frame_out
    exact up_blk hx hg hw t y0 y1

include hx hg hu hw in
/-- The fourth result: the gated product. -/
theorem final10 : (dats m 0 c).arrAt 10 cfg0.N = (show FVec Ideal S8192x2816 .bf16 from fun i => act X G U W (i 0) (i 1)) := by
  refine (dats m 0 c).arrAt_eq_of_covers 10 _ (by decide +kernel) fun t hf y => ?_
  blk_simp
  rw [after0_10]
  idx_vars y
  have e : (win0_10.blk t).view.emb (ix2 y0 y1) = ix2 (row t y0) y1 := by unfold row; blk_ext [idx t]
  refine Eq.trans ?_ (congrArg (fun i : S8192x2816.Idx => act X G U W (i 0) (i 1)) e.symm)
  by_cases h0 : t.val % 32 = 0
  · rw [outsAt0_A m c t h0]; frame_out
    exact act_blk hx hg hu hw t y0 y1
  · rw [outsAt0_B m c t h0]; frame_out
    exact act_blk hx hg hu hw t y0 y1

include hx ht hg hu hw hv he in
/-- The fifth result: the loss's gradient at the block's result. -/
theorem final11 : (dats m 0 c).arrAt 11 cfg0.N = (show FVec Ideal S8192x1024 .f32 from fun i => dx2 (x2 X G U W V) T E (i 0) (i 1)) := by
  refine (dats m 0 c).arrAt_eq_of_covers 11 _ (by decide +kernel) fun t hf y => ?_
  blk_simp
  rw [after0_11]
  idx_vars y
  have e : (win0_11.blk t).view.emb (ix2 y0 y1) = ix2 (row t y0) y1 := by unfold row; blk_ext [idx t]
  refine Eq.trans ?_ (congrArg (fun i : S8192x1024.Idx => dx2 (x2 X G U W V) T E (i 0) (i 1)) e.symm)
  by_cases h0 : t.val % 32 = 0
  · rw [outsAt0_A m c t h0]; frame_out
    exact dx2_blk hx ht hg hu hw hv he t y0 y1
  · rw [outsAt0_B m c t h0]; frame_out
    exact dx2_blk hx ht hg hu hw hv he t y0 y1

theorem loss_zero (j) : k0_pay5 (F := Ideal) j = 0 := by pointwise [k0_pay5]

theorem dgf_zero (j) : k0_pay6 (F := Ideal) j = 0 := by pointwise [k0_pay6]

/-- The tile that the step `s` of the run ending at `t` works on. -/
theorem row_run {t : Fin cfg0.N} (s : Fin 32) (h) (r : Fin 256) : row ⟨32 * (t.val / 32) + s.val, h⟩ r = ⟨s.val * 256 + r.val, by omega⟩ := by
  have ht : t.val < 32 := lt_of_lt_of_eq t.isLt N_0
  unfold row; apply Fin.ext; dsimp only; omega

include hx ht hg hu hw hv he in
/-- The sixth result: the loss, once per lane. -/
theorem final12 : (dats m 0 c).arrAt 12 cfg0.N = (show FVec Ideal S1x128 .f32 from fun _ => loss (x2 X G U W V) T E) := by
  refine (dats m 0 c).arrAt_eq_of_covers 12 _ (by decide +kernel) fun t hf y => ?_
  blk_simp
  rw [after0_12, Pipeline.eq_sum_fin_of_reset_step_apply_of_flush (fun n h => (outsAt0 m c n h).2.2.2.2.2.1) 32 (fun _ => 0)
    (fun t _ => lossPart (x2 X G U W V) T E t)
    (fun t h j => by
      rw [outsAt0_A m c t h]; frame_out
      exact (loss_blk hx ht hg hu hw hv he t k0_pay5 j).trans (congrArg (· + lossPart (x2 X G U W V) T E t) (loss_zero j)))
    (fun t h j => by
      rw [outsAt0_B m c t h]; frame_out
      exact loss_blk hx ht hg hu hw hv he t _ j)
    t ((flush0_12 t).mp hf) _, zero_add]
  have key : (∑ s : Fin 32, lossPart (x2 X G U W V) T E ⟨32 * (t.val / 32) + s.val, Pipeline.run_point_lt_of_flush t ((flush0_12 t).mp hf) s⟩)
      = loss (x2 X G U W V) T E := by
    unfold lossPart loss
    rw [Fin.sum_univ_tiles 32 256 rfl]
    refine Eq.trans ?_ ((sum_mul_pos _ _ (by norm_num)).trans (mul_comm _ _))
    refine Finset.sum_congr rfl fun s _ => (mul_comm _ _).trans (congrArg (· * ((1 / 2 : ℝ) : EReal)) (Finset.sum_congr rfl fun r _ => ?_))
    rw [row_run]
  exact key

include hx ht hg hu hw hv he in
/-- The seventh result: the last gain's gradient, summed over the tiles. -/
theorem final13 : (dats m 0 c).arrAt 13 cfg0.N = (show FVec Ideal S1x1024 .f32 from fun i => dgf (x2 X G U W V) T E (i 1)) := by
  refine (dats m 0 c).arrAt_eq_of_covers 13 _ (by decide +kernel) fun t hf y => ?_
  blk_simp
  rw [after0_13, Pipeline.eq_sum_fin_of_reset_step_apply_of_flush (fun n h => (outsAt0 m c n h).2.2.2.2.2.2) 32 (fun _ => 0)
    (dgfPart (x2 X G U W V) T E)
    (fun t h j => by
      rw [outsAt0_A m c t h]; frame_out
      exact (dgf_blk hx ht hg hu hw hv he t k0_pay6 j).trans (congrArg (· + dgfPart (x2 X G U W V) T E t j) (dgf_zero j)))
    (fun t h j => by
      rw [outsAt0_B m c t h]; frame_out
      exact dgf_blk hx ht hg hu hw hv he t _ j)
    t ((flush0_13 t).mp hf) _, zero_add]
  idx_vars y
  have e : ((win0_13.blk t).view.emb (ix2 y0 y1)) = ix2 y0 y1 := by blk_ext [idx t]
  refine Eq.trans ?_ (congrArg (fun i : S1x1024.Idx => dgf (x2 X G U W V) T E (i 1)) e.symm)
  have key : (∑ s : Fin 32, dgfPart (x2 X G U W V) T E ⟨32 * (t.val / 32) + s.val, Pipeline.run_point_lt_of_flush t ((flush0_13 t).mp hf) s⟩ (ix2 y0 y1))
      = dgf (x2 X G U W V) T E y1 := by
    unfold dgfPart dgf
    rw [Fin.sum_univ_tiles 32 256 rfl]
    exact Finset.sum_congr rfl fun s _ => Finset.sum_congr rfl fun r _ => by rw [row_run]; rfl
  exact key

end Cert.FfnFwdIdeal.Body

end
-- ==== Proof.FfnFwdRef.lean ====
/-
  THE FEED-FORWARD BLOCK, THE REFERENCE'S ARRAYS: the forward lines and the differentiated loss give the same seven arrays
  the kernel leaves.
-/
module

public import proofs.«01_k».proof.Proof.FfnFwdMath
public import proofs.«01_k».proof.Proof.Gen.FfnFwdRefIdeal.Read
public import Idealize.ShloMosaic.Lib.Pipeline.ValueKit

@[expose] public section

set_option maxRecDepth 16384

noncomputable section

namespace Cert.FfnFwdRefIdeal.Ref

open Cert.FfnFwdRefIdeal Cert.FfnFwdRefIdeal.Read Idealize.ShloMosaic Idealize.ShloMosaic.TcCoe Idealize.SL.Sem
open Cert.RealFacts Cert.FfnBwdMath Cert.FfnFwdMath
open scoped BigOperators

variable {x0 : FVec Ideal S1x8192x1024 .f32} {x1 : FVec Ideal S1x8192x1024 .f32} {x2' : FVec Ideal S1x1024 .f32} {x3 x4 : FVec Ideal S1x1024x2816 .f32} {x5 : FVec Ideal S1x2816x1024 .f32}
variable {x6 : FVec Ideal S1024 .f32}
variable {X T : Fin 8192 → Fin 1024 → EReal} {G E : Fin 1024 → EReal} {U W : Fin 1024 → Fin 2816 → EReal} {V : Fin 2816 → Fin 1024 → EReal}
variable (hx : ∀ r k, x0 (ix3 0 r k) = X r k)
variable (ht : ∀ r k, x1 (ix3 0 r k) = T r k)
variable (hg : ∀ k, x2' (ix2 0 k) = G k)
variable (hu : ∀ j k, x3 (ix3 0 j k) = U j k)
variable (hw : ∀ j k, x4 (ix3 0 j k) = W j k)
variable (hv : ∀ j k, x5 (ix3 0 j k) = V j k)
variable (he : ∀ k, x6 (ix1 k) = E k)

include hx hg in
/-- The normalized rows times the gain. -/
theorem v13_at (r : Fin 8192) (k : Fin 1024) : val_main_v13 (F := Ideal) x0 x2' (ix3 0 r k) = X r k * rmsE (X r) * G k := by
  pointwise [val_main_v13, val_main_v12, val_main_v11, val_main_v0, val_main_v10, val_main_v9, val_main_v8, val_main_v7, val_main_v5, val_main_v6, val_main_cst_1, val_main_v4, val_main_cst_0, val_main_v3, val_main_v2, val_main_cst, val_main_v1]
  simp only [hx, hg, ofBits_1024, ofBits_eps, zero_add]
  rfl

include hx hg hu in
/-- The gate. -/
theorem v15_at (r : Fin 8192) (j : Fin 2816) : val_main_v15 (F := Ideal) x0 x2' x3 (ix3 0 r j) = proj X G U r j := by
  pointwise [val_main_v15, val_main_v14]
  simp only [v13_at hx hg, hu]
  rfl

include hx hg hw in
/-- The other factor. -/
theorem v17_at (r : Fin 8192) (j : Fin 2816) : val_main_v17 (F := Ideal) x0 x2' x4 (ix3 0 r j) = proj X G W r j := by
  pointwise [val_main_v17, val_main_v16]
  simp only [v13_at hx hg, hw]
  rfl

include hx hg hu hw in
/-- The gated product. -/
theorem v19_at (r : Fin 8192) (j : Fin 2816) : val_main_v19 (F := Ideal) x0 x2' x3 x4 (ix3 0 r j) = act X G U W r j := by
  pointwise [val_main_v19, val_main_v18, val_main_call0_v5, val_main_call0_v4, val_main_call0_cst_0, val_main_call0_v3, val_main_call0_v2, val_main_call0_cst, val_main_call0_v1, val_main_call0_v0]
  rw [v15_at hx hg hu, v17_at hx hg hw]
  rfl

include hx hg hu hw hv in
/-- The block's result. -/
theorem v22_at (r : Fin 8192) (k : Fin 1024) : val_main_v22 (F := Ideal) x0 x2' x3 x4 x5 (ix3 0 r k) = x2 X G U W V r k := by
  pointwise [val_main_v22, val_main_v21, val_main_v20]
  simp only [v19_at hx hg hu hw, hv, hx]
  rfl

include hx hg hu hw hv in
/-- Its mean of squares plus epsilon. -/
theorem v29_at (r : Fin 8192) : val_main_v29 (F := Ideal) x0 x2' x3 x4 x5 (ix3 0 r 0) = msqE (x2 X G U W V r) := by
  pointwise [val_main_v29, val_main_v28, val_main_cst_4, val_main_v27, val_main_v26, val_main_cst_3, val_main_v25, val_main_v24, val_main_cst_2, val_main_v23]
  simp only [v22_at hx hg hu hw hv, ofBits_1024, ofBits_eps, zero_add]
  rfl

include hx hg hu hw hv in
theorem v30_at (r : Fin 8192) : val_main_v30 (F := Ideal) x0 x2' x3 x4 x5 (ix3 0 r 0) = rmsE (x2 X G U W V r) := by
  pointwise [val_main_v30]
  rw [v29_at hx hg hu hw hv]
  rfl

include hx hg hu hw hv in
theorem v35_at (r : Fin 8192) (k : Fin 1024) :
    val_main_v35 (F := Ideal) x0 x2' x3 x4 x5 (ix3 0 r k) = x2 X G U W V r k * rmsE (x2 X G U W V r) := by
  pointwise [val_main_v35, val_main_v34]
  rw [v22_at hx hg hu hw hv, v30_at hx hg hu hw hv]

include hx ht hg hu hw hv he in
/-- The distance from the target. -/
theorem v39_at (r : Fin 8192) (k : Fin 1024) : val_main_v39 (F := Ideal) x0 x1 x2' x3 x4 x5 x6 (ix3 0 r k) = err (x2 X G U W V) T E r k := by
  pointwise [val_main_v39, val_main_v38, val_main_v37, val_main_v36]
  rw [v35_at hx hg hu hw hv, he, ht]
  rfl

include hx ht hg hu hw hv he in
/-- The loss. -/
theorem v47_at (j) : val_main_v47 (F := Ideal) x0 x1 x2' x3 x4 x5 x6 j = loss (x2 X G U W V) T E := by
  pointwise [val_main_v47, val_main_cst_10, val_main_v46, val_main_cst_9, val_main_v45, val_main_v44, val_main_cst_8, val_main_v43, val_main_cst_7, val_main_v40]
  simp only [v39_at hx ht hg hu hw hv he, ofBits_1024, ofBits_half, Fin.sum_univ_one, zero_add]
  rfl

include hx ht hg hu hw hv he in
/-- The loss's gradient at the last norm's result. -/
theorem v53_at (r : Fin 8192) (k : Fin 1024) : val_main_v53 (F := Ideal) x0 x1 x2' x3 x4 x5 x6 (ix3 0 r k) = dy (x2 X G U W V) T E r k := by
  pointwise [val_main_v53, val_main_v52, val_main_v51, val_main_v50, val_main_cst_13, val_main_v49, val_main_v48, val_main_cst_11, val_main_cst_12, val_main_v42, val_main_v41, val_main_cst_6]
  rw [v39_at hx ht hg hu hw hv he, ofBits_1024, ofBits_half, ofBits_two]
  have h := dy_rule (err (x2 X G U W V) T E r k)
  rw [mul_one] at h
  exact h

include hx ht hg hu hw hv he in
theorem v58_at (r : Fin 8192) (k : Fin 1024) :
    val_main_v58 (F := Ideal) x0 x1 x2' x3 x4 x5 x6 (ix3 0 r k) = dy (x2 X G U W V) T E r k * E k := by
  pointwise [val_main_v58, val_main_v57, val_main_v36]
  rw [v53_at hx ht hg hu hw hv he, he]

include hx ht hg hu hw hv he in
/-- The part of the gradient that goes through the mean of squares, one number per row. -/
theorem v68_at (r : Fin 8192) : val_main_v68 (F := Ideal) x0 x1 x2' x3 x4 x5 x6 (ix1 r)
    = rmsSlope (x2 X G U W V r) fun k => dy (x2 X G U W V) T E r k * E k := by
  pointwise [val_main_v68, val_main_cst_18, val_main_v67, val_main_v66, val_main_cst_17, val_main_v65, val_main_v62, val_main_v61, val_main_cst_16, val_main_v60, val_main_v33, val_main_v32, val_main_cst_5, val_main_v31]
  rw [hostReduceAdd_mid]
  pointwise
  simp only [v22_at hx hg hu hw hv, v58_at hx ht hg hu hw hv he, v30_at hx hg hu hw hv, v29_at hx hg hu hw hv, ofBits_1024, ofBits_neg_half, zero_add]
  rfl

include hx hg in
theorem h_at : val_main_v76 (F := Ideal) x0 x2' = fun i => X (i 0) (i 1) * rmsE (X (i 0)) * G (i 1) := by
  funext i
  idx_vars i
  pointwise [val_main_v76, val_main_v75]
  exact v13_at hx hg i0 i1

include hx hg hu in
theorem gate_at : val_main_v77 (F := Ideal) x0 x2' x3 = fun i => proj X G U (i 0) (i 1) := by
  funext i
  idx_vars i
  pointwise [val_main_v77]
  exact v15_at hx hg hu i0 i1

include hx hg hw in
theorem up_at : val_main_v78 (F := Ideal) x0 x2' x4 = fun i => proj X G W (i 0) (i 1) := by
  funext i
  idx_vars i
  pointwise [val_main_v78]
  exact v17_at hx hg hw i0 i1

include hx hg hu hw in
theorem act_at : val_main_v80 (F := Ideal) x0 x2' x3 x4 = fun i => act X G U W (i 0) (i 1) := by
  funext i
  idx_vars i
  pointwise [val_main_v80, val_main_v79]
  exact v19_at hx hg hu hw i0 i1

include hx ht hg hu hw hv he in
theorem dx2_at : val_main_v81 (F := Ideal) x0 x1 x2' x3 x4 x5 x6 = fun i => dx2 (x2 X G U W V) T E (i 0) (i 1) := by
  funext i
  idx_vars i
  pointwise [val_main_v81, val_main_v74, val_main_v73, val_main_v72, val_main_v71, val_main_v70, val_main_v69, val_main_v64, val_main_v63]
  rw [v58_at hx ht hg hu hw hv he, v30_at hx hg hu hw hv, v68_at hx ht hg hu hw hv he, v22_at hx hg hu hw hv, add_assoc]
  exact rms_grad _ (fun k => dy (x2 X G U W V) T E i0 k * E k) i1

include hx ht hg hu hw hv he in
theorem loss_at : val_main_v82 (F := Ideal) x0 x1 x2' x3 x4 x5 x6 = fun _ => loss (x2 X G U W V) T E := by
  funext i
  idx_vars i
  pointwise [val_main_v82]
  exact v47_at hx ht hg hu hw hv he _

include hx ht hg hu hw hv he in
theorem dgf_at : val_main_v83 (F := Ideal) x0 x1 x2' x3 x4 x5 x6 = fun i => dgf (x2 X G U W V) T E (i 1) := by
  funext i
  idx_vars i
  pointwise [val_main_v83, val_main_v59, val_main_cst_15, val_main_v56, val_main_v55, val_main_cst_14, val_main_v54]
  rw [hostReduceAdd_last]
  pointwise
  simp only [v35_at hx hg hu hw hv, v53_at hx ht hg hu hw hv he, zero_add]
  exact Finset.sum_congr rfl fun r _ => mul_comm _ _

end Cert.FfnFwdRefIdeal.Ref

end
-- ==== Proof.FfnFwdClaim.lean ====
/-
  THE CLAIMS ABOUT THE FEED-FORWARD BLOCK WITH THE LOSS, one theorem each.
-/
module

public import proofs.«01_k».proof.Defs
public import proofs.«01_k».proof.Proof.FfnFwdValue
public import proofs.«01_k».proof.Proof.FfnFwdRef
public import proofs.«01_k».proof.Proof.Gen.FfnFwd.Frame
public import proofs.«01_k».proof.Proof.Gen.FfnFwdIdeal.Frame
public import Idealize.ShloMosaic.Lib.Quiescent

@[expose] public section

noncomputable section

namespace Cert.FfnFwdClaim

open Idealize.ShloMosaic Idealize.SL.Sem
open Cert.RealFacts Cert.FfnBwdMath Cert.FfnFwdMath

theorem frame_ref : Cert.quiescent_FfnFwdRefIdeal := fun m ρ _ => (θ_run (Cert.FfnFwdRefIdeal.defs (F := Ideal)) _ _).mono
  (fun r h => ⟨fun c => (h c).2.2.2.2.2.2.2, Idealize.ShloMosaic.sem_eq_zero_of_no_sems (by decide) r.2⟩) (Cert.FfnFwdRefIdeal.Value.run (F := Ideal) m ρ)

set_option maxHeartbeats 4000000 in
/-- Both programs leave the same seven arrays, whatever the arguments hold. -/
theorem algebraic : Cert.algebraic_FfnFwdIdeal_FfnFwdRefIdeal := by
  intro m g m' g' _ hag
  refine ⟨fun c => (Cert.FfnFwdIdeal.Gen.dats m 0 c).arrAt 7 Cert.FfnFwdIdeal.cfg0.N,
    fun c => (Cert.FfnFwdIdeal.Gen.dats m 0 c).arrAt 8 Cert.FfnFwdIdeal.cfg0.N,
    fun c => (Cert.FfnFwdIdeal.Gen.dats m 0 c).arrAt 9 Cert.FfnFwdIdeal.cfg0.N,
    fun c => (Cert.FfnFwdIdeal.Gen.dats m 0 c).arrAt 10 Cert.FfnFwdIdeal.cfg0.N,
    fun c => (Cert.FfnFwdIdeal.Gen.dats m 0 c).arrAt 11 Cert.FfnFwdIdeal.cfg0.N,
    fun c => (Cert.FfnFwdIdeal.Gen.dats m 0 c).arrAt 12 Cert.FfnFwdIdeal.cfg0.N,
    fun c => (Cert.FfnFwdIdeal.Gen.dats m 0 c).arrAt 13 Cert.FfnFwdIdeal.cfg0.N,
    Cert.FfnFwdIdeal.Value.run_blocks (F := Ideal) m g, ?_⟩
  refine (θ_run _ _ _).mono (fun r h c => ?_) (Cert.FfnFwdRefIdeal.Value.run (F := Ideal) m' g')
  obtain ⟨e0, e1, e2, e3, e4, e5, e6⟩ := hag c
  refine ⟨(h c).1.trans ?_, (h c).2.1.trans ?_, (h c).2.2.1.trans ?_, (h c).2.2.2.1.trans ?_, (h c).2.2.2.2.1.trans ?_, (h c).2.2.2.2.2.1.trans ?_, (h c).2.2.2.2.2.2.1.trans ?_, (h c).2.2.2.2.2.2.2⟩
  · rw [Cert.FfnFwdRefIdeal.Read.val_main_v76_eq, e0, e2]
    exact (Cert.FfnFwdRefIdeal.Ref.h_at (fun _ _ => rfl) (fun _ => rfl)).trans
      (Cert.FfnFwdIdeal.Body.final7 (fun _ _ => rfl) (fun _ => rfl)).symm
  · rw [Cert.FfnFwdRefIdeal.Read.val_main_v77_eq, e0, e2, e3]
    exact (Cert.FfnFwdRefIdeal.Ref.gate_at (fun _ _ => rfl) (fun _ => rfl) (fun _ _ => rfl)).trans
      (Cert.FfnFwdIdeal.Body.final8 (fun _ _ => rfl) (fun _ => rfl) (fun _ _ => rfl)).symm
  · rw [Cert.FfnFwdRefIdeal.Read.val_main_v78_eq, e0, e2, e4]
    exact (Cert.FfnFwdRefIdeal.Ref.up_at (fun _ _ => rfl) (fun _ => rfl) (fun _ _ => rfl)).trans
      (Cert.FfnFwdIdeal.Body.final9 (fun _ _ => rfl) (fun _ => rfl) (fun _ _ => rfl)).symm
  · rw [Cert.FfnFwdRefIdeal.Read.val_main_v80_eq, e0, e2, e3, e4]
    exact (Cert.FfnFwdRefIdeal.Ref.act_at (fun _ _ => rfl) (fun _ => rfl) (fun _ _ => rfl) (fun _ _ => rfl)).trans
      (Cert.FfnFwdIdeal.Body.final10 (fun _ _ => rfl) (fun _ => rfl) (fun _ _ => rfl) (fun _ _ => rfl)).symm
  · rw [Cert.FfnFwdRefIdeal.Read.val_main_v81_eq, e0, e1, e2, e3, e4, e5, e6]
    exact (Cert.FfnFwdRefIdeal.Ref.dx2_at (fun _ _ => rfl) (fun _ _ => rfl) (fun _ => rfl) (fun _ _ => rfl) (fun _ _ => rfl) (fun _ _ => rfl) (fun _ => rfl)).trans
      (Cert.FfnFwdIdeal.Body.final11 (fun _ _ => rfl) (fun _ _ => rfl) (fun _ => rfl) (fun _ _ => rfl) (fun _ _ => rfl) (fun _ _ => rfl) (fun _ => rfl)).symm
  · rw [Cert.FfnFwdRefIdeal.Read.val_main_v82_eq, e0, e1, e2, e3, e4, e5, e6]
    exact (Cert.FfnFwdRefIdeal.Ref.loss_at (fun _ _ => rfl) (fun _ _ => rfl) (fun _ => rfl) (fun _ _ => rfl) (fun _ _ => rfl) (fun _ _ => rfl) (fun _ => rfl)).trans
      (Cert.FfnFwdIdeal.Body.final12 (fun _ _ => rfl) (fun _ _ => rfl) (fun _ => rfl) (fun _ _ => rfl) (fun _ _ => rfl) (fun _ _ => rfl) (fun _ => rfl)).symm
  · rw [Cert.FfnFwdRefIdeal.Read.val_main_v83_eq, e0, e1, e2, e3, e4, e5, e6]
    exact (Cert.FfnFwdRefIdeal.Ref.dgf_at (fun _ _ => rfl) (fun _ _ => rfl) (fun _ => rfl) (fun _ _ => rfl) (fun _ _ => rfl) (fun _ _ => rfl) (fun _ => rfl)).trans
      (Cert.FfnFwdIdeal.Body.final13 (fun _ _ => rfl) (fun _ _ => rfl) (fun _ => rfl) (fun _ _ => rfl) (fun _ _ => rfl) (fun _ _ => rfl) (fun _ => rfl)).symm

end Cert.FfnFwdClaim

end
-- ==== Proof.InprojWgradMath.lean ====
/-
  THE INPUT PROJECTION'S WEIGHT GRADIENT, IN PLAIN SUMS: the gradient of the projection `h · w` at its weight, where
  `h` is the normalized input times the gain, and the order in which both programs lay out the columns of the incoming
  gradient.
-/
module

public import proofs.«01_k».proof.Proof.RealFacts

@[expose] public section

noncomputable section

namespace Cert.InprojWgradMath

open Idealize.ShloMosaic
open Cert.RealFacts
open scoped BigOperators

/-- One entry of the normalized input times the gain. -/
def hidden {n : ℕ} (x : Fin n → Fin 1024 → EReal) (g : Fin 1024 → EReal) (r : Fin n) (j : Fin 1024) : EReal := x r j * rmsE (x r) * g j

/-- The gradient of the weight, its rows the columns of the projection. -/
def dw (x : Fin 8192 → Fin 1024 → EReal) (g : Fin 1024 → EReal) (p : Fin 8192 → Fin 2592 → EReal) (k : Fin 2592) (j : Fin 1024) : EReal :=
  ∑ r, p r k * hidden x g r j

/-- A row of the incoming gradient in the packed order: the first 1536 columns, the last 1024, the 32 between, and zeros. -/
def packed (f : Fin 2592 → EReal) (k : Fin 2688) : EReal :=
  if h : k.val < 1536 then f ⟨k.val, by omega⟩
  else if h : k.val < 2560 then f ⟨1568 + (k.val - 1536), by omega⟩
  else if h : k.val < 2592 then f ⟨1536 + (k.val - 2560), by omega⟩ else 0

theorem packed_first (f : Fin 2592 → EReal) (k : ℕ) (h : k < 1536) : packed f ⟨k, by omega⟩ = f ⟨k, by omega⟩ := dif_pos h

theorem packed_last (f : Fin 2592 → EReal) (k : ℕ) (h : k < 1024) : packed f ⟨1536 + k, by omega⟩ = f ⟨1568 + k, by omega⟩ := by
  unfold packed
  rw [dif_neg (by dsimp only; omega), dif_pos (by dsimp only; omega)]
  simp only [Nat.add_sub_cancel_left]

theorem packed_between (f : Fin 2592 → EReal) (k : ℕ) (h : k < 32) : packed f ⟨2560 + k, by omega⟩ = f ⟨1536 + k, by omega⟩ := by
  unfold packed
  rw [dif_neg (by dsimp only; omega), dif_neg (by dsimp only; omega), dif_pos (by dsimp only; omega)]
  simp only [Nat.add_sub_cancel_left]

theorem packed_zero (f : Fin 2592 → EReal) (k : ℕ) (h : ¬k < 32) (hk : k < 128) : packed f ⟨2560 + k, by omega⟩ = 0 := by
  unfold packed
  rw [dif_neg (by dsimp only; omega), dif_neg (by dsimp only; omega), dif_neg (by dsimp only; omega)]

end Cert.InprojWgradMath

end
-- ==== Proof.InprojWgradBody.lean ====
/-
  THE BODY OF THE INPUT PROJECTION'S WEIGHT GRADIENT, ENTRY BY ENTRY: what each payload of the kernel computes from the
  blocks it reads.
-/
module

public import proofs.«01_k».proof.Proof.InprojWgradMath
public import proofs.«01_k».proof.Proof.Gen.InprojWgradIdeal.Value
public import Idealize.ShloMosaic.Lib.Pipeline.ValueKit

@[expose] public section

set_option maxRecDepth 16384

noncomputable section

namespace Cert.InprojWgradIdeal.Body

open Cert.InprojWgradIdeal Cert.InprojWgradIdeal.Gen Idealize.ShloMosaic Idealize.ShloMosaic.TcCoe Idealize.SL.Sem
open Cert.RealFacts Cert.InprojWgradMath
open scoped BigOperators

variable (x : FVec Ideal S512x1024 .f32) (g : FVec Ideal S1x1024 .f32)

/-- The normalized block times the gain. -/
theorem hidden_at (r : Fin 512) (j : Fin 1024) :
    k0_pay10 (F := Ideal) x g (ix2 r j) = hidden (fun r k => x (ix2 r k)) (fun k => g (ix2 0 k)) r j := by
  pointwise [k0_pay10]
  simp only [ofBits_1024, ofBits_eps]
  rfl

/-- What one block adds to the first 1536 rows of the weight's gradient. -/
theorem dwa_at (acc : FVec Ideal S1536x1024 .f32) (p : FVec Ideal S512x1536 .bf16) (k : Fin 1536) (j : Fin 1024) :
    k0_pay11 (F := Ideal) x g acc p (ix2 k j)
      = acc (ix2 k j) + ∑ r : Fin 512, p (ix2 r k) * hidden (fun r k => x (ix2 r k)) (fun k => g (ix2 0 k)) r j := by
  pointwise [k0_pay11]
  simp only [hidden_at]

/-- … to the last 1024 … -/
theorem dwb_at (acc : FVec Ideal S1024x1024 .f32) (p : FVec Ideal S512x1024 .bf16) (k : Fin 1024) (j : Fin 1024) :
    k0_pay12 (F := Ideal) x g acc p (ix2 k j)
      = acc (ix2 k j) + ∑ r : Fin 512, p (ix2 r k) * hidden (fun r k => x (ix2 r k)) (fun k => g (ix2 0 k)) r j := by
  pointwise [k0_pay12]
  simp only [hidden_at]

/-- … and to the 32 between. -/
theorem dwc_at (acc : FVec Ideal S32x1024 .f32) (p : FVec Ideal S512x128 .bf16) (k : Fin 32) (j : Fin 1024) :
    k0_pay1 (F := Ideal) (k0_pay10 x g) (k0_pay13 acc) p (ix2 k j)
      = acc (ix2 k j) + ∑ r : Fin 512, p (ix2 r ⟨k.val, by omega⟩) * hidden (fun r k => x (ix2 r k)) (fun k => g (ix2 0 k)) r j := by
  pointwise [k0_pay1, k0_pay13]
  simp only [hidden_at]

theorem zero_at (i : S2592x1024.Idx) : k0_pay2 (F := Ideal) i = 0 := by pointwise [k0_pay2]

end Cert.InprojWgradIdeal.Body

end
-- ==== Proof.InprojWgradValue.lean ====
/-
  THE INPUT PROJECTION'S WEIGHT GRADIENT, THE KERNEL'S ARRAYS: where the arguments hold `X`, `G`, `P`, the first
  result holds `Cert.InprojWgradMath.dw`, summed over the tiles of rows, and the second the rows of `P` in the packed
  order.
-/
module

public import proofs.«01_k».proof.Proof.InprojWgradBody
public import Idealize.ShloMosaic.Lib.Pipeline.ReadBack

@[expose] public section

set_option maxRecDepth 16384

noncomputable section

namespace Cert.InprojWgradIdeal.Body

open Cert.InprojWgradIdeal Cert.InprojWgradIdeal.Gen Idealize.ShloMosaic Idealize.ShloMosaic.TcCoe Idealize.SL.Sem
open Cert.RealFacts Cert.InprojWgradMath
open scoped BigOperators

/-! ## The packed rows of one tile -/

/-- The seven stores of the packed rows, the last first. -/
def stores (a2 a3 : FVec Ideal S512x256 .bf16) (a4 a5 a6 a7 : FVec Ideal S512x512 .bf16) (a8 : FVec Ideal S512x128 .bf16) :
    List (View.Piece (Elt Ideal) S512x2688 .bf16) :=
  [⟨Rect.unit ![0, 2560] ![512, 128] inb_S512x2688_S512x128_0_2560, k0_pay9 (F := Ideal) a8⟩,
    ⟨Rect.unit ![0, 2048] ![512, 512] inb_S512x2688_S512x512_0_2048, k0_pay8 (F := Ideal) a7⟩,
    ⟨Rect.unit ![0, 1536] ![512, 512] inb_S512x2688_S512x512_0_1536, k0_pay7 (F := Ideal) a6⟩,
    ⟨Rect.unit ![0, 1024] ![512, 512] inb_S512x2688_S512x512_0_1024, k0_pay6 (F := Ideal) a5⟩,
    ⟨Rect.unit ![0, 512] ![512, 512] inb_S512x2688_S512x512_0_512, k0_pay5 (F := Ideal) a4⟩,
    ⟨Rect.unit ![0, 256] ![512, 256] inb_S512x2688_S512x256_0_256, k0_pay4 (F := Ideal) a3⟩,
    ⟨Rect.unit ![0, 0] ![512, 256] inb_S512x2688_S512x256_0_0, k0_pay3 (F := Ideal) a2⟩]

/-- One store of columns of the packed rows is a block of them. -/
theorem block_packed {w : ℕ} (off : ℕ) (inb : ∀ a, (![0, off] : Fin 2 → ℕ) a + (![512, w] : Fin 2 → ℕ) a ≤ S512x2688.size a) (hw : off + w ≤ 2688)
    {a : FVec Ideal ⟨2, ![512, w]⟩ .bf16} {f : Fin 512 → Fin 2592 → EReal} (h : ∀ r (k : Fin w), a (ix2 r k) = packed (f r) ⟨off + k.val, by have := k.isLt; omega⟩)
    (x : (Rect.unit (s := S512x2688) ![0, off] ![512, w] inb).shape.Idx) :
    a x = packed (f ((Rect.unit (s := S512x2688) ![0, off] ![512, w] inb).emb x 0)) ((Rect.unit (s := S512x2688) ![0, off] ![512, w] inb).emb x 1) := by
  obtain ⟨r, k, rfl⟩ : ∃ r k, x = ix2 r k := ⟨_, _, eq_ix2 x⟩
  have e0 : (Rect.unit (s := S512x2688) ![0, off] ![512, w] inb).emb (ix2 r k) 0 = r := Fin.ext (by show 0 + 1 * r.val = r.val; omega)
  have e1 : (Rect.unit (s := S512x2688) ![0, off] ![512, w] inb).emb (ix2 r k) 1 = (⟨off + k.val, by have := k.isLt; omega⟩ : Fin 2688) := Fin.ext (by show off + 1 * k.val = off + k.val; omega)
  rw [e0, e1]
  exact h r k

theorem pay3 (a : FVec Ideal S512x256 .bf16) : k0_pay3 (F := Ideal) a = a := by funext j; idx_vars j; pointwise [k0_pay3]
theorem pay4 (a : FVec Ideal S512x256 .bf16) : k0_pay4 (F := Ideal) a = a := pay3 a
theorem pay5 (a : FVec Ideal S512x512 .bf16) : k0_pay5 (F := Ideal) a = a := by funext j; idx_vars j; pointwise [k0_pay5]
theorem pay6 (a : FVec Ideal S512x512 .bf16) : k0_pay6 (F := Ideal) a = a := pay5 a
theorem pay7 (a : FVec Ideal S512x512 .bf16) : k0_pay7 (F := Ideal) a = a := pay5 a
theorem pay8 (a : FVec Ideal S512x512 .bf16) : k0_pay8 (F := Ideal) a = a := pay5 a
theorem pay9 (a : FVec Ideal S512x128 .bf16) : k0_pay9 (F := Ideal) a = a := by funext j; idx_vars j; pointwise [k0_pay9]

section Tile

variable {a2 a3 : FVec Ideal S512x256 .bf16} {a4 a5 a6 a7 : FVec Ideal S512x512 .bf16} {a8 : FVec Ideal S512x128 .bf16}
variable {f : Fin 512 → Fin 2592 → EReal}
variable (h2 : ∀ r (k : Fin 256), a2 (ix2 r k) = packed (f r) ⟨0 + k.val, by omega⟩)
variable (h3 : ∀ r (k : Fin 256), a3 (ix2 r k) = packed (f r) ⟨256 + k.val, by omega⟩)
variable (h4 : ∀ r (k : Fin 512), a4 (ix2 r k) = packed (f r) ⟨512 + k.val, by omega⟩)
variable (h5 : ∀ r (k : Fin 512), a5 (ix2 r k) = packed (f r) ⟨1024 + k.val, by omega⟩)
variable (h6 : ∀ r (k : Fin 512), a6 (ix2 r k) = packed (f r) ⟨1536 + k.val, by omega⟩)
variable (h7 : ∀ r (k : Fin 512), a7 (ix2 r k) = packed (f r) ⟨2048 + k.val, by omega⟩)
variable (h8 : ∀ r (k : Fin 128), a8 (ix2 r k) = packed (f r) ⟨2560 + k.val, by omega⟩)

include h2 h3 h4 h5 h6 h7 h8

/-- The seven stores leave the packed rows. -/
theorem stores_packed : View.canon (stores a2 a3 a4 a5 a6 a7 a8) = fun i => packed (f (i 0)) (i 1) := by
  have h : View.PiecesOf (Val := Elt Ideal) (s := S512x2688) (e := .bf16) (fun i => packed (f (i 0)) (i 1)) (stores a2 a3 a4 a5 a6 a7 a8) :=
    ⟨fun x => (congrFun (pay9 a8) x).trans (block_packed 2560 inb_S512x2688_S512x128_0_2560 (by omega) h8 x), fun x => (congrFun (pay8 a7) x).trans (block_packed 2048 inb_S512x2688_S512x512_0_2048 (by omega) h7 x),
      fun x => (congrFun (pay7 a6) x).trans (block_packed 1536 inb_S512x2688_S512x512_0_1536 (by omega) h6 x), fun x => (congrFun (pay6 a5) x).trans (block_packed 1024 inb_S512x2688_S512x512_0_1024 (by omega) h5 x),
      fun x => (congrFun (pay5 a4) x).trans (block_packed 512 inb_S512x2688_S512x512_0_512 (by omega) h4 x), fun x => (congrFun (pay4 a3) x).trans (block_packed 256 inb_S512x2688_S512x256_0_256 (by omega) h3 x),
      fun x => (congrFun (pay3 a2) x).trans (block_packed 0 inb_S512x2688_S512x256_0_0 (by omega) h2 x), trivial⟩
  funext y
  exact View.canon_apply_of_pieces (fun i => packed (f (i 0)) (i 1)) _ h.mem y (View.cover_of_tiledBy (stores a2 a3 a4 a5 a6 a7 a8) ![512, 128] (by sl_kernel_rfl) y)

end Tile

/-- The packed rows, loaded back: `w` columns from column `off` on. -/
theorem load_packed {L : List (View.Piece (Elt Ideal) S512x2688 .bf16)} {f : Fin 512 → Fin 2592 → EReal}
    (hL : View.canon L = (fun i => packed (f (i 0)) (i 1) : S512x2688.Idx → EReal)) {sig : RefSig} {κ : Kind} {sp : Space} (v : View sig κ sp S512x2688 .bf16) (off w : ℕ)
    (inb : ∀ a, (![0, off] : Fin 2 → ℕ) a + (![512, w] : Fin 2 → ℕ) a ≤ S512x2688.size a) (hw : off + w ≤ 2688) (r : Fin 512) (k : Fin w) :
    v.readCov L (Rect.unit (s := S512x2688) ![0, off] ![512, w] inb).toLoadRect (ix2 r k)
      = packed (f r) ⟨off + k.val, by have := k.isLt; omega⟩ := by
  rw [View.readCov_eq_canon', hL]
  have e0 : (Rect.unit (s := S512x2688) ![0, off] ![512, w] inb).toLoadRect.idx (ix2 r k) 0 = r := Fin.ext (by show 0 + 1 * r.val = r.val; omega)
  have e1 : (Rect.unit (s := S512x2688) ![0, off] ![512, w] inb).toLoadRect.idx (ix2 r k) 1 = (⟨off + k.val, by have := k.isLt; omega⟩ : Fin 2688) :=
    Fin.ext (by show off + 1 * k.val = off + k.val; omega)
  dsimp only
  rw [e0, e1]

/-- Rows of an array, loaded: `w` rows from row `off` on. -/
theorem load_rows (acc : FVec Ideal S2592x1024 .f32) (off w : ℕ) (inb : ∀ a, (![off, 0] : Fin 2 → ℕ) a + (![w, 1024] : Fin 2 → ℕ) a ≤ S2592x1024.size a)
    (hw : off + w ≤ 2592) (k : Fin w) (j : Fin 1024) :
    View.ld (Val := Elt Ideal) (S := S2592x1024) (e' := .f32) acc (Rect.unit (s := S2592x1024) ![off, 0] ![w, 1024] inb) (ix2 k j)
      = acc (ix2 ⟨off + k.val, by have := k.isLt; omega⟩ j) := by
  refine congrArg acc (funext fun a => ?_)
  match a with
  | 0 => exact Fin.ext (by show off + 1 * k.val = off + k.val; omega)
  | 1 => exact Fin.ext (by show 0 + 1 * j.val = j.val; omega)

variable {x : FVec Ideal S512x1024 .f32} {g : FVec Ideal S1x1024 .f32} {acc : FVec Ideal S2592x1024 .f32} {f : Fin 512 → Fin 2592 → EReal}
variable {c1 : FVec Ideal S1536x1024 .f32} {c2 : FVec Ideal S1024x1024 .f32} {c3 : FVec Ideal S32x1024 .f32}
variable {p1 : FVec Ideal S512x1536 .bf16} {p2 : FVec Ideal S512x1024 .bf16} {p3 : FVec Ideal S512x128 .bf16}

/-- The three sums into the weight's gradient leave what was there plus this tile's product. -/
theorem sums_at (hc1 : ∀ k j, c1 (ix2 k j) = acc (ix2 ⟨0 + k.val, by omega⟩ j)) (hc2 : ∀ k j, c2 (ix2 k j) = acc (ix2 ⟨1568 + k.val, by omega⟩ j))
    (hc3 : ∀ k j, c3 (ix2 k j) = acc (ix2 ⟨1536 + k.val, by omega⟩ j))
    (hp1 : ∀ r k, p1 (ix2 r k) = packed (f r) ⟨0 + k.val, by omega⟩) (hp2 : ∀ r k, p2 (ix2 r k) = packed (f r) ⟨1536 + k.val, by omega⟩)
    (hp3 : ∀ r k, p3 (ix2 r k) = packed (f r) ⟨2560 + k.val, by omega⟩) (L' : List (View.Piece (Elt Ideal) S2592x1024 .f32)) (y : S2592x1024.Idx) :
    View.canon (Val := Elt Ideal) (s := S2592x1024) (e := .f32) (⟨Rect.unit ![1536, 0] ![32, 1024] inb_S2592x1024_S32x1024_1536_0, k0_pay1 (F := Ideal) (k0_pay10 x g) (k0_pay13 c3) p3⟩
        :: ⟨Rect.unit ![1568, 0] ![1024, 1024] inb_S2592x1024_S1024x1024_1568_0, k0_pay12 (F := Ideal) x g c2 p2⟩
        :: ⟨Rect.unit ![0, 0] ![1536, 1024] inb_S2592x1024_S1536x1024_0_0, k0_pay11 (F := Ideal) x g c1 p1⟩ :: L') y
      = acc y + ∑ r : Fin 512, f r (y 0) * hidden (fun r k => x (ix2 r k)) (fun k => g (ix2 0 k)) r (y 1) := by
  let T : S2592x1024.Idx → EReal := fun y => acc y + ∑ r : Fin 512, f r (y 0) * hidden (fun r k => x (ix2 r k)) (fun k => g (ix2 0 k)) r (y 1)
  refine View.canon_append_of_piecesOf (Val := Elt Ideal) (s := S2592x1024) (e := .f32) T L'
    [⟨Rect.unit ![1536, 0] ![32, 1024] inb_S2592x1024_S32x1024_1536_0, _⟩, ⟨Rect.unit ![1568, 0] ![1024, 1024] inb_S2592x1024_S1024x1024_1568_0, _⟩,
      ⟨Rect.unit ![0, 0] ![1536, 1024] inb_S2592x1024_S1536x1024_0_0, _⟩] ⟨fun z => ?_, fun z => ?_, fun z => ?_, trivial⟩ y
    (View.cover_of_tiledBy _ ![32, 1024] (by sl_kernel_rfl) y)
  · idx_vars z
    have e : (Rect.unit (s := S2592x1024) ![1536, 0] ![32, 1024] inb_S2592x1024_S32x1024_1536_0).emb (ix2 z0 z1) = ix2 ⟨1536 + z0.val, by omega⟩ z1 := by blk_ext
    exact (dwc_at x g c3 p3 z0 z1).trans ((congrArg₂ (· + ·) (hc3 z0 z1) (Finset.sum_congr rfl fun r _ => congrArg (· * _)
      ((hp3 r _).trans (packed_between (f r) z0.val z0.isLt)))).trans (congrArg T e.symm))
  · idx_vars z
    have e : (Rect.unit (s := S2592x1024) ![1568, 0] ![1024, 1024] inb_S2592x1024_S1024x1024_1568_0).emb (ix2 z0 z1) = ix2 ⟨1568 + z0.val, by omega⟩ z1 := by blk_ext
    exact (dwb_at x g c2 p2 z0 z1).trans ((congrArg₂ (· + ·) (hc2 z0 z1) (Finset.sum_congr rfl fun r _ => congrArg (· * _)
      ((hp2 r _).trans (packed_last (f r) z0.val z0.isLt)))).trans (congrArg T e.symm))
  · idx_vars z
    have e : (Rect.unit (s := S2592x1024) ![0, 0] ![1536, 1024] inb_S2592x1024_S1536x1024_0_0).emb (ix2 z0 z1) = ix2 ⟨0 + z0.val, by omega⟩ z1 := by blk_ext
    exact (dwa_at x g c1 p1 z0 z1).trans ((congrArg₂ (· + ·) (hc1 z0 z1) (Finset.sum_congr rfl fun r _ => congrArg (· * _)
      ((hp1 r _).trans (packed_first (f r) (0 + z0.val) (by omega))))).trans (congrArg T e.symm))

/-! ## The blocks a grid point reads -/

variable (m : (ℓ : Loc nD τ sig) → Buf (Elt Ideal) ℓ)

/-- The block each window holds at a grid point. -/
theorem idx : ∀ t : Fin cfg0.N, win0_0.index t = ![t.val, 0] ∧ win0_1.index t = ![0, 0] ∧ win0_2.index t = ![t.val, 0]
    ∧ win0_3.index t = ![t.val, 0] ∧ win0_4.index t = ![t.val, 0] ∧ win0_5.index t = ![t.val, 0] ∧ win0_6.index t = ![t.val, 0]
    ∧ win0_7.index t = ![t.val, 0] ∧ win0_8.index t = ![t.val, 0] ∧ win0_9.index t = ![0, 0] ∧ win0_10.index t = ![t.val, 0] :=
  (by decide +kernel : ∀ t : Fin grid0.N, _)

/-- Row `r` of the tile at point `t`. -/
def row (t : Fin cfg0.N) (r : Fin 512) : Fin 8192 := ⟨t.val * 512 + r.val, by have := t.isLt; have : cfg0.N = 16 := N_0; omega⟩

theorem x_blk (c : Dev nD) (t : Fin cfg0.N) (r : Fin 512) (k : Fin 1024) :
    (show FVec Ideal S512x1024 .f32 from iblk m c 0 t) (ix2 r k) = m ((c : Thread nD τ).loc main_arg0) (ix3 0 (row t r) k) := by
  unfold row; blk_simp [iblk, idx t]; entry_read; pointwise; blk_ext [idx t]

theorem g_blk (c : Dev nD) (t : Fin cfg0.N) (k : Fin 1024) :
    (show FVec Ideal S1x1024 .f32 from iblk m c 1 t) (ix2 0 k) = m ((c : Thread nD τ).loc main_arg1) (ix2 0 k) := by
  blk_simp [iblk, idx t]; entry_read; blk_ext [idx t]

set_option maxHeartbeats 1000000 in
/-- The blocks of the incoming gradient's columns: each is a slice of the columns as they arrive. -/
theorem cols_blk (c : Dev nD) (t : Fin cfg0.N) (r : Fin 512) (p : Fin 8192 → Fin 2592 → EReal) (hp : ∀ r k, m ((c : Thread nD τ).loc main_arg2) (ix3 0 r k) = p r k) :
    (∀ k : Fin 256, (show FVec Ideal S512x256 .bf16 from iblk m c 2 t) (ix2 r k) = p (row t r) ⟨0 + k.val, by omega⟩)
    ∧ (∀ k : Fin 256, (show FVec Ideal S512x256 .bf16 from iblk m c 3 t) (ix2 r k) = p (row t r) ⟨256 + k.val, by omega⟩)
    ∧ (∀ k : Fin 512, (show FVec Ideal S512x512 .bf16 from iblk m c 4 t) (ix2 r k) = p (row t r) ⟨512 + k.val, by omega⟩)
    ∧ (∀ k : Fin 512, (show FVec Ideal S512x512 .bf16 from iblk m c 5 t) (ix2 r k) = p (row t r) ⟨1024 + k.val, by omega⟩)
    ∧ (∀ k : Fin 512, (show FVec Ideal S512x512 .bf16 from iblk m c 6 t) (ix2 r k) = p (row t r) ⟨1568 + k.val, by omega⟩)
    ∧ (∀ k : Fin 512, (show FVec Ideal S512x512 .bf16 from iblk m c 7 t) (ix2 r k) = p (row t r) ⟨2080 + k.val, by omega⟩) := by
  refine ⟨?_, ?_, ?_, ?_, ?_, ?_⟩ <;> intro k <;> rw [← hp] <;> unfold row <;> blk_simp [iblk, idx t] <;> entry_read <;> pointwise <;> blk_ext [idx t]

/-- The 32 columns between and the columns of zeros after them, as the host lines lay them out. -/
theorem lr_all (c : Dev nD) (r : Fin 8192) (k : Fin 128) :
    (show FVec Ideal S8192x128 .bf16 from V m c main_v4) (ix2 r k)
      = if h : k.val < 32 then m ((c : Thread nD τ).loc main_arg2) (ix3 0 r ⟨1536 + k.val, by omega⟩) else (0 : EReal) := by
  unfold V hostOps0
  simp only [Idealize.ShloMosaic.StableHlo.after_cons, Idealize.ShloMosaic.StableHlo.after_nil]
  after_results_simp
  pointwise

theorem lr_blk (c : Dev nD) (t : Fin cfg0.N) (r : Fin 512) (k : Fin 128) :
    (show FVec Ideal S512x128 .bf16 from iblk m c 8 t) (ix2 r k) = (show FVec Ideal S8192x128 .bf16 from V m c main_v4) (ix2 (row t r) k) := by
  unfold row; blk_ext [iblk, idx t]

/-! ## The two results -/

variable {m} {c : Dev nD} {X : Fin 8192 → Fin 1024 → EReal} {G : Fin 1024 → EReal} {P : Fin 8192 → Fin 2592 → EReal}
variable (hx : ∀ r k, m ((c : Thread nD τ).loc main_arg0) (ix3 0 r k) = X r k)
variable (hg : ∀ k, m ((c : Thread nD τ).loc main_arg1) (ix2 0 k) = G k)
variable (hp : ∀ r k, m ((c : Thread nD τ).loc main_arg2) (ix3 0 r k) = P r k)

include hp in
/-- The seven stores of a tile leave the packed rows. -/
theorem tile_packed (t : Fin cfg0.N) :
    View.canon (stores (iblk m c 2 t) (iblk m c 3 t) (iblk m c 4 t) (iblk m c 5 t) (iblk m c 6 t) (iblk m c 7 t) (iblk m c 8 t))
      = (fun i => packed (P (row t (i 0))) (i 1) : S512x2688.Idx → EReal) := by
  have h := fun r => cols_blk m c t r P hp
  refine stores_packed (f := fun r => P (row t r)) (fun r k => ?_) (fun r k => ?_) (fun r k => ?_) (fun r k => ?_) (fun r k => ?_) (fun r k => ?_) (fun r k => ?_)
  · exact ((h r).1 k).trans (packed_first _ _ (by omega)).symm
  · exact ((h r).2.1 k).trans (packed_first _ _ (by omega)).symm
  · exact ((h r).2.2.1 k).trans (packed_first _ _ (by omega)).symm
  · exact ((h r).2.2.2.1 k).trans (packed_first _ _ (by omega)).symm
  · exact ((h r).2.2.2.2.1 k).trans (packed_last _ _ (by omega)).symm
  · have e : packed (P (row t r)) ⟨1536 + (512 + k.val), by omega⟩ = P (row t r) ⟨1568 + (512 + k.val), by omega⟩ := packed_last _ _ (by omega)
    simp only [← Nat.add_assoc, Nat.reduceAdd] at e
    exact ((h r).2.2.2.2.2 k).trans e.symm
  · refine (lr_blk m c t r k).trans ((lr_all m c (row t r) k).trans ?_)
    by_cases hk : k.val < 32
    · rw [dif_pos hk, hp, packed_between _ _ hk]
    · rw [dif_neg hk, packed_zero _ _ hk k.isLt]

include hp in
/-- The second result: the rows of the incoming gradient in the packed order. -/
theorem final10 : (dats m 0 c).arrAt 10 cfg0.N = (show FVec Ideal S8192x2688 .bf16 from fun i => packed (P (i 0)) (i 1)) := by
  refine (dats m 0 c).arrAt_eq_of_covers 10 _ (by decide +kernel) fun t hf y => ?_
  blk_simp
  rw [after0_10]
  have e : (win0_10.blk t).view.emb y = ix2 (row t (y 0)) (y 1) := by idx_vars y; unfold row; blk_ext [idx t]
  refine Eq.trans ?_ (congrArg (fun i : S8192x2688.Idx => packed (P (i 0)) (i 1)) e.symm)
  by_cases h0 : t.val % 16 = 0
  · rw [outsAt0_A m c t h0]; frame_out
    exact congrFun (tile_packed hp t) y
  · rw [outsAt0_B m c t h0]; frame_out
    exact congrFun (tile_packed hp t) y

/-- The part of the weight's gradient that one tile adds. -/
def part (X : Fin 8192 → Fin 1024 → EReal) (G : Fin 1024 → EReal) (P : Fin 8192 → Fin 2592 → EReal) (t : Fin cfg0.N) (i : S2592x1024.Idx) : EReal :=
  ∑ r : Fin 512, P (row t r) (i 0) * hidden X G (row t r) (i 1)

include hx hg in
theorem part_blk (t : Fin cfg0.N) (i : S2592x1024.Idx) :
    (∑ r : Fin 512, P (row t r) (i 0) * hidden (fun r k => (show FVec Ideal S512x1024 .f32 from iblk m c 0 t) (ix2 r k))
      (fun k => (show FVec Ideal S1x1024 .f32 from iblk m c 1 t) (ix2 0 k)) r (i 1)) = part X G P t i := by
  refine Finset.sum_congr rfl fun r _ => congrArg (P (row t r) (i 0) * ·) ?_
  exact congrArg₂ (· * ·) (congrArg₂ (· * ·) ((x_blk m c t r (i 1)).trans (hx _ _)) (congrArg rmsE (funext fun k => (x_blk m c t r k).trans (hx _ _))))
    ((g_blk m c t (i 1)).trans (hg _))

include hx hg hp in
theorem dw_A (t : Fin cfg0.N) (h0 : t.val % 16 = 0) (i : S2592x1024.Idx) : (outsAt0 m c t.val t.isLt).1 i = 0 + part X G P t i := by
  rw [outsAt0_A m c t h0, ← part_blk hx hg t i]; frame_out
  refine sums_at (acc := fun _ => (0 : EReal)) (fun k j => ?_) (fun k j => ?_) (fun k j => ?_) (fun r k => load_packed (f := fun r => P (row t r)) (tile_packed hp t) _ 0 1536 _ (by omega) r k)
    (fun r k => load_packed (f := fun r => P (row t r)) (tile_packed hp t) _ 1536 1024 _ (by omega) r k) (fun r k => load_packed (f := fun r => P (row t r)) (tile_packed hp t) _ 2560 128 _ (by omega) r k) _ i
  · rw [View.readCov_fill _ _ _ _ _ (by decide), load_rows _ 0 1536 _ (by omega)]
    exact zero_at _
  · rw [View.readCov_skip _ _ _ _ _ (by rfl), View.readCov_fill _ _ _ _ _ (by decide), load_rows _ 1568 1024 _ (by omega)]
    exact zero_at _
  · rw [View.readCov_skip _ _ _ _ _ (by rfl), View.readCov_skip _ _ _ _ _ (by rfl), View.readCov_fill _ _ _ _ _ (by decide), load_rows _ 1536 32 _ (by omega)]
    exact zero_at _

include hx hg hp in
theorem dw_B (t : Fin cfg0.N) (h0 : ¬t.val % 16 = 0) (i : S2592x1024.Idx) :
    (outsAt0 m c t.val t.isLt).1 i = (outsAt0 m c (t.val - 1) (Nat.lt_of_le_of_lt (Nat.sub_le _ _) t.isLt)).1 i + part X G P t i := by
  rw [outsAt0_B m c t h0, ← part_blk hx hg t i]; frame_out
  exact sums_at (fun k j => load_rows _ 0 1536 _ (by omega) k j) (fun k j => load_rows _ 1568 1024 _ (by omega) k j) (fun k j => load_rows _ 1536 32 _ (by omega) k j)
    (fun r k => load_packed (f := fun r => P (row t r)) (tile_packed hp t) _ 0 1536 _ (by omega) r k)
    (fun r k => load_packed (f := fun r => P (row t r)) (tile_packed hp t) _ 1536 1024 _ (by omega) r k) (fun r k => load_packed (f := fun r => P (row t r)) (tile_packed hp t) _ 2560 128 _ (by omega) r k) [] i

include hx hg hp in
/-- The first result: the weight's gradient, summed over the tiles. -/
theorem final9 : (dats m 0 c).arrAt 9 cfg0.N = (show FVec Ideal S2592x1024 .f32 from fun i => dw X G P (i 0) (i 1)) := by
  refine (dats m 0 c).arrAt_eq_of_covers 9 _ (by decide +kernel) fun t hf y => ?_
  blk_simp
  rw [after0_9, Pipeline.eq_sum_fin_of_reset_step_apply_of_flush (fun n h => (outsAt0 m c n h).1) 16 (fun _ => 0) (part X G P)
    (fun t h j => dw_A hx hg hp t h j) (fun t h j => dw_B hx hg hp t h j) t ((flush0_9 t).mp hf) _, zero_add]
  idx_vars y
  have e : ((win0_9.blk t).view.emb (ix2 y0 y1)) = ix2 y0 y1 := by blk_ext [idx t]
  refine Eq.trans ?_ (congrArg (fun i : S2592x1024.Idx => dw X G P (i 0) (i 1)) e.symm)
  have ht : t.val < 16 := lt_of_lt_of_eq t.isLt N_0
  have key : (∑ s : Fin 16, part X G P ⟨16 * (t.val / 16) + s.val, Pipeline.run_point_lt_of_flush t ((flush0_9 t).mp hf) s⟩ (ix2 y0 y1)) = dw X G P y0 y1 := by
    unfold part dw
    rw [Fin.sum_univ_tiles 16 512 rfl]
    refine Finset.sum_congr rfl fun s _ => Finset.sum_congr rfl fun r _ => ?_
    have er : row ⟨16 * (t.val / 16) + s.val, Pipeline.run_point_lt_of_flush t ((flush0_9 t).mp hf) s⟩ r = ⟨s.val * 512 + r.val, by omega⟩ := by
      unfold row; apply Fin.ext; dsimp only; omega
    rw [er]
    rfl
  exact key

end Cert.InprojWgradIdeal.Body

end
-- ==== Proof.InprojWgradRef.lean ====
/-
  THE INPUT PROJECTION'S WEIGHT GRADIENT, THE REFERENCE'S ARRAYS: differentiating the forward line at the weight gives
  the same array the kernel leaves, and the incoming gradient is packed the same way.
-/
module

public import proofs.«01_k».proof.Proof.InprojWgradMath
public import proofs.«01_k».proof.Proof.Gen.InprojWgradRefIdeal.Read
public import Idealize.ShloMosaic.Lib.Pipeline.ValueKit

@[expose] public section

set_option maxRecDepth 16384

noncomputable section

namespace Cert.InprojWgradRefIdeal.Ref

open Cert.InprojWgradRefIdeal Cert.InprojWgradRefIdeal.Read Idealize.ShloMosaic Idealize.ShloMosaic.TcCoe Idealize.SL.Sem
open Cert.RealFacts Cert.InprojWgradMath
open scoped BigOperators

variable {x0 : FVec Ideal S1x8192x1024 .f32} {x1 : FVec Ideal S1x1024 .f32} {x2 : FVec Ideal S1x8192x2592 .f32}
variable {X : Fin 8192 → Fin 1024 → EReal} {G : Fin 1024 → EReal} {P : Fin 8192 → Fin 2592 → EReal}
variable (hx : ∀ r k, x0 (ix3 0 r k) = X r k)
variable (hg : ∀ k, x1 (ix2 0 k) = G k)
variable (hp : ∀ r k, x2 (ix3 0 r k) = P r k)

include hx in
/-- The mean of squares of each row plus epsilon. -/
theorem v8_at (r : Fin 8192) : val_main_v8 (F := Ideal) x0 (ix3 0 r 0) = msqE (X r) := by
  pointwise [val_main_v8, val_main_v7, val_main_cst_2, val_main_v6, val_main_v5, val_main_cst_1, val_main_v4, val_main_v3, val_main_cst_0, val_main_v2]
  simp only [hx, ofBits_1024, ofBits_eps, zero_add]
  rfl

include hx hg in
/-- The normalized rows times the gain. -/
theorem v14_at (r : Fin 8192) (j : Fin 1024) : val_main_v14 (F := Ideal) x0 x1 (ix3 0 r j) = InprojWgradMath.hidden X G r j := by
  pointwise [val_main_v14, val_main_v13, val_main_v12, val_main_v11, val_main_v10, val_main_v9, val_main_v1]
  rw [v8_at hx, hx, hg]
  rfl

include hx hg hp in
theorem dw_at : val_main_v25 (F := Ideal) x0 x1 x2 = fun i => dw X G P (i 0) (i 1) := by
  funext i
  idx_vars i
  pointwise [val_main_v25, val_main_v24, val_main_v19, val_main_v18, val_main_v17]
  rw [Fin.sum_univ_one]
  exact Finset.sum_congr rfl fun r _ => congrArg₂ (· * ·) (hp r i0) (v14_at hx hg r i1)

include hp in
theorem packed_at : val_main_v28 (F := Ideal) x2 = fun i => packed (P (i 0)) (i 1) := by
  funext i
  idx_vars i
  pointwise [val_main_v28, val_main_v27, val_main_v26, val_main_v23, val_main_v22, val_main_v21, val_main_v20]
  simp only [hp]
  refine dite_congr rfl (fun _ => rfl) fun h1 => ?_
  refine dite_congr (by apply propext; omega) (fun _ => rfl) fun h2 => ?_
  refine dite_congr (by apply propext; omega) (fun _ => ?_) fun h3 => ?_
  · have : i1.val - 1536 - 1024 = i1.val - 2560 := by omega
    simp only [this]
  · pointwise [val_main_call0_v0, val_main_c]
    exact (EReal.coe_eq_zero).mpr (by norm_num)

end Cert.InprojWgradRefIdeal.Ref

end
-- ==== Proof.InprojWgradClaim.lean ====
/-
  THE CLAIMS ABOUT THE INPUT PROJECTION'S WEIGHT GRADIENT, one theorem each.
-/
module

public import proofs.«01_k».proof.Defs
public import proofs.«01_k».proof.Proof.InprojWgradValue
public import proofs.«01_k».proof.Proof.InprojWgradRef
public import proofs.«01_k».proof.Proof.Gen.InprojWgrad.Frame
public import proofs.«01_k».proof.Proof.Gen.InprojWgradIdeal.Frame
public import Idealize.ShloMosaic.Lib.Quiescent

@[expose] public section

noncomputable section

namespace Cert.InprojWgradClaim

open Idealize.ShloMosaic Idealize.SL.Sem
open Cert.RealFacts Cert.InprojWgradMath

theorem frame_ref : Cert.quiescent_InprojWgradRefIdeal := fun m ρ _ => (θ_run (Cert.InprojWgradRefIdeal.defs (F := Ideal)) _ _).mono
  (fun r h => ⟨fun c => (h c).2.2, Idealize.ShloMosaic.sem_eq_zero_of_no_sems (by decide) r.2⟩) (Cert.InprojWgradRefIdeal.Value.run (F := Ideal) m ρ)

/-- Both programs leave the same two arrays, whatever the arguments hold. -/
theorem algebraic : Cert.algebraic_InprojWgradIdeal_InprojWgradRefIdeal := by
  intro m g m' g' _ hag
  refine ⟨fun c => (Cert.InprojWgradIdeal.Gen.dats m 0 c).arrAt 9 Cert.InprojWgradIdeal.cfg0.N, fun c => (Cert.InprojWgradIdeal.Gen.dats m 0 c).arrAt 10 Cert.InprojWgradIdeal.cfg0.N,
    Cert.InprojWgradIdeal.Value.run_blocks (F := Ideal) m g, ?_⟩
  refine (θ_run _ _ _).mono (fun r h c => ?_) (Cert.InprojWgradRefIdeal.Value.run (F := Ideal) m' g')
  obtain ⟨e0, e1, e2⟩ := hag c
  refine ⟨(h c).1.trans ?_, (h c).2.1.trans ?_, (h c).2.2⟩
  · rw [Cert.InprojWgradRefIdeal.Read.val_main_v25_eq, e0, e1, e2]
    exact (Cert.InprojWgradRefIdeal.Ref.dw_at (fun _ _ => rfl) (fun _ => rfl) (fun _ _ => rfl)).trans
      (Cert.InprojWgradIdeal.Body.final9 (fun _ _ => rfl) (fun _ => rfl) (fun _ _ => rfl)).symm
  · rw [Cert.InprojWgradRefIdeal.Read.val_main_v28_eq, e2]
    exact (Cert.InprojWgradRefIdeal.Ref.packed_at (fun _ _ => rfl)).trans (Cert.InprojWgradIdeal.Body.final10 (fun _ _ => rfl)).symm

end Cert.InprojWgradClaim

end
-- ==== Proof.MixerOutMath.lean ====
/-
  THE MIXER'S OUTPUT AS PLAIN FUNCTIONS: the head norm with its gate, the gelu, the layer norm, the spatial gating within
  chunks of 128 rows, and the output projection. Both programs compute these.
-/
module

public import proofs.«01_k».proof.Proof.GateFacts

@[expose] public section

noncomputable section

namespace Cert.MixerOutMath

open Idealize.ShloMosaic
open Cert.RealFacts
open scoped BigOperators

theorem ofBits_128 : Ideal.ofBits .f32 0x43000000#32 = ((128 : ℝ) : EReal) := by
  simp [Ideal.ofBits, Ideal.ieee, -EReal.coe_mul]; norm_num

theorem ofBits_512 : Ideal.ofBits .f32 0x44000000#32 = ((512 : ℝ) : EReal) := by
  simp [Ideal.ofBits, Ideal.ieee, -EReal.coe_mul]; norm_num

/-- The gelu, its two constants as the programs write them: a half and the square root of a half. -/
def gelu (a : EReal) : EReal := Ideal.ofBits .f32 0x3F000000#32 * a * (1 + Ideal.erf (a * Ideal.ofBits .f32 0x3F3504F3#32))

/-- The head norm's factor. -/
def headRms (o : Fin 128 → EReal) : EReal := Ideal.rsqrt (Ideal.div (∑ j, o j * o j) ((128 : ℝ) : EReal) + ((eps : ℝ) : EReal))

/-- A row less its mean. -/
def center (z : Fin 512 → EReal) (k : Fin 512) : EReal := z k - Ideal.div (∑ j, z j) ((512 : ℝ) : EReal)

/-- The layer norm of a row, before gain and bias. -/
def layer (z : Fin 512 → EReal) (k : Fin 512) : EReal :=
  center z k * Ideal.rsqrt (Ideal.div (∑ j, center z j * center z j) ((512 : ℝ) : EReal) + ((eps : ℝ) : EReal))

/-- What the call takes: the input rows `X`, the two directions' outputs `A` and `B` by heads, the projected rows `P`, the
    gain `gn` of the head norm, the gain `lg` and bias `lb` of the layer norm, the spatial weight `S` and bias `b`, and the
    output weight `W`. -/
structure Args where
  X : Fin 8192 → Fin 1024 → EReal
  A : Fin 8192 → Fin 4 → Fin 128 → EReal
  B : Fin 8192 → Fin 4 → Fin 128 → EReal
  P : Fin 8192 → Fin 2592 → EReal
  gn : Fin 512 → EReal
  lg : Fin 512 → EReal
  lb : Fin 512 → EReal
  S : Fin 4 → Fin 128 → Fin 128 → EReal
  b : Fin 4 → Fin 128 → EReal
  W : Fin 1024 → Fin 1024 → EReal

namespace Args

variable (a : Args)

/-- The head's output, normalized, times its gain and its gate. -/
def gated (r : Fin 8192) (h : Fin 4) (j : Fin 128) (k : Fin 512) : EReal :=
  (a.A r h j + a.B r h j) * headRms (fun j => a.A r h j + a.B r h j) * a.gn k
    * (a.P r ⟨1024 + k.val, by omega⟩ * Cert.RealFacts.sigE (a.P r ⟨1024 + k.val, by omega⟩))

/-- The normalized second half of the pair of halves. -/
def normed (r : Fin 8192) (k : Fin 512) : EReal := layer (fun k => gelu (a.P r ⟨2080 + k.val, by omega⟩)) k * a.lg k + a.lb k

/-- The spatial gating of one chunk: group `g`, row `i` of the chunk whose rows are `f`. -/
def spatial (f : Fin 128 → Fin 8192) (g : Fin 4) (i : Fin 128) (k : Fin 512) : EReal := (∑ j, a.S g i j * a.normed (f j) k) + a.b g i

/-- The rows of the chunk of row `r`. -/
def chunk (r : Fin 8192) (j : Fin 128) : Fin 8192 := ⟨r.val / 128 * 128 + j.val, by omega⟩

/-- One entry of the two mixers' outputs side by side. -/
def mixed (r : Fin 8192) (k : Fin 1024) : EReal :=
  if h : k.val < 512 then a.gated r ⟨k.val / 128, by omega⟩ ⟨k.val % 128, by omega⟩ ⟨k.val, h⟩
  else gelu (a.P r ⟨1056 + k.val, by omega⟩) * a.spatial (chunk r) ⟨(k.val - 512) / 128, by omega⟩ ⟨r.val % 128, by omega⟩ ⟨k.val - 512, by omega⟩

/-- One entry of the rows after the residual. -/
def out (r : Fin 8192) (k : Fin 1024) : EReal := a.X r k + ∑ j, a.mixed r j * a.W j k

end Args

end Cert.MixerOutMath

end
-- ==== Proof.MixerOutBody.lean ====
/-
  THE MIXER'S OUTPUT, ONE GRID POINT OF THE KERNEL: what the body's arithmetic computes of its blocks, and the blocks as
  entries of the arguments.
-/
module

public import proofs.«01_k».proof.Proof.MixerOutMath
public import proofs.«01_k».proof.Proof.Gen.MixerOutIdeal.Value
public import Idealize.ShloMosaic.Lib.Pipeline.ValueKit
public import Idealize.ShloMosaic.Lib.Pipeline.ReadBack

@[expose] public section

set_option maxRecDepth 16384

noncomputable section

namespace Cert.MixerOutIdeal.Body

open Cert.MixerOutIdeal Cert.MixerOutIdeal.Gen Idealize.ShloMosaic Idealize.ShloMosaic.TcCoe Idealize.SL.Sem
open Cert.RealFacts Cert.MixerOutMath
open scoped BigOperators

/-! ## The arithmetic -/

/-- One head, its norm and gate. -/
theorem head_at (o o' g : FVec Ideal S512x128 .f32) (n : FVec Ideal S1x128 .f32) (r : Fin 512) (j : Fin 128) :
    k0_pay3 (F := Ideal) o o' g n (ix2 r j)
      = (o (ix2 r j) + o' (ix2 r j)) * headRms (fun j => o (ix2 r j) + o' (ix2 r j)) * n (ix2 0 j) * (g (ix2 r j) * Cert.RealFacts.sigE (g (ix2 r j))) := by
  pointwise [k0_pay3]
  simp only [ofBits_128, ofBits_eps, sub_eq_add_neg, zero_add]
  rfl

/-- The layer norm of the gelu of the rows. -/
theorem normed_at (z : FVec Ideal S512x512 .f32) (g b : FVec Ideal S1x512 .f32) (r : Fin 512) (k : Fin 512) :
    k0_pay14 (F := Ideal) (k0_pay13 z g b) (ix2 r k) = layer (fun k => gelu (z (ix2 r k))) k * g (ix2 0 k) + b (ix2 0 k) := by
  pointwise [k0_pay14, k0_pay13]
  simp only [ofBits_512, ofBits_eps]
  rfl

/-- One group of one chunk. -/
theorem group_at (w : FVec Ideal S1x128x128 .bf16) (v : FVec Ideal S128x128 .bf16) (b : FVec Ideal S1x128x1 .f32) (u : FVec Ideal S128x128 .f32) (i k : Fin 128) :
    k0_pay15 (F := Ideal) w v b u (ix2 i k) = gelu (u (ix2 i k)) * ((∑ j, w (ix3 0 i j) * v (ix2 j k)) + b (ix3 0 i 0)) := by
  pointwise [k0_pay15]
  rfl

/-- The output projection and the residual. -/
theorem out_at (x : FVec Ideal S512x1024 .f32) (y : FVec Ideal S512x1024 .bf16) (w : FVec Ideal S1024x1024 .bf16) (r : Fin 512) (k : Fin 1024) :
    k0_pay2 (F := Ideal) x y w (ix2 r k) = x (ix2 r k) + ∑ j, y (ix2 r j) * w (ix2 j k) := by
  pointwise [k0_pay2]

/-! ## The blocks a grid point reads -/

variable (m : (ℓ : Loc nD τ sig) → Buf (Elt Ideal) ℓ)

/-- The block each window holds at a grid point. -/
theorem idx : ∀ t : Fin cfg0.N, win0_0.index t = ![t.val, 0] ∧ win0_1.index t = ![t.val, 0] ∧ win0_2.index t = ![t.val, 0] ∧ win0_3.index t = ![t.val, 2]
    ∧ win0_4.index t = ![t.val, 3] ∧ win0_5.index t = ![t.val, 4] ∧ win0_6.index t = ![0, 0] ∧ win0_7.index t = ![0, 0] ∧ win0_8.index t = ![0, 0]
    ∧ win0_9.index t = ![0, 0, 0] ∧ win0_10.index t = ![0, 0, 0] ∧ win0_11.index t = ![0, 0] ∧ win0_13.index t = ![t.val, 0] ∧ win0_14.index t = ![t.val, 0] :=
  (by decide +kernel : ∀ t : Fin grid0.N, _)

/-- Row `r` of the tile at point `t`. -/
def row (t : Fin cfg0.N) (r : Fin 512) : Fin 8192 := ⟨t.val * 512 + r.val, by have := t.isLt; have : cfg0.N = 16 := N_0; omega⟩

/-- The argument arrays hold the functions of `a`. -/
structure Holds (c : Dev nD) (a : Args) : Prop where
  X : ∀ r k, m ((c : Thread nD τ).loc main_arg0) (ix3 0 r k) = a.X r k
  A : ∀ r h j, m ((c : Thread nD τ).loc main_arg1) (ix4 0 r h j) = a.A r h j
  B : ∀ r h j, m ((c : Thread nD τ).loc main_arg2) (ix4 0 r h j) = a.B r h j
  P : ∀ r k, m ((c : Thread nD τ).loc main_arg3) (ix3 0 r k) = a.P r k
  gn : ∀ k, m ((c : Thread nD τ).loc main_arg4) (ix2 0 k) = a.gn k
  lg : ∀ k, m ((c : Thread nD τ).loc main_arg5) (ix2 0 k) = a.lg k
  lb : ∀ k, m ((c : Thread nD τ).loc main_arg6) (ix2 0 k) = a.lb k
  S : ∀ g i j, m ((c : Thread nD τ).loc main_arg7) (ix4 0 g i j) = a.S g i j
  b : ∀ g i, m ((c : Thread nD τ).loc main_arg8) (ix3 0 g i) = a.b g i
  W : ∀ j k, m ((c : Thread nD τ).loc main_arg9) (ix3 0 j k) = a.W j k

/-- What the argument arrays hold. -/
def args (c : Dev nD) : Args where
  X r k := m ((c : Thread nD τ).loc main_arg0) (ix3 0 r k)
  A r h j := m ((c : Thread nD τ).loc main_arg1) (ix4 0 r h j)
  B r h j := m ((c : Thread nD τ).loc main_arg2) (ix4 0 r h j)
  P r k := m ((c : Thread nD τ).loc main_arg3) (ix3 0 r k)
  gn k := m ((c : Thread nD τ).loc main_arg4) (ix2 0 k)
  lg k := m ((c : Thread nD τ).loc main_arg5) (ix2 0 k)
  lb k := m ((c : Thread nD τ).loc main_arg6) (ix2 0 k)
  S g i j := m ((c : Thread nD τ).loc main_arg7) (ix4 0 g i j)
  b g i := m ((c : Thread nD τ).loc main_arg8) (ix3 0 g i)
  W j k := m ((c : Thread nD τ).loc main_arg9) (ix3 0 j k)

theorem holds_args (c : Dev nD) : Holds m c (args m c) :=
  ⟨fun _ _ => rfl, fun _ _ _ => rfl, fun _ _ _ => rfl, fun _ _ => rfl, fun _ => rfl, fun _ => rfl, fun _ => rfl, fun _ _ _ => rfl, fun _ _ => rfl, fun _ _ => rfl⟩

variable {m} {c : Dev nD} {a : Args} (H : Holds m c a)

include H

theorem x_blk (t : Fin cfg0.N) (r : Fin 512) (k : Fin 1024) : (show FVec Ideal S512x1024 .f32 from iblk m c 0 t) (ix2 r k) = a.X (row t r) k := by
  rw [← H.X]; unfold row; blk_simp [iblk, idx t]; entry_read; pointwise; blk_ext [idx t]

set_option maxHeartbeats 1000000 in
theorem heads_blk (t : Fin cfg0.N) (r : Fin 512) (h : Fin 4) (j : Fin 128) :
    (show FVec Ideal S512x512 .f32 from iblk m c 1 t) (ix2 r ⟨h.val * 128 + j.val, by omega⟩) = a.A (row t r) h j
    ∧ (show FVec Ideal S512x512 .f32 from iblk m c 2 t) (ix2 r ⟨h.val * 128 + j.val, by omega⟩) = a.B (row t r) h j := by
  rw [← H.A, ← H.B]
  refine ⟨?_, ?_⟩ <;> unfold row <;> blk_simp [iblk, idx t] <;> entry_read <;> pointwise <;> blk_ext [idx t]

set_option maxHeartbeats 1000000 in
theorem gains_blk (t : Fin cfg0.N) (k : Fin 512) :
    (show FVec Ideal S1x512 .f32 from iblk m c 6 t) (ix2 0 k) = a.gn k
    ∧ (show FVec Ideal S1x512 .f32 from iblk m c 7 t) (ix2 0 k) = a.lg k
    ∧ (show FVec Ideal S1x512 .f32 from iblk m c 8 t) (ix2 0 k) = a.lb k := by
  rw [← H.gn, ← H.lg, ← H.lb]
  refine ⟨?_, ?_, ?_⟩ <;> blk_simp [iblk, idx t] <;> entry_read <;> blk_ext [idx t]

set_option maxHeartbeats 1000000 in
theorem weights_blk (t : Fin cfg0.N) :
    (∀ g i j, (show FVec Ideal S4x128x128 .bf16 from iblk m c 9 t) (ix3 g i j) = a.S g i j)
    ∧ (∀ g i, (show FVec Ideal S4x128x1 .f32 from iblk m c 10 t) (ix3 g i 0) = a.b g i)
    ∧ (∀ j k, (show FVec Ideal S1024x1024 .bf16 from iblk m c 11 t) (ix2 j k) = a.W j k) := by
  refine ⟨fun g i j => ?_, fun g i => ?_, fun j k => ?_⟩
  · rw [← H.S]; blk_simp [iblk, idx t]; entry_read; pointwise; blk_ext [idx t]
  · rw [← H.b]; blk_simp [iblk, idx t]; entry_read; pointwise; blk_ext [idx t]
  · rw [← H.W]; blk_simp [iblk, idx t]; entry_read; pointwise; blk_ext [idx t]

/-- The columns of the projected rows in the kernel's order, where the gate and the two halves stand. -/
theorem cols_all (r : Fin 8192) :
    (∀ k : Fin 512, (show FVec Ideal S8192x2688 .f32 from V m c main_v9) (ix2 r ⟨1024 + k.val, by omega⟩) = a.P r ⟨1024 + k.val, by omega⟩)
    ∧ (∀ k : Fin 1024, (show FVec Ideal S8192x2688 .f32 from V m c main_v9) (ix2 r ⟨1536 + k.val, by omega⟩) = a.P r ⟨1568 + k.val, by omega⟩) := by
  refine ⟨fun k => ?_, fun k => ?_⟩ <;> rw [← H.P] <;> unfold V hostOps0 <;>
    simp only [Idealize.ShloMosaic.StableHlo.after_cons, Idealize.ShloMosaic.StableHlo.after_nil] <;> after_results_simp <;> pointwise
  · rw [dif_pos (by omega)]; after_results_simp; pointwise; blk_ext
  · after_results_simp; pointwise

theorem cols_blk (t : Fin cfg0.N) (r k : Fin 512) :
    (show FVec Ideal S512x512 .f32 from X0_3 m c t) (ix2 r k) = a.P (row t r) ⟨1024 + k.val, by omega⟩
    ∧ (show FVec Ideal S512x512 .f32 from X0_4 m c t) (ix2 r k) = a.P (row t r) ⟨1568 + k.val, by omega⟩
    ∧ (show FVec Ideal S512x512 .f32 from X0_5 m c t) (ix2 r k) = a.P (row t r) ⟨2080 + k.val, by omega⟩ := by
  refine ⟨((dif_pos (moved0_3 t _)).trans ?_).trans ((cols_all H (row t r)).1 k), ((dif_pos (moved0_4 t _)).trans ?_).trans ((cols_all H (row t r)).2 ⟨k.val, by omega⟩),
    ((dif_pos (moved0_5 t _)).trans ?_).trans (((cols_all H (row t r)).2 ⟨512 + k.val, by omega⟩).trans (congrArg (a.P (row t r)) (Fin.ext (by dsimp only; omega))))⟩ <;>
  unfold row <;> blk_ext [iblk, idx t]

end Cert.MixerOutIdeal.Body
end
-- ==== Proof.MixerOutValue.lean ====
/-
  THE MIXER'S OUTPUT, THE KERNEL'S ARRAYS: the twenty writes of a grid point leave the two mixers' outputs side by side,
  and the product of them with the output weight is added to the rows.
-/
module

public import proofs.«01_k».proof.Proof.MixerOutBody

@[expose] public section

set_option maxRecDepth 16384

noncomputable section

namespace Cert.MixerOutMath.Args

variable (a : Args)

theorem mixed_head (r : Fin 8192) (h : ℕ) (hh : h < 4) (j : Fin 128) : a.mixed r ⟨h * 128 + j.val, by omega⟩ = a.gated r ⟨h, hh⟩ j ⟨h * 128 + j.val, by omega⟩ := by
  unfold mixed
  rw [dif_pos (by dsimp only; omega)]
  congr 1 <;> apply Fin.ext <;> dsimp only <;> omega

theorem mixed_group (r : Fin 8192) (f : Fin 128 → Fin 8192) (i : Fin 128) (hf : ∀ j, (f j).val = r.val - i.val + j.val) (hr : (r.val - i.val) % 128 = 0) (hi : i.val ≤ r.val)
    (q : ℕ) (hq : q < 4) (j : Fin 128) :
    a.mixed r ⟨512 + q * 128 + j.val, by omega⟩ = Cert.MixerOutMath.gelu (a.P r ⟨1568 + (q * 128 + j.val), by omega⟩) * a.spatial f ⟨q, hq⟩ i ⟨q * 128 + j.val, by omega⟩ := by
  have hc : chunk r = f := funext fun j => Fin.ext (by rw [hf j]; unfold chunk; dsimp only; omega)
  unfold mixed
  rw [dif_neg (by dsimp only; omega), hc]
  congr 1
  · congr 2; apply Fin.ext; dsimp only; omega
  · congr 1 <;> apply Fin.ext <;> dsimp only <;> omega

end Cert.MixerOutMath.Args

namespace Cert.MixerOutIdeal.Body

open Cert.MixerOutIdeal Cert.MixerOutIdeal.Gen Idealize.ShloMosaic Idealize.ShloMosaic.TcCoe Idealize.SL.Sem
open Cert.RealFacts Cert.MixerOutMath
open scoped BigOperators

/-- Where a rectangle of rows and columns stands. -/
theorem emb_at {n0 n1 : ℕ} (o0 o1 s0 s1 : ℕ) (inb : ∀ b, (![o0, o1] : Fin 2 → ℕ) b + (![s0, s1] : Fin 2 → ℕ) b ≤ (⟨2, ![n0, n1]⟩ : Shape).size b) (i : Fin s0) (j : Fin s1) :
    (Rect.unit (s := ⟨2, ![n0, n1]⟩) ![o0, o1] ![s0, s1] inb).emb (ix2 i j)
      = ix2 (⟨o0 + i.val, Nat.lt_of_lt_of_le (Nat.add_lt_add_left i.isLt o0) (inb 0)⟩ : Fin n0) (⟨o1 + j.val, Nat.lt_of_lt_of_le (Nat.add_lt_add_left j.isLt o1) (inb 1)⟩ : Fin n1) := by
  funext b
  match b with
  | 0 => exact Fin.ext (by show o0 + 1 * i.val = o0 + i.val; omega)
  | 1 => exact Fin.ext (by show o1 + 1 * j.val = o1 + j.val; omega)

/-- An entry of a loaded rectangle of rows and columns. -/
theorem ld_at {e : EltTy} {n0 n1 : ℕ} (x : (⟨2, ![n0, n1]⟩ : Shape).Idx → Elt Ideal e) (o0 o1 s0 s1 : ℕ)
    (inb : ∀ b, (![o0, o1] : Fin 2 → ℕ) b + (![s0, s1] : Fin 2 → ℕ) b ≤ (⟨2, ![n0, n1]⟩ : Shape).size b) (i : Fin s0) (j : Fin s1) :
    View.ld (Val := Elt Ideal) (S := ⟨2, ![n0, n1]⟩) (e' := e) x (Rect.unit (s := ⟨2, ![n0, n1]⟩) ![o0, o1] ![s0, s1] inb) (ix2 i j)
      = x (ix2 ⟨o0 + i.val, Nat.lt_of_lt_of_le (Nat.add_lt_add_left i.isLt o0) (inb 0)⟩ ⟨o1 + j.val, Nat.lt_of_lt_of_le (Nat.add_lt_add_left j.isLt o1) (inb 1)⟩) :=
  congrArg x (emb_at o0 o1 s0 s1 inb i j)

/-- An entry of one matrix of a stack, loaded. -/
theorem ld_stack {e : EltTy} {n0 n1 n2 : ℕ} (x : (⟨3, ![n0, n1, n2]⟩ : Shape).Idx → Elt Ideal e) (q : ℕ)
    (inb : ∀ b, (![q, 0, 0] : Fin 3 → ℕ) b + (![1, n1, n2] : Fin 3 → ℕ) b ≤ (⟨3, ![n0, n1, n2]⟩ : Shape).size b) (hq : q < n0) (i : Fin n1) (j : Fin n2) :
    View.ld (Val := Elt Ideal) (S := ⟨3, ![n0, n1, n2]⟩) (e' := e) x (Rect.unit (s := ⟨3, ![n0, n1, n2]⟩) ![q, 0, 0] ![1, n1, n2] inb) (ix3 0 i j) = x (ix3 ⟨q, hq⟩ i j) := by
  refine congrArg x (funext fun b => ?_)
  match b with
  | 0 => exact Fin.ext (by show q + 1 * 0 = q; omega)
  | 1 => exact Fin.ext (by show 0 + 1 * i.val = i.val; omega)
  | 2 => exact Fin.ext (by show 0 + 1 * j.val = j.val; omega)

variable (m : (ℓ : Loc nD τ sig) → Buf (Elt Ideal) ℓ) (c : Dev nD)

theorem tile_in {p q : ℕ} (hp : p < 4) (hq : q < 4) : ∀ b, (![p * 128, q * 128] : Fin 2 → ℕ) b + (![128, 128] : Fin 2 → ℕ) b ≤ S512x512.size b :=
  Fin.forall_fin_two.mpr ⟨show p * 128 + 128 ≤ 512 by omega, show q * 128 + 128 ≤ 512 by omega⟩
theorem right_in {p q : ℕ} (hp : p < 4) (hq : q < 4) : ∀ b, (![p * 128, 512 + q * 128] : Fin 2 → ℕ) b + (![128, 128] : Fin 2 → ℕ) b ≤ S512x1024.size b :=
  Fin.forall_fin_two.mpr ⟨show p * 128 + 128 ≤ 512 by omega, show 512 + q * 128 + 128 ≤ 1024 by omega⟩
theorem stack_in {q : ℕ} (hq : q < 4) (d : ℕ) : ∀ b, (![q, 0, 0] : Fin 3 → ℕ) b + (![1, 128, d] : Fin 3 → ℕ) b ≤ (⟨3, ![4, 128, d]⟩ : Shape).size b
  | 0 => show q + 1 ≤ 4 by omega
  | 1 => show 0 + 128 ≤ 128 by omega
  | 2 => show 0 + d ≤ d by omega
theorem head_in {h : ℕ} (hh : h < 4) (n d : ℕ) (hd : 512 ≤ d) : ∀ b, (![0, h * 128] : Fin 2 → ℕ) b + (![n, 128] : Fin 2 → ℕ) b ≤ (⟨2, ![n, d]⟩ : Shape).size b :=
  Fin.forall_fin_two.mpr ⟨show 0 + n ≤ n by omega, show h * 128 + 128 ≤ d by omega⟩

/-- The layer norm's rows, written whole. -/
def normedStore (t : Fin cfg0.N) : List (View.Piece (Elt Ideal) S512x512 .bf16) :=
  [⟨Rect.unit ![0, 0] ![512, 512] inb_S512x512_S512x512_0_0, k0_pay14 (F := Ideal) (k0_pay13 (X0_5 m c t) (iblk m c 7 t) (iblk m c 8 t))⟩]

/-- The write of group `q` of chunk `p`. -/
def group (t : Fin cfg0.N) (p q : ℕ) (hp : p < 4) (hq : q < 4) : View.Piece (Elt Ideal) S512x1024 .bf16 :=
  ⟨Rect.unit ![p * 128, 512 + q * 128] ![128, 128] (right_in hp hq),
    k0_pay15 (F := Ideal) (View.ld (iblk m c 9 t) (Rect.unit (s := S4x128x128) ![q, 0, 0] ![1, 128, 128] (stack_in hq 128)))
      ((View.whole cc0_scratch0).readCov (normedStore m c t) (Rect.unit (s := S512x512) ![p * 128, q * 128] ![128, 128] (tile_in hp hq)).toLoadRect)
      (View.ld (iblk m c 10 t) (Rect.unit (s := S4x128x1) ![q, 0, 0] ![1, 128, 1] (stack_in hq 1)))
      (View.ld (X0_4 m c t) (Rect.unit (s := S512x512) ![p * 128, q * 128] ![128, 128] (tile_in hp hq)))⟩

/-- The write of head `h`. -/
def head (t : Fin cfg0.N) (h : ℕ) (hh : h < 4) : View.Piece (Elt Ideal) S512x1024 .bf16 :=
  ⟨Rect.unit ![0, h * 128] ![512, 128] (head_in hh 512 1024 (by omega)),
    k0_pay3 (F := Ideal) (View.ld (iblk m c 1 t) (Rect.unit (s := S512x512) ![0, h * 128] ![512, 128] (head_in hh 512 512 (by omega))))
      (View.ld (iblk m c 2 t) (Rect.unit (s := S512x512) ![0, h * 128] ![512, 128] (head_in hh 512 512 (by omega))))
      (View.ld (X0_3 m c t) (Rect.unit (s := S512x512) ![0, h * 128] ![512, 128] (head_in hh 512 512 (by omega))))
      (View.ld (iblk m c 6 t) (Rect.unit (s := S1x512) ![0, h * 128] ![1, 128] (head_in hh 1 512 (by omega))))⟩

/-- The twenty writes, the last one first. -/
def stores (t : Fin cfg0.N) : List (View.Piece (Elt Ideal) S512x1024 .bf16) :=
  have d0 : 0 < 4 := by decide
  have d1 : 1 < 4 := by decide
  have d2 : 2 < 4 := by decide
  have d3 : 3 < 4 := by decide
  [group m c t 3 3 d3 d3, group m c t 3 2 d3 d2, group m c t 3 1 d3 d1, group m c t 3 0 d3 d0,
    group m c t 2 3 d2 d3, group m c t 2 2 d2 d2, group m c t 2 1 d2 d1, group m c t 2 0 d2 d0,
    group m c t 1 3 d1 d3, group m c t 1 2 d1 d2, group m c t 1 1 d1 d1, group m c t 1 0 d1 d0,
    group m c t 0 3 d0 d3, group m c t 0 2 d0 d2, group m c t 0 1 d0 d1, group m c t 0 0 d0 d0,
    head m c t 3 d3, head m c t 2 d2, head m c t 1 d1, head m c t 0 d0]

variable {m c} {a : Args} (H : Holds m c a)

include H

/-- The rows the layer norm leaves, as the body reads them back. -/
theorem normed_canon (t : Fin cfg0.N) : View.canon (normedStore m c t) = (fun i => a.normed (row t (i 0)) (i 1) : S512x512.Idx → EReal) := by
  funext y
  refine View.canon_apply_of_pieces (fun i : S512x512.Idx => a.normed (row t (i 0)) (i 1)) _
    (View.PiecesOf.mem (G := fun i : S512x512.Idx => a.normed (row t (i 0)) (i 1)) (L := normedStore m c t) ⟨fun z => ?_, trivial⟩) y (View.cover_of_tiledBy (normedStore m c t) ![512, 512] (by sl_kernel_rfl) y)
  idx_vars z
  have e : (Rect.unit (s := S512x512) ![0, 0] ![512, 512] inb_S512x512_S512x512_0_0).emb (ix2 z0 z1) = ix2 z0 z1 :=
    (emb_at 0 0 512 512 _ z0 z1).trans (congrArg₂ ix2 (Fin.ext (Nat.zero_add _)) (Fin.ext (Nat.zero_add _)))
  refine Eq.trans ?_ (congrArg (fun i : S512x512.Idx => a.normed (row t (i 0)) (i 1)) e.symm)
  refine (normed_at _ _ _ z0 z1).trans ?_
  exact congrArg₂ (· + ·) (congrArg₂ (· * ·) (congrArg (fun z => layer z z1) (funext fun k => congrArg gelu (cols_blk H t z0 k).2.2)) (gains_blk H t z1).2.1) (gains_blk H t z1).2.2

/-- An entry of a part of those rows, read back. -/
theorem normed_load (t : Fin cfg0.N) {κ : Kind} {sp : Space} (v : View sig κ sp S512x512 .bf16) (o0 o1 : ℕ)
    (inb : ∀ b, (![o0, o1] : Fin 2 → ℕ) b + (![128, 128] : Fin 2 → ℕ) b ≤ S512x512.size b) (h0 : o0 + 128 ≤ 512) (h1 : o1 + 128 ≤ 512) (i j : Fin 128) :
    v.readCov (normedStore m c t) (Rect.unit (s := S512x512) ![o0, o1] ![128, 128] inb).toLoadRect (ix2 i j)
      = a.normed (row t ⟨o0 + i.val, by omega⟩) ⟨o1 + j.val, by omega⟩ := by
  rw [View.readCov_eq_canon', normed_canon H]
  exact congrArg₂ (fun (r k : Fin 512) => a.normed (row t r) k) (Fin.ext (by show o0 + 1 * i.val = o0 + i.val; omega)) (Fin.ext (by show o1 + 1 * j.val = o1 + j.val; omega))

theorem group_mem (t : Fin cfg0.N) (p q : ℕ) (hp : p < 4) (hq : q < 4) (z : S128x128.Idx) :
    (group m c t p q hp hq).2 z = (fun i : S512x1024.Idx => a.mixed (row t (i 0)) (i 1)) ((group m c t p q hp hq).1.emb z) := by
  idx_vars z
  refine Eq.trans ?_ (congrArg (fun i : S512x1024.Idx => a.mixed (row t (i 0)) (i 1)) (emb_at (n0 := 512) (n1 := 1024) (p * 128) (512 + q * 128) 128 128 (right_in hp hq) z0 z1).symm)
  refine Eq.trans ?_ (a.mixed_group (row t ⟨p * 128 + z0.val, by omega⟩) (fun j => row t ⟨p * 128 + j.val, by omega⟩) z0
    (fun j => by unfold row; dsimp only; omega) (by unfold row; dsimp only; omega) (by unfold row; dsimp only; omega) q hq z1).symm
  have u := (ld_at (e := .f32) (n0 := 512) (n1 := 512) (X0_4 m c t) (p * 128) (q * 128) 128 128 (tile_in hp hq) z0 z1).trans (cols_blk H t _ _).2.1
  have w (j : Fin 128) := (ld_stack (e := .bf16) (n0 := 4) (n1 := 128) (n2 := 128) (iblk m c 9 t) q (stack_in hq 128) hq z0 j).trans ((weights_blk H t).1 _ _ _)
  have b := (ld_stack (e := .f32) (n0 := 4) (n1 := 128) (n2 := 1) (iblk m c 10 t) q (stack_in hq 1) hq z0 0).trans ((weights_blk H t).2.1 _ _)
  have v (j : Fin 128) := normed_load H t (View.whole cc0_scratch0) (p * 128) (q * 128) (tile_in hp hq) (by omega) (by omega) j z1
  refine (group_at _ _ _ _ z0 z1).trans ?_
  exact congrArg₂ (· * ·) (congrArg gelu u) (congrArg₂ (· + ·) (Finset.sum_congr rfl fun j _ => congrArg₂ (· * ·) (w j) (v j)) b)

theorem head_mem (t : Fin cfg0.N) (h : ℕ) (hh : h < 4) (z : S512x128.Idx) :
    (head m c t h hh).2 z = (fun i : S512x1024.Idx => a.mixed (row t (i 0)) (i 1)) ((head m c t h hh).1.emb z) := by
  idx_vars z
  have z' (i : Fin 512) : (⟨0 + i.val, by omega⟩ : Fin 512) = i := Fin.ext (Nat.zero_add _)
  refine Eq.trans ?_ (congrArg (fun i : S512x1024.Idx => a.mixed (row t (i 0)) (i 1)) (emb_at (n0 := 512) (n1 := 1024) 0 (h * 128) 512 128 (head_in hh 512 1024 (by omega)) z0 z1).symm)
  refine Eq.trans ?_ ((congrArg (fun r => a.mixed (row t r) ⟨h * 128 + z1.val, by omega⟩) (z' z0)).trans (a.mixed_head (row t z0) h hh z1)).symm
  have l (x : S512x512.Idx → EReal) (j : Fin 128) :=
    (ld_at (e := .f32) (n0 := 512) (n1 := 512) x 0 (h * 128) 512 128 (head_in hh 512 512 (by omega)) z0 j).trans (congrArg (fun r => x (ix2 r ⟨h * 128 + j.val, by omega⟩)) (z' z0))
  have n := (ld_at (e := .f32) (n0 := 1) (n1 := 512) (iblk m c 6 t) 0 (h * 128) 1 128 (head_in hh 1 512 (by omega)) 0 z1).trans (gains_blk H t _).1
  have o (j : Fin 128) := congrArg₂ (· + ·) ((l (iblk m c 1 t) j).trans (heads_blk H t z0 ⟨h, hh⟩ j).1) ((l (iblk m c 2 t) j).trans (heads_blk H t z0 ⟨h, hh⟩ j).2)
  have g := (l (X0_3 m c t) z1).trans (cols_blk H t z0 _).1
  refine (head_at _ _ _ _ z0 z1).trans ?_
  exact congrArg₂ (· * ·) (congrArg₂ (· * ·) (congrArg₂ (· * ·) (o z1) (congrArg headRms (funext o))) n) (congrArg₂ (· * ·) g (congrArg Cert.RealFacts.sigE g))

/-- The twenty writes leave the two mixers' outputs side by side. -/
theorem stores_canon (t : Fin cfg0.N) : View.canon (stores m c t) = (fun i => a.mixed (row t (i 0)) (i 1) : S512x1024.Idx → EReal) := by
  have g := group_mem H t
  have h := head_mem H t
  have p : View.PiecesOf (Val := Elt Ideal) (s := S512x1024) (e := .bf16) (fun i => a.mixed (row t (i 0)) (i 1)) (stores m c t) :=
    ⟨g _ _ _ _, g _ _ _ _, g _ _ _ _, g _ _ _ _, g _ _ _ _, g _ _ _ _, g _ _ _ _, g _ _ _ _, g _ _ _ _, g _ _ _ _, g _ _ _ _, g _ _ _ _, g _ _ _ _, g _ _ _ _,
      g _ _ _ _, g _ _ _ _, h _ _, h _ _, h _ _, h _ _, trivial⟩
  funext y
  exact View.canon_apply_of_pieces (fun i : S512x1024.Idx => a.mixed (row t (i 0)) (i 1)) _ p.mem y (View.cover_of_tiledBy (stores m c t) ![128, 128] (by sl_kernel_rfl) y)

/-- The second result: the mixers' outputs. -/
theorem final14 : (dats m 0 c).arrAt 14 cfg0.N = (show FVec Ideal S8192x1024 .bf16 from fun i => a.mixed (i 0) (i 1)) := by
  refine (dats m 0 c).arrAt_eq_of_covers 14 _ (by decide +kernel) fun t hf y => ?_
  blk_simp
  rw [after0_14]
  have e : (win0_14.blk t).view.emb y = ix2 (row t (y 0)) (y 1) := by idx_vars y; unfold row; blk_ext [idx t]
  refine Eq.trans ?_ (congrArg (fun i : S8192x1024.Idx => a.mixed (i 0) (i 1)) e.symm)
  unfold outsAt0
  frame_out
  exact congrFun (stores_canon H t) y

/-- The first result: the rows after the residual. -/
theorem final13 : (dats m 0 c).arrAt 13 cfg0.N = (show FVec Ideal S8192x1024 .f32 from fun i => a.out (i 0) (i 1)) := by
  refine (dats m 0 c).arrAt_eq_of_covers 13 _ (by decide +kernel) fun t hf y => ?_
  blk_simp
  rw [after0_13]
  idx_vars y
  have e : (win0_13.blk t).view.emb (ix2 y0 y1) = ix2 (row t y0) y1 := by unfold row; blk_ext [idx t]
  refine Eq.trans ?_ (congrArg (fun i : S8192x1024.Idx => a.out (i 0) (i 1)) e.symm)
  unfold outsAt0
  frame_out
  refine (out_at _ _ _ y0 y1).trans (congrArg₂ (· + ·) (x_blk H t y0 y1) (Finset.sum_congr rfl fun j _ => congrArg₂ (· * ·) ?_ ((weights_blk H t).2.2 j y1)))
  have l : (ms0_14 t).view.readCov (stores m c t) (Rect.unit (s := S512x1024) ![0, 0] ![512, 1024] inb_S512x1024_S512x1024_0_0).toLoadRect (ix2 y0 j) = a.mixed (row t y0) j := by
    rw [View.readCov_eq_canon', stores_canon H]
    exact congrArg₂ (fun (r : Fin 512) (k : Fin 1024) => a.mixed (row t r) k) (Fin.ext (by show 0 + 1 * y0.val = y0.val; omega)) (Fin.ext (by show 0 + 1 * j.val = j.val; omega))
  exact l

end Cert.MixerOutIdeal.Body
end
-- ==== Proof.MixerOutRef.lean ====
/-
  THE MIXER'S OUTPUT, THE REFERENCE'S ARRAYS: the same two arrays from the forward lines.
-/
module

public import proofs.«01_k».proof.Proof.MixerOutMath
public import proofs.«01_k».proof.Proof.Gen.MixerOutRefIdeal.Read
public import Idealize.ShloMosaic.Lib.Pipeline.ValueKit

@[expose] public section

set_option maxRecDepth 16384

noncomputable section

namespace Cert.MixerOutRefIdeal.Ref

open Cert.MixerOutRefIdeal Cert.MixerOutRefIdeal.Read Idealize.ShloMosaic Idealize.ShloMosaic.TcCoe Idealize.SL.Sem
open Cert.RealFacts Cert.MixerOutMath
open scoped BigOperators

variable {x0 : FVec Ideal S1x8192x1024 .f32} {x1 x2 : FVec Ideal S1x8192x4x128 .f32} {x3 : FVec Ideal S1x8192x2592 .f32} {x4 x5 x6 : FVec Ideal S1x512 .f32}
variable {x7 : FVec Ideal S1x4x128x128 .f32} {x8 : FVec Ideal S1x4x128 .f32} {x9 : FVec Ideal S1x1024x1024 .f32} {a : Args}
variable (hX : ∀ r k, x0 (ix3 0 r k) = a.X r k) (hA : ∀ r h j, x1 (ix4 0 r h j) = a.A r h j) (hB : ∀ r h j, x2 (ix4 0 r h j) = a.B r h j)
variable (hP : ∀ r k, x3 (ix3 0 r k) = a.P r k) (hn : ∀ k, x4 (ix2 0 k) = a.gn k) (hg : ∀ k, x5 (ix2 0 k) = a.lg k) (hb : ∀ k, x6 (ix2 0 k) = a.lb k)
variable (hS : ∀ g i j, x7 (ix4 0 g i j) = a.S g i j) (hs : ∀ g i, x8 (ix3 0 g i) = a.b g i) (hW : ∀ j k, x9 (ix3 0 j k) = a.W j k)

include hA hB in
theorem square_at (r : Fin 8192) (h : Fin 4) :
    val_main_v10 (F := Ideal) x1 x2 (ix4 0 r h 0) = Ideal.div (∑ j, (a.A r h j + a.B r h j) * (a.A r h j + a.B r h j)) ((128 : ℝ) : EReal) + ((eps : ℝ) : EReal) := by
  pointwise [val_main_v10, val_main_v9, val_main_cst_1, val_main_v8, val_main_v7, val_main_cst_0, val_main_v6, val_main_v5, val_main_cst, val_main_v4, val_main_v2]
  simp only [hA, hB, ofBits_128, ofBits_eps, zero_add]

include hA hB in
theorem norm_at (r : Fin 8192) (h : Fin 4) (j : Fin 128) :
    val_main_v13 (F := Ideal) x1 x2 (ix4 0 r h j) = (a.A r h j + a.B r h j) * headRms (fun j => a.A r h j + a.B r h j) := by
  pointwise [val_main_v13, val_main_v12, val_main_v11, val_main_v2]
  rw [square_at hA hB, hA, hB]
  rfl

include hA hB hP hn in
theorem gated_at (r : Fin 8192) (k : Fin 512) :
    val_main_v19 (F := Ideal) x1 x2 x3 x4 (ix3 0 r k) = a.gated r ⟨k.val / 128, by omega⟩ ⟨k.val % 128, by omega⟩ k := by
  pointwise [val_main_v19, val_main_v18, val_main_call0_v5, val_main_call0_v4, val_main_call0_cst_0, val_main_call0_v3, val_main_call0_v2, val_main_call0_cst, val_main_call0_v1,
    val_main_call0_v0, val_main_v17, val_main_v16, val_main_v15, val_main_v14, val_main_v3, val_main_v0]
  rw [norm_at hA hB, hP, hn]
  rfl

include hP in
theorem gelu_at (r : Fin 8192) (k : Fin 1024) : val_main_v30 (F := Ideal) x3 (ix3 0 r k) = gelu (a.P r ⟨1568 + k.val, by omega⟩) := by
  pointwise [val_main_v30, val_main_v29, val_main_v28, val_main_v27, val_main_cst_3, val_main_v26, val_main_v25, val_main_v24, val_main_cst_2, val_main_v1]
  rw [hP, neg_mul, Ideal.erfc_neg]
  rfl

include hP in
theorem center_at (r : Fin 8192) (k : Fin 512) : val_main_v38 (F := Ideal) x3 (ix3 0 r k) = center (fun k => gelu (a.P r ⟨2080 + k.val, by omega⟩)) k := by
  have e (k : Fin 512) : val_main_v32 (F := Ideal) x3 (ix3 0 r k) = gelu (a.P r ⟨2080 + k.val, by omega⟩) := by
    pointwise [val_main_v32]
    exact (gelu_at hP r _).trans (congrArg (fun q => gelu (a.P r q)) (Fin.ext (by dsimp only; omega)))
  pointwise [val_main_v38, val_main_v37, val_main_v36, val_main_v35, val_main_cst_5, val_main_v34, val_main_v33, val_main_cst_4]
  simp only [e, ofBits_512, zero_add]
  rfl

include hP in
theorem variance_at (r : Fin 8192) : val_main_v45 (F := Ideal) x3 (ix3 0 r 0)
    = Ideal.div (∑ j, center (fun k => gelu (a.P r ⟨2080 + k.val, by omega⟩)) j * center (fun k => gelu (a.P r ⟨2080 + k.val, by omega⟩)) j) ((512 : ℝ) : EReal) + ((eps : ℝ) : EReal) := by
  pointwise [val_main_v45, val_main_v44, val_main_cst_8, val_main_v43, val_main_v42, val_main_cst_7, val_main_v41, val_main_v40, val_main_cst_6, val_main_v39]
  simp only [center_at hP, ofBits_512, ofBits_eps, zero_add]

include hP hg hb in
theorem normed_at (r : Fin 8192) (k : Fin 512) : val_main_v54 (F := Ideal) x3 x5 x6 (ix3 0 r k) = a.normed r k := by
  pointwise [val_main_v54, val_main_v53, val_main_v52, val_main_v51, val_main_v50, val_main_v49, val_main_v48, val_main_v47, val_main_v46, val_main_v21, val_main_v20]
  rw [center_at hP, variance_at hP, hg, hb]
  rfl

include hP hg hb hS hs in
theorem spatial_at (r : Fin 8192) (k : Fin 512) :
    val_main_v62 (F := Ideal) x3 x5 x6 x7 x8 (ix3 0 r k) = a.spatial (Args.chunk r) ⟨k.val / 128, by omega⟩ ⟨r.val % 128, by omega⟩ k := by
  pointwise [val_main_v62, val_main_v61, val_main_v60, val_main_v59, val_main_v58, val_main_v57, val_main_v56, val_main_v55, val_main_v23, val_main_v22]
  simp only [normed_at hP hg hb, hS, hs]
  exact congrArg (· + _) (Finset.sum_congr rfl fun j _ => mul_comm _ _)

include hA hB hP hn hg hb hS hs in
theorem mixed_at (r : Fin 8192) (k : Fin 1024) : val_main_v64 (F := Ideal) x1 x2 x3 x4 x5 x6 x7 x8 (ix3 0 r k) = a.mixed r k := by
  pointwise [val_main_v64, val_main_v63, val_main_v31]
  unfold Args.mixed
  refine dite_congr rfl (fun _ => gated_at hA hB hP hn r _) fun h => congrArg₂ (· * ·) ((gelu_at hP r _).trans ?_) (spatial_at hP hg hb hS hs r _)
  exact congrArg (fun q => gelu (a.P r q)) (Fin.ext (by dsimp only; omega))

include hA hB hP hn hg hb hS hs in
theorem second_at : val_main_v70 (F := Ideal) x1 x2 x3 x4 x5 x6 x7 x8 = fun i => a.mixed (i 0) (i 1) := by
  funext i
  idx_vars i
  pointwise [val_main_v70, val_main_v69]
  exact mixed_at hA hB hP hn hg hb hS hs i0 i1

include hX hA hB hP hn hg hb hS hs hW in
theorem first_at : val_main_v68 (F := Ideal) x0 x1 x2 x3 x4 x5 x6 x7 x8 x9 = fun i => a.out (i 0) (i 1) := by
  funext i
  idx_vars i
  pointwise [val_main_v68, val_main_v67, val_main_v66, val_main_v65]
  simp only [mixed_at hA hB hP hn hg hb hS hs, hX, hW]
  rfl

end Cert.MixerOutRefIdeal.Ref

end
-- ==== Proof.MixerOutClaim.lean ====
/-
  THE CLAIMS ABOUT THE MIXER'S OUTPUT, one theorem each.
-/
module

public import proofs.«01_k».proof.Defs
public import proofs.«01_k».proof.Proof.MixerOutValue
public import proofs.«01_k».proof.Proof.MixerOutRef
public import proofs.«01_k».proof.Proof.Gen.MixerOut.Frame
public import proofs.«01_k».proof.Proof.Gen.MixerOutIdeal.Frame
public import Idealize.ShloMosaic.Lib.Quiescent

@[expose] public section

noncomputable section

namespace Cert.MixerOutClaim

open Idealize.ShloMosaic Idealize.SL.Sem
open Cert.RealFacts Cert.MixerOutMath

theorem frame_ref : Cert.quiescent_MixerOutRefIdeal := fun m ρ _ => (θ_run (Cert.MixerOutRefIdeal.defs (F := Ideal)) _ _).mono
  (fun r h => ⟨fun c => (h c).2.2, Idealize.ShloMosaic.sem_eq_zero_of_no_sems (by decide) r.2⟩) (Cert.MixerOutRefIdeal.Value.run (F := Ideal) m ρ)

/-- Both programs leave the same two arrays, whatever the arguments hold. -/
theorem algebraic : Cert.algebraic_MixerOutIdeal_MixerOutRefIdeal := by
  intro m g m' g' _ hag
  refine ⟨fun c => (Cert.MixerOutIdeal.Gen.dats m 0 c).arrAt 13 Cert.MixerOutIdeal.cfg0.N, fun c => (Cert.MixerOutIdeal.Gen.dats m 0 c).arrAt 14 Cert.MixerOutIdeal.cfg0.N,
    Cert.MixerOutIdeal.Value.run_blocks (F := Ideal) m g, ?_⟩
  refine (θ_run _ _ _).mono (fun r h c => ?_) (Cert.MixerOutRefIdeal.Value.run (F := Ideal) m' g')
  obtain ⟨e0, e1, e2, e3, e4, e5, e6, e7, e8, e9⟩ := hag c
  have H := Cert.MixerOutIdeal.Body.holds_args m c
  refine ⟨(h c).1.trans ?_, (h c).2.1.trans ?_, (h c).2.2⟩
  · rw [Cert.MixerOutRefIdeal.Read.val_main_v68_eq, e0, e1, e2, e3, e4, e5, e6, e7, e8, e9]
    exact (Cert.MixerOutRefIdeal.Ref.first_at H.X H.A H.B H.P H.gn H.lg H.lb H.S H.b H.W).trans (Cert.MixerOutIdeal.Body.final13 H).symm
  · rw [Cert.MixerOutRefIdeal.Read.val_main_v70_eq, e1, e2, e3, e4, e5, e6, e7, e8]
    exact (Cert.MixerOutRefIdeal.Ref.second_at H.A H.B H.P H.gn H.lg H.lb H.S H.b).trans (Cert.MixerOutIdeal.Body.final14 H).symm

end Cert.MixerOutClaim

end
-- ==== Proof.InprojBody.lean ====
/-
  THE INPUT PROJECTION, THE KERNEL'S ARRAY: where the arguments hold `X`, `G`, `W`, the result holds the normalized rows
  times the gain and the weight, its columns in the kernel's order.
-/
module

public import proofs.«01_k».proof.Proof.InprojWgradMath
public import proofs.«01_k».proof.Proof.Gen.InprojIdeal.Value
public import Idealize.ShloMosaic.Lib.Pipeline.ValueKit
public import Idealize.ShloMosaic.Lib.Pipeline.ReadBack

@[expose] public section

set_option maxRecDepth 16384

noncomputable section

namespace Cert.InprojMath

/-- The column of the projection that stands at column `k` of the result: the last two ranges of columns change places,
    and 96 columns that the kernel writes beside the 32 between are those that follow them. -/
def order (k : Fin 2688) : Fin 2592 :=
  if h : k.val < 1536 then ⟨k.val, by omega⟩ else if h : k.val < 2560 then ⟨k.val + 32, by omega⟩ else ⟨k.val - 1024, by omega⟩

/-- One entry of the projected rows. -/
def proj (x : Fin 8192 → Fin 1024 → EReal) (g : Fin 1024 → EReal) (w : Fin 1024 → Fin 2592 → EReal) (r : Fin 8192) (k : Fin 2688) : EReal :=
  ∑ j, Cert.InprojWgradMath.hidden x g r j * w j (order k)

theorem order_first (k : ℕ) (h : k < 1536) : order ⟨0 + k, by omega⟩ = ⟨0 + k, by omega⟩ := by unfold order; rw [dif_pos (by dsimp only; omega)]
theorem order_last (k : ℕ) (h : k < 1024) : order ⟨1536 + k, by omega⟩ = ⟨1568 + k, by omega⟩ := by
  unfold order; rw [dif_neg (by dsimp only; omega), dif_pos (by dsimp only; omega)]; apply Fin.ext; dsimp only; omega
theorem order_between (k : ℕ) (h : k < 128) : order ⟨2560 + k, by omega⟩ = ⟨1536 + k, by omega⟩ := by
  unfold order; rw [dif_neg (by dsimp only; omega), dif_neg (by dsimp only; omega)]; apply Fin.ext; dsimp only; omega

end Cert.InprojMath

namespace Cert.InprojIdeal.Body

open Cert.InprojIdeal Cert.InprojIdeal.Gen Idealize.ShloMosaic Idealize.ShloMosaic.TcCoe Idealize.SL.Sem
open Cert.RealFacts Cert.InprojMath
open scoped BigOperators

variable (x : FVec Ideal S512x1024 .f32) (g : FVec Ideal S1x1024 .f32)

/-- The normalized block times the gain. -/
theorem hidden_at (r : Fin 512) (j : Fin 1024) :
    k0_pay1 (F := Ideal) x g (ix2 r j) = Cert.InprojWgradMath.hidden (fun r k => x (ix2 r k)) (fun k => g (ix2 0 k)) r j := by
  pointwise [k0_pay1]
  simp only [ofBits_1024, ofBits_eps]
  rfl

/-- The three products, entry by entry. -/
theorem proj_at (r : Fin 512) :
    (∀ (wa : FVec Ideal S1536x1024 .bf16) (k : Fin 1536), k0_pay2 (F := Ideal) x g wa (ix2 r k) = ∑ j, Cert.InprojWgradMath.hidden (fun r k => x (ix2 r k)) (fun k => g (ix2 0 k)) r j * wa (ix2 k j))
    ∧ (∀ (wb : FVec Ideal S1024x1024 .bf16) (k : Fin 1024), k0_pay3 (F := Ideal) x g wb (ix2 r k) = ∑ j, Cert.InprojWgradMath.hidden (fun r k => x (ix2 r k)) (fun k => g (ix2 0 k)) r j * wb (ix2 k j))
    ∧ (∀ (wc : FVec Ideal S128x1024 .bf16) (k : Fin 128), k0_pay4 (F := Ideal) x g wc (ix2 r k) = ∑ j, Cert.InprojWgradMath.hidden (fun r k => x (ix2 r k)) (fun k => g (ix2 0 k)) r j * wc (ix2 k j)) := by
  refine ⟨fun w k => ?_, fun w k => ?_, fun w k => ?_⟩ <;> pointwise [k0_pay2, k0_pay3, k0_pay4] <;> simp only [hidden_at]

variable (m : (ℓ : Loc nD τ sig) → Buf (Elt Ideal) ℓ)

/-- The block each window holds at a grid point. -/
theorem idx : ∀ t : Fin cfg0.N, win0_0.index t = ![t.val, 0] ∧ win0_1.index t = ![0, 0] ∧ win0_2.index t = ![0, 0] ∧ win0_4.index t = ![t.val, 0] :=
  (by decide +kernel : ∀ t : Fin grid0.N, _)

/-- Row `r` of the tile at point `t`. -/
def row (t : Fin cfg0.N) (r : Fin 512) : Fin 8192 := ⟨t.val * 512 + r.val, by have := t.isLt; have : cfg0.N = 16 := N_0; omega⟩

theorem x_blk (c : Dev nD) (t : Fin cfg0.N) (r : Fin 512) (k : Fin 1024) :
    (show FVec Ideal S512x1024 .f32 from iblk m c 0 t) (ix2 r k) = m ((c : Thread nD τ).loc main_arg0) (ix3 0 (row t r) k) := by
  unfold row; blk_simp [iblk, idx t]; entry_read; pointwise; blk_ext [idx t]

theorem g_blk (c : Dev nD) (t : Fin cfg0.N) (k : Fin 1024) :
    (show FVec Ideal S1x1024 .f32 from iblk m c 1 t) (ix2 0 k) = m ((c : Thread nD τ).loc main_arg1) (ix2 0 k) := by
  blk_simp [iblk, idx t]; entry_read; blk_ext [idx t]

theorem w_blk (c : Dev nD) (t : Fin cfg0.N) (k : Fin 2592) (j : Fin 1024) :
    (show FVec Ideal S2592x1024 .bf16 from iblk m c 2 t) (ix2 k j) = m ((c : Thread nD τ).loc main_arg2) (ix3 0 j k) := by
  blk_simp [iblk, idx t]; entry_read; pointwise; blk_ext [idx t]

variable {m} {c : Dev nD} {X : Fin 8192 → Fin 1024 → EReal} {G : Fin 1024 → EReal} {W : Fin 1024 → Fin 2592 → EReal}
variable (hx : ∀ r k, m ((c : Thread nD τ).loc main_arg0) (ix3 0 r k) = X r k)
variable (hg : ∀ k, m ((c : Thread nD τ).loc main_arg1) (ix2 0 k) = G k)
variable (hw : ∀ j k, m ((c : Thread nD τ).loc main_arg2) (ix3 0 j k) = W j k)

include hx hg in
theorem hidden_blk (t : Fin cfg0.N) (r : Fin 512) (j : Fin 1024) :
    Cert.InprojWgradMath.hidden (fun r k => (show FVec Ideal S512x1024 .f32 from iblk m c 0 t) (ix2 r k)) (fun k => (show FVec Ideal S1x1024 .f32 from iblk m c 1 t) (ix2 0 k)) r j
      = Cert.InprojWgradMath.hidden X G (row t r) j :=
  congrArg₂ (· * ·) (congrArg₂ (· * ·) ((x_blk m c t r j).trans (hx _ _)) (congrArg rmsE (funext fun k => (x_blk m c t r k).trans (hx _ _))))
    ((g_blk m c t j).trans (hg _))

/-- Rows of an array, loaded: `n` rows from row `off` on. -/
theorem load_rows (w : FVec Ideal S2592x1024 .bf16) (off n : ℕ) (inb : ∀ a, (![off, 0] : Fin 2 → ℕ) a + (![n, 1024] : Fin 2 → ℕ) a ≤ S2592x1024.size a)
    (hw : off + n ≤ 2592) (k : Fin n) (j : Fin 1024) :
    View.ld (Val := Elt Ideal) (S := S2592x1024) (e' := .bf16) w (Rect.unit (s := S2592x1024) ![off, 0] ![n, 1024] inb) (ix2 k j)
      = w (ix2 ⟨off + k.val, by have := k.isLt; omega⟩ j) := by
  refine congrArg w (funext fun a => ?_)
  match a with
  | 0 => exact Fin.ext (by show off + 1 * k.val = off + k.val; omega)
  | 1 => exact Fin.ext (by show 0 + 1 * j.val = j.val; omega)

variable (m c) in
/-- The three writes of the body at a grid point, the last one first. -/
def stores (t : Fin cfg0.N) : List (View.Piece (Elt Ideal) S512x2688 .f32) :=
  [⟨Rect.unit ![0, 2560] ![512, 128] inb_S512x2688_S512x128_0_2560, k0_pay4 (F := Ideal) (iblk m c 0 t) (iblk m c 1 t)
      (View.ld (iblk m c 2 t) (Rect.unit ![1536, 0] ![128, 1024] inb_S2592x1024_S128x1024_1536_0))⟩,
    ⟨Rect.unit ![0, 1536] ![512, 1024] inb_S512x2688_S512x1024_0_1536, k0_pay3 (F := Ideal) (iblk m c 0 t) (iblk m c 1 t)
      (View.ld (iblk m c 2 t) (Rect.unit ![1568, 0] ![1024, 1024] inb_S2592x1024_S1024x1024_1568_0))⟩,
    ⟨Rect.unit ![0, 0] ![512, 1536] inb_S512x2688_S512x1536_0_0, k0_pay2 (F := Ideal) (iblk m c 0 t) (iblk m c 1 t)
      (View.ld (iblk m c 2 t) (Rect.unit ![0, 0] ![1536, 1024] inb_S2592x1024_S1536x1024_0_0))⟩]

include hx hg hw in
/-- A sum over the loaded rows of the weight is the sum over the weight's column. -/
theorem sum_blk (t : Fin cfg0.N) (r : Fin 512) (off n : ℕ) (inb : ∀ a, (![off, 0] : Fin 2 → ℕ) a + (![n, 1024] : Fin 2 → ℕ) a ≤ S2592x1024.size a)
    (hn : off + n ≤ 2592) (k : Fin n) (q : Fin 2688) (hq : order q = ⟨off + k.val, by have := k.isLt; omega⟩) :
    ∑ j, Cert.InprojWgradMath.hidden (fun r k => (show FVec Ideal S512x1024 .f32 from iblk m c 0 t) (ix2 r k)) (fun k => (show FVec Ideal S1x1024 .f32 from iblk m c 1 t) (ix2 0 k)) r j
        * View.ld (Val := Elt Ideal) (S := S2592x1024) (e' := .bf16) (iblk m c 2 t) (Rect.unit (s := S2592x1024) ![off, 0] ![n, 1024] inb) (ix2 k j)
      = proj X G W (row t r) q := by
  unfold proj
  rw [hq]
  exact Finset.sum_congr rfl fun j _ => congrArg₂ (· * ·) (hidden_blk hx hg t r j)
    ((load_rows _ off n inb hn k j).trans ((w_blk m c t _ j).trans (hw _ _)))

include hx hg hw in
/-- Each write holds its part of the projected rows. -/
theorem stores_pieces (t : Fin cfg0.N) :
    View.PiecesOf (Val := Elt Ideal) (s := S512x2688) (e := .f32) (fun i => proj X G W (row t (i 0)) (i 1)) (stores m c t) := by
  have pos (off n : ℕ) (inb : ∀ a, (![0, off] : Fin 2 → ℕ) a + (![512, n] : Fin 2 → ℕ) a ≤ S512x2688.size a) (hn : off + n ≤ 2688) (r : Fin 512) (k : Fin n) :
      proj X G W (row t r) ⟨off + k.val, by have := k.isLt; omega⟩
        = (fun i : S512x2688.Idx => proj X G W (row t (i 0)) (i 1)) ((Rect.unit (s := S512x2688) ![0, off] ![512, n] inb).emb (ix2 r k)) :=
    congrArg₂ (proj X G W) (congrArg (row t) (Fin.ext (by show r.val = 0 + 1 * r.val; omega))) (Fin.ext (by show off + k.val = off + 1 * k.val; omega))
  refine ⟨fun x => ?_, fun x => ?_, fun x => ?_, trivial⟩ <;> idx_vars x
  · exact (((proj_at _ _ x0).2.2 _ x1).trans (sum_blk hx hg hw t x0 1536 128 _ (by omega) x1 _ (order_between _ x1.isLt))).trans (pos 2560 128 _ (by omega) x0 x1)
  · exact (((proj_at _ _ x0).2.1 _ x1).trans (sum_blk hx hg hw t x0 1568 1024 _ (by omega) x1 _ (order_last _ x1.isLt))).trans (pos 1536 1024 _ (by omega) x0 x1)
  · exact (((proj_at _ _ x0).1 _ x1).trans (sum_blk hx hg hw t x0 0 1536 _ (by omega) x1 _ (order_first _ x1.isLt))).trans (pos 0 1536 _ (by omega) x0 x1)

include hx hg hw in
/-- The result. -/
theorem final4 : (dats m 0 c).arrAt 4 cfg0.N = (show FVec Ideal S8192x2688 .f32 from fun i => proj X G W (i 0) (i 1)) := by
  refine (dats m 0 c).arrAt_eq_of_covers 4 _ (by decide +kernel) fun t hf y => ?_
  blk_simp
  rw [after0_4]
  have e : (win0_4.blk t).view.emb y = ix2 (row t (y 0)) (y 1) := by idx_vars y; unfold row; blk_ext [idx t]
  refine Eq.trans ?_ (congrArg (fun i : S8192x2688.Idx => proj X G W (i 0) (i 1)) e.symm)
  unfold outsAt0
  frame_out
  exact View.canon_apply_of_pieces (fun i : S512x2688.Idx => proj X G W (row t (i 0)) (i 1)) _ (stores_pieces hx hg hw t).mem y
    (View.cover_of_tiledBy (stores m c t) ![512, 128] (by sl_kernel_rfl) y)

end Cert.InprojIdeal.Body

end
-- ==== Proof.InprojRef.lean ====
/-
  THE INPUT PROJECTION, THE REFERENCE'S ARRAY: the projected rows, their columns put side by side in the kernel's order.
-/
module

public import proofs.«01_k».proof.Proof.InprojBody
public import proofs.«01_k».proof.Proof.Gen.InprojRefIdeal.Read
public import Idealize.ShloMosaic.Lib.Pipeline.ValueKit

@[expose] public section

set_option maxRecDepth 16384

noncomputable section

namespace Cert.InprojRefIdeal.Ref

open Cert.InprojRefIdeal Cert.InprojRefIdeal.Read Idealize.ShloMosaic Idealize.ShloMosaic.TcCoe Idealize.SL.Sem
open Cert.RealFacts Cert.InprojMath
open scoped BigOperators

variable {x0 : FVec Ideal S1x8192x1024 .f32} {x1 : FVec Ideal S1x1024 .f32} {x2 : FVec Ideal S1x1024x2592 .bf16}
variable {X : Fin 8192 → Fin 1024 → EReal} {G : Fin 1024 → EReal} {W : Fin 1024 → Fin 2592 → EReal}
variable (hx : ∀ r k, x0 (ix3 0 r k) = X r k)
variable (hg : ∀ k, x1 (ix2 0 k) = G k)
variable (hw : ∀ j k, x2 (ix3 0 j k) = W j k)

include hx in
/-- The mean of squares plus epsilon. -/
theorem msq_at (r : Fin 8192) : val_main_v7 (F := Ideal) x0 (ix3 0 r 0) = msqE (X r) := by
  pointwise [val_main_v7, val_main_v6, val_main_cst_1, val_main_v5, val_main_v4, val_main_cst_0, val_main_v3, val_main_v2, val_main_cst, val_main_v1]
  simp only [hx, ofBits_1024, ofBits_eps, zero_add]
  rfl

include hx hg in
theorem hidden_at (r : Fin 8192) (j : Fin 1024) : val_main_v13 (F := Ideal) x0 x1 (ix3 0 r j) = Cert.InprojWgradMath.hidden X G r j := by
  pointwise [val_main_v13, val_main_v12, val_main_v11, val_main_v10, val_main_v9, val_main_v8, val_main_v0]
  rw [msq_at hx, hx, hg]
  rfl

include hx hg hw in
/-- The projection in the order of the weight's columns. -/
theorem rows_at (r : Fin 8192) (k : Fin 2592) : val_main_v16 (F := Ideal) x0 x1 x2 (ix2 r k) = ∑ j, Cert.InprojWgradMath.hidden X G r j * W j k := by
  pointwise [val_main_v16, val_main_v15, val_main_v14]
  exact Finset.sum_congr rfl fun j _ => congrArg₂ (· * ·) (hidden_at hx hg r j) (hw j k)

include hx hg hw in
theorem proj_at : val_main_v20 (F := Ideal) x0 x1 x2 = fun i => proj X G W (i 0) (i 1) := by
  funext i
  idx_vars i
  pointwise [val_main_v20, val_main_v19, val_main_v18, val_main_v17]
  simp only [rows_at hx hg hw]
  unfold proj order
  split_ifs with h1 h2 h3 h4 <;> first | omega | rfl | skip
  · exact Finset.sum_congr rfl fun j _ => congrArg (fun q => Cert.InprojWgradMath.hidden X G i0 j * W j q) (Fin.ext (by rw [dif_pos (by omega)]; dsimp only; omega))
  · exact Finset.sum_congr rfl fun j _ => congrArg (fun q => Cert.InprojWgradMath.hidden X G i0 j * W j q) (Fin.ext (by rw [dif_neg (by omega)]; dsimp only; omega))

end Cert.InprojRefIdeal.Ref

end
-- ==== Proof.InprojClaim.lean ====
/-
  THE CLAIMS ABOUT THE INPUT PROJECTION, one theorem each.
-/
module

public import proofs.«01_k».proof.Defs
public import proofs.«01_k».proof.Proof.InprojBody
public import proofs.«01_k».proof.Proof.InprojRef
public import proofs.«01_k».proof.Proof.Gen.Inproj.Frame
public import proofs.«01_k».proof.Proof.Gen.InprojIdeal.Frame
public import Idealize.ShloMosaic.Lib.Quiescent

@[expose] public section

noncomputable section

namespace Cert.InprojClaim

open Idealize.ShloMosaic Idealize.SL.Sem
open Cert.RealFacts Cert.InprojMath

theorem frame_ref : Cert.quiescent_InprojRefIdeal := fun m ρ _ => (θ_run (Cert.InprojRefIdeal.defs (F := Ideal)) _ _).mono
  (fun r h => ⟨fun c => (h c).2, Idealize.ShloMosaic.sem_eq_zero_of_no_sems (by decide) r.2⟩) (Cert.InprojRefIdeal.Value.run (F := Ideal) m ρ)

/-- Both programs leave the same array, whatever the arguments hold. -/
theorem algebraic : Cert.algebraic_InprojIdeal_InprojRefIdeal := by
  intro m g m' g' _ hag
  refine ⟨fun c => (Cert.InprojIdeal.Gen.dats m 0 c).arrAt 4 Cert.InprojIdeal.cfg0.N, Cert.InprojIdeal.Value.run_blocks (F := Ideal) m g, ?_⟩
  refine (θ_run _ _ _).mono (fun r h c => ?_) (Cert.InprojRefIdeal.Value.run (F := Ideal) m' g')
  obtain ⟨e0, e1, e2⟩ := hag c
  refine ⟨(h c).1.trans ?_, (h c).2⟩
  rw [Cert.InprojRefIdeal.Read.val_main_v20_eq, e0, e1, e2]
  exact (Cert.InprojRefIdeal.Ref.proj_at (fun _ _ => rfl) (fun _ => rfl) (fun _ _ => rfl)).trans
    (Cert.InprojIdeal.Body.final4 (fun _ _ => rfl) (fun _ => rfl) (fun _ _ => rfl)).symm

end Cert.InprojClaim

end
-- ==== Proof.GlaFwdMath.lean ====
/-
  THE GATED LINEAR ATTENTION, FORWARD, AS PLAIN FUNCTIONS: the decay of every key column summed within its chunk of 64 rows,
  the causal products inside a chunk, and the state carried from chunk to chunk. Both programs compute these.
-/
module

public import proofs.«01_k».proof.Proof.RealFacts

@[expose] public section

noncomputable section

namespace Cert.GlaFwdMath

open Idealize.ShloMosaic
open Cert.RealFacts
open scoped BigOperators

/-- The logarithm of the logistic function, as the kernel writes it. -/
def logSig (x : EReal) : EReal := min x 0 - Ideal.log (1 + Ideal.exp (0 - max x (-x)))

/-- What the call takes: the projected rows `P`, the second factor `w` of the decay's weight and its bias `b`. -/
structure Args where
  P : Fin 8192 → Fin 2592 → EReal
  w : Fin 16 → Fin 256 → EReal
  b : Fin 256 → EReal

/-- The sixteenth by which the logarithm of the gate is scaled. -/
def tau : EReal := Ideal.ofBits .f32 0x3D800000#32

/-- The eighth by which the queries are scaled. -/
def eighth : EReal := Ideal.ofBits .f32 0x3E000000#32

/-- The sums of the last `w` of a row's terms, none of them from before the row's chunk. -/
def tail (f : ℕ → EReal) (w r : ℕ) : EReal := ∑ u ∈ Finset.range (min w (r % 64 + 1)), f (r - u)

/-- A rung of the ladder doubles the number of terms. -/
theorem tail_double (f : ℕ → EReal) (w r : ℕ) : tail f w r + (if w ≤ r % 64 then tail f w (r - w) else 0) = tail f (w + w) r := by
  unfold tail
  by_cases h : w ≤ r % 64
  · rw [if_pos h, Nat.min_eq_left (by omega : w ≤ r % 64 + 1)]
    have e : (r - w) % 64 = r % 64 - w := by omega
    have d : min (w + w) (r % 64 + 1) = w + min w ((r - w) % 64 + 1) := by omega
    rw [d, Finset.sum_range_add]
    exact congrArg _ (Finset.sum_congr rfl fun u _ => congrArg f (by omega))
  · rw [if_neg h, add_zero, Nat.min_eq_right (by omega), Nat.min_eq_right (by omega)]

theorem tail_one (f : ℕ → EReal) (r : ℕ) : tail f 1 r = f r := by
  unfold tail
  rw [Nat.min_eq_left (by omega), Finset.sum_range_one, Nat.sub_zero]

/-- The whole ladder: the sum of a chunk's terms up to a row. -/
theorem tail_full (f : ℕ → EReal) (n t : ℕ) (ht : t < 64) : tail f 64 (n * 64 + t) = ∑ u ∈ Finset.range (t + 1), f (n * 64 + u) := by
  unfold tail
  have e : min 64 ((n * 64 + t) % 64 + 1) = t + 1 := by omega
  rw [e, ← Finset.sum_range_reflect]
  refine Finset.sum_congr rfl fun u hu => congrArg f ?_
  have := Finset.mem_range.mp hu
  omega

/-- A sum over the lanes of a pair of heads, all terms zero but those of one head. -/
theorem sum_lanes (f : Fin 128 → EReal) (i : Fin 2) (h : ∀ l, l.val / 64 ≠ i.val → f l = 0) : ∑ l, f l = ∑ d : Fin 64, f ⟨i.val * 64 + d.val, by omega⟩ := by
  rw [Fin.sum_univ_tiles 2 64 rfl, Fin.sum_univ_two]
  have z (q : Fin 2) (hq : q ≠ i) : ∑ j : Fin 64, f (Fin.cast rfl ⟨q.val * 64 + j.val, by omega⟩) = 0 :=
    Finset.sum_eq_zero fun j _ => h _ (by show (q.val * 64 + j.val) / 64 ≠ i.val; have := fun e => hq (Fin.ext e); omega)
  obtain hi | hi : i = 0 ∨ i = 1 := by omega
  · subst hi
    exact (congrArg₂ (· + ·) rfl (z 1 (by decide))).trans (add_zero _)
  · subst hi
    exact (congrArg₂ (· + ·) (z 0 (by decide)) rfl).trans (zero_add _)

/-- One on the lanes of a head of the pair, zero on the others. -/
def mask (i : Fin 2) (l : Fin 128) : EReal := if l.val / 64 = i.val then 1 else 0

/-- The chunk of a number. -/
def chunk (k : ℕ) : Fin 128 := ⟨k % 128, Nat.mod_lt _ (by decide)⟩

theorem chunk_val (n : Fin 128) : chunk n.val = n := Fin.ext (Nat.mod_eq_of_lt n.isLt)

/-- The row of a chunk. -/
def row (n : Fin 128) (t : Fin 64) : Fin 8192 := ⟨n.val * 64 + t.val, by omega⟩

/-- The key column of a head of a pair. -/
def lane (p : Fin 2) (l : Fin 128) : Fin 256 := ⟨p.val * 128 + l.val, by omega⟩

/-- The head of a pair. -/
def head (p i : Fin 2) : Fin 4 := ⟨p.val * 2 + i.val, by omega⟩

/-- The key column of a head. -/
def col (h : Fin 4) (d : Fin 64) : Fin 256 := ⟨h.val * 64 + d.val, by omega⟩

theorem lane_col (p i : Fin 2) (d : Fin 64) : lane p ⟨i.val * 64 + d.val, by omega⟩ = col (head p i) d :=
  Fin.ext (by unfold lane col head; dsimp only; omega)

namespace Args

variable (a : Args)

/-- The logarithm of a gate. -/
def gate (r : Fin 8192) (c : Fin 256) : EReal := logSig ((∑ j : Fin 16, a.P r ⟨1536 + j.val, by omega⟩ * a.w j c) + a.b c) * tau

/-- The same, by the number of the row. -/
def gateN (c : Fin 256) (r : ℕ) : EReal := if h : r < 8192 then a.gate ⟨r, h⟩ c else 0

/-- The decay of a column from the start of its chunk. -/
def decay (n : Fin 128) (t : Fin 64) (c : Fin 256) : EReal := ∑ u ∈ Finset.range (t.val + 1), a.gateN c (n.val * 64 + u)

/-- The queries, decayed. -/
def qd (n : Fin 128) (t : Fin 64) (c : Fin 256) : EReal := a.P (row n t) ⟨c.val, by omega⟩ * eighth * Ideal.exp (a.decay n t c)

/-- The keys against the queries of their chunk. -/
def kd (n : Fin 128) (s : Fin 64) (c : Fin 256) : EReal := a.P (row n s) ⟨256 + c.val, by omega⟩ * Ideal.exp (-a.decay n s c)

/-- The keys decayed to the chunk's end. -/
def ke (n : Fin 128) (s : Fin 64) (c : Fin 256) : EReal := a.P (row n s) ⟨256 + c.val, by omega⟩ * Ideal.exp (a.decay n 63 c - a.decay n s c)

/-- The decay of a whole chunk. -/
def dec (n : Fin 128) (c : Fin 256) : EReal := Ideal.exp (a.decay n 63 c)

/-- The values. -/
def v (n : Fin 128) (s : Fin 64) (h : Fin 4) (e : Fin 128) : EReal := a.P (row n s) ⟨512 + (h.val * 128 + e.val), by omega⟩

/-- A head's products inside a chunk, causal. -/
def score (n : Fin 128) (h : Fin 4) (t s : Fin 64) : EReal := if s.val ≤ t.val then ∑ d : Fin 64, a.qd n t (col h d) * a.kd n s (col h d) else 0

/-- What a chunk adds to the state. -/
def inc (n : Fin 128) (h : Fin 4) (d : Fin 64) (e : Fin 128) : EReal := ∑ s : Fin 64, a.v n s h e * a.ke n s (col h d)

/-- The state before a chunk. -/
def state (h : Fin 4) (d : Fin 64) (e : Fin 128) : ℕ → EReal
  | 0 => 0
  | k + 1 => state h d e k * a.dec (chunk k) (col h d) + a.inc (chunk k) h d e

/-- The outputs. -/
def out (n : Fin 128) (t : Fin 64) (h : Fin 4) (e : Fin 128) : EReal :=
  (∑ s : Fin 64, a.score n h t s * a.v n s h e) + ∑ d : Fin 64, a.qd n t (col h d) * a.state h d e n.val

/-- The state before a chunk on all lanes of a pair: zero on the other head's lanes. -/
def laneState (p i : Fin 2) (l e : Fin 128) (k : ℕ) : EReal := if l.val / 64 = i.val then a.state (head p i) ⟨l.val % 64, Nat.mod_lt _ (by decide)⟩ e k else 0

theorem lane_self (p i : Fin 2) (l : Fin 128) (h : l.val / 64 = i.val) : lane p l = col (head p i) ⟨l.val % 64, Nat.mod_lt _ (by decide)⟩ :=
  Fin.ext (by unfold lane col head; dsimp only; omega)

theorem laneState_zero (p i : Fin 2) (l e : Fin 128) : a.laneState p i l e 0 = 0 := by
  unfold laneState state
  exact ite_self _

/-- One chunk, on all lanes. -/
theorem laneState_succ (p i : Fin 2) (l e : Fin 128) (k : ℕ) :
    a.laneState p i l e (k + 1) = a.laneState p i l e k * a.dec (chunk k) (lane p l) + ∑ s : Fin 64, a.v (chunk k) s (head p i) e * (a.ke (chunk k) s (lane p l) * mask i l) := by
  unfold laneState mask
  by_cases h : l.val / 64 = i.val
  · simp only [if_pos h, mul_one, lane_self p i l h]
    rfl
  · simp only [if_neg h, mul_zero, zero_mul, Finset.sum_const_zero, add_zero]

/-- The products of a head, from all lanes. -/
theorem score_lanes (n : Fin 128) (p i : Fin 2) (t s : Fin 64) :
    (∑ l, a.qd n t (lane p l) * mask i l * a.kd n s (lane p l)) = ∑ d : Fin 64, a.qd n t (col (head p i) d) * a.kd n s (col (head p i) d) := by
  rw [sum_lanes _ i (fun l h => by unfold mask; rw [if_neg h, mul_zero, zero_mul])]
  refine Finset.sum_congr rfl fun d _ => ?_
  unfold mask
  rw [if_pos (by show (i.val * 64 + d.val) / 64 = i.val; omega), mul_one, lane_col]

/-- What the state adds to the outputs, from all lanes. -/
theorem inter_lanes (n : Fin 128) (p i : Fin 2) (t : Fin 64) (e : Fin 128) (k : ℕ) :
    (∑ l, a.qd n t (lane p l) * a.laneState p i l e k) = ∑ d : Fin 64, a.qd n t (col (head p i) d) * a.state (head p i) d e k := by
  rw [sum_lanes _ i (fun l h => by unfold laneState; rw [if_neg h, mul_zero])]
  refine Finset.sum_congr rfl fun d _ => ?_
  unfold laneState
  rw [if_pos (by show (i.val * 64 + d.val) / 64 = i.val; omega), lane_col]
  exact congrArg (fun d => _ * a.state (head p i) d e k) (Fin.ext (by show (i.val * 64 + d.val) % 64 = d.val; omega))

end Args

end Cert.GlaFwdMath
end
-- ==== Proof.GlaFwdBody.lean ====
/-
  THE GATED LINEAR ATTENTION, FORWARD, ONE GRID POINT OF THE KERNEL: what the body's arithmetic computes of its blocks.
-/
module

public import proofs.«01_k».proof.Proof.GlaFwdMath
public import proofs.«01_k».proof.Proof.Gen.GlaFwdIdeal.Value
public import Idealize.ShloMosaic.Lib.Pipeline.ValueKit
public import Idealize.ShloMosaic.Lib.Pipeline.ReadBack

@[expose] public section

set_option maxRecDepth 16384

noncomputable section

namespace Cert.GlaFwdIdeal.Body

open Cert.GlaFwdIdeal Cert.GlaFwdIdeal.Gen Idealize.ShloMosaic Idealize.ShloMosaic.TcCoe Idealize.SL.Sem
open Cert.RealFacts Cert.GlaFwdMath
open scoped BigOperators

/-! ## Numbers of rows and lanes -/

/-- A row's place in its chunk. -/
theorem place_at (r : Fin 1024) (l : Fin 128) : k0_pay11 (ix2 r l) = BitVec.ofNat 32 (r.val % 64) := by
  pointwise [k0_pay11]
  revert r
  decide +kernel

/-- The half of the lanes a lane stands in. -/
theorem half_at (l : Fin 128) : k0_pay13 (iota .tc S1x128 32 [1] iota_S1x128_d1_w32) 64#32 k0_pay12 0#32 (ix2 0 l) = BitVec.ofNat 32 (l.val / 64) := by
  pointwise [k0_pay13, k0_pay12]
  revert l
  decide +kernel

theorem causal_at (t s : Fin 64) : k0_pay14 (ix2 t s) = if s.val ≤ t.val then 1#1 else 0#1 := by
  pointwise [k0_pay14]
  revert t s
  decide +kernel

/-! ## The decays -/

theorem gate_at (x : FVec Ideal S1024x128 .f32) (w : FVec Ideal S128x128 .bf16) (b : FVec Ideal S1x128 .f32) (r : Fin 1024) (l : Fin 128) :
    k0_pay15 (F := Ideal) (k0_pay6 x) w b (ix2 r l) = logSig ((∑ j, x (ix2 r j) * w (ix2 j l)) + b (ix2 0 l)) * tau := by
  pointwise [k0_pay15, k0_pay6]
  rfl

/-- One rung of the ladder of sums: the rows `s` before, where those are of the same chunk. -/
def rung (y : IVec S1024x128 32) (s : BitVec 32) (g : FVec Ideal S1024x128 .f32) : FVec Ideal S1024x128 .f32 :=
  addf g (select (cmpi .sge y (broadcast S1024x128 s)) (dynamicRotate 0 s none g rotates_S1024x128_d0) (broadcast S1024x128 (Scalar.ofBits .f32 0x00000000#32 : Ideal .f32)))

/-- The six rungs, and the rows by chunks. -/
def ladder (y : IVec S1024x128 32) (g : FVec Ideal S1024x128 .f32) : FVec Ideal S16x64x128 .f32 :=
  shapeCast S16x64x128 (rung y 32#32 (rung y 16#32 (rung y 8#32 (rung y 4#32 (rung y 2#32 (rung y 1#32 g)))))) shapeCasts_S1024x128_S16x64x128

theorem ladder_first (y : IVec S1024x128 32) (g : FVec Ideal S1024x128 .f32) : k0_pay17 (F := Ideal) y g (k0_pay16 y) = ladder y g := rfl

theorem ladder_second (y : IVec S1024x128 32) (x : FVec Ideal S1024x128 .bf16) (w : FVec Ideal S128x128 .bf16) (b : FVec Ideal S1x128 .f32) :
    k0_pay37 (F := Ideal) y (k0_pay35 x y w b) (k0_pay36 x y w b) = ladder y (k0_pay15 x w b) := rfl

/-- A test against a number of rows. -/
theorem ge_at (s : ℕ) (hs : s < 64) (r : Fin 64) : IntOp.cmpi CmpIPredicate.sge (BitVec.ofNat 32 r.val) (BitVec.ofNat 32 s) = if s ≤ r.val then 1#1 else 0#1 := by
  have h : ∀ s r : Fin 64, IntOp.cmpi CmpIPredicate.sge (BitVec.ofNat 32 r.val) (BitVec.ofNat 32 s.val) = if s.val ≤ r.val then 1#1 else 0#1 := by decide +kernel
  exact h ⟨s, hs⟩ r

theorem rung_at (s : ℕ) (hs : s < 64) (g : FVec Ideal S1024x128 .f32) (r : Fin 1024) (l : Fin 128) :
    rung k0_pay11 (BitVec.ofNat 32 s) g (ix2 r l) = g (ix2 r l) + if s ≤ r.val % 64 then g (ix2 ⟨r.val - s, by omega⟩ l) else 0 := by
  pointwise [rung]
  rw [place_at, ge_at s hs ⟨r.val % 64, Nat.mod_lt _ (by decide)⟩]
  by_cases h : s ≤ r.val % 64
  · rw [if_pos h, if_pos h]
    have e : (BitVec.ofNat 32 s).toNat = s := by rw [BitVec.toNat_ofNat]; exact Nat.mod_eq_of_lt (by omega)
    refine congrArg (g (ix2 r l) + ·) ((if_pos rfl : Scalar.select 1#1 _ _ = _).trans (congrArg (fun r => g (ix2 r l)) (Fin.ext ?_)))
    show (r.val + 1024 - (BitVec.ofNat 32 s).toNat % 1024) % 1024 = r.val - s
    rw [e]
    omega
  · rw [if_neg h, if_neg h]
    exact congrArg (g (ix2 r l) + ·) (if_neg (by decide) : Scalar.select 0#1 _ _ = _)

theorem ladder_at (y : IVec S1024x128 32) (g : FVec Ideal S1024x128 .f32) (n : Fin 16) (t : Fin 64) (l : Fin 128) :
    ladder y g (ix3 n t l) = rung y 32#32 (rung y 16#32 (rung y 8#32 (rung y 4#32 (rung y 2#32 (rung y 1#32 g))))) (ix2 ⟨n.val * 64 + t.val, by omega⟩ l) := by
  pointwise [ladder]

/-- The ladder sums a chunk's rows up to a row. -/
theorem ladder_sum (g : FVec Ideal S1024x128 .f32) (n : Fin 16) (t : Fin 64) (l : Fin 128) (f : ℕ → EReal) (hf : ∀ r : Fin 1024, g (ix2 r l) = f r.val) :
    ladder k0_pay11 g (ix3 n t l) = ∑ u ∈ Finset.range (t.val + 1), f (n.val * 64 + u) := by
  have step (s : ℕ) (hs : s < 64) (g : FVec Ideal S1024x128 .f32) (h : ∀ r : Fin 1024, g (ix2 r l) = tail f s r.val) (r : Fin 1024) :
      rung k0_pay11 (BitVec.ofNat 32 s) g (ix2 r l) = tail f (s + s) r.val := by
    rw [rung_at s hs, h, h, tail_double]
  rw [ladder_at, step 32 (by decide) _ (step 16 (by decide) _ (step 8 (by decide) _ (step 4 (by decide) _ (step 2 (by decide) _ (step 1 (by decide) g fun r => (hf r).trans (tail_one f r.val).symm)))))]
  exact tail_full f n.val t.val t.isLt

/-! ## The products of a pair of heads -/

/-- The half of the lanes every lane stands in. -/
def halves : IVec S1x128 32 := k0_pay13 (iota .tc S1x128 32 [1] iota_S1x128_d1_w32) 64#32 k0_pay12 0#32

/-- The lanes of a head as ones and zeros. -/
theorem mask_at (i : Fin 2) (l : Fin 128) :
    FloatOps.sitofp (F := Ideal) FTy.f32 (BitVec.setWidth 32 (IntOp.cmpi CmpIPredicate.eq (halves (ix2 0 l)) (BitVec.ofNat 32 i.val))) = mask i l := by
  have h : ∀ (i : Fin 2) (l : Fin 128), BitVec.setWidth 32 (IntOp.cmpi CmpIPredicate.eq (BitVec.ofNat 32 (l.val / 64)) (BitVec.ofNat 32 i.val)) = if l.val / 64 = i.val then 1#32 else 0#32 := by decide +kernel
  unfold halves mask
  rw [half_at, h]
  by_cases e : l.val / 64 = i.val
  · rw [if_pos e, if_pos e]
    show ((((1#32 : BitVec 32).toInt : ℝ)) : EReal) = 1
    norm_num
  · rw [if_neg e, if_neg e]
    show ((((0#32 : BitVec 32).toInt : ℝ)) : EReal) = 0
    norm_num

/-- What the body has of a pair `p` of heads in sixteen chunks `N`: the decays and the queries' and keys' columns. -/
structure PairIn (a : Args) (p : Fin 2) (N : Fin 16 → Fin 128) (B : FVec Ideal S16x64x128 .f32) (q k : FVec Ideal S1024x128 .f32) : Prop where
  B : ∀ n t l, B (ix3 n t l) = a.decay (N n) t (lane p l)
  q : ∀ (n : Fin 16) (t : Fin 64) l, q (ix2 ⟨n.val * 64 + t.val, by omega⟩ l) = a.P (row (N n) t) ⟨(lane p l).val, by omega⟩
  k : ∀ (n : Fin 16) (t : Fin 64) l, k (ix2 ⟨n.val * 64 + t.val, by omega⟩ l) = a.P (row (N n) t) ⟨256 + (lane p l).val, by omega⟩

/-- What it has of a head's values. -/
def ValIn (a : Args) (h : Fin 4) (N : Fin 16 → Fin 128) (v : FVec Ideal S1024x128 .f32) : Prop :=
  ∀ (n : Fin 16) (t : Fin 64) e, v (ix2 ⟨n.val * 64 + t.val, by omega⟩ e) = a.v (N n) t h e

section Pair

variable {a : Args} {p : Fin 2} {N : Fin 16 → Fin 128} {B : FVec Ideal S16x64x128 .f32} {q k v : FVec Ideal S1024x128 .f32}

/-- The causal products of a head against its values, as the body sums them. -/
theorem intra_sum (H : PairIn a p N B q k) (i : Fin 2) (V : ValIn a (head p i) N v) (n : Fin 16) (t : Fin 64) (e : Fin 128) :
    (∑ s, Scalar.select (k0_pay14 (ix2 t s))
        ((∑ l, q (ix2 ⟨n.val * 64 + t.val, by omega⟩ l) * Ideal.ofBits FTy.f32 1040187392#32 * Ideal.exp (B (ix3 n t l))
            * FloatOps.sitofp (F := Ideal) FTy.f32 (BitVec.setWidth 32 (IntOp.cmpi CmpIPredicate.eq (halves (ix2 0 l)) (BitVec.ofNat 32 i.val)))
            * (k (ix2 ⟨n.val * 64 + s.val, by omega⟩ l) * Ideal.exp (0 - B (ix3 n s l)))) * v (ix2 ⟨n.val * 64 + s.val, by omega⟩ e)) 0)
      = ∑ s, a.score (N n) (head p i) t s * a.v (N n) s (head p i) e := by
  refine Finset.sum_congr rfl fun s _ => ?_
  unfold Args.score
  rw [causal_at, ← a.score_lanes]
  by_cases h : s.val ≤ t.val
  · rw [if_pos h, if_pos h]
    refine (if_pos rfl : Scalar.select 1#1 _ _ = _).trans (congrArg₂ (· * ·) (Finset.sum_congr rfl fun l _ => ?_) (V n s e))
    rw [mask_at, H.q, H.k, H.B, H.B, zero_sub]
    rfl
  · rw [if_neg h, if_neg h, zero_mul]
    exact if_neg (by decide)

/-- What a chunk adds to a head's state, as the body sums it. -/
theorem inc_sum (H : PairIn a p N B q k) (i : Fin 2) (V : ValIn a (head p i) N v) (n : Fin 16) (e l : Fin 128) :
    (∑ s : Fin 64, v (ix2 ⟨n.val * 64 + s.val, by omega⟩ e) * (k (ix2 ⟨n.val * 64 + s.val, by omega⟩ l) * Ideal.exp (B (ix3 n 63 l) - B (ix3 n s l))
        * FloatOps.sitofp (F := Ideal) FTy.f32 (BitVec.setWidth 32 (IntOp.cmpi CmpIPredicate.eq (halves (ix2 0 l)) (BitVec.ofNat 32 i.val)))))
      = ∑ s : Fin 64, a.v (N n) s (head p i) e * (a.ke (N n) s (lane p l) * mask i l) := by
  refine Finset.sum_congr rfl fun s _ => congrArg₂ (· * ·) (V n s e) ?_
  rw [mask_at, H.k, H.B, H.B]
  rfl

end Pair

section First

variable {a : Args} {N : Fin 16 → Fin 128} {g q k v : FVec Ideal S1024x128 .f32}

/-- The first pair's decays. -/
def firstB (g : FVec Ideal S1024x128 .f32) : FVec Ideal S16x64x128 .f32 := k0_pay17 k0_pay11 g (k0_pay16 k0_pay11)
def firstEnd (g : FVec Ideal S1024x128 .f32) : FVec Ideal S16x1x128 .f32 := k0_pay18 k0_pay11 g (k0_pay16 k0_pay11)

theorem first_qd (H : PairIn a 0 N (firstB g) q k) (n : Fin 16) (t : Fin 64) (l : Fin 128) :
    k0_pay25 (F := Ideal) (firstB g) (k0_pay19 q) k0_pay20 (ix3 n t l) = a.qd (N n) t (lane 0 l) := by
  pointwise [k0_pay25, k0_pay22, k0_pay19, k0_pay20]
  rw [H.q, H.B]
  rfl

theorem first_dec (H : PairIn a 0 N (firstB g) q k) (n : Fin 16) (l : Fin 128) : k0_pay24 (F := Ideal) (firstEnd g) (ix3 n 0 l) = a.dec (N n) (lane 0 l) := by
  pointwise [k0_pay24, firstEnd, k0_pay18]
  exact congrArg Ideal.exp (H.B n 63 l)

theorem first_intra0 (H : PairIn a 0 N (firstB g) q k) (V : ValIn a (head 0 0) N v) (n : Fin 16) (t : Fin 64) (e : Fin 128) :
    k0_pay55 (F := Ideal) k0_pay14 (k0_pay29 v) (k0_pay30 halves (firstB g) (k0_pay19 q) k0_pay20 k) (ix3 n t e) = ∑ s, a.score (N n) (head 0 0) t s * a.v (N n) s (head 0 0) e := by
  pointwise [k0_pay55, k0_pay29, k0_pay30, k0_pay28, k0_pay26, k0_pay27, k0_pay22, k0_pay21, k0_pay19, k0_pay20]
  exact intra_sum H 0 V n t e

theorem first_intra1 (H : PairIn a 0 N (firstB g) q k) (V : ValIn a (head 0 1) N v) (n : Fin 16) (t : Fin 64) (e : Fin 128) :
    k0_pay92 (F := Ideal) k0_pay14 (k0_pay32 v) (k0_pay33 (k0_pay28 halves (firstB g) (k0_pay19 q) k0_pay20 k)) (ix3 n t e) = ∑ s, a.score (N n) (head 0 1) t s * a.v (N n) s (head 0 1) e := by
  pointwise [k0_pay92, k0_pay32, k0_pay33, k0_pay28, k0_pay26, k0_pay27, k0_pay22, k0_pay21, k0_pay19, k0_pay20]
  exact intra_sum H 1 V n t e

theorem first_inc0 (H : PairIn a 0 N (firstB g) q k) (V : ValIn a (head 0 0) N v) (n : Fin 16) (e l : Fin 128) :
    k0_pay31 (F := Ideal) halves (firstB g) (firstEnd g) k v (ix3 n e l) = ∑ s : Fin 64, a.v (N n) s (head 0 0) e * (a.ke (N n) s (lane 0 l) * mask 0 l) := by
  pointwise [k0_pay31, k0_pay23, k0_pay26, k0_pay29, k0_pay21, firstEnd, k0_pay18]
  exact inc_sum H 0 V n e l

theorem first_inc1 (H : PairIn a 0 N (firstB g) q k) (V : ValIn a (head 0 1) N v) (n : Fin 16) (e l : Fin 128) :
    k0_pay34 (F := Ideal) (k0_pay23 (firstB g) (firstEnd g) k) (k0_pay27 halves) (k0_pay32 v) (ix3 n e l) = ∑ s : Fin 64, a.v (N n) s (head 0 1) e * (a.ke (N n) s (lane 0 l) * mask 1 l) := by
  pointwise [k0_pay34, k0_pay23, k0_pay27, k0_pay32, k0_pay21, firstEnd, k0_pay18]
  exact inc_sum H 1 V n e l

end First

section Second

variable {a : Args} {N : Fin 16 → Fin 128} {g h q k v : FVec Ideal S1024x128 .f32}

theorem second_qd (H : PairIn a 1 N (k0_pay37 k0_pay11 g h) q k) (n : Fin 16) (t : Fin 64) (l : Fin 128) :
    k0_pay44 (F := Ideal) k0_pay11 g h q (ix3 n t l) = a.qd (N n) t (lane 1 l) := by
  pointwise [k0_pay44, k0_pay40]
  rw [H.q, H.B]
  rfl

theorem second_dec (H : PairIn a 1 N (k0_pay37 k0_pay11 g h) q k) (n : Fin 16) (l : Fin 128) : k0_pay43 (F := Ideal) k0_pay11 g h (ix3 n 0 l) = a.dec (N n) (lane 1 l) := by
  pointwise [k0_pay43, k0_pay38]
  exact congrArg Ideal.exp (H.B n 63 l)

theorem second_intra0 (H : PairIn a 1 N (k0_pay37 k0_pay11 g h) q k) (V : ValIn a (head 1 0) N v) (n : Fin 16) (t : Fin 64) (e : Fin 128) :
    k0_pay113 (F := Ideal) k0_pay14 (k0_pay49 v) (k0_pay50 halves (k0_pay40 k0_pay11 g h q) (k0_pay41 k0_pay11 g h k) (k0_pay45 halves)) (ix3 n t e)
      = ∑ s, a.score (N n) (head 1 0) t s * a.v (N n) s (head 1 0) e := by
  pointwise [k0_pay113, k0_pay49, k0_pay50, k0_pay48, k0_pay47, k0_pay46, k0_pay45, k0_pay41, k0_pay40, k0_pay39]
  exact intra_sum H 0 V n t e

theorem second_intra1 (H : PairIn a 1 N (k0_pay37 k0_pay11 g h) q k) (V : ValIn a (head 1 1) N v) (n : Fin 16) (t : Fin 64) (e : Fin 128) :
    k0_pay133 (F := Ideal) k0_pay14 (k0_pay52 v) (k0_pay53 halves (k0_pay40 k0_pay11 g h q) (k0_pay41 k0_pay11 g h k) (k0_pay45 halves)) (ix3 n t e)
      = ∑ s, a.score (N n) (head 1 1) t s * a.v (N n) s (head 1 1) e := by
  pointwise [k0_pay133, k0_pay52, k0_pay53, k0_pay48, k0_pay47, k0_pay46, k0_pay45, k0_pay41, k0_pay40, k0_pay39]
  exact intra_sum H 1 V n t e

theorem second_inc0 (H : PairIn a 1 N (k0_pay37 k0_pay11 g h) q k) (V : ValIn a (head 1 0) N v) (n : Fin 16) (e l : Fin 128) :
    k0_pay51 (F := Ideal) (k0_pay42 k0_pay11 g h k) (k0_pay45 halves) v (ix3 n e l) = ∑ s : Fin 64, a.v (N n) s (head 1 0) e * (a.ke (N n) s (lane 1 l) * mask 0 l) := by
  pointwise [k0_pay51, k0_pay49, k0_pay46, k0_pay45, k0_pay42, k0_pay39, k0_pay38]
  exact inc_sum H 0 V n e l

theorem second_inc1 (H : PairIn a 1 N (k0_pay37 k0_pay11 g h) q k) (V : ValIn a (head 1 1) N v) (n : Fin 16) (e l : Fin 128) :
    k0_pay54 (F := Ideal) halves (k0_pay42 k0_pay11 g h k) v (ix3 n e l) = ∑ s : Fin 64, a.v (N n) s (head 1 1) e * (a.ke (N n) s (lane 1 l) * mask 1 l) := by
  pointwise [k0_pay54, k0_pay52, k0_pay47, k0_pay42, k0_pay39, k0_pay38]
  exact inc_sum H 1 V n e l

end Second

/-! ## The states of a head through sixteen chunks -/

/-- A state after some chunks: each scales it by `d` and adds `x`. -/
def chain (s : EReal) (d x : Fin 16 → EReal) : ℕ → EReal
  | 0 => s
  | k + 1 => chain s d x k * d ⟨k % 16, Nat.mod_lt _ (by decide)⟩ + x ⟨k % 16, Nat.mod_lt _ (by decide)⟩

/-- Through sixteen chunks from chunk `K` on, that is the state on the lanes of a pair. -/
theorem chain_state (a : Args) (p i : Fin 2) (e l : Fin 128) (K : ℕ) (N : Fin 16 → Fin 128) (hN : ∀ j, N j = chunk (K + j.val)) (n : ℕ) (hn : n ≤ 16) :
    chain (a.laneState p i l e K) (fun j => a.dec (N j) (lane p l)) (fun j => ∑ s : Fin 64, a.v (N j) s (head p i) e * (a.ke (N j) s (lane p l) * mask i l)) n
      = a.laneState p i l e (K + n) := by
  induction n with
  | zero => rfl
  | succ n ih =>
    have c : N ⟨n % 16, Nat.mod_lt _ (by decide)⟩ = chunk (K + n) := (hN _).trans (congrArg (fun j => chunk (K + j)) (Nat.mod_eq_of_lt (by omega)))
    refine Eq.trans ?_ (a.laneState_succ p i l e (K + n)).symm
    unfold chain
    rw [ih (by omega), c]

/-- The states of the first head before each chunk, and the one after the last. -/
def befores0 (s : FVec Ideal S128x128 .f32) (d : FVec Ideal S16x1x128 .f32) (x : FVec Ideal S16x128x128 .f32) : FVec Ideal S16x128x128 .bf16 :=
  have u0 := k0_pay75 s
  have u1 := k0_pay56 s d x
  have u2 := k0_pay76 u1
  have u3 := k0_pay57 d
  have u4 := k0_pay58 x u1 u3
  have u5 := k0_pay77 u4
  have u6 := k0_pay59 d x u1 u3
  have u7 := k0_pay78 u6
  have u8 := k0_pay60 d x u1 u3
  have u9 := k0_pay79 u8
  have u10 := k0_pay61 d x u1 u3
  have u11 := k0_pay80 u10
  have u12 := k0_pay62 d x u1 u3
  have u13 := k0_pay81 u12
  have u14 := k0_pay63 d x u1 u3
  have u15 := k0_pay82 u14
  have u16 := k0_pay64 d x u1 u3
  have u17 := k0_pay83 u16
  have u18 := k0_pay65 d x u1 u3
  have u19 := k0_pay84 u18
  have u20 := k0_pay66 d x u1 u3
  have u21 := k0_pay67 x
  have u22 := k0_pay85 u20 u21
  have u23 := k0_pay86 d x u20 u21
  have u24 := k0_pay87 d x u20 u21
  have u25 := k0_pay88 d x u20 u21
  have u26 := k0_pay89 d x u20 u21
  have u27 := k0_pay90 d x u20 u21
  k0_pay91 u0 u2 u5 u7 u9 u11 u13 u15 u17 u19 u22 u23 u24 u25 u26 u27 (F := Ideal)

def after0 (s : FVec Ideal S128x128 .f32) (d : FVec Ideal S16x1x128 .f32) (x : FVec Ideal S16x128x128 .f32) : FVec Ideal S128x128 .f32 :=
  have u0 := k0_pay56 s d x
  have u1 := k0_pay57 d
  have u2 := k0_pay66 d x u0 u1
  have u3 := k0_pay67 x
  k0_pay74 d x u2 u3 (F := Ideal)

theorem befores0_at (s : FVec Ideal S128x128 .f32) (d : FVec Ideal S16x1x128 .f32) (x : FVec Ideal S16x128x128 .f32) (n : Fin 16) (e l : Fin 128) :
    befores0 s d x (ix3 n e l) = chain (s (ix2 e l)) (fun j => d (ix3 j 0 l)) (fun j => x (ix3 j e l)) n.val := by
  pointwise [befores0, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay75, k0_pay76, k0_pay77, k0_pay78, k0_pay79, k0_pay80, k0_pay81, k0_pay82, k0_pay83, k0_pay84, k0_pay85, k0_pay86, k0_pay87, k0_pay88, k0_pay89, k0_pay90, k0_pay91]
  fin_cases n <;> rfl

theorem after0_at (s : FVec Ideal S128x128 .f32) (d : FVec Ideal S16x1x128 .f32) (x : FVec Ideal S16x128x128 .f32) (e l : Fin 128) :
    after0 s d x (ix2 e l) = chain (s (ix2 e l)) (fun j => d (ix3 j 0 l)) (fun j => x (ix3 j e l)) 16 := by
  pointwise [after0, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74]
  rfl

/-- The states of the second head before each chunk, and the one after the last. -/
def befores1 (s : FVec Ideal S128x128 .f32) (d : FVec Ideal S16x1x128 .f32) (x : FVec Ideal S16x128x128 .f32) : FVec Ideal S16x128x128 .bf16 :=
  have u0 := k0_pay93 s d x
  have u1 := k0_pay94 s d x
  have u2 := k0_pay95 s d x
  have u3 := k0_pay96 s d x
  have u4 := k0_pay97 s d x
  have u5 := k0_pay98 s d x
  have u6 := k0_pay99 s d x
  have u7 := k0_pay100 d
  have u8 := k0_pay101 x u6 u7
  have u9 := k0_pay102 d x u6 u7
  have u10 := k0_pay103 d x u6 u7
  have u11 := k0_pay104 d x u6 u7
  have u12 := k0_pay105 d x u6 u7
  have u13 := k0_pay106 d x u6 u7
  have u14 := k0_pay107 d x u6 u7
  have u15 := k0_pay108 d x u6 u7
  k0_pay112 s u0 u1 u2 u3 u4 u5 u6 u8 u9 u10 u11 u12 u13 u14 u15 (F := Ideal)

def after1 (s : FVec Ideal S128x128 .f32) (d : FVec Ideal S16x1x128 .f32) (x : FVec Ideal S16x128x128 .f32) : FVec Ideal S128x128 .f32 :=
  have u0 := k0_pay99 s d x
  have u1 := k0_pay100 d
  have u2 := k0_pay109 d x u0 u1
  have u3 := k0_pay110 x
  k0_pay111 u2 u3 (F := Ideal)

theorem befores1_at (s : FVec Ideal S128x128 .f32) (d : FVec Ideal S16x1x128 .f32) (x : FVec Ideal S16x128x128 .f32) (n : Fin 16) (e l : Fin 128) :
    befores1 s d x (ix3 n e l) = chain (s (ix2 e l)) (fun j => d (ix3 j 0 l)) (fun j => x (ix3 j e l)) n.val := by
  pointwise [befores1, k0_pay93, k0_pay94, k0_pay95, k0_pay96, k0_pay97, k0_pay98, k0_pay99, k0_pay100, k0_pay101, k0_pay102, k0_pay103, k0_pay104, k0_pay105, k0_pay106, k0_pay107, k0_pay108, k0_pay112]
  fin_cases n <;> rfl

theorem after1_at (s : FVec Ideal S128x128 .f32) (d : FVec Ideal S16x1x128 .f32) (x : FVec Ideal S16x128x128 .f32) (e l : Fin 128) :
    after1 s d x (ix2 e l) = chain (s (ix2 e l)) (fun j => d (ix3 j 0 l)) (fun j => x (ix3 j e l)) 16 := by
  pointwise [after1, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111]
  rfl

/-- The states of the third head before each chunk, and the one after the last. -/
def befores2 (s : FVec Ideal S128x128 .f32) (d : FVec Ideal S16x1x128 .f32) (x : FVec Ideal S16x128x128 .f32) : FVec Ideal S16x128x128 .bf16 :=
  have u0 := k0_pay114 s d x
  have u1 := k0_pay115 s d x
  have u2 := k0_pay116 s d x
  have u3 := k0_pay117 s d x
  have u4 := k0_pay118 s d x
  have u5 := k0_pay119 x u4
  have u6 := k0_pay120 d x u4
  have u7 := k0_pay121 d x u4
  have u8 := k0_pay122 d x u4
  have u9 := k0_pay123 d x u4
  have u10 := k0_pay124 d x u4
  have u11 := k0_pay125 d x u4
  have u12 := k0_pay126 d x u4
  have u13 := k0_pay127 d x u4
  have u14 := k0_pay128 d
  k0_pay132 s d x u0 u1 u2 u3 u5 u6 u7 u8 u9 u10 u11 u12 u13 u14 (F := Ideal)

def after2 (s : FVec Ideal S128x128 .f32) (d : FVec Ideal S16x1x128 .f32) (x : FVec Ideal S16x128x128 .f32) : FVec Ideal S128x128 .f32 :=
  have u0 := k0_pay118 s d x
  have u1 := k0_pay127 d x u0
  have u2 := k0_pay128 d
  k0_pay131 d x u1 u2 (F := Ideal)

theorem befores2_at (s : FVec Ideal S128x128 .f32) (d : FVec Ideal S16x1x128 .f32) (x : FVec Ideal S16x128x128 .f32) (n : Fin 16) (e l : Fin 128) :
    befores2 s d x (ix3 n e l) = chain (s (ix2 e l)) (fun j => d (ix3 j 0 l)) (fun j => x (ix3 j e l)) n.val := by
  pointwise [befores2, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay132]
  fin_cases n <;> rfl

theorem after2_at (s : FVec Ideal S128x128 .f32) (d : FVec Ideal S16x1x128 .f32) (x : FVec Ideal S16x128x128 .f32) (e l : Fin 128) :
    after2 s d x (ix2 e l) = chain (s (ix2 e l)) (fun j => d (ix3 j 0 l)) (fun j => x (ix3 j e l)) 16 := by
  pointwise [after2, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131]
  rfl

/-- The states of the fourth head before each chunk, and the one after the last. -/
def befores3 (s : FVec Ideal S128x128 .f32) (d : FVec Ideal S16x1x128 .f32) (x : FVec Ideal S16x128x128 .f32) : FVec Ideal S16x128x128 .bf16 :=
  have u0 := k0_pay134 s d x
  have u1 := k0_pay135 s d x
  have u2 := k0_pay136 d x u1
  have u3 := k0_pay137 d x u1
  have u4 := k0_pay138 d x u1
  have u5 := k0_pay139 d x u1
  have u6 := k0_pay140 d x u1
  have u7 := k0_pay141 d x u1
  have u8 := k0_pay142 d x u1
  have u9 := k0_pay143 d x u1
  have u10 := k0_pay144 d x u1
  k0_pay151 s d x u0 u1 u2 u3 u4 u5 u6 u7 u8 u9 u10 (F := Ideal)

def after3 (s : FVec Ideal S128x128 .f32) (d : FVec Ideal S16x1x128 .f32) (x : FVec Ideal S16x128x128 .f32) : FVec Ideal S128x128 .f32 :=
  have u0 := k0_pay135 s d x
  have u1 := k0_pay144 d x u0
  k0_pay150 d x u1 (F := Ideal)

theorem befores3_at (s : FVec Ideal S128x128 .f32) (d : FVec Ideal S16x1x128 .f32) (x : FVec Ideal S16x128x128 .f32) (n : Fin 16) (e l : Fin 128) :
    befores3 s d x (ix3 n e l) = chain (s (ix2 e l)) (fun j => d (ix3 j 0 l)) (fun j => x (ix3 j e l)) n.val := by
  pointwise [befores3, k0_pay134, k0_pay135, k0_pay136, k0_pay137, k0_pay138, k0_pay139, k0_pay140, k0_pay141, k0_pay142, k0_pay143, k0_pay144, k0_pay145, k0_pay146, k0_pay147, k0_pay148, k0_pay149, k0_pay151]
  fin_cases n <;> rfl

theorem after3_at (s : FVec Ideal S128x128 .f32) (d : FVec Ideal S16x1x128 .f32) (x : FVec Ideal S16x128x128 .f32) (e l : Fin 128) :
    after3 s d x (ix2 e l) = chain (s (ix2 e l)) (fun j => d (ix3 j 0 l)) (fun j => x (ix3 j e l)) 16 := by
  pointwise [after3, k0_pay134, k0_pay135, k0_pay136, k0_pay137, k0_pay138, k0_pay139, k0_pay140, k0_pay141, k0_pay142, k0_pay143, k0_pay144, k0_pay145, k0_pay146, k0_pay147, k0_pay148, k0_pay149, k0_pay150]
  rfl

/-! ## The outputs -/

theorem out0_at (i : FVec Ideal S16x64x128 .f32) (q : FVec Ideal S16x64x128 .bf16) (y z : FVec Ideal S16x128x128 .bf16) (n : Fin 16) (t : Fin 64) (e : Fin 128) :
    k0_pay154 (F := Ideal) i (k0_pay153 q y z) (ix2 ⟨n.val * 64 + t.val, by omega⟩ e) = i (ix3 n t e) + ∑ l, q (ix3 n t l) * y (ix3 n e l) := by
  pointwise [k0_pay154, k0_pay153, k0_pay152]

theorem out1_at (i : FVec Ideal S16x64x128 .f32) (q : FVec Ideal S16x64x128 .bf16) (y z : FVec Ideal S16x128x128 .bf16) (n : Fin 16) (t : Fin 64) (e : Fin 128) :
    k0_pay155 (F := Ideal) i (k0_pay152 q y z) (ix2 ⟨n.val * 64 + t.val, by omega⟩ e) = i (ix3 n t e) + ∑ l, q (ix3 n t l) * z (ix3 n e l) := by
  pointwise [k0_pay155, k0_pay152]

theorem out2_at (i : FVec Ideal S16x64x128 .f32) (q : FVec Ideal S16x64x128 .bf16) (y z : FVec Ideal S16x128x128 .bf16) (n : Fin 16) (t : Fin 64) (e : Fin 128) :
    k0_pay157 (F := Ideal) q i y z (ix2 ⟨n.val * 64 + t.val, by omega⟩ e) = i (ix3 n t e) + ∑ l, q (ix3 n t l) * y (ix3 n e l) := by
  pointwise [k0_pay157, k0_pay156]

theorem out3_at (i : FVec Ideal S16x64x128 .f32) (q : FVec Ideal S16x64x128 .bf16) (y z : FVec Ideal S16x128x128 .bf16) (n : Fin 16) (t : Fin 64) (e : Fin 128) :
    k0_pay158 (F := Ideal) q y i z (ix2 ⟨n.val * 64 + t.val, by omega⟩ e) = i (ix3 n t e) + ∑ l, q (ix3 n t l) * z (ix3 n e l) := by
  pointwise [k0_pay158, k0_pay156]

end Cert.GlaFwdIdeal.Body
end
-- ==== Proof.GlaFwdBlocks.lean ====
/-
  THE GATED LINEAR ATTENTION, FORWARD, THE KERNEL'S BLOCKS AS ENTRIES OF THE ARGUMENTS.
-/
module

public import proofs.«01_k».proof.Proof.GlaFwdBody

@[expose] public section

set_option maxRecDepth 16384

noncomputable section

namespace Cert.GlaFwdIdeal.Body

open Cert.GlaFwdIdeal Cert.GlaFwdIdeal.Gen Idealize.ShloMosaic Idealize.ShloMosaic.TcCoe Idealize.SL.Sem
open Cert.RealFacts Cert.GlaFwdMath
open scoped BigOperators

variable (m : (ℓ : Loc nD τ sig) → Buf (Elt Ideal) ℓ)

/-- The block each window holds at a grid point. -/
theorem idx : ∀ t : Fin cfg0.N, win0_0.index t = ![t.val, 0] ∧ win0_1.index t = ![t.val, 1] ∧ win0_2.index t = ![t.val, 1] ∧ win0_3.index t = ![t.val, 20]
    ∧ win0_4.index t = ![0, 0] ∧ win0_5.index t = ![0, 0] ∧ win0_7.index t = ![t.val, 0] ∧ win0_8.index t = ![t.val, 0, 0, 0] :=
  (by decide +kernel : ∀ t : Fin grid0.N, _)

/-- Row `r` of the tile at point `t`. -/
def tileRow (t : Fin cfg0.N) (r : Fin 1024) : Fin 8192 := ⟨t.val * 1024 + r.val, by have := t.isLt; have : cfg0.N = 8 := N_0; omega⟩

/-- The argument arrays hold the functions of `a`. -/
structure Holds (c : Dev nD) (a : Args) : Prop where
  P : ∀ r k, m ((c : Thread nD τ).loc main_arg0) (ix3 0 r k) = a.P r k
  w : ∀ j k, m ((c : Thread nD τ).loc main_arg1) (ix3 0 j k) = a.w j k
  b : ∀ k, m ((c : Thread nD τ).loc main_arg2) (ix2 0 k) = a.b k

/-- What the argument arrays hold. -/
def args (c : Dev nD) : Args where
  P r k := m ((c : Thread nD τ).loc main_arg0) (ix3 0 r k)
  w j k := m ((c : Thread nD τ).loc main_arg1) (ix3 0 j k)
  b k := m ((c : Thread nD τ).loc main_arg2) (ix2 0 k)

theorem holds_args (c : Dev nD) : Holds m c (args m c) := ⟨fun _ _ => rfl, fun _ _ => rfl, fun _ => rfl⟩

variable {m} {c : Dev nD} {a : Args} (H : Holds m c a)

include H

/-- The decay's weight, padded with rows of zeros, and its bias. -/
theorem weight_blk (t : Fin cfg0.N) (j : Fin 128) (k : Fin 256) :
    (show FVec Ideal S128x256 .bf16 from iblk m c 4 t) (ix2 j k) = if h : j.val < 16 then a.w ⟨j.val, h⟩ k else 0 := by
  blk_simp [iblk, idx t]
  entry_read
  pointwise
  have e : ((View.whole main_v3).slice (win0_4.rect t)).emb (ix2 j k) = ix2 j k := by blk_ext [idx t]
  simp only [e]
  by_cases h : j.val < 16
  · rw [dif_pos (show j.val < 16 from h)]
    exact (dif_pos h).trans (H.w ⟨j.val, h⟩ k)
  · rw [dif_neg (show ¬ j.val < 16 from h)]
    exact dif_neg h

theorem bias_blk (t : Fin cfg0.N) (k : Fin 256) : (show FVec Ideal S1x256 .f32 from iblk m c 5 t) (ix2 0 k) = a.b k := by
  rw [← H.b]; blk_simp [iblk, idx t]; entry_read; blk_ext [idx t]

/-- The columns of the projected rows in the kernel's order, where the queries, keys, values and the gates' factor stand. -/
theorem cols_all (r : Fin 8192) :
    (∀ k : Fin 1024, (show FVec Ideal S8192x2688 .f32 from V m c main_v8) (ix2 r ⟨k.val, by omega⟩) = a.P r ⟨k.val, by omega⟩)
    ∧ (∀ k : Fin 16, (show FVec Ideal S8192x2688 .f32 from V m c main_v8) (ix2 r ⟨2560 + k.val, by omega⟩) = a.P r ⟨1536 + k.val, by omega⟩) := by
  refine ⟨fun k => ?_, fun k => ?_⟩ <;> rw [← H.P] <;> unfold V hostOps0 <;>
    simp only [Idealize.ShloMosaic.StableHlo.after_cons, Idealize.ShloMosaic.StableHlo.after_nil] <;> after_results_simp <;> pointwise
  · rw [dif_pos (by omega)]; after_results_simp; pointwise
  · rw [dif_neg (by omega), dif_neg (by omega)]; after_results_simp; pointwise
    refine congrArg (fun k => m (c.tc.loc main_arg0) (ix3 0 r k)) (Fin.ext ?_)
    dsimp only; omega

theorem cols_blk (t : Fin cfg0.N) (r : Fin 1024) :
    (∀ k : Fin 256, (show FVec Ideal S1024x256 .f32 from X0_0 m c t) (ix2 r k) = a.P (tileRow t r) ⟨k.val, by omega⟩)
    ∧ (∀ k : Fin 256, (show FVec Ideal S1024x256 .f32 from X0_1 m c t) (ix2 r k) = a.P (tileRow t r) ⟨256 + k.val, by omega⟩)
    ∧ (∀ k : Fin 512, (show FVec Ideal S1024x512 .f32 from X0_2 m c t) (ix2 r k) = a.P (tileRow t r) ⟨512 + k.val, by omega⟩) := by
  refine ⟨fun k => ((dif_pos (moved0_0 t _)).trans ?_).trans ((cols_all H (tileRow t r)).1 ⟨k.val, by omega⟩), fun k => ((dif_pos (moved0_1 t _)).trans ?_).trans ((cols_all H (tileRow t r)).1 ⟨256 + k.val, by omega⟩),
    fun k => ((dif_pos (moved0_2 t _)).trans ?_).trans ((cols_all H (tileRow t r)).1 ⟨512 + k.val, by omega⟩)⟩ <;>
  unfold tileRow <;> blk_ext [iblk, idx t]

theorem factor_blk (t : Fin cfg0.N) (r : Fin 1024) (j : Fin 16) :
    (show FVec Ideal S1024x128 .f32 from iblk m c 3 t) (ix2 r ⟨j.val, by omega⟩) = a.P (tileRow t r) ⟨1536 + j.val, by omega⟩ := by
  refine Eq.trans ?_ ((cols_all H (tileRow t r)).2 j)
  unfold tileRow
  blk_ext [iblk, idx t]

omit H in
/-- The logarithms of the gates of a pair's lanes. -/
theorem gate_blk (t : Fin cfg0.N) (p : Fin 2) (x : FVec Ideal S1024x128 .f32) (w : FVec Ideal S128x128 .bf16) (b : FVec Ideal S1x128 .f32)
    (hx : ∀ r (j : Fin 16), x (ix2 r ⟨j.val, by omega⟩) = a.P (tileRow t r) ⟨1536 + j.val, by omega⟩)
    (hw : ∀ (j : Fin 128) l, w (ix2 j l) = if h : j.val < 16 then a.w ⟨j.val, h⟩ (lane p l) else 0) (hb : ∀ l, b (ix2 0 l) = a.b (lane p l)) (r : Fin 1024) (l : Fin 128) :
    k0_pay15 (F := Ideal) (k0_pay6 x) w b (ix2 r l) = a.gateN (lane p l) (t.val * 1024 + r.val) := by
  rw [gate_at, hb]
  unfold Args.gateN
  rw [dif_pos (show t.val * 1024 + r.val < 8192 from (tileRow t r).isLt)]
  unfold Args.gate
  refine congrArg (fun z => logSig (z + a.b (lane p l)) * tau) ?_
  refine (show (∑ j : Fin 128, x (ix2 r j) * w (ix2 j l)) = ∑ j : Fin (16 + 112), x (ix2 r j) * w (ix2 j l) from rfl).trans ((Fin.sum_univ_add _).trans ?_)
  have z : (∑ j : Fin 112, x (ix2 r (Fin.natAdd 16 j)) * w (ix2 (Fin.natAdd 16 j) l)) = 0 :=
    Finset.sum_eq_zero fun j _ => by rw [hw, dif_neg (by rw [Fin.val_natAdd]; omega), mul_zero]
  refine (congrArg (_ + ·) z).trans ((add_zero _).trans (Finset.sum_congr rfl fun j _ => congrArg₂ (· * ·) (hx r j) ((hw _ l).trans (dif_pos j.isLt))))

/-- The chunks of the tile at a grid point. -/
def tileChunk (t : Fin cfg0.N) (n : Fin 16) : Fin 128 := ⟨t.val * 16 + n.val, by have := t.isLt; have : cfg0.N = 8 := N_0; omega⟩

omit H in
theorem tileRow_chunk (t : Fin cfg0.N) (n : Fin 16) (s : Fin 64) : tileRow t ⟨n.val * 64 + s.val, by omega⟩ = row (tileChunk t n) s :=
  Fin.ext (by unfold tileRow row tileChunk; dsimp only; omega)

omit H in
/-- Summed up the ladder, the decays. -/
theorem decay_blk (t : Fin cfg0.N) (p : Fin 2) (g : FVec Ideal S1024x128 .f32) (hg : ∀ r l, g (ix2 r l) = a.gateN (lane p l) (t.val * 1024 + r.val)) (n : Fin 16) (s : Fin 64) (l : Fin 128) :
    ladder k0_pay11 g (ix3 n s l) = a.decay (tileChunk t n) s (lane p l) := by
  rw [ladder_sum g n s l (fun r => a.gateN (lane p l) (t.val * 1024 + r)) (fun r => hg r l)]
  unfold Args.decay tileChunk
  exact Finset.sum_congr rfl fun u _ => congrArg (a.gateN (lane p l)) (by dsimp only; omega)

end Cert.GlaFwdIdeal.Body
end
-- ==== Proof.GlaFwdTile.lean ====
/-
  THE GATED LINEAR ATTENTION, FORWARD: WHAT ONE TILE OF SIXTEEN CHUNKS STORES.

  The loads of a tile are named, the tile's stores are written over them, and each stored value is read as
  the attention's output, the states before the chunks, or the states after the last.
-/
module

public import proofs.«01_k».proof.Proof.GlaFwdBlocks

@[expose] public section

set_option maxRecDepth 16384

noncomputable section

namespace Cert.GlaFwdIdeal.Body

open Cert.GlaFwdIdeal Cert.GlaFwdIdeal.Gen Idealize.ShloMosaic Idealize.ShloMosaic.TcCoe Idealize.SL.Sem
open Cert.RealFacts Cert.GlaFwdMath
open scoped BigOperators

/-- What a tile loads: the gates' factor; per pair of heads the decay's weight, its bias, the queries and the keys; per head
    the values and the states carried in. -/
structure Loads where
  x : FVec Ideal S1024x128 .f32
  w : Fin 2 → FVec Ideal S128x128 .bf16
  b : Fin 2 → FVec Ideal S1x128 .f32
  q : Fin 2 → FVec Ideal S1024x128 .f32
  k : Fin 2 → FVec Ideal S1024x128 .f32
  v : Fin 4 → FVec Ideal S1024x128 .f32
  s : Fin 4 → FVec Ideal S1x128x128 .f32

namespace Loads

variable (L : Loads)

/-! ## The values a tile computes -/

def g0 : FVec Ideal S1024x128 .f32 := k0_pay15 (k0_pay6 L.x) (L.w 0) (L.b 0)
def g1 : FVec Ideal S1024x128 .f32 := k0_pay35 (k0_pay6 L.x) k0_pay11 (L.w 1) (L.b 1)
def h1 := k0_pay36 (F := Ideal) (k0_pay6 L.x) k0_pay11 (L.w 1) (L.b 1)

def bef0 : FVec Ideal S16x128x128 .bf16 := befores0 (k0_pay7 (L.s 0)) (k0_pay24 (firstEnd L.g0)) (k0_pay31 halves (firstB L.g0) (firstEnd L.g0) (L.k 0) (L.v 0))
def aft0 : FVec Ideal S128x128 .f32 := after0 (k0_pay7 (L.s 0)) (k0_pay24 (firstEnd L.g0)) (k0_pay31 halves (firstB L.g0) (firstEnd L.g0) (L.k 0) (L.v 0))
def bef1 : FVec Ideal S16x128x128 .bf16 := befores1 (k0_pay8 (L.s 1)) (k0_pay24 (firstEnd L.g0)) (k0_pay34 (k0_pay23 (firstB L.g0) (firstEnd L.g0) (L.k 0)) (k0_pay27 halves) (k0_pay32 (L.v 1)))
def aft1 : FVec Ideal S128x128 .f32 := after1 (k0_pay8 (L.s 1)) (k0_pay24 (firstEnd L.g0)) (k0_pay34 (k0_pay23 (firstB L.g0) (firstEnd L.g0) (L.k 0)) (k0_pay27 halves) (k0_pay32 (L.v 1)))
def bef2 : FVec Ideal S16x128x128 .bf16 := befores2 (k0_pay9 (L.s 2)) (k0_pay43 k0_pay11 L.g1 L.h1) (k0_pay51 (k0_pay42 k0_pay11 L.g1 L.h1 (L.k 1)) (k0_pay45 halves) (L.v 2))
def aft2 : FVec Ideal S128x128 .f32 := after2 (k0_pay9 (L.s 2)) (k0_pay43 k0_pay11 L.g1 L.h1) (k0_pay51 (k0_pay42 k0_pay11 L.g1 L.h1 (L.k 1)) (k0_pay45 halves) (L.v 2))
def bef3 : FVec Ideal S16x128x128 .bf16 := befores3 (k0_pay10 (L.s 3)) (k0_pay43 k0_pay11 L.g1 L.h1) (k0_pay54 halves (k0_pay42 k0_pay11 L.g1 L.h1 (L.k 1)) (L.v 3))
def aft3 : FVec Ideal S128x128 .f32 := after3 (k0_pay10 (L.s 3)) (k0_pay43 k0_pay11 L.g1 L.h1) (k0_pay54 halves (k0_pay42 k0_pay11 L.g1 L.h1 (L.k 1)) (L.v 3))

def qd0 : FVec Ideal S16x64x128 .bf16 := k0_pay25 (firstB L.g0) (k0_pay19 (L.q 0)) k0_pay20
def qd1 : FVec Ideal S16x64x128 .bf16 := k0_pay44 k0_pay11 L.g1 L.h1 (L.q 1)

def o0 : FVec Ideal S1024x128 .f32 := k0_pay154 (k0_pay55 k0_pay14 (k0_pay29 (L.v 0)) (k0_pay30 halves (firstB L.g0) (k0_pay19 (L.q 0)) k0_pay20 (L.k 0))) (k0_pay153 L.qd0 L.bef0 L.bef1)
def o1 : FVec Ideal S1024x128 .f32 := k0_pay155 (k0_pay92 k0_pay14 (k0_pay32 (L.v 1)) (k0_pay33 (k0_pay28 halves (firstB L.g0) (k0_pay19 (L.q 0)) k0_pay20 (L.k 0)))) (k0_pay152 L.qd0 L.bef0 L.bef1)
def o2 : FVec Ideal S1024x128 .f32 := k0_pay157 L.qd1 (k0_pay113 k0_pay14 (k0_pay49 (L.v 2)) (k0_pay50 halves (k0_pay40 k0_pay11 L.g1 L.h1 (L.q 1)) (k0_pay41 k0_pay11 L.g1 L.h1 (L.k 1)) (k0_pay45 halves))) L.bef2 L.bef3
def o3 : FVec Ideal S1024x128 .f32 := k0_pay158 L.qd1 L.bef2 (k0_pay133 k0_pay14 (k0_pay52 (L.v 3)) (k0_pay53 halves (k0_pay40 k0_pay11 L.g1 L.h1 (L.q 1)) (k0_pay41 k0_pay11 L.g1 L.h1 (L.k 1)) (k0_pay45 halves))) L.bef3

/-! ## The stores -/

def outs : List (View.Piece (Elt Ideal) S1024x512 .f32) :=
  [⟨Rect.unit ![0, 384] ![1024, 128] inb_S1024x512_S1024x128_0_384, L.o3⟩, ⟨Rect.unit ![0, 256] ![1024, 128] inb_S1024x512_S1024x128_0_256, L.o2⟩,
    ⟨Rect.unit ![0, 128] ![1024, 128] inb_S1024x512_S1024x128_0_128, L.o1⟩, ⟨Rect.unit ![0, 0] ![1024, 128] inb_S1024x512_S1024x128_0_0, L.o0⟩]

def befs : List (View.Piece (Elt Ideal) S16x4x128x128 .bf16) :=
  [⟨Rect.unit ![0, 3, 0, 0] ![16, 1, 128, 128] inb_S16x4x128x128_S16x1x128x128_0_3_0_0, k0_pay3 (F := Ideal) L.bef3⟩, ⟨Rect.unit ![0, 2, 0, 0] ![16, 1, 128, 128] inb_S16x4x128x128_S16x1x128x128_0_2_0_0, k0_pay1 (F := Ideal) L.bef2⟩,
    ⟨Rect.unit ![0, 1, 0, 0] ![16, 1, 128, 128] inb_S16x4x128x128_S16x1x128x128_0_1_0_0, k0_pay161 (F := Ideal) L.bef1⟩, ⟨Rect.unit ![0, 0, 0, 0] ![16, 1, 128, 128] inb_S16x4x128x128_S16x1x128x128_0_0_0_0, k0_pay159 (F := Ideal) L.bef0⟩]

def afts (R : List (View.Piece (Elt Ideal) S4x128x128 .f32)) : List (View.Piece (Elt Ideal) S4x128x128 .f32) :=
  ⟨Rect.unit ![3, 0, 0] ![1, 128, 128] inb_S4x128x128_S1x128x128_3_0_0, k0_pay4 (F := Ideal) L.aft3⟩ :: ⟨Rect.unit ![2, 0, 0] ![1, 128, 128] inb_S4x128x128_S1x128x128_2_0_0, k0_pay2 (F := Ideal) L.aft2⟩
    :: ⟨Rect.unit ![1, 0, 0] ![1, 128, 128] inb_S4x128x128_S1x128x128_1_0_0, k0_pay162 (F := Ideal) L.aft1⟩ :: ⟨Rect.unit ![0, 0, 0] ![1, 128, 128] inb_S4x128x128_S1x128x128_0_0_0, k0_pay160 (F := Ideal) L.aft0⟩ :: R

/-- What a tile's loads are of the argument arrays, and of the states before its first chunk. -/
structure Of (a : Args) (t : Fin cfg0.N) : Prop where
  x : ∀ r (j : Fin 16), L.x (ix2 r ⟨j.val, by omega⟩) = a.P (tileRow t r) ⟨1536 + j.val, by omega⟩
  w : ∀ p (j : Fin 128) l, L.w p (ix2 j l) = if h : j.val < 16 then a.w ⟨j.val, h⟩ (lane p l) else 0
  b : ∀ p l, L.b p (ix2 0 l) = a.b (lane p l)
  q : ∀ p r l, L.q p (ix2 r l) = a.P (tileRow t r) ⟨(lane p l).val, by omega⟩
  k : ∀ p r l, L.k p (ix2 r l) = a.P (tileRow t r) ⟨256 + (lane p l).val, by omega⟩
  v : ∀ (h : Fin 4) r (e : Fin 128), L.v h (ix2 r e) = a.P (tileRow t r) ⟨512 + (h.val * 128 + e.val), by omega⟩
  s : ∀ p i e l, L.s (head p i) (ix3 0 e l) = a.laneState p i l e (t.val * 16)

namespace Of

variable {L} {a : Args} {t : Fin cfg0.N} (O : L.Of a t)

include O

theorem pair (p : Fin 2) {B : FVec Ideal S16x64x128 .f32} (hB : ∀ n s l, B (ix3 n s l) = a.decay (tileChunk t n) s (lane p l)) : PairIn a p (tileChunk t) B (L.q p) (L.k p) where
  B := hB
  q n s l := (O.q p _ l).trans (by rw [tileRow_chunk])
  k n s l := (O.k p _ l).trans (by rw [tileRow_chunk])

theorem pair0 : PairIn a 0 (tileChunk t) (firstB L.g0) (L.q 0) (L.k 0) :=
  O.pair 0 fun n s l => (congrFun (ladder_first _ _) _).trans (decay_blk t 0 _ (fun r l => gate_blk t 0 _ _ _ O.x (O.w 0) (O.b 0) r l) n s l)

theorem pair1 : PairIn a 1 (tileChunk t) (k0_pay37 k0_pay11 L.g1 L.h1) (L.q 1) (L.k 1) :=
  O.pair 1 fun n s l => (congrFun (ladder_second _ _ _ _) _).trans (decay_blk t 1 _ (fun r l => gate_blk t 1 _ _ _ O.x (O.w 1) (O.b 1) r l) n s l)

theorem val (h : Fin 4) : ValIn a h (tileChunk t) (L.v h) := fun n s e => (O.v h _ e).trans (by rw [tileRow_chunk]; rfl)

omit O in
theorem chunk_tile (j : Fin 16) : tileChunk t j = chunk (t.val * 16 + j.val) := by
  have := t.isLt; have : cfg0.N = 8 := N_0
  exact Fin.ext (by show t.val * 16 + j.val = (t.val * 16 + j.val) % 128; omega)

/-- A head's states, chunk by chunk, from what its carried state, decays and increments are. -/
theorem chained (p i : Fin 2) {s : FVec Ideal S128x128 .f32} {d : FVec Ideal S16x1x128 .f32} {x : FVec Ideal S16x128x128 .f32} (hs : ∀ e l, s (ix2 e l) = L.s (head p i) (ix3 0 e l))
    (hd : ∀ n l, d (ix3 n 0 l) = a.dec (tileChunk t n) (lane p l))
    (hx : ∀ n e l, x (ix3 n e l) = ∑ r : Fin 64, a.v (tileChunk t n) r (head p i) e * (a.ke (tileChunk t n) r (lane p l) * mask i l)) (n : ℕ) (hn : n ≤ 16) (e l : Fin 128) :
    chain (s (ix2 e l)) (fun j => d (ix3 j 0 l)) (fun j => x (ix3 j e l)) n = a.laneState p i l e (t.val * 16 + n) := by
  rw [hs, O.s]
  simp only [hd, hx]
  exact chain_state a p i e l (t.val * 16) (tileChunk t) chunk_tile n hn

theorem bef0_at (n : Fin 16) (e l : Fin 128) : L.bef0 (ix3 n e l) = a.laneState 0 0 l e (t.val * 16 + n.val) :=
  (befores0_at _ _ _ n e l).trans (O.chained 0 0 (fun e l => by pointwise [k0_pay7]; rfl) (first_dec O.pair0) (first_inc0 O.pair0 (O.val 0)) n.val n.isLt.le e l)
theorem aft0_at (e l : Fin 128) : L.aft0 (ix2 e l) = a.laneState 0 0 l e (t.val * 16 + 16) :=
  (after0_at _ _ _ e l).trans (O.chained 0 0 (fun e l => by pointwise [k0_pay7]; rfl) (first_dec O.pair0) (first_inc0 O.pair0 (O.val 0)) 16 le_rfl e l)
theorem bef1_at (n : Fin 16) (e l : Fin 128) : L.bef1 (ix3 n e l) = a.laneState 0 1 l e (t.val * 16 + n.val) :=
  (befores1_at _ _ _ n e l).trans (O.chained 0 1 (fun e l => by pointwise [k0_pay8]; rfl) (first_dec O.pair0) (first_inc1 O.pair0 (O.val 1)) n.val n.isLt.le e l)
theorem aft1_at (e l : Fin 128) : L.aft1 (ix2 e l) = a.laneState 0 1 l e (t.val * 16 + 16) :=
  (after1_at _ _ _ e l).trans (O.chained 0 1 (fun e l => by pointwise [k0_pay8]; rfl) (first_dec O.pair0) (first_inc1 O.pair0 (O.val 1)) 16 le_rfl e l)
theorem bef2_at (n : Fin 16) (e l : Fin 128) : L.bef2 (ix3 n e l) = a.laneState 1 0 l e (t.val * 16 + n.val) :=
  (befores2_at _ _ _ n e l).trans (O.chained 1 0 (fun e l => by pointwise [k0_pay9]; rfl) (second_dec O.pair1) (second_inc0 O.pair1 (O.val 2)) n.val n.isLt.le e l)
theorem aft2_at (e l : Fin 128) : L.aft2 (ix2 e l) = a.laneState 1 0 l e (t.val * 16 + 16) :=
  (after2_at _ _ _ e l).trans (O.chained 1 0 (fun e l => by pointwise [k0_pay9]; rfl) (second_dec O.pair1) (second_inc0 O.pair1 (O.val 2)) 16 le_rfl e l)
theorem bef3_at (n : Fin 16) (e l : Fin 128) : L.bef3 (ix3 n e l) = a.laneState 1 1 l e (t.val * 16 + n.val) :=
  (befores3_at _ _ _ n e l).trans (O.chained 1 1 (fun e l => by pointwise [k0_pay10]; rfl) (second_dec O.pair1) (second_inc1 O.pair1 (O.val 3)) n.val n.isLt.le e l)
theorem aft3_at (e l : Fin 128) : L.aft3 (ix2 e l) = a.laneState 1 1 l e (t.val * 16 + 16) :=
  (after3_at _ _ _ e l).trans (O.chained 1 1 (fun e l => by pointwise [k0_pay10]; rfl) (second_dec O.pair1) (second_inc1 O.pair1 (O.val 3)) 16 le_rfl e l)

/-- A head's output, from its products in the chunk and its queries over the states. -/
theorem joined (p i : Fin 2) (n : Fin 16) (s : Fin 64) (e : Fin 128) {I : EReal} {q y : Fin 128 → EReal} (hI : I = ∑ r, a.score (tileChunk t n) (head p i) s r * a.v (tileChunk t n) r (head p i) e)
    (hq : ∀ l, q l = a.qd (tileChunk t n) s (lane p l)) (hy : ∀ l, y l = a.laneState p i l e (t.val * 16 + n.val)) : I + ∑ l, q l * y l = a.out (tileChunk t n) s (head p i) e := by
  unfold Args.out
  rw [hI]
  refine congrArg (_ + ·) ((Finset.sum_congr rfl fun l _ => congrArg₂ (· * ·) (hq l) (hy l)).trans ?_)
  exact a.inter_lanes (tileChunk t n) p i s e (t.val * 16 + n.val)

theorem o0_at (n : Fin 16) (s : Fin 64) (e : Fin 128) : L.o0 (ix2 ⟨n.val * 64 + s.val, by omega⟩ e) = a.out (tileChunk t n) s (head 0 0) e :=
  (out0_at _ _ _ _ n s e).trans (O.joined 0 0 n s e (first_intra0 O.pair0 (O.val 0) n s e) (first_qd O.pair0 n s) (O.bef0_at n e))
theorem o1_at (n : Fin 16) (s : Fin 64) (e : Fin 128) : L.o1 (ix2 ⟨n.val * 64 + s.val, by omega⟩ e) = a.out (tileChunk t n) s (head 0 1) e :=
  (out1_at _ _ _ _ n s e).trans (O.joined 0 1 n s e (first_intra1 O.pair0 (O.val 1) n s e) (first_qd O.pair0 n s) (O.bef1_at n e))
theorem o2_at (n : Fin 16) (s : Fin 64) (e : Fin 128) : L.o2 (ix2 ⟨n.val * 64 + s.val, by omega⟩ e) = a.out (tileChunk t n) s (head 1 0) e :=
  (out2_at _ _ _ _ n s e).trans (O.joined 1 0 n s e (second_intra0 O.pair1 (O.val 2) n s e) (second_qd O.pair1 n s) (O.bef2_at n e))
theorem o3_at (n : Fin 16) (s : Fin 64) (e : Fin 128) : L.o3 (ix2 ⟨n.val * 64 + s.val, by omega⟩ e) = a.out (tileChunk t n) s (head 1 1) e :=
  (out3_at _ _ _ _ n s e).trans (O.joined 1 1 n s e (second_intra1 O.pair1 (O.val 3) n s e) (second_qd O.pair1 n s) (O.bef3_at n e))

/-! ## What the stores leave -/

omit O in
/-- The tile's output, an entry. -/
def outT (a : Args) (t : Fin cfg0.N) (y : S1024x512.Idx) : EReal :=
  a.out (tileChunk t ⟨(y 0).val / 64, by have : (y 0).val < 1024 := (y 0).isLt; omega⟩) ⟨(y 0).val % 64, by omega⟩ ⟨(y 1).val / 128, by have : (y 1).val < 512 := (y 1).isLt; omega⟩ ⟨(y 1).val % 128, by omega⟩

omit O in
/-- The states of a head, in the lanes of its pair, before a chunk. -/
def laneOf (a : Args) (h : Fin 4) (e l : Fin 128) (k : ℕ) : EReal := a.laneState ⟨h.val / 2, by omega⟩ ⟨h.val % 2, by omega⟩ l e k

omit O in
def befT (a : Args) (t : Fin cfg0.N) (y : S16x4x128x128.Idx) : EReal := laneOf a (y 1) (y 2) (y 3) (t.val * 16 + (y 0).val)

omit O in
def aftT (a : Args) (k : ℕ) (y : S4x128x128.Idx) : EReal := laneOf a (y 0) (y 1) (y 2) k

omit O in
/-- One head's block of the output. -/
theorem block_out {o : FVec Ideal S1024x128 .f32} (h : Fin 4) (off : ℕ) (hoff : off = h.val * 128) (inb : ∀ i, (![0, off] : Fin 2 → ℕ) i + (![1024, 128] : Fin 2 → ℕ) i ≤ S1024x512.size i)
    (ho : ∀ (n : Fin 16) (s : Fin 64) (e : Fin 128), o (ix2 ⟨n.val * 64 + s.val, by omega⟩ e) = a.out (tileChunk t n) s h e) (z : (Rect.unit (s := S1024x512) ![0, off] ![1024, 128] inb).shape.Idx) :
    o z = outT a t ((Rect.unit (s := S1024x512) ![0, off] ![1024, 128] inb).emb z) := by
  subst hoff
  obtain ⟨r, e, rfl⟩ : ∃ r e, z = ix2 r e := ⟨_, _, eq_ix2 z⟩
  have e0 : ((Rect.unit (s := S1024x512) ![0, h.val * 128] ![1024, 128] inb).emb (ix2 r e) 0).val = r.val := by show 0 + 1 * r.val = r.val; omega
  have e1 : ((Rect.unit (s := S1024x512) ![0, h.val * 128] ![1024, 128] inb).emb (ix2 r e) 1).val = h.val * 128 + e.val := by show h.val * 128 + 1 * e.val = _; omega
  have er : r = ⟨r.val / 64 * 64 + r.val % 64, by omega⟩ := Fin.ext (by dsimp only; omega)
  unfold outT
  simp only [e0, e1]
  refine (congrArg (fun r => o (ix2 r e)) er).trans ((ho ⟨r.val / 64, by omega⟩ ⟨r.val % 64, by omega⟩ e).trans ?_)
  congr 1
  · exact Fin.ext (by dsimp only; omega)
  · exact Fin.ext (by dsimp only; omega)

theorem outs_canon : View.canon L.outs = outT a t := by
  have h : View.PiecesOf (Val := Elt Ideal) (s := S1024x512) (e := .f32) (outT a t) L.outs :=
    ⟨block_out 3 384 rfl inb_S1024x512_S1024x128_0_384 O.o3_at, block_out 2 256 rfl inb_S1024x512_S1024x128_0_256 O.o2_at, block_out 1 128 rfl inb_S1024x512_S1024x128_0_128 O.o1_at, block_out 0 0 rfl inb_S1024x512_S1024x128_0_0 O.o0_at, trivial⟩
  funext y
  exact View.canon_apply_of_pieces (outT a t) _ h.mem y (View.cover_of_tiledBy L.outs ![1024, 128] (by sl_kernel_rfl) y)

omit O in
/-- One head's block of the states before the chunks. -/
theorem block_bef {o : FVec Ideal S16x1x128x128 .bf16} (h : Fin 4) (off : ℕ) (hoff : off = h.val) (inb : ∀ i, (![0, off, 0, 0] : Fin 4 → ℕ) i + (![16, 1, 128, 128] : Fin 4 → ℕ) i ≤ S16x4x128x128.size i)
    (ho : ∀ (n : Fin 16) (e l : Fin 128), o (ix4 n 0 e l) = laneOf a h e l (t.val * 16 + n.val)) (z : (Rect.unit (s := S16x4x128x128) ![0, off, 0, 0] ![16, 1, 128, 128] inb).shape.Idx) :
    o z = befT a t ((Rect.unit (s := S16x4x128x128) ![0, off, 0, 0] ![16, 1, 128, 128] inb).emb z) := by
  subst hoff
  obtain ⟨n, u, e, l, rfl⟩ : ∃ n u e l, z = ix4 n u e l := ⟨_, _, _, _, eq_ix4 z⟩
  obtain rfl : u = 0 := Subsingleton.elim u 0
  have e0 : (Rect.unit (s := S16x4x128x128) ![0, h.val, 0, 0] ![16, 1, 128, 128] inb).emb (ix4 n 0 e l) = ix4 n h e l := by
    funext i
    match i with
    | 0 => exact Fin.ext (by show 0 + 1 * n.val = n.val; omega)
    | 1 => exact Fin.ext (by show h.val + 1 * 0 = h.val; omega)
    | 2 => exact Fin.ext (by show 0 + 1 * e.val = e.val; omega)
    | 3 => exact Fin.ext (by show 0 + 1 * l.val = l.val; omega)
  rw [e0]
  exact ho n e l

theorem befs_canon : View.canon L.befs = befT a t := by
  have h : View.PiecesOf (Val := Elt Ideal) (s := S16x4x128x128) (e := .bf16) (befT a t) L.befs :=
    ⟨block_bef 3 3 rfl inb_S16x4x128x128_S16x1x128x128_0_3_0_0 fun n e l => (show _ = L.bef3 (ix3 n e l) by pointwise [k0_pay3]).trans (O.bef3_at n e l), block_bef 2 2 rfl inb_S16x4x128x128_S16x1x128x128_0_2_0_0 fun n e l => (show _ = L.bef2 (ix3 n e l) by pointwise [k0_pay1]).trans (O.bef2_at n e l),
      block_bef 1 1 rfl inb_S16x4x128x128_S16x1x128x128_0_1_0_0 fun n e l => (show _ = L.bef1 (ix3 n e l) by pointwise [k0_pay161]).trans (O.bef1_at n e l), block_bef 0 0 rfl inb_S16x4x128x128_S16x1x128x128_0_0_0_0 fun n e l => (show _ = L.bef0 (ix3 n e l) by pointwise [k0_pay159]).trans (O.bef0_at n e l), trivial⟩
  funext y
  exact View.canon_apply_of_pieces (befT a t) _ h.mem y (View.cover_of_tiledBy L.befs ![16, 1, 128, 128] (by sl_kernel_rfl) y)

omit O in
/-- One head's block of the carried states. -/
theorem block_aft {o : FVec Ideal S1x128x128 .f32} {k : ℕ} (h : Fin 4) (off : ℕ) (hoff : off = h.val) (inb : ∀ i, (![off, 0, 0] : Fin 3 → ℕ) i + (![1, 128, 128] : Fin 3 → ℕ) i ≤ S4x128x128.size i)
    (ho : ∀ (e l : Fin 128), o (ix3 0 e l) = laneOf a h e l k) (z : (Rect.unit (s := S4x128x128) ![off, 0, 0] ![1, 128, 128] inb).shape.Idx) :
    o z = aftT a k ((Rect.unit (s := S4x128x128) ![off, 0, 0] ![1, 128, 128] inb).emb z) := by
  subst hoff
  obtain ⟨u, e, l, rfl⟩ : ∃ u e l, z = ix3 u e l := ⟨_, _, _, eq_ix3 z⟩
  obtain rfl : u = 0 := Subsingleton.elim u 0
  have e0 : (Rect.unit (s := S4x128x128) ![h.val, 0, 0] ![1, 128, 128] inb).emb (ix3 0 e l) = ix3 h e l := by
    funext i
    match i with
    | 0 => exact Fin.ext (by show h.val + 1 * 0 = h.val; omega)
    | 1 => exact Fin.ext (by show 0 + 1 * e.val = e.val; omega)
    | 2 => exact Fin.ext (by show 0 + 1 * l.val = l.val; omega)
  rw [e0]
  exact ho e l

theorem afts_canon (R : List (View.Piece (Elt Ideal) S4x128x128 .f32)) : View.canon (L.afts R) = aftT a (t.val * 16 + 16) := by
  have h : View.PiecesOf (Val := Elt Ideal) (s := S4x128x128) (e := .f32) (aftT a (t.val * 16 + 16)) (L.afts []) :=
    ⟨block_aft 3 3 rfl inb_S4x128x128_S1x128x128_3_0_0 fun e l => (show _ = L.aft3 (ix2 e l) by pointwise [k0_pay4]).trans (O.aft3_at e l), block_aft 2 2 rfl inb_S4x128x128_S1x128x128_2_0_0 fun e l => (show _ = L.aft2 (ix2 e l) by pointwise [k0_pay2]).trans (O.aft2_at e l),
      block_aft 1 1 rfl inb_S4x128x128_S1x128x128_1_0_0 fun e l => (show _ = L.aft1 (ix2 e l) by pointwise [k0_pay162]).trans (O.aft1_at e l), block_aft 0 0 rfl inb_S4x128x128_S1x128x128_0_0_0 fun e l => (show _ = L.aft0 (ix2 e l) by pointwise [k0_pay160]).trans (O.aft0_at e l), trivial⟩
  funext y
  exact View.canon_append_of_piecesOf (Val := Elt Ideal) (s := S4x128x128) (e := .f32) (aftT a (t.val * 16 + 16)) R (L.afts []) h y (View.cover_of_tiledBy (L.afts []) ![1, 128, 128] (by sl_kernel_rfl) y)

end Of

end Loads

end Cert.GlaFwdIdeal.Body
end
-- ==== Proof.GlaFwdValue.lean ====
/-
  THE GATED LINEAR ATTENTION, FORWARD: THE KERNEL'S TWO RESULTS AS FUNCTIONS OF THE ARGUMENTS.

  The states are carried from tile to tile; the first tile starts them from zero.
-/
module

public import proofs.«01_k».proof.Proof.GlaFwdTile
public import proofs.«01_k».proof.Proof.Gen.GlaFwdIdeal.Value

@[expose] public section

set_option maxRecDepth 16384

noncomputable section

namespace Cert.GlaFwdIdeal.Body

open Cert.GlaFwdIdeal Cert.GlaFwdIdeal.Gen Idealize.ShloMosaic Idealize.ShloMosaic.TcCoe Idealize.SL.Sem
open Cert.RealFacts Cert.GlaFwdMath
open scoped BigOperators

/-- Columns loaded of a block. -/
theorem ld_cols {n w : ℕ} {e : EltTy} (x : (⟨2, ![n, w]⟩ : Shape).Idx → Elt Ideal e) (off : ℕ) (inb : ∀ i, (![0, off] : Fin 2 → ℕ) i + (![n, 128] : Fin 2 → ℕ) i ≤ (⟨2, ![n, w]⟩ : Shape).size i)
    (hw : off + 128 ≤ w) (r : Fin n) (k : Fin 128) :
    View.ld (Val := Elt Ideal) (S := ⟨2, ![n, w]⟩) (e' := e) x (Rect.unit (s := ⟨2, ![n, w]⟩) ![0, off] ![n, 128] inb) (ix2 r k) = x (ix2 r ⟨off + k.val, by omega⟩) := by
  refine congrArg x (funext fun i => ?_)
  match i with
  | 0 => exact Fin.ext (by show 0 + 1 * r.val = r.val; omega)
  | 1 => exact Fin.ext (by show off + 1 * k.val = off + k.val; omega)

/-- One head's states loaded of the carried ones. -/
theorem ld_head (x : FVec Ideal S4x128x128 .f32) (off : ℕ) (h : Fin 4) (ho : off = h.val) (inb : ∀ i, (![off, 0, 0] : Fin 3 → ℕ) i + (![1, 128, 128] : Fin 3 → ℕ) i ≤ S4x128x128.size i) (e l : Fin 128) :
    View.ld (Val := Elt Ideal) (S := S4x128x128) (e' := .f32) x (Rect.unit (s := S4x128x128) ![off, 0, 0] ![1, 128, 128] inb) (ix3 0 e l) = x (ix3 h e l) := by
  subst ho
  refine congrArg x (funext fun i => ?_)
  match i with
  | 0 => exact Fin.ext (by show h.val + 1 * 0 = h.val; omega)
  | 1 => exact Fin.ext (by show 0 + 1 * e.val = e.val; omega)
  | 2 => exact Fin.ext (by show 0 + 1 * l.val = l.val; omega)

/-- A tile's loads, from its blocks and the four carried states. -/
def loads (x0 x1 : FVec Ideal S1024x256 .f32) (x2 : FVec Ideal S1024x512 .f32) (x3 : FVec Ideal S1024x128 .f32) (x4 : FVec Ideal S128x256 .bf16) (x5 : FVec Ideal S1x256 .f32)
    (s : Fin 4 → FVec Ideal S1x128x128 .f32) : Loads where
  x := x3
  w := ![View.ld (Val := Elt Ideal) (S := S128x256) (e' := .bf16) x4 (Rect.unit ![0, 0] ![128, 128] inb_S128x256_S128x128_0_0), View.ld (Val := Elt Ideal) (S := S128x256) (e' := .bf16) x4 (Rect.unit ![0, 128] ![128, 128] inb_S128x256_S128x128_0_128)]
  b := ![View.ld (Val := Elt Ideal) (S := S1x256) (e' := .f32) x5 (Rect.unit ![0, 0] ![1, 128] inb_S1x256_S1x128_0_0), View.ld (Val := Elt Ideal) (S := S1x256) (e' := .f32) x5 (Rect.unit ![0, 128] ![1, 128] inb_S1x256_S1x128_0_128)]
  q := ![View.ld (Val := Elt Ideal) (S := S1024x256) (e' := .f32) x0 (Rect.unit ![0, 0] ![1024, 128] inb_S1024x256_S1024x128_0_0), View.ld (Val := Elt Ideal) (S := S1024x256) (e' := .f32) x0 (Rect.unit ![0, 128] ![1024, 128] inb_S1024x256_S1024x128_0_128)]
  k := ![View.ld (Val := Elt Ideal) (S := S1024x256) (e' := .f32) x1 (Rect.unit ![0, 0] ![1024, 128] inb_S1024x256_S1024x128_0_0), View.ld (Val := Elt Ideal) (S := S1024x256) (e' := .f32) x1 (Rect.unit ![0, 128] ![1024, 128] inb_S1024x256_S1024x128_0_128)]
  v := ![View.ld (Val := Elt Ideal) (S := S1024x512) (e' := .f32) x2 (Rect.unit ![0, 0] ![1024, 128] inb_S1024x512_S1024x128_0_0), View.ld (Val := Elt Ideal) (S := S1024x512) (e' := .f32) x2 (Rect.unit ![0, 128] ![1024, 128] inb_S1024x512_S1024x128_0_128),
    View.ld (Val := Elt Ideal) (S := S1024x512) (e' := .f32) x2 (Rect.unit ![0, 256] ![1024, 128] inb_S1024x512_S1024x128_0_256), View.ld (Val := Elt Ideal) (S := S1024x512) (e' := .f32) x2 (Rect.unit ![0, 384] ![1024, 128] inb_S1024x512_S1024x128_0_384)]
  s := s

/-- The four heads' states, loaded of an array of them. -/
def held (x : FVec Ideal S4x128x128 .f32) : Fin 4 → FVec Ideal S1x128x128 .f32 :=
  ![View.ld (Val := Elt Ideal) (S := S4x128x128) (e' := .f32) x (Rect.unit ![0, 0, 0] ![1, 128, 128] inb_S4x128x128_S1x128x128_0_0_0), View.ld (Val := Elt Ideal) (S := S4x128x128) (e' := .f32) x (Rect.unit ![1, 0, 0] ![1, 128, 128] inb_S4x128x128_S1x128x128_1_0_0),
    View.ld (Val := Elt Ideal) (S := S4x128x128) (e' := .f32) x (Rect.unit ![2, 0, 0] ![1, 128, 128] inb_S4x128x128_S1x128x128_2_0_0), View.ld (Val := Elt Ideal) (S := S4x128x128) (e' := .f32) x (Rect.unit ![3, 0, 0] ![1, 128, 128] inb_S4x128x128_S1x128x128_3_0_0)]

theorem held_at (x : FVec Ideal S4x128x128 .f32) (h : Fin 4) (e l : Fin 128) : held x h (ix3 0 e l) = x (ix3 h e l) :=
  match h with
  | 0 => ld_head x 0 0 rfl _ e l
  | 1 => ld_head x 1 1 rfl _ e l
  | 2 => ld_head x 2 2 rfl _ e l
  | 3 => ld_head x 3 3 rfl _ e l

/-- The store that empties the carried states before the first chunk. -/
def emptied : List (View.Piece (Elt Ideal) S4x128x128 .f32) := [⟨Rect.unit ![0, 0, 0] ![4, 128, 128] inb_S4x128x128_S4x128x128_0_0_0, k0_pay5 (F := Ideal)⟩]

/-- The four heads' states, loaded back from it. -/
def fresh : Fin 4 → FVec Ideal S1x128x128 .f32 :=
  ![(View.whole cc0_scratch0).readCov (Val := Elt Ideal) emptied (Rect.unit (s := S4x128x128) ![0, 0, 0] ![1, 128, 128] inb_S4x128x128_S1x128x128_0_0_0).toLoadRect, (View.whole cc0_scratch0).readCov (Val := Elt Ideal) emptied (Rect.unit (s := S4x128x128) ![1, 0, 0] ![1, 128, 128] inb_S4x128x128_S1x128x128_1_0_0).toLoadRect,
    (View.whole cc0_scratch0).readCov (Val := Elt Ideal) emptied (Rect.unit (s := S4x128x128) ![2, 0, 0] ![1, 128, 128] inb_S4x128x128_S1x128x128_2_0_0).toLoadRect, (View.whole cc0_scratch0).readCov (Val := Elt Ideal) emptied (Rect.unit (s := S4x128x128) ![3, 0, 0] ![1, 128, 128] inb_S4x128x128_S1x128x128_3_0_0).toLoadRect]

theorem emptied_canon : View.canon emptied = fun _ => (0 : EReal) := by
  have h : View.PiecesOf (Val := Elt Ideal) (s := S4x128x128) (e := .f32) (fun _ => (0 : EReal)) emptied := ⟨fun z => by idx_vars z; pointwise [k0_pay5], trivial⟩
  funext y
  exact View.canon_apply_of_pieces (fun _ => (0 : EReal)) _ h.mem y (View.cover_of_tiledBy emptied ![4, 128, 128] (by sl_kernel_rfl) y)

theorem fresh_at (h : Fin 4) (e l : Fin 128) : fresh h (ix3 0 e l) = 0 := by
  have z : ∀ (R : LoadRect S4x128x128) (x : R.shape.Idx), (View.whole cc0_scratch0).readCov (Val := Elt Ideal) emptied R x = (0 : EReal) := fun R x => by
    rw [View.readCov_eq_canon', emptied_canon]
  match h with
  | 0 => unfold fresh; simp only [Matrix.cons_val]; exact z _ _
  | 1 => unfold fresh; simp only [Matrix.cons_val]; exact z _ _
  | 2 => unfold fresh; simp only [Matrix.cons_val]; exact z _ _
  | 3 => unfold fresh; simp only [Matrix.cons_val]; exact z _ _

/-- The loads at a grid point, from the four carried states. -/
def loadsAt (m : (ℓ : Loc nD τ sig) → Buf (Elt Ideal) ℓ) (c : Dev nD) (t : Fin cfg0.N) (s : Fin 4 → FVec Ideal S1x128x128 .f32) : Loads :=
  loads (X0_0 m c t) (X0_1 m c t) (X0_2 m c t) (iblk m c 3 t) (iblk m c 4 t) (iblk m c 5 t) s

/-- The loads at a grid point past the first, over what the point before left. -/
def carried (m : (ℓ : Loc nD τ sig) → Buf (Elt Ideal) ℓ) (c : Dev nD) (t : Fin cfg0.N) (acc : Vec Ideal S1024x512 .f32 × Vec Ideal S16x4x128x128 .bf16 × Vec Ideal S4x128x128 .f32) : Loads :=
  loadsAt m c t (held (View.read (Elt Ideal) (View.whole cc0_scratch0) ((Memref.isWhole_whole cc0_scratch0).unread acc.2.2)))

section Point

variable {m : (ℓ : Loc nD τ sig) → Buf (Elt Ideal) ℓ} {c : Dev nD} {a : Args} (H : Holds m c a)

include H

/-- A tile's loads are of the argument arrays. -/
theorem loads_of (t : Fin cfg0.N) (s : Fin 4 → FVec Ideal S1x128x128 .f32) (hs : ∀ p i e l, s (head p i) (ix3 0 e l) = a.laneState p i l e (t.val * 16)) :
    (loadsAt m c t s).Of a t where
  x := factor_blk H t
  w p j l := match p with
    | 0 => (ld_cols _ 0 inb_S128x256_S128x128_0_0 (by omega) j l).trans (weight_blk H t j (lane 0 l))
    | 1 => (ld_cols _ 128 inb_S128x256_S128x128_0_128 (by omega) j l).trans (weight_blk H t j (lane 1 l))
  b p l := match p with
    | 0 => (ld_cols _ 0 inb_S1x256_S1x128_0_0 (by omega) 0 l).trans (bias_blk H t (lane 0 l))
    | 1 => (ld_cols _ 128 inb_S1x256_S1x128_0_128 (by omega) 0 l).trans (bias_blk H t (lane 1 l))
  q p r l := match p with
    | 0 => (ld_cols _ 0 inb_S1024x256_S1024x128_0_0 (by omega) r l).trans ((cols_blk H t r).1 (lane 0 l))
    | 1 => (ld_cols _ 128 inb_S1024x256_S1024x128_0_128 (by omega) r l).trans ((cols_blk H t r).1 (lane 1 l))
  k p r l := match p with
    | 0 => (ld_cols _ 0 inb_S1024x256_S1024x128_0_0 (by omega) r l).trans ((cols_blk H t r).2.1 (lane 0 l))
    | 1 => (ld_cols _ 128 inb_S1024x256_S1024x128_0_128 (by omega) r l).trans ((cols_blk H t r).2.1 (lane 1 l))
  v h r e := match h with
    | 0 => (ld_cols _ 0 inb_S1024x512_S1024x128_0_0 (by omega) r e).trans ((cols_blk H t r).2.2 ⟨0 * 128 + e.val, by omega⟩)
    | 1 => (ld_cols _ 128 inb_S1024x512_S1024x128_0_128 (by omega) r e).trans ((cols_blk H t r).2.2 ⟨1 * 128 + e.val, by omega⟩)
    | 2 => (ld_cols _ 256 inb_S1024x512_S1024x128_0_256 (by omega) r e).trans ((cols_blk H t r).2.2 ⟨2 * 128 + e.val, by omega⟩)
    | 3 => (ld_cols _ 384 inb_S1024x512_S1024x128_0_384 (by omega) r e).trans ((cols_blk H t r).2.2 ⟨3 * 128 + e.val, by omega⟩)
  s := hs

omit H in
/-- The lanes of a head of a pair. -/
theorem laneOf_head (a : Args) (p i : Fin 2) (e l : Fin 128) (k : ℕ) : Loads.Of.laneOf a (head p i) e l k = a.laneState p i l e k := by
  unfold Loads.Of.laneOf
  congr 1
  · exact Fin.ext (by show (p.val * 2 + i.val) / 2 = p.val; omega)
  · exact Fin.ext (by show (p.val * 2 + i.val) % 2 = i.val; omega)

omit H in
/-- What a point past the first leaves are its stores, over the states the point before left. -/
theorem stores_B (t : Fin cfg0.N) (h0 : ¬ t.val % 8 = 0) (acc : Vec Ideal S1024x512 .f32 × Vec Ideal S16x4x128x128 .bf16 × Vec Ideal S4x128x128 .f32) :
    (Value.stAt0 m c t.val t.isLt acc).1 = View.canon (carried m c t acc).outs ∧ (Value.stAt0 m c t.val t.isLt acc).2.1 = View.canon (carried m c t acc).befs
      ∧ (Value.stAt0 m c t.val t.isLt acc).2.2 = View.canon ((carried m c t acc).afts []) := by
  rw [Value.stAt0_B m c t acc h0]
  refine ⟨?_, ?_, ?_⟩ <;> frame_out <;> simp only [carried, loadsAt, loads, Loads.outs, Loads.befs, Loads.afts, Loads.o0, Loads.o1, Loads.o2, Loads.o3, Loads.qd0, Loads.qd1, Loads.bef0, Loads.bef1, Loads.bef2, Loads.bef3, Loads.aft0, Loads.aft1, Loads.aft2, Loads.aft3, befores0, befores1, befores2, befores3,
    after0, after1, after2, after3, Loads.g0, Loads.g1, Loads.h1, firstB, firstEnd, halves, held, fresh, emptied, Matrix.cons_val]

omit H in
/-- What the first point leaves are its stores. -/
theorem stores_A (t : Fin cfg0.N) (h0 : t.val % 8 = 0) (acc : Vec Ideal S1024x512 .f32 × Vec Ideal S16x4x128x128 .bf16 × Vec Ideal S4x128x128 .f32) :
    (Value.stAt0 m c t.val t.isLt acc).1 = View.canon (loadsAt m c t fresh).outs ∧ (Value.stAt0 m c t.val t.isLt acc).2.1 = View.canon (loadsAt m c t fresh).befs
      ∧ (Value.stAt0 m c t.val t.isLt acc).2.2 = View.canon ((loadsAt m c t fresh).afts emptied) := by
  rw [Value.stAt0_A m c t acc h0]
  refine ⟨?_, ?_, ?_⟩ <;> frame_out <;> simp only [carried, loadsAt, loads, Loads.outs, Loads.befs, Loads.afts, Loads.o0, Loads.o1, Loads.o2, Loads.o3, Loads.qd0, Loads.qd1, Loads.bef0, Loads.bef1, Loads.bef2, Loads.bef3, Loads.aft0, Loads.aft1, Loads.aft2, Loads.aft3, befores0, befores1, befores2, befores3,
    after0, after1, after2, after3, Loads.g0, Loads.g1, Loads.h1, firstB, firstEnd, halves, held, fresh, emptied, Matrix.cons_val]

/-- What a point past the first leaves. -/
theorem point_B (t : Fin cfg0.N) (h0 : ¬ t.val % 8 = 0) (acc : Vec Ideal S1024x512 .f32 × Vec Ideal S16x4x128x128 .bf16 × Vec Ideal S4x128x128 .f32) (hacc : acc.2.2 = Loads.Of.aftT a (t.val * 16)) :
    (Value.stAt0 m c t.val t.isLt acc).1 = Loads.Of.outT a t ∧ (Value.stAt0 m c t.val t.isLt acc).2.1 = Loads.Of.befT a t ∧ (Value.stAt0 m c t.val t.isLt acc).2.2 = Loads.Of.aftT a (t.val * 16 + 16) := by
  have O : (carried m c t acc).Of a t := loads_of H t _ fun p i e l => by
    rw [held_at]
    exact (congrFun ((Memref.isWhole_whole cc0_scratch0).read_unread acc.2.2) _).trans ((congrFun hacc _).trans (laneOf_head a p i e l _))
  exact ⟨(stores_B t h0 acc).1.trans O.outs_canon, (stores_B t h0 acc).2.1.trans O.befs_canon, (stores_B t h0 acc).2.2.trans (O.afts_canon [])⟩

/-- What the first point leaves. -/
theorem point_A (t : Fin cfg0.N) (h0 : t.val % 8 = 0) (acc : Vec Ideal S1024x512 .f32 × Vec Ideal S16x4x128x128 .bf16 × Vec Ideal S4x128x128 .f32) :
    (Value.stAt0 m c t.val t.isLt acc).1 = Loads.Of.outT a t ∧ (Value.stAt0 m c t.val t.isLt acc).2.1 = Loads.Of.befT a t ∧ (Value.stAt0 m c t.val t.isLt acc).2.2 = Loads.Of.aftT a (t.val * 16 + 16) := by
  have ht : t.val = 0 := by have := t.isLt; have : cfg0.N = 8 := N_0; omega
  have O : (loadsAt m c t fresh).Of a t := loads_of H t fresh fun p i e l => (fresh_at _ e l).trans (by rw [ht]; exact (a.laneState_zero p i l e).symm)
  exact ⟨(stores_A t h0 acc).1.trans O.outs_canon, (stores_A t h0 acc).2.1.trans O.befs_canon, (stores_A t h0 acc).2.2.trans (O.afts_canon emptied)⟩

/-- What every point leaves. -/
theorem points (n : ℕ) (h : 0 + n < cfg0.N) : (fun r : Vec Ideal S1024x512 .f32 × Vec Ideal S16x4x128x128 .bf16 × Vec Ideal S4x128x128 .f32 =>
      r.1 = Loads.Of.outT a ⟨0 + n, h⟩ ∧ r.2.1 = Loads.Of.befT a ⟨0 + n, h⟩ ∧ r.2.2 = Loads.Of.aftT a ((0 + n) * 16 + 16)) (Pipeline.accAt (fun n h => Value.stAt0 m c n h Value.junk0) (Value.stAt0 m c) 0 n h) := by
  induction n with
  | zero => exact point_A H ⟨0 + 0, h⟩ rfl _
  | succ n ih =>
    have hN : cfg0.N = 8 := N_0
    refine point_B H ⟨0 + (n + 1), h⟩ (show ¬ (0 + (n + 1)) % 8 = 0 by omega) _ ((ih (by omega)).2.2.trans (congrArg (Loads.Of.aftT a) (show (0 + n) * 16 + 16 = (0 + (n + 1)) * 16 by omega)))

/-- The first result: the attention's output, head by head. -/
theorem out_eq : Value.G7 m c = (show FVec Ideal S8192x512 .f32 from fun y => a.out ⟨(y 0).val / 64, by have : (y 0).val < 8192 := (y 0).isLt; omega⟩ ⟨(y 0).val % 64, by omega⟩
    ⟨(y 1).val / 128, by have : (y 1).val < 512 := (y 1).isLt; omega⟩ ⟨(y 1).val % 128, by omega⟩) := by
  funext y
  have hN : cfg0.N = 8 := N_0
  obtain ⟨r, k, rfl⟩ : ∃ r k, y = ix2 r k := ⟨_, _, eq_ix2 y⟩
  have hp : Value.pt7Of (ix2 r k) = r.val / 1024 := by show 1 * (r.val / 1024 - 0) + 1 * (k.val / 512 - 0) = _; omega
  unfold Value.G7
  rw [dif_pos (by rw [hp]; omega)]
  refine (congrFun (points H (Value.pt7Of (ix2 r k)) (by rw [hp]; omega)).1 _).trans ?_
  unfold Loads.Of.outT
  congr 1
  · exact Fin.ext (by show (0 + Value.pt7Of (ix2 r k)) * 16 + r.val % 1024 / 64 = r.val / 64; rw [hp]; omega)
  · exact Fin.ext (by show r.val % 1024 % 64 = r.val % 64; omega)
  · exact Fin.ext (by show k.val % 512 / 128 = k.val / 128; omega)
  · exact Fin.ext (by show k.val % 512 % 128 = k.val % 128; omega)

/-- The second result: the states before each chunk, in the lanes of their pairs. -/
theorem states_eq : Value.G8 m c = (show FVec Ideal S128x4x128x128 .bf16 from fun y => Loads.Of.laneOf a (y 1) (y 2) (y 3) (y 0).val) := by
  funext y
  have hN : cfg0.N = 8 := N_0
  obtain ⟨n, h, e, l, rfl⟩ : ∃ n h e l, y = ix4 n h e l := ⟨_, _, _, _, eq_ix4 y⟩
  have hp : Value.pt8Of (ix4 n h e l) = n.val / 16 := by show 1 * (n.val / 16 - 0) + 1 * (h.val / 4 - 0) + 1 * (e.val / 128 - 0) + 1 * (l.val / 128 - 0) = _; omega
  unfold Value.G8
  rw [dif_pos (by rw [hp]; omega)]
  refine (congrFun (points H (Value.pt8Of (ix4 n h e l)) (by rw [hp]; omega)).2.1 _).trans ?_
  unfold Loads.Of.befT
  congr 1
  · exact Fin.ext (by show h.val % 4 = h.val; omega)
  · exact Fin.ext (by show e.val % 128 = e.val; omega)
  · exact Fin.ext (by show l.val % 128 = l.val; omega)
  · show (0 + Value.pt8Of (ix4 n h e l)) * 16 + n.val % 16 = n.val; rw [hp]; omega

end Point

end Cert.GlaFwdIdeal.Body
end
-- ==== Proof.GlaFwdRef.lean ====
/-
  THE GATED LINEAR ATTENTION, FORWARD: THE REFERENCE'S RESULTS AS FUNCTIONS OF THE ARGUMENTS.

  Stretch by stretch, over any contents before the stretch.
-/
module

public import proofs.«01_k».proof.Proof.GlaFwdMath
public import proofs.«01_k».proof.Proof.Gen.GlaFwdRefIdeal.Run
public import Idealize.ShloMosaic.Lib.Pipeline.ValueKit
public import Idealize.ShloMosaic.Lib.StableHlo.ReadAt

@[expose] public section

set_option maxRecDepth 16384

noncomputable section

namespace Cert.GlaFwdRefIdeal.Ref

open Cert.GlaFwdRefIdeal Cert.GlaFwdRefIdeal.Gen Cert.GlaFwdRefIdeal.Value Idealize.ShloMosaic Idealize.ShloMosaic.TcCoe Idealize.ShloMosaic.StableHlo Idealize.SL.Sem
open Cert.RealFacts Cert.GlaFwdMath
open scoped BigOperators

abbrev Vals := Valuation τ sig (Elt Ideal)

abbrev A0 (X : Vals) : FVec Ideal S1x8192x2592 .f32 := X (Proc.devRef .tc main_arg0)
abbrev A1 (X : Vals) : FVec Ideal S1x16x256 .f32 := X (Proc.devRef .tc main_arg1)
abbrev A2 (X : Vals) : FVec Ideal S1x256 .f32 := X (Proc.devRef .tc main_arg2)
abbrev V9 (X : Vals) : FVec Ideal S1x8192x4x64 .f32 := X (Proc.devRef .tc main_v9)
abbrev V10 (X : Vals) : FVec Ideal S1x8192x4x64 .f32 := X (Proc.devRef .tc main_v10)
abbrev V11 (X : Vals) : FVec Ideal S1x8192x4x128 .f32 := X (Proc.devRef .tc main_v11)
abbrev V17 (X : Vals) : FVec Ideal S1x8192x256 .f32 := X (Proc.devRef .tc main_v17)
abbrev V18 (X : Vals) : FVec Ideal S1x8192x256 .f32 := X (Proc.devRef .tc main_v18)
abbrev V22 (X : Vals) : FVec Ideal S1x128x64x4x64 .f32 := X (Proc.devRef .tc main_v22)
abbrev V23 (X : Vals) : FVec Ideal S1x128x64x4x64 .f32 := X (Proc.devRef .tc main_v23)
abbrev V24 (X : Vals) : FVec Ideal S1x128x64x4x128 .f32 := X (Proc.devRef .tc main_v24)
abbrev V25 (X : Vals) : FVec Ideal S1x128x64x4x64 .f32 := X (Proc.devRef .tc main_v25)
abbrev V26 (X : Vals) : FVec Ideal S1x128x64x4x64 .f32 := X (Proc.devRef .tc main_v26)
abbrev V28 (X : Vals) : FVec Ideal S1x128x4x64 .f32 := X (Proc.devRef .tc main_v28)
abbrev V30 (X : Vals) : FVec Ideal S1x128x64x4x64 .f32 := X (Proc.devRef .tc main_v30)
abbrev V38 (X : Vals) : FVec Ideal S1x128x64x4x64 .f32 := X (Proc.devRef .tc main_v38)
abbrev V39 (X : Vals) : FVec Ideal S1x128x4x64x64 .f32 := X (Proc.devRef .tc main_v39)
abbrev V40 (X : Vals) : IVec S64x64 1 := X (Proc.devRef .tc main_v40)
abbrev V41 (X : Vals) : IVec S64x64 1 := X (Proc.devRef .tc main_v41)
abbrev Z (X : Vals) : FVec Ideal S_ .f32 := X (Proc.devRef .tc main_cst_1)
abbrev V42 (X : Vals) : FVec Ideal S1x128x4x64x64 .f32 := X (Proc.devRef .tc main_v42)
abbrev V44 (X : Vals) : FVec Ideal S1x128x64x4x128 .f32 := X (Proc.devRef .tc main_v44)
abbrev L0 (X : Vals) : FVec Ideal S128x1x4x64x128 .f32 := X (Proc.devRef .tc main_v51_0)
abbrev L1 (X : Vals) : FVec Ideal S128x1x4x64 .f32 := X (Proc.devRef .tc main_v51_1)
abbrev L2 (X : Vals) : IVec S_ 32 := X (Proc.devRef .tc main_v51_2)
abbrev L3 (X : Vals) : FVec Ideal S1x4x64x128 .f32 := X (Proc.devRef .tc main_v51_3)
abbrev L4 (X : Vals) : FVec Ideal S128x1x4x64x128 .f32 := X (Proc.devRef .tc main_v51_4)
abbrev V56 (X : Vals) : FVec Ideal S1x8192x4x128 .f32 := X (Proc.devRef .tc main_v56)
abbrev V58 (X : Vals) : FVec Ideal S128x4x128x64 .f32 := X (Proc.devRef .tc main_v58)
abbrev V59 (X : Vals) : FVec Ideal S128x2x128x64 .f32 := X (Proc.devRef .tc main_v59)
abbrev V60 (X : Vals) : FVec Ideal S128x2x128x128 .f32 := X (Proc.devRef .tc main_v60)
abbrev V61 (X : Vals) : FVec Ideal S128x2x128x64 .f32 := X (Proc.devRef .tc main_v61)
abbrev V62 (X : Vals) : FVec Ideal S128x2x128x128 .f32 := X (Proc.devRef .tc main_v62)
abbrev V63 (X : Vals) : FVec Ideal S8192x512 .f32 := X (Proc.devRef .tc main_v63)
abbrev V68 (X : Vals) : FVec Ideal S128x4x128x128 .bf16 := X (Proc.devRef .tc main_v68)

variable (X : Vals)

/-- The logarithm of a positive number is not `⊥`. -/
theorem log_ne_bot (z : EReal) : Ideal.log (1 + Ideal.exp z) ≠ ⊥ := by
  induction z using EReal.rec with
  | bot => rw [Ideal.exp_bot, add_zero, show (1 : EReal) = ((1 : ℝ) : EReal) from rfl, Ideal.log_coe, if_neg (by norm_num)]; exact EReal.coe_ne_bot _
  | top => rw [Ideal.exp_top, show (1 : EReal) = ((1 : ℝ) : EReal) from rfl, EReal.coe_add_top, Ideal.log_top]; exact top_ne_bot
  | coe r =>
    have hr := Real.exp_pos r
    rw [Ideal.exp_coe, show (1 : EReal) = ((1 : ℝ) : EReal) from rfl, ← EReal.coe_add, Ideal.log_coe, if_neg (by linarith)]
    exact EReal.coe_ne_bot _

/-- The reference's logarithm of a gate is the kernel's. -/
theorem soft (x : EReal) : (-if -x ≠ -x then -x else max (-x) 0 + Ideal.log1p (Ideal.exp (-(FloatOps.absf (F := Ideal) (φ := .f32) (-x))))) = logSig x := by
  rw [if_neg (not_not.mpr rfl), show FloatOps.absf (F := Ideal) (φ := .f32) (-x) = max (-x) (-(-x)) from rfl, neg_neg, max_comm (-x) x]
  unfold logSig Ideal.log1p
  rw [EReal.neg_add (Or.inl (ne_of_gt (lt_of_lt_of_le EReal.bot_lt_zero (le_max_right _ _)))) (Or.inr (log_ne_bot _)), zero_sub]
  refine congrArg (· - _) ?_
  rcases le_total x 0 with h | h
  · rw [min_eq_left h, max_eq_left (by simpa using EReal.neg_le_neg_iff.mpr h), neg_neg]
  · rw [min_eq_right h, max_eq_right (by simpa using EReal.neg_le_neg_iff.mpr h), neg_zero]

theorem ofBits_16 : Ideal.ofBits .f32 0x41800000#32 = ((16 : ℝ) : EReal) := by
  simp [Ideal.ofBits, Ideal.ieee, -EReal.coe_mul]; norm_num

theorem tau_eq : tau = ((1 / 16 : ℝ) : EReal) := by
  unfold tau
  simp [Ideal.ofBits, Ideal.ieee, -EReal.coe_mul]; norm_num

theorem div_16 (x : EReal) : Ideal.div x (Ideal.ofBits .f32 0x41800000#32) = x * tau := by
  rw [ofBits_16, Ideal.div_coe (by norm_num), tau_eq]

/-- A running sum along the third axis, as the host's sum over windows padded before the first row. -/
theorem window_sum (x : FVec Ideal S1x128x64x4x64 .f32) (v : FVec Ideal S_ .f32) (hv : ∀ i, v i = 0)
    (w : S1x128x64x4x64.ReduceWindows ![1, 1, 64, 1, 1] ![1, 1, 1, 1, 1] ![0, 0, 63, 0, 0] ![0, 0, 0, 0, 0] S1x128x64x4x64) (hu : 0 < S_.numel) (n : Fin 128) (t : Fin 64) (h : Fin 4) (d : Fin 64) :
    Host.reduceWindowAdd (F := Ideal) (φ := .f32) ![1, 1, 64, 1, 1] ![1, 1, 1, 1, 1] ![0, 0, 63, 0, 0] ![0, 0, 0, 0, 0] x v w hu (ix5 0 n t h d)
      = ∑ u ∈ Finset.range (t.val + 1), if hu : u < 64 then x (ix5 0 n ⟨u, hu⟩ h d) else 0 := by
  let W : Shape := ⟨5, ![1, 1, 64, 1, 1]⟩
  let p (q : W.Idx) (a : Fin 5) : ℕ := ((ix5 0 n t h d : S1x128x64x4x64.Idx) a).val * (![1, 1, 1, 1, 1] : Fin 5 → ℕ) a + (q a).val
  let g (q : W.Idx) : EReal := if hin : ∀ a, (![0, 0, 63, 0, 0] : Fin 5 → ℕ) a ≤ p q a ∧ p q a - (![0, 0, 63, 0, 0] : Fin 5 → ℕ) a < S1x128x64x4x64.size a then x (fun a => ⟨p q a - (![0, 0, 63, 0, 0] : Fin 5 → ℕ) a, (hin a).2⟩) else 0
  have e1 : Host.reduceWindowAdd (F := Ideal) (φ := .f32) ![1, 1, 64, 1, 1] ![1, 1, 1, 1, 1] ![0, 0, 63, 0, 0] ![0, 0, 0, 0, 0] x v w hu (ix5 0 n t h d)
      = (List.finRange W.numel).foldl (fun r k => r + g (W.rowMajor.symm k)) 0 := by
    unfold Host.reduceWindowAdd
    rw [hv, Ideal.hostReduceWindowAdd_def]
    unfold Ideal.hostReduceWindowAdd Host.reduceWindow
    refine congrArg (fun F : EReal → Fin W.numel → EReal => (List.finRange W.numel).foldl F 0) (funext fun r => funext fun k => congrArg (r + ·) ?_)
    by_cases hin : ∀ a, (![0, 0, 63, 0, 0] : Fin 5 → ℕ) a ≤ p (W.rowMajor.symm k) a ∧ p (W.rowMajor.symm k) a - (![0, 0, 63, 0, 0] : Fin 5 → ℕ) a < S1x128x64x4x64.size a
    · exact (dif_pos hin).trans (show g (W.rowMajor.symm k) = _ from dif_pos hin).symm
    · exact (dif_neg hin).trans (show g (W.rowMajor.symm k) = _ from dif_neg hin).symm
  rw [e1]
  have e2 : (List.finRange W.numel).foldl (fun r k => r + g (W.rowMajor.symm k)) 0 = ∑ q : W.Idx, g q := by
    exact (sum_idx_eq_foldl W g).symm
  rw [e2]
  have e3 : ∑ q : W.Idx, g q = ∑ k : Fin 64, g (ix5 0 0 k 0 0) := by
    refine (Fintype.sum_bijective (fun k : Fin 64 => (ix5 0 0 k 0 0 : W.Idx)) ⟨fun a b hab => congrFun hab 2, fun q => ⟨q 2, ?_⟩⟩ _ _ fun _ => rfl).symm
    funext a
    match a with
    | 0 => exact Subsingleton.elim (α := Fin 1) _ _
    | 1 => exact Subsingleton.elim (α := Fin 1) _ _
    | 2 => rfl
    | 3 => exact Subsingleton.elim (α := Fin 1) _ _
    | 4 => exact Subsingleton.elim (α := Fin 1) _ _
  rw [e3]
  let f (k : ℕ) : EReal := if hk : 63 ≤ t.val + k ∧ t.val + k - 63 < 64 then x (ix5 0 n ⟨t.val + k - 63, hk.2⟩ h d) else 0
  have e4 : ∀ k : Fin 64, g (ix5 0 0 k 0 0) = f k.val := by
    intro k
    by_cases hk : 63 ≤ t.val + k.val ∧ t.val + k.val - 63 < 64
    · have hin : ∀ a, (![0, 0, 63, 0, 0] : Fin 5 → ℕ) a ≤ p (ix5 0 0 k 0 0) a ∧ p (ix5 0 0 k 0 0) a - (![0, 0, 63, 0, 0] : Fin 5 → ℕ) a < S1x128x64x4x64.size a := by
        intro a
        match a with
        | 0 => exact ⟨Nat.zero_le _, show 0 * 1 + 0 - 0 < 1 by omega⟩
        | 1 => exact ⟨Nat.zero_le _, show n.val * 1 + 0 - 0 < 128 by omega⟩
        | 2 => exact ⟨show 63 ≤ t.val * 1 + k.val by omega, show t.val * 1 + k.val - 63 < 64 by omega⟩
        | 3 => exact ⟨Nat.zero_le _, show h.val * 1 + 0 - 0 < 4 by omega⟩
        | 4 => exact ⟨Nat.zero_le _, show d.val * 1 + 0 - 0 < 64 by omega⟩
      refine (dif_pos hin).trans ((congrArg x (funext fun a => ?_)).trans (show f k.val = x (ix5 0 n ⟨t.val + k.val - 63, hk.2⟩ h d) from dif_pos hk).symm)
      match a with
      | 0 => exact Fin.ext (show 0 * 1 + 0 - 0 = 0 by omega)
      | 1 => exact Fin.ext (show n.val * 1 + 0 - 0 = n.val by omega)
      | 2 => exact Fin.ext (show t.val * 1 + k.val - 63 = t.val + k.val - 63 by omega)
      | 3 => exact Fin.ext (show h.val * 1 + 0 - 0 = h.val by omega)
      | 4 => exact Fin.ext (show d.val * 1 + 0 - 0 = d.val by omega)
    · refine (dif_neg fun hin => hk ?_).trans (show f k.val = 0 from dif_neg hk).symm
      have h2 : 63 ≤ t.val * 1 + k.val ∧ t.val * 1 + k.val - 63 < 64 := hin 2
      omega
  rw [Finset.sum_congr rfl fun k _ => e4 k, Fin.sum_univ_eq_sum_range f 64]
  have e5 : ∀ N : ℕ, N = (63 - t.val) + (t.val + 1) → ∑ i ∈ Finset.range N, f i = ∑ u ∈ Finset.range (t.val + 1), f (63 - t.val + u) := fun N hN => by
    rw [hN, Finset.sum_range_add, Finset.sum_eq_zero fun k hk => ?_, zero_add]
    exact dif_neg (by rw [Finset.mem_range] at hk; omega)
  rw [e5 64 (by omega)]
  refine Finset.sum_congr rfl fun u hu => ?_
  rw [Finset.mem_range] at hu
  rw [dif_pos (show u < 64 by omega)]
  refine (dif_pos (show 63 ≤ t.val + (63 - t.val + u) ∧ t.val + (63 - t.val + u) - 63 < 64 by omega)).trans (congrArg (fun u => x (ix5 0 n u h d)) (Fin.ext ?_))
  show t.val + (63 - t.val + u) - 63 = u
  omega

theorem at_v9 (r : Fin 8192) (h : Fin 4) (d : Fin 64) : V9 (after hostOps0 X) (ix4 0 r h d) = A0 X (ix3 0 r ⟨h.val * 64 + d.val, by omega⟩) * eighth := by
  unfold V9 A0
  after_reads_at
  rfl
theorem at_v10 (r : Fin 8192) (h : Fin 4) (d : Fin 64) : V10 (after hostOps0 X) (ix4 0 r h d) = A0 X (ix3 0 r ⟨256 + (h.val * 64 + d.val), by omega⟩) := by
  unfold V10 A0
  after_reads_at

theorem at_v11 (r : Fin 8192) (h : Fin 4) (d : Fin 128) : V11 (after hostOps0 X) (ix4 0 r h d) = A0 X (ix3 0 r ⟨512 + (h.val * 128 + d.val), by omega⟩) := by
  unfold V11 A0
  after_reads_at
theorem at_v17 (r : Fin 8192) (k : Fin 256) : V17 (after hostOps0 X) (ix3 0 r k) = (∑ j : Fin 16, A0 X (ix3 0 r ⟨1536 + j.val, by omega⟩) * A1 X (ix3 0 j k)) + A2 X (ix2 0 k) := by
  unfold V17 A0 A1 A2
  after_reads_at
theorem at_v18 (r : Fin 8192) (k : Fin 256) : V18 (after hostOps0_1 X) (ix3 0 r k) = logSig (V17 X (ix3 0 r k)) := by
  unfold V18 V17
  after_reads_at
  exact soft _
theorem at_v22 (n : Fin 128) (t : Fin 64) (h : Fin 4) (d : Fin 64) : V22 (after hostOps0_2 X) (ix5 0 n t h d) = V9 X (ix4 0 (row n t) h d) := by
  unfold V22 V9
  after_reads_at
  rfl
theorem at_v23 (n : Fin 128) (t : Fin 64) (h : Fin 4) (d : Fin 64) : V23 (after hostOps0_2 X) (ix5 0 n t h d) = V10 X (ix4 0 (row n t) h d) := by
  unfold V23 V10
  after_reads_at
  rfl
theorem at_v24 (n : Fin 128) (t : Fin 64) (h : Fin 4) (d : Fin 128) : V24 (after hostOps0_2 X) (ix5 0 n t h d) = V11 X (ix4 0 (row n t) h d) := by
  unfold V24 V11
  after_reads_at
  rfl
theorem at_v25 (n : Fin 128) (t : Fin 64) (h : Fin 4) (d : Fin 64) : V25 (after hostOps0_2 X) (ix5 0 n t h d) = Ideal.div (V18 X (ix3 0 (row n t) (col h d))) (Ideal.ofBits .f32 0x41800000#32) := by
  unfold V25 V18
  after_reads_at
  rfl
theorem at_v26 (n : Fin 128) (t : Fin 64) (h : Fin 4) (d : Fin 64) : V26 (after hostOps0_3 X) (ix5 0 n t h d) = ∑ u ∈ Finset.range (t.val + 1), if hu : u < 64 then V25 X (ix5 0 n ⟨u, hu⟩ h d) else 0 := by
  unfold V26 V25
  after_reads_at
  exact window_sum _ _ (fun i => by pointwise) _ _ n t h d
theorem at_v28 (n : Fin 128) (h : Fin 4) (d : Fin 64) : V28 (after hostOps0_4 X) (ix4 0 n h d) = V26 X (ix5 0 n 63 h d) := by
  unfold V28 V26
  after_reads_at
theorem at_v30 (n : Fin 128) (t : Fin 64) (h : Fin 4) (d : Fin 64) : V30 (after hostOps0_4 X) (ix5 0 n t h d) = V22 X (ix5 0 n t h d) * Ideal.exp (V26 X (ix5 0 n t h d)) := by
  unfold V30 V22 V26
  after_reads_at
theorem at_v38 (n : Fin 128) (t : Fin 64) (h : Fin 4) (d : Fin 64) : V38 (after hostOps0_4 X) (ix5 0 n t h d) = V23 X (ix5 0 n t h d) * Ideal.exp (V26 X (ix5 0 n 63 h d) - V26 X (ix5 0 n t h d)) := by
  unfold V38 V23 V26
  after_reads_at
theorem at_v39 (n : Fin 128) (h : Fin 4) (t s : Fin 64) : V39 (after hostOps0_4 X) (ix5 0 n h t s)
    = ∑ d : Fin 64, (V22 X (ix5 0 n t h d) * Ideal.exp (V26 X (ix5 0 n t h d))) * (V23 X (ix5 0 n s h d) * Ideal.exp (- V26 X (ix5 0 n s h d))) := by
  unfold V39 V22 V23 V26
  after_reads_at
theorem at_v40 (t s : Fin 64) : V40 (after hostOps0_4 X) (ix2 t s) = 1#1 := by
  unfold V40
  after_reads_at
theorem at_v41 (t s : Fin 64) : V41 (after hostOps0_5 X) (ix2 t s) = if s ≤ t then V40 X (ix2 t s) else 0#1 := by
  unfold V41 V40
  after_reads_at
  rw [show IntOp.cmpi CmpIPredicate.sge (IntOp.addi (BitVec.ofNat 32 t.val) 0#32) (BitVec.ofNat 32 s.val) = if s ≤ t then 1#1 else 0#1 by revert t s; decide +kernel]
  split
  · exact if_pos rfl
  · exact if_neg (by decide)
theorem at_z (i) : Z (after hostOps0_6 X) i = 0 := by
  unfold Z
  after_reads_at
theorem at_v42 (n : Fin 128) (h : Fin 4) (t s : Fin 64) : V42 (after hostOps0_7 X) (ix5 0 n h t s) = Scalar.select (V41 X (ix2 t s)) (V39 X (ix5 0 n h t s)) (Z X ix0) := by
  unfold V42 V41 V39 Z
  after_reads_at
  rfl
theorem at_v44 (n : Fin 128) (t : Fin 64) (h : Fin 4) (e : Fin 128) : V44 (after hostOps0_8 X) (ix5 0 n t h e) = ∑ s : Fin 64, V24 X (ix5 0 n s h e) * V42 X (ix5 0 n h t s) := by
  unfold V44 V24 V42
  after_reads_at
theorem at_l0 (n : Fin 128) (h : Fin 4) (d : Fin 64) (e : Fin 128) : L0 (after hostOps0_8 X) (ix5 n 0 h d e) = ∑ s : Fin 64, V38 X (ix5 0 n s h d) * V24 X (ix5 0 n s h e) := by
  unfold L0 V24 V38
  after_reads_at
  rw [id_eq]
  pointwise
theorem at_l1 (n : Fin 128) (h : Fin 4) (d : Fin 64) : L1 (after hostOps0_8 X) (ix4 n 0 h d) = Ideal.exp (V28 X (ix4 0 n h d)) := by
  unfold L1 V28
  after_reads_at
  rw [id_eq]
  pointwise
theorem at_l2 : L2 (after hostOps0_8 X) = fun _ => 0#32 := by
  unfold L2
  after_reads_at
  rfl
theorem at_l3 (h : Fin 4) (d : Fin 64) (e : Fin 128) : L3 (after hostOps0_8 X) (ix4 0 h d e) = 0 := by
  unfold L3
  after_reads_at
  rw [id_eq]
  pointwise
end Cert.GlaFwdRefIdeal.Ref
end
-- ==== Proof.GlaFwdTrip.lean ====
/-
  THE GATED LINEAR ATTENTION, FORWARD: THE REFERENCE'S RESULTS AS FUNCTIONS OF THE ARGUMENTS.

  Stretch by stretch, over any contents before the stretch.
-/
module

public import proofs.«01_k».proof.Proof.GlaFwdMath
public import proofs.«01_k».proof.Proof.Gen.GlaFwdRefIdeal.Run
public import Idealize.ShloMosaic.Lib.Pipeline.ValueKit
public import Idealize.ShloMosaic.Lib.StableHlo.ReadAt
public import Idealize.ShloMosaic.Lib.WordCmp
public import proofs.«01_k».proof.Proof.GlaFwdRef

@[expose] public section

set_option maxRecDepth 16384

noncomputable section

namespace Cert.GlaFwdRefIdeal.Ref

open Cert.GlaFwdRefIdeal Cert.GlaFwdRefIdeal.Gen Cert.GlaFwdRefIdeal.Value Idealize.ShloMosaic Idealize.ShloMosaic.TcCoe Idealize.ShloMosaic.StableHlo Idealize.SL.Sem
open Cert.RealFacts Cert.GlaFwdMath
open scoped BigOperators

variable (X : Vals)

theorem at_v56 (r : Fin 8192) (h : Fin 4) (e : Fin 128) : V56 (after hostOps0_9 X) (ix4 0 r h e)
    = V44 X (ix5 0 ⟨r.val / 64, by omega⟩ ⟨r.val % 64, by omega⟩ h e)
      + ∑ d : Fin 64, L4 X (ix5 ⟨r.val / 64, by omega⟩ 0 h d e) * V30 X (ix5 0 ⟨r.val / 64, by omega⟩ ⟨r.val % 64, by omega⟩ h d) := by
  unfold V56 V44 L4 V30
  after_reads_at
/-- Zero as a number. -/
theorem of_zero : FloatOps.sitofp (F := Ideal) .f32 (0#32) = 0 := by
  show (((0#32 : BitVec 32).toInt : ℝ) : EReal) = 0
  simp
theorem at_v58 (n : Fin 128) (h : Fin 4) (e : Fin 128) (d : Fin 64) : V58 (after hostOps0_9 X) (ix4 n h e d) = L4 X (ix5 n 0 h d e) := by
  unfold V58 L4
  after_reads_at
theorem at_v59 (n : Fin 128) (p : Fin 2) (e : Fin 128) (d : Fin 64) : V59 (after hostOps0_9 X) (ix4 n p e d) = L4 X (ix5 n 0 (head p 0) d e) := by
  unfold V59 L4
  after_reads_at
  exact congrArg (fun h => L4 X (ix5 n 0 h d e)) (Fin.ext (by show 2 * p.val = p.val * 2 + 0; omega))
abbrev C5 (X : Vals) : IVec S_ 32 := X (Proc.devRef .tc main_c_5)
abbrev C6 (X : Vals) : IVec S_ 32 := X (Proc.devRef .tc main_c_6)
theorem at_c5 (i) : C5 (after hostOps0_9 X) i = 0#32 := by
  unfold C5
  after_reads_at
theorem at_v60 (hz : ∀ i, C5 X i = 0#32) (n : Fin 128) (p : Fin 2) (e l : Fin 128) : V60 (after hostOps0_10 X) (ix4 n p e l)
    = if hl : l.val < 64 then V59 X (ix4 n p e ⟨l.val, hl⟩) else 0 := by
  unfold V60 V59
  after_reads_at
  by_cases hl : l.val < 64
  · rw [dif_pos hl, dif_pos hl]
  · rw [dif_neg hl, dif_neg hl]
    exact (congrArg (FloatOps.sitofp (F := Ideal) .f32) (hz _)).trans of_zero
theorem at_v61 (n : Fin 128) (p : Fin 2) (e : Fin 128) (d : Fin 64) : V61 (after hostOps0_11 X) (ix4 n p e d) = V58 X (ix4 n (head p 1) e d) := by
  unfold V61 V58
  after_reads_at
  exact congrArg (fun h => V58 X (ix4 n h e d)) (Fin.ext (by show 1 + 2 * p.val = p.val * 2 + 1; omega))
theorem at_c6 (i) : C6 (after hostOps0_11 X) i = 0#32 := by
  unfold C6
  after_reads_at
theorem at_v62 (hz : ∀ i, C6 X i = 0#32) (n : Fin 128) (p : Fin 2) (e l : Fin 128) : V62 (after hostOps0_12 X) (ix4 n p e l)
    = if hl : 64 ≤ l.val then V61 X (ix4 n p e ⟨l.val - 64, by omega⟩) else 0 := by
  unfold V62 V61
  after_reads_at
  by_cases hl : 64 ≤ l.val
  · rw [dif_pos hl, dif_pos ⟨hl, by omega⟩]
  · rw [dif_neg hl, dif_neg fun h => hl h.1]
    exact (congrArg (FloatOps.sitofp (F := Ideal) .f32) (hz _)).trans of_zero
theorem at_v63 (r : Fin 8192) (k : Fin 512) : V63 (after hostOps0_13 X) (ix2 r k) = V56 X (ix4 0 r ⟨k.val / 128, by omega⟩ ⟨k.val % 128, by omega⟩) := by
  unfold V63 V56
  after_reads_at

abbrev V64 (X : Vals) : FVec Ideal S128x2x1x128x128 .f32 := X (Proc.devRef .tc main_v64)
abbrev V65 (X : Vals) : FVec Ideal S128x2x1x128x128 .f32 := X (Proc.devRef .tc main_v65)
/-- The last stretch up to the two stacks, and after them. -/
def stackOps : List (HloOp τ sig (Elt Ideal)) := hostOps0_13.take 3
def joinOps : List (HloOp τ sig (Elt Ideal)) := hostOps0_13.drop 3
theorem ops_13 : (hostOps0_13 : List (HloOp τ sig (Elt Ideal))) = stackOps ++ joinOps := rfl
theorem at_v64 (n : Fin 128) (p : Fin 2) (e l : Fin 128) : V64 (after stackOps X) (ix5 n p 0 e l) = V60 X (ix4 n p e l) := by
  unfold V64 V60 stackOps
  simp only [hostOps0_13, List.take_succ_cons, List.take_zero]
  after_reads_at
theorem at_v65 (n : Fin 128) (p : Fin 2) (e l : Fin 128) : V65 (after stackOps X) (ix5 n p 0 e l) = V62 X (ix4 n p e l) := by
  unfold V65 V62 stackOps
  simp only [hostOps0_13, List.take_succ_cons, List.take_zero]
  after_reads_at
theorem at_join (n : Fin 128) (h : Fin 4) (e l : Fin 128) : V68 (after joinOps X) (ix4 n h e l)
    = if h.val % 2 < 1 then V64 X (ix5 n ⟨h.val / 2, by omega⟩ 0 e l) else V65 X (ix5 n ⟨h.val / 2, by omega⟩ 0 e l) := by
  unfold V68 joinOps
  simp only [hostOps0_13, List.drop_succ_cons, List.drop_zero]
  after_reads_at
  by_cases hh : h.val % 2 < 1
  · rw [dif_pos hh, if_pos hh]
    exact congrArg (fun i => V64 X (ix5 n ⟨h.val / 2, by omega⟩ i e l)) (Subsingleton.elim _ _)
  · rw [dif_neg hh, if_neg hh]
    exact congrArg (fun i => V65 X (ix5 n ⟨h.val / 2, by omega⟩ i e l)) (Subsingleton.elim _ _)
theorem at_v68 (n : Fin 128) (h : Fin 4) (e l : Fin 128) : V68 (after hostOps0_13 X) (ix4 n h e l)
    = if h.val % 2 < 1 then V60 X (ix4 n ⟨h.val / 2, by omega⟩ e l) else V62 X (ix4 n ⟨h.val / 2, by omega⟩ e l) := by
  rw [ops_13, after_append, at_join, at_v64, at_v65]

/-! ## One trip of the loop -/

/-- The start of a slice of the first axis. -/
theorem start4 (i : IVec S_ 32) (k : ℕ) (hk : k < 128) (hi : i = fun _ => Scf.iv 0#32 1#32 k) (u : S_.Idx) (a : Fin 4) :
    ((![i, constantI S_ 32 0#32, constantI S_ 32 0#32, constantI S_ 32 0#32] : Fin 4 → IVec S_ 32) a u).toInt = ((![k, 0, 0, 0] : Fin 4 → ℕ) a : Int) := by
  subst hi
  match a with
  | 0 => exact (show ∀ k < 128, (Scf.iv 0#32 1#32 k).toInt = (k : Int) by decide +kernel) k hk
  | 1 => rfl
  | 2 => rfl
  | 3 => rfl
theorem start5 (i : IVec S_ 32) (k : ℕ) (hk : k < 128) (hi : i = fun _ => Scf.iv 0#32 1#32 k) (u : S_.Idx) (a : Fin 5) :
    ((![i, constantI S_ 32 0#32, constantI S_ 32 0#32, constantI S_ 32 0#32, constantI S_ 32 0#32] : Fin 5 → IVec S_ 32) a u).toInt
      = ((![k, 0, 0, 0, 0] : Fin 5 → ℕ) a : Int) := by
  subst hi
  match a with
  | 0 => exact (show ∀ k < 128, (Scf.iv 0#32 1#32 k).toInt = (k : Int) by decide +kernel) k hk
  | 1 => rfl
  | 2 => rfl
  | 3 => rfl
  | 4 => rfl

variable {k : ℕ} (hk : k < 128) (hi : L2 X = fun _ => Scf.iv 0#32 1#32 k)
include hk hi

theorem fits4 : S128x1x4x64.Slices ![k, 0, 0, 0] S1x1x4x64 :=
  ⟨rfl, fun a => by match a with | 0 => (show k + 1 ≤ 128; omega) | 1 => exact Nat.le_refl _ | 2 => exact Nat.le_refl _ | 3 => exact Nat.le_refl _⟩
theorem fits5 : S128x1x4x64x128.Slices ![k, 0, 0, 0, 0] S1x1x4x64x128 :=
  ⟨rfl, fun a => by match a with | 0 => (show k + 1 ≤ 128; omega) | 1 => exact Nat.le_refl _ | 2 => exact Nat.le_refl _ | 3 => exact Nat.le_refl _ | 4 => exact Nat.le_refl _⟩

theorem trip_state (h : Fin 4) (d : Fin 64) (e : Fin 128) : L3 (afterL bodyI X) (ix4 0 h d e)
    = L1 X (ix4 ⟨k, hk⟩ 0 h d) * L3 X (ix4 0 h d e) + L0 X (ix5 ⟨k, hk⟩ 0 h d e) := by
  have s4 := WordCmp.dynamicSlice_eq_extract S1x1x4x64 (L1 X) (fun a => ((![L2 X, constantI S_ 32 0#32, constantI S_ 32 0#32, constantI S_ 32 0#32] : Fin 4 → IVec S_ 32) a (Shape.Idx.first h_S_)).toInt)
    sliceFits_S128x1x4x64_S1x1x4x64 ![k, 0, 0, 0] (fits4 X hk hi) (start4 _ k hk hi _)
  have s5 := WordCmp.dynamicSlice_eq_extract S1x1x4x64x128 (L0 X) (fun a => ((![L2 X, constantI S_ 32 0#32, constantI S_ 32 0#32, constantI S_ 32 0#32, constantI S_ 32 0#32] : Fin 5 → IVec S_ 32) a (Shape.Idx.first h_S_)).toInt)
    sliceFits_S128x1x4x64x128_S1x1x4x64x128 ![k, 0, 0, 0, 0] (fits5 X hk hi) (start5 _ k hk hi _)
  have e1 := trip_main_v51_3 X
  erw [s4, s5] at e1
  refine (congrFun e1 _).trans ?_
  rw [id_eq]
  clean_types
  pointwise

theorem trip_stack (j : Fin 128) (h : Fin 4) (d : Fin 64) (e : Fin 128) : L4 (afterL bodyI X) (ix5 j 0 h d e)
    = if j.val = k then L3 X (ix4 0 h d e) else L4 X (ix5 j 0 h d e) := by
  have e1 := trip_main_v51_4 X
  have s5 := fun u => WordCmp.dynamicUpdateSlice_eq_update (L4 X) u (fun a => ((![L2 X, constantI S_ 32 0#32, constantI S_ 32 0#32, constantI S_ 32 0#32, constantI S_ 32 0#32] : Fin 5 → IVec S_ 32) a (Shape.Idx.first h_S_)).toInt)
    updateFits_S128x1x4x64x128_S1x1x4x64x128 ![k, 0, 0, 0, 0] (fits5 X hk hi) (start5 _ k hk hi _)
  erw [s5] at e1
  refine (congrFun e1 _).trans ?_
  rw [id_eq]
  clean_types
  pointwise
  by_cases hj : j.val = k
  · rw [dif_pos (by omega), if_pos hj]
  · rw [dif_neg (by omega), if_neg hj]
end Cert.GlaFwdRefIdeal.Ref
end
-- ==== Proof.GlaFwdStages.lean ====
/-
  THE GATED LINEAR ATTENTION, FORWARD: THE REFERENCE'S RESULTS AS FUNCTIONS OF THE ARGUMENTS, PUT TOGETHER.

  Stretch by stretch, over any contents before the stretch.
-/
module

public import proofs.«01_k».proof.Proof.GlaFwdMath
public import proofs.«01_k».proof.Proof.Gen.GlaFwdRefIdeal.Run
public import Idealize.ShloMosaic.Lib.Pipeline.ValueKit
public import Idealize.ShloMosaic.Lib.StableHlo.ReadAt
public import Idealize.ShloMosaic.Lib.WordCmp
public import proofs.«01_k».proof.Proof.GlaFwdTrip

@[expose] public section

set_option maxRecDepth 16384

noncomputable section

namespace Cert.GlaFwdRefIdeal.Ref

open Cert.GlaFwdRefIdeal Cert.GlaFwdRefIdeal.Gen Cert.GlaFwdRefIdeal.Value Idealize.ShloMosaic Idealize.ShloMosaic.TcCoe Idealize.ShloMosaic.StableHlo Idealize.SL.Sem
open Cert.RealFacts Cert.GlaFwdMath
open scoped BigOperators

variable (X : Vals)

/-- What the arguments hold. -/
structure Of (a : Args) : Prop where
  P : ∀ r k, A0 X (ix3 0 r k) = a.P r k
  w : ∀ j k, A1 X (ix3 0 j k) = a.w j k
  b : ∀ k, A2 X (ix2 0 k) = a.b k

/-! ## The contents before the loop -/

def E0 : Vals := after hostOps0 X
def E1 : Vals := after hostOps0_1 (E0 X)
def E2 : Vals := after hostOps0_2 (E1 X)
def E3 : Vals := after hostOps0_3 (E2 X)
def E4 : Vals := after hostOps0_4 (E3 X)
def E5 : Vals := after hostOps0_5 (E4 X)
def E6 : Vals := after hostOps0_6 (E5 X)
def E7 : Vals := after hostOps0_7 (E6 X)
def E8 : Vals := after hostOps0_8 (E7 X)

theorem keep0 (r : Ref sig .tc) (h : r ∉ hostOps0_W) : E0 X (Proc.devRef .tc r) = X (Proc.devRef .tc r) := after_of_writes_sub _ _ hostOps0_writes h
theorem keep1 (r : Ref sig .tc) (h : r ∉ hostOps0_1_W) : E1 X (Proc.devRef .tc r) = E0 X (Proc.devRef .tc r) := after_of_writes_sub _ _ hostOps0_1_writes h
theorem keep2 (r : Ref sig .tc) (h : r ∉ hostOps0_2_W) : E2 X (Proc.devRef .tc r) = E1 X (Proc.devRef .tc r) := after_of_writes_sub _ _ hostOps0_2_writes h
theorem keep3 (r : Ref sig .tc) (h : r ∉ hostOps0_3_W) : E3 X (Proc.devRef .tc r) = E2 X (Proc.devRef .tc r) := after_of_writes_sub _ _ hostOps0_3_writes h
theorem keep4 (r : Ref sig .tc) (h : r ∉ hostOps0_4_W) : E4 X (Proc.devRef .tc r) = E3 X (Proc.devRef .tc r) := after_of_writes_sub _ _ hostOps0_4_writes h
theorem keep5 (r : Ref sig .tc) (h : r ∉ hostOps0_5_W) : E5 X (Proc.devRef .tc r) = E4 X (Proc.devRef .tc r) := after_of_writes_sub _ _ hostOps0_5_writes h
theorem keep6 (r : Ref sig .tc) (h : r ∉ hostOps0_6_W) : E6 X (Proc.devRef .tc r) = E5 X (Proc.devRef .tc r) := after_of_writes_sub _ _ hostOps0_6_writes h
theorem keep7 (r : Ref sig .tc) (h : r ∉ hostOps0_7_W) : E7 X (Proc.devRef .tc r) = E6 X (Proc.devRef .tc r) := after_of_writes_sub _ _ hostOps0_7_writes h
theorem keep8 (r : Ref sig .tc) (h : r ∉ hostOps0_8_W) : E8 X (Proc.devRef .tc r) = E7 X (Proc.devRef .tc r) := after_of_writes_sub _ _ hostOps0_8_writes h

variable {X} {a : Args} (H : Of X a)
include H

theorem v25_eq (n : Fin 128) (t : Fin 64) (h : Fin 4) (d : Fin 64) : V25 (E2 X) (ix5 0 n t h d) = a.gate (row n t) (col h d) := by
  refine (at_v25 (E1 X) n t h d).trans ((div_16 _).trans ?_)
  unfold Args.gate
  refine congrArg (· * tau) ((at_v18 (E0 X) _ _).trans (congrArg logSig ((at_v17 X _ _).trans ?_)))
  simp only [H.P, H.w, H.b]

theorem v26_eq (n : Fin 128) (t : Fin 64) (h : Fin 4) (d : Fin 64) : V26 (E3 X) (ix5 0 n t h d) = a.decay n t (col h d) := by
  refine (at_v26 (E2 X) n t h d).trans (Finset.sum_congr rfl fun u hu => ?_)
  have hu' : u < 64 := by rw [Finset.mem_range] at hu; omega
  rw [dif_pos hu', v25_eq H]
  unfold Args.gateN
  rw [dif_pos (show n.val * 64 + u < 8192 by omega)]
  rfl

theorem v22_eq (n : Fin 128) (t : Fin 64) (h : Fin 4) (d : Fin 64) : V22 (E3 X) (ix5 0 n t h d) = a.P (row n t) ⟨(col h d).val, by omega⟩ * eighth := by
  refine (congrFun (keep3 X main_v22 (by decide)) _).trans ((at_v22 (E1 X) n t h d).trans ((congrFun (keep1 X main_v9 (by decide)) _).trans ((at_v9 X _ h d).trans ?_)))
  rw [H.P]
  rfl

theorem v23_eq (n : Fin 128) (t : Fin 64) (h : Fin 4) (d : Fin 64) : V23 (E3 X) (ix5 0 n t h d) = a.P (row n t) ⟨256 + (col h d).val, by omega⟩ := by
  refine (congrFun (keep3 X main_v23 (by decide)) _).trans ((at_v23 (E1 X) n t h d).trans ((congrFun (keep1 X main_v10 (by decide)) _).trans ((at_v10 X _ h d).trans ?_)))
  rw [H.P]
  rfl

theorem v24_eq (n : Fin 128) (t : Fin 64) (h : Fin 4) (e : Fin 128) : V24 (E7 X) (ix5 0 n t h e) = a.v n t h e := by
  refine (congrFun ((keep7 X main_v24 (by decide)).trans ((keep6 X main_v24 (by decide)).trans ((keep5 X main_v24 (by decide)).trans ((keep4 X main_v24 (by decide)).trans
    (keep3 X main_v24 (by decide)))))) _).trans ((at_v24 (E1 X) n t h e).trans ((congrFun (keep1 X main_v11 (by decide)) _).trans ((at_v11 X _ h e).trans ?_)))
  rw [H.P]
  rfl

theorem v30_eq (n : Fin 128) (t : Fin 64) (h : Fin 4) (d : Fin 64) : V30 (E4 X) (ix5 0 n t h d) = a.qd n t (col h d) := by
  refine (at_v30 (E3 X) n t h d).trans ?_
  rw [v22_eq H, v26_eq H]
  rfl

theorem v38_eq (n : Fin 128) (t : Fin 64) (h : Fin 4) (d : Fin 64) : V38 (E4 X) (ix5 0 n t h d) = a.ke n t (col h d) := by
  refine (at_v38 (E3 X) n t h d).trans ?_
  rw [v23_eq H, v26_eq H, v26_eq H]
  rfl

theorem v28_eq (n : Fin 128) (h : Fin 4) (d : Fin 64) : V28 (E4 X) (ix4 0 n h d) = a.decay n 63 (col h d) :=
  (at_v28 (E3 X) n h d).trans (v26_eq H n 63 h d)

theorem v39_eq (n : Fin 128) (h : Fin 4) (t s : Fin 64) : V39 (E4 X) (ix5 0 n h t s) = ∑ d : Fin 64, a.qd n t (col h d) * a.kd n s (col h d) := by
  refine (at_v39 (E3 X) n h t s).trans (Finset.sum_congr rfl fun d _ => ?_)
  rw [v22_eq H, v23_eq H, v26_eq H, v26_eq H]
  rfl

theorem v42_eq (n : Fin 128) (h : Fin 4) (t s : Fin 64) : V42 (E7 X) (ix5 0 n h t s) = a.score n h t s := by
  have e41 : V41 (E6 X) (ix2 t s) = if s ≤ t then 1#1 else 0#1 :=
    (congrFun (keep6 X main_v41 (by decide)) _).trans ((at_v41 (E4 X) t s).trans (by rw [show V40 (E4 X) (ix2 t s) = 1#1 from at_v40 (E3 X) t s]))
  have e39 : V39 (E6 X) (ix5 0 n h t s) = _ :=
    (congrFun ((keep6 X main_v39 (by decide)).trans (keep5 X main_v39 (by decide))) _).trans (v39_eq H n h t s)
  refine (at_v42 (E6 X) n h t s).trans ?_
  rw [e41, e39, show Z (E6 X) ix0 = 0 from at_z (E5 X) ix0]
  unfold Args.score
  by_cases hs : s ≤ t
  · rw [if_pos hs, if_pos (show s.val ≤ t.val from hs)]
    rfl
  · rw [if_neg hs, if_neg (show ¬ s.val ≤ t.val from hs)]
    rfl

theorem v44_eq (n : Fin 128) (t : Fin 64) (h : Fin 4) (e : Fin 128) : V44 (E8 X) (ix5 0 n t h e) = ∑ s : Fin 64, a.score n h t s * a.v n s h e := by
  refine (at_v44 (E7 X) n t h e).trans (Finset.sum_congr rfl fun s _ => ?_)
  rw [v24_eq H, v42_eq H, mul_comm]

theorem l0_eq (n : Fin 128) (h : Fin 4) (d : Fin 64) (e : Fin 128) : L0 (E8 X) (ix5 n 0 h d e) = a.inc n h d e := by
  refine (at_l0 (E7 X) n h d e).trans (Finset.sum_congr rfl fun s _ => ?_)
  have e38 : V38 (E7 X) (ix5 0 n s h d) = a.ke n s (col h d) :=
    (congrFun ((keep7 X main_v38 (by decide)).trans ((keep6 X main_v38 (by decide)).trans (keep5 X main_v38 (by decide)))) _).trans (v38_eq H n s h d)
  rw [v24_eq H, e38, mul_comm]

theorem l1_eq (n : Fin 128) (h : Fin 4) (d : Fin 64) : L1 (E8 X) (ix4 n 0 h d) = a.dec n (col h d) := by
  refine (at_l1 (E7 X) n h d).trans (congrArg Ideal.exp ?_)
  exact (congrFun ((keep7 X main_v28 (by decide)).trans ((keep6 X main_v28 (by decide)).trans (keep5 X main_v28 (by decide)))) _).trans (v28_eq H n h d)

theorem v30_entry (n : Fin 128) (t : Fin 64) (h : Fin 4) (d : Fin 64) : V30 (E8 X) (ix5 0 n t h d) = a.qd n t (col h d) :=
  (congrFun ((keep8 X main_v30 (by decide)).trans ((keep7 X main_v30 (by decide)).trans ((keep6 X main_v30 (by decide)).trans (keep5 X main_v30 (by decide))))) _).trans (v30_eq H n t h d)

omit H
/-! ## The loop -/

/-- What a trip writes. -/
def tripW : List (Ref sig .tc) := condOps_W ++ (while0Ops0_W ++ (while0Ops0_1_W ++ (while0Ops0_2_W ++ (while0Ops0_3_W ++ while0Ops0_4_W))))

theorem trip_keep (X : Vals) (r : Ref sig .tc) (h : r ∉ tripW) : afterL bodyI (after condOps X) (Proc.devRef .tc r) = X (Proc.devRef .tc r) := by
  simp only [tripW, List.mem_append, not_or] at h
  obtain ⟨hc, h0, h1, h2, h3, h4⟩ := h
  exact (after_of_writes_sub _ _ while0Ops0_4_writes h4).trans ((after_of_writes_sub _ _ while0Ops0_3_writes h3).trans ((after_of_writes_sub _ _ while0Ops0_2_writes h2).trans
    ((after_of_writes_sub _ _ while0Ops0_1_writes h1).trans ((after_of_writes_sub _ _ while0Ops0_writes h0).trans (after_of_writes_sub _ _ condOps_writes hc)))))

variable (m : (ℓ : Loc nD τ sig) → Buf (Elt Ideal) ℓ) (c : Dev nD)

theorem entry_eq : entryContents preI m c = E8 (launchContents m c) := rfl

theorem loop_keep (r : Ref sig .tc) (h : r ∉ tripW) : ∀ k, atK m k c (Proc.devRef .tc r) = E8 (launchContents m c) (Proc.devRef .tc r)
  | 0 => rfl
  | k + 1 => (trip_keep _ r h).trans (loop_keep r h k)

theorem cond_keep (X : Vals) (r : Ref sig .tc) (h : r ∉ condOps_W) : after condOps X (Proc.devRef .tc r) = X (Proc.devRef .tc r) := after_of_writes_sub _ _ condOps_writes h

/-- The contents after the loop. -/
def EX : Vals := after condOps (atK m 128 c)

theorem exit_keep (r : Ref sig .tc) (h : r ∉ tripW) : EX m c (Proc.devRef .tc r) = E8 (launchContents m c) (Proc.devRef .tc r) :=
  (cond_keep _ r fun hc => h (List.mem_append_left _ hc)).trans (loop_keep m c r h 128)

theorem l0_keep : ∀ k, L0 (atK m k c) = L0 (E8 (launchContents m c))
  | 0 => rfl
  | k + 1 => (trip_main_v51_0 _).trans ((cond_keep _ main_v51_0 (by decide)).trans (l0_keep k))
theorem l1_keep : ∀ k, L1 (atK m k c) = L1 (E8 (launchContents m c))
  | 0 => rfl
  | k + 1 => (trip_main_v51_1 _).trans ((cond_keep _ main_v51_1 (by decide)).trans (l1_keep k))

variable {m c} (HL : Of (launchContents m c) a)
include HL

/-- The carried state before a trip, and the states stacked up to it. -/
theorem carried (h : Fin 4) (d : Fin 64) (e : Fin 128) : ∀ k ≤ 128, L3 (atK m k c) (ix4 0 h d e) = a.state h d e k
    ∧ ∀ j : Fin 128, j.val < k → L4 (atK m k c) (ix5 j 0 h d e) = a.state h d e j.val
  | 0, _ => ⟨at_l3 (E7 (launchContents m c)) h d e, fun j hj => absurd hj (Nat.not_lt_zero _)⟩
  | k + 1, hk => by
    have hk' : k < 128 := hk
    obtain ⟨i3, i4⟩ := carried h d e k (by omega)
    have hc : L2 (after condOps (atK m k c)) = fun _ => Scf.iv 0#32 1#32 k := (cond_keep _ main_v51_2 (by decide)).trans (atK_ctr m c k)
    have c0 : L0 (after condOps (atK m k c)) = L0 (E8 (launchContents m c)) := (cond_keep _ main_v51_0 (by decide)).trans (l0_keep m c k)
    have c1 : L1 (after condOps (atK m k c)) = L1 (E8 (launchContents m c)) := (cond_keep _ main_v51_1 (by decide)).trans (l1_keep m c k)
    have c3 : L3 (after condOps (atK m k c)) = L3 (atK m k c) := cond_keep _ main_v51_3 (by decide)
    have c4 : L4 (after condOps (atK m k c)) = L4 (atK m k c) := cond_keep _ main_v51_4 (by decide)
    have hck : (⟨k, hk'⟩ : Fin 128) = chunk k := Fin.ext (Nat.mod_eq_of_lt hk').symm
    refine ⟨(trip_state _ hk' hc h d e).trans ?_, fun j hj => (trip_stack _ hk' hc j h d e).trans ?_⟩
    · rw [c0, c1, c3, i3, l0_eq HL, l1_eq HL, hck, mul_comm]
      rfl
    · rw [c3, c4]
      by_cases hjk : j.val = k
      · rw [if_pos hjk, i3, hjk]
      · rw [if_neg hjk, i4 j (by omega)]

theorem stacked (n : Fin 128) (h : Fin 4) (d : Fin 64) (e : Fin 128) : L4 (EX m c) (ix5 n 0 h d e) = a.state h d e n.val :=
  (congrFun (cond_keep _ main_v51_4 (by decide)) _).trans ((carried HL h d e 128 (Nat.le_refl _)).2 n n.isLt)

/-! ## The results -/

omit HL
abbrev W9 : List (Ref sig .tc) := [main_v52, main_v53, main_v54, main_v55, main_v56, main_v57, main_v58, main_v59, main_c_5]
abbrev W10 : List (Ref sig .tc) := [main_call7_v0, main_v60]
abbrev W11 : List (Ref sig .tc) := [main_v61, main_c_6]
abbrev W12 : List (Ref sig .tc) := [main_call8_v0, main_v62]
abbrev W13 : List (Ref sig .tc) := [main_v63, main_v64, main_v65, main_v66, main_v67, main_v68]
theorem writes_9 : (hostOps0_9 : List (HloOp τ sig (Elt Ideal))).Forall fun op => op.writes ⊆ (W9.map (Proc.devRef (τ := τ) .tc)).toFinset :=
  forall_writes_sub_of_map rfl
theorem writes_10 : (hostOps0_10 : List (HloOp τ sig (Elt Ideal))).Forall fun op => op.writes ⊆ (W10.map (Proc.devRef (τ := τ) .tc)).toFinset :=
  forall_writes_sub_of_map rfl
theorem writes_11 : (hostOps0_11 : List (HloOp τ sig (Elt Ideal))).Forall fun op => op.writes ⊆ (W11.map (Proc.devRef (τ := τ) .tc)).toFinset :=
  forall_writes_sub_of_map rfl
theorem writes_12 : (hostOps0_12 : List (HloOp τ sig (Elt Ideal))).Forall fun op => op.writes ⊆ (W12.map (Proc.devRef (τ := τ) .tc)).toFinset :=
  forall_writes_sub_of_map rfl
theorem writes_13 : (hostOps0_13 : List (HloOp τ sig (Elt Ideal))).Forall fun op => op.writes ⊆ (W13.map (Proc.devRef (τ := τ) .tc)).toFinset :=
  forall_writes_sub_of_map rfl

variable (m c)
def F9 : Vals := after hostOps0_9 (EX m c)
def F10 : Vals := after hostOps0_10 (F9 m c)
def F11 : Vals := after hostOps0_11 (F10 m c)
def F12 : Vals := after hostOps0_12 (F11 m c)
def F13 : Vals := after hostOps0_13 (F12 m c)

theorem final_eq : finalContents condOps preI bodyI postI 128 m c = F13 m c := rfl

/-- What no stretch writes is as it was at launch. -/
theorem final_keep (r : Ref sig .tc) (h0 : r ∉ hostOps0_W) (h1 : r ∉ hostOps0_1_W) (h2 : r ∉ hostOps0_2_W) (h3 : r ∉ hostOps0_3_W) (h4 : r ∉ hostOps0_4_W) (h5 : r ∉ hostOps0_5_W)
    (h6 : r ∉ hostOps0_6_W) (h7 : r ∉ hostOps0_7_W) (h8 : r ∉ hostOps0_8_W) (ht : r ∉ tripW) (h9 : r ∉ W9) (h10 : r ∉ W10) (h11 : r ∉ W11) (h12 : r ∉ W12) (h13 : r ∉ W13) :
    F13 m c (Proc.devRef .tc r) = launchContents m c (Proc.devRef .tc r) := by
  have e13 : F13 m c (Proc.devRef .tc r) = F12 m c (Proc.devRef .tc r) := after_of_writes_sub hostOps0_13 (F12 m c) writes_13 h13
  have e12 : F12 m c (Proc.devRef .tc r) = F11 m c (Proc.devRef .tc r) := after_of_writes_sub hostOps0_12 (F11 m c) writes_12 h12
  have e11 : F11 m c (Proc.devRef .tc r) = F10 m c (Proc.devRef .tc r) := after_of_writes_sub hostOps0_11 (F10 m c) writes_11 h11
  have e10 : F10 m c (Proc.devRef .tc r) = F9 m c (Proc.devRef .tc r) := after_of_writes_sub hostOps0_10 (F9 m c) writes_10 h10
  have e9 : F9 m c (Proc.devRef .tc r) = EX m c (Proc.devRef .tc r) := after_of_writes_sub hostOps0_9 (EX m c) writes_9 h9
  rw [e13, e12, e11, e10, e9, exit_keep m c r ht, keep8 _ r h8, keep7 _ r h7, keep6 _ r h6, keep5 _ r h5, keep4 _ r h4, keep3 _ r h3, keep2 _ r h2, keep1 _ r h1, keep0 _ r h0]

theorem final_arg0 : F13 m c (Proc.devRef .tc main_arg0) = launchContents m c (Proc.devRef .tc main_arg0) := by
  apply final_keep <;> decide
theorem final_arg1 : F13 m c (Proc.devRef .tc main_arg1) = launchContents m c (Proc.devRef .tc main_arg1) := by
  apply final_keep <;> decide
theorem final_arg2 : F13 m c (Proc.devRef .tc main_arg2) = launchContents m c (Proc.devRef .tc main_arg2) := by
  apply final_keep <;> decide

variable {m c}
include HL

theorem out_at (r : Fin 8192) (k : Fin 512) : V63 (F13 m c) (ix2 r k)
    = a.out ⟨r.val / 64, by omega⟩ ⟨r.val % 64, by omega⟩ ⟨k.val / 128, by omega⟩ ⟨k.val % 128, by omega⟩ := by
  have e56 : V56 (F12 m c) = V56 (F9 m c) := (after_of_writes_sub _ _ writes_12 (by decide)).trans ((after_of_writes_sub _ _ writes_11 (by decide)).trans (after_of_writes_sub _ _ writes_10 (by decide)))
  have e44 : V44 (EX m c) = V44 (E8 (launchContents m c)) := exit_keep m c main_v44 (by decide)
  have e30 : V30 (EX m c) = V30 (E8 (launchContents m c)) := exit_keep m c main_v30 (by decide)
  refine (at_v63 (F12 m c) r k).trans ((congrFun e56 _).trans ((at_v56 (EX m c) _ _ _).trans ?_))
  rw [e44, e30, v44_eq HL]
  unfold Args.out
  refine congrArg₂ (· + ·) rfl (Finset.sum_congr rfl fun d _ => ?_)
  rw [stacked HL, v30_entry HL, mul_comm]

theorem states_at (n : Fin 128) (h : Fin 4) (e l : Fin 128) : V68 (F13 m c) (ix4 n h e l)
    = a.laneState ⟨h.val / 2, by omega⟩ ⟨h.val % 2, by omega⟩ l e n.val := by
  have hh (i : Fin 2) (hi : h.val % 2 = i.val) : head ⟨h.val / 2, by omega⟩ i = head ⟨h.val / 2, by omega⟩ ⟨h.val % 2, by omega⟩ := congrArg (head _) (Fin.ext hi.symm)
  refine (at_v68 (F12 m c) n h e l).trans ?_
  unfold Args.laneState
  dsimp only
  by_cases h2 : h.val % 2 < 1
  · have e60 : V60 (F12 m c) = V60 (F10 m c) := (after_of_writes_sub _ _ writes_12 (by decide)).trans (after_of_writes_sub _ _ writes_11 (by decide))
    rw [if_pos h2, e60]
    refine (at_v60 (F9 m c) (at_c5 _) n _ e l).trans ?_
    by_cases hl : l.val < 64
    · rw [dif_pos hl, if_pos (by omega)]
      refine (at_v59 (EX m c) n _ e _).trans ((stacked HL n _ _ e).trans ?_)
      rw [hh 0 (by show h.val % 2 = 0; omega)]
      exact congrArg (fun d => a.state _ d e n.val) (Fin.ext (by show l.val = l.val % 64; omega))
    · rw [dif_neg hl, if_neg (by omega)]
  · rw [if_neg h2]
    refine (at_v62 (F11 m c) (at_c6 _) n _ e l).trans ?_
    by_cases hl : 64 ≤ l.val
    · rw [dif_pos hl, if_pos (by omega)]
      have e58 : V58 (F10 m c) = V58 (F9 m c) := after_of_writes_sub _ _ writes_10 (by decide)
      refine (at_v61 (F10 m c) n _ e _).trans ((congrFun e58 _).trans ((at_v58 (EX m c) n _ e _).trans ((stacked HL n _ _ e).trans ?_)))
      rw [hh 1 (by show h.val % 2 = 1; omega)]
      exact congrArg (fun d => a.state _ d e n.val) (Fin.ext (by show l.val - 64 = l.val % 64; omega))
    · rw [dif_neg hl, if_neg (by omega)]
end Cert.GlaFwdRefIdeal.Ref
end
-- ==== Proof.GlaFwdClaim.lean ====
/-
  THE CLAIMS ABOUT THE GATED LINEAR ATTENTION, FORWARD, one theorem each.
-/
module

public import proofs.«01_k».proof.Defs
public import proofs.«01_k».proof.Proof.GlaFwdValue
public import proofs.«01_k».proof.Proof.GlaFwdStages
public import proofs.«01_k».proof.Proof.Gen.GlaFwd.Frame
public import proofs.«01_k».proof.Proof.Gen.GlaFwdIdeal.Frame
public import Idealize.ShloMosaic.Lib.Quiescent

@[expose] public section

set_option maxRecDepth 16384

noncomputable section

namespace Cert.GlaFwdClaim

open Idealize.ShloMosaic Idealize.ShloMosaic.TcCoe Idealize.SL.Sem
open Cert.RealFacts Cert.GlaFwdMath
open Cert.GlaFwdRefIdeal.Ref (final_arg0 final_arg1 final_arg2 out_at states_at)

/-- The reference's argument arrays at the end. -/
theorem ref_args {m : (ℓ : Loc Cert.GlaFwdRefIdeal.nD Cert.GlaFwdRefIdeal.τ Cert.GlaFwdRefIdeal.sig) → Buf (Elt Ideal) ℓ} {c : Dev Cert.GlaFwdRefIdeal.nD}
    {s : (ℓ : Loc Cert.GlaFwdRefIdeal.nD Cert.GlaFwdRefIdeal.τ Cert.GlaFwdRefIdeal.sig) → Buf (Elt Ideal) ℓ}
    (h : ∀ b : Ref Cert.GlaFwdRefIdeal.sig .tc, (Proc.devRef .tc b : DevRef Cert.GlaFwdRefIdeal.τ Cert.GlaFwdRefIdeal.sig).isScoped = false →
      s ((c.tc : Thread Cert.GlaFwdRefIdeal.nD Cert.GlaFwdRefIdeal.τ).loc b) = Cert.GlaFwdRefIdeal.Ref.F13 m c (Proc.devRef .tc b)) :
    s ((c.tc : Thread Cert.GlaFwdRefIdeal.nD Cert.GlaFwdRefIdeal.τ).loc Cert.GlaFwdRefIdeal.main_arg0) = m ((c.tc : Thread Cert.GlaFwdRefIdeal.nD Cert.GlaFwdRefIdeal.τ).loc Cert.GlaFwdRefIdeal.main_arg0)
    ∧ s ((c.tc : Thread Cert.GlaFwdRefIdeal.nD Cert.GlaFwdRefIdeal.τ).loc Cert.GlaFwdRefIdeal.main_arg1) = m ((c.tc : Thread Cert.GlaFwdRefIdeal.nD Cert.GlaFwdRefIdeal.τ).loc Cert.GlaFwdRefIdeal.main_arg1)
    ∧ s ((c.tc : Thread Cert.GlaFwdRefIdeal.nD Cert.GlaFwdRefIdeal.τ).loc Cert.GlaFwdRefIdeal.main_arg2) = m ((c.tc : Thread Cert.GlaFwdRefIdeal.nD Cert.GlaFwdRefIdeal.τ).loc Cert.GlaFwdRefIdeal.main_arg2) :=
  ⟨(h Cert.GlaFwdRefIdeal.main_arg0 rfl).trans (final_arg0 m c), (h Cert.GlaFwdRefIdeal.main_arg1 rfl).trans (final_arg1 m c), (h Cert.GlaFwdRefIdeal.main_arg2 rfl).trans (final_arg2 m c)⟩

theorem frame_ref : Cert.quiescent_GlaFwdRefIdeal := fun m ρ _ => (θ_run (Cert.GlaFwdRefIdeal.defs (F := Ideal)) _ _).mono
  (fun r h => ⟨fun c => ref_args (h c), Idealize.ShloMosaic.sem_eq_zero_of_no_sems (by decide) r.2⟩) (Cert.GlaFwdRefIdeal.Value.run_fold (F := Ideal) m ρ)

/-- Both programs leave the same two arrays, whatever the arguments hold. -/
theorem algebraic : Cert.algebraic_GlaFwdIdeal_GlaFwdRefIdeal := by
  intro m g m' g' _ hag
  refine ⟨fun c => Cert.GlaFwdIdeal.Value.G7 m c, fun c => Cert.GlaFwdIdeal.Value.G8 m c, Cert.GlaFwdIdeal.Value.run (F := Ideal) m g, ?_⟩
  refine (θ_run _ _ _).mono (fun r h c => ?_) (Cert.GlaFwdRefIdeal.Value.run_fold (F := Ideal) m' g')
  obtain ⟨e0, e1, e2⟩ := hag c
  have H := Cert.GlaFwdIdeal.Body.holds_args m c
  have HL : Cert.GlaFwdRefIdeal.Ref.Of (StableHlo.launchContents m' c) (Cert.GlaFwdIdeal.Body.args m c) :=
    ⟨fun r k => (congrFun e0 _).trans (H.P r k), fun j k => (congrFun e1 _).trans (H.w j k), fun k => (congrFun e2 _).trans (H.b k)⟩
  refine ⟨(h c Cert.GlaFwdRefIdeal.main_v63 rfl).trans ?_, (h c Cert.GlaFwdRefIdeal.main_v68 rfl).trans ?_, ref_args (h c)⟩
  · refine Eq.trans ?_ (Cert.GlaFwdIdeal.Body.out_eq H).symm
    funext y
    obtain ⟨r, k, rfl⟩ : ∃ r k, y = ix2 r k := ⟨_, _, eq_ix2 y⟩
    exact out_at HL r k
  · refine Eq.trans ?_ (Cert.GlaFwdIdeal.Body.states_eq H).symm
    funext y
    obtain ⟨n, h, e, l, rfl⟩ : ∃ n h e l, y = ix4 n h e l := ⟨_, _, _, _, eq_ix4 y⟩
    exact states_at HL n h e l

end Cert.GlaFwdClaim

end
-- ==== Proof.GlaRevBody.lean ====
/-
  THE GATED LINEAR ATTENTION, BACKWARD IN TIME, ONE GRID POINT OF THE KERNEL: what the body's arithmetic computes of its blocks.

  Read in reversed time, chunk by chunk and row by row, this is the attention forward in time. An entry of a block at
  row `t` of chunk `n` is therefore written as a function of the reversed row `t.rev`.
-/
module

public import proofs.«01_k».proof.Proof.GlaFwdBody
public import proofs.«01_k».proof.Proof.Gen.GlaRevIdeal.Value

@[expose] public section

set_option maxRecDepth 16384

noncomputable section

namespace Cert.GlaRevIdeal.Body

open Cert.GlaRevIdeal Cert.GlaRevIdeal.Gen Idealize.ShloMosaic Idealize.ShloMosaic.TcCoe Idealize.SL.Sem
open Cert.RealFacts Cert.GlaFwdMath
open Cert.GlaFwdIdeal.Body (chain chain_state)
open scoped BigOperators

/-! ## Numbers of rows and lanes -/

/-- A row's place in its chunk. -/
theorem place_at (r : Fin 1024) (l : Fin 128) : k0_pay8 (ix2 r l) = BitVec.ofNat 32 (r.val % 64) := by
  pointwise [k0_pay8]
  revert r
  decide +kernel

/-- The half of the lanes every lane stands in. -/
def halves : IVec S1x128 32 := k0_pay10 (iota .tc S1x128 32 [1] iota_S1x128_d1_w32) 64#32 k0_pay9 0#32

/-- The lanes of a head as ones and zeros. -/
theorem mask_at (i : Fin 2) (l : Fin 128) :
    FloatOps.sitofp (F := Ideal) FTy.f32 (BitVec.setWidth 32 (IntOp.cmpi CmpIPredicate.eq (halves (ix2 0 l)) (BitVec.ofNat 32 i.val))) = mask i l :=
  Cert.GlaFwdIdeal.Body.mask_at i l

/-- A row counts the rows of its chunk that come at or after it. -/
theorem causal_at (t s : Fin 64) : k0_pay11 (ix2 t s) = if s.rev.val ≤ t.rev.val then 1#1 else 0#1 := by
  pointwise [k0_pay11]
  revert t s
  decide +kernel

/-! ## The decays -/

theorem gate_at (x : FVec Ideal S1024x128 .f32) (w : FVec Ideal S128x128 .bf16) (b : FVec Ideal S1x128 .f32) (r : Fin 1024) (l : Fin 128) :
    k0_pay32 (F := Ideal) (k0_pay3 x) w b (ix2 r l) = logSig ((∑ j, x (ix2 r j) * w (ix2 j l)) + b (ix2 0 l)) * tau := by
  pointwise [k0_pay32, k0_pay3]
  rfl

/-- One rung of the ladder of sums: the rows `s` after, where those are of the same chunk. -/
def rung (y : IVec S1024x128 32) (s s' : BitVec 32) (g : FVec Ideal S1024x128 .f32) : FVec Ideal S1024x128 .f32 :=
  addf g (select (cmpi .slt (addi y (broadcast S1024x128 s)) (broadcast S1024x128 64#32)) (dynamicRotate 0 s' none g rotates_S1024x128_d0) (broadcast S1024x128 (Scalar.ofBits .f32 0x00000000#32 : Ideal .f32)))

/-- The six rungs, and the rows by chunks. -/
def ladder (y : IVec S1024x128 32) (g : FVec Ideal S1024x128 .f32) : FVec Ideal S16x64x128 .f32 :=
  shapeCast S16x64x128 (rung y 32#32 992#32 (rung y 16#32 1008#32 (rung y 8#32 1016#32 (rung y 4#32 1020#32 (rung y 2#32 1022#32 (rung y 1#32 1023#32 g)))))) shapeCasts_S1024x128_S16x64x128

theorem ladder_first (y : IVec S1024x128 32) (g : FVec Ideal S1024x128 .f32) : k0_pay16 (F := Ideal) (k0_pay14 y g (k0_pay13 y)) (k0_pay15 y) = ladder y g := rfl

theorem ladder_second (y : IVec S1024x128 32) (x : FVec Ideal S1024x128 .bf16) (w : FVec Ideal S128x128 .bf16) (b : FVec Ideal S1x128 .f32) :
    k0_pay38 (F := Ideal) (k0_pay35 y (k0_pay32 x w b) (k0_pay33 y) (k0_pay34 x w b)) (k0_pay36 y) (k0_pay37 y (k0_pay32 x w b) (k0_pay33 y) (k0_pay34 x w b)) = ladder y (k0_pay32 x w b) := rfl

/-- A test of a row so many rows on. -/
theorem lt_at (s : ℕ) (hs : s < 64) (r : Fin 64) : IntOp.cmpi CmpIPredicate.slt (IntOp.addi (BitVec.ofNat 32 r.val) (BitVec.ofNat 32 s)) 64#32 = if s ≤ 63 - r.val then 1#1 else 0#1 := by
  have h : ∀ s r : Fin 64, IntOp.cmpi CmpIPredicate.slt (IntOp.addi (BitVec.ofNat 32 r.val) (BitVec.ofNat 32 s.val)) 64#32 = if s.val ≤ 63 - r.val then 1#1 else 0#1 := by decide +kernel
  exact h ⟨s, hs⟩ r

theorem rung_at (s : ℕ) (h0 : 0 < s) (hs : s < 64) (g : FVec Ideal S1024x128 .f32) (r : Fin 1024) (l : Fin 128) :
    rung k0_pay8 (BitVec.ofNat 32 s) (BitVec.ofNat 32 (1024 - s)) g (ix2 r l) = g (ix2 r l) + if s ≤ 63 - r.val % 64 then g (ix2 ⟨(r.val + s) % 1024, Nat.mod_lt _ (by decide)⟩ l) else 0 := by
  pointwise [rung]
  rw [place_at, lt_at s hs ⟨r.val % 64, Nat.mod_lt _ (by decide)⟩]
  by_cases h : s ≤ 63 - r.val % 64
  · rw [if_pos h, if_pos h]
    have e : (BitVec.ofNat 32 (1024 - s)).toNat = 1024 - s := by rw [BitVec.toNat_ofNat]; exact Nat.mod_eq_of_lt (by omega)
    refine congrArg (g (ix2 r l) + ·) ((if_pos rfl : Scalar.select 1#1 _ _ = _).trans (congrArg (fun r => g (ix2 r l)) (Fin.ext ?_)))
    show (r.val + 1024 - (BitVec.ofNat 32 (1024 - s)).toNat % 1024) % 1024 = (r.val + s) % 1024
    rw [e]
    omega
  · rw [if_neg h, if_neg h]
    exact congrArg (g (ix2 r l) + ·) (if_neg (by decide) : Scalar.select 0#1 _ _ = _)

theorem ladder_at (y : IVec S1024x128 32) (g : FVec Ideal S1024x128 .f32) (n : Fin 16) (t : Fin 64) (l : Fin 128) :
    ladder y g (ix3 n t l) = rung y 32#32 992#32 (rung y 16#32 1008#32 (rung y 8#32 1016#32 (rung y 4#32 1020#32 (rung y 2#32 1022#32 (rung y 1#32 1023#32 g))))) (ix2 ⟨n.val * 64 + t.val, by omega⟩ l) := by
  pointwise [ladder]

/-- The ladder sums a chunk's rows from a row on: in reversed time, up to the row. -/
theorem ladder_sum (g : FVec Ideal S1024x128 .f32) (n : Fin 16) (t : Fin 64) (l : Fin 128) (f : ℕ → EReal) (hf : ∀ r : Fin 1024, g (ix2 r l) = f (1023 - r.val)) :
    ladder k0_pay8 g (ix3 n t l) = ∑ u ∈ Finset.range (t.rev.val + 1), f (n.rev.val * 64 + u) := by
  have step (s : ℕ) (h0 : 0 < s) (hs : s < 64) (g : FVec Ideal S1024x128 .f32) (h : ∀ r : Fin 1024, g (ix2 r l) = tail f s (1023 - r.val)) (r : Fin 1024) :
      rung k0_pay8 (BitVec.ofNat 32 s) (BitVec.ofNat 32 (1024 - s)) g (ix2 r l) = tail f (s + s) (1023 - r.val) := by
    rw [rung_at s h0 hs, h, h, ← tail_double]
    have e : (1023 - r.val) % 64 = 63 - r.val % 64 := by omega
    rw [e]
    by_cases hb : s ≤ 63 - r.val % 64
    · rw [if_pos hb, if_pos hb]
      exact congrArg (fun k => tail f s (1023 - r.val) + tail f s k) (by dsimp only; omega)
    · rw [if_neg hb, if_neg hb]
  rw [ladder_at, step 32 (by decide) (by decide) _ (step 16 (by decide) (by decide) _ (step 8 (by decide) (by decide) _ (step 4 (by decide) (by decide) _
    (step 2 (by decide) (by decide) _ (step 1 (by decide) (by decide) g fun r => (hf r).trans (tail_one f (1023 - r.val)).symm)))))]
  have e : 1023 - (n.val * 64 + t.val) = n.rev.val * 64 + t.rev.val := by rw [Fin.val_rev, Fin.val_rev]; omega
  exact (congrArg (tail f 64) e).trans (tail_full f n.rev.val t.rev.val t.rev.isLt)

/-! ## The products of a pair of heads -/

/-- What the body has of a pair `p` of heads in sixteen chunks `N`: the decays and the queries' and keys' columns. -/
structure PairIn (a : Args) (p : Fin 2) (N : Fin 16 → Fin 128) (B : FVec Ideal S16x64x128 .f32) (q k : FVec Ideal S1024x128 .f32) : Prop where
  B : ∀ n t l, B (ix3 n t l) = a.decay (N n) t.rev (lane p l)
  q : ∀ (n : Fin 16) (t : Fin 64) l, q (ix2 ⟨n.val * 64 + t.val, by omega⟩ l) = a.P (row (N n) t.rev) ⟨(lane p l).val, by omega⟩
  k : ∀ (n : Fin 16) (t : Fin 64) l, k (ix2 ⟨n.val * 64 + t.val, by omega⟩ l) = a.P (row (N n) t.rev) ⟨256 + (lane p l).val, by omega⟩

/-- What it has of a head's values. -/
def ValIn (a : Args) (h : Fin 4) (N : Fin 16 → Fin 128) (v : FVec Ideal S1024x128 .f32) : Prop :=
  ∀ (n : Fin 16) (t : Fin 64) e, v (ix2 ⟨n.val * 64 + t.val, by omega⟩ e) = a.v (N n) t.rev h e

/-- A chunk's rows may be summed in either order. -/
theorem sum_rev (f : Fin 64 → EReal) : (∑ s : Fin 64, f s.rev) = ∑ s, f s := Equiv.sum_comp Fin.revPerm f

section Pair

variable {a : Args} {p : Fin 2} {N : Fin 16 → Fin 128} {B : FVec Ideal S16x64x128 .f32} {q k v : FVec Ideal S1024x128 .f32}

/-- The causal products of a head against its values, as the body sums them. -/
theorem intra_sum (H : PairIn a p N B q k) (i : Fin 2) (V : ValIn a (head p i) N v) (n : Fin 16) (t : Fin 64) (e : Fin 128) :
    (∑ s, Scalar.select (k0_pay11 (ix2 t s))
        ((∑ l, q (ix2 ⟨n.val * 64 + t.val, by omega⟩ l) * Ideal.ofBits FTy.f32 1040187392#32 * Ideal.exp (B (ix3 n t l))
            * FloatOps.sitofp (F := Ideal) FTy.f32 (BitVec.setWidth 32 (IntOp.cmpi CmpIPredicate.eq (halves (ix2 0 l)) (BitVec.ofNat 32 i.val)))
            * (k (ix2 ⟨n.val * 64 + s.val, by omega⟩ l) * Ideal.exp (0 - B (ix3 n s l)))) * v (ix2 ⟨n.val * 64 + s.val, by omega⟩ e)) 0)
      = ∑ s, a.score (N n) (head p i) t.rev s * a.v (N n) s (head p i) e := by
  rw [← sum_rev fun s => a.score (N n) (head p i) t.rev s * a.v (N n) s (head p i) e]
  refine Finset.sum_congr rfl fun s _ => ?_
  unfold Args.score
  rw [causal_at, ← a.score_lanes]
  by_cases h : s.rev.val ≤ t.rev.val
  · rw [if_pos h, if_pos h]
    refine (if_pos rfl : Scalar.select 1#1 _ _ = _).trans (congrArg₂ (· * ·) (Finset.sum_congr rfl fun l _ => ?_) (V n s e))
    rw [mask_at, H.q, H.k, H.B, H.B, zero_sub]
    rfl
  · rw [if_neg h, if_neg h, zero_mul]
    exact if_neg (by decide)

/-- What a chunk adds to a head's state, as the body sums it. -/
theorem inc_sum (H : PairIn a p N B q k) (i : Fin 2) (V : ValIn a (head p i) N v) (n : Fin 16) (e l : Fin 128) :
    (∑ s : Fin 64, v (ix2 ⟨n.val * 64 + s.val, by omega⟩ e) * (k (ix2 ⟨n.val * 64 + s.val, by omega⟩ l) * Ideal.exp (B (ix3 n 0 l) - B (ix3 n s l))
        * FloatOps.sitofp (F := Ideal) FTy.f32 (BitVec.setWidth 32 (IntOp.cmpi CmpIPredicate.eq (halves (ix2 0 l)) (BitVec.ofNat 32 i.val)))))
      = ∑ s : Fin 64, a.v (N n) s (head p i) e * (a.ke (N n) s (lane p l) * mask i l) := by
  rw [← sum_rev fun s => a.v (N n) s (head p i) e * (a.ke (N n) s (lane p l) * mask i l)]
  refine Finset.sum_congr rfl fun s _ => congrArg₂ (· * ·) (V n s e) ?_
  rw [mask_at, H.k, H.B, H.B]
  rfl

end Pair

section First

variable {a : Args} {N : Fin 16 → Fin 128} {u q k v : FVec Ideal S1024x128 .f32} {c : IVec S1024x128 32}

theorem first_qd (H : PairIn a 0 N (k0_pay16 u c) q k) (n : Fin 16) (t : Fin 64) (l : Fin 128) : k0_pay22 (F := Ideal) u c q (ix3 n t l) = a.qd (N n) t.rev (lane 0 l) := by
  pointwise [k0_pay22, k0_pay19]
  rw [H.q, H.B]
  rfl

theorem first_dec (H : PairIn a 0 N (k0_pay16 u c) q k) (n : Fin 16) (l : Fin 128) : k0_pay21 (F := Ideal) u c (ix3 n 0 l) = a.dec (N n) (lane 0 l) := by
  pointwise [k0_pay21, k0_pay17]
  exact congrArg Ideal.exp (H.B n 0 l)

theorem first_intra0 (H : PairIn a 0 N (k0_pay16 u c) q k) (V : ValIn a (head 0 0) N v) (n : Fin 16) (t : Fin 64) (e : Fin 128) :
    k0_pay54 (F := Ideal) k0_pay11 (k0_pay26 v) (k0_pay27 (k0_pay25 halves u c q k)) (ix3 n t e) = ∑ s, a.score (N n) (head 0 0) t.rev s * a.v (N n) s (head 0 0) e := by
  pointwise [k0_pay54, k0_pay26, k0_pay27, k0_pay25, k0_pay24, k0_pay23, k0_pay19, k0_pay18]
  exact intra_sum H 0 V n t e

theorem first_intra1 (H : PairIn a 0 N (k0_pay16 u c) q k) (V : ValIn a (head 0 1) N v) (n : Fin 16) (t : Fin 64) (e : Fin 128) :
    k0_pay74 (F := Ideal) k0_pay11 (k0_pay29 v) (k0_pay30 (k0_pay25 halves u c q k)) (ix3 n t e) = ∑ s, a.score (N n) (head 0 1) t.rev s * a.v (N n) s (head 0 1) e := by
  pointwise [k0_pay74, k0_pay29, k0_pay30, k0_pay25, k0_pay24, k0_pay23, k0_pay19, k0_pay18]
  exact intra_sum H 1 V n t e

theorem first_inc0 (H : PairIn a 0 N (k0_pay16 u c) q k) (V : ValIn a (head 0 0) N v) (n : Fin 16) (e l : Fin 128) :
    k0_pay28 (F := Ideal) (k0_pay20 u c k) (k0_pay23 halves) v (ix3 n e l) = ∑ s : Fin 64, a.v (N n) s (head 0 0) e * (a.ke (N n) s (lane 0 l) * mask 0 l) := by
  pointwise [k0_pay28, k0_pay20, k0_pay23, k0_pay26, k0_pay18, k0_pay17]
  exact inc_sum H 0 V n e l

theorem first_inc1 (H : PairIn a 0 N (k0_pay16 u c) q k) (V : ValIn a (head 0 1) N v) (n : Fin 16) (e l : Fin 128) :
    k0_pay31 (F := Ideal) (k0_pay20 u c k) (k0_pay24 halves) v (ix3 n e l) = ∑ s : Fin 64, a.v (N n) s (head 0 1) e * (a.ke (N n) s (lane 0 l) * mask 1 l) := by
  pointwise [k0_pay31, k0_pay20, k0_pay24, k0_pay29, k0_pay18, k0_pay17]
  exact inc_sum H 1 V n e l

end First

section Second

variable {a : Args} {N : Fin 16 → Fin 128} {u g q k v : FVec Ideal S1024x128 .f32} {c : IVec S1024x128 1}

theorem second_qd (H : PairIn a 1 N (k0_pay38 u c g) q k) (n : Fin 16) (t : Fin 64) (l : Fin 128) : k0_pay44 (F := Ideal) u c g q (ix3 n t l) = a.qd (N n) t.rev (lane 1 l) := by
  pointwise [k0_pay44, k0_pay41]
  rw [H.q, H.B]
  rfl

theorem second_dec (H : PairIn a 1 N (k0_pay38 u c g) q k) (n : Fin 16) (l : Fin 128) : k0_pay43 (F := Ideal) u c g (ix3 n 0 l) = a.dec (N n) (lane 1 l) := by
  pointwise [k0_pay43, k0_pay39]
  exact congrArg Ideal.exp (H.B n 0 l)

theorem second_intra0 (H : PairIn a 1 N (k0_pay38 u c g) q k) (V : ValIn a (head 1 0) N v) (n : Fin 16) (t : Fin 64) (e : Fin 128) :
    k0_pay95 (F := Ideal) (k0_pay48 v) (k0_pay49 (k0_pay47 halves u c g q k)) (k0_pay93 k0_pay11) k0_pay94 (ix3 n t e) = ∑ s, a.score (N n) (head 1 0) t.rev s * a.v (N n) s (head 1 0) e := by
  pointwise [k0_pay95, k0_pay94, k0_pay93, k0_pay48, k0_pay49, k0_pay47, k0_pay46, k0_pay45, k0_pay41, k0_pay40]
  exact intra_sum H 0 V n t e

theorem second_intra1 (H : PairIn a 1 N (k0_pay38 u c g) q k) (V : ValIn a (head 1 1) N v) (n : Fin 16) (t : Fin 64) (e : Fin 128) :
    k0_pay117 (F := Ideal) k0_pay11 (k0_pay51 v) (k0_pay52 (k0_pay47 halves u c g q k)) (ix3 n t e) = ∑ s, a.score (N n) (head 1 1) t.rev s * a.v (N n) s (head 1 1) e := by
  pointwise [k0_pay117, k0_pay51, k0_pay52, k0_pay47, k0_pay46, k0_pay45, k0_pay41, k0_pay40]
  exact intra_sum H 1 V n t e

theorem second_inc0 (H : PairIn a 1 N (k0_pay38 u c g) q k) (V : ValIn a (head 1 0) N v) (n : Fin 16) (e l : Fin 128) :
    k0_pay50 (F := Ideal) (k0_pay42 u c g k) (k0_pay45 halves) (k0_pay48 v) (ix3 n e l) = ∑ s : Fin 64, a.v (N n) s (head 1 0) e * (a.ke (N n) s (lane 1 l) * mask 0 l) := by
  pointwise [k0_pay50, k0_pay48, k0_pay45, k0_pay42, k0_pay40, k0_pay39]
  exact inc_sum H 0 V n e l

theorem second_inc1 (H : PairIn a 1 N (k0_pay38 u c g) q k) (V : ValIn a (head 1 1) N v) (n : Fin 16) (e l : Fin 128) :
    k0_pay53 (F := Ideal) (k0_pay42 u c g k) (k0_pay46 halves) v (ix3 n e l) = ∑ s : Fin 64, a.v (N n) s (head 1 1) e * (a.ke (N n) s (lane 1 l) * mask 1 l) := by
  pointwise [k0_pay53, k0_pay51, k0_pay46, k0_pay42, k0_pay40, k0_pay39]
  exact inc_sum H 1 V n e l

end Second

/-! ## The states of a head through sixteen chunks, the last chunk first -/

/-- The states of the first head before each chunk, and the one after the last. -/
def befores0 (s : FVec Ideal S128x128 .f32) (d : FVec Ideal S16x1x128 .f32) (x : FVec Ideal S16x128x128 .f32) : FVec Ideal S16x128x128 .bf16 :=
  have u0 := k0_pay55 s d x
  have u1 := k0_pay56 s d x
  have u2 := k0_pay57 s d x
  have u3 := k0_pay58 s d x
  have u4 := k0_pay59 s d x
  have u5 := k0_pay60 x u4
  have u6 := k0_pay61 d x u4
  have u7 := k0_pay62 d x u4
  have u8 := k0_pay63 d x u4
  have u9 := k0_pay64 d x u4
  have u10 := k0_pay65 d x u4
  have u11 := k0_pay66 d x u4
  have u12 := k0_pay67 d x u4
  have u13 := k0_pay68 d x u4
  have u14 := k0_pay69 d
  k0_pay73 s d x u0 u1 u2 u3 u5 u6 u7 u8 u9 u10 u11 u12 u13 u14 (F := Ideal)

def after0 (s : FVec Ideal S128x128 .f32) (d : FVec Ideal S16x1x128 .f32) (x : FVec Ideal S16x128x128 .f32) : FVec Ideal S128x128 .f32 :=
  have u0 := k0_pay59 s d x
  have u1 := k0_pay68 d x u0
  have u2 := k0_pay69 d
  k0_pay72 d x u1 u2 (F := Ideal)

theorem befores0_at (s : FVec Ideal S128x128 .f32) (d : FVec Ideal S16x1x128 .f32) (x : FVec Ideal S16x128x128 .f32) (n : Fin 16) (e l : Fin 128) :
    befores0 s d x (ix3 n e l) = chain (s (ix2 e l)) (fun j => d (ix3 j.rev 0 l)) (fun j => x (ix3 j.rev e l)) n.rev.val := by
  pointwise [befores0, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay73]
  fin_cases n <;> rfl

theorem after0_at (s : FVec Ideal S128x128 .f32) (d : FVec Ideal S16x1x128 .f32) (x : FVec Ideal S16x128x128 .f32) (e l : Fin 128) :
    after0 s d x (ix2 e l) = chain (s (ix2 e l)) (fun j => d (ix3 j.rev 0 l)) (fun j => x (ix3 j.rev e l)) 16 := by
  pointwise [after0, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72]
  rfl

/-- The states of the second head before each chunk, and the one after the last. -/
def befores1 (s : FVec Ideal S128x128 .f32) (d : FVec Ideal S16x1x128 .f32) (x : FVec Ideal S16x128x128 .f32) : FVec Ideal S16x128x128 .bf16 :=
  have u0 := k0_pay75 s d x
  have u1 := k0_pay76 s d x
  have u2 := k0_pay77 d x u1
  have u3 := k0_pay78 d x u1
  have u4 := k0_pay79 d x u1
  have u5 := k0_pay80 d x u1
  have u6 := k0_pay81 d x u1
  have u7 := k0_pay82 d x u1
  have u8 := k0_pay83 d x u1
  have u9 := k0_pay84 d x u1
  have u10 := k0_pay85 d x u1
  k0_pay92 s d x u0 u1 u2 u3 u4 u5 u6 u7 u8 u9 u10 (F := Ideal)

def after1 (s : FVec Ideal S128x128 .f32) (d : FVec Ideal S16x1x128 .f32) (x : FVec Ideal S16x128x128 .f32) : FVec Ideal S128x128 .f32 :=
  have u0 := k0_pay76 s d x
  have u1 := k0_pay85 d x u0
  k0_pay91 d x u1 (F := Ideal)

theorem befores1_at (s : FVec Ideal S128x128 .f32) (d : FVec Ideal S16x1x128 .f32) (x : FVec Ideal S16x128x128 .f32) (n : Fin 16) (e l : Fin 128) :
    befores1 s d x (ix3 n e l) = chain (s (ix2 e l)) (fun j => d (ix3 j.rev 0 l)) (fun j => x (ix3 j.rev e l)) n.rev.val := by
  pointwise [befores1, k0_pay75, k0_pay76, k0_pay77, k0_pay78, k0_pay79, k0_pay80, k0_pay81, k0_pay82, k0_pay83, k0_pay84, k0_pay85, k0_pay86, k0_pay87, k0_pay88, k0_pay89, k0_pay90, k0_pay92]
  fin_cases n <;> rfl

theorem after1_at (s : FVec Ideal S128x128 .f32) (d : FVec Ideal S16x1x128 .f32) (x : FVec Ideal S16x128x128 .f32) (e l : Fin 128) :
    after1 s d x (ix2 e l) = chain (s (ix2 e l)) (fun j => d (ix3 j.rev 0 l)) (fun j => x (ix3 j.rev e l)) 16 := by
  pointwise [after1, k0_pay75, k0_pay76, k0_pay77, k0_pay78, k0_pay79, k0_pay80, k0_pay81, k0_pay82, k0_pay83, k0_pay84, k0_pay85, k0_pay86, k0_pay87, k0_pay88, k0_pay89, k0_pay90, k0_pay91]
  rfl

/-- The states of the third head before each chunk, and the one after the last. -/
def befores2 (s : FVec Ideal S128x128 .f32) (d : FVec Ideal S16x1x128 .f32) (x : FVec Ideal S16x128x128 .f32) : FVec Ideal S16x128x128 .bf16 :=
  have u0 := k0_pay96 s d x
  have u1 := k0_pay97 s d x
  have u2 := k0_pay98 s d x
  have u3 := k0_pay99 s d x
  have u4 := k0_pay100 s d x
  have u5 := k0_pay101 s d x
  have u6 := k0_pay102 s d x
  have u7 := k0_pay103 s d x
  have u8 := k0_pay104 d x u7
  have u9 := k0_pay105 d x u7
  have u10 := k0_pay106 d x u7
  have u11 := k0_pay112 d x u7
  have u12 := k0_pay113 d x u7
  have u13 := k0_pay114 d x u7
  have u14 := k0_pay115 d x u7
  k0_pay116 s u0 u1 u2 u3 u4 u5 u6 u7 u8 u9 u10 u11 u12 u13 u14 (F := Ideal)

def after2 (s : FVec Ideal S128x128 .f32) (d : FVec Ideal S16x1x128 .f32) (x : FVec Ideal S16x128x128 .f32) : FVec Ideal S128x128 .f32 :=
  have u0 := k0_pay103 s d x
  k0_pay111 d x u0 (F := Ideal)

theorem befores2_at (s : FVec Ideal S128x128 .f32) (d : FVec Ideal S16x1x128 .f32) (x : FVec Ideal S16x128x128 .f32) (n : Fin 16) (e l : Fin 128) :
    befores2 s d x (ix3 n e l) = chain (s (ix2 e l)) (fun j => d (ix3 j.rev 0 l)) (fun j => x (ix3 j.rev e l)) n.rev.val := by
  pointwise [befores2, k0_pay96, k0_pay97, k0_pay98, k0_pay99, k0_pay100, k0_pay101, k0_pay102, k0_pay103, k0_pay104, k0_pay105, k0_pay106, k0_pay107, k0_pay108, k0_pay109, k0_pay110, k0_pay112, k0_pay113, k0_pay114, k0_pay115, k0_pay116]
  fin_cases n <;> rfl

theorem after2_at (s : FVec Ideal S128x128 .f32) (d : FVec Ideal S16x1x128 .f32) (x : FVec Ideal S16x128x128 .f32) (e l : Fin 128) :
    after2 s d x (ix2 e l) = chain (s (ix2 e l)) (fun j => d (ix3 j.rev 0 l)) (fun j => x (ix3 j.rev e l)) 16 := by
  pointwise [after2, k0_pay96, k0_pay97, k0_pay98, k0_pay99, k0_pay100, k0_pay101, k0_pay102, k0_pay103, k0_pay104, k0_pay105, k0_pay106, k0_pay107, k0_pay108, k0_pay109, k0_pay110, k0_pay111]
  rfl

/-- The states of the fourth head before all chunks but the last and the first. -/
def between3 (s : FVec Ideal S128x128 .f32) (d : FVec Ideal S16x1x128 .f32) (x : FVec Ideal S16x128x128 .f32) : Fin 14 → FVec Ideal S128x128 .f32 :=
  have u0 := k0_pay118 s d x
  have u1 := k0_pay119 s d x
  have u2 := k0_pay120 s d x
  have u3 := k0_pay121 s d x
  have u4 := k0_pay122 s d x
  have u5 := k0_pay123 d
  have u6 := k0_pay124 x u4 u5
  have u7 := k0_pay125 d x u4 u5
  have u8 := k0_pay126 d x u4 u5
  have u9 := k0_pay127 d x u4 u5
  have u10 := k0_pay128 d x u4 u5
  have u11 := k0_pay129 d x u4 u5
  have u12 := k0_pay130 d x u4 u5
  have u13 := k0_pay131 d x u4 u5
  have u14 := k0_pay132 d x u4 u5
  ![u0, u1, u2, u3, u4, u6, u7, u8, u9, u10, u11, u12, u13, u14]

/-- The states of the fourth head before each chunk, and the one after the last. -/
def befores3 (s : FVec Ideal S128x128 .f32) (d : FVec Ideal S16x1x128 .f32) (x : FVec Ideal S16x128x128 .f32) : FVec Ideal S16x128x128 .bf16 :=
  k0_pay135 s d x (between3 s d x 0) (between3 s d x 1) (between3 s d x 2) (between3 s d x 3) (between3 s d x 4) (between3 s d x 5) (between3 s d x 6) (between3 s d x 7) (between3 s d x 8) (between3 s d x 9) (between3 s d x 10) (between3 s d x 11) (between3 s d x 12) (between3 s d x 13) (F := Ideal)

def after3 (s : FVec Ideal S128x128 .f32) (d : FVec Ideal S16x1x128 .f32) (x : FVec Ideal S16x128x128 .f32) : FVec Ideal S128x128 .f32 :=
  have u0 := k0_pay122 s d x
  have u1 := k0_pay123 d
  have u2 := k0_pay132 d x u0 u1
  k0_pay134 d x u2 (F := Ideal)

theorem befores3_at (s : FVec Ideal S128x128 .f32) (d : FVec Ideal S16x1x128 .f32) (x : FVec Ideal S16x128x128 .f32) (n : Fin 16) (e l : Fin 128) :
    befores3 s d x (ix3 n e l) = chain (s (ix2 e l)) (fun j => d (ix3 j.rev 0 l)) (fun j => x (ix3 j.rev e l)) n.rev.val := by
  pointwise [befores3, between3, k0_pay118, k0_pay119, k0_pay120, k0_pay121, k0_pay122, k0_pay123, k0_pay124, k0_pay125, k0_pay126, k0_pay127, k0_pay128, k0_pay129, k0_pay130, k0_pay131, k0_pay132, k0_pay133, k0_pay135]
  fin_cases n <;> rfl

theorem after3_at (s : FVec Ideal S128x128 .f32) (d : FVec Ideal S16x1x128 .f32) (x : FVec Ideal S16x128x128 .f32) (e l : Fin 128) :
    after3 s d x (ix2 e l) = chain (s (ix2 e l)) (fun j => d (ix3 j.rev 0 l)) (fun j => x (ix3 j.rev e l)) 16 := by
  pointwise [after3, k0_pay118, k0_pay119, k0_pay120, k0_pay121, k0_pay122, k0_pay123, k0_pay124, k0_pay125, k0_pay126, k0_pay127, k0_pay128, k0_pay129, k0_pay130, k0_pay131, k0_pay132, k0_pay133, k0_pay134]
  rfl

/-! ## The outputs -/

section Outs

variable (i : FVec Ideal S16x64x128 .f32) (q : FVec Ideal S16x64x128 .bf16) (y z : FVec Ideal S16x128x128 .bf16) (n : Fin 16) (t : Fin 64) (e : Fin 128)
variable (s : FVec Ideal S128x128 .f32) (d : FVec Ideal S16x1x128 .f32) (x : FVec Ideal S16x128x128 .f32)

/-- The third head's outputs, and the fourth's, over the states the fourth's chunks start from. -/
def third : FVec Ideal S1024x128 .f32 := k0_pay140 s d q x i y (between3 s d x 0) (between3 s d x 1) (between3 s d x 2) (between3 s d x 3) (between3 s d x 4) (between3 s d x 5) (between3 s d x 6) (between3 s d x 7) (between3 s d x 8) (between3 s d x 9) (between3 s d x 10) (between3 s d x 11) (between3 s d x 12) (between3 s d x 13)
def fourth : FVec Ideal S1024x128 .f32 := k0_pay141 s d q x y i (between3 s d x 0) (between3 s d x 1) (between3 s d x 2) (between3 s d x 3) (between3 s d x 4) (between3 s d x 5) (between3 s d x 6) (between3 s d x 7) (between3 s d x 8) (between3 s d x 9) (between3 s d x 10) (between3 s d x 11) (between3 s d x 12) (between3 s d x 13)

theorem out0_at : k0_pay137 (F := Ideal) q i y z (ix2 ⟨n.val * 64 + t.val, by omega⟩ e) = i (ix3 n t e) + ∑ l, q (ix3 n t l) * y (ix3 n e l) := by
  pointwise [k0_pay137, k0_pay136]

theorem out1_at : k0_pay138 (F := Ideal) q y i z (ix2 ⟨n.val * 64 + t.val, by omega⟩ e) = i (ix3 n t e) + ∑ l, q (ix3 n t l) * z (ix3 n e l) := by
  pointwise [k0_pay138, k0_pay136]

theorem out2_at : third i q y s d x (ix2 ⟨n.val * 64 + t.val, by omega⟩ e) = i (ix3 n t e) + ∑ l, q (ix3 n t l) * y (ix3 n e l) := by
  pointwise [third, k0_pay140, k0_pay139]

theorem out3_at : fourth i q y s d x (ix2 ⟨n.val * 64 + t.val, by omega⟩ e) = i (ix3 n t e) + ∑ l, q (ix3 n t l) * befores3 s d x (ix3 n e l) := by
  pointwise [fourth, k0_pay141, k0_pay139]
  rfl

end Outs

end Cert.GlaRevIdeal.Body
end
-- ==== Proof.GlaRevBlocks.lean ====
/-
  THE GATED LINEAR ATTENTION, BACKWARD IN TIME, THE KERNEL'S BLOCKS AS ENTRIES OF THE ARGUMENTS, rows numbered in reversed time.
-/
module

public import proofs.«01_k».proof.Proof.GlaRevBody
public import Idealize.ShloMosaic.Lib.Routing.OpsSet

@[expose] public section

set_option maxRecDepth 16384

noncomputable section

namespace Cert.GlaRevIdeal.Body

open Cert.GlaRevIdeal Cert.GlaRevIdeal.Gen Idealize.ShloMosaic Idealize.ShloMosaic.TcCoe Idealize.SL.Sem
open Cert.RealFacts Cert.GlaFwdMath
open scoped BigOperators

/-! ## The padded weight -/

/-- Where a row of the decay's weight lands among the rows of zeros. -/
theorem lands (at16 : IVec S1 32) (h : ∀ i, at16 i = 16#32) (u : Fin 16) (k : Fin 256) :
    scatter_S128x256_S1_S16x256_01_n_0_0.resultIdx? (ix2 u k) at16 = some (ix2 ⟨16 + u.val, by omega⟩ k) := by
  have s0 : scatter_S128x256_S1_S16x256_01_n_0_0.start (ix2 u k) at16 0 = 16 := by
    unfold ScatterDims.start
    rw [dif_pos (by decide), h]
    rfl
  have s1 : scatter_S128x256_S1_S16x256_01_n_0_0.start (ix2 u k) at16 1 = 0 := dif_neg (by decide)
  have w0 : scatter_S128x256_S1_S16x256_01_n_0_0.window (ix2 u k) 0 = u.val := rfl
  have w1 : scatter_S128x256_S1_S16x256_01_n_0_0.window (ix2 u k) 1 = k.val := rfl
  unfold ScatterDims.resultIdx?
  have hin : ∀ x, 0 ≤ scatter_S128x256_S1_S16x256_01_n_0_0.start (ix2 u k) at16 x + scatter_S128x256_S1_S16x256_01_n_0_0.window (ix2 u k) x
      ∧ scatter_S128x256_S1_S16x256_01_n_0_0.start (ix2 u k) at16 x + scatter_S128x256_S1_S16x256_01_n_0_0.window (ix2 u k) x < S128x256.size x := fun x =>
    match x with
    | 0 => by rw [s0, w0]; exact ⟨by omega, by show (16 : ℤ) + u.val < (128 : ℕ); omega⟩
    | 1 => by rw [s1, w1]; exact ⟨by omega, by show (0 : ℤ) + k.val < (256 : ℕ); omega⟩
  rw [dif_pos hin]
  refine congrArg some (funext fun x => ?_)
  match x with
  | 0 => exact Fin.ext (show Int.toNat (scatter_S128x256_S1_S16x256_01_n_0_0.start (ix2 u k) at16 0 + scatter_S128x256_S1_S16x256_01_n_0_0.window (ix2 u k) 0) = 16 + u.val by rw [s0, w0]; omega)
  | 1 => exact Fin.ext (show Int.toNat (scatter_S128x256_S1_S16x256_01_n_0_0.start (ix2 u k) at16 1 + scatter_S128x256_S1_S16x256_01_n_0_0.window (ix2 u k) 1) = k.val by rw [s1, w1]; omega)

theorem padded_at {α : Type} (x : S128x256.Idx → α) (at16 : IVec S1 32) (h : ∀ i, at16 i = 16#32) (u : S16x256.Idx → α) (j : Fin 128) (k : Fin 256) :
    Host.scatter scatter_S128x256_S1_S16x256_01_n_0_0 (fun _ b => b) x at16 u (ix2 j k) = if hj : 16 ≤ j.val ∧ j.val < 32 then u (ix2 ⟨j.val - 16, by omega⟩ k) else x (ix2 j k) := by
  by_cases hj : 16 ≤ j.val ∧ j.val < 32
  · rw [dif_pos hj]
    refine Idealize.ShloMosaic.Routing.scatter_set_hit _ x at16 u _ _ (fun v hv => ?_) (ix2 ⟨j.val - 16, by omega⟩ k) ((lands at16 h _ k).trans (congrArg some (congrArg (ix2 · k) (Fin.ext (by dsimp only; omega)))))
    obtain ⟨p, q, rfl⟩ : ∃ p q, v = ix2 p q := ⟨_, _, eq_ix2 v⟩
    have e := Option.some.inj ((lands at16 h p q).symm.trans hv)
    have e0 : 16 + p.val = j.val := congrArg Fin.val (congrFun e 0)
    have e1 : q = k := congrFun e 1
    subst e1
    exact congrArg (fun p => u (ix2 p q)) (Fin.ext (by dsimp only; omega))
  · rw [dif_neg hj]
    refine Idealize.ShloMosaic.Routing.scatter_set_miss _ x at16 u _ fun v hv => hj ?_
    obtain ⟨p, q, rfl⟩ : ∃ p q, v = ix2 p q := ⟨_, _, eq_ix2 v⟩
    have e0 : 16 + p.val = j.val := congrArg Fin.val (congrFun (Option.some.inj ((lands at16 h p q).symm.trans hv)) 0)
    omega

variable (m : (ℓ : Loc nD τ sig) → Buf (Elt Ideal) ℓ)

/-- The block each window holds at a grid point: the last rows first. -/
theorem idx : ∀ t : Fin cfg0.N, win0_0.index t = ![7 - t.val, 0] ∧ win0_1.index t = ![7 - t.val, 1] ∧ win0_2.index t = ![7 - t.val, 1] ∧ win0_3.index t = ![7 - t.val, 20]
    ∧ win0_4.index t = ![0, 0] ∧ win0_5.index t = ![0, 0] ∧ win0_7.index t = ![7 - t.val, 0] ∧ win0_8.index t = ![7 - t.val, 0, 0, 0] :=
  (by decide +kernel : ∀ t : Fin grid0.N, _)

/-- Row `r` of the tile at point `t`, numbered in reversed time. -/
def tileRow (t : Fin cfg0.N) (r : Fin 1024) : Fin 8192 := ⟨t.val * 1024 + (1023 - r.val), by have := t.isLt; have : cfg0.N = 8 := N_0; omega⟩

/-- Where that row stands in the arrays. -/
theorem tileRow_rev (t : Fin cfg0.N) (r : Fin 1024) : (tileRow t r).rev.val = (7 - t.val) * 1024 + r.val := by
  have := t.isLt; have : cfg0.N = 8 := N_0
  rw [Fin.val_rev]; unfold tileRow; dsimp only; omega

/-- The argument arrays hold the functions of `a`, the rows reversed and the second direction's factor of the decay in the place of the first's. -/
structure Holds (c : Dev nD) (a : Args) : Prop where
  P : ∀ (r : Fin 8192) (k : Fin 1536), m ((c : Thread nD τ).loc main_arg0) (ix3 0 r.rev ⟨k.val, by omega⟩) = a.P r ⟨k.val, by omega⟩
  f : ∀ (r : Fin 8192) (k : Fin 16), m ((c : Thread nD τ).loc main_arg0) (ix3 0 r.rev ⟨1552 + k.val, by omega⟩) = a.P r ⟨1536 + k.val, by omega⟩
  w : ∀ j k, m ((c : Thread nD τ).loc main_arg1) (ix3 0 j k) = a.w j k
  b : ∀ k, m ((c : Thread nD τ).loc main_arg2) (ix2 0 k) = a.b k

/-- What the argument arrays hold. -/
def args (c : Dev nD) : Args where
  P r k := m ((c : Thread nD τ).loc main_arg0) (ix3 0 r.rev (if h : 1536 ≤ k.val ∧ k.val < 1552 then ⟨k.val + 16, by omega⟩ else k))
  w j k := m ((c : Thread nD τ).loc main_arg1) (ix3 0 j k)
  b k := m ((c : Thread nD τ).loc main_arg2) (ix2 0 k)

theorem holds_args (c : Dev nD) : Holds m c (args m c) where
  P r k := by unfold args; dsimp only; rw [dif_neg (by omega)]
  f r k := by
    unfold args; dsimp only; rw [dif_pos (by omega)]
    exact congrArg (fun k => m ((c : Thread nD τ).loc main_arg0) (ix3 0 r.rev k)) (Fin.ext (by dsimp only; omega))
  w _ _ := rfl
  b _ := rfl

variable {m} {c : Dev nD} {a : Args} (H : Holds m c a)

include H

/-- The decay's weight, padded with rows of zeros, and its bias. -/
theorem weight_blk (t : Fin cfg0.N) (j : Fin 128) (k : Fin 256) :
    (show FVec Ideal S128x256 .bf16 from iblk m c 4 t) (ix2 j k) = if h : 16 ≤ j.val ∧ j.val < 32 then a.w ⟨j.val - 16, by omega⟩ k else 0 := by
  blk_simp [iblk, idx t]
  entry_read
  pointwise
  have e : ((View.whole main_v4).slice (win0_4.rect t)).emb (ix2 j k) = ix2 j k := by blk_ext [idx t]
  simp only [e]
  refine (padded_at _ _ (fun i => rfl) _ j k).trans ?_
  by_cases h : 16 ≤ j.val ∧ j.val < 32
  · rw [dif_pos h, dif_pos h]
    exact H.w ⟨j.val - 16, by omega⟩ k
  · rw [dif_neg h, dif_neg h]
    exact Ideal.ofBits_zero_f32

theorem bias_blk (t : Fin cfg0.N) (k : Fin 256) : (show FVec Ideal S1x256 .f32 from iblk m c 5 t) (ix2 0 k) = a.b k := by
  rw [← H.b]; blk_simp [iblk, idx t]; entry_read; blk_ext [idx t]

/-- The columns of the projected rows in the kernel's order, where the queries, keys, values and the gates' factor stand. -/
theorem cols_all (r : Fin 8192) :
    (∀ k : Fin 1024, (show FVec Ideal S8192x2688 .f32 from V m c main_v9) (ix2 r.rev ⟨k.val, by omega⟩) = a.P r ⟨k.val, by omega⟩)
    ∧ (∀ k : Fin 16, (show FVec Ideal S8192x2688 .f32 from V m c main_v9) (ix2 r.rev ⟨2576 + k.val, by omega⟩) = a.P r ⟨1536 + k.val, by omega⟩) := by
  refine ⟨fun k => ?_, fun k => ?_⟩
  · rw [← H.P r ⟨k.val, by omega⟩]
    unfold V hostOps0
    simp only [Idealize.ShloMosaic.StableHlo.after_cons, Idealize.ShloMosaic.StableHlo.after_nil]
    after_results_simp
    pointwise
    rw [dif_pos (by omega)]; after_results_simp; pointwise
  · rw [← H.f]
    unfold V hostOps0
    simp only [Idealize.ShloMosaic.StableHlo.after_cons, Idealize.ShloMosaic.StableHlo.after_nil]
    after_results_simp
    pointwise
    rw [dif_neg (by omega), dif_neg (by omega)]; after_results_simp; pointwise
    refine congrArg (fun k => m (c.tc.loc main_arg0) (ix3 0 r.rev k)) (Fin.ext ?_)
    dsimp only; omega

/-- The places of the tile's rows in the kernel's array. -/
theorem cols_blk (t : Fin cfg0.N) (r : Fin 1024) :
    (∀ k : Fin 256, (show FVec Ideal S1024x256 .f32 from X0_0 m c t) (ix2 r k) = a.P (tileRow t r) ⟨k.val, by omega⟩)
    ∧ (∀ k : Fin 256, (show FVec Ideal S1024x256 .f32 from X0_1 m c t) (ix2 r k) = a.P (tileRow t r) ⟨256 + k.val, by omega⟩)
    ∧ (∀ k : Fin 512, (show FVec Ideal S1024x512 .f32 from X0_2 m c t) (ix2 r k) = a.P (tileRow t r) ⟨512 + k.val, by omega⟩) := by
  have er : (⟨(7 - t.val) * 1024 + r.val, by omega⟩ : Fin 8192) = (tileRow t r).rev := Fin.ext (tileRow_rev t r).symm
  refine ⟨fun k => ((dif_pos (moved0_0 t _)).trans ?_).trans ((cols_all H (tileRow t r)).1 ⟨k.val, by omega⟩), fun k => ((dif_pos (moved0_1 t _)).trans ?_).trans ((cols_all H (tileRow t r)).1 ⟨256 + k.val, by omega⟩),
    fun k => ((dif_pos (moved0_2 t _)).trans ?_).trans ((cols_all H (tileRow t r)).1 ⟨512 + k.val, by omega⟩)⟩ <;>
  rw [← er] <;> blk_ext [iblk, idx t]

theorem factor_blk (t : Fin cfg0.N) (r : Fin 1024) (j : Fin 16) :
    (show FVec Ideal S1024x128 .f32 from iblk m c 3 t) (ix2 r ⟨16 + j.val, by omega⟩) = a.P (tileRow t r) ⟨1536 + j.val, by omega⟩ := by
  have er : (⟨(7 - t.val) * 1024 + r.val, by omega⟩ : Fin 8192) = (tileRow t r).rev := Fin.ext (tileRow_rev t r).symm
  refine Eq.trans ?_ ((cols_all H (tileRow t r)).2 j)
  rw [← er]
  blk_ext [iblk, idx t]

omit H in
/-- A sum of lanes of which only the sixteen of the second direction's factor count. -/
theorem sum_factor (f : Fin 128 → EReal) (h : ∀ j, ¬ (16 ≤ j.val ∧ j.val < 32) → f j = 0) : ∑ j, f j = ∑ j : Fin 16, f ⟨16 + j.val, by omega⟩ := by
  refine (show (∑ j : Fin 128, f j) = ∑ j : Fin (16 + (16 + 96)), f j from rfl).trans ((Fin.sum_univ_add _).trans ?_)
  rw [Finset.sum_eq_zero (fun j _ => h _ (by rw [Fin.val_castAdd]; omega)), zero_add, Fin.sum_univ_add]
  rw [Finset.sum_eq_zero (s := Finset.univ (α := Fin 96)) (fun j _ => h _ (by rw [Fin.val_natAdd, Fin.val_natAdd]; omega)), add_zero]
  rfl

omit H in
/-- The logarithms of the gates of a pair's lanes. -/
theorem gate_blk (t : Fin cfg0.N) (p : Fin 2) (x : FVec Ideal S1024x128 .f32) (w : FVec Ideal S128x128 .bf16) (b : FVec Ideal S1x128 .f32)
    (hx : ∀ r (j : Fin 16), x (ix2 r ⟨16 + j.val, by omega⟩) = a.P (tileRow t r) ⟨1536 + j.val, by omega⟩)
    (hw : ∀ (j : Fin 128) l, w (ix2 j l) = if h : 16 ≤ j.val ∧ j.val < 32 then a.w ⟨j.val - 16, by omega⟩ (lane p l) else 0) (hb : ∀ l, b (ix2 0 l) = a.b (lane p l)) (r : Fin 1024) (l : Fin 128) :
    k0_pay32 (F := Ideal) (k0_pay3 x) w b (ix2 r l) = a.gateN (lane p l) (t.val * 1024 + (1023 - r.val)) := by
  rw [gate_at, hb]
  unfold Args.gateN
  rw [dif_pos (show t.val * 1024 + (1023 - r.val) < 8192 from (tileRow t r).isLt)]
  unfold Args.gate
  refine congrArg (fun z => logSig (z + a.b (lane p l)) * tau) ?_
  refine (sum_factor _ fun j hj => by rw [hw, dif_neg hj, mul_zero]).trans (Finset.sum_congr rfl fun j _ => congrArg₂ (· * ·) (hx r j) ((hw _ l).trans ((dif_pos ⟨by dsimp only; omega, by dsimp only; omega⟩).trans ?_)))
  exact congrArg (fun j => a.w j (lane p l)) (Fin.ext (by dsimp only; omega))

/-- The chunks of the tile at a grid point, numbered in reversed time. -/
def tileChunk (t : Fin cfg0.N) (n : Fin 16) : Fin 128 := ⟨t.val * 16 + n.rev.val, by have := t.isLt; have : cfg0.N = 8 := N_0; omega⟩

omit H in
theorem tileRow_chunk (t : Fin cfg0.N) (n : Fin 16) (s : Fin 64) : tileRow t ⟨n.val * 64 + s.val, by omega⟩ = row (tileChunk t n) s.rev :=
  Fin.ext (by unfold tileRow row tileChunk; simp only [Fin.val_rev]; omega)

omit H in
/-- Summed up the ladder, the decays. -/
theorem decay_blk (t : Fin cfg0.N) (p : Fin 2) (g : FVec Ideal S1024x128 .f32) (hg : ∀ r l, g (ix2 r l) = a.gateN (lane p l) (t.val * 1024 + (1023 - r.val))) (n : Fin 16) (s : Fin 64) (l : Fin 128) :
    ladder k0_pay8 g (ix3 n s l) = a.decay (tileChunk t n) s.rev (lane p l) := by
  rw [ladder_sum g n s l (fun r => a.gateN (lane p l) (t.val * 1024 + r)) (fun r => hg r l)]
  unfold Args.decay tileChunk
  exact Finset.sum_congr rfl fun u _ => congrArg (a.gateN (lane p l)) (by dsimp only; omega)

end Cert.GlaRevIdeal.Body
end
-- ==== Proof.GlaRevTile.lean ====
/-
  THE GATED LINEAR ATTENTION, BACKWARD IN TIME: WHAT ONE TILE OF SIXTEEN CHUNKS STORES.

  A tile loads as the forward direction's does. Its stores are written over the loads, and each stored value is read as the
  attention's output, the states before the chunks, or the states after the last, the rows and chunks counted from the last.
-/
module

public import proofs.«01_k».proof.Proof.GlaRevBlocks
public import proofs.«01_k».proof.Proof.GlaFwdValue

@[expose] public section

set_option maxRecDepth 16384

noncomputable section

namespace Cert.GlaRevIdeal.Body

open Cert.GlaRevIdeal Cert.GlaRevIdeal.Gen Idealize.ShloMosaic Idealize.ShloMosaic.TcCoe Idealize.SL.Sem
open Cert.RealFacts Cert.GlaFwdMath
open Cert.GlaFwdIdeal.Body (Loads chain chain_state)
open Cert.GlaFwdIdeal.Body.Loads.Of (laneOf aftT block_aft)
open scoped BigOperators

section Tile

variable (L : Loads)

/-! ## The values a tile computes -/

def g0 : FVec Ideal S1024x128 .f32 := k0_pay12 (k0_pay3 L.x) (L.w 0) (L.b 0)
/-- The first pair's sums before the last rung, and the places of their rows. -/
def u0 : FVec Ideal S1024x128 .f32 := k0_pay14 k0_pay8 (g0 L) (k0_pay13 k0_pay8)
def c0 : IVec S1024x128 32 := k0_pay15 k0_pay8
def g1 : FVec Ideal S1024x128 .f32 := k0_pay32 (k0_pay3 L.x) (L.w 1) (L.b 1)
/-- The second pair's, its rows inside the chunk, and the sums so many rows on. -/
def u1 : FVec Ideal S1024x128 .f32 := k0_pay35 k0_pay8 (g1 L) (k0_pay33 k0_pay8) (k0_pay34 (k0_pay3 L.x) (L.w 1) (L.b 1))
def c1 : IVec S1024x128 1 := k0_pay36 k0_pay8
def w1 : FVec Ideal S1024x128 .f32 := k0_pay37 k0_pay8 (g1 L) (k0_pay33 k0_pay8) (k0_pay34 (k0_pay3 L.x) (L.w 1) (L.b 1))

def s0 : FVec Ideal S128x128 .f32 := k0_pay4 (L.s 0)
def s1 : FVec Ideal S128x128 .f32 := k0_pay5 (L.s 1)
def s2 : FVec Ideal S128x128 .f32 := k0_pay6 (L.s 2)
def s3 : FVec Ideal S128x128 .f32 := k0_pay7 (L.s 3)
def d0 : FVec Ideal S16x1x128 .f32 := k0_pay21 (u0 L) c0
def d1 : FVec Ideal S16x1x128 .f32 := k0_pay43 (u1 L) c1 (w1 L)
def x0 : FVec Ideal S16x128x128 .f32 := k0_pay28 (k0_pay20 (u0 L) c0 (L.k 0)) (k0_pay23 halves) (L.v 0)
def x1 : FVec Ideal S16x128x128 .f32 := k0_pay31 (k0_pay20 (u0 L) c0 (L.k 0)) (k0_pay24 halves) (L.v 1)
def x2 : FVec Ideal S16x128x128 .f32 := k0_pay50 (k0_pay42 (u1 L) c1 (w1 L) (L.k 1)) (k0_pay45 halves) (k0_pay48 (L.v 2))
def x3 : FVec Ideal S16x128x128 .f32 := k0_pay53 (k0_pay42 (u1 L) c1 (w1 L) (L.k 1)) (k0_pay46 halves) (L.v 3)
def qd0 : FVec Ideal S16x64x128 .bf16 := k0_pay22 (u0 L) c0 (L.q 0)
def qd1 : FVec Ideal S16x64x128 .bf16 := k0_pay44 (u1 L) c1 (w1 L) (L.q 1)
def i0 : FVec Ideal S16x64x128 .f32 := k0_pay54 k0_pay11 (k0_pay26 (L.v 0)) (k0_pay27 (k0_pay25 halves (u0 L) c0 (L.q 0) (L.k 0)))
def i1 : FVec Ideal S16x64x128 .f32 := k0_pay74 k0_pay11 (k0_pay29 (L.v 1)) (k0_pay30 (k0_pay25 halves (u0 L) c0 (L.q 0) (L.k 0)))
def i2 : FVec Ideal S16x64x128 .f32 := k0_pay95 (k0_pay48 (L.v 2)) (k0_pay49 (k0_pay47 halves (u1 L) c1 (w1 L) (L.q 1) (L.k 1))) (k0_pay93 k0_pay11) k0_pay94
def i3 : FVec Ideal S16x64x128 .f32 := k0_pay117 k0_pay11 (k0_pay51 (L.v 3)) (k0_pay52 (k0_pay47 halves (u1 L) c1 (w1 L) (L.q 1) (L.k 1)))

def bef0 : FVec Ideal S16x128x128 .bf16 := befores0 (s0 L) (d0 L) (x0 L)
def bef1 : FVec Ideal S16x128x128 .bf16 := befores1 (s1 L) (d0 L) (x1 L)
def bef2 : FVec Ideal S16x128x128 .bf16 := befores2 (s2 L) (d1 L) (x2 L)
def bef3 : FVec Ideal S16x128x128 .bf16 := befores3 (s3 L) (d1 L) (x3 L)
def o0 : FVec Ideal S1024x128 .f32 := k0_pay137 (qd0 L) (i0 L) (bef0 L) (bef1 L)
def o1 : FVec Ideal S1024x128 .f32 := k0_pay138 (qd0 L) (bef0 L) (i1 L) (bef1 L)
def o2 : FVec Ideal S1024x128 .f32 := third (i2 L) (qd1 L) (bef2 L) (s3 L) (d1 L) (x3 L)
def o3 : FVec Ideal S1024x128 .f32 := fourth (i3 L) (qd1 L) (bef2 L) (s3 L) (d1 L) (x3 L)

/-! ## The stores -/

def outs : List (View.Piece (Elt Ideal) S1024x512 .f32) :=
  [⟨Rect.unit ![0, 384] ![1024, 128] inb_S1024x512_S1024x128_0_384, o3 L⟩, ⟨Rect.unit ![0, 256] ![1024, 128] inb_S1024x512_S1024x128_0_256, o2 L⟩,
    ⟨Rect.unit ![0, 128] ![1024, 128] inb_S1024x512_S1024x128_0_128, o1 L⟩, ⟨Rect.unit ![0, 0] ![1024, 128] inb_S1024x512_S1024x128_0_0, o0 L⟩]

def befs : List (View.Piece (Elt Ideal) S16x4x128x128 .bf16) :=
  [⟨Rect.unit ![0, 3, 0, 0] ![16, 1, 128, 128] inb_S16x4x128x128_S16x1x128x128_0_3_0_0, k0_pay148 (F := Ideal) (bef3 L)⟩, ⟨Rect.unit ![0, 2, 0, 0] ![16, 1, 128, 128] inb_S16x4x128x128_S16x1x128x128_0_2_0_0, k0_pay146 (F := Ideal) (bef2 L)⟩,
    ⟨Rect.unit ![0, 1, 0, 0] ![16, 1, 128, 128] inb_S16x4x128x128_S16x1x128x128_0_1_0_0, k0_pay144 (F := Ideal) (bef1 L)⟩, ⟨Rect.unit ![0, 0, 0, 0] ![16, 1, 128, 128] inb_S16x4x128x128_S16x1x128x128_0_0_0_0, k0_pay142 (F := Ideal) (bef0 L)⟩]

def afts (R : List (View.Piece (Elt Ideal) S4x128x128 .f32)) : List (View.Piece (Elt Ideal) S4x128x128 .f32) :=
  ⟨Rect.unit ![3, 0, 0] ![1, 128, 128] inb_S4x128x128_S1x128x128_3_0_0, k0_pay1 (F := Ideal) (after3 (s3 L) (d1 L) (x3 L))⟩ :: ⟨Rect.unit ![2, 0, 0] ![1, 128, 128] inb_S4x128x128_S1x128x128_2_0_0, k0_pay147 (F := Ideal) (after2 (s2 L) (d1 L) (x2 L))⟩
    :: ⟨Rect.unit ![1, 0, 0] ![1, 128, 128] inb_S4x128x128_S1x128x128_1_0_0, k0_pay145 (F := Ideal) (after1 (s1 L) (d0 L) (x1 L))⟩ :: ⟨Rect.unit ![0, 0, 0] ![1, 128, 128] inb_S4x128x128_S1x128x128_0_0_0, k0_pay143 (F := Ideal) (after0 (s0 L) (d0 L) (x0 L))⟩ :: R

/-- What a tile's loads are of the argument arrays, and of the states before its first chunk. -/
structure Takes (a : Args) (t : Fin cfg0.N) : Prop where
  x : ∀ r (j : Fin 16), L.x (ix2 r ⟨16 + j.val, by omega⟩) = a.P (tileRow t r) ⟨1536 + j.val, by omega⟩
  w : ∀ p (j : Fin 128) l, L.w p (ix2 j l) = if h : 16 ≤ j.val ∧ j.val < 32 then a.w ⟨j.val - 16, by omega⟩ (lane p l) else 0
  b : ∀ p l, L.b p (ix2 0 l) = a.b (lane p l)
  q : ∀ p r l, L.q p (ix2 r l) = a.P (tileRow t r) ⟨(lane p l).val, by omega⟩
  k : ∀ p r l, L.k p (ix2 r l) = a.P (tileRow t r) ⟨256 + (lane p l).val, by omega⟩
  v : ∀ (h : Fin 4) r (e : Fin 128), L.v h (ix2 r e) = a.P (tileRow t r) ⟨512 + (h.val * 128 + e.val), by omega⟩
  s : ∀ p i e l, L.s (head p i) (ix3 0 e l) = a.laneState p i l e (t.val * 16)

variable {L} {a : Args} {t : Fin cfg0.N} (O : Takes L a t)

include O

theorem pair (p : Fin 2) {B : FVec Ideal S16x64x128 .f32} (hB : ∀ n s l, B (ix3 n s l) = a.decay (tileChunk t n) s.rev (lane p l)) : PairIn a p (tileChunk t) B (L.q p) (L.k p) where
  B := hB
  q n s l := (O.q p _ l).trans (by rw [tileRow_chunk])
  k n s l := (O.k p _ l).trans (by rw [tileRow_chunk])

theorem pair0 : PairIn a 0 (tileChunk t) (k0_pay16 (u0 L) c0) (L.q 0) (L.k 0) :=
  pair O 0 fun n s l => (congrFun (ladder_first k0_pay8 (g0 L)) _).trans (decay_blk t 0 _ (fun r l => gate_blk t 0 _ _ _ O.x (O.w 0) (O.b 0) r l) n s l)

theorem pair1 : PairIn a 1 (tileChunk t) (k0_pay38 (u1 L) c1 (w1 L)) (L.q 1) (L.k 1) :=
  pair O 1 fun n s l => (congrFun (ladder_second k0_pay8 (k0_pay3 L.x) (L.w 1) (L.b 1)) _).trans (decay_blk t 1 _ (fun r l => gate_blk t 1 _ _ _ O.x (O.w 1) (O.b 1) r l) n s l)

theorem val (h : Fin 4) : ValIn a h (tileChunk t) (L.v h) := fun n s e => (O.v h _ e).trans (by rw [tileRow_chunk]; rfl)

/-- A head's states, chunk by chunk, from what its carried state, decays and increments are. -/
theorem chained (p i : Fin 2) {s : FVec Ideal S128x128 .f32} {d : FVec Ideal S16x1x128 .f32} {x : FVec Ideal S16x128x128 .f32} (hs : ∀ e l, s (ix2 e l) = L.s (head p i) (ix3 0 e l))
    (hd : ∀ n l, d (ix3 n 0 l) = a.dec (tileChunk t n) (lane p l))
    (hx : ∀ n e l, x (ix3 n e l) = ∑ r : Fin 64, a.v (tileChunk t n) r (head p i) e * (a.ke (tileChunk t n) r (lane p l) * mask i l)) (n : ℕ) (hn : n ≤ 16) (e l : Fin 128) :
    chain (s (ix2 e l)) (fun j => d (ix3 j.rev 0 l)) (fun j => x (ix3 j.rev e l)) n = a.laneState p i l e (t.val * 16 + n) := by
  rw [hs, O.s]
  simp only [hd, hx]
  refine chain_state a p i e l (t.val * 16) (fun j => tileChunk t j.rev) (fun j => Fin.ext ?_) n hn
  have := t.isLt; have : cfg0.N = 8 := N_0
  show t.val * 16 + j.rev.rev.val = (t.val * 16 + j.val) % 128
  rw [Fin.rev_rev]
  omega

theorem bef0_at (n : Fin 16) (e l : Fin 128) : bef0 L (ix3 n e l) = a.laneState 0 0 l e (t.val * 16 + n.rev.val) :=
  (befores0_at _ _ _ n e l).trans (chained O 0 0 (fun e l => by pointwise [s0, k0_pay4]; rfl) (first_dec (pair0 O)) (first_inc0 (pair0 O) (val O 0)) n.rev.val n.rev.isLt.le e l)
theorem aft0_at (e l : Fin 128) : after0 (s0 L) (d0 L) (x0 L) (ix2 e l) = a.laneState 0 0 l e (t.val * 16 + 16) :=
  (after0_at _ _ _ e l).trans (chained O 0 0 (fun e l => by pointwise [s0, k0_pay4]; rfl) (first_dec (pair0 O)) (first_inc0 (pair0 O) (val O 0)) 16 le_rfl e l)
theorem bef1_at (n : Fin 16) (e l : Fin 128) : bef1 L (ix3 n e l) = a.laneState 0 1 l e (t.val * 16 + n.rev.val) :=
  (befores1_at _ _ _ n e l).trans (chained O 0 1 (fun e l => by pointwise [s1, k0_pay5]; rfl) (first_dec (pair0 O)) (first_inc1 (pair0 O) (val O 1)) n.rev.val n.rev.isLt.le e l)
theorem aft1_at (e l : Fin 128) : after1 (s1 L) (d0 L) (x1 L) (ix2 e l) = a.laneState 0 1 l e (t.val * 16 + 16) :=
  (after1_at _ _ _ e l).trans (chained O 0 1 (fun e l => by pointwise [s1, k0_pay5]; rfl) (first_dec (pair0 O)) (first_inc1 (pair0 O) (val O 1)) 16 le_rfl e l)
theorem bef2_at (n : Fin 16) (e l : Fin 128) : bef2 L (ix3 n e l) = a.laneState 1 0 l e (t.val * 16 + n.rev.val) :=
  (befores2_at _ _ _ n e l).trans (chained O 1 0 (fun e l => by pointwise [s2, k0_pay6]; rfl) (second_dec (pair1 O)) (second_inc0 (pair1 O) (val O 2)) n.rev.val n.rev.isLt.le e l)
theorem aft2_at (e l : Fin 128) : after2 (s2 L) (d1 L) (x2 L) (ix2 e l) = a.laneState 1 0 l e (t.val * 16 + 16) :=
  (after2_at _ _ _ e l).trans (chained O 1 0 (fun e l => by pointwise [s2, k0_pay6]; rfl) (second_dec (pair1 O)) (second_inc0 (pair1 O) (val O 2)) 16 le_rfl e l)
theorem bef3_at (n : Fin 16) (e l : Fin 128) : bef3 L (ix3 n e l) = a.laneState 1 1 l e (t.val * 16 + n.rev.val) :=
  (befores3_at _ _ _ n e l).trans (chained O 1 1 (fun e l => by pointwise [s3, k0_pay7]; rfl) (second_dec (pair1 O)) (second_inc1 (pair1 O) (val O 3)) n.rev.val n.rev.isLt.le e l)
theorem aft3_at (e l : Fin 128) : after3 (s3 L) (d1 L) (x3 L) (ix2 e l) = a.laneState 1 1 l e (t.val * 16 + 16) :=
  (after3_at _ _ _ e l).trans (chained O 1 1 (fun e l => by pointwise [s3, k0_pay7]; rfl) (second_dec (pair1 O)) (second_inc1 (pair1 O) (val O 3)) 16 le_rfl e l)

/-- A head's output, from its products in the chunk and its queries over the states. -/
theorem joined (p i : Fin 2) (n : Fin 16) (s : Fin 64) (e : Fin 128) {I : EReal} {q y : Fin 128 → EReal} (hI : I = ∑ r, a.score (tileChunk t n) (head p i) s.rev r * a.v (tileChunk t n) r (head p i) e)
    (hq : ∀ l, q l = a.qd (tileChunk t n) s.rev (lane p l)) (hy : ∀ l, y l = a.laneState p i l e (t.val * 16 + n.rev.val)) : I + ∑ l, q l * y l = a.out (tileChunk t n) s.rev (head p i) e := by
  unfold Args.out
  rw [hI]
  refine congrArg (_ + ·) ((Finset.sum_congr rfl fun l _ => congrArg₂ (· * ·) (hq l) (hy l)).trans ?_)
  exact a.inter_lanes (tileChunk t n) p i s.rev e (t.val * 16 + n.rev.val)

theorem o0_at (n : Fin 16) (s : Fin 64) (e : Fin 128) : o0 L (ix2 ⟨n.val * 64 + s.val, by omega⟩ e) = a.out (tileChunk t n) s.rev (head 0 0) e :=
  (out0_at _ _ _ _ n s e).trans (joined O 0 0 n s e (first_intra0 (pair0 O) (val O 0) n s e) (first_qd (pair0 O) n s) (bef0_at O n e))
theorem o1_at (n : Fin 16) (s : Fin 64) (e : Fin 128) : o1 L (ix2 ⟨n.val * 64 + s.val, by omega⟩ e) = a.out (tileChunk t n) s.rev (head 0 1) e :=
  (out1_at _ _ _ _ n s e).trans (joined O 0 1 n s e (first_intra1 (pair0 O) (val O 1) n s e) (first_qd (pair0 O) n s) (bef1_at O n e))
theorem o2_at (n : Fin 16) (s : Fin 64) (e : Fin 128) : o2 L (ix2 ⟨n.val * 64 + s.val, by omega⟩ e) = a.out (tileChunk t n) s.rev (head 1 0) e :=
  (out2_at _ _ _ n s e _ _ _).trans (joined O 1 0 n s e (second_intra0 (pair1 O) (val O 2) n s e) (second_qd (pair1 O) n s) (bef2_at O n e))
theorem o3_at (n : Fin 16) (s : Fin 64) (e : Fin 128) : o3 L (ix2 ⟨n.val * 64 + s.val, by omega⟩ e) = a.out (tileChunk t n) s.rev (head 1 1) e :=
  (out3_at _ _ _ n s e _ _ _).trans (joined O 1 1 n s e (second_intra1 (pair1 O) (val O 3) n s e) (second_qd (pair1 O) n s) (bef3_at O n e))

/-! ## What the stores leave -/

omit O in
/-- The tile's output, an entry. -/
def outT (a : Args) (t : Fin cfg0.N) (y : S1024x512.Idx) : EReal :=
  a.out (tileChunk t ⟨(y 0).val / 64, by have : (y 0).val < 1024 := (y 0).isLt; omega⟩) (⟨(y 0).val % 64, by omega⟩ : Fin 64).rev ⟨(y 1).val / 128, by have : (y 1).val < 512 := (y 1).isLt; omega⟩ ⟨(y 1).val % 128, by omega⟩

omit O in
def befT (a : Args) (t : Fin cfg0.N) (y : S16x4x128x128.Idx) : EReal := laneOf a (y 1) (y 2) (y 3) (t.val * 16 + (15 - (y 0).val))

omit O in
/-- One head's block of the output. -/
theorem block_out {o : FVec Ideal S1024x128 .f32} (h : Fin 4) (off : ℕ) (hoff : off = h.val * 128) (inb : ∀ i, (![0, off] : Fin 2 → ℕ) i + (![1024, 128] : Fin 2 → ℕ) i ≤ S1024x512.size i)
    (ho : ∀ (n : Fin 16) (s : Fin 64) (e : Fin 128), o (ix2 ⟨n.val * 64 + s.val, by omega⟩ e) = a.out (tileChunk t n) s.rev h e) (z : (Rect.unit (s := S1024x512) ![0, off] ![1024, 128] inb).shape.Idx) :
    o z = outT a t ((Rect.unit (s := S1024x512) ![0, off] ![1024, 128] inb).emb z) := by
  subst hoff
  obtain ⟨r, e, rfl⟩ : ∃ r e, z = ix2 r e := ⟨_, _, eq_ix2 z⟩
  have e0 : ((Rect.unit (s := S1024x512) ![0, h.val * 128] ![1024, 128] inb).emb (ix2 r e) 0).val = r.val := by show 0 + 1 * r.val = r.val; omega
  have e1 : ((Rect.unit (s := S1024x512) ![0, h.val * 128] ![1024, 128] inb).emb (ix2 r e) 1).val = h.val * 128 + e.val := by show h.val * 128 + 1 * e.val = _; omega
  have er : r = ⟨r.val / 64 * 64 + r.val % 64, by omega⟩ := Fin.ext (by dsimp only; omega)
  unfold outT
  simp only [e0, e1]
  refine (congrArg (fun r => o (ix2 r e)) er).trans ((ho ⟨r.val / 64, by omega⟩ ⟨r.val % 64, by omega⟩ e).trans ?_)
  congr 1
  · exact Fin.ext (by dsimp only; omega)
  · exact Fin.ext (by dsimp only; omega)

theorem outs_canon : View.canon (outs L) = outT a t := by
  have h : View.PiecesOf (Val := Elt Ideal) (s := S1024x512) (e := .f32) (outT a t) (outs L) :=
    ⟨block_out 3 384 rfl inb_S1024x512_S1024x128_0_384 (o3_at O), block_out 2 256 rfl inb_S1024x512_S1024x128_0_256 (o2_at O), block_out 1 128 rfl inb_S1024x512_S1024x128_0_128 (o1_at O), block_out 0 0 rfl inb_S1024x512_S1024x128_0_0 (o0_at O), trivial⟩
  funext y
  exact View.canon_apply_of_pieces (outT a t) _ h.mem y (View.cover_of_tiledBy (outs L) ![1024, 128] (by sl_kernel_rfl) y)

omit O in
/-- One head's block of the states before the chunks. -/
theorem block_bef {o : FVec Ideal S16x1x128x128 .bf16} (h : Fin 4) (off : ℕ) (hoff : off = h.val) (inb : ∀ i, (![0, off, 0, 0] : Fin 4 → ℕ) i + (![16, 1, 128, 128] : Fin 4 → ℕ) i ≤ S16x4x128x128.size i)
    (ho : ∀ (n : Fin 16) (e l : Fin 128), o (ix4 n 0 e l) = laneOf a h e l (t.val * 16 + n.rev.val)) (z : (Rect.unit (s := S16x4x128x128) ![0, off, 0, 0] ![16, 1, 128, 128] inb).shape.Idx) :
    o z = befT a t ((Rect.unit (s := S16x4x128x128) ![0, off, 0, 0] ![16, 1, 128, 128] inb).emb z) := by
  subst hoff
  obtain ⟨n, u, e, l, rfl⟩ : ∃ n u e l, z = ix4 n u e l := ⟨_, _, _, _, eq_ix4 z⟩
  obtain rfl : u = 0 := Subsingleton.elim u 0
  have e0 : (Rect.unit (s := S16x4x128x128) ![0, h.val, 0, 0] ![16, 1, 128, 128] inb).emb (ix4 n 0 e l) = ix4 n h e l := by
    funext i
    match i with
    | 0 => exact Fin.ext (by show 0 + 1 * n.val = n.val; omega)
    | 1 => exact Fin.ext (by show h.val + 1 * 0 = h.val; omega)
    | 2 => exact Fin.ext (by show 0 + 1 * e.val = e.val; omega)
    | 3 => exact Fin.ext (by show 0 + 1 * l.val = l.val; omega)
  rw [e0]
  refine (ho n e l).trans (congrArg (laneOf a h e l) ?_)
  show _ = t.val * 16 + (15 - n.val)
  rw [Fin.val_rev]
  omega

theorem befs_canon : View.canon (befs L) = befT a t := by
  have h : View.PiecesOf (Val := Elt Ideal) (s := S16x4x128x128) (e := .bf16) (befT a t) (befs L) :=
    ⟨block_bef 3 3 rfl inb_S16x4x128x128_S16x1x128x128_0_3_0_0 fun n e l => (show _ = bef3 L (ix3 n e l) by pointwise [k0_pay148]).trans (bef3_at O n e l), block_bef 2 2 rfl inb_S16x4x128x128_S16x1x128x128_0_2_0_0 fun n e l => (show _ = bef2 L (ix3 n e l) by pointwise [k0_pay146]).trans (bef2_at O n e l), block_bef 1 1 rfl inb_S16x4x128x128_S16x1x128x128_0_1_0_0 fun n e l => (show _ = bef1 L (ix3 n e l) by pointwise [k0_pay144]).trans (bef1_at O n e l), block_bef 0 0 rfl inb_S16x4x128x128_S16x1x128x128_0_0_0_0 fun n e l => (show _ = bef0 L (ix3 n e l) by pointwise [k0_pay142]).trans (bef0_at O n e l), trivial⟩
  funext y
  exact View.canon_apply_of_pieces (befT a t) _ h.mem y (View.cover_of_tiledBy (befs L) ![16, 1, 128, 128] (by sl_kernel_rfl) y)

theorem afts_canon (R : List (View.Piece (Elt Ideal) S4x128x128 .f32)) : View.canon (afts L R) = aftT a (t.val * 16 + 16) := by
  have h : View.PiecesOf (Val := Elt Ideal) (s := S4x128x128) (e := .f32) (aftT a (t.val * 16 + 16)) (afts L []) :=
    ⟨block_aft 3 3 rfl inb_S4x128x128_S1x128x128_3_0_0 fun e l => (show _ = after3 (s3 L) (d1 L) (x3 L) (ix2 e l) by pointwise [k0_pay1]).trans (aft3_at O e l), block_aft 2 2 rfl inb_S4x128x128_S1x128x128_2_0_0 fun e l => (show _ = after2 (s2 L) (d1 L) (x2 L) (ix2 e l) by pointwise [k0_pay147]).trans (aft2_at O e l), block_aft 1 1 rfl inb_S4x128x128_S1x128x128_1_0_0 fun e l => (show _ = after1 (s1 L) (d0 L) (x1 L) (ix2 e l) by pointwise [k0_pay145]).trans (aft1_at O e l), block_aft 0 0 rfl inb_S4x128x128_S1x128x128_0_0_0 fun e l => (show _ = after0 (s0 L) (d0 L) (x0 L) (ix2 e l) by pointwise [k0_pay143]).trans (aft0_at O e l), trivial⟩
  funext y
  exact View.canon_append_of_piecesOf (Val := Elt Ideal) (s := S4x128x128) (e := .f32) (aftT a (t.val * 16 + 16)) R (afts L []) h y (View.cover_of_tiledBy (afts L []) ![1, 128, 128] (by sl_kernel_rfl) y)

end Tile

end Cert.GlaRevIdeal.Body
end
-- ==== Proof.GlaRevValue.lean ====
/-
  THE GATED LINEAR ATTENTION, BACKWARD IN TIME: THE KERNEL'S TWO RESULTS AS FUNCTIONS OF THE ARGUMENTS.

  The tiles run from the last rows to the first; the states are carried from tile to tile and start from zero.
-/
module

public import proofs.«01_k».proof.Proof.GlaRevTile

@[expose] public section

set_option maxRecDepth 16384

noncomputable section

namespace Cert.GlaRevIdeal.Body

open Cert.GlaRevIdeal Cert.GlaRevIdeal.Gen Idealize.ShloMosaic Idealize.ShloMosaic.TcCoe Idealize.SL.Sem
open Cert.RealFacts Cert.GlaFwdMath
open Cert.GlaFwdIdeal.Body (Loads loads held held_at ld_cols laneOf_head)
open Cert.GlaFwdIdeal.Body.Loads.Of (laneOf aftT)
open scoped BigOperators

/-- The store that empties the carried states before the first chunk taken. -/
def emptied : List (View.Piece (Elt Ideal) S4x128x128 .f32) := [⟨Rect.unit ![0, 0, 0] ![4, 128, 128] inb_S4x128x128_S4x128x128_0_0_0, k0_pay2 (F := Ideal)⟩]

/-- The four heads' states, loaded back from it. -/
def fresh : Fin 4 → FVec Ideal S1x128x128 .f32 :=
  ![(View.whole cc0_scratch0).readCov (Val := Elt Ideal) emptied (Rect.unit (s := S4x128x128) ![0, 0, 0] ![1, 128, 128] inb_S4x128x128_S1x128x128_0_0_0).toLoadRect, (View.whole cc0_scratch0).readCov (Val := Elt Ideal) emptied (Rect.unit (s := S4x128x128) ![1, 0, 0] ![1, 128, 128] inb_S4x128x128_S1x128x128_1_0_0).toLoadRect,
    (View.whole cc0_scratch0).readCov (Val := Elt Ideal) emptied (Rect.unit (s := S4x128x128) ![2, 0, 0] ![1, 128, 128] inb_S4x128x128_S1x128x128_2_0_0).toLoadRect, (View.whole cc0_scratch0).readCov (Val := Elt Ideal) emptied (Rect.unit (s := S4x128x128) ![3, 0, 0] ![1, 128, 128] inb_S4x128x128_S1x128x128_3_0_0).toLoadRect]

theorem emptied_canon : View.canon emptied = fun _ => (0 : EReal) := by
  have h : View.PiecesOf (Val := Elt Ideal) (s := S4x128x128) (e := .f32) (fun _ => (0 : EReal)) emptied := ⟨fun z => by idx_vars z; pointwise [k0_pay2], trivial⟩
  funext y
  exact View.canon_apply_of_pieces (fun _ => (0 : EReal)) _ h.mem y (View.cover_of_tiledBy emptied ![4, 128, 128] (by sl_kernel_rfl) y)

theorem fresh_at (h : Fin 4) (e l : Fin 128) : fresh h (ix3 0 e l) = 0 := by
  have z : ∀ (R : LoadRect S4x128x128) (x : R.shape.Idx), (View.whole cc0_scratch0).readCov (Val := Elt Ideal) emptied R x = (0 : EReal) := fun R x => by
    rw [View.readCov_eq_canon', emptied_canon]
  match h with
  | 0 => unfold fresh; simp only [Matrix.cons_val]; exact z _ _
  | 1 => unfold fresh; simp only [Matrix.cons_val]; exact z _ _
  | 2 => unfold fresh; simp only [Matrix.cons_val]; exact z _ _
  | 3 => unfold fresh; simp only [Matrix.cons_val]; exact z _ _

section Loaded

variable (x0 x1 : FVec Ideal S1024x256 .f32) (x2 : FVec Ideal S1024x512 .f32) (x3 : FVec Ideal S1024x128 .f32) (x4 : FVec Ideal S128x256 .bf16) (x5 : FVec Ideal S1x256 .f32)
  (s : Fin 4 → FVec Ideal S1x128x128 .f32)

/-- Columns loaded of a block, at a lane of a pair. -/
theorem ld_lane {n : ℕ} {e : EltTy} (x : (⟨2, ![n, 256]⟩ : Shape).Idx → Elt Ideal e) (p : Fin 2) (inb : ∀ i, (![0, p.val * 128] : Fin 2 → ℕ) i + (![n, 128] : Fin 2 → ℕ) i ≤ (⟨2, ![n, 256]⟩ : Shape).size i) (r : Fin n) (l : Fin 128) :
    View.ld (Val := Elt Ideal) (S := ⟨2, ![n, 256]⟩) (e' := e) x (Rect.unit (s := ⟨2, ![n, 256]⟩) ![0, p.val * 128] ![n, 128] inb) (ix2 r l) = x (ix2 r (lane p l)) :=
  ld_cols x (p.val * 128) inb (by omega) r l

theorem loads_w (p : Fin 2) (j l : Fin 128) : (loads x0 x1 x2 x3 x4 x5 s).w p (ix2 j l) = x4 (ix2 j (lane p l)) :=
  match p with
  | 0 => ld_lane (e := .bf16) x4 0 inb_S128x256_S128x128_0_0 j l
  | 1 => ld_lane (e := .bf16) x4 1 inb_S128x256_S128x128_0_128 j l
theorem loads_b (p : Fin 2) (l : Fin 128) : (loads x0 x1 x2 x3 x4 x5 s).b p (ix2 0 l) = x5 (ix2 0 (lane p l)) :=
  match p with
  | 0 => ld_lane (e := .f32) x5 0 inb_S1x256_S1x128_0_0 0 l
  | 1 => ld_lane (e := .f32) x5 1 inb_S1x256_S1x128_0_128 0 l
theorem loads_q (p : Fin 2) (r : Fin 1024) (l : Fin 128) : (loads x0 x1 x2 x3 x4 x5 s).q p (ix2 r l) = x0 (ix2 r (lane p l)) :=
  match p with
  | 0 => ld_lane (e := .f32) x0 0 inb_S1024x256_S1024x128_0_0 r l
  | 1 => ld_lane (e := .f32) x0 1 inb_S1024x256_S1024x128_0_128 r l
theorem loads_k (p : Fin 2) (r : Fin 1024) (l : Fin 128) : (loads x0 x1 x2 x3 x4 x5 s).k p (ix2 r l) = x1 (ix2 r (lane p l)) :=
  match p with
  | 0 => ld_lane (e := .f32) x1 0 inb_S1024x256_S1024x128_0_0 r l
  | 1 => ld_lane (e := .f32) x1 1 inb_S1024x256_S1024x128_0_128 r l
theorem loads_v (h : Fin 4) (r : Fin 1024) (k : Fin 128) : (loads x0 x1 x2 x3 x4 x5 s).v h (ix2 r k) = x2 (ix2 r ⟨h.val * 128 + k.val, by omega⟩) :=
  match h with
  | 0 => ld_cols (e := .f32) x2 (0 * 128) inb_S1024x512_S1024x128_0_0 (by omega) r k
  | 1 => ld_cols (e := .f32) x2 (1 * 128) inb_S1024x512_S1024x128_0_128 (by omega) r k
  | 2 => ld_cols (e := .f32) x2 (2 * 128) inb_S1024x512_S1024x128_0_256 (by omega) r k
  | 3 => ld_cols (e := .f32) x2 (3 * 128) inb_S1024x512_S1024x128_0_384 (by omega) r k

end Loaded

/-- The loads at a grid point, from the four carried states. -/
def loadsAt (m : (ℓ : Loc nD τ sig) → Buf (Elt Ideal) ℓ) (c : Dev nD) (t : Fin cfg0.N) (s : Fin 4 → FVec Ideal S1x128x128 .f32) : Loads :=
  loads (X0_0 m c t) (X0_1 m c t) (X0_2 m c t) (iblk m c 3 t) (iblk m c 4 t) (iblk m c 5 t) s

/-- The loads at a grid point past the first, over the states the point before left. -/
def carried (m : (ℓ : Loc nD τ sig) → Buf (Elt Ideal) ℓ) (c : Dev nD) (t : Fin cfg0.N) (x : Vec Ideal S4x128x128 .f32) : Loads :=
  loadsAt m c t (held (View.read (Elt Ideal) (View.whole cc0_scratch0) ((Memref.isWhole_whole cc0_scratch0).unread x)))

/-- The first result: the attention's output, head by head, the rows counted from the last. -/
def outR (a : Args) : FVec Ideal S8192x512 .f32 := fun y =>
  a.out ⟨(8191 - (y 0).val) / 64, by omega⟩ ⟨(8191 - (y 0).val) % 64, by omega⟩ ⟨(y 1).val / 128, by have : (y 1).val < 512 := (y 1).isLt; omega⟩ ⟨(y 1).val % 128, by omega⟩

/-- The second: the states before each chunk, in the lanes of their pairs, the chunks counted from the last. -/
def statesR (a : Args) : FVec Ideal S128x4x128x128 .bf16 := fun y => laneOf a (y 1) (y 2) (y 3) (127 - (y 0).val)

section Point

variable {m : (ℓ : Loc nD τ sig) → Buf (Elt Ideal) ℓ} {c : Dev nD} {a : Args} (H : Holds m c a)

include H

variable (t : Fin cfg0.N) (s : Fin 4 → FVec Ideal S1x128x128 .f32)

/-- A tile's loads are of the argument arrays. -/
theorem loads_of (hs : ∀ p i e l, s (head p i) (ix3 0 e l) = a.laneState p i l e (t.val * 16)) :
    Takes (loadsAt m c t s) a t where
  x := factor_blk H t
  w := fun p j l => (loads_w _ _ _ _ _ _ _ p j l).trans (weight_blk H t j (lane p l))
  b := fun p l => (loads_b _ _ _ _ _ _ _ p l).trans (bias_blk H t (lane p l))
  q := fun p r l => (loads_q _ _ _ _ _ _ _ p r l).trans ((cols_blk H t r).1 (lane p l))
  k := fun p r l => (loads_k _ _ _ _ _ _ _ p r l).trans ((cols_blk H t r).2.1 (lane p l))
  v := fun h r e => (loads_v _ _ _ _ _ _ _ h r e).trans ((cols_blk H t r).2.2 ⟨h.val * 128 + e.val, by omega⟩)
  s := hs

omit H in
/-- What a point past the first leaves are its stores, over the states the point before left. -/
theorem stores_B (h0 : ¬ t.val % 8 = 0) (x : Vec Ideal S4x128x128 .f32) (hx : (outsAt0 m c (t.val - 1) (Nat.lt_of_le_of_lt (Nat.sub_le _ _) t.isLt)).2.2 = x) :
    (outsAt0 m c t.val t.isLt).1 = View.canon (outs (carried m c t x)) ∧ (outsAt0 m c t.val t.isLt).2.1 = View.canon (befs (carried m c t x))
      ∧ (outsAt0 m c t.val t.isLt).2.2 = View.canon (afts (carried m c t x) []) := by
  rw [outsAt0_B m c t h0, hx]
  refine ⟨?_, ?_, ?_⟩ <;> frame_out <;> simp only [carried, loadsAt, loads, outs, befs, afts, o0, o1, o2, o3, third, fourth, i0, i1, i2, i3, qd0, qd1, x0, x1, x2, x3, d0, d1, s0, s1, s2, s3, bef0, bef1, bef2, bef3, befores0, befores1, befores2, befores3, between3,
    after0, after1, after2, after3, g0, g1, u0, u1, c0, c1, w1, halves, held, fresh, emptied, Matrix.cons_val]

omit H in
/-- What the first point leaves are its stores. -/
theorem stores_A (h0 : t.val % 8 = 0) :
    (outsAt0 m c t.val t.isLt).1 = View.canon (outs (loadsAt m c t fresh)) ∧ (outsAt0 m c t.val t.isLt).2.1 = View.canon (befs (loadsAt m c t fresh))
      ∧ (outsAt0 m c t.val t.isLt).2.2 = View.canon (afts (loadsAt m c t fresh) emptied) := by
  rw [outsAt0_A m c t h0]
  refine ⟨?_, ?_, ?_⟩ <;> frame_out <;> simp only [carried, loadsAt, loads, outs, befs, afts, o0, o1, o2, o3, third, fourth, i0, i1, i2, i3, qd0, qd1, x0, x1, x2, x3, d0, d1, s0, s1, s2, s3, bef0, bef1, bef2, bef3, befores0, befores1, befores2, befores3, between3,
    after0, after1, after2, after3, g0, g1, u0, u1, c0, c1, w1, halves, held, fresh, emptied, Matrix.cons_val]

/-- What every point leaves. -/
theorem points (n : ℕ) (h : n < cfg0.N) : (outsAt0 m c n h).1 = outT a ⟨n, h⟩ ∧ (outsAt0 m c n h).2.1 = befT a ⟨n, h⟩ ∧ (outsAt0 m c n h).2.2 = aftT a (n * 16 + 16) := by
  induction n with
  | zero =>
    have O : Takes (loadsAt m c ⟨0, h⟩ fresh) a ⟨0, h⟩ := loads_of H ⟨0, h⟩ fresh fun p i e l => (fresh_at _ e l).trans (a.laneState_zero p i l e).symm
    have S := stores_A (m := m) (c := c) ⟨0, h⟩ rfl
    exact ⟨S.1.trans (outs_canon O), S.2.1.trans (befs_canon O), S.2.2.trans (afts_canon O emptied)⟩
  | succ n ih =>
    have hN : cfg0.N = 8 := N_0
    have O : Takes (carried m c ⟨n + 1, h⟩ (aftT a (n * 16 + 16))) a ⟨n + 1, h⟩ := loads_of H ⟨n + 1, h⟩ _ fun p i e l => by
      rw [held_at]
      refine (congrFun ((Memref.isWhole_whole cc0_scratch0).read_unread (show Vec Ideal S4x128x128 .f32 from aftT a (n * 16 + 16))) _).trans ?_
      refine (laneOf_head a p i e l (n * 16 + 16)).trans (congrArg (a.laneState p i l e) ?_)
      show n * 16 + 16 = (n + 1) * 16
      omega
    have S := stores_B (m := m) (c := c) ⟨n + 1, h⟩ (show ¬ (n + 1) % 8 = 0 by omega) _ (ih (by omega)).2.2
    exact ⟨S.1.trans (outs_canon O), S.2.1.trans (befs_canon O), S.2.2.trans (afts_canon O [])⟩

theorem out_eq : (dats m 0 c).arrAt 7 cfg0.N = outR a := by
  have hN : cfg0.N = 8 := N_0
  refine (dats m 0 c).arrAt_eq_of_cover 7 _ (fun t hf => ?_) (fun i => ?_)
  · rw [Value.flushed7, (points H t.val t.isLt).1]
    obtain ⟨-, -, -, -, -, -, e7, -⟩ := idx t
    have q0 : win0_7.index t (0 : Fin 2) = 7 - t.val := congrFun e7 0
    have q1 : win0_7.index t (1 : Fin 2) = 0 := congrFun e7 1
    have ht : t.val < 8 := lt_of_lt_of_eq t.isLt hN
    funext y
    have hy0 : (y 0).val < 1024 := (y 0).isLt
    have hy1 : (y 1).val < 512 := (y 1).isLt
    have hb0 : (((cfg0.win 7).blk t).view.emb y 0).val = win0_7.index t (0 : Fin 2) * 1024 + 1 * (y 0).val := rfl
    have hb1 : (((cfg0.win 7).blk t).view.emb y 1).val = win0_7.index t (1 : Fin 2) * 512 + 1 * (y 1).val := rfl
    show outT a t ((cfg0.win 7).xinj (grid0.coords t) y) = outR a (((cfg0.win 7).blk t).view.emb y)
    unfold outT outR
    congr 1
    · exact Fin.ext (by show t.val * 16 + (⟨(y 0).val / 64, _⟩ : Fin 16).rev.val = (8191 - (((cfg0.win 7).blk t).view.emb y 0).val) / 64; rw [hb0, q0, Fin.val_rev]; dsimp only; omega)
    · exact Fin.ext (by show (⟨(y 0).val % 64, _⟩ : Fin 64).rev.val = (8191 - (((cfg0.win 7).blk t).view.emb y 0).val) % 64; rw [hb0, q0, Fin.val_rev]; dsimp only; omega)
    · exact Fin.ext (by show (y 1).val / 128 = (((cfg0.win 7).blk t).view.emb y 1).val / 128; rw [hb1, q1]; omega)
    · exact Fin.ext (by show (y 1).val % 128 = (((cfg0.win 7).blk t).view.emb y 1).val % 128; rw [hb1, q1]; omega)
  · have hi0 : (i 0).val < 8192 := (i 0).isLt
    have hi1 : (i 1).val < 512 := (i 1).isLt
    let t : Fin cfg0.N := ⟨7 - (i 0).val / 1024, by omega⟩
    obtain ⟨-, -, -, -, -, -, e7, -⟩ := idx t
    have q0 : win0_7.index t (0 : Fin 2) = 7 - (7 - (i 0).val / 1024) := congrFun e7 0
    have q1 : win0_7.index t (1 : Fin 2) = 0 := congrFun e7 1
    refine ⟨t, (by decide +kernel : ∀ t : Fin grid0.N, win0_7.flush t = true) t, ?_⟩
    show i ∈ ((View.whole main_v11_0).slice (win0_7.rect t)).set
    rw [View.set_slice_whole, Rect.mem_set_unit]
    intro k
    match k with
    | ⟨0, _⟩ => show win0_7.index t (0 : Fin 2) * 1024 ≤ (i 0).val ∧ (i 0).val < win0_7.index t (0 : Fin 2) * 1024 + 1024; rw [q0]; omega
    | ⟨1, _⟩ => show win0_7.index t (1 : Fin 2) * 512 ≤ (i 1).val ∧ (i 1).val < win0_7.index t (1 : Fin 2) * 512 + 512; rw [q1]; omega

theorem states_eq : (dats m 0 c).arrAt 8 cfg0.N = statesR a := by
  have hN : cfg0.N = 8 := N_0
  refine (dats m 0 c).arrAt_eq_of_cover 8 _ (fun t hf => ?_) (fun i => ?_)
  · rw [Value.flushed8, (points H t.val t.isLt).2.1]
    obtain ⟨-, -, -, -, -, -, -, e8⟩ := idx t
    have q0 : win0_8.index t (0 : Fin 4) = 7 - t.val := congrFun e8 0
    have q (k : Fin 3) : win0_8.index t k.succ = 0 := (congrFun e8 k.succ).trans (by fin_cases k <;> rfl)
    have ht : t.val < 8 := lt_of_lt_of_eq t.isLt hN
    funext y
    have hy0 : (y 0).val < 16 := (y 0).isLt
    have hb0 : (((cfg0.win 8).blk t).view.emb y 0).val = win0_8.index t (0 : Fin 4) * 16 + 1 * (y 0).val := rfl
    have hb1 : (((cfg0.win 8).blk t).view.emb y 1).val = win0_8.index t (1 : Fin 4) * 4 + 1 * (y 1).val := rfl
    have hb2 : (((cfg0.win 8).blk t).view.emb y 2).val = win0_8.index t (2 : Fin 4) * 128 + 1 * (y 2).val := rfl
    have hb3 : (((cfg0.win 8).blk t).view.emb y 3).val = win0_8.index t (3 : Fin 4) * 128 + 1 * (y 3).val := rfl
    show befT a t ((cfg0.win 8).xinj (grid0.coords t) y) = statesR a (((cfg0.win 8).blk t).view.emb y)
    have k1 : ((cfg0.win 8).xinj (grid0.coords t) y : S16x4x128x128.Idx) 1 = (((cfg0.win 8).blk t).view.emb y : S128x4x128x128.Idx) 1 := Fin.ext (by show (y 1).val = _; rw [hb1, show win0_8.index t (1 : Fin 4) = 0 from q 0]; omega)
    have k2 : ((cfg0.win 8).xinj (grid0.coords t) y : S16x4x128x128.Idx) 2 = (((cfg0.win 8).blk t).view.emb y : S128x4x128x128.Idx) 2 := Fin.ext (by show (y 2).val = _; rw [hb2, show win0_8.index t (2 : Fin 4) = 0 from q 1]; omega)
    have k3 : ((cfg0.win 8).xinj (grid0.coords t) y : S16x4x128x128.Idx) 3 = (((cfg0.win 8).blk t).view.emb y : S128x4x128x128.Idx) 3 := Fin.ext (by show (y 3).val = _; rw [hb3, show win0_8.index t (3 : Fin 4) = 0 from q 2]; omega)
    have k0 : t.val * 16 + (15 - (y 0).val) = 127 - (((cfg0.win 8).blk t).view.emb y 0).val := by
      rw [hb0, q0]
      omega
    exact (congrArg (laneOf a _ _ _) k0).trans (congr (congr (congrArg (laneOf a) k1) k2) k3 ▸ rfl)
  · have hi0 : (i 0).val < 128 := (i 0).isLt
    let t : Fin cfg0.N := ⟨7 - (i 0).val / 16, by omega⟩
    obtain ⟨-, -, -, -, -, -, -, e8⟩ := idx t
    have q0 : win0_8.index t (0 : Fin 4) = 7 - (7 - (i 0).val / 16) := congrFun e8 0
    have q (k : Fin 3) : win0_8.index t k.succ = 0 := (congrFun e8 k.succ).trans (by fin_cases k <;> rfl)
    refine ⟨t, (by decide +kernel : ∀ t : Fin grid0.N, win0_8.flush t = true) t, ?_⟩
    show i ∈ ((View.whole main_v11_1).slice (win0_8.rect t)).set
    rw [View.set_slice_whole, Rect.mem_set_unit]
    intro k
    match k with
    | ⟨0, _⟩ => show win0_8.index t (0 : Fin 4) * 16 ≤ (i 0).val ∧ (i 0).val < win0_8.index t (0 : Fin 4) * 16 + 16; rw [q0]; omega
    | ⟨1, _⟩ => show win0_8.index t (1 : Fin 4) * 4 ≤ (i 1).val ∧ (i 1).val < win0_8.index t (1 : Fin 4) * 4 + 4; rw [show win0_8.index t (1 : Fin 4) = 0 from q 0]; have : (i 1).val < 4 := (i 1).isLt; omega
    | ⟨2, _⟩ => show win0_8.index t (2 : Fin 4) * 128 ≤ (i 2).val ∧ (i 2).val < win0_8.index t (2 : Fin 4) * 128 + 128; rw [show win0_8.index t (2 : Fin 4) = 0 from q 1]; have : (i 2).val < 128 := (i 2).isLt; omega
    | ⟨3, _⟩ => show win0_8.index t (3 : Fin 4) * 128 ≤ (i 3).val ∧ (i 3).val < win0_8.index t (3 : Fin 4) * 128 + 128; rw [show win0_8.index t (3 : Fin 4) = 0 from q 2]; have : (i 3).val < 128 := (i 3).isLt; omega

end Point

end Cert.GlaRevIdeal.Body
end
-- ==== Proof.GlaRevRef.lean ====
/-
  THE GATED LINEAR ATTENTION, BACKWARD IN TIME: THE REFERENCE'S RESULTS AS FUNCTIONS OF THE ARGUMENTS.

  Stretch by stretch, over any contents before the stretch.
-/
module

public import proofs.«01_k».proof.Proof.GlaFwdTrip
public import proofs.«01_k».proof.Proof.Gen.GlaRevRefIdeal.Run
public import Idealize.ShloMosaic.Lib.Pipeline.ValueKit
public import Idealize.ShloMosaic.Lib.StableHlo.ReadAt

@[expose] public section

set_option maxRecDepth 16384

noncomputable section

namespace Cert.GlaRevRefIdeal.Ref

open Cert.GlaRevRefIdeal Cert.GlaRevRefIdeal.Gen Cert.GlaRevRefIdeal.Value Idealize.ShloMosaic Idealize.ShloMosaic.TcCoe Idealize.ShloMosaic.StableHlo Idealize.SL.Sem
open Cert.RealFacts Cert.GlaFwdMath
open Cert.GlaFwdRefIdeal.Ref (soft div_16 window_sum of_zero start4 start5)
open scoped BigOperators

abbrev Vals := Valuation τ sig (Elt Ideal)

abbrev A0 (X : Vals) : FVec Ideal S1x8192x2592 .f32 := X (Proc.devRef .tc main_arg0)
abbrev A1 (X : Vals) : FVec Ideal S1x16x256 .f32 := X (Proc.devRef .tc main_arg1)
abbrev A2 (X : Vals) : FVec Ideal S1x256 .f32 := X (Proc.devRef .tc main_arg2)
abbrev V9 (X : Vals) : FVec Ideal S1x8192x4x64 .f32 := X (Proc.devRef .tc main_v9)
abbrev V10 (X : Vals) : FVec Ideal S1x8192x4x64 .f32 := X (Proc.devRef .tc main_v10)
abbrev V11 (X : Vals) : FVec Ideal S1x8192x4x128 .f32 := X (Proc.devRef .tc main_v11)
abbrev V17 (X : Vals) : FVec Ideal S1x8192x256 .f32 := X (Proc.devRef .tc main_v17)
abbrev V18 (X : Vals) : FVec Ideal S1x8192x256 .f32 := X (Proc.devRef .tc main_v18)
abbrev V21 (X : Vals) : FVec Ideal S1x8192x4x64 .f32 := X (Proc.devRef .tc main_v21)
abbrev V22 (X : Vals) : FVec Ideal S1x8192x4x64 .f32 := X (Proc.devRef .tc main_v22)
abbrev V23 (X : Vals) : FVec Ideal S1x8192x4x64 .f32 := X (Proc.devRef .tc main_v23)
abbrev V24 (X : Vals) : FVec Ideal S1x8192x4x128 .f32 := X (Proc.devRef .tc main_v24)
abbrev V25 (X : Vals) : FVec Ideal S1x8192x4x64 .f32 := X (Proc.devRef .tc main_v25)
abbrev V26 (X : Vals) : FVec Ideal S1x128x64x4x64 .f32 := X (Proc.devRef .tc main_v26)
abbrev V27 (X : Vals) : FVec Ideal S1x128x64x4x64 .f32 := X (Proc.devRef .tc main_v27)
abbrev V28 (X : Vals) : FVec Ideal S1x128x64x4x128 .f32 := X (Proc.devRef .tc main_v28)
abbrev V29 (X : Vals) : FVec Ideal S1x128x64x4x64 .f32 := X (Proc.devRef .tc main_v29)
abbrev V30 (X : Vals) : FVec Ideal S1x128x64x4x64 .f32 := X (Proc.devRef .tc main_v30)
abbrev V32 (X : Vals) : FVec Ideal S1x128x4x64 .f32 := X (Proc.devRef .tc main_v32)
abbrev V34 (X : Vals) : FVec Ideal S1x128x64x4x64 .f32 := X (Proc.devRef .tc main_v34)
abbrev V42 (X : Vals) : FVec Ideal S1x128x64x4x64 .f32 := X (Proc.devRef .tc main_v42)
abbrev V43 (X : Vals) : FVec Ideal S1x128x4x64x64 .f32 := X (Proc.devRef .tc main_v43)
abbrev V44 (X : Vals) : IVec S64x64 1 := X (Proc.devRef .tc main_v44)
abbrev V45 (X : Vals) : IVec S64x64 1 := X (Proc.devRef .tc main_v45)
abbrev Z (X : Vals) : FVec Ideal S_ .f32 := X (Proc.devRef .tc main_cst_1)
abbrev V46 (X : Vals) : FVec Ideal S1x128x4x64x64 .f32 := X (Proc.devRef .tc main_v46)
abbrev V48 (X : Vals) : FVec Ideal S1x128x64x4x128 .f32 := X (Proc.devRef .tc main_v48)
abbrev L0 (X : Vals) : FVec Ideal S128x1x4x64x128 .f32 := X (Proc.devRef .tc main_v55_0)
abbrev L1 (X : Vals) : FVec Ideal S128x1x4x64 .f32 := X (Proc.devRef .tc main_v55_1)
abbrev L2 (X : Vals) : IVec S_ 32 := X (Proc.devRef .tc main_v55_2)
abbrev L3 (X : Vals) : FVec Ideal S1x4x64x128 .f32 := X (Proc.devRef .tc main_v55_3)
abbrev L4 (X : Vals) : FVec Ideal S128x1x4x64x128 .f32 := X (Proc.devRef .tc main_v55_4)
abbrev V56 (X : Vals) : FVec Ideal S1x128x4x64x128 .f32 := X (Proc.devRef .tc main_v56)
abbrev V60 (X : Vals) : FVec Ideal S1x8192x4x128 .f32 := X (Proc.devRef .tc main_v60)
abbrev V61 (X : Vals) : FVec Ideal S1x8192x4x128 .f32 := X (Proc.devRef .tc main_v61)
abbrev V62 (X : Vals) : FVec Ideal S1x128x4x64x128 .f32 := X (Proc.devRef .tc main_v62)
abbrev V64 (X : Vals) : FVec Ideal S128x4x128x64 .f32 := X (Proc.devRef .tc main_v64)
abbrev V65 (X : Vals) : FVec Ideal S128x2x128x64 .f32 := X (Proc.devRef .tc main_v65)
abbrev V66 (X : Vals) : FVec Ideal S128x2x128x128 .f32 := X (Proc.devRef .tc main_v66)
abbrev V67 (X : Vals) : FVec Ideal S128x2x128x64 .f32 := X (Proc.devRef .tc main_v67)
abbrev V68 (X : Vals) : FVec Ideal S128x2x128x128 .f32 := X (Proc.devRef .tc main_v68)
abbrev V69 (X : Vals) : FVec Ideal S8192x512 .f32 := X (Proc.devRef .tc main_v69)
abbrev V74 (X : Vals) : FVec Ideal S128x4x128x128 .bf16 := X (Proc.devRef .tc main_v74)

variable (X : Vals)

theorem at_v9 (r : Fin 8192) (h : Fin 4) (d : Fin 64) : V9 (after hostOps0 X) (ix4 0 r h d) = A0 X (ix3 0 r ⟨h.val * 64 + d.val, by omega⟩) * eighth := by
  unfold V9 A0
  after_reads_at
  rfl
theorem at_v10 (r : Fin 8192) (h : Fin 4) (d : Fin 64) : V10 (after hostOps0 X) (ix4 0 r h d) = A0 X (ix3 0 r ⟨256 + (h.val * 64 + d.val), by omega⟩) := by
  unfold V10 A0
  after_reads_at

theorem at_v11 (r : Fin 8192) (h : Fin 4) (d : Fin 128) : V11 (after hostOps0 X) (ix4 0 r h d) = A0 X (ix3 0 r ⟨512 + (h.val * 128 + d.val), by omega⟩) := by
  unfold V11 A0
  after_reads_at
theorem at_v17 (r : Fin 8192) (k : Fin 256) : V17 (after hostOps0 X) (ix3 0 r k) = (∑ j : Fin 16, A0 X (ix3 0 r ⟨1552 + j.val, by omega⟩) * A1 X (ix3 0 j k)) + A2 X (ix2 0 k) := by
  unfold V17 A0 A1 A2
  after_reads_at
theorem at_v18 (r : Fin 8192) (k : Fin 256) : V18 (after hostOps0_1 X) (ix3 0 r k) = logSig (V17 X (ix3 0 r k)) := by
  unfold V18 V17
  after_reads_at
  exact soft _
theorem at_v21 (r : Fin 8192) (h : Fin 4) (d : Fin 64) : V21 (after hostOps0_2 X) (ix4 0 r h d) = Ideal.div (V18 X (ix3 0 r (col h d))) (Ideal.ofBits .f32 0x41800000#32) := by
  unfold V21 V18
  after_reads_at
  rfl
/-- The rows reversed. -/
theorem at_v22 (r : Fin 8192) (h : Fin 4) (d : Fin 64) : V22 (after hostOps0_3 X) (ix4 0 r h d) = V9 X (ix4 0 r.rev h d) := by
  unfold V22 V9
  after_reads_at
  rfl
theorem at_v23 (r : Fin 8192) (h : Fin 4) (d : Fin 64) : V23 (after hostOps0_4 X) (ix4 0 r h d) = V10 X (ix4 0 r.rev h d) := by
  unfold V23 V10
  after_reads_at
  rfl
theorem at_v24 (r : Fin 8192) (h : Fin 4) (d : Fin 128) : V24 (after hostOps0_5 X) (ix4 0 r h d) = V11 X (ix4 0 r.rev h d) := by
  unfold V24 V11
  after_reads_at
  rfl
theorem at_v25 (r : Fin 8192) (h : Fin 4) (d : Fin 64) : V25 (after hostOps0_6 X) (ix4 0 r h d) = V21 X (ix4 0 r.rev h d) := by
  unfold V25 V21
  after_reads_at
  rfl
/-- And cut into chunks. -/
theorem at_chunks (n : Fin 128) (t : Fin 64) (h : Fin 4) : (∀ d : Fin 64, V26 (after hostOps0_7 X) (ix5 0 n t h d) = V22 X (ix4 0 (row n t) h d)) ∧ (∀ d : Fin 64, V27 (after hostOps0_7 X) (ix5 0 n t h d) = V23 X (ix4 0 (row n t) h d))
    ∧ (∀ d : Fin 128, V28 (after hostOps0_7 X) (ix5 0 n t h d) = V24 X (ix4 0 (row n t) h d)) ∧ (∀ d : Fin 64, V29 (after hostOps0_7 X) (ix5 0 n t h d) = V25 X (ix4 0 (row n t) h d)) := by
  unfold V22 V23 V24 V25 V26 V27 V28 V29
  refine ⟨fun d => ?_, fun d => ?_, fun d => ?_, fun d => ?_⟩ <;> after_reads_at <;> rfl
theorem at_v30 (n : Fin 128) (t : Fin 64) (h : Fin 4) (d : Fin 64) : V30 (after hostOps0_8 X) (ix5 0 n t h d) = ∑ u ∈ Finset.range (t.val + 1), if hu : u < 64 then V29 X (ix5 0 n ⟨u, hu⟩ h d) else 0 := by
  unfold V30 V29
  after_reads_at
  exact window_sum _ _ (fun i => by pointwise) _ _ n t h d
theorem at_v32 (n : Fin 128) (h : Fin 4) (d : Fin 64) : V32 (after hostOps0_9 X) (ix4 0 n h d) = V30 X (ix5 0 n 63 h d) := by
  unfold V32 V30
  after_reads_at
theorem at_v34 (n : Fin 128) (t : Fin 64) (h : Fin 4) (d : Fin 64) : V34 (after hostOps0_9 X) (ix5 0 n t h d) = V26 X (ix5 0 n t h d) * Ideal.exp (V30 X (ix5 0 n t h d)) := by
  unfold V34 V26 V30
  after_reads_at
theorem at_v42 (n : Fin 128) (t : Fin 64) (h : Fin 4) (d : Fin 64) : V42 (after hostOps0_9 X) (ix5 0 n t h d) = V27 X (ix5 0 n t h d) * Ideal.exp (V30 X (ix5 0 n 63 h d) - V30 X (ix5 0 n t h d)) := by
  unfold V42 V27 V30
  after_reads_at
theorem at_v43 (n : Fin 128) (h : Fin 4) (t s : Fin 64) : V43 (after hostOps0_9 X) (ix5 0 n h t s)
    = ∑ d : Fin 64, (V26 X (ix5 0 n t h d) * Ideal.exp (V30 X (ix5 0 n t h d))) * (V27 X (ix5 0 n s h d) * Ideal.exp (- V30 X (ix5 0 n s h d))) := by
  unfold V43 V26 V27 V30
  after_reads_at
theorem at_v44 (t s : Fin 64) : V44 (after hostOps0_9 X) (ix2 t s) = 1#1 := by
  unfold V44
  after_reads_at
theorem at_v45 (t s : Fin 64) : V45 (after hostOps0_10 X) (ix2 t s) = if s ≤ t then V44 X (ix2 t s) else 0#1 := by
  unfold V45 V44
  after_reads_at
  rw [show IntOp.cmpi CmpIPredicate.sge (IntOp.addi (BitVec.ofNat 32 t.val) 0#32) (BitVec.ofNat 32 s.val) = if s ≤ t then 1#1 else 0#1 by revert t s; decide +kernel]
  split
  · exact if_pos rfl
  · exact if_neg (by decide)
theorem at_z (i) : Z (after hostOps0_11 X) i = 0 := by
  unfold Z
  after_reads_at
theorem at_v46 (n : Fin 128) (h : Fin 4) (t s : Fin 64) : V46 (after hostOps0_12 X) (ix5 0 n h t s) = Scalar.select (V45 X (ix2 t s)) (V43 X (ix5 0 n h t s)) (Z X ix0) := by
  unfold V46 V45 V43 Z
  after_reads_at
  rfl
theorem at_v48 (n : Fin 128) (t : Fin 64) (h : Fin 4) (e : Fin 128) : V48 (after hostOps0_13 X) (ix5 0 n t h e) = ∑ s : Fin 64, V28 X (ix5 0 n s h e) * V46 X (ix5 0 n h t s) := by
  unfold V48 V28 V46
  after_reads_at
theorem at_l0 (n : Fin 128) (h : Fin 4) (d : Fin 64) (e : Fin 128) : L0 (after hostOps0_13 X) (ix5 n 0 h d e) = ∑ s : Fin 64, V42 X (ix5 0 n s h d) * V28 X (ix5 0 n s h e) := by
  unfold L0 V28 V42
  after_reads_at
  rw [id_eq]
  pointwise
theorem at_l1 (n : Fin 128) (h : Fin 4) (d : Fin 64) : L1 (after hostOps0_13 X) (ix4 n 0 h d) = Ideal.exp (V32 X (ix4 0 n h d)) := by
  unfold L1 V32
  after_reads_at
  rw [id_eq]
  pointwise
theorem at_l2 : L2 (after hostOps0_13 X) = fun _ => 0#32 := by
  unfold L2
  after_reads_at
  rfl
theorem at_l3 (h : Fin 4) (d : Fin 64) (e : Fin 128) : L3 (after hostOps0_13 X) (ix4 0 h d e) = 0 := by
  unfold L3
  after_reads_at
  rw [id_eq]
  pointwise
end Cert.GlaRevRefIdeal.Ref
end
-- ==== Proof.GlaRevTrip.lean ====
/-
  THE GATED LINEAR ATTENTION, BACKWARD IN TIME: THE REFERENCE'S RESULTS AS FUNCTIONS OF THE ARGUMENTS.

  Stretch by stretch, over any contents before the stretch.
-/
module

public import proofs.«01_k».proof.Proof.GlaRevRef

@[expose] public section

set_option maxRecDepth 16384

noncomputable section

namespace Cert.GlaRevRefIdeal.Ref

open Cert.GlaRevRefIdeal Cert.GlaRevRefIdeal.Gen Cert.GlaRevRefIdeal.Value Idealize.ShloMosaic Idealize.ShloMosaic.TcCoe Idealize.ShloMosaic.StableHlo Idealize.SL.Sem
open Cert.RealFacts Cert.GlaFwdMath
open Cert.GlaFwdRefIdeal.Ref (soft div_16 window_sum of_zero start4 start5)
open scoped BigOperators

variable (X : Vals)

theorem at_v60 (r : Fin 8192) (h : Fin 4) (e : Fin 128) : V60 (after hostOps0_14 X) (ix4 0 r h e)
    = V48 X (ix5 0 ⟨r.val / 64, by omega⟩ ⟨r.val % 64, by omega⟩ h e)
      + ∑ d : Fin 64, L4 X (ix5 ⟨r.val / 64, by omega⟩ 0 h d e) * V34 X (ix5 0 ⟨r.val / 64, by omega⟩ ⟨r.val % 64, by omega⟩ h d) := by
  unfold V60 V48 L4 V34
  after_reads_at
/-- The outputs and the states in the order of the rows. -/
theorem at_v61 (r : Fin 8192) (h : Fin 4) (e : Fin 128) : V61 (after hostOps0_15 X) (ix4 0 r h e) = V60 X (ix4 0 r.rev h e) := by
  unfold V61 V60
  after_reads_at
  rfl
theorem at_v62 (n : Fin 128) (h : Fin 4) (d : Fin 64) (e : Fin 128) : V62 (after hostOps0_16 X) (ix5 0 n h d e) = V56 X (ix5 0 n.rev h d e) := by
  unfold V62 V56
  after_reads_at
  rfl
theorem at_v56 (n : Fin 128) (h : Fin 4) (d : Fin 64) (e : Fin 128) : V56 (after hostOps0_14 X) (ix5 0 n h d e) = L4 X (ix5 n 0 h d e) := by
  unfold V56 L4
  after_reads_at
theorem at_v64 (n : Fin 128) (h : Fin 4) (e : Fin 128) (d : Fin 64) : V64 (after hostOps0_17 X) (ix4 n h e d) = V62 X (ix5 0 n h d e) := by
  unfold V64 V62
  after_reads_at
theorem at_v65 (n : Fin 128) (p : Fin 2) (e : Fin 128) (d : Fin 64) : V65 (after hostOps0_17 X) (ix4 n p e d) = V62 X (ix5 0 n (head p 0) d e) := by
  unfold V65 V62
  after_reads_at
  exact congrArg (fun h => V62 X (ix5 0 n h d e)) (Fin.ext (by show 2 * p.val = p.val * 2 + 0; omega))
abbrev C5 (X : Vals) : IVec S_ 32 := X (Proc.devRef .tc main_c_5)
abbrev C6 (X : Vals) : IVec S_ 32 := X (Proc.devRef .tc main_c_6)
theorem at_c5 (i) : C5 (after hostOps0_17 X) i = 0#32 := by
  unfold C5
  after_reads_at
theorem at_v66 (hz : ∀ i, C5 X i = 0#32) (n : Fin 128) (p : Fin 2) (e l : Fin 128) : V66 (after hostOps0_18 X) (ix4 n p e l)
    = if hl : l.val < 64 then V65 X (ix4 n p e ⟨l.val, hl⟩) else 0 := by
  unfold V66 V65
  after_reads_at
  by_cases hl : l.val < 64
  · rw [dif_pos hl, dif_pos hl]
  · rw [dif_neg hl, dif_neg hl]
    exact (congrArg (FloatOps.sitofp (F := Ideal) .f32) (hz _)).trans of_zero
theorem at_v67 (n : Fin 128) (p : Fin 2) (e : Fin 128) (d : Fin 64) : V67 (after hostOps0_19 X) (ix4 n p e d) = V64 X (ix4 n (head p 1) e d) := by
  unfold V67 V64
  after_reads_at
  exact congrArg (fun h => V64 X (ix4 n h e d)) (Fin.ext (by show 1 + 2 * p.val = p.val * 2 + 1; omega))
theorem at_c6 (i) : C6 (after hostOps0_19 X) i = 0#32 := by
  unfold C6
  after_reads_at
theorem at_v68 (hz : ∀ i, C6 X i = 0#32) (n : Fin 128) (p : Fin 2) (e l : Fin 128) : V68 (after hostOps0_20 X) (ix4 n p e l)
    = if hl : 64 ≤ l.val then V67 X (ix4 n p e ⟨l.val - 64, by omega⟩) else 0 := by
  unfold V68 V67
  after_reads_at
  by_cases hl : 64 ≤ l.val
  · rw [dif_pos hl, dif_pos ⟨hl, by omega⟩]
  · rw [dif_neg hl, dif_neg fun h => hl h.1]
    exact (congrArg (FloatOps.sitofp (F := Ideal) .f32) (hz _)).trans of_zero
theorem at_v69 (r : Fin 8192) (k : Fin 512) : V69 (after hostOps0_21 X) (ix2 r k) = V61 X (ix4 0 r ⟨k.val / 128, by omega⟩ ⟨k.val % 128, by omega⟩) := by
  unfold V69 V61
  after_reads_at

abbrev V70 (X : Vals) : FVec Ideal S128x2x1x128x128 .f32 := X (Proc.devRef .tc main_v70)
abbrev V71 (X : Vals) : FVec Ideal S128x2x1x128x128 .f32 := X (Proc.devRef .tc main_v71)
/-- The last stretch up to the two stacks, and after them. -/
def stackOps : List (HloOp τ sig (Elt Ideal)) := hostOps0_21.take 3
def joinOps : List (HloOp τ sig (Elt Ideal)) := hostOps0_21.drop 3
theorem ops_21 : (hostOps0_21 : List (HloOp τ sig (Elt Ideal))) = stackOps ++ joinOps := rfl
theorem at_v70 (n : Fin 128) (p : Fin 2) (e l : Fin 128) : V70 (after stackOps X) (ix5 n p 0 e l) = V66 X (ix4 n p e l) := by
  unfold V70 V66 stackOps
  simp only [hostOps0_21, List.take_succ_cons, List.take_zero]
  after_reads_at
theorem at_v71 (n : Fin 128) (p : Fin 2) (e l : Fin 128) : V71 (after stackOps X) (ix5 n p 0 e l) = V68 X (ix4 n p e l) := by
  unfold V71 V68 stackOps
  simp only [hostOps0_21, List.take_succ_cons, List.take_zero]
  after_reads_at
theorem at_join (n : Fin 128) (h : Fin 4) (e l : Fin 128) : V74 (after joinOps X) (ix4 n h e l)
    = if h.val % 2 < 1 then V70 X (ix5 n ⟨h.val / 2, by omega⟩ 0 e l) else V71 X (ix5 n ⟨h.val / 2, by omega⟩ 0 e l) := by
  unfold V74 joinOps
  simp only [hostOps0_21, List.drop_succ_cons, List.drop_zero]
  after_reads_at
  by_cases hh : h.val % 2 < 1
  · rw [dif_pos hh, if_pos hh]
    exact congrArg (fun i => V70 X (ix5 n ⟨h.val / 2, by omega⟩ i e l)) (Subsingleton.elim _ _)
  · rw [dif_neg hh, if_neg hh]
    exact congrArg (fun i => V71 X (ix5 n ⟨h.val / 2, by omega⟩ i e l)) (Subsingleton.elim _ _)
theorem at_v74 (n : Fin 128) (h : Fin 4) (e l : Fin 128) : V74 (after hostOps0_21 X) (ix4 n h e l)
    = if h.val % 2 < 1 then V66 X (ix4 n ⟨h.val / 2, by omega⟩ e l) else V68 X (ix4 n ⟨h.val / 2, by omega⟩ e l) := by
  rw [ops_21, after_append, at_join, at_v70, at_v71]

/-! ## One trip of the loop -/

variable {k : ℕ} (hk : k < 128) (hi : L2 X = fun _ => Scf.iv 0#32 1#32 k)
include hk hi

theorem fits4 : S128x1x4x64.Slices ![k, 0, 0, 0] S1x1x4x64 :=
  ⟨rfl, fun a => by match a with | 0 => (show k + 1 ≤ 128; omega) | 1 => exact Nat.le_refl _ | 2 => exact Nat.le_refl _ | 3 => exact Nat.le_refl _⟩
theorem fits5 : S128x1x4x64x128.Slices ![k, 0, 0, 0, 0] S1x1x4x64x128 :=
  ⟨rfl, fun a => by match a with | 0 => (show k + 1 ≤ 128; omega) | 1 => exact Nat.le_refl _ | 2 => exact Nat.le_refl _ | 3 => exact Nat.le_refl _ | 4 => exact Nat.le_refl _⟩

theorem trip_state (h : Fin 4) (d : Fin 64) (e : Fin 128) : L3 (afterL bodyI X) (ix4 0 h d e)
    = L1 X (ix4 ⟨k, hk⟩ 0 h d) * L3 X (ix4 0 h d e) + L0 X (ix5 ⟨k, hk⟩ 0 h d e) := by
  have s4 := WordCmp.dynamicSlice_eq_extract S1x1x4x64 (L1 X) (fun a => ((![L2 X, constantI S_ 32 0#32, constantI S_ 32 0#32, constantI S_ 32 0#32] : Fin 4 → IVec S_ 32) a (Shape.Idx.first h_S_)).toInt)
    sliceFits_S128x1x4x64_S1x1x4x64 ![k, 0, 0, 0] (fits4 X hk hi) (start4 _ k hk hi _)
  have s5 := WordCmp.dynamicSlice_eq_extract S1x1x4x64x128 (L0 X) (fun a => ((![L2 X, constantI S_ 32 0#32, constantI S_ 32 0#32, constantI S_ 32 0#32, constantI S_ 32 0#32] : Fin 5 → IVec S_ 32) a (Shape.Idx.first h_S_)).toInt)
    sliceFits_S128x1x4x64x128_S1x1x4x64x128 ![k, 0, 0, 0, 0] (fits5 X hk hi) (start5 _ k hk hi _)
  have e1 := trip_main_v55_3 X
  erw [s4, s5] at e1
  refine (congrFun e1 _).trans ?_
  rw [id_eq]
  clean_types
  pointwise

theorem trip_stack (j : Fin 128) (h : Fin 4) (d : Fin 64) (e : Fin 128) : L4 (afterL bodyI X) (ix5 j 0 h d e)
    = if j.val = k then L3 X (ix4 0 h d e) else L4 X (ix5 j 0 h d e) := by
  have e1 := trip_main_v55_4 X
  have s5 := fun u => WordCmp.dynamicUpdateSlice_eq_update (L4 X) u (fun a => ((![L2 X, constantI S_ 32 0#32, constantI S_ 32 0#32, constantI S_ 32 0#32, constantI S_ 32 0#32] : Fin 5 → IVec S_ 32) a (Shape.Idx.first h_S_)).toInt)
    updateFits_S128x1x4x64x128_S1x1x4x64x128 ![k, 0, 0, 0, 0] (fits5 X hk hi) (start5 _ k hk hi _)
  erw [s5] at e1
  refine (congrFun e1 _).trans ?_
  rw [id_eq]
  clean_types
  pointwise
  by_cases hj : j.val = k
  · rw [dif_pos (by omega), if_pos hj]
  · rw [dif_neg (by omega), if_neg hj]
end Cert.GlaRevRefIdeal.Ref
end
-- ==== Proof.GlaRevStages.lean ====
/-
  THE GATED LINEAR ATTENTION, BACKWARD IN TIME: THE REFERENCE'S RESULTS AS FUNCTIONS OF THE ARGUMENTS, PUT TOGETHER.

  Stretch by stretch, over any contents before the stretch.
-/
module

public import proofs.«01_k».proof.Proof.GlaRevTrip

@[expose] public section

set_option maxRecDepth 16384

noncomputable section

namespace Cert.GlaRevRefIdeal.Ref

open Cert.GlaRevRefIdeal Cert.GlaRevRefIdeal.Gen Cert.GlaRevRefIdeal.Value Idealize.ShloMosaic Idealize.ShloMosaic.TcCoe Idealize.ShloMosaic.StableHlo Idealize.SL.Sem
open Cert.RealFacts Cert.GlaFwdMath
open Cert.GlaFwdRefIdeal.Ref (div_16)
open scoped BigOperators

variable (X : Vals)

/-- What the arguments hold, the rows counted from the last: the queries, the keys and the values, and the second factor of the gates. -/
structure Of (a : Args) : Prop where
  P : ∀ r (k : Fin 1536), A0 X (ix3 0 r.rev ⟨k.val, by omega⟩) = a.P r ⟨k.val, by omega⟩
  f : ∀ r (k : Fin 16), A0 X (ix3 0 r.rev ⟨1552 + k.val, by omega⟩) = a.P r ⟨1536 + k.val, by omega⟩
  w : ∀ j k, A1 X (ix3 0 j k) = a.w j k
  b : ∀ k, A2 X (ix2 0 k) = a.b k

/-! ## The contents before the loop -/

def E0 : Vals := after hostOps0 X
def E1 : Vals := after hostOps0_1 (E0 X)
def E2 : Vals := after hostOps0_2 (E1 X)
def E3 : Vals := after hostOps0_3 (E2 X)
def E4 : Vals := after hostOps0_4 (E3 X)
def E5 : Vals := after hostOps0_5 (E4 X)
def E6 : Vals := after hostOps0_6 (E5 X)
def E7 : Vals := after hostOps0_7 (E6 X)
def E8 : Vals := after hostOps0_8 (E7 X)
def E9 : Vals := after hostOps0_9 (E8 X)
def E10 : Vals := after hostOps0_10 (E9 X)
def E11 : Vals := after hostOps0_11 (E10 X)
def E12 : Vals := after hostOps0_12 (E11 X)
def E13 : Vals := after hostOps0_13 (E12 X)

theorem keep0 (r : Ref sig .tc) (h : r ∉ hostOps0_W) : E0 X (Proc.devRef .tc r) = X (Proc.devRef .tc r) := after_of_writes_sub _ _ hostOps0_writes h
theorem keep1 (r : Ref sig .tc) (h : r ∉ hostOps0_1_W) : E1 X (Proc.devRef .tc r) = E0 X (Proc.devRef .tc r) := after_of_writes_sub _ _ hostOps0_1_writes h
theorem keep2 (r : Ref sig .tc) (h : r ∉ hostOps0_2_W) : E2 X (Proc.devRef .tc r) = E1 X (Proc.devRef .tc r) := after_of_writes_sub _ _ hostOps0_2_writes h
theorem keep3 (r : Ref sig .tc) (h : r ∉ hostOps0_3_W) : E3 X (Proc.devRef .tc r) = E2 X (Proc.devRef .tc r) := after_of_writes_sub _ _ hostOps0_3_writes h
theorem keep4 (r : Ref sig .tc) (h : r ∉ hostOps0_4_W) : E4 X (Proc.devRef .tc r) = E3 X (Proc.devRef .tc r) := after_of_writes_sub _ _ hostOps0_4_writes h
theorem keep5 (r : Ref sig .tc) (h : r ∉ hostOps0_5_W) : E5 X (Proc.devRef .tc r) = E4 X (Proc.devRef .tc r) := after_of_writes_sub _ _ hostOps0_5_writes h
theorem keep6 (r : Ref sig .tc) (h : r ∉ hostOps0_6_W) : E6 X (Proc.devRef .tc r) = E5 X (Proc.devRef .tc r) := after_of_writes_sub _ _ hostOps0_6_writes h
theorem keep7 (r : Ref sig .tc) (h : r ∉ hostOps0_7_W) : E7 X (Proc.devRef .tc r) = E6 X (Proc.devRef .tc r) := after_of_writes_sub _ _ hostOps0_7_writes h
theorem keep8 (r : Ref sig .tc) (h : r ∉ hostOps0_8_W) : E8 X (Proc.devRef .tc r) = E7 X (Proc.devRef .tc r) := after_of_writes_sub _ _ hostOps0_8_writes h
theorem keep9 (r : Ref sig .tc) (h : r ∉ hostOps0_9_W) : E9 X (Proc.devRef .tc r) = E8 X (Proc.devRef .tc r) := after_of_writes_sub _ _ hostOps0_9_writes h
theorem keep10 (r : Ref sig .tc) (h : r ∉ hostOps0_10_W) : E10 X (Proc.devRef .tc r) = E9 X (Proc.devRef .tc r) := after_of_writes_sub _ _ hostOps0_10_writes h
theorem keep11 (r : Ref sig .tc) (h : r ∉ hostOps0_11_W) : E11 X (Proc.devRef .tc r) = E10 X (Proc.devRef .tc r) := after_of_writes_sub _ _ hostOps0_11_writes h
theorem keep12 (r : Ref sig .tc) (h : r ∉ hostOps0_12_W) : E12 X (Proc.devRef .tc r) = E11 X (Proc.devRef .tc r) := after_of_writes_sub _ _ hostOps0_12_writes h
theorem keep13 (r : Ref sig .tc) (h : r ∉ hostOps0_13_W) : E13 X (Proc.devRef .tc r) = E12 X (Proc.devRef .tc r) := after_of_writes_sub _ _ hostOps0_13_writes h

variable {X} {a : Args} (H : Of X a)
include H

theorem v29_eq (n : Fin 128) (t : Fin 64) (h : Fin 4) (d : Fin 64) : V29 (E7 X) (ix5 0 n t h d) = a.gate (row n t) (col h d) := by
  refine ((at_chunks (E6 X) n t h).2.2.2 d).trans ((at_v25 (E5 X) _ h d).trans ((congrFun ((keep5 X main_v21 (by decide)).trans ((keep4 X main_v21 (by decide)).trans (keep3 X main_v21 (by decide)))) _).trans ((at_v21 (E1 X) _ h d).trans ((div_16 _).trans ?_))))
  unfold Args.gate
  refine congrArg (· * tau) ((at_v18 (E0 X) _ _).trans (congrArg logSig ((at_v17 X _ _).trans ?_)))
  simp only [H.f, H.w, H.b]

theorem v30_eq (n : Fin 128) (t : Fin 64) (h : Fin 4) (d : Fin 64) : V30 (E8 X) (ix5 0 n t h d) = a.decay n t (col h d) := by
  refine (at_v30 (E7 X) n t h d).trans (Finset.sum_congr rfl fun u hu => ?_)
  have hu' : u < 64 := by rw [Finset.mem_range] at hu; omega
  rw [dif_pos hu', v29_eq H]
  unfold Args.gateN
  rw [dif_pos (show n.val * 64 + u < 8192 by omega)]
  rfl

theorem v26_eq (n : Fin 128) (t : Fin 64) (h : Fin 4) (d : Fin 64) : V26 (E8 X) (ix5 0 n t h d) = a.P (row n t) ⟨(col h d).val, by omega⟩ * eighth := by
  refine (congrFun (keep8 X main_v26 (by decide)) _).trans (((at_chunks (E6 X) n t h).1 d).trans ((congrFun ((keep6 X main_v22 (by decide)).trans ((keep5 X main_v22 (by decide)).trans (keep4 X main_v22 (by decide)))) _).trans ((at_v22 (E2 X) _ h d).trans
    ((congrFun ((keep2 X main_v9 (by decide)).trans (keep1 X main_v9 (by decide))) _).trans ((at_v9 X _ h d).trans ?_)))))
  exact congrArg (· * eighth) (H.P (row n t) ⟨(col h d).val, by omega⟩)

theorem v27_eq (n : Fin 128) (t : Fin 64) (h : Fin 4) (d : Fin 64) : V27 (E8 X) (ix5 0 n t h d) = a.P (row n t) ⟨256 + (col h d).val, by omega⟩ :=
  (congrFun (keep8 X main_v27 (by decide)) _).trans (((at_chunks (E6 X) n t h).2.1 d).trans ((congrFun ((keep6 X main_v23 (by decide)).trans (keep5 X main_v23 (by decide))) _).trans ((at_v23 (E3 X) _ h d).trans
    ((congrFun ((keep3 X main_v10 (by decide)).trans ((keep2 X main_v10 (by decide)).trans (keep1 X main_v10 (by decide)))) _).trans ((at_v10 X _ h d).trans (H.P (row n t) ⟨256 + (col h d).val, by omega⟩))))))

theorem v28_eq (n : Fin 128) (t : Fin 64) (h : Fin 4) (e : Fin 128) : V28 (E12 X) (ix5 0 n t h e) = a.v n t h e :=
  (congrFun ((keep12 X main_v28 (by decide)).trans ((keep11 X main_v28 (by decide)).trans ((keep10 X main_v28 (by decide)).trans ((keep9 X main_v28 (by decide)).trans (keep8 X main_v28 (by decide)))))) _).trans (((at_chunks (E6 X) n t h).2.2.1 e).trans ((congrFun (keep6 X main_v24 (by decide)) _).trans ((at_v24 (E4 X) _ h e).trans
    ((congrFun ((keep4 X main_v11 (by decide)).trans ((keep3 X main_v11 (by decide)).trans ((keep2 X main_v11 (by decide)).trans (keep1 X main_v11 (by decide))))) _).trans ((at_v11 X _ h e).trans (H.P (row n t) ⟨512 + (h.val * 128 + e.val), by omega⟩))))))

theorem v34_eq (n : Fin 128) (t : Fin 64) (h : Fin 4) (d : Fin 64) : V34 (E9 X) (ix5 0 n t h d) = a.qd n t (col h d) := by
  refine (at_v34 (E8 X) n t h d).trans ?_
  rw [v26_eq H, v30_eq H]
  rfl

theorem v42_eq (n : Fin 128) (t : Fin 64) (h : Fin 4) (d : Fin 64) : V42 (E9 X) (ix5 0 n t h d) = a.ke n t (col h d) := by
  refine (at_v42 (E8 X) n t h d).trans ?_
  rw [v27_eq H, v30_eq H, v30_eq H]
  rfl

theorem v32_eq (n : Fin 128) (h : Fin 4) (d : Fin 64) : V32 (E9 X) (ix4 0 n h d) = a.decay n 63 (col h d) :=
  (at_v32 (E8 X) n h d).trans (v30_eq H n 63 h d)

theorem v43_eq (n : Fin 128) (h : Fin 4) (t s : Fin 64) : V43 (E9 X) (ix5 0 n h t s) = ∑ d : Fin 64, a.qd n t (col h d) * a.kd n s (col h d) := by
  refine (at_v43 (E8 X) n h t s).trans (Finset.sum_congr rfl fun d _ => ?_)
  rw [v26_eq H, v27_eq H, v30_eq H, v30_eq H]
  rfl

theorem v46_eq (n : Fin 128) (h : Fin 4) (t s : Fin 64) : V46 (E12 X) (ix5 0 n h t s) = a.score n h t s := by
  have e45 : V45 (E11 X) (ix2 t s) = if s ≤ t then 1#1 else 0#1 :=
    (congrFun (keep11 X main_v45 (by decide)) _).trans ((at_v45 (E9 X) t s).trans (by rw [show V44 (E9 X) (ix2 t s) = 1#1 from at_v44 (E8 X) t s]))
  have e43 : V43 (E11 X) (ix5 0 n h t s) = _ :=
    (congrFun ((keep11 X main_v43 (by decide)).trans (keep10 X main_v43 (by decide))) _).trans (v43_eq H n h t s)
  refine (at_v46 (E11 X) n h t s).trans ?_
  rw [e45, e43, show Z (E11 X) ix0 = 0 from at_z (E10 X) ix0]
  unfold Args.score
  by_cases hs : s ≤ t
  · rw [if_pos hs, if_pos (show s.val ≤ t.val from hs)]
    rfl
  · rw [if_neg hs, if_neg (show ¬ s.val ≤ t.val from hs)]
    rfl

theorem v48_eq (n : Fin 128) (t : Fin 64) (h : Fin 4) (e : Fin 128) : V48 (E13 X) (ix5 0 n t h e) = ∑ s : Fin 64, a.score n h t s * a.v n s h e := by
  refine (at_v48 (E12 X) n t h e).trans (Finset.sum_congr rfl fun s _ => ?_)
  rw [v28_eq H, v46_eq H, mul_comm]

theorem l0_eq (n : Fin 128) (h : Fin 4) (d : Fin 64) (e : Fin 128) : L0 (E13 X) (ix5 n 0 h d e) = a.inc n h d e := by
  refine (at_l0 (E12 X) n h d e).trans (Finset.sum_congr rfl fun s _ => ?_)
  have e42 : V42 (E12 X) (ix5 0 n s h d) = a.ke n s (col h d) :=
    (congrFun ((keep12 X main_v42 (by decide)).trans ((keep11 X main_v42 (by decide)).trans (keep10 X main_v42 (by decide)))) _).trans (v42_eq H n s h d)
  rw [v28_eq H, e42, mul_comm]

theorem l1_eq (n : Fin 128) (h : Fin 4) (d : Fin 64) : L1 (E13 X) (ix4 n 0 h d) = a.dec n (col h d) := by
  refine (at_l1 (E12 X) n h d).trans (congrArg Ideal.exp ?_)
  exact (congrFun ((keep12 X main_v32 (by decide)).trans ((keep11 X main_v32 (by decide)).trans (keep10 X main_v32 (by decide)))) _).trans (v32_eq H n h d)

theorem v34_entry (n : Fin 128) (t : Fin 64) (h : Fin 4) (d : Fin 64) : V34 (E13 X) (ix5 0 n t h d) = a.qd n t (col h d) :=
  (congrFun ((keep13 X main_v34 (by decide)).trans ((keep12 X main_v34 (by decide)).trans ((keep11 X main_v34 (by decide)).trans (keep10 X main_v34 (by decide))))) _).trans (v34_eq H n t h d)

omit H
/-! ## The loop -/

/-- What a trip writes. -/
def tripW : List (Ref sig .tc) := condOps_W ++ (while0Ops0_W ++ (while0Ops0_1_W ++ (while0Ops0_2_W ++ (while0Ops0_3_W ++ while0Ops0_4_W))))

theorem trip_keep (X : Vals) (r : Ref sig .tc) (h : r ∉ tripW) : afterL bodyI (after condOps X) (Proc.devRef .tc r) = X (Proc.devRef .tc r) := by
  simp only [tripW, List.mem_append, not_or] at h
  obtain ⟨hc, h0, h1, h2, h3, h4⟩ := h
  exact (after_of_writes_sub _ _ while0Ops0_4_writes h4).trans ((after_of_writes_sub _ _ while0Ops0_3_writes h3).trans ((after_of_writes_sub _ _ while0Ops0_2_writes h2).trans
    ((after_of_writes_sub _ _ while0Ops0_1_writes h1).trans ((after_of_writes_sub _ _ while0Ops0_writes h0).trans (after_of_writes_sub _ _ condOps_writes hc)))))

variable (m : (ℓ : Loc nD τ sig) → Buf (Elt Ideal) ℓ) (c : Dev nD)

theorem entry_eq : entryContents preI m c = E13 (launchContents m c) := rfl

theorem loop_keep (r : Ref sig .tc) (h : r ∉ tripW) : ∀ k, atK m k c (Proc.devRef .tc r) = E13 (launchContents m c) (Proc.devRef .tc r)
  | 0 => rfl
  | k + 1 => (trip_keep _ r h).trans (loop_keep r h k)

theorem cond_keep (X : Vals) (r : Ref sig .tc) (h : r ∉ condOps_W) : after condOps X (Proc.devRef .tc r) = X (Proc.devRef .tc r) := after_of_writes_sub _ _ condOps_writes h

/-- The contents after the loop. -/
def EX : Vals := after condOps (atK m 128 c)

theorem exit_keep (r : Ref sig .tc) (h : r ∉ tripW) : EX m c (Proc.devRef .tc r) = E13 (launchContents m c) (Proc.devRef .tc r) :=
  (cond_keep _ r fun hc => h (List.mem_append_left _ hc)).trans (loop_keep m c r h 128)

theorem l0_keep : ∀ k, L0 (atK m k c) = L0 (E13 (launchContents m c))
  | 0 => rfl
  | k + 1 => (trip_main_v55_0 _).trans ((cond_keep _ main_v55_0 (by decide)).trans (l0_keep k))
theorem l1_keep : ∀ k, L1 (atK m k c) = L1 (E13 (launchContents m c))
  | 0 => rfl
  | k + 1 => (trip_main_v55_1 _).trans ((cond_keep _ main_v55_1 (by decide)).trans (l1_keep k))

variable {m c} (HL : Of (launchContents m c) a)
include HL

/-- The carried state before a trip, and the states stacked up to it. -/
theorem carried (h : Fin 4) (d : Fin 64) (e : Fin 128) : ∀ k ≤ 128, L3 (atK m k c) (ix4 0 h d e) = a.state h d e k
    ∧ ∀ j : Fin 128, j.val < k → L4 (atK m k c) (ix5 j 0 h d e) = a.state h d e j.val
  | 0, _ => ⟨at_l3 (E12 (launchContents m c)) h d e, fun j hj => absurd hj (Nat.not_lt_zero _)⟩
  | k + 1, hk => by
    have hk' : k < 128 := hk
    obtain ⟨i3, i4⟩ := carried h d e k (by omega)
    have hc : L2 (after condOps (atK m k c)) = fun _ => Scf.iv 0#32 1#32 k := (cond_keep _ main_v55_2 (by decide)).trans (atK_ctr m c k)
    have c0 : L0 (after condOps (atK m k c)) = L0 (E13 (launchContents m c)) := (cond_keep _ main_v55_0 (by decide)).trans (l0_keep m c k)
    have c1 : L1 (after condOps (atK m k c)) = L1 (E13 (launchContents m c)) := (cond_keep _ main_v55_1 (by decide)).trans (l1_keep m c k)
    have c3 : L3 (after condOps (atK m k c)) = L3 (atK m k c) := cond_keep _ main_v55_3 (by decide)
    have c4 : L4 (after condOps (atK m k c)) = L4 (atK m k c) := cond_keep _ main_v55_4 (by decide)
    have hck : (⟨k, hk'⟩ : Fin 128) = chunk k := Fin.ext (Nat.mod_eq_of_lt hk').symm
    refine ⟨(trip_state _ hk' hc h d e).trans ?_, fun j hj => (trip_stack _ hk' hc j h d e).trans ?_⟩
    · rw [c0, c1, c3, i3, l0_eq HL, l1_eq HL, hck, mul_comm]
      rfl
    · rw [c3, c4]
      by_cases hjk : j.val = k
      · rw [if_pos hjk, i3, hjk]
      · rw [if_neg hjk, i4 j (by omega)]

theorem stacked (n : Fin 128) (h : Fin 4) (d : Fin 64) (e : Fin 128) : L4 (EX m c) (ix5 n 0 h d e) = a.state h d e n.val :=
  (congrFun (cond_keep _ main_v55_4 (by decide)) _).trans ((carried HL h d e 128 (Nat.le_refl _)).2 n n.isLt)

/-! ## The results -/

omit HL
abbrev W14 : List (Ref sig .tc) := [main_v56, main_v57, main_v58, main_v59, main_v60]
abbrev W15 : List (Ref sig .tc) := [main_v61]
abbrev W16 : List (Ref sig .tc) := [main_v62]
abbrev W17 : List (Ref sig .tc) := [main_v63, main_v64, main_v65, main_c_5]
abbrev W18 : List (Ref sig .tc) := [main_call13_v0, main_v66]
abbrev W19 : List (Ref sig .tc) := [main_v67, main_c_6]
abbrev W20 : List (Ref sig .tc) := [main_call14_v0, main_v68]
abbrev W21 : List (Ref sig .tc) := [main_v69, main_v70, main_v71, main_v72, main_v73, main_v74]
theorem writes_14 : (hostOps0_14 : List (HloOp τ sig (Elt Ideal))).Forall fun op => op.writes ⊆ (W14.map (Proc.devRef (τ := τ) .tc)).toFinset :=
  forall_writes_sub_of_map rfl
theorem writes_15 : (hostOps0_15 : List (HloOp τ sig (Elt Ideal))).Forall fun op => op.writes ⊆ (W15.map (Proc.devRef (τ := τ) .tc)).toFinset :=
  forall_writes_sub_of_map rfl
theorem writes_16 : (hostOps0_16 : List (HloOp τ sig (Elt Ideal))).Forall fun op => op.writes ⊆ (W16.map (Proc.devRef (τ := τ) .tc)).toFinset :=
  forall_writes_sub_of_map rfl
theorem writes_17 : (hostOps0_17 : List (HloOp τ sig (Elt Ideal))).Forall fun op => op.writes ⊆ (W17.map (Proc.devRef (τ := τ) .tc)).toFinset :=
  forall_writes_sub_of_map rfl
theorem writes_18 : (hostOps0_18 : List (HloOp τ sig (Elt Ideal))).Forall fun op => op.writes ⊆ (W18.map (Proc.devRef (τ := τ) .tc)).toFinset :=
  forall_writes_sub_of_map rfl
theorem writes_19 : (hostOps0_19 : List (HloOp τ sig (Elt Ideal))).Forall fun op => op.writes ⊆ (W19.map (Proc.devRef (τ := τ) .tc)).toFinset :=
  forall_writes_sub_of_map rfl
theorem writes_20 : (hostOps0_20 : List (HloOp τ sig (Elt Ideal))).Forall fun op => op.writes ⊆ (W20.map (Proc.devRef (τ := τ) .tc)).toFinset :=
  forall_writes_sub_of_map rfl
theorem writes_21 : (hostOps0_21 : List (HloOp τ sig (Elt Ideal))).Forall fun op => op.writes ⊆ (W21.map (Proc.devRef (τ := τ) .tc)).toFinset :=
  forall_writes_sub_of_map rfl

variable (m c)
def F14 : Vals := after hostOps0_14 (EX m c)
def F15 : Vals := after hostOps0_15 (F14 m c)
def F16 : Vals := after hostOps0_16 (F15 m c)
def F17 : Vals := after hostOps0_17 (F16 m c)
def F18 : Vals := after hostOps0_18 (F17 m c)
def F19 : Vals := after hostOps0_19 (F18 m c)
def F20 : Vals := after hostOps0_20 (F19 m c)
def F21 : Vals := after hostOps0_21 (F20 m c)

theorem final_eq : finalContents condOps preI bodyI postI 128 m c = F21 m c := rfl

theorem stay14 (r : Ref sig .tc) (h : r ∉ W14) : F14 m c (Proc.devRef .tc r) = EX m c (Proc.devRef .tc r) := after_of_writes_sub hostOps0_14 _ writes_14 h
theorem stay15 (r : Ref sig .tc) (h : r ∉ W15) : F15 m c (Proc.devRef .tc r) = F14 m c (Proc.devRef .tc r) := after_of_writes_sub hostOps0_15 _ writes_15 h
theorem stay16 (r : Ref sig .tc) (h : r ∉ W16) : F16 m c (Proc.devRef .tc r) = F15 m c (Proc.devRef .tc r) := after_of_writes_sub hostOps0_16 _ writes_16 h
theorem stay17 (r : Ref sig .tc) (h : r ∉ W17) : F17 m c (Proc.devRef .tc r) = F16 m c (Proc.devRef .tc r) := after_of_writes_sub hostOps0_17 _ writes_17 h
theorem stay18 (r : Ref sig .tc) (h : r ∉ W18) : F18 m c (Proc.devRef .tc r) = F17 m c (Proc.devRef .tc r) := after_of_writes_sub hostOps0_18 _ writes_18 h
theorem stay19 (r : Ref sig .tc) (h : r ∉ W19) : F19 m c (Proc.devRef .tc r) = F18 m c (Proc.devRef .tc r) := after_of_writes_sub hostOps0_19 _ writes_19 h
theorem stay20 (r : Ref sig .tc) (h : r ∉ W20) : F20 m c (Proc.devRef .tc r) = F19 m c (Proc.devRef .tc r) := after_of_writes_sub hostOps0_20 _ writes_20 h
theorem stay21 (r : Ref sig .tc) (h : r ∉ W21) : F21 m c (Proc.devRef .tc r) = F20 m c (Proc.devRef .tc r) := after_of_writes_sub hostOps0_21 _ writes_21 h

/-- What no stretch before the loop writes is as it was at launch. -/
theorem entry_keep (X : Vals) (r : Ref sig .tc) (h0 : r ∉ hostOps0_W) (h1 : r ∉ hostOps0_1_W) (h2 : r ∉ hostOps0_2_W) (h3 : r ∉ hostOps0_3_W) (h4 : r ∉ hostOps0_4_W) (h5 : r ∉ hostOps0_5_W) (h6 : r ∉ hostOps0_6_W) (h7 : r ∉ hostOps0_7_W) (h8 : r ∉ hostOps0_8_W) (h9 : r ∉ hostOps0_9_W) (h10 : r ∉ hostOps0_10_W) (h11 : r ∉ hostOps0_11_W) (h12 : r ∉ hostOps0_12_W) (h13 : r ∉ hostOps0_13_W) : E13 X (Proc.devRef .tc r) = X (Proc.devRef .tc r) := by
  rw [keep13 _ r h13, keep12 _ r h12, keep11 _ r h11, keep10 _ r h10, keep9 _ r h9, keep8 _ r h8, keep7 _ r h7, keep6 _ r h6, keep5 _ r h5, keep4 _ r h4, keep3 _ r h3, keep2 _ r h2, keep1 _ r h1, keep0 _ r h0]
/-- Nor is what no stretch writes changed at the end. -/
theorem final_keep (r : Ref sig .tc) (ht : r ∉ tripW) (h14 : r ∉ W14) (h15 : r ∉ W15) (h16 : r ∉ W16) (h17 : r ∉ W17) (h18 : r ∉ W18) (h19 : r ∉ W19) (h20 : r ∉ W20) (h21 : r ∉ W21) : F21 m c (Proc.devRef .tc r) = E13 (launchContents m c) (Proc.devRef .tc r) := by
  rw [stay21 m c r h21, stay20 m c r h20, stay19 m c r h19, stay18 m c r h18, stay17 m c r h17, stay16 m c r h16, stay15 m c r h15, stay14 m c r h14, exit_keep m c r ht]

theorem final_arg0 : F21 m c (Proc.devRef .tc main_arg0) = launchContents m c (Proc.devRef .tc main_arg0) := by
  refine (final_keep m c main_arg0 ?_ ?_ ?_ ?_ ?_ ?_ ?_ ?_ ?_).trans (entry_keep _ main_arg0 ?_ ?_ ?_ ?_ ?_ ?_ ?_ ?_ ?_ ?_ ?_ ?_ ?_ ?_) <;> decide
theorem final_arg1 : F21 m c (Proc.devRef .tc main_arg1) = launchContents m c (Proc.devRef .tc main_arg1) := by
  refine (final_keep m c main_arg1 ?_ ?_ ?_ ?_ ?_ ?_ ?_ ?_ ?_).trans (entry_keep _ main_arg1 ?_ ?_ ?_ ?_ ?_ ?_ ?_ ?_ ?_ ?_ ?_ ?_ ?_ ?_) <;> decide
theorem final_arg2 : F21 m c (Proc.devRef .tc main_arg2) = launchContents m c (Proc.devRef .tc main_arg2) := by
  refine (final_keep m c main_arg2 ?_ ?_ ?_ ?_ ?_ ?_ ?_ ?_ ?_).trans (entry_keep _ main_arg2 ?_ ?_ ?_ ?_ ?_ ?_ ?_ ?_ ?_ ?_ ?_ ?_ ?_ ?_) <;> decide

variable {m c}
include HL

theorem out_at (r : Fin 8192) (k : Fin 512) : V69 (F21 m c) (ix2 r k)
    = a.out ⟨r.rev.val / 64, by omega⟩ ⟨r.rev.val % 64, by omega⟩ ⟨k.val / 128, by omega⟩ ⟨k.val % 128, by omega⟩ := by
  have e61 : V61 (F20 m c) = V61 (F15 m c) := (stay20 m c main_v61 (by decide)).trans ((stay19 m c main_v61 (by decide)).trans ((stay18 m c main_v61 (by decide)).trans ((stay17 m c main_v61 (by decide)).trans (stay16 m c main_v61 (by decide)))))
  have e48 : V48 (EX m c) = V48 (E13 (launchContents m c)) := exit_keep m c main_v48 (by decide)
  have e34 : V34 (EX m c) = V34 (E13 (launchContents m c)) := exit_keep m c main_v34 (by decide)
  refine (at_v69 (F20 m c) r k).trans ((congrFun e61 _).trans ((at_v61 (F14 m c) r _ _).trans ((at_v60 (EX m c) _ _ _).trans ?_)))
  rw [e48, e34, v48_eq HL]
  unfold Args.out
  refine congrArg₂ (· + ·) rfl (Finset.sum_congr rfl fun d _ => ?_)
  rw [stacked HL, v34_entry HL, mul_comm]

/-- The states stacked, the chunks counted from the last. -/
theorem turned (n : Fin 128) (h : Fin 4) (d : Fin 64) (e : Fin 128) : V62 (F16 m c) (ix5 0 n h d e) = a.state h d e n.rev.val :=
  (at_v62 (F15 m c) n h d e).trans ((congrFun (stay15 m c main_v56 (by decide)) _).trans ((at_v56 (EX m c) n.rev h d e).trans (stacked HL n.rev h d e)))

theorem states_at (n : Fin 128) (h : Fin 4) (e l : Fin 128) : V74 (F21 m c) (ix4 n h e l)
    = a.laneState ⟨h.val / 2, by omega⟩ ⟨h.val % 2, by omega⟩ l e n.rev.val := by
  have hh (i : Fin 2) (hi : h.val % 2 = i.val) : head ⟨h.val / 2, by omega⟩ i = head ⟨h.val / 2, by omega⟩ ⟨h.val % 2, by omega⟩ := congrArg (head _) (Fin.ext hi.symm)
  refine (at_v74 (F20 m c) n h e l).trans ?_
  unfold Args.laneState
  dsimp only
  by_cases h2 : h.val % 2 < 1
  · have e66 : V66 (F20 m c) = V66 (F18 m c) := (stay20 m c main_v66 (by decide)).trans (stay19 m c main_v66 (by decide))
    rw [if_pos h2, e66]
    refine (at_v66 (F17 m c) (at_c5 _) n _ e l).trans ?_
    by_cases hl : l.val < 64
    · rw [dif_pos hl, if_pos (by omega)]
      refine (at_v65 (F16 m c) n _ e _).trans ((turned HL n _ _ e).trans ?_)
      rw [hh 0 (by show h.val % 2 = 0; omega)]
      exact congrArg (fun d => a.state _ d e n.rev.val) (Fin.ext (by show l.val = l.val % 64; omega))
    · rw [dif_neg hl, if_neg (by omega)]
  · rw [if_neg h2]
    refine (at_v68 (F19 m c) (at_c6 _) n _ e l).trans ?_
    by_cases hl : 64 ≤ l.val
    · rw [dif_pos hl, if_pos (by omega)]
      refine (at_v67 (F18 m c) n _ e _).trans ((congrFun (stay18 m c main_v64 (by decide)) _).trans ((at_v64 (F16 m c) n _ e _).trans ((turned HL n _ _ e).trans ?_)))
      rw [hh 1 (by show h.val % 2 = 1; omega)]
      exact congrArg (fun d => a.state _ d e n.rev.val) (Fin.ext (by show l.val - 64 = l.val % 64; omega))
    · rw [dif_neg hl, if_neg (by omega)]
end Cert.GlaRevRefIdeal.Ref
end
-- ==== Proof.GlaRevClaim.lean ====
/-
  THE CLAIMS ABOUT THE GATED LINEAR ATTENTION, BACKWARD IN TIME, one theorem each.
-/
module

public import proofs.«01_k».proof.Defs
public import proofs.«01_k».proof.Proof.GlaRevValue
public import proofs.«01_k».proof.Proof.GlaRevStages
public import proofs.«01_k».proof.Proof.Gen.GlaRev.Frame
public import proofs.«01_k».proof.Proof.Gen.GlaRevIdeal.Frame
public import Idealize.ShloMosaic.Lib.Quiescent

@[expose] public section

set_option maxRecDepth 16384

noncomputable section

namespace Cert.GlaRevClaim

open Idealize.ShloMosaic Idealize.ShloMosaic.TcCoe Idealize.SL.Sem
open Cert.RealFacts Cert.GlaFwdMath
open Cert.GlaRevRefIdeal.Ref (final_arg0 final_arg1 final_arg2 out_at states_at)

/-- The reference's argument arrays at the end. -/
theorem ref_args {m : (ℓ : Loc Cert.GlaRevRefIdeal.nD Cert.GlaRevRefIdeal.τ Cert.GlaRevRefIdeal.sig) → Buf (Elt Ideal) ℓ} {c : Dev Cert.GlaRevRefIdeal.nD}
    {s : (ℓ : Loc Cert.GlaRevRefIdeal.nD Cert.GlaRevRefIdeal.τ Cert.GlaRevRefIdeal.sig) → Buf (Elt Ideal) ℓ}
    (h : ∀ b : Ref Cert.GlaRevRefIdeal.sig .tc, (Proc.devRef .tc b : DevRef Cert.GlaRevRefIdeal.τ Cert.GlaRevRefIdeal.sig).isScoped = false →
      s ((c.tc : Thread Cert.GlaRevRefIdeal.nD Cert.GlaRevRefIdeal.τ).loc b) = Cert.GlaRevRefIdeal.Ref.F21 m c (Proc.devRef .tc b)) :
    s ((c.tc : Thread Cert.GlaRevRefIdeal.nD Cert.GlaRevRefIdeal.τ).loc Cert.GlaRevRefIdeal.main_arg0) = m ((c.tc : Thread Cert.GlaRevRefIdeal.nD Cert.GlaRevRefIdeal.τ).loc Cert.GlaRevRefIdeal.main_arg0)
    ∧ s ((c.tc : Thread Cert.GlaRevRefIdeal.nD Cert.GlaRevRefIdeal.τ).loc Cert.GlaRevRefIdeal.main_arg1) = m ((c.tc : Thread Cert.GlaRevRefIdeal.nD Cert.GlaRevRefIdeal.τ).loc Cert.GlaRevRefIdeal.main_arg1)
    ∧ s ((c.tc : Thread Cert.GlaRevRefIdeal.nD Cert.GlaRevRefIdeal.τ).loc Cert.GlaRevRefIdeal.main_arg2) = m ((c.tc : Thread Cert.GlaRevRefIdeal.nD Cert.GlaRevRefIdeal.τ).loc Cert.GlaRevRefIdeal.main_arg2) :=
  ⟨(h Cert.GlaRevRefIdeal.main_arg0 rfl).trans (final_arg0 m c), (h Cert.GlaRevRefIdeal.main_arg1 rfl).trans (final_arg1 m c), (h Cert.GlaRevRefIdeal.main_arg2 rfl).trans (final_arg2 m c)⟩

theorem frame_ref : Cert.quiescent_GlaRevRefIdeal := fun m ρ _ => (θ_run (Cert.GlaRevRefIdeal.defs (F := Ideal)) _ _).mono
  (fun r h => ⟨fun c => ref_args (h c), Idealize.ShloMosaic.sem_eq_zero_of_no_sems (by decide) r.2⟩) (Cert.GlaRevRefIdeal.Value.run_fold (F := Ideal) m ρ)

/-- Both programs leave the same two arrays, whatever the arguments hold. -/
theorem algebraic : Cert.algebraic_GlaRevIdeal_GlaRevRefIdeal := by
  intro m g m' g' _ hag
  refine ⟨fun c => (Cert.GlaRevIdeal.Gen.dats m 0 c).arrAt 7 Cert.GlaRevIdeal.cfg0.N, fun c => (Cert.GlaRevIdeal.Gen.dats m 0 c).arrAt 8 Cert.GlaRevIdeal.cfg0.N, Cert.GlaRevIdeal.Value.run_blocks (F := Ideal) m g, ?_⟩
  refine (θ_run _ _ _).mono (fun r h c => ?_) (Cert.GlaRevRefIdeal.Value.run_fold (F := Ideal) m' g')
  obtain ⟨e0, e1, e2⟩ := hag c
  have H := Cert.GlaRevIdeal.Body.holds_args m c
  have HL : Cert.GlaRevRefIdeal.Ref.Of (StableHlo.launchContents m' c) (Cert.GlaRevIdeal.Body.args m c) :=
    ⟨fun r k => (congrFun e0 _).trans (H.P r k), fun r k => (congrFun e0 _).trans (H.f r k), fun j k => (congrFun e1 _).trans (H.w j k), fun k => (congrFun e2 _).trans (H.b k)⟩
  refine ⟨(h c Cert.GlaRevRefIdeal.main_v69 rfl).trans ?_, (h c Cert.GlaRevRefIdeal.main_v74 rfl).trans ?_, ref_args (h c)⟩
  · refine Eq.trans ?_ (Cert.GlaRevIdeal.Body.out_eq H).symm
    funext y
    obtain ⟨r, k, rfl⟩ : ∃ r k, y = ix2 r k := ⟨_, _, eq_ix2 y⟩
    refine (out_at HL r k).trans ?_
    have er : r.rev.val = 8191 - r.val := by rw [Fin.val_rev]; omega
    unfold Cert.GlaRevIdeal.Body.outR
    simp only [er]
    rfl
  · refine Eq.trans ?_ (Cert.GlaRevIdeal.Body.states_eq H).symm
    funext y
    obtain ⟨n, h, e, l, rfl⟩ : ∃ n h e l, y = ix4 n h e l := ⟨_, _, _, _, eq_ix4 y⟩
    refine (states_at HL n h e l).trans ?_
    have en : n.rev.val = 127 - n.val := by rw [Fin.val_rev]; omega
    rw [en]
    rfl

end Cert.GlaRevClaim

end
-- ==== Proof.FfnWgradValue.lean ====
/-
  THE GRADIENTS OF SWIGLU'S WEIGHTS, THE KERNEL'S ARRAYS: each of the three results is a product with the rows as the
  summed axis, taken over one half of the inner columns at a time and summed over the tiles of rows.
-/
module

public import proofs.«01_k».proof.Proof.FfnFwdMath
public import proofs.«01_k».proof.Proof.InprojWgradMath
public import proofs.«01_k».proof.Proof.Gen.FfnWgradIdeal.Value
public import Idealize.ShloMosaic.Lib.Pipeline.ValueKit
public import Idealize.ShloMosaic.Lib.Pipeline.ReadBack

@[expose] public section

set_option maxRecDepth 16384

noncomputable section

namespace Cert.FfnWgradIdeal.Body

open Cert.FfnWgradIdeal Cert.FfnWgradIdeal.Gen Idealize.ShloMosaic Idealize.ShloMosaic.TcCoe Idealize.SL.Sem
open Cert.RealFacts Cert.InprojWgradMath Cert.FfnFwdMath
open scoped BigOperators

/-- The product of two arrays with as many rows, the rows summed over. -/
def rowsProd (A : Fin 8192 → Fin 2816 → EReal) (B : Fin 8192 → Fin 1024 → EReal) (k : Fin 2816) (j : Fin 1024) : EReal := ∑ r, A r k * B r j

/-! ## What one tile adds -/

variable (h : FVec Ideal S512x1024 .bf16) (d : FVec Ideal S512x1024 .f32) (acc : FVec Ideal S1408x1024 .f32) (a : FVec Ideal S512x1408 .bf16)

theorem gate_step (k : Fin 1408) (j : Fin 1024) :
    k0_pay5 (F := Ideal) h acc a (ix2 k j) = acc (ix2 k j) + ∑ r : Fin 512, a (ix2 r k) * h (ix2 r j) := by
  pointwise [k0_pay5, k0_pay4]

theorem up_step (k : Fin 1408) (j : Fin 1024) :
    k0_pay6 (F := Ideal) h acc a (ix2 k j) = acc (ix2 k j) + ∑ r : Fin 512, a (ix2 r k) * h (ix2 r j) := gate_step h acc a k j

theorem down_step (k : Fin 1408) (j : Fin 1024) :
    k0_pay7 (F := Ideal) acc a d (ix2 k j) = acc (ix2 k j) + ∑ r : Fin 512, a (ix2 r k) * d (ix2 r j) := by
  pointwise [k0_pay7]

theorem zero_at (i : S1408x1024.Idx) : k0_pay1 (F := Ideal) i = 0 := by pointwise [k0_pay1]

/-! ## The blocks a grid point reads -/

variable (m : (ℓ : Loc nD τ sig) → Buf (Elt Ideal) ℓ)

/-- The block each window holds at a grid point. -/
theorem idx : ∀ t : Fin cfg0.N, win0_0.index t = ![t.val % 16, 0] ∧ win0_1.index t = ![t.val % 16, t.val / 16] ∧ win0_2.index t = ![t.val % 16, t.val / 16]
    ∧ win0_3.index t = ![t.val % 16, t.val / 16] ∧ win0_4.index t = ![t.val % 16, 0] ∧ win0_5.index t = ![t.val / 16, 0]
    ∧ win0_6.index t = ![t.val / 16, 0] ∧ win0_7.index t = ![t.val / 16, 0] :=
  (by decide +kernel : ∀ t : Fin grid0.N, _)

/-- Row `r` of the tile at point `t`. -/
def row (t : Fin cfg0.N) (r : Fin 512) : Fin 8192 := ⟨t.val % 16 * 512 + r.val, by omega⟩

/-- Column `k` of the half at point `t`. -/
def col (t : Fin cfg0.N) (k : Fin 1408) : Fin 2816 := ⟨t.val / 16 * 1408 + k.val, by have := t.isLt; have : cfg0.N = 32 := N_0; omega⟩

theorem h_blk (c : Dev nD) (t : Fin cfg0.N) (r : Fin 512) (k : Fin 1024) :
    (show FVec Ideal S512x1024 .bf16 from iblk m c 0 t) (ix2 r k) = (show FVec Ideal S8192x1024 .bf16 from V m c main_v21) (ix2 (row t r) k) := by
  unfold row; blk_ext [iblk, idx t]

theorem act_blk (c : Dev nD) (t : Fin cfg0.N) (r : Fin 512) (k : Fin 1408) :
    (show FVec Ideal S512x1408 .bf16 from iblk m c 3 t) (ix2 r k) = (show FVec Ideal S8192x2816 .bf16 from V m c main_v27) (ix2 (row t r) (col t k)) := by
  unfold row col; blk_ext [iblk, idx t]

theorem p_blk (c : Dev nD) (t : Fin cfg0.N) (r : Fin 512) (k : Fin 1408) :
    (show FVec Ideal S512x1408 .bf16 from iblk m c 1 t) (ix2 r k) = (show FVec Ideal S8192x2816 .bf16 from V m c main_v23) (ix2 (row t r) (col t k)) := by
  unfold row col; blk_ext [iblk, idx t]

theorem q_blk (c : Dev nD) (t : Fin cfg0.N) (r : Fin 512) (k : Fin 1408) :
    (show FVec Ideal S512x1408 .bf16 from iblk m c 2 t) (ix2 r k) = (show FVec Ideal S8192x2816 .bf16 from V m c main_v25) (ix2 (row t r) (col t k)) := by
  unfold row col; blk_ext [iblk, idx t]

theorem d_blk (c : Dev nD) (t : Fin cfg0.N) (r : Fin 512) (k : Fin 1024) :
    (show FVec Ideal S512x1024 .f32 from iblk m c 4 t) (ix2 r k) = (show FVec Ideal S8192x1024 .f32 from V m c main_v28) (ix2 (row t r) k) := by
  unfold row; blk_ext [iblk, idx t]

variable {m} {c : Dev nD} {X : Fin 8192 → Fin 1024 → EReal} {G : Fin 1024 → EReal} {U W : Fin 1024 → Fin 2816 → EReal}
variable {P Q : Fin 8192 → Fin 2816 → EReal} {D : Fin 8192 → Fin 1024 → EReal}
variable (hx : ∀ r k, m ((c : Thread nD τ).loc main_arg0) (ix3 0 r k) = X r k)
variable (hg : ∀ k, m ((c : Thread nD τ).loc main_arg1) (ix2 0 k) = G k)
variable (hu : ∀ j k, m ((c : Thread nD τ).loc main_arg2) (ix3 0 j k) = U j k)
variable (hw : ∀ j k, m ((c : Thread nD τ).loc main_arg3) (ix3 0 j k) = W j k)
variable (hp : ∀ r k, m ((c : Thread nD τ).loc main_arg4) (ix3 0 r k) = P r k)
variable (hq : ∀ r k, m ((c : Thread nD τ).loc main_arg5) (ix3 0 r k) = Q r k)
variable (hd : ∀ r k, m ((c : Thread nD τ).loc main_arg6) (ix3 0 r k) = D r k)

include hx hg in
/-- The normalized rows times the gain, as the host's forward lines save them. -/
theorem hidden_all (r : Fin 8192) (j : Fin 1024) : (show FVec Ideal S8192x1024 .bf16 from V m c main_v21) (ix2 r j) = hidden X G r j := by
  unfold V hostOps0 hostOps0_1 hostOps0_2
  simp only [List.flatten_cons, List.flatten_nil, List.append_nil, List.cons_append, List.nil_append, Idealize.ShloMosaic.StableHlo.after_cons, Idealize.ShloMosaic.StableHlo.after_nil]
  after_results_simp
  pointwise
  simp only [hx, hg, ofBits_1024, ofBits_eps, zero_add]
  rfl

include hx hg hu hw in
set_option maxHeartbeats 4000000 in
/-- The gated product, as the host's forward lines save it. -/
theorem act_all (r : Fin 8192) (j : Fin 2816) : (show FVec Ideal S8192x2816 .bf16 from V m c main_v27) (ix2 r j) = act X G U W r j := by
  unfold V hostOps0 hostOps0_1 hostOps0_2
  simp only [List.flatten_cons, List.flatten_nil, List.append_nil, List.cons_append, List.nil_append, Idealize.ShloMosaic.StableHlo.after_cons, Idealize.ShloMosaic.StableHlo.after_nil]
  after_results_simp
  simp -implicitDefEqProofs only [StableHlo.TRef.ofBuf_toBuf, StableHlo.TRef.toBuf, StableHlo.TRef.ofBuf, cast_eq]
  pointwise
  simp only [hx, hg, hu, hw, ofBits_1024, ofBits_eps, zero_add]
  rfl

include hp in
theorem p_all (r : Fin 8192) (k : Fin 2816) : (show FVec Ideal S8192x2816 .bf16 from V m c main_v23) (ix2 r k) = P r k := by
  rw [← hp r k]
  unfold V hostOps0 hostOps0_1 hostOps0_2
  simp only [List.flatten_cons, List.flatten_nil, List.append_nil, List.cons_append, List.nil_append, Idealize.ShloMosaic.StableHlo.after_cons, Idealize.ShloMosaic.StableHlo.after_nil]
  after_results_simp
  pointwise

include hq in
theorem q_all (r : Fin 8192) (k : Fin 2816) : (show FVec Ideal S8192x2816 .bf16 from V m c main_v25) (ix2 r k) = Q r k := by
  rw [← hq r k]
  unfold V hostOps0 hostOps0_1 hostOps0_2
  simp only [List.flatten_cons, List.flatten_nil, List.append_nil, List.cons_append, List.nil_append, Idealize.ShloMosaic.StableHlo.after_cons, Idealize.ShloMosaic.StableHlo.after_nil]
  after_results_simp
  pointwise

include hd in
theorem d_all (r : Fin 8192) (k : Fin 1024) : (show FVec Ideal S8192x1024 .f32 from V m c main_v28) (ix2 r k) = D r k := by
  rw [← hd r k]
  unfold V hostOps0 hostOps0_1 hostOps0_2
  simp only [List.flatten_cons, List.flatten_nil, List.append_nil, List.cons_append, List.nil_append, Idealize.ShloMosaic.StableHlo.after_cons, Idealize.ShloMosaic.StableHlo.after_nil]
  after_results_simp
  pointwise

/-! ## The sums over the tiles -/

/-- The part of a product that one tile adds. -/
def part (A : Fin 8192 → Fin 2816 → EReal) (B : Fin 8192 → Fin 1024 → EReal) (t : Fin cfg0.N) (i : S1408x1024.Idx) : EReal :=
  ∑ r : Fin 512, A (row t r) (col t (i 0)) * B (row t r) (i 1)

/-- A tile's product, read from blocks of the two arrays. -/
theorem part_of {A : Fin 8192 → Fin 2816 → EReal} {B : Fin 8192 → Fin 1024 → EReal} (t : Fin cfg0.N) {a : S512x1408.Idx → EReal} {b : S512x1024.Idx → EReal}
    (ha : ∀ r k, a (ix2 r k) = A (row t r) (col t k)) (hb : ∀ r k, b (ix2 r k) = B (row t r) k) (acc : EReal) (k : Fin 1408) (j : Fin 1024) :
    acc + ∑ r : Fin 512, a (ix2 r k) * b (ix2 r j) = acc + part A B t (ix2 k j) :=
  congrArg (acc + ·) (Finset.sum_congr rfl fun r _ => congrArg₂ (· * ·) (ha r k) (hb r j))

/-- The tiles of one half add up to the product's rows of that half. -/
theorem parts_sum (A : Fin 8192 → Fin 2816 → EReal) (B : Fin 8192 → Fin 1024 → EReal) (t : Fin cfg0.N) (h : ∀ s : Fin 16, 16 * (t.val / 16) + s.val < cfg0.N)
    (k : Fin 1408) (j : Fin 1024) : (∑ s : Fin 16, part A B ⟨16 * (t.val / 16) + s.val, h s⟩ (ix2 k j)) = rowsProd A B (col t k) j := by
  unfold part rowsProd
  rw [Fin.sum_univ_tiles 16 512 rfl]
  refine Finset.sum_congr rfl fun s _ => Finset.sum_congr rfl fun r _ => ?_
  have er : row ⟨16 * (t.val / 16) + s.val, h s⟩ r = ⟨s.val * 512 + r.val, by omega⟩ := by
    unfold row; apply Fin.ext; dsimp only; omega
  have ec : col ⟨16 * (t.val / 16) + s.val, h s⟩ k = col t k := by
    unfold col; apply Fin.ext; dsimp only; omega
  have e0 : (ix2 k j : S1408x1024.Idx) 0 = k := rfl
  have e1 : (ix2 k j : S1408x1024.Idx) 1 = j := rfl
  rw [e0, e1, er, ec]

include hx hg hp in
theorem gate_blk (t : Fin cfg0.N) (acc : FVec Ideal S1408x1024 .f32) (i : S1408x1024.Idx) :
    k0_pay5 (F := Ideal) (iblk m c 0 t) acc (iblk m c 1 t) i = acc i + part P (hidden X G) t i := by
  idx_vars i
  exact (gate_step _ _ _ i0 i1).trans (part_of t (fun r k => (p_blk m c t r k).trans (p_all hp _ _)) (fun r k => (h_blk m c t r k).trans (hidden_all hx hg _ _)) _ i0 i1)

include hx hg hq in
theorem up_blk (t : Fin cfg0.N) (acc : FVec Ideal S1408x1024 .f32) (i : S1408x1024.Idx) :
    k0_pay6 (F := Ideal) (iblk m c 0 t) acc (iblk m c 2 t) i = acc i + part Q (hidden X G) t i := by
  idx_vars i
  exact (up_step _ _ _ i0 i1).trans (part_of t (fun r k => (q_blk m c t r k).trans (q_all hq _ _)) (fun r k => (h_blk m c t r k).trans (hidden_all hx hg _ _)) _ i0 i1)

variable {A : Fin 8192 → Fin 2816 → EReal} (ha : ∀ r k, (show FVec Ideal S8192x2816 .bf16 from V m c main_v27) (ix2 r k) = A r k)

include ha hd in
theorem down_blk (t : Fin cfg0.N) (acc : FVec Ideal S1408x1024 .f32) (i : S1408x1024.Idx) :
    k0_pay7 (F := Ideal) acc (iblk m c 3 t) (iblk m c 4 t) i = acc i + part A D t i := by
  idx_vars i
  exact (down_step _ _ _ i0 i1).trans (part_of t (fun r k => (act_blk m c t r k).trans (ha _ _)) (fun r k => (d_blk m c t r k).trans (d_all hd _ _)) _ i0 i1)

include hx hg hp in
/-- The first result: the gradient of the gate's weight. -/
theorem final5 : (dats m 0 c).arrAt 5 cfg0.N = (show FVec Ideal S2816x1024 .f32 from fun i => rowsProd P (hidden X G) (i 0) (i 1)) := by
  refine (dats m 0 c).arrAt_eq_of_covers 5 _ (by decide +kernel) fun t hf y => ?_
  blk_simp
  rw [after0_5, Pipeline.eq_sum_fin_of_reset_step_apply_of_flush (fun n h => (outsAt0 m c n h).1) 16 (fun _ => 0) (part P (hidden X G))
    (fun t h j => by rw [outsAt0_A m c t h]; frame_out; rw [gate_blk hx hg hp, zero_at])
    (fun t h j => by rw [outsAt0_B m c t h]; frame_out; rw [gate_blk hx hg hp])
    t ((flush0_5 t).mp hf) _, zero_add]
  idx_vars y
  have e : ((win0_5.blk t).view.emb (ix2 y0 y1)) = ix2 (col t y0) y1 := by unfold col; blk_ext [idx t]
  exact (parts_sum P (hidden X G) t _ y0 y1).trans (congrArg (fun i : S2816x1024.Idx => rowsProd P (hidden X G) (i 0) (i 1)) e.symm)

include hx hg hq in
/-- The second result: the gradient of the other factor's weight. -/
theorem final6 : (dats m 0 c).arrAt 6 cfg0.N = (show FVec Ideal S2816x1024 .f32 from fun i => rowsProd Q (hidden X G) (i 0) (i 1)) := by
  refine (dats m 0 c).arrAt_eq_of_covers 6 _ (by decide +kernel) fun t hf y => ?_
  blk_simp
  rw [after0_6, Pipeline.eq_sum_fin_of_reset_step_apply_of_flush (fun n h => (outsAt0 m c n h).2.1) 16 (fun _ => 0) (part Q (hidden X G))
    (fun t h j => by rw [outsAt0_A m c t h]; frame_out; rw [up_blk hx hg hq]; exact congrArg (· + _) (zero_at j))
    (fun t h j => by rw [outsAt0_B m c t h]; frame_out; rw [up_blk hx hg hq])
    t ((flush0_6 t).mp hf) _, zero_add]
  idx_vars y
  have e : ((win0_6.blk t).view.emb (ix2 y0 y1)) = ix2 (col t y0) y1 := by unfold col; blk_ext [idx t]
  exact (parts_sum Q (hidden X G) t _ y0 y1).trans (congrArg (fun i : S2816x1024.Idx => rowsProd Q (hidden X G) (i 0) (i 1)) e.symm)

include ha hd in
/-- The third result from the saved array: the gradient of the weight after the gate. -/
theorem final7_of : (dats m 0 c).arrAt 7 cfg0.N = (show FVec Ideal S2816x1024 .f32 from fun i => rowsProd A D (i 0) (i 1)) := by
  refine (dats m 0 c).arrAt_eq_of_covers 7 _ (by decide +kernel) fun t hf y => ?_
  blk_simp
  rw [after0_7, Pipeline.eq_sum_fin_of_reset_step_apply_of_flush (fun n h => (outsAt0 m c n h).2.2) 16 (fun _ => 0) (part A D)
    (fun t h j => by rw [outsAt0_A m c t h]; frame_out; rw [down_blk hd ha]; exact congrArg (· + _) (zero_at j))
    (fun t h j => by rw [outsAt0_B m c t h]; frame_out; rw [down_blk hd ha])
    t ((flush0_7 t).mp hf) _, zero_add]
  idx_vars y
  have e : ((win0_7.blk t).view.emb (ix2 y0 y1)) = ix2 (col t y0) y1 := by unfold col; blk_ext [idx t]
  exact (parts_sum A D t _ y0 y1).trans (congrArg (fun i : S2816x1024.Idx => rowsProd A D (i 0) (i 1)) e.symm)

include hx hg hu hw hd in
/-- The third result: the gradient of the weight after the gate. -/
theorem final7 : (dats m 0 c).arrAt 7 cfg0.N = (show FVec Ideal S2816x1024 .f32 from fun i => rowsProd (act X G U W) D (i 0) (i 1)) :=
  final7_of hd (act_all hx hg hu hw)

end Cert.FfnWgradIdeal.Body

end
-- ==== Proof.FfnWgradRef.lean ====
/-
  THE GRADIENTS OF SWIGLU'S WEIGHTS, THE REFERENCE'S ARRAYS: differentiating each product at its weight gives the
  product of its other factor with the incoming gradient, the rows summed over.
-/
module

public import proofs.«01_k».proof.Proof.FfnFwdMath
public import proofs.«01_k».proof.Proof.InprojWgradMath
public import proofs.«01_k».proof.Proof.Gen.FfnWgradRefIdeal.Read
public import Idealize.ShloMosaic.Lib.Pipeline.ValueKit

@[expose] public section

set_option maxRecDepth 16384

noncomputable section

namespace Cert.FfnWgradRefIdeal.Ref

open Cert.FfnWgradRefIdeal Cert.FfnWgradRefIdeal.Read Idealize.ShloMosaic Idealize.ShloMosaic.TcCoe Idealize.SL.Sem
open Cert.RealFacts Cert.InprojWgradMath Cert.FfnBwdMath Cert.FfnFwdMath
open scoped BigOperators

variable {x0 : FVec Ideal S1x8192x1024 .f32} {x1 : FVec Ideal S1x1024 .f32} {x2 x3 : FVec Ideal S1x1024x2816 .f32}
variable {x4 x5 : FVec Ideal S1x8192x2816 .f32} {x6 : FVec Ideal S1x8192x1024 .f32}
variable {X : Fin 8192 → Fin 1024 → EReal} {G : Fin 1024 → EReal} {U W : Fin 1024 → Fin 2816 → EReal}
variable {P Q : Fin 8192 → Fin 2816 → EReal} {D : Fin 8192 → Fin 1024 → EReal}
variable (hx : ∀ r k, x0 (ix3 0 r k) = X r k)
variable (hg : ∀ k, x1 (ix2 0 k) = G k)
variable (hu : ∀ j k, x2 (ix3 0 j k) = U j k)
variable (hw : ∀ j k, x3 (ix3 0 j k) = W j k)
variable (hp : ∀ r k, x4 (ix3 0 r k) = P r k)
variable (hq : ∀ r k, x5 (ix3 0 r k) = Q r k)
variable (hd : ∀ r k, x6 (ix3 0 r k) = D r k)

include hx in
/-- The mean of squares of each row plus epsilon. -/
theorem msq_at (r : Fin 8192) : val_main_v7 (F := Ideal) x0 (ix3 0 r 0) = msqE (X r) := by
  pointwise [val_main_v7, val_main_v6, val_main_cst_1, val_main_v5, val_main_v4, val_main_cst_0, val_main_v3, val_main_v2, val_main_cst, val_main_v1]
  simp only [hx, ofBits_1024, ofBits_eps, zero_add]
  rfl

include hx hg in
/-- The normalized rows times the gain. -/
theorem hidden_at (r : Fin 8192) (j : Fin 1024) : val_main_v13 (F := Ideal) x0 x1 (ix3 0 r j) = hidden X G r j := by
  pointwise [val_main_v13, val_main_v12, val_main_v11, val_main_v10, val_main_v9, val_main_v8, val_main_v0]
  rw [msq_at hx, hx, hg]
  rfl

include hx hg hu in
theorem gate_at (r : Fin 8192) (k : Fin 2816) : val_main_v15 (F := Ideal) x0 x1 x2 (ix3 0 r k) = proj X G U r k := by
  pointwise [val_main_v15, val_main_v14]
  simp only [hidden_at hx hg, hu]
  rfl

include hx hg hw in
theorem up_at (r : Fin 8192) (k : Fin 2816) : val_main_v18 (F := Ideal) x0 x1 x3 (ix3 0 r k) = proj X G W r k := by
  pointwise [val_main_v18, val_main_v17]
  simp only [hidden_at hx hg, hw]
  rfl

include hx hg hu hw in
/-- The gated product. -/
theorem act_at (r : Fin 8192) (k : Fin 2816) : val_main_v19 (F := Ideal) x0 x1 x2 x3 (ix3 0 r k) = act X G U W r k := by
  pointwise [val_main_v19, val_main_v16, val_main_call0_v5, val_main_call0_v4, val_main_call0_cst_0, val_main_call0_v3, val_main_call0_v2, val_main_call0_cst,
    val_main_call0_v1, val_main_call0_v0]
  rw [gate_at hx hg hu, up_at hx hg hw]
  rfl

include hx hg hp in
/-- The gradient of the gate's weight. -/
theorem gate_grad : val_main_v37 (F := Ideal) x0 x1 x4 = fun i => ∑ r, P r (i 0) * hidden X G r (i 1) := by
  funext i
  idx_vars i
  pointwise [val_main_v37, val_main_v36, val_main_v24, val_main_v23, val_main_v22]
  rw [Fin.sum_univ_one]
  exact Finset.sum_congr rfl fun r _ => congrArg₂ (· * ·) (hp r i0) (hidden_at hx hg r i1)

include hx hg hq in
/-- The gradient of the other factor's weight. -/
theorem up_grad : val_main_v39 (F := Ideal) x0 x1 x5 = fun i => ∑ r, Q r (i 0) * hidden X G r (i 1) := by
  funext i
  idx_vars i
  pointwise [val_main_v39, val_main_v38, val_main_v29, val_main_v28, val_main_v27]
  rw [Fin.sum_univ_one]
  exact Finset.sum_congr rfl fun r _ => congrArg₂ (· * ·) (hq r i0) (hidden_at hx hg r i1)

include hx hg hu hw hd in
/-- The gradient of the weight after the gate. -/
theorem down_grad : val_main_v40 (F := Ideal) x0 x1 x2 x3 x6 = fun i => ∑ r, act X G U W r (i 0) * D r (i 1) := by
  funext i
  idx_vars i
  pointwise [val_main_v40, val_main_v35, val_main_v34, val_main_v33]
  rw [Fin.sum_univ_one]
  exact Finset.sum_congr rfl fun r _ => (congrArg₂ (· * ·) (hd r i1) (act_at hx hg hu hw r i0)).trans (mul_comm _ _)

end Cert.FfnWgradRefIdeal.Ref

end
-- ==== Proof.FfnWgradClaim.lean ====
/-
  THE CLAIMS ABOUT THE GRADIENTS OF SWIGLU'S WEIGHTS, one theorem each.
-/
module

public import proofs.«01_k».proof.Defs
public import proofs.«01_k».proof.Proof.FfnWgradValue
public import proofs.«01_k».proof.Proof.FfnWgradRef
public import proofs.«01_k».proof.Proof.Gen.FfnWgrad.Frame
public import proofs.«01_k».proof.Proof.Gen.FfnWgradIdeal.Frame
public import Idealize.ShloMosaic.Lib.Quiescent

@[expose] public section

noncomputable section

namespace Cert.FfnWgradClaim

open Idealize.ShloMosaic Idealize.SL.Sem
open Cert.FfnWgradRefIdeal.Read Cert.FfnWgradRefIdeal.Ref Cert.FfnWgradIdeal.Body

theorem frame_ref : Cert.quiescent_FfnWgradRefIdeal := fun m ρ _ => (θ_run (Cert.FfnWgradRefIdeal.defs (F := Ideal)) _ _).mono
  (fun r h => ⟨fun c => (h c).2.2.2, Idealize.ShloMosaic.sem_eq_zero_of_no_sems (by decide) r.2⟩) (Cert.FfnWgradRefIdeal.Value.run (F := Ideal) m ρ)

/-- Both programs leave the same three arrays, whatever the arguments hold. -/
theorem algebraic : Cert.algebraic_FfnWgradIdeal_FfnWgradRefIdeal := by
  intro m g m' g' _ hag
  refine ⟨fun c => (Cert.FfnWgradIdeal.Gen.dats m 0 c).arrAt 5 Cert.FfnWgradIdeal.cfg0.N, fun c => (Cert.FfnWgradIdeal.Gen.dats m 0 c).arrAt 6 Cert.FfnWgradIdeal.cfg0.N,
    fun c => (Cert.FfnWgradIdeal.Gen.dats m 0 c).arrAt 7 Cert.FfnWgradIdeal.cfg0.N, Cert.FfnWgradIdeal.Value.run_blocks (F := Ideal) m g, ?_⟩
  refine (θ_run _ _ _).mono (fun r h c => ?_) (Cert.FfnWgradRefIdeal.Value.run (F := Ideal) m' g')
  obtain ⟨e0, e1, e2, e3, e4, e5, e6⟩ := hag c
  refine ⟨(h c).1.trans ?_, (h c).2.1.trans ?_, (h c).2.2.1.trans ?_, (h c).2.2.2⟩
  · rw [val_main_v37_eq, e0, e1, e4]
    exact (gate_grad (fun _ _ => rfl) (fun _ => rfl) (fun _ _ => rfl)).trans (final5 (fun _ _ => rfl) (fun _ => rfl) (fun _ _ => rfl)).symm
  · rw [val_main_v39_eq, e0, e1, e5]
    exact (up_grad (fun _ _ => rfl) (fun _ => rfl) (fun _ _ => rfl)).trans (final6 (fun _ _ => rfl) (fun _ => rfl) (fun _ _ => rfl)).symm
  · rw [val_main_v40_eq, e0, e1, e2, e3, e6]
    exact (down_grad (fun _ _ => rfl) (fun _ => rfl) (fun _ _ => rfl) (fun _ _ => rfl) (fun _ _ => rfl)).trans
      (final7 (fun _ _ => rfl) (fun _ => rfl) (fun _ _ => rfl) (fun _ _ => rfl) (fun _ _ => rfl)).symm

end Cert.FfnWgradClaim

end
-- ==== Proof.AdamwValue.lean ====
/-
  THE OPTIMISER, THE KERNEL'S ARRAYS AND THE REFERENCE'S: every entry of the four results is the same expression in the
  entries of the weight, of its gradient and of the two moments at that place.
-/
module

public import proofs.«01_k».proof.Proof.Gen.AdamwIdeal.Value
public import proofs.«01_k».proof.Proof.Gen.AdamwRefIdeal.Read
public import Idealize.ShloMosaic.Lib.Pipeline.ValueKit
public import Idealize.ShloMosaic.Lib.Pipeline.ReadBack

@[expose] public section

set_option maxRecDepth 16384

noncomputable section

namespace Cert.AdamwMath

open Idealize.ShloMosaic

/-- The number a single-precision word stands for. -/
abbrev lit (w : BitVec 32) : EReal := Ideal.ofBits .f32 w

/-- The first moment after the step: `0.9 * a + 0.1 * g`. -/
def moment1 (g a : EReal) : EReal := lit 0x3F666666#32 * a + lit 0x3DCCCCCD#32 * g

/-- The second moment after the step: `0.999 * b + 0.001 * (g * g)`. -/
def moment2 (g b : EReal) : EReal := lit 0x3F7FBE77#32 * b + lit 0x3A83126F#32 * (g * g)

/-- The weight's change: the corrected first moment over the root of the corrected second one, the decay of the weight added, times the negative rate. -/
def change (w g a b : EReal) : EReal :=
  lit 0xBA83126F#32 * (Ideal.div (Ideal.div (moment1 g a) (lit 0x3F26BD02#32)) (Ideal.sqrt (Ideal.div (moment2 g b) (lit 0x3C231ACC#32)) + lit 0x322BCC77#32)
    + lit 0x3C23D70A#32 * w)

theorem change_congr {w w' g g' a a' b b' : EReal} (hw : w = w') (hg : g = g') (ha : a = a') (hb : b = b') : change w g a b = change w' g' a' b' := by
  rw [hw, hg, ha, hb]

end Cert.AdamwMath

namespace Cert.AdamwIdeal.Body

open Cert.AdamwIdeal Cert.AdamwIdeal.Gen Idealize.ShloMosaic Idealize.ShloMosaic.TcCoe Idealize.SL.Sem Cert.AdamwMath

/-! ## One tile -/

variable (w g a b : FVec Ideal S352x1024 .f32)

theorem same_at (i : Fin 352) (j : Fin 1024) : k0_pay5 (F := Ideal) g (ix2 i j) = g (ix2 i j) := by pointwise [k0_pay5, k0_pay4]

theorem change_at (i : Fin 352) (j : Fin 1024) :
    k0_pay1 (F := Ideal) (k0_pay8 g w a b) (ix2 i j) = change (w (ix2 i j)) (g (ix2 i j)) (a (ix2 i j)) (b (ix2 i j)) := by
  pointwise [k0_pay1, k0_pay4, k0_pay6, k0_pay7, k0_pay8]
  rfl

theorem moment1_at (i : Fin 352) (j : Fin 1024) : k0_pay2 (F := Ideal) (k0_pay6 g a) (ix2 i j) = moment1 (g (ix2 i j)) (a (ix2 i j)) := by
  pointwise [k0_pay2, k0_pay4, k0_pay6]
  rfl

theorem moment2_at (i : Fin 352) (j : Fin 1024) : k0_pay3 (F := Ideal) (k0_pay7 g b) (ix2 i j) = moment2 (g (ix2 i j)) (b (ix2 i j)) := by
  pointwise [k0_pay3, k0_pay4, k0_pay7]
  rfl

/-! ## The blocks a grid point reads -/

variable (m : (ℓ : Loc nD τ sig) → Buf (Elt Ideal) ℓ)

/-- The block each window holds at a grid point. -/
theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 0] ∧ win0_7.index t = ![t.val, 0] :=
  (by decide +kernel : ∀ t : Fin grid0.N, _)

/-- Row `r` of the tile at point `t`. -/
def row (t : Fin cfg0.N) (r : Fin 352) : Fin 704 := ⟨t.val * 352 + r.val, by have := t.isLt; have : cfg0.N = 2 := N_0; omega⟩

theorem w_blk (c : Dev nD) (t : Fin cfg0.N) (r : Fin 352) (k : Fin 1024) :
    (show FVec Ideal S352x1024 .f32 from iblk m c 0 t) (ix2 r k) = m ((c : Thread nD τ).loc main_arg0) (ix3 0 (row t r) k) := by
  unfold row; blk_simp [iblk, idx t]; entry_read; pointwise; blk_ext [idx t]

theorem g_blk (c : Dev nD) (t : Fin cfg0.N) (r : Fin 352) (k : Fin 1024) :
    (show FVec Ideal S352x1024 .f32 from iblk m c 1 t) (ix2 r k) = m ((c : Thread nD τ).loc main_arg1) (ix3 0 (row t r) k) := by
  unfold row; blk_simp [iblk, idx t]; entry_read; pointwise; blk_ext [idx t]

theorem a_blk (c : Dev nD) (t : Fin cfg0.N) (r : Fin 352) (k : Fin 1024) :
    (show FVec Ideal S352x1024 .f32 from iblk m c 2 t) (ix2 r k) = m ((c : Thread nD τ).loc main_arg2) (ix3 0 (row t r) k) := by
  unfold row; blk_simp [iblk, idx t]; entry_read; pointwise; blk_ext [idx t]

theorem b_blk (c : Dev nD) (t : Fin cfg0.N) (r : Fin 352) (k : Fin 1024) :
    (show FVec Ideal S352x1024 .f32 from iblk m c 3 t) (ix2 r k) = m ((c : Thread nD τ).loc main_arg3) (ix3 0 (row t r) k) := by
  unfold row; blk_simp [iblk, idx t]; entry_read; pointwise; blk_ext [idx t]

/-! ## The four results -/

variable {m} {c : Dev nD} {W G A B : Fin 704 → Fin 1024 → EReal}
variable (hw : ∀ r k, m ((c : Thread nD τ).loc main_arg0) (ix3 0 r k) = W r k)
variable (hg : ∀ r k, m ((c : Thread nD τ).loc main_arg1) (ix3 0 r k) = G r k)
variable (ha : ∀ r k, m ((c : Thread nD τ).loc main_arg2) (ix3 0 r k) = A r k)
variable (hb : ∀ r k, m ((c : Thread nD τ).loc main_arg3) (ix3 0 r k) = B r k)

include hg in
/-- The gradient, handed on. -/
theorem final4 : (dats m 0 c).arrAt 4 cfg0.N = (show FVec Ideal S704x1024 .f32 from fun i => G (i 0) (i 1)) := by
  refine (dats m 0 c).arrAt_eq_of_covers 4 _ (by decide +kernel) fun t hf y => ?_
  blk_simp
  rw [after0_4]
  idx_vars y
  have e : (win0_4.blk t).view.emb (ix2 y0 y1) = ix2 (row t y0) y1 := by unfold row; blk_ext [idx t]
  refine Eq.trans ?_ (congrArg (fun i : S704x1024.Idx => G (i 0) (i 1)) e.symm)
  frame_out [out0_4]
  exact (same_at _ y0 y1).trans ((g_blk m c t y0 y1).trans (hg _ _))

include hw hg ha hb in
/-- The weight's change. -/
theorem final5 : (dats m 0 c).arrAt 5 cfg0.N
    = (show FVec Ideal S704x1024 .f32 from fun i => change (W (i 0) (i 1)) (G (i 0) (i 1)) (A (i 0) (i 1)) (B (i 0) (i 1))) := by
  refine (dats m 0 c).arrAt_eq_of_covers 5 _ (by decide +kernel) fun t hf y => ?_
  blk_simp
  rw [after0_5]
  idx_vars y
  have e : (win0_5.blk t).view.emb (ix2 y0 y1) = ix2 (row t y0) y1 := by unfold row; blk_ext [idx t]
  refine Eq.trans ?_ (congrArg (fun i : S704x1024.Idx => change (W (i 0) (i 1)) (G (i 0) (i 1)) (A (i 0) (i 1)) (B (i 0) (i 1))) e.symm)
  frame_out [out0_5]
  exact (change_at _ _ _ _ y0 y1).trans (change_congr ((w_blk m c t y0 y1).trans (hw _ _)) ((g_blk m c t y0 y1).trans (hg _ _))
    ((a_blk m c t y0 y1).trans (ha _ _)) ((b_blk m c t y0 y1).trans (hb _ _)))

include hg ha in
/-- The first moment. -/
theorem final6 : (dats m 0 c).arrAt 6 cfg0.N = (show FVec Ideal S704x1024 .f32 from fun i => moment1 (G (i 0) (i 1)) (A (i 0) (i 1))) := by
  refine (dats m 0 c).arrAt_eq_of_covers 6 _ (by decide +kernel) fun t hf y => ?_
  blk_simp
  rw [after0_6]
  idx_vars y
  have e : (win0_6.blk t).view.emb (ix2 y0 y1) = ix2 (row t y0) y1 := by unfold row; blk_ext [idx t]
  refine Eq.trans ?_ (congrArg (fun i : S704x1024.Idx => moment1 (G (i 0) (i 1)) (A (i 0) (i 1))) e.symm)
  frame_out [out0_6]
  exact (moment1_at _ _ y0 y1).trans (congrArg₂ moment1 ((g_blk m c t y0 y1).trans (hg _ _)) ((a_blk m c t y0 y1).trans (ha _ _)))

include hg hb in
/-- The second moment. -/
theorem final7 : (dats m 0 c).arrAt 7 cfg0.N = (show FVec Ideal S704x1024 .f32 from fun i => moment2 (G (i 0) (i 1)) (B (i 0) (i 1))) := by
  refine (dats m 0 c).arrAt_eq_of_covers 7 _ (by decide +kernel) fun t hf y => ?_
  blk_simp
  rw [after0_7]
  idx_vars y
  have e : (win0_7.blk t).view.emb (ix2 y0 y1) = ix2 (row t y0) y1 := by unfold row; blk_ext [idx t]
  refine Eq.trans ?_ (congrArg (fun i : S704x1024.Idx => moment2 (G (i 0) (i 1)) (B (i 0) (i 1))) e.symm)
  frame_out [out0_7]
  exact (moment2_at _ _ y0 y1).trans (congrArg₂ moment2 ((g_blk m c t y0 y1).trans (hg _ _)) ((b_blk m c t y0 y1).trans (hb _ _)))

end Cert.AdamwIdeal.Body

namespace Cert.AdamwRefIdeal.Ref

open Cert.AdamwRefIdeal Cert.AdamwRefIdeal.Read Idealize.ShloMosaic Idealize.ShloMosaic.TcCoe Idealize.SL.Sem Cert.AdamwMath

/-! ## The reference's lines -/

variable {w g a b : FVec Ideal S1x704x1024 .f32} {W G A B : Fin 704 → Fin 1024 → EReal}
variable (hw : ∀ r k, w (ix3 0 r k) = W r k) (hg : ∀ r k, g (ix3 0 r k) = G r k) (ha : ∀ r k, a (ix3 0 r k) = A r k) (hb : ∀ r k, b (ix3 0 r k) = B r k)

include hg in
theorem grad_all : val_main_v24 (F := Ideal) g = fun i => G (i 0) (i 1) := by
  funext i; idx_vars i
  pointwise [val_main_v24]
  exact hg i0 i1

include hg ha in
theorem moment1_all (i : Fin 704) (j : Fin 1024) : val_main_v4 (F := Ideal) g a (ix3 0 i j) = moment1 (G i j) (A i j) := by
  rw [← hg, ← ha]
  pointwise [val_main_v4, val_main_v3, val_main_v2, val_main_v1, val_main_v0, val_main_cst, val_main_cst_0]
  rfl

include hg hb in
theorem moment2_all (i : Fin 704) (j : Fin 1024) : val_main_v10 (F := Ideal) g b (ix3 0 i j) = moment2 (G i j) (B i j) := by
  rw [← hg, ← hb]
  pointwise [val_main_v10, val_main_v9, val_main_v8, val_main_v7, val_main_v6, val_main_v5, val_main_cst_1, val_main_cst_2]
  rfl

include hg ha in
theorem first_all : val_main_v26 (F := Ideal) g a = fun i => moment1 (G (i 0) (i 1)) (A (i 0) (i 1)) := by
  funext i; idx_vars i
  pointwise [val_main_v26]
  exact moment1_all hg ha i0 i1

include hg hb in
theorem second_all : val_main_v27 (F := Ideal) g b = fun i => moment2 (G (i 0) (i 1)) (B (i 0) (i 1)) := by
  funext i; idx_vars i
  pointwise [val_main_v27]
  exact moment2_all hg hb i0 i1

include hw hg ha hb in
theorem change_all : val_main_v25 (F := Ideal) w g a b = fun i => change (W (i 0) (i 1)) (G (i 0) (i 1)) (A (i 0) (i 1)) (B (i 0) (i 1)) := by
  funext i; idx_vars i
  pointwise [val_main_v25, val_main_v23, val_main_v22, val_main_v21, val_main_v20, val_main_v19, val_main_v18, val_main_v17, val_main_v16, val_main_v15, val_main_v14,
    val_main_v13, val_main_v12, val_main_v11, val_main_cst_3, val_main_cst_4, val_main_cst_5, val_main_cst_6, val_main_cst_7]
  rw [moment1_all hg ha, moment2_all hg hb, hw]
  rfl

end Cert.AdamwRefIdeal.Ref

end
-- ==== Proof.AdamwClaim.lean ====
/-
  THE CLAIMS ABOUT THE OPTIMISER, one theorem each.
-/
module

public import proofs.«01_k».proof.Defs
public import proofs.«01_k».proof.Proof.AdamwValue
public import proofs.«01_k».proof.Proof.Gen.Adamw.Frame
public import proofs.«01_k».proof.Proof.Gen.AdamwRefIdeal.Run
public import Idealize.ShloMosaic.Lib.Quiescent

@[expose] public section

noncomputable section

namespace Cert.AdamwClaim

open Idealize.ShloMosaic Idealize.SL.Sem
open Cert.AdamwRefIdeal.Read Cert.AdamwRefIdeal.Ref Cert.AdamwIdeal.Body

theorem frame_ref : Cert.quiescent_AdamwRefIdeal := fun m ρ _ => (θ_run (Cert.AdamwRefIdeal.defs (F := Ideal)) _ _).mono
  (fun r h => ⟨fun c => (h c).2.2.2.2, Idealize.ShloMosaic.sem_eq_zero_of_no_sems (by decide) r.2⟩) (Cert.AdamwRefIdeal.Value.run (F := Ideal) m ρ)

/-- Both programs leave the same four arrays, whatever the arguments hold. -/
theorem algebraic : Cert.algebraic_AdamwIdeal_AdamwRefIdeal := by
  intro m g m' g' _ hag
  refine ⟨fun c => (Cert.AdamwIdeal.Gen.dats m 0 c).arrAt 4 Cert.AdamwIdeal.cfg0.N, fun c => (Cert.AdamwIdeal.Gen.dats m 0 c).arrAt 5 Cert.AdamwIdeal.cfg0.N,
    fun c => (Cert.AdamwIdeal.Gen.dats m 0 c).arrAt 6 Cert.AdamwIdeal.cfg0.N, fun c => (Cert.AdamwIdeal.Gen.dats m 0 c).arrAt 7 Cert.AdamwIdeal.cfg0.N,
    Cert.AdamwIdeal.Value.run_blocks (F := Ideal) m g, ?_⟩
  refine (θ_run _ _ _).mono (fun r h c => ?_) (Cert.AdamwRefIdeal.Value.run (F := Ideal) m' g')
  obtain ⟨e0, e1, e2, e3⟩ := hag c
  refine ⟨(h c).1.trans ?_, (h c).2.1.trans ?_, (h c).2.2.1.trans ?_, (h c).2.2.2.1.trans ?_, (h c).2.2.2.2⟩
  · rw [val_main_v24_eq, e1]
    exact (grad_all (fun _ _ => rfl)).trans (final4 (fun _ _ => rfl)).symm
  · rw [val_main_v25_eq, e0, e1, e2, e3]
    exact (change_all (fun _ _ => rfl) (fun _ _ => rfl) (fun _ _ => rfl) (fun _ _ => rfl)).trans
      (final5 (fun _ _ => rfl) (fun _ _ => rfl) (fun _ _ => rfl) (fun _ _ => rfl)).symm
  · rw [val_main_v26_eq, e1, e2]
    exact (first_all (fun _ _ => rfl) (fun _ _ => rfl)).trans (final6 (fun _ _ => rfl) (fun _ _ => rfl)).symm
  · rw [val_main_v27_eq, e1, e3]
    exact (second_all (fun _ _ => rfl) (fun _ _ => rfl)).trans (final7 (fun _ _ => rfl) (fun _ _ => rfl)).symm

end Cert.AdamwClaim

end
-- ==== Proof.AddPartialsValue.lean ====
/-
  THE SUM OF THE FOUR PARTS, THE KERNEL'S ARRAY AND THE REFERENCE'S: every entry is the device's own part plus the three it received.
-/
module

public import proofs.«01_k».proof.Proof.Gen.AddPartials.Frame
public import proofs.«01_k».proof.Proof.Gen.AddPartialsIdeal.Frame
public import proofs.«01_k».proof.Proof.Gen.AddPartialsRefIdeal.Read
public import proofs.«01_k».proof.Proof.Gen.AddPartialsRefIdeal.Run
public import Idealize.ShloMosaic.Lib.Pipeline.ValueKit
public import Idealize.ShloMosaic.Lib.Pipeline.ReadBack

@[expose] public section

set_option maxRecDepth 16384

noncomputable section

namespace Cert.AddPartialsMath

/-- The device's own part plus the three received. -/
def total (P : Fin 704 → Fin 512 → EReal) (Q : Fin 3 → Fin 704 → Fin 512 → EReal) (i : Fin 704) (j : Fin 512) : EReal := P i j + Q 0 i j + Q 1 i j + Q 2 i j

theorem total_eq {P : Fin 704 → Fin 512 → EReal} {Q : Fin 3 → Fin 704 → Fin 512 → EReal} {i : Fin 704} {j : Fin 512} {x a b d : EReal}
    (hx : x = P i j) (ha : a = Q 0 i j) (hb : b = Q 1 i j) (hd : d = Q 2 i j) : x + a + b + d = total P Q i j := by rw [hx, ha, hb, hd]; rfl

end Cert.AddPartialsMath

namespace Cert.AddPartialsIdeal.Body

open Cert.AddPartialsMath
open Cert.AddPartialsIdeal Cert.AddPartialsIdeal.Gen Idealize.ShloMosaic Idealize.ShloMosaic.TcCoe Idealize.SL.Sem

variable {F : FTy → Type} [FloatOps F] (m : (ℓ : Loc nD τ sig) → Buf (Elt F) ℓ)

/-- The table holds two zeros. -/
theorem table (i : S2.Idx) : (show Vec F S2 .i32 from tbl m 0) i = 0#32 := by
  show V m (0 : Dev nD) main_v1 i = 0#32
  entry_read
  rfl

/-- So the block written at point `i` is block `i` of the first half of the columns. -/
theorem at_index (i : grid0.Coords) : cc0_transform_3 inb_S2_S1_1 numel1_S1 (tbl m) i = ![(i 0).val, 0] := by
  have h : (tbl m).at 0 (Rect.unit (s := S2) ![1] S1.size inb_S2_S1_1) numel1_S1 = 0#32 := table m _
  unfold cc0_transform_3
  have hb : (i 0).val < 2 := (i 0).isLt
  simp only [h]
  have e : (BitVec.ofNat 32 (i 0).val).toNat = (i 0).val := by rw [BitVec.toNat_ofNat]; omega
  rw [e]; rfl

theorem ok : Ok m := by
  intro i
  refine ⟨?_, Or.inl rfl⟩
  rw [at_index]
  have hb : (i 0).val < 2 := (i 0).isLt
  intro a
  fin_cases a
  · show ((i 0).val + 1) * 352 ≤ 704; omega
  · show (0 + 1) * 512 ≤ 1024; omega

/-! ## One tile -/

section Tile

variable (p : FVec Ideal S352x512 .f32) (a b d : FVec Ideal S1x352x512 .bf16)

theorem sum_at (i : Fin 352) (j : Fin 512) :
    k0_pay1 (F := Ideal) p a b d (ix2 i j) = (p (ix2 i j) + (a (ix3 0 i j) : EReal) + (b (ix3 0 i j) : EReal) + (d (ix3 0 i j) : EReal) : EReal) := by
  pointwise [k0_pay1]

/-- One of the three received parts, loaded by itself. -/
theorem part_at (X : FVec Ideal S3x352x512 .bf16) (u : Fin 3) (inb : ∀ a, (![u.val, 0, 0] : Fin 3 → ℕ) a + (![1, 352, 512] : Fin 3 → ℕ) a ≤ S3x352x512.size a) (i : Fin 352) (j : Fin 512) :
    View.ld (Val := Elt Ideal) (e' := .bf16) X (Rect.unit ![u.val, 0, 0] ![1, 352, 512] inb) (ix3 0 i j) = X (ix3 u i j) := by
  refine congrArg X (funext fun a => Fin.ext ?_)
  fin_cases a
  · show u.val + 1 * 0 = u.val; omega
  · show 0 + 1 * i.val = i.val; omega
  · show 0 + 1 * j.val = j.val; omega

end Tile

/-! ## The blocks -/

variable (M : (ℓ : Loc nD τ sig) → Buf (Elt Ideal) ℓ) (c : Dev nD)

abbrev N2 : ℕ := (cfgM M (ok M)).N

theorem coord : ∀ t : Fin grid0.N, (grid0.coords t 0).val = t.val := by decide +kernel

theorem index0 (t : Fin (N2 M)) : ((cfgM M (ok M)).win 0).index t = ![t.val, 0] := by
  revert t
  exact (by decide +kernel : ∀ t : Fin grid0.N, cc0_transform_0 (grid0.coords t) = ![t.val, 0])

theorem index1 (t : Fin (N2 M)) : ((cfgM M (ok M)).win 1).index t = ![0, t.val, 0] := by
  revert t
  exact (by decide +kernel : ∀ t : Fin grid0.N, cc0_transform_1 (grid0.coords t) = ![0, t.val, 0])

theorem index3 (t : Fin (N2 M)) : ((cfgM M (ok M)).win 3).index t = ![t.val, 0] :=
  (at_index M (grid0.coords t)).trans (congrArg (fun n => ![n, 0]) (coord t))

theorem index3_inj (t t' : Fin (N2 M)) (h : ((cfgM M (ok M)).win 3).index t = ((cfgM M (ok M)).win 3).index t') : t = t' := by
  rw [index3, index3] at h
  exact Fin.ext (congrFun h 0)

/-- Every point writes its block back. -/
theorem flush3 (t : Fin (N2 M)) : ((cfgM M (ok M)).win 3).flush t = true := by
  unfold Pipeline.Window.flush
  rw [show ((cfgM M (ok M)).win 3).isOut = true from rfl, Bool.true_and, Bool.or_eq_true, decide_eq_true_iff, decide_eq_true_iff]
  have hN : (cfgM M (ok M)).grid.N = N2 M := rfl
  have ht := t.isLt
  by_cases h : t.val + 1 = (cfgM M (ok M)).grid.N
  · exact Or.inl h
  · exact Or.inr ⟨by omega, fun e => Nat.succ_ne_self t.val (congrArg Fin.val (index3_inj M _ _ e))⟩

/-- Row `r` of the tile at point `t`. -/
def row (t : Fin (N2 M)) (r : Fin 352) : Fin 704 := ⟨t.val * 352 + r.val, by have := t.isLt; have : N2 M = 2 := rfl; omega⟩

theorem p_blk (t : Fin (N2 M)) (r : Fin 352) (k : Fin 512) :
    (show FVec Ideal S352x512 .f32 from iblk M (ok M) c 0 t) (ix2 r k) = M ((c : Thread nD τ).loc main_arg0) (ix2 (row M t r) k) := by
  unfold row; blk_simp [iblk, index0 M t]; entry_read; pointwise; blk_ext [index0 M t]

theorem r_blk (t : Fin (N2 M)) (u : Fin 3) (r : Fin 352) (k : Fin 512) :
    (show FVec Ideal S3x352x512 .bf16 from iblk M (ok M) c 1 t) (ix3 u r k) = (show FVec Ideal S3x704x512 .f32 from M ((c : Thread nD τ).loc main_arg1)) (ix3 u (row M t r) k) := by
  unfold row; blk_simp [iblk, index1 M t]; entry_read; pointwise; blk_ext [index1 M t]

/-! ## The result -/

/-- The result: the first half of the columns of the array. -/
def result : FVec Ideal S704x512 .f32 := Pipeline.afterTail pcfgs (fun _ => adm M (ok M)) (dats M (ok M)) 0 (V0 M) [hostOps1] c main_v4

variable {M c} {P : Fin 704 → Fin 512 → EReal} {Q : Fin 3 → Fin 704 → Fin 512 → EReal}
variable (hp : ∀ i j, M ((c : Thread nD τ).loc main_arg0) (ix2 i j) = P i j) (hq : ∀ k i j, M ((c : Thread nD τ).loc main_arg1) (ix3 k i j) = Q k i j)

include hp hq in
/-- What point `t` writes, entry by entry. -/
theorem after_at (t : Fin (N2 M)) (r : Fin 352) (k : Fin 512) :
    (show FVec Ideal S352x512 .f32 from (dats M (ok M) 0 c).after 3 t) (ix2 r k) = total P Q (row M t r) k := by
  rw [after0_3]
  unfold outsAt0
  frame_out [out0_A_3]
  refine (sum_at _ _ _ _ r k).trans ?_
  have e0 := (hs0_0 M (ok M) t).read_unread (iblk M (ok M) c 0 t)
  have e1 := (hs0_1 M (ok M) t).read_unread (iblk M (ok M) c 1 t)
  exact total_eq ((congrFun e0 _).trans ((p_blk M c t r k).trans (hp _ _)))
    ((part_at _ 0 _ r k).trans ((congrFun e1 _).trans ((r_blk M c t 0 r k).trans (hq _ _ _))))
    ((part_at _ 1 _ r k).trans ((congrFun e1 _).trans ((r_blk M c t 1 r k).trans (hq _ _ _))))
    ((part_at _ 2 _ r k).trans ((congrFun e1 _).trans ((r_blk M c t 2 r k).trans (hq _ _ _))))

theorem emb_at (t : Fin (N2 M)) (r : Fin 352) (j : Fin 512) :
    (((cfgM M (ok M)).win 3).blk t).view.emb (ix2 r j) = ix2 (row M t r) (j.castLE (by decide : 512 ≤ 1024)) := by
  unfold row; blk_ext [index3 M t]; rfl

include hp hq in
theorem left_at (i : Fin 704) (j : Fin 512) :
    (show FVec Ideal S704x1024 .f32 from (dats M (ok M) 0 c).arrAt 3 (N2 M)) (ix2 i (j.castLE (by decide : 512 ≤ 1024))) = total P Q i j := by
  have hi := i.isLt
  have hN : N2 M = 2 := rfl
  let t : Fin (N2 M) := ⟨i.val / 352, by omega⟩
  let r : Fin 352 := ⟨i.val % 352, Nat.mod_lt _ (by decide)⟩
  have hr : row M t r = i := Fin.ext (by show i.val / 352 * 352 + i.val % 352 = i.val; omega)
  have h := (dats M (ok M) 0 c).arrAt_emb_eq_flushed 3 (((cfgM M (ok M)).win 3).hdisj_of_index_inj fun t t' _ _ => index3_inj M t t') t (flush3 M t) (ix2 r j)
  have e := emb_at (M := M) t r j
  rw [hr] at e
  rw [e] at h
  refine h.trans ?_
  rw [← hr]
  exact after_at hp hq t r j

include hp hq in
theorem result_all : result M c = fun i => total P Q (i 0) (i 1) := by
  funext i; idx_vars i
  refine Eq.trans ?_ (left_at hp hq i0 i1)
  have hw := Pipeline.withArrays_arr spec0 (by decide : Function.Injective (Pipeline.arrRef spec0)) c (V0 M c) (fun w => (dats M (ok M) 0 c).arrAt w (N2 M)) 3
  refine Eq.trans ?_ (congrFun hw _)
  unfold result Pipeline.afterTail
  generalize Pipeline.withArrays (Pipeline.pin pcfgs (fun _ => adm M (ok M)) 0).spec c (V0 M c) _ = v
  have hs : StableHlo.after hostOps1 v (Proc.devRef .tc main_v4) = extractStridedSlice S704x512 ![0, 0] (show FVec Ideal S704x1024 .f32 from v (Proc.devRef .tc main_v3)) slices_S704x1024_S704x512_0_0 := by after_results
  refine (congrFun hs (ix2 i0 i1)).trans ?_
  pointwise
  rfl

/-- The run, its result named. -/
theorem run_result (M : (ℓ : Loc nD τ sig) → Buf (Elt Ideal) ℓ) (ρ : Dev nD → PrngReg) :
    θ_run defs (onTc (τ := τ) (main (F := Ideal))) ⟨M, fun _ => 0, ρ⟩ fun r => ∀ c : Dev nD,
      r.2.mem ((c.tc : Thread nD τ).loc main_v4) = result M c
      ∧ r.2.mem ((c.tc : Thread nD τ).loc main_arg0) = M ((c.tc : Thread nD τ).loc main_arg0)
      ∧ r.2.mem ((c.tc : Thread nD τ).loc main_arg1) = M ((c.tc : Thread nD τ).loc main_arg1) :=
  (θ_run defs _ _).mono (fun r h c => ⟨(h.1 c).2 main_v4 (by decide : main_v4 ∈ Pipeline.restRefs sig spec0), h.2 c⟩)
    (θ_run_and (run_main M ρ (ok M)) (unchanged M ρ (ok M)))

end Cert.AddPartialsIdeal.Body

namespace Cert.AddPartials.Body

open Idealize.ShloMosaic

/-- The program before idealization is the same text, so its table is in range for the same reason. -/
theorem ok {F : FTy → Type} [FloatOps F] (m : (ℓ : Loc Cert.AddPartials.nD Cert.AddPartials.τ Cert.AddPartials.sig) → Buf (Elt F) ℓ) : Cert.AddPartials.Gen.Ok m :=
  Cert.AddPartialsIdeal.Body.ok (F := F) m

end Cert.AddPartials.Body

namespace Cert.AddPartialsRefIdeal.Ref

open Cert.AddPartialsRefIdeal Cert.AddPartialsRefIdeal.Gen Cert.AddPartialsRefIdeal.Read Cert.AddPartialsMath Idealize.ShloMosaic Idealize.ShloMosaic.TcCoe Idealize.SL.Sem

/-! ## The reference -/

variable {p : FVec Ideal S704x512 .f32} {q : FVec Ideal S3x704x512 .f32} {P : Fin 704 → Fin 512 → EReal} {Q : Fin 3 → Fin 704 → Fin 512 → EReal}

theorem ref_all (hp : ∀ i j, p (ix2 i j) = P i j) (hq : ∀ k i j, q (ix3 k i j) = Q k i j) :
    val_main_v1 (F := Ideal) p q = fun i => total P Q (i 0) (i 1) := by
  funext i; idx_vars i
  have h := val_main_v0_apply q (ix2 i0 i1)
  have z : val_main_cst (F := Ideal) (Shape.Idx.first h_S_) = (0 : EReal) := Ideal.ofBits_zero_f32
  rw [z, zero_add, Fin.sum_univ_three] at h
  have e : ∀ k : Fin 3, (q (idx_main_v0 (ix2 i0 i1) k) : EReal) = Q k i0 i1 := fun k =>
    (congrArg q (funext fun a => by fin_cases a <;> rfl : idx_main_v0 (ix2 i0 i1) k = ix3 k i0 i1)).trans (hq k i0 i1)
  refine (congrArg (p (ix2 i0 i1) + ·) h).trans ?_
  rw [e, e, e, ← add_assoc, ← add_assoc]
  exact total_eq (hp i0 i1) rfl rfl rfl

end Cert.AddPartialsRefIdeal.Ref

end
-- ==== Proof.AddPartialsClaim.lean ====
/-
  THE CLAIMS ABOUT THE SUM OF THE FOUR PARTS, one theorem each.
-/
module

public import proofs.«01_k».proof.Defs
public import proofs.«01_k».proof.Proof.AddPartialsValue
public import proofs.«01_k».proof.Proof.Gen.AddPartials.Frame
public import proofs.«01_k».proof.Proof.Gen.AddPartialsRefIdeal.Run
public import Idealize.ShloMosaic.Lib.Quiescent

@[expose] public section

noncomputable section

namespace Cert.AddPartialsClaim

open Idealize.ShloMosaic Idealize.SL.Sem
open Cert.AddPartialsRefIdeal.Read Cert.AddPartialsRefIdeal.Ref Cert.AddPartialsIdeal.Body

theorem frame_kernel : Cert.quiescent_AddPartials := fun m ρ _ => Cert.AddPartials.Gen.frame m ρ (Cert.AddPartials.Body.ok m)

theorem frame_ideal : Cert.quiescent_AddPartialsIdeal := fun m ρ _ => Cert.AddPartialsIdeal.Gen.frame m ρ (ok m)

theorem frame_ref : Cert.quiescent_AddPartialsRefIdeal := fun m ρ _ => (θ_run (Cert.AddPartialsRefIdeal.defs (F := Ideal)) _ _).mono
  (fun r h => ⟨fun c => (h c).2, Idealize.ShloMosaic.sem_eq_zero_of_no_sems (by decide) r.2⟩) (Cert.AddPartialsRefIdeal.Value.run (F := Ideal) m ρ)

/-- Both programs leave the same array, whatever the arguments hold. -/
theorem algebraic : Cert.algebraic_AddPartialsIdeal_AddPartialsRefIdeal := by
  intro m g m' g' _ hag
  refine ⟨fun c => result m c, run_result m g, ?_⟩
  refine (θ_run _ _ _).mono (fun r h c => ?_) (Cert.AddPartialsRefIdeal.Value.run (F := Ideal) m' g')
  obtain ⟨e0, e1⟩ := hag c
  refine ⟨(h c).1.trans ?_, (h c).2⟩
  rw [val_main_v1_eq, e0, e1]
  exact (ref_all (fun _ _ => rfl) (fun _ _ _ => rfl)).trans (result_all (fun _ _ => rfl) (fun _ _ _ => rfl)).symm

end Cert.AddPartialsClaim

end
-- ==== Proof.lean ====
/-
  THE CLAIMS, put together: the frames, the idealizations, and for every pair of programs that they leave the same arrays.
-/
module

public import proofs.«01_k».proof.Defs
public import proofs.«01_k».proof.Proof.InprojDxClaim
public import proofs.«01_k».proof.Proof.FfnBwdClaim
public import proofs.«01_k».proof.Proof.FfnFwdClaim
public import proofs.«01_k».proof.Proof.InprojWgradClaim
public import proofs.«01_k».proof.Proof.MixerOutClaim
public import proofs.«01_k».proof.Proof.InprojClaim
public import proofs.«01_k».proof.Proof.GlaFwdClaim
public import proofs.«01_k».proof.Proof.GlaRevClaim
public import proofs.«01_k».proof.Proof.FfnWgradClaim
public import proofs.«01_k».proof.Proof.AdamwClaim
public import proofs.«01_k».proof.Proof.AddPartialsClaim
public import proofs.«01_k».proof.Proof.Gen.InprojDx.Frame
public import proofs.«01_k».proof.Proof.Gen.InprojDxIdeal.Value
public import proofs.«01_k».proof.Proof.Gen.InprojDxRefIdeal.Run
public import proofs.«01_k».proof.Proof.Gen.InprojDxRefIdeal.Read
public import proofs.«01_k».proof.Proof.Gen.FfnBwd.Frame
public import proofs.«01_k».proof.Proof.Gen.FfnBwdIdeal.Value
public import proofs.«01_k».proof.Proof.Gen.FfnBwdRefIdeal.Run
public import proofs.«01_k».proof.Proof.Gen.FfnBwdRefIdeal.Read
public import proofs.«01_k».proof.Proof.Gen.Pre_finite_ffn_bwd
public import proofs.«01_k».proof.Proof.Gen.FfnFwd.Frame
public import proofs.«01_k».proof.Proof.Gen.FfnFwdIdeal.Value
public import proofs.«01_k».proof.Proof.Gen.FfnFwdRefIdeal.Run
public import proofs.«01_k».proof.Proof.Gen.FfnFwdRefIdeal.Read
public import proofs.«01_k».proof.Proof.Gen.InprojWgrad.Frame
public import proofs.«01_k».proof.Proof.Gen.InprojWgradIdeal.Value
public import proofs.«01_k».proof.Proof.Gen.InprojWgradRefIdeal.Run
public import proofs.«01_k».proof.Proof.Gen.InprojWgradRefIdeal.Read
public import proofs.«01_k».proof.Proof.Gen.MixerOut.Frame
public import proofs.«01_k».proof.Proof.Gen.MixerOutIdeal.Value
public import proofs.«01_k».proof.Proof.Gen.MixerOutRefIdeal.Run
public import proofs.«01_k».proof.Proof.Gen.MixerOutRefIdeal.Read
public import proofs.«01_k».proof.Proof.Gen.Inproj.Frame
public import proofs.«01_k».proof.Proof.Gen.InprojIdeal.Value
public import proofs.«01_k».proof.Proof.Gen.InprojRefIdeal.Run
public import proofs.«01_k».proof.Proof.Gen.InprojRefIdeal.Read
public import proofs.«01_k».proof.Proof.Gen.GlaFwd.Frame
public import proofs.«01_k».proof.Proof.Gen.GlaFwdIdeal.Value
public import proofs.«01_k».proof.Proof.Gen.GlaFwdRefIdeal.Run
public import proofs.«01_k».proof.Proof.Gen.GlaRev.Frame
public import proofs.«01_k».proof.Proof.Gen.GlaRevIdeal.Value
public import proofs.«01_k».proof.Proof.Gen.GlaRevRefIdeal.Run
public import proofs.«01_k».proof.Proof.Gen.FfnWgrad.Frame
public import proofs.«01_k».proof.Proof.Gen.FfnWgradIdeal.Value
public import proofs.«01_k».proof.Proof.Gen.FfnWgradRefIdeal.Run
public import proofs.«01_k».proof.Proof.Gen.FfnWgradRefIdeal.Read
public import proofs.«01_k».proof.Proof.Gen.Adamw.Frame
public import proofs.«01_k».proof.Proof.Gen.AdamwIdeal.Value
public import proofs.«01_k».proof.Proof.Gen.AdamwRefIdeal.Run
public import proofs.«01_k».proof.Proof.Gen.AdamwRefIdeal.Read
public import proofs.«01_k».proof.Proof.Gen.AddPartials.Frame
public import proofs.«01_k».proof.Proof.Gen.AddPartialsIdeal.Frame
public import proofs.«01_k».proof.Proof.Gen.AddPartialsRefIdeal.Run
public import proofs.«01_k».proof.Proof.Gen.AddPartialsRefIdeal.Read

@[expose] public section

noncomputable section

namespace Cert.Proof

open Idealize.ShloMosaic Idealize.SL.Sem

theorem claim : Cert.Claim := ⟨Cert.InprojDx.Gen.facts, Cert.InprojDxIdeal.Gen.facts, Cert.InprojDxRefIdeal.Gen.facts,
  Cert.FfnBwd.Gen.facts, Cert.FfnBwdIdeal.Gen.facts, Cert.FfnBwdRefIdeal.Gen.facts, Cert.FfnFwd.Gen.facts, Cert.FfnFwdIdeal.Gen.facts, Cert.FfnFwdRefIdeal.Gen.facts,
  Cert.InprojWgrad.Gen.facts, Cert.InprojWgradIdeal.Gen.facts, Cert.InprojWgradRefIdeal.Gen.facts,
  Cert.MixerOut.Gen.facts, Cert.MixerOutIdeal.Gen.facts, Cert.MixerOutRefIdeal.Gen.facts,
  Cert.Inproj.Gen.facts, Cert.InprojIdeal.Gen.facts, Cert.InprojRefIdeal.Gen.facts,
  Cert.GlaFwd.Gen.facts, Cert.GlaFwdIdeal.Gen.facts, Cert.GlaFwdRefIdeal.Gen.facts,
  Cert.GlaRev.Gen.facts, Cert.GlaRevIdeal.Gen.facts, Cert.GlaRevRefIdeal.Gen.facts,
  Cert.FfnWgrad.Gen.facts, Cert.FfnWgradIdeal.Gen.facts, Cert.FfnWgradRefIdeal.Gen.facts,
  Cert.Adamw.Gen.facts, Cert.AdamwIdeal.Gen.facts, Cert.AdamwRefIdeal.Gen.facts,
  Cert.AddPartials.Gen.facts, Cert.AddPartialsIdeal.Gen.facts, Cert.AddPartialsRefIdeal.Gen.facts,
  Cert.Pre_finite_ffn_bwd.Gen.facts,
  fun m ρ _ => Cert.InprojDx.Gen.frame m ρ, fun m ρ _ => Cert.InprojDxIdeal.Gen.frame m ρ, Cert.InprojDxClaim.frame_ref,
  fun m ρ _ => Cert.FfnBwd.Gen.frame m ρ, fun m ρ _ => Cert.FfnBwdIdeal.Gen.frame m ρ, fun m ρ _ => Cert.FfnBwdIdeal.Gen.frame m ρ,
  Cert.FfnBwdClaim.frame_ref, fun m ρ _ => Cert.FfnBwdClaim.frame_ref m ρ trivial,
  fun m ρ _ => Cert.FfnFwd.Gen.frame m ρ, fun m ρ _ => Cert.FfnFwdIdeal.Gen.frame m ρ, Cert.FfnFwdClaim.frame_ref,
  fun m ρ _ => Cert.InprojWgrad.Gen.frame m ρ, fun m ρ _ => Cert.InprojWgradIdeal.Gen.frame m ρ, Cert.InprojWgradClaim.frame_ref,
  fun m ρ _ => Cert.MixerOut.Gen.frame m ρ, fun m ρ _ => Cert.MixerOutIdeal.Gen.frame m ρ, Cert.MixerOutClaim.frame_ref,
  fun m ρ _ => Cert.Inproj.Gen.frame m ρ, fun m ρ _ => Cert.InprojIdeal.Gen.frame m ρ, Cert.InprojClaim.frame_ref,
  fun m ρ _ => Cert.GlaFwd.Gen.frame m ρ, fun m ρ _ => Cert.GlaFwdIdeal.Gen.frame m ρ, Cert.GlaFwdClaim.frame_ref,
  fun m ρ _ => Cert.GlaRev.Gen.frame m ρ, fun m ρ _ => Cert.GlaRevIdeal.Gen.frame m ρ, Cert.GlaRevClaim.frame_ref,
  fun m ρ _ => Cert.FfnWgrad.Gen.frame m ρ, fun m ρ _ => Cert.FfnWgradIdeal.Gen.frame m ρ, Cert.FfnWgradClaim.frame_ref,
  fun m ρ _ => Cert.Adamw.Gen.frame m ρ, fun m ρ _ => Cert.AdamwIdeal.Gen.frame m ρ, Cert.AdamwClaim.frame_ref,
  Cert.AddPartialsClaim.frame_kernel, Cert.AddPartialsClaim.frame_ideal, Cert.AddPartialsClaim.frame_ref,
  trivial, Cert.InprojDxClaim.algebraic, trivial, Cert.FfnBwdClaim.algebraic, trivial, Cert.FfnFwdClaim.algebraic,
  trivial, Cert.InprojWgradClaim.algebraic, trivial, Cert.MixerOutClaim.algebraic, trivial, Cert.InprojClaim.algebraic,
  trivial, Cert.GlaFwdClaim.algebraic, trivial, Cert.GlaRevClaim.algebraic, trivial, Cert.FfnWgradClaim.algebraic, trivial, Cert.AdamwClaim.algebraic,
  trivial, Cert.AddPartialsClaim.algebraic⟩

end Cert.Proof

end
